-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_steps_decay [hPre_steps_decay : Cert.Pre_steps_decay.Facts] (m : (ℓ : Loc Cert.KernelIdeal.nD Cert.KernelIdeal.τ Cert.KernelIdeal.sig) → Buf (Elt Ideal) ℓ) : Prop :=
  ∀ c : Dev Cert.KernelIdeal.nD,
    (Cert.Pre_steps_decay.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_steps_decay [hPre_steps_decay : Cert.Pre_steps_decay.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_steps_decay.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_DownW (m : (ℓ : Loc Cert.DownW.nD Cert.DownW.τ Cert.DownW.sig) → Buf (Elt Bits) ℓ) : Prop :=
  True

def Pre_DownWIdeal (m : (ℓ : Loc Cert.DownWIdeal.nD Cert.DownWIdeal.τ Cert.DownWIdeal.sig) → Buf (Elt Ideal) ℓ) : Prop :=
  True

def Pre_DownWRefIdeal (m : (ℓ : Loc Cert.DownWRefIdeal.nD Cert.DownWRefIdeal.τ Cert.DownWRefIdeal.sig) → Buf (Elt Ideal) ℓ) : Prop :=
  True

def Pre_DownX (m : (ℓ : Loc Cert.DownX.nD Cert.DownX.τ Cert.DownX.sig) → Buf (Elt Bits) ℓ) : Prop :=
  True

def Pre_DownXIdeal (m : (ℓ : Loc Cert.DownXIdeal.nD Cert.DownXIdeal.τ Cert.DownXIdeal.sig) → Buf (Elt Ideal) ℓ) : Prop :=
  True

def Pre_DownXRefIdeal (m : (ℓ : Loc Cert.DownXRefIdeal.nD Cert.DownXRefIdeal.τ Cert.DownXRefIdeal.sig) → Buf (Elt Ideal) ℓ) : Prop :=
  True

def Pre_UpW (m : (ℓ : Loc Cert.UpW.nD Cert.UpW.τ Cert.UpW.sig) → Buf (Elt Bits) ℓ) : Prop :=
  True

def Pre_UpWIdeal (m : (ℓ : Loc Cert.UpWIdeal.nD Cert.UpWIdeal.τ Cert.UpWIdeal.sig) → Buf (Elt Ideal) ℓ) : Prop :=
  True

def Pre_UpWRefIdeal (m : (ℓ : Loc Cert.UpWRefIdeal.nD Cert.UpWRefIdeal.τ Cert.UpWRefIdeal.sig) → Buf (Elt Ideal) ℓ) : Prop :=
  True

def Pre_UpX (m : (ℓ : Loc Cert.UpX.nD Cert.UpX.τ Cert.UpX.sig) → Buf (Elt Bits) ℓ) : Prop :=
  True

def Pre_UpXIdeal (m : (ℓ : Loc Cert.UpXIdeal.nD Cert.UpXIdeal.τ Cert.UpXIdeal.sig) → Buf (Elt Ideal) ℓ) : Prop :=
  True

def Pre_UpXRefIdeal (m : (ℓ : Loc Cert.UpXRefIdeal.nD Cert.UpXRefIdeal.τ Cert.UpXRefIdeal.sig) → Buf (Elt Ideal) ℓ) : Prop :=
  True

def Pre_InW (m : (ℓ : Loc Cert.InW.nD Cert.InW.τ Cert.InW.sig) → Buf (Elt Bits) ℓ) : Prop :=
  True

def Pre_InWIdeal (m : (ℓ : Loc Cert.InWIdeal.nD Cert.InWIdeal.τ Cert.InWIdeal.sig) → Buf (Elt Ideal) ℓ) : Prop :=
  True

def Pre_InWRefIdeal (m : (ℓ : Loc Cert.InWRefIdeal.nD Cert.InWRefIdeal.τ Cert.InWRefIdeal.sig) → Buf (Elt Ideal) ℓ) : Prop :=
  True

def Pre_InX (m : (ℓ : Loc Cert.InX.nD Cert.InX.τ Cert.InX.sig) → Buf (Elt Bits) ℓ) : Prop :=
  True

def Pre_InXIdeal (m : (ℓ : Loc Cert.InXIdeal.nD Cert.InXIdeal.τ Cert.InXIdeal.sig) → Buf (Elt Ideal) ℓ) : Prop :=
  True

def Pre_InXRefIdeal (m : (ℓ : Loc Cert.InXRefIdeal.nD Cert.InXRefIdeal.τ Cert.InXRefIdeal.sig) → Buf (Elt Ideal) ℓ) : Prop :=
  True

def Pre_ProjW (m : (ℓ : Loc Cert.ProjW.nD Cert.ProjW.τ Cert.ProjW.sig) → Buf (Elt Bits) ℓ) : Prop :=
  True

def Pre_ProjWIdeal (m : (ℓ : Loc Cert.ProjWIdeal.nD Cert.ProjWIdeal.τ Cert.ProjWIdeal.sig) → Buf (Elt Ideal) ℓ) : Prop :=
  True

def Pre_ProjWRefIdeal (m : (ℓ : Loc Cert.ProjWRefIdeal.nD Cert.ProjWRefIdeal.τ Cert.ProjWRefIdeal.sig) → Buf (Elt Ideal) ℓ) : Prop :=
  True

def Pre_ProjX (m : (ℓ : Loc Cert.ProjX.nD Cert.ProjX.τ Cert.ProjX.sig) → Buf (Elt Bits) ℓ) : Prop :=
  True

def Pre_ProjXIdeal (m : (ℓ : Loc Cert.ProjXIdeal.nD Cert.ProjXIdeal.τ Cert.ProjXIdeal.sig) → Buf (Elt Ideal) ℓ) : Prop :=
  True

def Pre_ProjXRefIdeal (m : (ℓ : Loc Cert.ProjXRefIdeal.nD Cert.ProjXRefIdeal.τ Cert.ProjXRefIdeal.sig) → Buf (Elt Ideal) ℓ) : Prop :=
  True

def Pre_OutW (m : (ℓ : Loc Cert.OutW.nD Cert.OutW.τ Cert.OutW.sig) → Buf (Elt Bits) ℓ) : Prop :=
  True

def Pre_OutWIdeal (m : (ℓ : Loc Cert.OutWIdeal.nD Cert.OutWIdeal.τ Cert.OutWIdeal.sig) → Buf (Elt Ideal) ℓ) : Prop :=
  True

def Pre_OutWRefIdeal (m : (ℓ : Loc Cert.OutWRefIdeal.nD Cert.OutWRefIdeal.τ Cert.OutWRefIdeal.sig) → Buf (Elt Ideal) ℓ) : Prop :=
  True

def Pre_OutX (m : (ℓ : Loc Cert.OutX.nD Cert.OutX.τ Cert.OutX.sig) → Buf (Elt Bits) ℓ) : Prop :=
  True

def Pre_OutXIdeal (m : (ℓ : Loc Cert.OutXIdeal.nD Cert.OutXIdeal.τ Cert.OutXIdeal.sig) → Buf (Elt Ideal) ℓ) : Prop :=
  True

def Pre_OutXRefIdeal (m : (ℓ : Loc Cert.OutXRefIdeal.nD Cert.OutXRefIdeal.τ Cert.OutXRefIdeal.sig) → Buf (Elt Ideal) ℓ) : Prop :=
  True

def Pre_GluW (m : (ℓ : Loc Cert.GluW.nD Cert.GluW.τ Cert.GluW.sig) → Buf (Elt Bits) ℓ) : Prop :=
  True

def Pre_GluWIdeal (m : (ℓ : Loc Cert.GluWIdeal.nD Cert.GluWIdeal.τ Cert.GluWIdeal.sig) → Buf (Elt Ideal) ℓ) : Prop :=
  True

def Pre_GluWRefIdeal (m : (ℓ : Loc Cert.GluWRefIdeal.nD Cert.GluWRefIdeal.τ Cert.GluWRefIdeal.sig) → Buf (Elt Ideal) ℓ) : Prop :=
  True

def Pre_GluX (m : (ℓ : Loc Cert.GluX.nD Cert.GluX.τ Cert.GluX.sig) → Buf (Elt Bits) ℓ) : Prop :=
  True

def Pre_GluXIdeal (m : (ℓ : Loc Cert.GluXIdeal.nD Cert.GluXIdeal.τ Cert.GluXIdeal.sig) → Buf (Elt Ideal) ℓ) : Prop :=
  True

def Pre_GluXRefIdeal (m : (ℓ : Loc Cert.GluXRefIdeal.nD Cert.GluXRefIdeal.τ Cert.GluXRefIdeal.sig) → Buf (Elt Ideal) ℓ) : Prop :=
  True

def Pre_InA (m : (ℓ : Loc Cert.InA.nD Cert.InA.τ Cert.InA.sig) → Buf (Elt Bits) ℓ) : Prop :=
  True

def Pre_InAIdeal (m : (ℓ : Loc Cert.InAIdeal.nD Cert.InAIdeal.τ Cert.InAIdeal.sig) → Buf (Elt Ideal) ℓ) : Prop :=
  True

def Pre_InARefIdeal (m : (ℓ : Loc Cert.InARefIdeal.nD Cert.InARefIdeal.τ Cert.InARefIdeal.sig) → Buf (Elt Ideal) ℓ) : Prop :=
  True

def Pre_InB (m : (ℓ : Loc Cert.InB.nD Cert.InB.τ Cert.InB.sig) → Buf (Elt Bits) ℓ) : Prop :=
  True

def Pre_InBIdeal (m : (ℓ : Loc Cert.InBIdeal.nD Cert.InBIdeal.τ Cert.InBIdeal.sig) → Buf (Elt Ideal) ℓ) : Prop :=
  True

def Pre_InBRefIdeal (m : (ℓ : Loc Cert.InBRefIdeal.nD Cert.InBRefIdeal.τ Cert.InBRefIdeal.sig) → Buf (Elt Ideal) ℓ) : Prop :=
  True

def Pre_ProjF (m : (ℓ : Loc Cert.ProjF.nD Cert.ProjF.τ Cert.ProjF.sig) → Buf (Elt Bits) ℓ) : Prop :=
  True

def Pre_ProjFIdeal (m : (ℓ : Loc Cert.ProjFIdeal.nD Cert.ProjFIdeal.τ Cert.ProjFIdeal.sig) → Buf (Elt Ideal) ℓ) : Prop :=
  True

def Pre_ProjFRefIdeal (m : (ℓ : Loc Cert.ProjFRefIdeal.nD Cert.ProjFRefIdeal.τ Cert.ProjFRefIdeal.sig) → Buf (Elt Ideal) ℓ) : Prop :=
  True

def Pre_GluF (m : (ℓ : Loc Cert.GluF.nD Cert.GluF.τ Cert.GluF.sig) → Buf (Elt Bits) ℓ) : Prop :=
  True

def Pre_GluFIdeal (m : (ℓ : Loc Cert.GluFIdeal.nD Cert.GluFIdeal.τ Cert.GluFIdeal.sig) → Buf (Elt Ideal) ℓ) : Prop :=
  True

def Pre_GluFRefIdeal (m : (ℓ : Loc Cert.GluFRefIdeal.nD Cert.GluFRefIdeal.τ Cert.GluFRefIdeal.sig) → Buf (Elt Ideal) ℓ) : Prop :=
  True

def Pre_OutF (m : (ℓ : Loc Cert.OutF.nD Cert.OutF.τ Cert.OutF.sig) → Buf (Elt Bits) ℓ) : Prop :=
  True

def Pre_OutFIdeal (m : (ℓ : Loc Cert.OutFIdeal.nD Cert.OutFIdeal.τ Cert.OutFIdeal.sig) → Buf (Elt Ideal) ℓ) : Prop :=
  True

def Pre_OutFRefIdeal (m : (ℓ : Loc Cert.OutFRefIdeal.nD Cert.OutFRefIdeal.τ Cert.OutFRefIdeal.sig) → Buf (Elt Ideal) ℓ) : Prop :=
  True

def Pre_UpF (m : (ℓ : Loc Cert.UpF.nD Cert.UpF.τ Cert.UpF.sig) → Buf (Elt Bits) ℓ) : Prop :=
  True

def Pre_UpFIdeal (m : (ℓ : Loc Cert.UpFIdeal.nD Cert.UpFIdeal.τ Cert.UpFIdeal.sig) → Buf (Elt Ideal) ℓ) : Prop :=
  True

def Pre_UpFRefIdeal (m : (ℓ : Loc Cert.UpFRefIdeal.nD Cert.UpFRefIdeal.τ Cert.UpFRefIdeal.sig) → Buf (Elt Ideal) ℓ) : Prop :=
  True

def Pre_DownF (m : (ℓ : Loc Cert.DownF.nD Cert.DownF.τ Cert.DownF.sig) → Buf (Elt Bits) ℓ) : Prop :=
  True

def Pre_DownFIdeal (m : (ℓ : Loc Cert.DownFIdeal.nD Cert.DownFIdeal.τ Cert.DownFIdeal.sig) → Buf (Elt Ideal) ℓ) : Prop :=
  True

def Pre_DownFRefIdeal (m : (ℓ : Loc Cert.DownFRefIdeal.nD Cert.DownFRefIdeal.τ Cert.DownFRefIdeal.sig) → Buf (Elt Ideal) ℓ) : Prop :=
  True

def Pre_SsdF (m : (ℓ : Loc Cert.SsdF.nD Cert.SsdF.τ Cert.SsdF.sig) → Buf (Elt Bits) ℓ) : Prop :=
  True

def Pre_SsdFIdeal (m : (ℓ : Loc Cert.SsdFIdeal.nD Cert.SsdFIdeal.τ Cert.SsdFIdeal.sig) → Buf (Elt Ideal) ℓ) : Prop :=
  True

def Pre_SsdFIdeal_steps_decay_forward [hPre_steps_decay_forward : Cert.Pre_steps_decay_forward.Facts] (m : (ℓ : Loc Cert.SsdFIdeal.nD Cert.SsdFIdeal.τ Cert.SsdFIdeal.sig) → Buf (Elt Ideal) ℓ) : Prop :=
  ∀ c : Dev Cert.SsdFIdeal.nD,
    (Cert.Pre_steps_decay_forward.fn (F := Ideal) (m ((c.tc : Thread Cert.SsdFIdeal.nD Cert.SsdFIdeal.τ).loc Cert.SsdFIdeal.main_arg0)) (m ((c.tc : Thread Cert.SsdFIdeal.nD Cert.SsdFIdeal.τ).loc Cert.SsdFIdeal.main_arg1)) (m ((c.tc : Thread Cert.SsdFIdeal.nD Cert.SsdFIdeal.τ).loc Cert.SsdFIdeal.main_arg2)) (m ((c.tc : Thread Cert.SsdFIdeal.nD Cert.SsdFIdeal.τ).loc Cert.SsdFIdeal.main_arg3)) (m ((c.tc : Thread Cert.SsdFIdeal.nD Cert.SsdFIdeal.τ).loc Cert.SsdFIdeal.main_arg4)) (m ((c.tc : Thread Cert.SsdFIdeal.nD Cert.SsdFIdeal.τ).loc Cert.SsdFIdeal.main_arg5))) = (fun _ => 1#1)

def Pre_SsdFRefIdeal (m : (ℓ : Loc Cert.SsdFRefIdeal.nD Cert.SsdFRefIdeal.τ Cert.SsdFRefIdeal.sig) → Buf (Elt Ideal) ℓ) : Prop :=
  True

def Pre_SsdFRefIdeal_steps_decay_forward [hPre_steps_decay_forward : Cert.Pre_steps_decay_forward.Facts] (m : (ℓ : Loc Cert.SsdFRefIdeal.nD Cert.SsdFRefIdeal.τ Cert.SsdFRefIdeal.sig) → Buf (Elt Ideal) ℓ) : Prop :=
  ∀ c : Dev Cert.SsdFRefIdeal.nD,
    (Cert.Pre_steps_decay_forward.fn (F := Ideal) (m ((c.tc : Thread Cert.SsdFRefIdeal.nD Cert.SsdFRefIdeal.τ).loc Cert.SsdFRefIdeal.main_arg0)) (m ((c.tc : Thread Cert.SsdFRefIdeal.nD Cert.SsdFRefIdeal.τ).loc Cert.SsdFRefIdeal.main_arg1)) (m ((c.tc : Thread Cert.SsdFRefIdeal.nD Cert.SsdFRefIdeal.τ).loc Cert.SsdFRefIdeal.main_arg2)) (m ((c.tc : Thread Cert.SsdFRefIdeal.nD Cert.SsdFRefIdeal.τ).loc Cert.SsdFRefIdeal.main_arg3)) (m ((c.tc : Thread Cert.SsdFRefIdeal.nD Cert.SsdFRefIdeal.τ).loc Cert.SsdFRefIdeal.main_arg4)) (m ((c.tc : Thread Cert.SsdFRefIdeal.nD Cert.SsdFRefIdeal.τ).loc Cert.SsdFRefIdeal.main_arg5))) = (fun _ => 1#1)

def Pre_MergeB (m : (ℓ : Loc Cert.MergeB.nD Cert.MergeB.τ Cert.MergeB.sig) → Buf (Elt Bits) ℓ) : Prop :=
  True

def Pre_MergeBIdeal (m : (ℓ : Loc Cert.MergeBIdeal.nD Cert.MergeBIdeal.τ Cert.MergeBIdeal.sig) → Buf (Elt Ideal) ℓ) : Prop :=
  True

def Pre_MergeBRefIdeal (m : (ℓ : Loc Cert.MergeBRefIdeal.nD Cert.MergeBRefIdeal.τ Cert.MergeBRefIdeal.sig) → Buf (Elt Ideal) ℓ) : Prop :=
  True

def Pre_MergeF (m : (ℓ : Loc Cert.MergeF.nD Cert.MergeF.τ Cert.MergeF.sig) → Buf (Elt Bits) ℓ) : Prop :=
  True

def Pre_MergeFIdeal (m : (ℓ : Loc Cert.MergeFIdeal.nD Cert.MergeFIdeal.τ Cert.MergeFIdeal.sig) → Buf (Elt Ideal) ℓ) : Prop :=
  True

def Pre_MergeFRefIdeal (m : (ℓ : Loc Cert.MergeFRefIdeal.nD Cert.MergeFRefIdeal.τ Cert.MergeFRefIdeal.sig) → Buf (Elt Ideal) ℓ) : Prop :=
  True

def Pre_StIn (m : (ℓ : Loc Cert.StIn.nD Cert.StIn.τ Cert.StIn.sig) → Buf (Elt Bits) ℓ) : Prop :=
  True

def Pre_StInIdeal (m : (ℓ : Loc Cert.StInIdeal.nD Cert.StInIdeal.τ Cert.StInIdeal.sig) → Buf (Elt Ideal) ℓ) : Prop :=
  True

def Pre_StInRefIdeal (m : (ℓ : Loc Cert.StInRefIdeal.nD Cert.StInRefIdeal.τ Cert.StInRefIdeal.sig) → Buf (Elt Ideal) ℓ) : Prop :=
  True

def Pre_StOut (m : (ℓ : Loc Cert.StOut.nD Cert.StOut.τ Cert.StOut.sig) → Buf (Elt Bits) ℓ) : Prop :=
  True

def Pre_StOutIdeal (m : (ℓ : Loc Cert.StOutIdeal.nD Cert.StOutIdeal.τ Cert.StOutIdeal.sig) → Buf (Elt Ideal) ℓ) : Prop :=
  True

def Pre_StOutRefIdeal (m : (ℓ : Loc Cert.StOutRefIdeal.nD Cert.StOutRefIdeal.τ Cert.StOutRefIdeal.sig) → Buf (Elt Ideal) ℓ) : Prop :=
  True

def Pre_StBack (m : (ℓ : Loc Cert.StBack.nD Cert.StBack.τ Cert.StBack.sig) → Buf (Elt Bits) ℓ) : Prop :=
  True

def Pre_StBackIdeal (m : (ℓ : Loc Cert.StBackIdeal.nD Cert.StBackIdeal.τ Cert.StBackIdeal.sig) → Buf (Elt Ideal) ℓ) : Prop :=
  True

def Pre_StBackRefIdeal (m : (ℓ : Loc Cert.StBackRefIdeal.nD Cert.StBackRefIdeal.τ Cert.StBackRefIdeal.sig) → Buf (Elt Ideal) ℓ) : Prop :=
  True

def Pre_RmsB (m : (ℓ : Loc Cert.RmsB.nD Cert.RmsB.τ Cert.RmsB.sig) → Buf (Elt Bits) ℓ) : Prop :=
  True

def Pre_RmsBIdeal (m : (ℓ : Loc Cert.RmsBIdeal.nD Cert.RmsBIdeal.τ Cert.RmsBIdeal.sig) → Buf (Elt Ideal) ℓ) : Prop :=
  True

def Pre_RmsBRefIdeal (m : (ℓ : Loc Cert.RmsBRefIdeal.nD Cert.RmsBRefIdeal.τ Cert.RmsBRefIdeal.sig) → Buf (Elt Ideal) ℓ) : Prop :=
  True

def Pre_GnormB (m : (ℓ : Loc Cert.GnormB.nD Cert.GnormB.τ Cert.GnormB.sig) → Buf (Elt Bits) ℓ) : Prop :=
  True

def Pre_GnormBIdeal (m : (ℓ : Loc Cert.GnormBIdeal.nD Cert.GnormBIdeal.τ Cert.GnormBIdeal.sig) → Buf (Elt Ideal) ℓ) : Prop :=
  True

def Pre_GnormBRefIdeal (m : (ℓ : Loc Cert.GnormBRefIdeal.nD Cert.GnormBRefIdeal.τ Cert.GnormBRefIdeal.sig) → Buf (Elt Ideal) ℓ) : Prop :=
  True

def Pre_RmsF (m : (ℓ : Loc Cert.RmsF.nD Cert.RmsF.τ Cert.RmsF.sig) → Buf (Elt Bits) ℓ) : Prop :=
  True

def Pre_RmsFIdeal (m : (ℓ : Loc Cert.RmsFIdeal.nD Cert.RmsFIdeal.τ Cert.RmsFIdeal.sig) → Buf (Elt Ideal) ℓ) : Prop :=
  True

def Pre_RmsFRefIdeal (m : (ℓ : Loc Cert.RmsFRefIdeal.nD Cert.RmsFRefIdeal.τ Cert.RmsFRefIdeal.sig) → Buf (Elt Ideal) ℓ) : Prop :=
  True

def Pre_GnormF (m : (ℓ : Loc Cert.GnormF.nD Cert.GnormF.τ Cert.GnormF.sig) → Buf (Elt Bits) ℓ) : Prop :=
  True

def Pre_GnormFIdeal (m : (ℓ : Loc Cert.GnormFIdeal.nD Cert.GnormFIdeal.τ Cert.GnormFIdeal.sig) → Buf (Elt Ideal) ℓ) : Prop :=
  True

def Pre_GnormFRefIdeal (m : (ℓ : Loc Cert.GnormFRefIdeal.nD Cert.GnormFRefIdeal.τ Cert.GnormFRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_steps_decay [hKernelIdeal : Cert.KernelIdeal.Facts] [hPre_steps_decay : Cert.Pre_steps_decay.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_steps_decay m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_steps_decay [hReferenceIdeal : Cert.ReferenceIdeal.Facts] [hPre_steps_decay : Cert.Pre_steps_decay.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_steps_decay m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_DownW [hDownW : Cert.DownW.Facts] : Prop :=
  ∀ (m : (ℓ : Loc Cert.DownW.nD Cert.DownW.τ Cert.DownW.sig) → Buf (Elt Bits) ℓ) (g : Dev Cert.DownW.nD → PrngReg), Pre_DownW m →
    θ_run (Cert.DownW.defs (F := Bits)) (onTc (τ := Cert.DownW.τ) (Cert.DownW.main (F := Bits))) ⟨m, fun _ => 0, g⟩ (fun r => (∀ c : Dev Cert.DownW.nD,
      r.2.mem ((c.tc : Thread Cert.DownW.nD Cert.DownW.τ).loc Cert.DownW.main_arg0) = m ((c.tc : Thread Cert.DownW.nD Cert.DownW.τ).loc Cert.DownW.main_arg0)
      ∧ r.2.mem ((c.tc : Thread Cert.DownW.nD Cert.DownW.τ).loc Cert.DownW.main_arg1) = m ((c.tc : Thread Cert.DownW.nD Cert.DownW.τ).loc Cert.DownW.main_arg1)
      ∧ r.2.mem ((c.tc : Thread Cert.DownW.nD Cert.DownW.τ).loc Cert.DownW.main_arg2) = m ((c.tc : Thread Cert.DownW.nD Cert.DownW.τ).loc Cert.DownW.main_arg2))
      ∧ r.2.sem = fun _ => 0)

def quiescent_DownWIdeal [hDownWIdeal : Cert.DownWIdeal.Facts] : Prop :=
  ∀ (m : (ℓ : Loc Cert.DownWIdeal.nD Cert.DownWIdeal.τ Cert.DownWIdeal.sig) → Buf (Elt Ideal) ℓ) (g : Dev Cert.DownWIdeal.nD → PrngReg), Pre_DownWIdeal m →
    θ_run (Cert.DownWIdeal.defs (F := Ideal)) (onTc (τ := Cert.DownWIdeal.τ) (Cert.DownWIdeal.main (F := Ideal))) ⟨m, fun _ => 0, g⟩ (fun r => (∀ c : Dev Cert.DownWIdeal.nD,
      r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
      ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1)
      ∧ r.2.mem ((c.tc : Thread Cert.DownWIdeal.nD Cert.DownWIdeal.τ).loc Cert.DownWIdeal.main_arg2) = m ((c.tc : Thread Cert.DownWIdeal.nD Cert.DownWIdeal.τ).loc Cert.DownWIdeal.main_arg2))
      ∧ r.2.sem = fun _ => 0)

def quiescent_DownWRefIdeal [hDownWRefIdeal : Cert.DownWRefIdeal.Facts] : Prop :=
  ∀ (m : (ℓ : Loc Cert.DownWRefIdeal.nD Cert.DownWRefIdeal.τ Cert.DownWRefIdeal.sig) → Buf (Elt Ideal) ℓ) (g : Dev Cert.DownWRefIdeal.nD → PrngReg), Pre_DownWRefIdeal m →
    θ_run (Cert.DownWRefIdeal.defs (F := Ideal)) (onTc (τ := Cert.DownWRefIdeal.τ) (Cert.DownWRefIdeal.main (F := Ideal))) ⟨m, fun _ => 0, g⟩ (fun r => (∀ c : Dev Cert.DownWRefIdeal.nD,
      r.2.mem ((c.tc : Thread Cert.DownWRefIdeal.nD Cert.DownWRefIdeal.τ).loc Cert.DownWRefIdeal.main_arg0) = m ((c.tc : Thread Cert.DownWRefIdeal.nD Cert.DownWRefIdeal.τ).loc Cert.DownWRefIdeal.main_arg0)
      ∧ r.2.mem ((c.tc : Thread Cert.DownWRefIdeal.nD Cert.DownWRefIdeal.τ).loc Cert.DownWRefIdeal.main_arg1) = m ((c.tc : Thread Cert.DownWRefIdeal.nD Cert.DownWRefIdeal.τ).loc Cert.DownWRefIdeal.main_arg1)
      ∧ r.2.mem ((c.tc : Thread Cert.DownWRefIdeal.nD Cert.DownWRefIdeal.τ).loc Cert.DownWRefIdeal.main_arg2) = m ((c.tc : Thread Cert.DownWRefIdeal.nD Cert.DownWRefIdeal.τ).loc Cert.DownWRefIdeal.main_arg2))
      ∧ r.2.sem = fun _ => 0)

def quiescent_DownX [hDownX : Cert.DownX.Facts] : Prop :=
  ∀ (m : (ℓ : Loc Cert.DownX.nD Cert.DownX.τ Cert.DownX.sig) → Buf (Elt Bits) ℓ) (g : Dev Cert.DownX.nD → PrngReg), Pre_DownX m →
    θ_run (Cert.DownX.defs (F := Bits)) (onTc (τ := Cert.DownX.τ) (Cert.DownX.main (F := Bits))) ⟨m, fun _ => 0, g⟩ (fun r => (∀ c : Dev Cert.DownX.nD,
      r.2.mem ((c.tc : Thread Cert.DownX.nD Cert.DownX.τ).loc Cert.DownX.main_arg0) = m ((c.tc : Thread Cert.DownX.nD Cert.DownX.τ).loc Cert.DownX.main_arg0)
      ∧ r.2.mem ((c.tc : Thread Cert.DownX.nD Cert.DownX.τ).loc Cert.DownX.main_arg1) = m ((c.tc : Thread Cert.DownX.nD Cert.DownX.τ).loc Cert.DownX.main_arg1)
      ∧ r.2.mem ((c.tc : Thread Cert.DownX.nD Cert.DownX.τ).loc Cert.DownX.main_arg2) = m ((c.tc : Thread Cert.DownX.nD Cert.DownX.τ).loc Cert.DownX.main_arg2))
      ∧ r.2.sem = fun _ => 0)

def quiescent_DownXIdeal [hDownXIdeal : Cert.DownXIdeal.Facts] : Prop :=
  ∀ (m : (ℓ : Loc Cert.DownXIdeal.nD Cert.DownXIdeal.τ Cert.DownXIdeal.sig) → Buf (Elt Ideal) ℓ) (g : Dev Cert.DownXIdeal.nD → PrngReg), Pre_DownXIdeal m →
    θ_run (Cert.DownXIdeal.defs (F := Ideal)) (onTc (τ := Cert.DownXIdeal.τ) (Cert.DownXIdeal.main (F := Ideal))) ⟨m, fun _ => 0, g⟩ (fun r => (∀ c : Dev Cert.DownXIdeal.nD,
      r.2.mem ((c.tc : Thread Cert.DownXIdeal.nD Cert.DownXIdeal.τ).loc Cert.DownXIdeal.main_arg0) = m ((c.tc : Thread Cert.DownXIdeal.nD Cert.DownXIdeal.τ).loc Cert.DownXIdeal.main_arg0)
      ∧ r.2.mem ((c.tc : Thread Cert.DownXIdeal.nD Cert.DownXIdeal.τ).loc Cert.DownXIdeal.main_arg1) = m ((c.tc : Thread Cert.DownXIdeal.nD Cert.DownXIdeal.τ).loc Cert.DownXIdeal.main_arg1)
      ∧ r.2.mem ((c.tc : Thread Cert.DownXIdeal.nD Cert.DownXIdeal.τ).loc Cert.DownXIdeal.main_arg2) = m ((c.tc : Thread Cert.DownXIdeal.nD Cert.DownXIdeal.τ).loc Cert.DownXIdeal.main_arg2))
      ∧ r.2.sem = fun _ => 0)

def quiescent_DownXRefIdeal [hDownXRefIdeal : Cert.DownXRefIdeal.Facts] : Prop :=
  ∀ (m : (ℓ : Loc Cert.DownXRefIdeal.nD Cert.DownXRefIdeal.τ Cert.DownXRefIdeal.sig) → Buf (Elt Ideal) ℓ) (g : Dev Cert.DownXRefIdeal.nD → PrngReg), Pre_DownXRefIdeal m →
    θ_run (Cert.DownXRefIdeal.defs (F := Ideal)) (onTc (τ := Cert.DownXRefIdeal.τ) (Cert.DownXRefIdeal.main (F := Ideal))) ⟨m, fun _ => 0, g⟩ (fun r => (∀ c : Dev Cert.DownXRefIdeal.nD,
      r.2.mem ((c.tc : Thread Cert.DownXRefIdeal.nD Cert.DownXRefIdeal.τ).loc Cert.DownXRefIdeal.main_arg0) = m ((c.tc : Thread Cert.DownXRefIdeal.nD Cert.DownXRefIdeal.τ).loc Cert.DownXRefIdeal.main_arg0)
      ∧ r.2.mem ((c.tc : Thread Cert.DownXRefIdeal.nD Cert.DownXRefIdeal.τ).loc Cert.DownXRefIdeal.main_arg1) = m ((c.tc : Thread Cert.DownXRefIdeal.nD Cert.DownXRefIdeal.τ).loc Cert.DownXRefIdeal.main_arg1)
      ∧ r.2.mem ((c.tc : Thread Cert.DownXRefIdeal.nD Cert.DownXRefIdeal.τ).loc Cert.DownXRefIdeal.main_arg2) = m ((c.tc : Thread Cert.DownXRefIdeal.nD Cert.DownXRefIdeal.τ).loc Cert.DownXRefIdeal.main_arg2))
      ∧ r.2.sem = fun _ => 0)

def quiescent_UpW [hUpW : Cert.UpW.Facts] : Prop :=
  ∀ (m : (ℓ : Loc Cert.UpW.nD Cert.UpW.τ Cert.UpW.sig) → Buf (Elt Bits) ℓ) (g : Dev Cert.UpW.nD → PrngReg), Pre_UpW m →
    θ_run (Cert.UpW.defs (F := Bits)) (onTc (τ := Cert.UpW.τ) (Cert.UpW.main (F := Bits))) ⟨m, fun _ => 0, g⟩ (fun r => (∀ c : Dev Cert.UpW.nD,
      r.2.mem ((c.tc : Thread Cert.UpW.nD Cert.UpW.τ).loc Cert.UpW.main_arg0) = m ((c.tc : Thread Cert.UpW.nD Cert.UpW.τ).loc Cert.UpW.main_arg0)
      ∧ r.2.mem ((c.tc : Thread Cert.UpW.nD Cert.UpW.τ).loc Cert.UpW.main_arg1) = m ((c.tc : Thread Cert.UpW.nD Cert.UpW.τ).loc Cert.UpW.main_arg1)
      ∧ r.2.mem ((c.tc : Thread Cert.UpW.nD Cert.UpW.τ).loc Cert.UpW.main_arg2) = m ((c.tc : Thread Cert.UpW.nD Cert.UpW.τ).loc Cert.UpW.main_arg2))
      ∧ r.2.sem = fun _ => 0)

def quiescent_UpWIdeal [hUpWIdeal : Cert.UpWIdeal.Facts] : Prop :=
  ∀ (m : (ℓ : Loc Cert.UpWIdeal.nD Cert.UpWIdeal.τ Cert.UpWIdeal.sig) → Buf (Elt Ideal) ℓ) (g : Dev Cert.UpWIdeal.nD → PrngReg), Pre_UpWIdeal m →
    θ_run (Cert.UpWIdeal.defs (F := Ideal)) (onTc (τ := Cert.UpWIdeal.τ) (Cert.UpWIdeal.main (F := Ideal))) ⟨m, fun _ => 0, g⟩ (fun r => (∀ c : Dev Cert.UpWIdeal.nD,
      r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
      ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1)
      ∧ r.2.mem ((c.tc : Thread Cert.UpWIdeal.nD Cert.UpWIdeal.τ).loc Cert.UpWIdeal.main_arg2) = m ((c.tc : Thread Cert.UpWIdeal.nD Cert.UpWIdeal.τ).loc Cert.UpWIdeal.main_arg2))
      ∧ r.2.sem = fun _ => 0)

def quiescent_UpWRefIdeal [hUpWRefIdeal : Cert.UpWRefIdeal.Facts] : Prop :=
  ∀ (m : (ℓ : Loc Cert.UpWRefIdeal.nD Cert.UpWRefIdeal.τ Cert.UpWRefIdeal.sig) → Buf (Elt Ideal) ℓ) (g : Dev Cert.UpWRefIdeal.nD → PrngReg), Pre_UpWRefIdeal m →
    θ_run (Cert.UpWRefIdeal.defs (F := Ideal)) (onTc (τ := Cert.UpWRefIdeal.τ) (Cert.UpWRefIdeal.main (F := Ideal))) ⟨m, fun _ => 0, g⟩ (fun r => (∀ c : Dev Cert.UpWRefIdeal.nD,
      r.2.mem ((c.tc : Thread Cert.UpWRefIdeal.nD Cert.UpWRefIdeal.τ).loc Cert.UpWRefIdeal.main_arg0) = m ((c.tc : Thread Cert.UpWRefIdeal.nD Cert.UpWRefIdeal.τ).loc Cert.UpWRefIdeal.main_arg0)
      ∧ r.2.mem ((c.tc : Thread Cert.UpWRefIdeal.nD Cert.UpWRefIdeal.τ).loc Cert.UpWRefIdeal.main_arg1) = m ((c.tc : Thread Cert.UpWRefIdeal.nD Cert.UpWRefIdeal.τ).loc Cert.UpWRefIdeal.main_arg1)
      ∧ r.2.mem ((c.tc : Thread Cert.UpWRefIdeal.nD Cert.UpWRefIdeal.τ).loc Cert.UpWRefIdeal.main_arg2) = m ((c.tc : Thread Cert.UpWRefIdeal.nD Cert.UpWRefIdeal.τ).loc Cert.UpWRefIdeal.main_arg2))
      ∧ r.2.sem = fun _ => 0)

def quiescent_UpX [hUpX : Cert.UpX.Facts] : Prop :=
  ∀ (m : (ℓ : Loc Cert.UpX.nD Cert.UpX.τ Cert.UpX.sig) → Buf (Elt Bits) ℓ) (g : Dev Cert.UpX.nD → PrngReg), Pre_UpX m →
    θ_run (Cert.UpX.defs (F := Bits)) (onTc (τ := Cert.UpX.τ) (Cert.UpX.main (F := Bits))) ⟨m, fun _ => 0, g⟩ (fun r => (∀ c : Dev Cert.UpX.nD,
      r.2.mem ((c.tc : Thread Cert.UpX.nD Cert.UpX.τ).loc Cert.UpX.main_arg0) = m ((c.tc : Thread Cert.UpX.nD Cert.UpX.τ).loc Cert.UpX.main_arg0)
      ∧ r.2.mem ((c.tc : Thread Cert.UpX.nD Cert.UpX.τ).loc Cert.UpX.main_arg1) = m ((c.tc : Thread Cert.UpX.nD Cert.UpX.τ).loc Cert.UpX.main_arg1)
      ∧ r.2.mem ((c.tc : Thread Cert.UpX.nD Cert.UpX.τ).loc Cert.UpX.main_arg2) = m ((c.tc : Thread Cert.UpX.nD Cert.UpX.τ).loc Cert.UpX.main_arg2))
      ∧ r.2.sem = fun _ => 0)

def quiescent_UpXIdeal [hUpXIdeal : Cert.UpXIdeal.Facts] : Prop :=
  ∀ (m : (ℓ : Loc Cert.UpXIdeal.nD Cert.UpXIdeal.τ Cert.UpXIdeal.sig) → Buf (Elt Ideal) ℓ) (g : Dev Cert.UpXIdeal.nD → PrngReg), Pre_UpXIdeal m →
    θ_run (Cert.UpXIdeal.defs (F := Ideal)) (onTc (τ := Cert.UpXIdeal.τ) (Cert.UpXIdeal.main (F := Ideal))) ⟨m, fun _ => 0, g⟩ (fun r => (∀ c : Dev Cert.UpXIdeal.nD,
      r.2.mem ((c.tc : Thread Cert.UpXIdeal.nD Cert.UpXIdeal.τ).loc Cert.UpXIdeal.main_arg0) = m ((c.tc : Thread Cert.UpXIdeal.nD Cert.UpXIdeal.τ).loc Cert.UpXIdeal.main_arg0)
      ∧ r.2.mem ((c.tc : Thread Cert.UpXIdeal.nD Cert.UpXIdeal.τ).loc Cert.UpXIdeal.main_arg1) = m ((c.tc : Thread Cert.UpXIdeal.nD Cert.UpXIdeal.τ).loc Cert.UpXIdeal.main_arg1)
      ∧ r.2.mem ((c.tc : Thread Cert.UpXIdeal.nD Cert.UpXIdeal.τ).loc Cert.UpXIdeal.main_arg2) = m ((c.tc : Thread Cert.UpXIdeal.nD Cert.UpXIdeal.τ).loc Cert.UpXIdeal.main_arg2))
      ∧ r.2.sem = fun _ => 0)

def quiescent_UpXRefIdeal [hUpXRefIdeal : Cert.UpXRefIdeal.Facts] : Prop :=
  ∀ (m : (ℓ : Loc Cert.UpXRefIdeal.nD Cert.UpXRefIdeal.τ Cert.UpXRefIdeal.sig) → Buf (Elt Ideal) ℓ) (g : Dev Cert.UpXRefIdeal.nD → PrngReg), Pre_UpXRefIdeal m →
    θ_run (Cert.UpXRefIdeal.defs (F := Ideal)) (onTc (τ := Cert.UpXRefIdeal.τ) (Cert.UpXRefIdeal.main (F := Ideal))) ⟨m, fun _ => 0, g⟩ (fun r => (∀ c : Dev Cert.UpXRefIdeal.nD,
      r.2.mem ((c.tc : Thread Cert.UpXRefIdeal.nD Cert.UpXRefIdeal.τ).loc Cert.UpXRefIdeal.main_arg0) = m ((c.tc : Thread Cert.UpXRefIdeal.nD Cert.UpXRefIdeal.τ).loc Cert.UpXRefIdeal.main_arg0)
      ∧ r.2.mem ((c.tc : Thread Cert.UpXRefIdeal.nD Cert.UpXRefIdeal.τ).loc Cert.UpXRefIdeal.main_arg1) = m ((c.tc : Thread Cert.UpXRefIdeal.nD Cert.UpXRefIdeal.τ).loc Cert.UpXRefIdeal.main_arg1)
      ∧ r.2.mem ((c.tc : Thread Cert.UpXRefIdeal.nD Cert.UpXRefIdeal.τ).loc Cert.UpXRefIdeal.main_arg2) = m ((c.tc : Thread Cert.UpXRefIdeal.nD Cert.UpXRefIdeal.τ).loc Cert.UpXRefIdeal.main_arg2))
      ∧ r.2.sem = fun _ => 0)

def quiescent_InW [hInW : Cert.InW.Facts] : Prop :=
  ∀ (m : (ℓ : Loc Cert.InW.nD Cert.InW.τ Cert.InW.sig) → Buf (Elt Bits) ℓ) (g : Dev Cert.InW.nD → PrngReg), Pre_InW m →
    θ_run (Cert.InW.defs (F := Bits)) (onTc (τ := Cert.InW.τ) (Cert.InW.main (F := Bits))) ⟨m, fun _ => 0, g⟩ (fun r => (∀ c : Dev Cert.InW.nD,
      r.2.mem ((c.tc : Thread Cert.InW.nD Cert.InW.τ).loc Cert.InW.main_arg0) = m ((c.tc : Thread Cert.InW.nD Cert.InW.τ).loc Cert.InW.main_arg0)
      ∧ r.2.mem ((c.tc : Thread Cert.InW.nD Cert.InW.τ).loc Cert.InW.main_arg1) = m ((c.tc : Thread Cert.InW.nD Cert.InW.τ).loc Cert.InW.main_arg1)
      ∧ r.2.mem ((c.tc : Thread Cert.InW.nD Cert.InW.τ).loc Cert.InW.main_arg2) = m ((c.tc : Thread Cert.InW.nD Cert.InW.τ).loc Cert.InW.main_arg2)
      ∧ r.2.mem ((c.tc : Thread Cert.InW.nD Cert.InW.τ).loc Cert.InW.main_arg3) = m ((c.tc : Thread Cert.InW.nD Cert.InW.τ).loc Cert.InW.main_arg3)
      ∧ r.2.mem ((c.tc : Thread Cert.InW.nD Cert.InW.τ).loc Cert.InW.main_arg4) = m ((c.tc : Thread Cert.InW.nD Cert.InW.τ).loc Cert.InW.main_arg4)
      ∧ r.2.mem ((c.tc : Thread Cert.InW.nD Cert.InW.τ).loc Cert.InW.main_arg5) = m ((c.tc : Thread Cert.InW.nD Cert.InW.τ).loc Cert.InW.main_arg5)
      ∧ r.2.mem ((c.tc : Thread Cert.InW.nD Cert.InW.τ).loc Cert.InW.main_arg6) = m ((c.tc : Thread Cert.InW.nD Cert.InW.τ).loc Cert.InW.main_arg6)
      ∧ r.2.mem ((c.tc : Thread Cert.InW.nD Cert.InW.τ).loc Cert.InW.main_arg7) = m ((c.tc : Thread Cert.InW.nD Cert.InW.τ).loc Cert.InW.main_arg7))
      ∧ r.2.sem = fun _ => 0)

def quiescent_InWIdeal [hInWIdeal : Cert.InWIdeal.Facts] : Prop :=
  ∀ (m : (ℓ : Loc Cert.InWIdeal.nD Cert.InWIdeal.τ Cert.InWIdeal.sig) → Buf (Elt Ideal) ℓ) (g : Dev Cert.InWIdeal.nD → PrngReg), Pre_InWIdeal m →
    θ_run (Cert.InWIdeal.defs (F := Ideal)) (onTc (τ := Cert.InWIdeal.τ) (Cert.InWIdeal.main (F := Ideal))) ⟨m, fun _ => 0, g⟩ (fun r => (∀ c : Dev Cert.InWIdeal.nD,
      r.2.mem ((c.tc : Thread Cert.InWIdeal.nD Cert.InWIdeal.τ).loc Cert.InWIdeal.main_arg0) = m ((c.tc : Thread Cert.InWIdeal.nD Cert.InWIdeal.τ).loc Cert.InWIdeal.main_arg0)
      ∧ r.2.mem ((c.tc : Thread Cert.InWIdeal.nD Cert.InWIdeal.τ).loc Cert.InWIdeal.main_arg1) = m ((c.tc : Thread Cert.InWIdeal.nD Cert.InWIdeal.τ).loc Cert.InWIdeal.main_arg1)
      ∧ r.2.mem ((c.tc : Thread Cert.InWIdeal.nD Cert.InWIdeal.τ).loc Cert.InWIdeal.main_arg2) = m ((c.tc : Thread Cert.InWIdeal.nD Cert.InWIdeal.τ).loc Cert.InWIdeal.main_arg2)
      ∧ r.2.mem ((c.tc : Thread Cert.InWIdeal.nD Cert.InWIdeal.τ).loc Cert.InWIdeal.main_arg3) = m ((c.tc : Thread Cert.InWIdeal.nD Cert.InWIdeal.τ).loc Cert.InWIdeal.main_arg3)
      ∧ r.2.mem ((c.tc : Thread Cert.InWIdeal.nD Cert.InWIdeal.τ).loc Cert.InWIdeal.main_arg4) = m ((c.tc : Thread Cert.InWIdeal.nD Cert.InWIdeal.τ).loc Cert.InWIdeal.main_arg4)
      ∧ r.2.mem ((c.tc : Thread Cert.InWIdeal.nD Cert.InWIdeal.τ).loc Cert.InWIdeal.main_arg5) = m ((c.tc : Thread Cert.InWIdeal.nD Cert.InWIdeal.τ).loc Cert.InWIdeal.main_arg5)
      ∧ r.2.mem ((c.tc : Thread Cert.InWIdeal.nD Cert.InWIdeal.τ).loc Cert.InWIdeal.main_arg6) = m ((c.tc : Thread Cert.InWIdeal.nD Cert.InWIdeal.τ).loc Cert.InWIdeal.main_arg6)
      ∧ r.2.mem ((c.tc : Thread Cert.InWIdeal.nD Cert.InWIdeal.τ).loc Cert.InWIdeal.main_arg7) = m ((c.tc : Thread Cert.InWIdeal.nD Cert.InWIdeal.τ).loc Cert.InWIdeal.main_arg7))
      ∧ r.2.sem = fun _ => 0)

def quiescent_InWRefIdeal [hInWRefIdeal : Cert.InWRefIdeal.Facts] : Prop :=
  ∀ (m : (ℓ : Loc Cert.InWRefIdeal.nD Cert.InWRefIdeal.τ Cert.InWRefIdeal.sig) → Buf (Elt Ideal) ℓ) (g : Dev Cert.InWRefIdeal.nD → PrngReg), Pre_InWRefIdeal m →
    θ_run (Cert.InWRefIdeal.defs (F := Ideal)) (onTc (τ := Cert.InWRefIdeal.τ) (Cert.InWRefIdeal.main (F := Ideal))) ⟨m, fun _ => 0, g⟩ (fun r => (∀ c : Dev Cert.InWRefIdeal.nD,
      r.2.mem ((c.tc : Thread Cert.InWRefIdeal.nD Cert.InWRefIdeal.τ).loc Cert.InWRefIdeal.main_arg0) = m ((c.tc : Thread Cert.InWRefIdeal.nD Cert.InWRefIdeal.τ).loc Cert.InWRefIdeal.main_arg0)
      ∧ r.2.mem ((c.tc : Thread Cert.InWRefIdeal.nD Cert.InWRefIdeal.τ).loc Cert.InWRefIdeal.main_arg1) = m ((c.tc : Thread Cert.InWRefIdeal.nD Cert.InWRefIdeal.τ).loc Cert.InWRefIdeal.main_arg1)
      ∧ r.2.mem ((c.tc : Thread Cert.InWRefIdeal.nD Cert.InWRefIdeal.τ).loc Cert.InWRefIdeal.main_arg2) = m ((c.tc : Thread Cert.InWRefIdeal.nD Cert.InWRefIdeal.τ).loc Cert.InWRefIdeal.main_arg2)
      ∧ r.2.mem ((c.tc : Thread Cert.InWRefIdeal.nD Cert.InWRefIdeal.τ).loc Cert.InWRefIdeal.main_arg3) = m ((c.tc : Thread Cert.InWRefIdeal.nD Cert.InWRefIdeal.τ).loc Cert.InWRefIdeal.main_arg3)
      ∧ r.2.mem ((c.tc : Thread Cert.InWRefIdeal.nD Cert.InWRefIdeal.τ).loc Cert.InWRefIdeal.main_arg4) = m ((c.tc : Thread Cert.InWRefIdeal.nD Cert.InWRefIdeal.τ).loc Cert.InWRefIdeal.main_arg4)
      ∧ r.2.mem ((c.tc : Thread Cert.InWRefIdeal.nD Cert.InWRefIdeal.τ).loc Cert.InWRefIdeal.main_arg5) = m ((c.tc : Thread Cert.InWRefIdeal.nD Cert.InWRefIdeal.τ).loc Cert.InWRefIdeal.main_arg5)
      ∧ r.2.mem ((c.tc : Thread Cert.InWRefIdeal.nD Cert.InWRefIdeal.τ).loc Cert.InWRefIdeal.main_arg6) = m ((c.tc : Thread Cert.InWRefIdeal.nD Cert.InWRefIdeal.τ).loc Cert.InWRefIdeal.main_arg6)
      ∧ r.2.mem ((c.tc : Thread Cert.InWRefIdeal.nD Cert.InWRefIdeal.τ).loc Cert.InWRefIdeal.main_arg7) = m ((c.tc : Thread Cert.InWRefIdeal.nD Cert.InWRefIdeal.τ).loc Cert.InWRefIdeal.main_arg7))
      ∧ r.2.sem = fun _ => 0)

def quiescent_InX [hInX : Cert.InX.Facts] : Prop :=
  ∀ (m : (ℓ : Loc Cert.InX.nD Cert.InX.τ Cert.InX.sig) → Buf (Elt Bits) ℓ) (g : Dev Cert.InX.nD → PrngReg), Pre_InX m →
    θ_run (Cert.InX.defs (F := Bits)) (onTc (τ := Cert.InX.τ) (Cert.InX.main (F := Bits))) ⟨m, fun _ => 0, g⟩ (fun r => (∀ c : Dev Cert.InX.nD,
      r.2.mem ((c.tc : Thread Cert.InX.nD Cert.InX.τ).loc Cert.InX.main_arg0) = m ((c.tc : Thread Cert.InX.nD Cert.InX.τ).loc Cert.InX.main_arg0)
      ∧ r.2.mem ((c.tc : Thread Cert.InX.nD Cert.InX.τ).loc Cert.InX.main_arg1) = m ((c.tc : Thread Cert.InX.nD Cert.InX.τ).loc Cert.InX.main_arg1)
      ∧ r.2.mem ((c.tc : Thread Cert.InX.nD Cert.InX.τ).loc Cert.InX.main_arg2) = m ((c.tc : Thread Cert.InX.nD Cert.InX.τ).loc Cert.InX.main_arg2)
      ∧ r.2.mem ((c.tc : Thread Cert.InX.nD Cert.InX.τ).loc Cert.InX.main_arg3) = m ((c.tc : Thread Cert.InX.nD Cert.InX.τ).loc Cert.InX.main_arg3)
      ∧ r.2.mem ((c.tc : Thread Cert.InX.nD Cert.InX.τ).loc Cert.InX.main_arg4) = m ((c.tc : Thread Cert.InX.nD Cert.InX.τ).loc Cert.InX.main_arg4)
      ∧ r.2.mem ((c.tc : Thread Cert.InX.nD Cert.InX.τ).loc Cert.InX.main_arg5) = m ((c.tc : Thread Cert.InX.nD Cert.InX.τ).loc Cert.InX.main_arg5)
      ∧ r.2.mem ((c.tc : Thread Cert.InX.nD Cert.InX.τ).loc Cert.InX.main_arg6) = m ((c.tc : Thread Cert.InX.nD Cert.InX.τ).loc Cert.InX.main_arg6)
      ∧ r.2.mem ((c.tc : Thread Cert.InX.nD Cert.InX.τ).loc Cert.InX.main_arg7) = m ((c.tc : Thread Cert.InX.nD Cert.InX.τ).loc Cert.InX.main_arg7))
      ∧ r.2.sem = fun _ => 0)

def quiescent_InXIdeal [hInXIdeal : Cert.InXIdeal.Facts] : Prop :=
  ∀ (m : (ℓ : Loc Cert.InXIdeal.nD Cert.InXIdeal.τ Cert.InXIdeal.sig) → Buf (Elt Ideal) ℓ) (g : Dev Cert.InXIdeal.nD → PrngReg), Pre_InXIdeal m →
    θ_run (Cert.InXIdeal.defs (F := Ideal)) (onTc (τ := Cert.InXIdeal.τ) (Cert.InXIdeal.main (F := Ideal))) ⟨m, fun _ => 0, g⟩ (fun r => (∀ c : Dev Cert.InXIdeal.nD,
      r.2.mem ((c.tc : Thread Cert.InXIdeal.nD Cert.InXIdeal.τ).loc Cert.InXIdeal.main_arg0) = m ((c.tc : Thread Cert.InXIdeal.nD Cert.InXIdeal.τ).loc Cert.InXIdeal.main_arg0)
      ∧ r.2.mem ((c.tc : Thread Cert.InXIdeal.nD Cert.InXIdeal.τ).loc Cert.InXIdeal.main_arg1) = m ((c.tc : Thread Cert.InXIdeal.nD Cert.InXIdeal.τ).loc Cert.InXIdeal.main_arg1)
      ∧ r.2.mem ((c.tc : Thread Cert.InXIdeal.nD Cert.InXIdeal.τ).loc Cert.InXIdeal.main_arg2) = m ((c.tc : Thread Cert.InXIdeal.nD Cert.InXIdeal.τ).loc Cert.InXIdeal.main_arg2)
      ∧ r.2.mem ((c.tc : Thread Cert.InXIdeal.nD Cert.InXIdeal.τ).loc Cert.InXIdeal.main_arg3) = m ((c.tc : Thread Cert.InXIdeal.nD Cert.InXIdeal.τ).loc Cert.InXIdeal.main_arg3)
      ∧ r.2.mem ((c.tc : Thread Cert.InXIdeal.nD Cert.InXIdeal.τ).loc Cert.InXIdeal.main_arg4) = m ((c.tc : Thread Cert.InXIdeal.nD Cert.InXIdeal.τ).loc Cert.InXIdeal.main_arg4)
      ∧ r.2.mem ((c.tc : Thread Cert.InXIdeal.nD Cert.InXIdeal.τ).loc Cert.InXIdeal.main_arg5) = m ((c.tc : Thread Cert.InXIdeal.nD Cert.InXIdeal.τ).loc Cert.InXIdeal.main_arg5)
      ∧ r.2.mem ((c.tc : Thread Cert.InXIdeal.nD Cert.InXIdeal.τ).loc Cert.InXIdeal.main_arg6) = m ((c.tc : Thread Cert.InXIdeal.nD Cert.InXIdeal.τ).loc Cert.InXIdeal.main_arg6)
      ∧ r.2.mem ((c.tc : Thread Cert.InXIdeal.nD Cert.InXIdeal.τ).loc Cert.InXIdeal.main_arg7) = m ((c.tc : Thread Cert.InXIdeal.nD Cert.InXIdeal.τ).loc Cert.InXIdeal.main_arg7))
      ∧ r.2.sem = fun _ => 0)

def quiescent_InXRefIdeal [hInXRefIdeal : Cert.InXRefIdeal.Facts] : Prop :=
  ∀ (m : (ℓ : Loc Cert.InXRefIdeal.nD Cert.InXRefIdeal.τ Cert.InXRefIdeal.sig) → Buf (Elt Ideal) ℓ) (g : Dev Cert.InXRefIdeal.nD → PrngReg), Pre_InXRefIdeal m →
    θ_run (Cert.InXRefIdeal.defs (F := Ideal)) (onTc (τ := Cert.InXRefIdeal.τ) (Cert.InXRefIdeal.main (F := Ideal))) ⟨m, fun _ => 0, g⟩ (fun r => (∀ c : Dev Cert.InXRefIdeal.nD,
      r.2.mem ((c.tc : Thread Cert.InXRefIdeal.nD Cert.InXRefIdeal.τ).loc Cert.InXRefIdeal.main_arg0) = m ((c.tc : Thread Cert.InXRefIdeal.nD Cert.InXRefIdeal.τ).loc Cert.InXRefIdeal.main_arg0)
      ∧ r.2.mem ((c.tc : Thread Cert.InXRefIdeal.nD Cert.InXRefIdeal.τ).loc Cert.InXRefIdeal.main_arg1) = m ((c.tc : Thread Cert.InXRefIdeal.nD Cert.InXRefIdeal.τ).loc Cert.InXRefIdeal.main_arg1)
      ∧ r.2.mem ((c.tc : Thread Cert.InXRefIdeal.nD Cert.InXRefIdeal.τ).loc Cert.InXRefIdeal.main_arg2) = m ((c.tc : Thread Cert.InXRefIdeal.nD Cert.InXRefIdeal.τ).loc Cert.InXRefIdeal.main_arg2)
      ∧ r.2.mem ((c.tc : Thread Cert.InXRefIdeal.nD Cert.InXRefIdeal.τ).loc Cert.InXRefIdeal.main_arg3) = m ((c.tc : Thread Cert.InXRefIdeal.nD Cert.InXRefIdeal.τ).loc Cert.InXRefIdeal.main_arg3)
      ∧ r.2.mem ((c.tc : Thread Cert.InXRefIdeal.nD Cert.InXRefIdeal.τ).loc Cert.InXRefIdeal.main_arg4) = m ((c.tc : Thread Cert.InXRefIdeal.nD Cert.InXRefIdeal.τ).loc Cert.InXRefIdeal.main_arg4)
      ∧ r.2.mem ((c.tc : Thread Cert.InXRefIdeal.nD Cert.InXRefIdeal.τ).loc Cert.InXRefIdeal.main_arg5) = m ((c.tc : Thread Cert.InXRefIdeal.nD Cert.InXRefIdeal.τ).loc Cert.InXRefIdeal.main_arg5)
      ∧ r.2.mem ((c.tc : Thread Cert.InXRefIdeal.nD Cert.InXRefIdeal.τ).loc Cert.InXRefIdeal.main_arg6) = m ((c.tc : Thread Cert.InXRefIdeal.nD Cert.InXRefIdeal.τ).loc Cert.InXRefIdeal.main_arg6)
      ∧ r.2.mem ((c.tc : Thread Cert.InXRefIdeal.nD Cert.InXRefIdeal.τ).loc Cert.InXRefIdeal.main_arg7) = m ((c.tc : Thread Cert.InXRefIdeal.nD Cert.InXRefIdeal.τ).loc Cert.InXRefIdeal.main_arg7))
      ∧ r.2.sem = fun _ => 0)

def quiescent_ProjW [hProjW : Cert.ProjW.Facts] : Prop :=
  ∀ (m : (ℓ : Loc Cert.ProjW.nD Cert.ProjW.τ Cert.ProjW.sig) → Buf (Elt Bits) ℓ) (g : Dev Cert.ProjW.nD → PrngReg), Pre_ProjW m →
    θ_run (Cert.ProjW.defs (F := Bits)) (onTc (τ := Cert.ProjW.τ) (Cert.ProjW.main (F := Bits))) ⟨m, fun _ => 0, g⟩ (fun r => (∀ c : Dev Cert.ProjW.nD,
      r.2.mem ((c.tc : Thread Cert.ProjW.nD Cert.ProjW.τ).loc Cert.ProjW.main_arg0) = m ((c.tc : Thread Cert.ProjW.nD Cert.ProjW.τ).loc Cert.ProjW.main_arg0)
      ∧ r.2.mem ((c.tc : Thread Cert.ProjW.nD Cert.ProjW.τ).loc Cert.ProjW.main_arg1) = m ((c.tc : Thread Cert.ProjW.nD Cert.ProjW.τ).loc Cert.ProjW.main_arg1)
      ∧ r.2.mem ((c.tc : Thread Cert.ProjW.nD Cert.ProjW.τ).loc Cert.ProjW.main_arg2) = m ((c.tc : Thread Cert.ProjW.nD Cert.ProjW.τ).loc Cert.ProjW.main_arg2))
      ∧ r.2.sem = fun _ => 0)

def quiescent_ProjWIdeal [hProjWIdeal : Cert.ProjWIdeal.Facts] : Prop :=
  ∀ (m : (ℓ : Loc Cert.ProjWIdeal.nD Cert.ProjWIdeal.τ Cert.ProjWIdeal.sig) → Buf (Elt Ideal) ℓ) (g : Dev Cert.ProjWIdeal.nD → PrngReg), Pre_ProjWIdeal m →
    θ_run (Cert.ProjWIdeal.defs (F := Ideal)) (onTc (τ := Cert.ProjWIdeal.τ) (Cert.ProjWIdeal.main (F := Ideal))) ⟨m, fun _ => 0, g⟩ (fun r => (∀ c : Dev Cert.ProjWIdeal.nD,
      r.2.mem ((c.tc : Thread Cert.ProjWIdeal.nD Cert.ProjWIdeal.τ).loc Cert.ProjWIdeal.main_arg0) = m ((c.tc : Thread Cert.ProjWIdeal.nD Cert.ProjWIdeal.τ).loc Cert.ProjWIdeal.main_arg0)
      ∧ r.2.mem ((c.tc : Thread Cert.ProjWIdeal.nD Cert.ProjWIdeal.τ).loc Cert.ProjWIdeal.main_arg1) = m ((c.tc : Thread Cert.ProjWIdeal.nD Cert.ProjWIdeal.τ).loc Cert.ProjWIdeal.main_arg1)
      ∧ r.2.mem ((c.tc : Thread Cert.ProjWIdeal.nD Cert.ProjWIdeal.τ).loc Cert.ProjWIdeal.main_arg2) = m ((c.tc : Thread Cert.ProjWIdeal.nD Cert.ProjWIdeal.τ).loc Cert.ProjWIdeal.main_arg2))
      ∧ r.2.sem = fun _ => 0)

def quiescent_ProjWRefIdeal [hProjWRefIdeal : Cert.ProjWRefIdeal.Facts] : Prop :=
  ∀ (m : (ℓ : Loc Cert.ProjWRefIdeal.nD Cert.ProjWRefIdeal.τ Cert.ProjWRefIdeal.sig) → Buf (Elt Ideal) ℓ) (g : Dev Cert.ProjWRefIdeal.nD → PrngReg), Pre_ProjWRefIdeal m →
    θ_run (Cert.ProjWRefIdeal.defs (F := Ideal)) (onTc (τ := Cert.ProjWRefIdeal.τ) (Cert.ProjWRefIdeal.main (F := Ideal))) ⟨m, fun _ => 0, g⟩ (fun r => (∀ c : Dev Cert.ProjWRefIdeal.nD,
      r.2.mem ((c.tc : Thread Cert.ProjWRefIdeal.nD Cert.ProjWRefIdeal.τ).loc Cert.ProjWRefIdeal.main_arg0) = m ((c.tc : Thread Cert.ProjWRefIdeal.nD Cert.ProjWRefIdeal.τ).loc Cert.ProjWRefIdeal.main_arg0)
      ∧ r.2.mem ((c.tc : Thread Cert.ProjWRefIdeal.nD Cert.ProjWRefIdeal.τ).loc Cert.ProjWRefIdeal.main_arg1) = m ((c.tc : Thread Cert.ProjWRefIdeal.nD Cert.ProjWRefIdeal.τ).loc Cert.ProjWRefIdeal.main_arg1)
      ∧ r.2.mem ((c.tc : Thread Cert.ProjWRefIdeal.nD Cert.ProjWRefIdeal.τ).loc Cert.ProjWRefIdeal.main_arg2) = m ((c.tc : Thread Cert.ProjWRefIdeal.nD Cert.ProjWRefIdeal.τ).loc Cert.ProjWRefIdeal.main_arg2))
      ∧ r.2.sem = fun _ => 0)

def quiescent_ProjX [hProjX : Cert.ProjX.Facts] : Prop :=
  ∀ (m : (ℓ : Loc Cert.ProjX.nD Cert.ProjX.τ Cert.ProjX.sig) → Buf (Elt Bits) ℓ) (g : Dev Cert.ProjX.nD → PrngReg), Pre_ProjX m →
    θ_run (Cert.ProjX.defs (F := Bits)) (onTc (τ := Cert.ProjX.τ) (Cert.ProjX.main (F := Bits))) ⟨m, fun _ => 0, g⟩ (fun r => (∀ c : Dev Cert.ProjX.nD,
      r.2.mem ((c.tc : Thread Cert.ProjX.nD Cert.ProjX.τ).loc Cert.ProjX.main_arg0) = m ((c.tc : Thread Cert.ProjX.nD Cert.ProjX.τ).loc Cert.ProjX.main_arg0)
      ∧ r.2.mem ((c.tc : Thread Cert.ProjX.nD Cert.ProjX.τ).loc Cert.ProjX.main_arg1) = m ((c.tc : Thread Cert.ProjX.nD Cert.ProjX.τ).loc Cert.ProjX.main_arg1)
      ∧ r.2.mem ((c.tc : Thread Cert.ProjX.nD Cert.ProjX.τ).loc Cert.ProjX.main_arg2) = m ((c.tc : Thread Cert.ProjX.nD Cert.ProjX.τ).loc Cert.ProjX.main_arg2))
      ∧ r.2.sem = fun _ => 0)

def quiescent_ProjXIdeal [hProjXIdeal : Cert.ProjXIdeal.Facts] : Prop :=
  ∀ (m : (ℓ : Loc Cert.ProjXIdeal.nD Cert.ProjXIdeal.τ Cert.ProjXIdeal.sig) → Buf (Elt Ideal) ℓ) (g : Dev Cert.ProjXIdeal.nD → PrngReg), Pre_ProjXIdeal m →
    θ_run (Cert.ProjXIdeal.defs (F := Ideal)) (onTc (τ := Cert.ProjXIdeal.τ) (Cert.ProjXIdeal.main (F := Ideal))) ⟨m, fun _ => 0, g⟩ (fun r => (∀ c : Dev Cert.ProjXIdeal.nD,
      r.2.mem ((c.tc : Thread Cert.ProjXIdeal.nD Cert.ProjXIdeal.τ).loc Cert.ProjXIdeal.main_arg0) = m ((c.tc : Thread Cert.ProjXIdeal.nD Cert.ProjXIdeal.τ).loc Cert.ProjXIdeal.main_arg0)
      ∧ r.2.mem ((c.tc : Thread Cert.ProjXIdeal.nD Cert.ProjXIdeal.τ).loc Cert.ProjXIdeal.main_arg1) = m ((c.tc : Thread Cert.ProjXIdeal.nD Cert.ProjXIdeal.τ).loc Cert.ProjXIdeal.main_arg1)
      ∧ r.2.mem ((c.tc : Thread Cert.ProjXIdeal.nD Cert.ProjXIdeal.τ).loc Cert.ProjXIdeal.main_arg2) = m ((c.tc : Thread Cert.ProjXIdeal.nD Cert.ProjXIdeal.τ).loc Cert.ProjXIdeal.main_arg2))
      ∧ r.2.sem = fun _ => 0)

def quiescent_ProjXRefIdeal [hProjXRefIdeal : Cert.ProjXRefIdeal.Facts] : Prop :=
  ∀ (m : (ℓ : Loc Cert.ProjXRefIdeal.nD Cert.ProjXRefIdeal.τ Cert.ProjXRefIdeal.sig) → Buf (Elt Ideal) ℓ) (g : Dev Cert.ProjXRefIdeal.nD → PrngReg), Pre_ProjXRefIdeal m →
    θ_run (Cert.ProjXRefIdeal.defs (F := Ideal)) (onTc (τ := Cert.ProjXRefIdeal.τ) (Cert.ProjXRefIdeal.main (F := Ideal))) ⟨m, fun _ => 0, g⟩ (fun r => (∀ c : Dev Cert.ProjXRefIdeal.nD,
      r.2.mem ((c.tc : Thread Cert.ProjXRefIdeal.nD Cert.ProjXRefIdeal.τ).loc Cert.ProjXRefIdeal.main_arg0) = m ((c.tc : Thread Cert.ProjXRefIdeal.nD Cert.ProjXRefIdeal.τ).loc Cert.ProjXRefIdeal.main_arg0)
      ∧ r.2.mem ((c.tc : Thread Cert.ProjXRefIdeal.nD Cert.ProjXRefIdeal.τ).loc Cert.ProjXRefIdeal.main_arg1) = m ((c.tc : Thread Cert.ProjXRefIdeal.nD Cert.ProjXRefIdeal.τ).loc Cert.ProjXRefIdeal.main_arg1)
      ∧ r.2.mem ((c.tc : Thread Cert.ProjXRefIdeal.nD Cert.ProjXRefIdeal.τ).loc Cert.ProjXRefIdeal.main_arg2) = m ((c.tc : Thread Cert.ProjXRefIdeal.nD Cert.ProjXRefIdeal.τ).loc Cert.ProjXRefIdeal.main_arg2))
      ∧ r.2.sem = fun _ => 0)

def quiescent_OutW [hOutW : Cert.OutW.Facts] : Prop :=
  ∀ (m : (ℓ : Loc Cert.OutW.nD Cert.OutW.τ Cert.OutW.sig) → Buf (Elt Bits) ℓ) (g : Dev Cert.OutW.nD → PrngReg), Pre_OutW m →
    θ_run (Cert.OutW.defs (F := Bits)) (onTc (τ := Cert.OutW.τ) (Cert.OutW.main (F := Bits))) ⟨m, fun _ => 0, g⟩ (fun r => (∀ c : Dev Cert.OutW.nD,
      r.2.mem ((c.tc : Thread Cert.OutW.nD Cert.OutW.τ).loc Cert.OutW.main_arg0) = m ((c.tc : Thread Cert.OutW.nD Cert.OutW.τ).loc Cert.OutW.main_arg0)
      ∧ r.2.mem ((c.tc : Thread Cert.OutW.nD Cert.OutW.τ).loc Cert.OutW.main_arg1) = m ((c.tc : Thread Cert.OutW.nD Cert.OutW.τ).loc Cert.OutW.main_arg1)
      ∧ r.2.mem ((c.tc : Thread Cert.OutW.nD Cert.OutW.τ).loc Cert.OutW.main_arg2) = m ((c.tc : Thread Cert.OutW.nD Cert.OutW.τ).loc Cert.OutW.main_arg2))
      ∧ r.2.sem = fun _ => 0)

def quiescent_OutWIdeal [hOutWIdeal : Cert.OutWIdeal.Facts] : Prop :=
  ∀ (m : (ℓ : Loc Cert.OutWIdeal.nD Cert.OutWIdeal.τ Cert.OutWIdeal.sig) → Buf (Elt Ideal) ℓ) (g : Dev Cert.OutWIdeal.nD → PrngReg), Pre_OutWIdeal m →
    θ_run (Cert.OutWIdeal.defs (F := Ideal)) (onTc (τ := Cert.OutWIdeal.τ) (Cert.OutWIdeal.main (F := Ideal))) ⟨m, fun _ => 0, g⟩ (fun r => (∀ c : Dev Cert.OutWIdeal.nD,
      r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
      ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1)
      ∧ r.2.mem ((c.tc : Thread Cert.OutWIdeal.nD Cert.OutWIdeal.τ).loc Cert.OutWIdeal.main_arg2) = m ((c.tc : Thread Cert.OutWIdeal.nD Cert.OutWIdeal.τ).loc Cert.OutWIdeal.main_arg2))
      ∧ r.2.sem = fun _ => 0)

def quiescent_OutWRefIdeal [hOutWRefIdeal : Cert.OutWRefIdeal.Facts] : Prop :=
  ∀ (m : (ℓ : Loc Cert.OutWRefIdeal.nD Cert.OutWRefIdeal.τ Cert.OutWRefIdeal.sig) → Buf (Elt Ideal) ℓ) (g : Dev Cert.OutWRefIdeal.nD → PrngReg), Pre_OutWRefIdeal m →
    θ_run (Cert.OutWRefIdeal.defs (F := Ideal)) (onTc (τ := Cert.OutWRefIdeal.τ) (Cert.OutWRefIdeal.main (F := Ideal))) ⟨m, fun _ => 0, g⟩ (fun r => (∀ c : Dev Cert.OutWRefIdeal.nD,
      r.2.mem ((c.tc : Thread Cert.OutWRefIdeal.nD Cert.OutWRefIdeal.τ).loc Cert.OutWRefIdeal.main_arg0) = m ((c.tc : Thread Cert.OutWRefIdeal.nD Cert.OutWRefIdeal.τ).loc Cert.OutWRefIdeal.main_arg0)
      ∧ r.2.mem ((c.tc : Thread Cert.OutWRefIdeal.nD Cert.OutWRefIdeal.τ).loc Cert.OutWRefIdeal.main_arg1) = m ((c.tc : Thread Cert.OutWRefIdeal.nD Cert.OutWRefIdeal.τ).loc Cert.OutWRefIdeal.main_arg1)
      ∧ r.2.mem ((c.tc : Thread Cert.OutWRefIdeal.nD Cert.OutWRefIdeal.τ).loc Cert.OutWRefIdeal.main_arg2) = m ((c.tc : Thread Cert.OutWRefIdeal.nD Cert.OutWRefIdeal.τ).loc Cert.OutWRefIdeal.main_arg2))
      ∧ r.2.sem = fun _ => 0)

def quiescent_OutX [hOutX : Cert.OutX.Facts] : Prop :=
  ∀ (m : (ℓ : Loc Cert.OutX.nD Cert.OutX.τ Cert.OutX.sig) → Buf (Elt Bits) ℓ) (g : Dev Cert.OutX.nD → PrngReg), Pre_OutX m →
    θ_run (Cert.OutX.defs (F := Bits)) (onTc (τ := Cert.OutX.τ) (Cert.OutX.main (F := Bits))) ⟨m, fun _ => 0, g⟩ (fun r => (∀ c : Dev Cert.OutX.nD,
      r.2.mem ((c.tc : Thread Cert.OutX.nD Cert.OutX.τ).loc Cert.OutX.main_arg0) = m ((c.tc : Thread Cert.OutX.nD Cert.OutX.τ).loc Cert.OutX.main_arg0)
      ∧ r.2.mem ((c.tc : Thread Cert.OutX.nD Cert.OutX.τ).loc Cert.OutX.main_arg1) = m ((c.tc : Thread Cert.OutX.nD Cert.OutX.τ).loc Cert.OutX.main_arg1)
      ∧ r.2.mem ((c.tc : Thread Cert.OutX.nD Cert.OutX.τ).loc Cert.OutX.main_arg2) = m ((c.tc : Thread Cert.OutX.nD Cert.OutX.τ).loc Cert.OutX.main_arg2))
      ∧ r.2.sem = fun _ => 0)

def quiescent_OutXIdeal [hOutXIdeal : Cert.OutXIdeal.Facts] : Prop :=
  ∀ (m : (ℓ : Loc Cert.OutXIdeal.nD Cert.OutXIdeal.τ Cert.OutXIdeal.sig) → Buf (Elt Ideal) ℓ) (g : Dev Cert.OutXIdeal.nD → PrngReg), Pre_OutXIdeal m →
    θ_run (Cert.OutXIdeal.defs (F := Ideal)) (onTc (τ := Cert.OutXIdeal.τ) (Cert.OutXIdeal.main (F := Ideal))) ⟨m, fun _ => 0, g⟩ (fun r => (∀ c : Dev Cert.OutXIdeal.nD,
      r.2.mem ((c.tc : Thread Cert.OutXIdeal.nD Cert.OutXIdeal.τ).loc Cert.OutXIdeal.main_arg0) = m ((c.tc : Thread Cert.OutXIdeal.nD Cert.OutXIdeal.τ).loc Cert.OutXIdeal.main_arg0)
      ∧ r.2.mem ((c.tc : Thread Cert.OutXIdeal.nD Cert.OutXIdeal.τ).loc Cert.OutXIdeal.main_arg1) = m ((c.tc : Thread Cert.OutXIdeal.nD Cert.OutXIdeal.τ).loc Cert.OutXIdeal.main_arg1)
      ∧ r.2.mem ((c.tc : Thread Cert.OutXIdeal.nD Cert.OutXIdeal.τ).loc Cert.OutXIdeal.main_arg2) = m ((c.tc : Thread Cert.OutXIdeal.nD Cert.OutXIdeal.τ).loc Cert.OutXIdeal.main_arg2))
      ∧ r.2.sem = fun _ => 0)

def quiescent_OutXRefIdeal [hOutXRefIdeal : Cert.OutXRefIdeal.Facts] : Prop :=
  ∀ (m : (ℓ : Loc Cert.OutXRefIdeal.nD Cert.OutXRefIdeal.τ Cert.OutXRefIdeal.sig) → Buf (Elt Ideal) ℓ) (g : Dev Cert.OutXRefIdeal.nD → PrngReg), Pre_OutXRefIdeal m →
    θ_run (Cert.OutXRefIdeal.defs (F := Ideal)) (onTc (τ := Cert.OutXRefIdeal.τ) (Cert.OutXRefIdeal.main (F := Ideal))) ⟨m, fun _ => 0, g⟩ (fun r => (∀ c : Dev Cert.OutXRefIdeal.nD,
      r.2.mem ((c.tc : Thread Cert.OutXRefIdeal.nD Cert.OutXRefIdeal.τ).loc Cert.OutXRefIdeal.main_arg0) = m ((c.tc : Thread Cert.OutXRefIdeal.nD Cert.OutXRefIdeal.τ).loc Cert.OutXRefIdeal.main_arg0)
      ∧ r.2.mem ((c.tc : Thread Cert.OutXRefIdeal.nD Cert.OutXRefIdeal.τ).loc Cert.OutXRefIdeal.main_arg1) = m ((c.tc : Thread Cert.OutXRefIdeal.nD Cert.OutXRefIdeal.τ).loc Cert.OutXRefIdeal.main_arg1)
      ∧ r.2.mem ((c.tc : Thread Cert.OutXRefIdeal.nD Cert.OutXRefIdeal.τ).loc Cert.OutXRefIdeal.main_arg2) = m ((c.tc : Thread Cert.OutXRefIdeal.nD Cert.OutXRefIdeal.τ).loc Cert.OutXRefIdeal.main_arg2))
      ∧ r.2.sem = fun _ => 0)

def quiescent_GluW [hGluW : Cert.GluW.Facts] : Prop :=
  ∀ (m : (ℓ : Loc Cert.GluW.nD Cert.GluW.τ Cert.GluW.sig) → Buf (Elt Bits) ℓ) (g : Dev Cert.GluW.nD → PrngReg), Pre_GluW m →
    θ_run (Cert.GluW.defs (F := Bits)) (onTc (τ := Cert.GluW.τ) (Cert.GluW.main (F := Bits))) ⟨m, fun _ => 0, g⟩ (fun r => (∀ c : Dev Cert.GluW.nD,
      r.2.mem ((c.tc : Thread Cert.GluW.nD Cert.GluW.τ).loc Cert.GluW.main_arg0) = m ((c.tc : Thread Cert.GluW.nD Cert.GluW.τ).loc Cert.GluW.main_arg0)
      ∧ r.2.mem ((c.tc : Thread Cert.GluW.nD Cert.GluW.τ).loc Cert.GluW.main_arg1) = m ((c.tc : Thread Cert.GluW.nD Cert.GluW.τ).loc Cert.GluW.main_arg1)
      ∧ r.2.mem ((c.tc : Thread Cert.GluW.nD Cert.GluW.τ).loc Cert.GluW.main_arg2) = m ((c.tc : Thread Cert.GluW.nD Cert.GluW.τ).loc Cert.GluW.main_arg2)
      ∧ r.2.mem ((c.tc : Thread Cert.GluW.nD Cert.GluW.τ).loc Cert.GluW.main_arg3) = m ((c.tc : Thread Cert.GluW.nD Cert.GluW.τ).loc Cert.GluW.main_arg3))
      ∧ r.2.sem = fun _ => 0)

def quiescent_GluWIdeal [hGluWIdeal : Cert.GluWIdeal.Facts] : Prop :=
  ∀ (m : (ℓ : Loc Cert.GluWIdeal.nD Cert.GluWIdeal.τ Cert.GluWIdeal.sig) → Buf (Elt Ideal) ℓ) (g : Dev Cert.GluWIdeal.nD → PrngReg), Pre_GluWIdeal m →
    θ_run (Cert.GluWIdeal.defs (F := Ideal)) (onTc (τ := Cert.GluWIdeal.τ) (Cert.GluWIdeal.main (F := Ideal))) ⟨m, fun _ => 0, g⟩ (fun r => (∀ c : Dev Cert.GluWIdeal.nD,
      r.2.mem ((c.tc : Thread Cert.GluWIdeal.nD Cert.GluWIdeal.τ).loc Cert.GluWIdeal.main_arg0) = m ((c.tc : Thread Cert.GluWIdeal.nD Cert.GluWIdeal.τ).loc Cert.GluWIdeal.main_arg0)
      ∧ r.2.mem ((c.tc : Thread Cert.GluWIdeal.nD Cert.GluWIdeal.τ).loc Cert.GluWIdeal.main_arg1) = m ((c.tc : Thread Cert.GluWIdeal.nD Cert.GluWIdeal.τ).loc Cert.GluWIdeal.main_arg1)
      ∧ r.2.mem ((c.tc : Thread Cert.GluWIdeal.nD Cert.GluWIdeal.τ).loc Cert.GluWIdeal.main_arg2) = m ((c.tc : Thread Cert.GluWIdeal.nD Cert.GluWIdeal.τ).loc Cert.GluWIdeal.main_arg2)
      ∧ r.2.mem ((c.tc : Thread Cert.GluWIdeal.nD Cert.GluWIdeal.τ).loc Cert.GluWIdeal.main_arg3) = m ((c.tc : Thread Cert.GluWIdeal.nD Cert.GluWIdeal.τ).loc Cert.GluWIdeal.main_arg3))
      ∧ r.2.sem = fun _ => 0)

def quiescent_GluWRefIdeal [hGluWRefIdeal : Cert.GluWRefIdeal.Facts] : Prop :=
  ∀ (m : (ℓ : Loc Cert.GluWRefIdeal.nD Cert.GluWRefIdeal.τ Cert.GluWRefIdeal.sig) → Buf (Elt Ideal) ℓ) (g : Dev Cert.GluWRefIdeal.nD → PrngReg), Pre_GluWRefIdeal m →
    θ_run (Cert.GluWRefIdeal.defs (F := Ideal)) (onTc (τ := Cert.GluWRefIdeal.τ) (Cert.GluWRefIdeal.main (F := Ideal))) ⟨m, fun _ => 0, g⟩ (fun r => (∀ c : Dev Cert.GluWRefIdeal.nD,
      r.2.mem ((c.tc : Thread Cert.GluWRefIdeal.nD Cert.GluWRefIdeal.τ).loc Cert.GluWRefIdeal.main_arg0) = m ((c.tc : Thread Cert.GluWRefIdeal.nD Cert.GluWRefIdeal.τ).loc Cert.GluWRefIdeal.main_arg0)
      ∧ r.2.mem ((c.tc : Thread Cert.GluWRefIdeal.nD Cert.GluWRefIdeal.τ).loc Cert.GluWRefIdeal.main_arg1) = m ((c.tc : Thread Cert.GluWRefIdeal.nD Cert.GluWRefIdeal.τ).loc Cert.GluWRefIdeal.main_arg1)
      ∧ r.2.mem ((c.tc : Thread Cert.GluWRefIdeal.nD Cert.GluWRefIdeal.τ).loc Cert.GluWRefIdeal.main_arg2) = m ((c.tc : Thread Cert.GluWRefIdeal.nD Cert.GluWRefIdeal.τ).loc Cert.GluWRefIdeal.main_arg2)
      ∧ r.2.mem ((c.tc : Thread Cert.GluWRefIdeal.nD Cert.GluWRefIdeal.τ).loc Cert.GluWRefIdeal.main_arg3) = m ((c.tc : Thread Cert.GluWRefIdeal.nD Cert.GluWRefIdeal.τ).loc Cert.GluWRefIdeal.main_arg3))
      ∧ r.2.sem = fun _ => 0)

def quiescent_GluX [hGluX : Cert.GluX.Facts] : Prop :=
  ∀ (m : (ℓ : Loc Cert.GluX.nD Cert.GluX.τ Cert.GluX.sig) → Buf (Elt Bits) ℓ) (g : Dev Cert.GluX.nD → PrngReg), Pre_GluX m →
    θ_run (Cert.GluX.defs (F := Bits)) (onTc (τ := Cert.GluX.τ) (Cert.GluX.main (F := Bits))) ⟨m, fun _ => 0, g⟩ (fun r => (∀ c : Dev Cert.GluX.nD,
      r.2.mem ((c.tc : Thread Cert.GluX.nD Cert.GluX.τ).loc Cert.GluX.main_arg0) = m ((c.tc : Thread Cert.GluX.nD Cert.GluX.τ).loc Cert.GluX.main_arg0)
      ∧ r.2.mem ((c.tc : Thread Cert.GluX.nD Cert.GluX.τ).loc Cert.GluX.main_arg1) = m ((c.tc : Thread Cert.GluX.nD Cert.GluX.τ).loc Cert.GluX.main_arg1)
      ∧ r.2.mem ((c.tc : Thread Cert.GluX.nD Cert.GluX.τ).loc Cert.GluX.main_arg2) = m ((c.tc : Thread Cert.GluX.nD Cert.GluX.τ).loc Cert.GluX.main_arg2)
      ∧ r.2.mem ((c.tc : Thread Cert.GluX.nD Cert.GluX.τ).loc Cert.GluX.main_arg3) = m ((c.tc : Thread Cert.GluX.nD Cert.GluX.τ).loc Cert.GluX.main_arg3))
      ∧ r.2.sem = fun _ => 0)

def quiescent_GluXIdeal [hGluXIdeal : Cert.GluXIdeal.Facts] : Prop :=
  ∀ (m : (ℓ : Loc Cert.GluXIdeal.nD Cert.GluXIdeal.τ Cert.GluXIdeal.sig) → Buf (Elt Ideal) ℓ) (g : Dev Cert.GluXIdeal.nD → PrngReg), Pre_GluXIdeal m →
    θ_run (Cert.GluXIdeal.defs (F := Ideal)) (onTc (τ := Cert.GluXIdeal.τ) (Cert.GluXIdeal.main (F := Ideal))) ⟨m, fun _ => 0, g⟩ (fun r => (∀ c : Dev Cert.GluXIdeal.nD,
      r.2.mem ((c.tc : Thread Cert.GluXIdeal.nD Cert.GluXIdeal.τ).loc Cert.GluXIdeal.main_arg0) = m ((c.tc : Thread Cert.GluXIdeal.nD Cert.GluXIdeal.τ).loc Cert.GluXIdeal.main_arg0)
      ∧ r.2.mem ((c.tc : Thread Cert.GluXIdeal.nD Cert.GluXIdeal.τ).loc Cert.GluXIdeal.main_arg1) = m ((c.tc : Thread Cert.GluXIdeal.nD Cert.GluXIdeal.τ).loc Cert.GluXIdeal.main_arg1)
      ∧ r.2.mem ((c.tc : Thread Cert.GluXIdeal.nD Cert.GluXIdeal.τ).loc Cert.GluXIdeal.main_arg2) = m ((c.tc : Thread Cert.GluXIdeal.nD Cert.GluXIdeal.τ).loc Cert.GluXIdeal.main_arg2)
      ∧ r.2.mem ((c.tc : Thread Cert.GluXIdeal.nD Cert.GluXIdeal.τ).loc Cert.GluXIdeal.main_arg3) = m ((c.tc : Thread Cert.GluXIdeal.nD Cert.GluXIdeal.τ).loc Cert.GluXIdeal.main_arg3))
      ∧ r.2.sem = fun _ => 0)

def quiescent_GluXRefIdeal [hGluXRefIdeal : Cert.GluXRefIdeal.Facts] : Prop :=
  ∀ (m : (ℓ : Loc Cert.GluXRefIdeal.nD Cert.GluXRefIdeal.τ Cert.GluXRefIdeal.sig) → Buf (Elt Ideal) ℓ) (g : Dev Cert.GluXRefIdeal.nD → PrngReg), Pre_GluXRefIdeal m →
    θ_run (Cert.GluXRefIdeal.defs (F := Ideal)) (onTc (τ := Cert.GluXRefIdeal.τ) (Cert.GluXRefIdeal.main (F := Ideal))) ⟨m, fun _ => 0, g⟩ (fun r => (∀ c : Dev Cert.GluXRefIdeal.nD,
      r.2.mem ((c.tc : Thread Cert.GluXRefIdeal.nD Cert.GluXRefIdeal.τ).loc Cert.GluXRefIdeal.main_arg0) = m ((c.tc : Thread Cert.GluXRefIdeal.nD Cert.GluXRefIdeal.τ).loc Cert.GluXRefIdeal.main_arg0)
      ∧ r.2.mem ((c.tc : Thread Cert.GluXRefIdeal.nD Cert.GluXRefIdeal.τ).loc Cert.GluXRefIdeal.main_arg1) = m ((c.tc : Thread Cert.GluXRefIdeal.nD Cert.GluXRefIdeal.τ).loc Cert.GluXRefIdeal.main_arg1)
      ∧ r.2.mem ((c.tc : Thread Cert.GluXRefIdeal.nD Cert.GluXRefIdeal.τ).loc Cert.GluXRefIdeal.main_arg2) = m ((c.tc : Thread Cert.GluXRefIdeal.nD Cert.GluXRefIdeal.τ).loc Cert.GluXRefIdeal.main_arg2)
      ∧ r.2.mem ((c.tc : Thread Cert.GluXRefIdeal.nD Cert.GluXRefIdeal.τ).loc Cert.GluXRefIdeal.main_arg3) = m ((c.tc : Thread Cert.GluXRefIdeal.nD Cert.GluXRefIdeal.τ).loc Cert.GluXRefIdeal.main_arg3))
      ∧ r.2.sem = fun _ => 0)

def quiescent_InA [hInA : Cert.InA.Facts] : Prop :=
  ∀ (m : (ℓ : Loc Cert.InA.nD Cert.InA.τ Cert.InA.sig) → Buf (Elt Bits) ℓ) (g : Dev Cert.InA.nD → PrngReg), Pre_InA m →
    θ_run (Cert.InA.defs (F := Bits)) (onTc (τ := Cert.InA.τ) (Cert.InA.main (F := Bits))) ⟨m, fun _ => 0, g⟩ (fun r => (∀ c : Dev Cert.InA.nD,
      r.2.mem ((c.tc : Thread Cert.InA.nD Cert.InA.τ).loc Cert.InA.main_arg0) = m ((c.tc : Thread Cert.InA.nD Cert.InA.τ).loc Cert.InA.main_arg0)
      ∧ r.2.mem ((c.tc : Thread Cert.InA.nD Cert.InA.τ).loc Cert.InA.main_arg1) = m ((c.tc : Thread Cert.InA.nD Cert.InA.τ).loc Cert.InA.main_arg1))
      ∧ r.2.sem = fun _ => 0)

def quiescent_InAIdeal [hInAIdeal : Cert.InAIdeal.Facts] : Prop :=
  ∀ (m : (ℓ : Loc Cert.InAIdeal.nD Cert.InAIdeal.τ Cert.InAIdeal.sig) → Buf (Elt Ideal) ℓ) (g : Dev Cert.InAIdeal.nD → PrngReg), Pre_InAIdeal m →
    θ_run (Cert.InAIdeal.defs (F := Ideal)) (onTc (τ := Cert.InAIdeal.τ) (Cert.InAIdeal.main (F := Ideal))) ⟨m, fun _ => 0, g⟩ (fun r => (∀ c : Dev Cert.InAIdeal.nD,
      r.2.mem ((c.tc : Thread Cert.InAIdeal.nD Cert.InAIdeal.τ).loc Cert.InAIdeal.main_arg0) = m ((c.tc : Thread Cert.InAIdeal.nD Cert.InAIdeal.τ).loc Cert.InAIdeal.main_arg0)
      ∧ r.2.mem ((c.tc : Thread Cert.InAIdeal.nD Cert.InAIdeal.τ).loc Cert.InAIdeal.main_arg1) = m ((c.tc : Thread Cert.InAIdeal.nD Cert.InAIdeal.τ).loc Cert.InAIdeal.main_arg1))
      ∧ r.2.sem = fun _ => 0)

def quiescent_InARefIdeal [hInARefIdeal : Cert.InARefIdeal.Facts] : Prop :=
  ∀ (m : (ℓ : Loc Cert.InARefIdeal.nD Cert.InARefIdeal.τ Cert.InARefIdeal.sig) → Buf (Elt Ideal) ℓ) (g : Dev Cert.InARefIdeal.nD → PrngReg), Pre_InARefIdeal m →
    θ_run (Cert.InARefIdeal.defs (F := Ideal)) (onTc (τ := Cert.InARefIdeal.τ) (Cert.InARefIdeal.main (F := Ideal))) ⟨m, fun _ => 0, g⟩ (fun r => (∀ c : Dev Cert.InARefIdeal.nD,
      r.2.mem ((c.tc : Thread Cert.InARefIdeal.nD Cert.InARefIdeal.τ).loc Cert.InARefIdeal.main_arg0) = m ((c.tc : Thread Cert.InARefIdeal.nD Cert.InARefIdeal.τ).loc Cert.InARefIdeal.main_arg0)
      ∧ r.2.mem ((c.tc : Thread Cert.InARefIdeal.nD Cert.InARefIdeal.τ).loc Cert.InARefIdeal.main_arg1) = m ((c.tc : Thread Cert.InARefIdeal.nD Cert.InARefIdeal.τ).loc Cert.InARefIdeal.main_arg1))
      ∧ r.2.sem = fun _ => 0)

def quiescent_InB [hInB : Cert.InB.Facts] : Prop :=
  ∀ (m : (ℓ : Loc Cert.InB.nD Cert.InB.τ Cert.InB.sig) → Buf (Elt Bits) ℓ) (g : Dev Cert.InB.nD → PrngReg), Pre_InB m →
    θ_run (Cert.InB.defs (F := Bits)) (onTc (τ := Cert.InB.τ) (Cert.InB.main (F := Bits))) ⟨m, fun _ => 0, g⟩ (fun r => (∀ c : Dev Cert.InB.nD,
      r.2.mem ((c.tc : Thread Cert.InB.nD Cert.InB.τ).loc Cert.InB.main_arg0) = m ((c.tc : Thread Cert.InB.nD Cert.InB.τ).loc Cert.InB.main_arg0)
      ∧ r.2.mem ((c.tc : Thread Cert.InB.nD Cert.InB.τ).loc Cert.InB.main_arg1) = m ((c.tc : Thread Cert.InB.nD Cert.InB.τ).loc Cert.InB.main_arg1)
      ∧ r.2.mem ((c.tc : Thread Cert.InB.nD Cert.InB.τ).loc Cert.InB.main_arg2) = m ((c.tc : Thread Cert.InB.nD Cert.InB.τ).loc Cert.InB.main_arg2))
      ∧ r.2.sem = fun _ => 0)

def quiescent_InBIdeal [hInBIdeal : Cert.InBIdeal.Facts] : Prop :=
  ∀ (m : (ℓ : Loc Cert.InBIdeal.nD Cert.InBIdeal.τ Cert.InBIdeal.sig) → Buf (Elt Ideal) ℓ) (g : Dev Cert.InBIdeal.nD → PrngReg), Pre_InBIdeal m →
    θ_run (Cert.InBIdeal.defs (F := Ideal)) (onTc (τ := Cert.InBIdeal.τ) (Cert.InBIdeal.main (F := Ideal))) ⟨m, fun _ => 0, g⟩ (fun r => (∀ c : Dev Cert.InBIdeal.nD,
      r.2.mem ((c.tc : Thread Cert.InBIdeal.nD Cert.InBIdeal.τ).loc Cert.InBIdeal.main_arg0) = m ((c.tc : Thread Cert.InBIdeal.nD Cert.InBIdeal.τ).loc Cert.InBIdeal.main_arg0)
      ∧ r.2.mem ((c.tc : Thread Cert.InBIdeal.nD Cert.InBIdeal.τ).loc Cert.InBIdeal.main_arg1) = m ((c.tc : Thread Cert.InBIdeal.nD Cert.InBIdeal.τ).loc Cert.InBIdeal.main_arg1)
      ∧ r.2.mem ((c.tc : Thread Cert.InBIdeal.nD Cert.InBIdeal.τ).loc Cert.InBIdeal.main_arg2) = m ((c.tc : Thread Cert.InBIdeal.nD Cert.InBIdeal.τ).loc Cert.InBIdeal.main_arg2))
      ∧ r.2.sem = fun _ => 0)

def quiescent_InBRefIdeal [hInBRefIdeal : Cert.InBRefIdeal.Facts] : Prop :=
  ∀ (m : (ℓ : Loc Cert.InBRefIdeal.nD Cert.InBRefIdeal.τ Cert.InBRefIdeal.sig) → Buf (Elt Ideal) ℓ) (g : Dev Cert.InBRefIdeal.nD → PrngReg), Pre_InBRefIdeal m →
    θ_run (Cert.InBRefIdeal.defs (F := Ideal)) (onTc (τ := Cert.InBRefIdeal.τ) (Cert.InBRefIdeal.main (F := Ideal))) ⟨m, fun _ => 0, g⟩ (fun r => (∀ c : Dev Cert.InBRefIdeal.nD,
      r.2.mem ((c.tc : Thread Cert.InBRefIdeal.nD Cert.InBRefIdeal.τ).loc Cert.InBRefIdeal.main_arg0) = m ((c.tc : Thread Cert.InBRefIdeal.nD Cert.InBRefIdeal.τ).loc Cert.InBRefIdeal.main_arg0)
      ∧ r.2.mem ((c.tc : Thread Cert.InBRefIdeal.nD Cert.InBRefIdeal.τ).loc Cert.InBRefIdeal.main_arg1) = m ((c.tc : Thread Cert.InBRefIdeal.nD Cert.InBRefIdeal.τ).loc Cert.InBRefIdeal.main_arg1)
      ∧ r.2.mem ((c.tc : Thread Cert.InBRefIdeal.nD Cert.InBRefIdeal.τ).loc Cert.InBRefIdeal.main_arg2) = m ((c.tc : Thread Cert.InBRefIdeal.nD Cert.InBRefIdeal.τ).loc Cert.InBRefIdeal.main_arg2))
      ∧ r.2.sem = fun _ => 0)

def quiescent_ProjF [hProjF : Cert.ProjF.Facts] : Prop :=
  ∀ (m : (ℓ : Loc Cert.ProjF.nD Cert.ProjF.τ Cert.ProjF.sig) → Buf (Elt Bits) ℓ) (g : Dev Cert.ProjF.nD → PrngReg), Pre_ProjF m →
    θ_run (Cert.ProjF.defs (F := Bits)) (onTc (τ := Cert.ProjF.τ) (Cert.ProjF.main (F := Bits))) ⟨m, fun _ => 0, g⟩ (fun r => (∀ c : Dev Cert.ProjF.nD,
      r.2.mem ((c.tc : Thread Cert.ProjF.nD Cert.ProjF.τ).loc Cert.ProjF.main_arg0) = m ((c.tc : Thread Cert.ProjF.nD Cert.ProjF.τ).loc Cert.ProjF.main_arg0)
      ∧ r.2.mem ((c.tc : Thread Cert.ProjF.nD Cert.ProjF.τ).loc Cert.ProjF.main_arg1) = m ((c.tc : Thread Cert.ProjF.nD Cert.ProjF.τ).loc Cert.ProjF.main_arg1))
      ∧ r.2.sem = fun _ => 0)

def quiescent_ProjFIdeal [hProjFIdeal : Cert.ProjFIdeal.Facts] : Prop :=
  ∀ (m : (ℓ : Loc Cert.ProjFIdeal.nD Cert.ProjFIdeal.τ Cert.ProjFIdeal.sig) → Buf (Elt Ideal) ℓ) (g : Dev Cert.ProjFIdeal.nD → PrngReg), Pre_ProjFIdeal m →
    θ_run (Cert.ProjFIdeal.defs (F := Ideal)) (onTc (τ := Cert.ProjFIdeal.τ) (Cert.ProjFIdeal.main (F := Ideal))) ⟨m, fun _ => 0, g⟩ (fun r => (∀ c : Dev Cert.ProjFIdeal.nD,
      r.2.mem ((c.tc : Thread Cert.ProjFIdeal.nD Cert.ProjFIdeal.τ).loc Cert.ProjFIdeal.main_arg0) = m ((c.tc : Thread Cert.ProjFIdeal.nD Cert.ProjFIdeal.τ).loc Cert.ProjFIdeal.main_arg0)
      ∧ r.2.mem ((c.tc : Thread Cert.ProjFIdeal.nD Cert.ProjFIdeal.τ).loc Cert.ProjFIdeal.main_arg1) = m ((c.tc : Thread Cert.ProjFIdeal.nD Cert.ProjFIdeal.τ).loc Cert.ProjFIdeal.main_arg1))
      ∧ r.2.sem = fun _ => 0)

def quiescent_ProjFRefIdeal [hProjFRefIdeal : Cert.ProjFRefIdeal.Facts] : Prop :=
  ∀ (m : (ℓ : Loc Cert.ProjFRefIdeal.nD Cert.ProjFRefIdeal.τ Cert.ProjFRefIdeal.sig) → Buf (Elt Ideal) ℓ) (g : Dev Cert.ProjFRefIdeal.nD → PrngReg), Pre_ProjFRefIdeal m →
    θ_run (Cert.ProjFRefIdeal.defs (F := Ideal)) (onTc (τ := Cert.ProjFRefIdeal.τ) (Cert.ProjFRefIdeal.main (F := Ideal))) ⟨m, fun _ => 0, g⟩ (fun r => (∀ c : Dev Cert.ProjFRefIdeal.nD,
      r.2.mem ((c.tc : Thread Cert.ProjFRefIdeal.nD Cert.ProjFRefIdeal.τ).loc Cert.ProjFRefIdeal.main_arg0) = m ((c.tc : Thread Cert.ProjFRefIdeal.nD Cert.ProjFRefIdeal.τ).loc Cert.ProjFRefIdeal.main_arg0)
      ∧ r.2.mem ((c.tc : Thread Cert.ProjFRefIdeal.nD Cert.ProjFRefIdeal.τ).loc Cert.ProjFRefIdeal.main_arg1) = m ((c.tc : Thread Cert.ProjFRefIdeal.nD Cert.ProjFRefIdeal.τ).loc Cert.ProjFRefIdeal.main_arg1))
      ∧ r.2.sem = fun _ => 0)

def quiescent_GluF [hGluF : Cert.GluF.Facts] : Prop :=
  ∀ (m : (ℓ : Loc Cert.GluF.nD Cert.GluF.τ Cert.GluF.sig) → Buf (Elt Bits) ℓ) (g : Dev Cert.GluF.nD → PrngReg), Pre_GluF m →
    θ_run (Cert.GluF.defs (F := Bits)) (onTc (τ := Cert.GluF.τ) (Cert.GluF.main (F := Bits))) ⟨m, fun _ => 0, g⟩ (fun r => (∀ c : Dev Cert.GluF.nD,
      r.2.mem ((c.tc : Thread Cert.GluF.nD Cert.GluF.τ).loc Cert.GluF.main_arg0) = m ((c.tc : Thread Cert.GluF.nD Cert.GluF.τ).loc Cert.GluF.main_arg0)
      ∧ r.2.mem ((c.tc : Thread Cert.GluF.nD Cert.GluF.τ).loc Cert.GluF.main_arg1) = m ((c.tc : Thread Cert.GluF.nD Cert.GluF.τ).loc Cert.GluF.main_arg1))
      ∧ r.2.sem = fun _ => 0)

def quiescent_GluFIdeal [hGluFIdeal : Cert.GluFIdeal.Facts] : Prop :=
  ∀ (m : (ℓ : Loc Cert.GluFIdeal.nD Cert.GluFIdeal.τ Cert.GluFIdeal.sig) → Buf (Elt Ideal) ℓ) (g : Dev Cert.GluFIdeal.nD → PrngReg), Pre_GluFIdeal m →
    θ_run (Cert.GluFIdeal.defs (F := Ideal)) (onTc (τ := Cert.GluFIdeal.τ) (Cert.GluFIdeal.main (F := Ideal))) ⟨m, fun _ => 0, g⟩ (fun r => (∀ c : Dev Cert.GluFIdeal.nD,
      r.2.mem ((c.tc : Thread Cert.GluFIdeal.nD Cert.GluFIdeal.τ).loc Cert.GluFIdeal.main_arg0) = m ((c.tc : Thread Cert.GluFIdeal.nD Cert.GluFIdeal.τ).loc Cert.GluFIdeal.main_arg0)
      ∧ r.2.mem ((c.tc : Thread Cert.GluFIdeal.nD Cert.GluFIdeal.τ).loc Cert.GluFIdeal.main_arg1) = m ((c.tc : Thread Cert.GluFIdeal.nD Cert.GluFIdeal.τ).loc Cert.GluFIdeal.main_arg1))
      ∧ r.2.sem = fun _ => 0)

def quiescent_GluFRefIdeal [hGluFRefIdeal : Cert.GluFRefIdeal.Facts] : Prop :=
  ∀ (m : (ℓ : Loc Cert.GluFRefIdeal.nD Cert.GluFRefIdeal.τ Cert.GluFRefIdeal.sig) → Buf (Elt Ideal) ℓ) (g : Dev Cert.GluFRefIdeal.nD → PrngReg), Pre_GluFRefIdeal m →
    θ_run (Cert.GluFRefIdeal.defs (F := Ideal)) (onTc (τ := Cert.GluFRefIdeal.τ) (Cert.GluFRefIdeal.main (F := Ideal))) ⟨m, fun _ => 0, g⟩ (fun r => (∀ c : Dev Cert.GluFRefIdeal.nD,
      r.2.mem ((c.tc : Thread Cert.GluFRefIdeal.nD Cert.GluFRefIdeal.τ).loc Cert.GluFRefIdeal.main_arg0) = m ((c.tc : Thread Cert.GluFRefIdeal.nD Cert.GluFRefIdeal.τ).loc Cert.GluFRefIdeal.main_arg0)
      ∧ r.2.mem ((c.tc : Thread Cert.GluFRefIdeal.nD Cert.GluFRefIdeal.τ).loc Cert.GluFRefIdeal.main_arg1) = m ((c.tc : Thread Cert.GluFRefIdeal.nD Cert.GluFRefIdeal.τ).loc Cert.GluFRefIdeal.main_arg1))
      ∧ r.2.sem = fun _ => 0)

def quiescent_OutF [hOutF : Cert.OutF.Facts] : Prop :=
  ∀ (m : (ℓ : Loc Cert.OutF.nD Cert.OutF.τ Cert.OutF.sig) → Buf (Elt Bits) ℓ) (g : Dev Cert.OutF.nD → PrngReg), Pre_OutF m →
    θ_run (Cert.OutF.defs (F := Bits)) (onTc (τ := Cert.OutF.τ) (Cert.OutF.main (F := Bits))) ⟨m, fun _ => 0, g⟩ (fun r => (∀ c : Dev Cert.OutF.nD,
      r.2.mem ((c.tc : Thread Cert.OutF.nD Cert.OutF.τ).loc Cert.OutF.main_arg0) = m ((c.tc : Thread Cert.OutF.nD Cert.OutF.τ).loc Cert.OutF.main_arg0)
      ∧ r.2.mem ((c.tc : Thread Cert.OutF.nD Cert.OutF.τ).loc Cert.OutF.main_arg1) = m ((c.tc : Thread Cert.OutF.nD Cert.OutF.τ).loc Cert.OutF.main_arg1)
      ∧ r.2.mem ((c.tc : Thread Cert.OutF.nD Cert.OutF.τ).loc Cert.OutF.main_arg2) = m ((c.tc : Thread Cert.OutF.nD Cert.OutF.τ).loc Cert.OutF.main_arg2))
      ∧ r.2.sem = fun _ => 0)

def quiescent_OutFIdeal [hOutFIdeal : Cert.OutFIdeal.Facts] : Prop :=
  ∀ (m : (ℓ : Loc Cert.OutFIdeal.nD Cert.OutFIdeal.τ Cert.OutFIdeal.sig) → Buf (Elt Ideal) ℓ) (g : Dev Cert.OutFIdeal.nD → PrngReg), Pre_OutFIdeal m →
    θ_run (Cert.OutFIdeal.defs (F := Ideal)) (onTc (τ := Cert.OutFIdeal.τ) (Cert.OutFIdeal.main (F := Ideal))) ⟨m, fun _ => 0, g⟩ (fun r => (∀ c : Dev Cert.OutFIdeal.nD,
      r.2.mem ((c.tc : Thread Cert.OutFIdeal.nD Cert.OutFIdeal.τ).loc Cert.OutFIdeal.main_arg0) = m ((c.tc : Thread Cert.OutFIdeal.nD Cert.OutFIdeal.τ).loc Cert.OutFIdeal.main_arg0)
      ∧ r.2.mem ((c.tc : Thread Cert.OutFIdeal.nD Cert.OutFIdeal.τ).loc Cert.OutFIdeal.main_arg1) = m ((c.tc : Thread Cert.OutFIdeal.nD Cert.OutFIdeal.τ).loc Cert.OutFIdeal.main_arg1)
      ∧ r.2.mem ((c.tc : Thread Cert.OutFIdeal.nD Cert.OutFIdeal.τ).loc Cert.OutFIdeal.main_arg2) = m ((c.tc : Thread Cert.OutFIdeal.nD Cert.OutFIdeal.τ).loc Cert.OutFIdeal.main_arg2))
      ∧ r.2.sem = fun _ => 0)

def quiescent_OutFRefIdeal [hOutFRefIdeal : Cert.OutFRefIdeal.Facts] : Prop :=
  ∀ (m : (ℓ : Loc Cert.OutFRefIdeal.nD Cert.OutFRefIdeal.τ Cert.OutFRefIdeal.sig) → Buf (Elt Ideal) ℓ) (g : Dev Cert.OutFRefIdeal.nD → PrngReg), Pre_OutFRefIdeal m →
    θ_run (Cert.OutFRefIdeal.defs (F := Ideal)) (onTc (τ := Cert.OutFRefIdeal.τ) (Cert.OutFRefIdeal.main (F := Ideal))) ⟨m, fun _ => 0, g⟩ (fun r => (∀ c : Dev Cert.OutFRefIdeal.nD,
      r.2.mem ((c.tc : Thread Cert.OutFRefIdeal.nD Cert.OutFRefIdeal.τ).loc Cert.OutFRefIdeal.main_arg0) = m ((c.tc : Thread Cert.OutFRefIdeal.nD Cert.OutFRefIdeal.τ).loc Cert.OutFRefIdeal.main_arg0)
      ∧ r.2.mem ((c.tc : Thread Cert.OutFRefIdeal.nD Cert.OutFRefIdeal.τ).loc Cert.OutFRefIdeal.main_arg1) = m ((c.tc : Thread Cert.OutFRefIdeal.nD Cert.OutFRefIdeal.τ).loc Cert.OutFRefIdeal.main_arg1)
      ∧ r.2.mem ((c.tc : Thread Cert.OutFRefIdeal.nD Cert.OutFRefIdeal.τ).loc Cert.OutFRefIdeal.main_arg2) = m ((c.tc : Thread Cert.OutFRefIdeal.nD Cert.OutFRefIdeal.τ).loc Cert.OutFRefIdeal.main_arg2))
      ∧ r.2.sem = fun _ => 0)

def quiescent_UpF [hUpF : Cert.UpF.Facts] : Prop :=
  ∀ (m : (ℓ : Loc Cert.UpF.nD Cert.UpF.τ Cert.UpF.sig) → Buf (Elt Bits) ℓ) (g : Dev Cert.UpF.nD → PrngReg), Pre_UpF m →
    θ_run (Cert.UpF.defs (F := Bits)) (onTc (τ := Cert.UpF.τ) (Cert.UpF.main (F := Bits))) ⟨m, fun _ => 0, g⟩ (fun r => (∀ c : Dev Cert.UpF.nD,
      r.2.mem ((c.tc : Thread Cert.UpF.nD Cert.UpF.τ).loc Cert.UpF.main_arg0) = m ((c.tc : Thread Cert.UpF.nD Cert.UpF.τ).loc Cert.UpF.main_arg0)
      ∧ r.2.mem ((c.tc : Thread Cert.UpF.nD Cert.UpF.τ).loc Cert.UpF.main_arg1) = m ((c.tc : Thread Cert.UpF.nD Cert.UpF.τ).loc Cert.UpF.main_arg1))
      ∧ r.2.sem = fun _ => 0)

def quiescent_UpFIdeal [hUpFIdeal : Cert.UpFIdeal.Facts] : Prop :=
  ∀ (m : (ℓ : Loc Cert.UpFIdeal.nD Cert.UpFIdeal.τ Cert.UpFIdeal.sig) → Buf (Elt Ideal) ℓ) (g : Dev Cert.UpFIdeal.nD → PrngReg), Pre_UpFIdeal m →
    θ_run (Cert.UpFIdeal.defs (F := Ideal)) (onTc (τ := Cert.UpFIdeal.τ) (Cert.UpFIdeal.main (F := Ideal))) ⟨m, fun _ => 0, g⟩ (fun r => (∀ c : Dev Cert.UpFIdeal.nD,
      r.2.mem ((c.tc : Thread Cert.UpFIdeal.nD Cert.UpFIdeal.τ).loc Cert.UpFIdeal.main_arg0) = m ((c.tc : Thread Cert.UpFIdeal.nD Cert.UpFIdeal.τ).loc Cert.UpFIdeal.main_arg0)
      ∧ r.2.mem ((c.tc : Thread Cert.UpFIdeal.nD Cert.UpFIdeal.τ).loc Cert.UpFIdeal.main_arg1) = m ((c.tc : Thread Cert.UpFIdeal.nD Cert.UpFIdeal.τ).loc Cert.UpFIdeal.main_arg1))
      ∧ r.2.sem = fun _ => 0)

def quiescent_UpFRefIdeal [hUpFRefIdeal : Cert.UpFRefIdeal.Facts] : Prop :=
  ∀ (m : (ℓ : Loc Cert.UpFRefIdeal.nD Cert.UpFRefIdeal.τ Cert.UpFRefIdeal.sig) → Buf (Elt Ideal) ℓ) (g : Dev Cert.UpFRefIdeal.nD → PrngReg), Pre_UpFRefIdeal m →
    θ_run (Cert.UpFRefIdeal.defs (F := Ideal)) (onTc (τ := Cert.UpFRefIdeal.τ) (Cert.UpFRefIdeal.main (F := Ideal))) ⟨m, fun _ => 0, g⟩ (fun r => (∀ c : Dev Cert.UpFRefIdeal.nD,
      r.2.mem ((c.tc : Thread Cert.UpFRefIdeal.nD Cert.UpFRefIdeal.τ).loc Cert.UpFRefIdeal.main_arg0) = m ((c.tc : Thread Cert.UpFRefIdeal.nD Cert.UpFRefIdeal.τ).loc Cert.UpFRefIdeal.main_arg0)
      ∧ r.2.mem ((c.tc : Thread Cert.UpFRefIdeal.nD Cert.UpFRefIdeal.τ).loc Cert.UpFRefIdeal.main_arg1) = m ((c.tc : Thread Cert.UpFRefIdeal.nD Cert.UpFRefIdeal.τ).loc Cert.UpFRefIdeal.main_arg1))
      ∧ r.2.sem = fun _ => 0)

def quiescent_DownF [hDownF : Cert.DownF.Facts] : Prop :=
  ∀ (m : (ℓ : Loc Cert.DownF.nD Cert.DownF.τ Cert.DownF.sig) → Buf (Elt Bits) ℓ) (g : Dev Cert.DownF.nD → PrngReg), Pre_DownF m →
    θ_run (Cert.DownF.defs (F := Bits)) (onTc (τ := Cert.DownF.τ) (Cert.DownF.main (F := Bits))) ⟨m, fun _ => 0, g⟩ (fun r => (∀ c : Dev Cert.DownF.nD,
      r.2.mem ((c.tc : Thread Cert.DownF.nD Cert.DownF.τ).loc Cert.DownF.main_arg0) = m ((c.tc : Thread Cert.DownF.nD Cert.DownF.τ).loc Cert.DownF.main_arg0)
      ∧ r.2.mem ((c.tc : Thread Cert.DownF.nD Cert.DownF.τ).loc Cert.DownF.main_arg1) = m ((c.tc : Thread Cert.DownF.nD Cert.DownF.τ).loc Cert.DownF.main_arg1)
      ∧ r.2.mem ((c.tc : Thread Cert.DownF.nD Cert.DownF.τ).loc Cert.DownF.main_arg2) = m ((c.tc : Thread Cert.DownF.nD Cert.DownF.τ).loc Cert.DownF.main_arg2))
      ∧ r.2.sem = fun _ => 0)

def quiescent_DownFIdeal [hDownFIdeal : Cert.DownFIdeal.Facts] : Prop :=
  ∀ (m : (ℓ : Loc Cert.DownFIdeal.nD Cert.DownFIdeal.τ Cert.DownFIdeal.sig) → Buf (Elt Ideal) ℓ) (g : Dev Cert.DownFIdeal.nD → PrngReg), Pre_DownFIdeal m →
    θ_run (Cert.DownFIdeal.defs (F := Ideal)) (onTc (τ := Cert.DownFIdeal.τ) (Cert.DownFIdeal.main (F := Ideal))) ⟨m, fun _ => 0, g⟩ (fun r => (∀ c : Dev Cert.DownFIdeal.nD,
      r.2.mem ((c.tc : Thread Cert.DownFIdeal.nD Cert.DownFIdeal.τ).loc Cert.DownFIdeal.main_arg0) = m ((c.tc : Thread Cert.DownFIdeal.nD Cert.DownFIdeal.τ).loc Cert.DownFIdeal.main_arg0)
      ∧ r.2.mem ((c.tc : Thread Cert.DownFIdeal.nD Cert.DownFIdeal.τ).loc Cert.DownFIdeal.main_arg1) = m ((c.tc : Thread Cert.DownFIdeal.nD Cert.DownFIdeal.τ).loc Cert.DownFIdeal.main_arg1)
      ∧ r.2.mem ((c.tc : Thread Cert.DownFIdeal.nD Cert.DownFIdeal.τ).loc Cert.DownFIdeal.main_arg2) = m ((c.tc : Thread Cert.DownFIdeal.nD Cert.DownFIdeal.τ).loc Cert.DownFIdeal.main_arg2))
      ∧ r.2.sem = fun _ => 0)

def quiescent_DownFRefIdeal [hDownFRefIdeal : Cert.DownFRefIdeal.Facts] : Prop :=
  ∀ (m : (ℓ : Loc Cert.DownFRefIdeal.nD Cert.DownFRefIdeal.τ Cert.DownFRefIdeal.sig) → Buf (Elt Ideal) ℓ) (g : Dev Cert.DownFRefIdeal.nD → PrngReg), Pre_DownFRefIdeal m →
    θ_run (Cert.DownFRefIdeal.defs (F := Ideal)) (onTc (τ := Cert.DownFRefIdeal.τ) (Cert.DownFRefIdeal.main (F := Ideal))) ⟨m, fun _ => 0, g⟩ (fun r => (∀ c : Dev Cert.DownFRefIdeal.nD,
      r.2.mem ((c.tc : Thread Cert.DownFRefIdeal.nD Cert.DownFRefIdeal.τ).loc Cert.DownFRefIdeal.main_arg0) = m ((c.tc : Thread Cert.DownFRefIdeal.nD Cert.DownFRefIdeal.τ).loc Cert.DownFRefIdeal.main_arg0)
      ∧ r.2.mem ((c.tc : Thread Cert.DownFRefIdeal.nD Cert.DownFRefIdeal.τ).loc Cert.DownFRefIdeal.main_arg1) = m ((c.tc : Thread Cert.DownFRefIdeal.nD Cert.DownFRefIdeal.τ).loc Cert.DownFRefIdeal.main_arg1)
      ∧ r.2.mem ((c.tc : Thread Cert.DownFRefIdeal.nD Cert.DownFRefIdeal.τ).loc Cert.DownFRefIdeal.main_arg2) = m ((c.tc : Thread Cert.DownFRefIdeal.nD Cert.DownFRefIdeal.τ).loc Cert.DownFRefIdeal.main_arg2))
      ∧ r.2.sem = fun _ => 0)

def quiescent_SsdF [hSsdF : Cert.SsdF.Facts] : Prop :=
  ∀ (m : (ℓ : Loc Cert.SsdF.nD Cert.SsdF.τ Cert.SsdF.sig) → Buf (Elt Bits) ℓ) (g : Dev Cert.SsdF.nD → PrngReg), Pre_SsdF m →
    θ_run (Cert.SsdF.defs (F := Bits)) (onTc (τ := Cert.SsdF.τ) (Cert.SsdF.main (F := Bits))) ⟨m, fun _ => 0, g⟩ (fun r => (∀ c : Dev Cert.SsdF.nD,
      r.2.mem ((c.tc : Thread Cert.SsdF.nD Cert.SsdF.τ).loc Cert.SsdF.main_arg0) = m ((c.tc : Thread Cert.SsdF.nD Cert.SsdF.τ).loc Cert.SsdF.main_arg0)
      ∧ r.2.mem ((c.tc : Thread Cert.SsdF.nD Cert.SsdF.τ).loc Cert.SsdF.main_arg1) = m ((c.tc : Thread Cert.SsdF.nD Cert.SsdF.τ).loc Cert.SsdF.main_arg1)
      ∧ r.2.mem ((c.tc : Thread Cert.SsdF.nD Cert.SsdF.τ).loc Cert.SsdF.main_arg2) = m ((c.tc : Thread Cert.SsdF.nD Cert.SsdF.τ).loc Cert.SsdF.main_arg2)
      ∧ r.2.mem ((c.tc : Thread Cert.SsdF.nD Cert.SsdF.τ).loc Cert.SsdF.main_arg3) = m ((c.tc : Thread Cert.SsdF.nD Cert.SsdF.τ).loc Cert.SsdF.main_arg3)
      ∧ r.2.mem ((c.tc : Thread Cert.SsdF.nD Cert.SsdF.τ).loc Cert.SsdF.main_arg4) = m ((c.tc : Thread Cert.SsdF.nD Cert.SsdF.τ).loc Cert.SsdF.main_arg4)
      ∧ r.2.mem ((c.tc : Thread Cert.SsdF.nD Cert.SsdF.τ).loc Cert.SsdF.main_arg5) = m ((c.tc : Thread Cert.SsdF.nD Cert.SsdF.τ).loc Cert.SsdF.main_arg5))
      ∧ r.2.sem = fun _ => 0)

def quiescent_SsdFIdeal [hSsdFIdeal : Cert.SsdFIdeal.Facts] : Prop :=
  ∀ (m : (ℓ : Loc Cert.SsdFIdeal.nD Cert.SsdFIdeal.τ Cert.SsdFIdeal.sig) → Buf (Elt Ideal) ℓ) (g : Dev Cert.SsdFIdeal.nD → PrngReg), Pre_SsdFIdeal m →
    θ_run (Cert.SsdFIdeal.defs (F := Ideal)) (onTc (τ := Cert.SsdFIdeal.τ) (Cert.SsdFIdeal.main (F := Ideal))) ⟨m, fun _ => 0, g⟩ (fun r => (∀ c : Dev Cert.SsdFIdeal.nD,
      r.2.mem ((c.tc : Thread Cert.SsdFIdeal.nD Cert.SsdFIdeal.τ).loc Cert.SsdFIdeal.main_arg0) = m ((c.tc : Thread Cert.SsdFIdeal.nD Cert.SsdFIdeal.τ).loc Cert.SsdFIdeal.main_arg0)
      ∧ r.2.mem ((c.tc : Thread Cert.SsdFIdeal.nD Cert.SsdFIdeal.τ).loc Cert.SsdFIdeal.main_arg1) = m ((c.tc : Thread Cert.SsdFIdeal.nD Cert.SsdFIdeal.τ).loc Cert.SsdFIdeal.main_arg1)
      ∧ r.2.mem ((c.tc : Thread Cert.SsdFIdeal.nD Cert.SsdFIdeal.τ).loc Cert.SsdFIdeal.main_arg2) = m ((c.tc : Thread Cert.SsdFIdeal.nD Cert.SsdFIdeal.τ).loc Cert.SsdFIdeal.main_arg2)
      ∧ r.2.mem ((c.tc : Thread Cert.SsdFIdeal.nD Cert.SsdFIdeal.τ).loc Cert.SsdFIdeal.main_arg3) = m ((c.tc : Thread Cert.SsdFIdeal.nD Cert.SsdFIdeal.τ).loc Cert.SsdFIdeal.main_arg3)
      ∧ r.2.mem ((c.tc : Thread Cert.SsdFIdeal.nD Cert.SsdFIdeal.τ).loc Cert.SsdFIdeal.main_arg4) = m ((c.tc : Thread Cert.SsdFIdeal.nD Cert.SsdFIdeal.τ).loc Cert.SsdFIdeal.main_arg4)
      ∧ r.2.mem ((c.tc : Thread Cert.SsdFIdeal.nD Cert.SsdFIdeal.τ).loc Cert.SsdFIdeal.main_arg5) = m ((c.tc : Thread Cert.SsdFIdeal.nD Cert.SsdFIdeal.τ).loc Cert.SsdFIdeal.main_arg5))
      ∧ r.2.sem = fun _ => 0)

def quiescent_SsdFIdeal_pre_steps_decay_forward [hSsdFIdeal : Cert.SsdFIdeal.Facts] [hPre_steps_decay_forward : Cert.Pre_steps_decay_forward.Facts] : Prop :=
  ∀ (m : (ℓ : Loc Cert.SsdFIdeal.nD Cert.SsdFIdeal.τ Cert.SsdFIdeal.sig) → Buf (Elt Ideal) ℓ) (g : Dev Cert.SsdFIdeal.nD → PrngReg), Pre_SsdFIdeal_steps_decay_forward m →
    θ_run (Cert.SsdFIdeal.defs (F := Ideal)) (onTc (τ := Cert.SsdFIdeal.τ) (Cert.SsdFIdeal.main (F := Ideal))) ⟨m, fun _ => 0, g⟩ (fun r => (∀ c : Dev Cert.SsdFIdeal.nD,
      r.2.mem ((c.tc : Thread Cert.SsdFIdeal.nD Cert.SsdFIdeal.τ).loc Cert.SsdFIdeal.main_arg0) = m ((c.tc : Thread Cert.SsdFIdeal.nD Cert.SsdFIdeal.τ).loc Cert.SsdFIdeal.main_arg0)
      ∧ r.2.mem ((c.tc : Thread Cert.SsdFIdeal.nD Cert.SsdFIdeal.τ).loc Cert.SsdFIdeal.main_arg1) = m ((c.tc : Thread Cert.SsdFIdeal.nD Cert.SsdFIdeal.τ).loc Cert.SsdFIdeal.main_arg1)
      ∧ r.2.mem ((c.tc : Thread Cert.SsdFIdeal.nD Cert.SsdFIdeal.τ).loc Cert.SsdFIdeal.main_arg2) = m ((c.tc : Thread Cert.SsdFIdeal.nD Cert.SsdFIdeal.τ).loc Cert.SsdFIdeal.main_arg2)
      ∧ r.2.mem ((c.tc : Thread Cert.SsdFIdeal.nD Cert.SsdFIdeal.τ).loc Cert.SsdFIdeal.main_arg3) = m ((c.tc : Thread Cert.SsdFIdeal.nD Cert.SsdFIdeal.τ).loc Cert.SsdFIdeal.main_arg3)
      ∧ r.2.mem ((c.tc : Thread Cert.SsdFIdeal.nD Cert.SsdFIdeal.τ).loc Cert.SsdFIdeal.main_arg4) = m ((c.tc : Thread Cert.SsdFIdeal.nD Cert.SsdFIdeal.τ).loc Cert.SsdFIdeal.main_arg4)
      ∧ r.2.mem ((c.tc : Thread Cert.SsdFIdeal.nD Cert.SsdFIdeal.τ).loc Cert.SsdFIdeal.main_arg5) = m ((c.tc : Thread Cert.SsdFIdeal.nD Cert.SsdFIdeal.τ).loc Cert.SsdFIdeal.main_arg5))
      ∧ r.2.sem = fun _ => 0)

def quiescent_SsdFRefIdeal [hSsdFRefIdeal : Cert.SsdFRefIdeal.Facts] : Prop :=
  ∀ (m : (ℓ : Loc Cert.SsdFRefIdeal.nD Cert.SsdFRefIdeal.τ Cert.SsdFRefIdeal.sig) → Buf (Elt Ideal) ℓ) (g : Dev Cert.SsdFRefIdeal.nD → PrngReg), Pre_SsdFRefIdeal m →
    θ_run (Cert.SsdFRefIdeal.defs (F := Ideal)) (onTc (τ := Cert.SsdFRefIdeal.τ) (Cert.SsdFRefIdeal.main (F := Ideal))) ⟨m, fun _ => 0, g⟩ (fun r => (∀ c : Dev Cert.SsdFRefIdeal.nD,
      r.2.mem ((c.tc : Thread Cert.SsdFRefIdeal.nD Cert.SsdFRefIdeal.τ).loc Cert.SsdFRefIdeal.main_arg0) = m ((c.tc : Thread Cert.SsdFRefIdeal.nD Cert.SsdFRefIdeal.τ).loc Cert.SsdFRefIdeal.main_arg0)
      ∧ r.2.mem ((c.tc : Thread Cert.SsdFRefIdeal.nD Cert.SsdFRefIdeal.τ).loc Cert.SsdFRefIdeal.main_arg1) = m ((c.tc : Thread Cert.SsdFRefIdeal.nD Cert.SsdFRefIdeal.τ).loc Cert.SsdFRefIdeal.main_arg1)
      ∧ r.2.mem ((c.tc : Thread Cert.SsdFRefIdeal.nD Cert.SsdFRefIdeal.τ).loc Cert.SsdFRefIdeal.main_arg2) = m ((c.tc : Thread Cert.SsdFRefIdeal.nD Cert.SsdFRefIdeal.τ).loc Cert.SsdFRefIdeal.main_arg2)
      ∧ r.2.mem ((c.tc : Thread Cert.SsdFRefIdeal.nD Cert.SsdFRefIdeal.τ).loc Cert.SsdFRefIdeal.main_arg3) = m ((c.tc : Thread Cert.SsdFRefIdeal.nD Cert.SsdFRefIdeal.τ).loc Cert.SsdFRefIdeal.main_arg3)
      ∧ r.2.mem ((c.tc : Thread Cert.SsdFRefIdeal.nD Cert.SsdFRefIdeal.τ).loc Cert.SsdFRefIdeal.main_arg4) = m ((c.tc : Thread Cert.SsdFRefIdeal.nD Cert.SsdFRefIdeal.τ).loc Cert.SsdFRefIdeal.main_arg4)
      ∧ r.2.mem ((c.tc : Thread Cert.SsdFRefIdeal.nD Cert.SsdFRefIdeal.τ).loc Cert.SsdFRefIdeal.main_arg5) = m ((c.tc : Thread Cert.SsdFRefIdeal.nD Cert.SsdFRefIdeal.τ).loc Cert.SsdFRefIdeal.main_arg5))
      ∧ r.2.sem = fun _ => 0)

def quiescent_SsdFRefIdeal_pre_steps_decay_forward [hSsdFRefIdeal : Cert.SsdFRefIdeal.Facts] [hPre_steps_decay_forward : Cert.Pre_steps_decay_forward.Facts] : Prop :=
  ∀ (m : (ℓ : Loc Cert.SsdFRefIdeal.nD Cert.SsdFRefIdeal.τ Cert.SsdFRefIdeal.sig) → Buf (Elt Ideal) ℓ) (g : Dev Cert.SsdFRefIdeal.nD → PrngReg), Pre_SsdFRefIdeal_steps_decay_forward m →
    θ_run (Cert.SsdFRefIdeal.defs (F := Ideal)) (onTc (τ := Cert.SsdFRefIdeal.τ) (Cert.SsdFRefIdeal.main (F := Ideal))) ⟨m, fun _ => 0, g⟩ (fun r => (∀ c : Dev Cert.SsdFRefIdeal.nD,
      r.2.mem ((c.tc : Thread Cert.SsdFRefIdeal.nD Cert.SsdFRefIdeal.τ).loc Cert.SsdFRefIdeal.main_arg0) = m ((c.tc : Thread Cert.SsdFRefIdeal.nD Cert.SsdFRefIdeal.τ).loc Cert.SsdFRefIdeal.main_arg0)
      ∧ r.2.mem ((c.tc : Thread Cert.SsdFRefIdeal.nD Cert.SsdFRefIdeal.τ).loc Cert.SsdFRefIdeal.main_arg1) = m ((c.tc : Thread Cert.SsdFRefIdeal.nD Cert.SsdFRefIdeal.τ).loc Cert.SsdFRefIdeal.main_arg1)
      ∧ r.2.mem ((c.tc : Thread Cert.SsdFRefIdeal.nD Cert.SsdFRefIdeal.τ).loc Cert.SsdFRefIdeal.main_arg2) = m ((c.tc : Thread Cert.SsdFRefIdeal.nD Cert.SsdFRefIdeal.τ).loc Cert.SsdFRefIdeal.main_arg2)
      ∧ r.2.mem ((c.tc : Thread Cert.SsdFRefIdeal.nD Cert.SsdFRefIdeal.τ).loc Cert.SsdFRefIdeal.main_arg3) = m ((c.tc : Thread Cert.SsdFRefIdeal.nD Cert.SsdFRefIdeal.τ).loc Cert.SsdFRefIdeal.main_arg3)
      ∧ r.2.mem ((c.tc : Thread Cert.SsdFRefIdeal.nD Cert.SsdFRefIdeal.τ).loc Cert.SsdFRefIdeal.main_arg4) = m ((c.tc : Thread Cert.SsdFRefIdeal.nD Cert.SsdFRefIdeal.τ).loc Cert.SsdFRefIdeal.main_arg4)
      ∧ r.2.mem ((c.tc : Thread Cert.SsdFRefIdeal.nD Cert.SsdFRefIdeal.τ).loc Cert.SsdFRefIdeal.main_arg5) = m ((c.tc : Thread Cert.SsdFRefIdeal.nD Cert.SsdFRefIdeal.τ).loc Cert.SsdFRefIdeal.main_arg5))
      ∧ r.2.sem = fun _ => 0)

def quiescent_MergeB [hMergeB : Cert.MergeB.Facts] : Prop :=
  ∀ (m : (ℓ : Loc Cert.MergeB.nD Cert.MergeB.τ Cert.MergeB.sig) → Buf (Elt Bits) ℓ) (g : Dev Cert.MergeB.nD → PrngReg), Pre_MergeB m →
    θ_run (Cert.MergeB.defs (F := Bits)) (onTc (τ := Cert.MergeB.τ) (Cert.MergeB.main (F := Bits))) ⟨m, fun _ => 0, g⟩ (fun r => (∀ c : Dev Cert.MergeB.nD,
      r.2.mem ((c.tc : Thread Cert.MergeB.nD Cert.MergeB.τ).loc Cert.MergeB.main_arg0) = m ((c.tc : Thread Cert.MergeB.nD Cert.MergeB.τ).loc Cert.MergeB.main_arg0)
      ∧ r.2.mem ((c.tc : Thread Cert.MergeB.nD Cert.MergeB.τ).loc Cert.MergeB.main_arg1) = m ((c.tc : Thread Cert.MergeB.nD Cert.MergeB.τ).loc Cert.MergeB.main_arg1)
      ∧ r.2.mem ((c.tc : Thread Cert.MergeB.nD Cert.MergeB.τ).loc Cert.MergeB.main_arg2) = m ((c.tc : Thread Cert.MergeB.nD Cert.MergeB.τ).loc Cert.MergeB.main_arg2)
      ∧ r.2.mem ((c.tc : Thread Cert.MergeB.nD Cert.MergeB.τ).loc Cert.MergeB.main_arg3) = m ((c.tc : Thread Cert.MergeB.nD Cert.MergeB.τ).loc Cert.MergeB.main_arg3))
      ∧ r.2.sem = fun _ => 0)

def quiescent_MergeBIdeal [hMergeBIdeal : Cert.MergeBIdeal.Facts] : Prop :=
  ∀ (m : (ℓ : Loc Cert.MergeBIdeal.nD Cert.MergeBIdeal.τ Cert.MergeBIdeal.sig) → Buf (Elt Ideal) ℓ) (g : Dev Cert.MergeBIdeal.nD → PrngReg), Pre_MergeBIdeal m →
    θ_run (Cert.MergeBIdeal.defs (F := Ideal)) (onTc (τ := Cert.MergeBIdeal.τ) (Cert.MergeBIdeal.main (F := Ideal))) ⟨m, fun _ => 0, g⟩ (fun r => (∀ c : Dev Cert.MergeBIdeal.nD,
      r.2.mem ((c.tc : Thread Cert.MergeBIdeal.nD Cert.MergeBIdeal.τ).loc Cert.MergeBIdeal.main_arg0) = m ((c.tc : Thread Cert.MergeBIdeal.nD Cert.MergeBIdeal.τ).loc Cert.MergeBIdeal.main_arg0)
      ∧ r.2.mem ((c.tc : Thread Cert.MergeBIdeal.nD Cert.MergeBIdeal.τ).loc Cert.MergeBIdeal.main_arg1) = m ((c.tc : Thread Cert.MergeBIdeal.nD Cert.MergeBIdeal.τ).loc Cert.MergeBIdeal.main_arg1)
      ∧ r.2.mem ((c.tc : Thread Cert.MergeBIdeal.nD Cert.MergeBIdeal.τ).loc Cert.MergeBIdeal.main_arg2) = m ((c.tc : Thread Cert.MergeBIdeal.nD Cert.MergeBIdeal.τ).loc Cert.MergeBIdeal.main_arg2)
      ∧ r.2.mem ((c.tc : Thread Cert.MergeBIdeal.nD Cert.MergeBIdeal.τ).loc Cert.MergeBIdeal.main_arg3) = m ((c.tc : Thread Cert.MergeBIdeal.nD Cert.MergeBIdeal.τ).loc Cert.MergeBIdeal.main_arg3))
      ∧ r.2.sem = fun _ => 0)

def quiescent_MergeBRefIdeal [hMergeBRefIdeal : Cert.MergeBRefIdeal.Facts] : Prop :=
  ∀ (m : (ℓ : Loc Cert.MergeBRefIdeal.nD Cert.MergeBRefIdeal.τ Cert.MergeBRefIdeal.sig) → Buf (Elt Ideal) ℓ) (g : Dev Cert.MergeBRefIdeal.nD → PrngReg), Pre_MergeBRefIdeal m →
    θ_run (Cert.MergeBRefIdeal.defs (F := Ideal)) (onTc (τ := Cert.MergeBRefIdeal.τ) (Cert.MergeBRefIdeal.main (F := Ideal))) ⟨m, fun _ => 0, g⟩ (fun r => (∀ c : Dev Cert.MergeBRefIdeal.nD,
      r.2.mem ((c.tc : Thread Cert.MergeBRefIdeal.nD Cert.MergeBRefIdeal.τ).loc Cert.MergeBRefIdeal.main_arg0) = m ((c.tc : Thread Cert.MergeBRefIdeal.nD Cert.MergeBRefIdeal.τ).loc Cert.MergeBRefIdeal.main_arg0)
      ∧ r.2.mem ((c.tc : Thread Cert.MergeBRefIdeal.nD Cert.MergeBRefIdeal.τ).loc Cert.MergeBRefIdeal.main_arg1) = m ((c.tc : Thread Cert.MergeBRefIdeal.nD Cert.MergeBRefIdeal.τ).loc Cert.MergeBRefIdeal.main_arg1)
      ∧ r.2.mem ((c.tc : Thread Cert.MergeBRefIdeal.nD Cert.MergeBRefIdeal.τ).loc Cert.MergeBRefIdeal.main_arg2) = m ((c.tc : Thread Cert.MergeBRefIdeal.nD Cert.MergeBRefIdeal.τ).loc Cert.MergeBRefIdeal.main_arg2)
      ∧ r.2.mem ((c.tc : Thread Cert.MergeBRefIdeal.nD Cert.MergeBRefIdeal.τ).loc Cert.MergeBRefIdeal.main_arg3) = m ((c.tc : Thread Cert.MergeBRefIdeal.nD Cert.MergeBRefIdeal.τ).loc Cert.MergeBRefIdeal.main_arg3))
      ∧ r.2.sem = fun _ => 0)

def quiescent_MergeF [hMergeF : Cert.MergeF.Facts] : Prop :=
  ∀ (m : (ℓ : Loc Cert.MergeF.nD Cert.MergeF.τ Cert.MergeF.sig) → Buf (Elt Bits) ℓ) (g : Dev Cert.MergeF.nD → PrngReg), Pre_MergeF m →
    θ_run (Cert.MergeF.defs (F := Bits)) (onTc (τ := Cert.MergeF.τ) (Cert.MergeF.main (F := Bits))) ⟨m, fun _ => 0, g⟩ (fun r => (∀ c : Dev Cert.MergeF.nD,
      r.2.mem ((c.tc : Thread Cert.MergeF.nD Cert.MergeF.τ).loc Cert.MergeF.main_arg0) = m ((c.tc : Thread Cert.MergeF.nD Cert.MergeF.τ).loc Cert.MergeF.main_arg0)
      ∧ r.2.mem ((c.tc : Thread Cert.MergeF.nD Cert.MergeF.τ).loc Cert.MergeF.main_arg1) = m ((c.tc : Thread Cert.MergeF.nD Cert.MergeF.τ).loc Cert.MergeF.main_arg1)
      ∧ r.2.mem ((c.tc : Thread Cert.MergeF.nD Cert.MergeF.τ).loc Cert.MergeF.main_arg2) = m ((c.tc : Thread Cert.MergeF.nD Cert.MergeF.τ).loc Cert.MergeF.main_arg2))
      ∧ r.2.sem = fun _ => 0)

def quiescent_MergeFIdeal [hMergeFIdeal : Cert.MergeFIdeal.Facts] : Prop :=
  ∀ (m : (ℓ : Loc Cert.MergeFIdeal.nD Cert.MergeFIdeal.τ Cert.MergeFIdeal.sig) → Buf (Elt Ideal) ℓ) (g : Dev Cert.MergeFIdeal.nD → PrngReg), Pre_MergeFIdeal m →
    θ_run (Cert.MergeFIdeal.defs (F := Ideal)) (onTc (τ := Cert.MergeFIdeal.τ) (Cert.MergeFIdeal.main (F := Ideal))) ⟨m, fun _ => 0, g⟩ (fun r => (∀ c : Dev Cert.MergeFIdeal.nD,
      r.2.mem ((c.tc : Thread Cert.MergeFIdeal.nD Cert.MergeFIdeal.τ).loc Cert.MergeFIdeal.main_arg0) = m ((c.tc : Thread Cert.MergeFIdeal.nD Cert.MergeFIdeal.τ).loc Cert.MergeFIdeal.main_arg0)
      ∧ r.2.mem ((c.tc : Thread Cert.MergeFIdeal.nD Cert.MergeFIdeal.τ).loc Cert.MergeFIdeal.main_arg1) = m ((c.tc : Thread Cert.MergeFIdeal.nD Cert.MergeFIdeal.τ).loc Cert.MergeFIdeal.main_arg1)
      ∧ r.2.mem ((c.tc : Thread Cert.MergeFIdeal.nD Cert.MergeFIdeal.τ).loc Cert.MergeFIdeal.main_arg2) = m ((c.tc : Thread Cert.MergeFIdeal.nD Cert.MergeFIdeal.τ).loc Cert.MergeFIdeal.main_arg2))
      ∧ r.2.sem = fun _ => 0)

def quiescent_MergeFRefIdeal [hMergeFRefIdeal : Cert.MergeFRefIdeal.Facts] : Prop :=
  ∀ (m : (ℓ : Loc Cert.MergeFRefIdeal.nD Cert.MergeFRefIdeal.τ Cert.MergeFRefIdeal.sig) → Buf (Elt Ideal) ℓ) (g : Dev Cert.MergeFRefIdeal.nD → PrngReg), Pre_MergeFRefIdeal m →
    θ_run (Cert.MergeFRefIdeal.defs (F := Ideal)) (onTc (τ := Cert.MergeFRefIdeal.τ) (Cert.MergeFRefIdeal.main (F := Ideal))) ⟨m, fun _ => 0, g⟩ (fun r => (∀ c : Dev Cert.MergeFRefIdeal.nD,
      r.2.mem ((c.tc : Thread Cert.MergeFRefIdeal.nD Cert.MergeFRefIdeal.τ).loc Cert.MergeFRefIdeal.main_arg0) = m ((c.tc : Thread Cert.MergeFRefIdeal.nD Cert.MergeFRefIdeal.τ).loc Cert.MergeFRefIdeal.main_arg0)
      ∧ r.2.mem ((c.tc : Thread Cert.MergeFRefIdeal.nD Cert.MergeFRefIdeal.τ).loc Cert.MergeFRefIdeal.main_arg1) = m ((c.tc : Thread Cert.MergeFRefIdeal.nD Cert.MergeFRefIdeal.τ).loc Cert.MergeFRefIdeal.main_arg1)
      ∧ r.2.mem ((c.tc : Thread Cert.MergeFRefIdeal.nD Cert.MergeFRefIdeal.τ).loc Cert.MergeFRefIdeal.main_arg2) = m ((c.tc : Thread Cert.MergeFRefIdeal.nD Cert.MergeFRefIdeal.τ).loc Cert.MergeFRefIdeal.main_arg2))
      ∧ r.2.sem = fun _ => 0)

def quiescent_StIn [hStIn : Cert.StIn.Facts] : Prop :=
  ∀ (m : (ℓ : Loc Cert.StIn.nD Cert.StIn.τ Cert.StIn.sig) → Buf (Elt Bits) ℓ) (g : Dev Cert.StIn.nD → PrngReg), Pre_StIn m →
    θ_run (Cert.StIn.defs (F := Bits)) (onTc (τ := Cert.StIn.τ) (Cert.StIn.main (F := Bits))) ⟨m, fun _ => 0, g⟩ (fun r => (∀ c : Dev Cert.StIn.nD,
      r.2.mem ((c.tc : Thread Cert.StIn.nD Cert.StIn.τ).loc Cert.StIn.main_arg0) = m ((c.tc : Thread Cert.StIn.nD Cert.StIn.τ).loc Cert.StIn.main_arg0)
      ∧ r.2.mem ((c.tc : Thread Cert.StIn.nD Cert.StIn.τ).loc Cert.StIn.main_arg1) = m ((c.tc : Thread Cert.StIn.nD Cert.StIn.τ).loc Cert.StIn.main_arg1)
      ∧ r.2.mem ((c.tc : Thread Cert.StIn.nD Cert.StIn.τ).loc Cert.StIn.main_arg2) = m ((c.tc : Thread Cert.StIn.nD Cert.StIn.τ).loc Cert.StIn.main_arg2))
      ∧ r.2.sem = fun _ => 0)

def quiescent_StInIdeal [hStInIdeal : Cert.StInIdeal.Facts] : Prop :=
  ∀ (m : (ℓ : Loc Cert.StInIdeal.nD Cert.StInIdeal.τ Cert.StInIdeal.sig) → Buf (Elt Ideal) ℓ) (g : Dev Cert.StInIdeal.nD → PrngReg), Pre_StInIdeal m →
    θ_run (Cert.StInIdeal.defs (F := Ideal)) (onTc (τ := Cert.StInIdeal.τ) (Cert.StInIdeal.main (F := Ideal))) ⟨m, fun _ => 0, g⟩ (fun r => (∀ c : Dev Cert.StInIdeal.nD,
      r.2.mem ((c.tc : Thread Cert.StInIdeal.nD Cert.StInIdeal.τ).loc Cert.StInIdeal.main_arg0) = m ((c.tc : Thread Cert.StInIdeal.nD Cert.StInIdeal.τ).loc Cert.StInIdeal.main_arg0)
      ∧ r.2.mem ((c.tc : Thread Cert.StInIdeal.nD Cert.StInIdeal.τ).loc Cert.StInIdeal.main_arg1) = m ((c.tc : Thread Cert.StInIdeal.nD Cert.StInIdeal.τ).loc Cert.StInIdeal.main_arg1)
      ∧ r.2.mem ((c.tc : Thread Cert.StInIdeal.nD Cert.StInIdeal.τ).loc Cert.StInIdeal.main_arg2) = m ((c.tc : Thread Cert.StInIdeal.nD Cert.StInIdeal.τ).loc Cert.StInIdeal.main_arg2))
      ∧ r.2.sem = fun _ => 0)

def quiescent_StInRefIdeal [hStInRefIdeal : Cert.StInRefIdeal.Facts] : Prop :=
  ∀ (m : (ℓ : Loc Cert.StInRefIdeal.nD Cert.StInRefIdeal.τ Cert.StInRefIdeal.sig) → Buf (Elt Ideal) ℓ) (g : Dev Cert.StInRefIdeal.nD → PrngReg), Pre_StInRefIdeal m →
    θ_run (Cert.StInRefIdeal.defs (F := Ideal)) (onTc (τ := Cert.StInRefIdeal.τ) (Cert.StInRefIdeal.main (F := Ideal))) ⟨m, fun _ => 0, g⟩ (fun r => (∀ c : Dev Cert.StInRefIdeal.nD,
      r.2.mem ((c.tc : Thread Cert.StInRefIdeal.nD Cert.StInRefIdeal.τ).loc Cert.StInRefIdeal.main_arg0) = m ((c.tc : Thread Cert.StInRefIdeal.nD Cert.StInRefIdeal.τ).loc Cert.StInRefIdeal.main_arg0)
      ∧ r.2.mem ((c.tc : Thread Cert.StInRefIdeal.nD Cert.StInRefIdeal.τ).loc Cert.StInRefIdeal.main_arg1) = m ((c.tc : Thread Cert.StInRefIdeal.nD Cert.StInRefIdeal.τ).loc Cert.StInRefIdeal.main_arg1)
      ∧ r.2.mem ((c.tc : Thread Cert.StInRefIdeal.nD Cert.StInRefIdeal.τ).loc Cert.StInRefIdeal.main_arg2) = m ((c.tc : Thread Cert.StInRefIdeal.nD Cert.StInRefIdeal.τ).loc Cert.StInRefIdeal.main_arg2))
      ∧ r.2.sem = fun _ => 0)

def quiescent_StOut [hStOut : Cert.StOut.Facts] : Prop :=
  ∀ (m : (ℓ : Loc Cert.StOut.nD Cert.StOut.τ Cert.StOut.sig) → Buf (Elt Bits) ℓ) (g : Dev Cert.StOut.nD → PrngReg), Pre_StOut m →
    θ_run (Cert.StOut.defs (F := Bits)) (onTc (τ := Cert.StOut.τ) (Cert.StOut.main (F := Bits))) ⟨m, fun _ => 0, g⟩ (fun r => (∀ c : Dev Cert.StOut.nD,
      r.2.mem ((c.tc : Thread Cert.StOut.nD Cert.StOut.τ).loc Cert.StOut.main_arg0) = m ((c.tc : Thread Cert.StOut.nD Cert.StOut.τ).loc Cert.StOut.main_arg0)
      ∧ r.2.mem ((c.tc : Thread Cert.StOut.nD Cert.StOut.τ).loc Cert.StOut.main_arg1) = m ((c.tc : Thread Cert.StOut.nD Cert.StOut.τ).loc Cert.StOut.main_arg1)
      ∧ r.2.mem ((c.tc : Thread Cert.StOut.nD Cert.StOut.τ).loc Cert.StOut.main_arg2) = m ((c.tc : Thread Cert.StOut.nD Cert.StOut.τ).loc Cert.StOut.main_arg2)
      ∧ r.2.mem ((c.tc : Thread Cert.StOut.nD Cert.StOut.τ).loc Cert.StOut.main_arg3) = m ((c.tc : Thread Cert.StOut.nD Cert.StOut.τ).loc Cert.StOut.main_arg3)
      ∧ r.2.mem ((c.tc : Thread Cert.StOut.nD Cert.StOut.τ).loc Cert.StOut.main_arg4) = m ((c.tc : Thread Cert.StOut.nD Cert.StOut.τ).loc Cert.StOut.main_arg4)
      ∧ r.2.mem ((c.tc : Thread Cert.StOut.nD Cert.StOut.τ).loc Cert.StOut.main_arg5) = m ((c.tc : Thread Cert.StOut.nD Cert.StOut.τ).loc Cert.StOut.main_arg5))
      ∧ r.2.sem = fun _ => 0)

def quiescent_StOutIdeal [hStOutIdeal : Cert.StOutIdeal.Facts] : Prop :=
  ∀ (m : (ℓ : Loc Cert.StOutIdeal.nD Cert.StOutIdeal.τ Cert.StOutIdeal.sig) → Buf (Elt Ideal) ℓ) (g : Dev Cert.StOutIdeal.nD → PrngReg), Pre_StOutIdeal m →
    θ_run (Cert.StOutIdeal.defs (F := Ideal)) (onTc (τ := Cert.StOutIdeal.τ) (Cert.StOutIdeal.main (F := Ideal))) ⟨m, fun _ => 0, g⟩ (fun r => (∀ c : Dev Cert.StOutIdeal.nD,
      r.2.mem ((c.tc : Thread Cert.StOutIdeal.nD Cert.StOutIdeal.τ).loc Cert.StOutIdeal.main_arg0) = m ((c.tc : Thread Cert.StOutIdeal.nD Cert.StOutIdeal.τ).loc Cert.StOutIdeal.main_arg0)
      ∧ r.2.mem ((c.tc : Thread Cert.StOutIdeal.nD Cert.StOutIdeal.τ).loc Cert.StOutIdeal.main_arg1) = m ((c.tc : Thread Cert.StOutIdeal.nD Cert.StOutIdeal.τ).loc Cert.StOutIdeal.main_arg1)
      ∧ r.2.mem ((c.tc : Thread Cert.StOutIdeal.nD Cert.StOutIdeal.τ).loc Cert.StOutIdeal.main_arg2) = m ((c.tc : Thread Cert.StOutIdeal.nD Cert.StOutIdeal.τ).loc Cert.StOutIdeal.main_arg2)
      ∧ r.2.mem ((c.tc : Thread Cert.StOutIdeal.nD Cert.StOutIdeal.τ).loc Cert.StOutIdeal.main_arg3) = m ((c.tc : Thread Cert.StOutIdeal.nD Cert.StOutIdeal.τ).loc Cert.StOutIdeal.main_arg3)
      ∧ r.2.mem ((c.tc : Thread Cert.StOutIdeal.nD Cert.StOutIdeal.τ).loc Cert.StOutIdeal.main_arg4) = m ((c.tc : Thread Cert.StOutIdeal.nD Cert.StOutIdeal.τ).loc Cert.StOutIdeal.main_arg4)
      ∧ r.2.mem ((c.tc : Thread Cert.StOutIdeal.nD Cert.StOutIdeal.τ).loc Cert.StOutIdeal.main_arg5) = m ((c.tc : Thread Cert.StOutIdeal.nD Cert.StOutIdeal.τ).loc Cert.StOutIdeal.main_arg5))
      ∧ r.2.sem = fun _ => 0)

def quiescent_StOutRefIdeal [hStOutRefIdeal : Cert.StOutRefIdeal.Facts] : Prop :=
  ∀ (m : (ℓ : Loc Cert.StOutRefIdeal.nD Cert.StOutRefIdeal.τ Cert.StOutRefIdeal.sig) → Buf (Elt Ideal) ℓ) (g : Dev Cert.StOutRefIdeal.nD → PrngReg), Pre_StOutRefIdeal m →
    θ_run (Cert.StOutRefIdeal.defs (F := Ideal)) (onTc (τ := Cert.StOutRefIdeal.τ) (Cert.StOutRefIdeal.main (F := Ideal))) ⟨m, fun _ => 0, g⟩ (fun r => (∀ c : Dev Cert.StOutRefIdeal.nD,
      r.2.mem ((c.tc : Thread Cert.StOutRefIdeal.nD Cert.StOutRefIdeal.τ).loc Cert.StOutRefIdeal.main_arg0) = m ((c.tc : Thread Cert.StOutRefIdeal.nD Cert.StOutRefIdeal.τ).loc Cert.StOutRefIdeal.main_arg0)
      ∧ r.2.mem ((c.tc : Thread Cert.StOutRefIdeal.nD Cert.StOutRefIdeal.τ).loc Cert.StOutRefIdeal.main_arg1) = m ((c.tc : Thread Cert.StOutRefIdeal.nD Cert.StOutRefIdeal.τ).loc Cert.StOutRefIdeal.main_arg1)
      ∧ r.2.mem ((c.tc : Thread Cert.StOutRefIdeal.nD Cert.StOutRefIdeal.τ).loc Cert.StOutRefIdeal.main_arg2) = m ((c.tc : Thread Cert.StOutRefIdeal.nD Cert.StOutRefIdeal.τ).loc Cert.StOutRefIdeal.main_arg2)
      ∧ r.2.mem ((c.tc : Thread Cert.StOutRefIdeal.nD Cert.StOutRefIdeal.τ).loc Cert.StOutRefIdeal.main_arg3) = m ((c.tc : Thread Cert.StOutRefIdeal.nD Cert.StOutRefIdeal.τ).loc Cert.StOutRefIdeal.main_arg3)
      ∧ r.2.mem ((c.tc : Thread Cert.StOutRefIdeal.nD Cert.StOutRefIdeal.τ).loc Cert.StOutRefIdeal.main_arg4) = m ((c.tc : Thread Cert.StOutRefIdeal.nD Cert.StOutRefIdeal.τ).loc Cert.StOutRefIdeal.main_arg4)
      ∧ r.2.mem ((c.tc : Thread Cert.StOutRefIdeal.nD Cert.StOutRefIdeal.τ).loc Cert.StOutRefIdeal.main_arg5) = m ((c.tc : Thread Cert.StOutRefIdeal.nD Cert.StOutRefIdeal.τ).loc Cert.StOutRefIdeal.main_arg5))
      ∧ r.2.sem = fun _ => 0)

def quiescent_StBack [hStBack : Cert.StBack.Facts] : Prop :=
  ∀ (m : (ℓ : Loc Cert.StBack.nD Cert.StBack.τ Cert.StBack.sig) → Buf (Elt Bits) ℓ) (g : Dev Cert.StBack.nD → PrngReg), Pre_StBack m →
    θ_run (Cert.StBack.defs (F := Bits)) (onTc (τ := Cert.StBack.τ) (Cert.StBack.main (F := Bits))) ⟨m, fun _ => 0, g⟩ (fun r => (∀ c : Dev Cert.StBack.nD,
      r.2.mem ((c.tc : Thread Cert.StBack.nD Cert.StBack.τ).loc Cert.StBack.main_arg0) = m ((c.tc : Thread Cert.StBack.nD Cert.StBack.τ).loc Cert.StBack.main_arg0)
      ∧ r.2.mem ((c.tc : Thread Cert.StBack.nD Cert.StBack.τ).loc Cert.StBack.main_arg1) = m ((c.tc : Thread Cert.StBack.nD Cert.StBack.τ).loc Cert.StBack.main_arg1)
      ∧ r.2.mem ((c.tc : Thread Cert.StBack.nD Cert.StBack.τ).loc Cert.StBack.main_arg2) = m ((c.tc : Thread Cert.StBack.nD Cert.StBack.τ).loc Cert.StBack.main_arg2)
      ∧ r.2.mem ((c.tc : Thread Cert.StBack.nD Cert.StBack.τ).loc Cert.StBack.main_arg3) = m ((c.tc : Thread Cert.StBack.nD Cert.StBack.τ).loc Cert.StBack.main_arg3)
      ∧ r.2.mem ((c.tc : Thread Cert.StBack.nD Cert.StBack.τ).loc Cert.StBack.main_arg4) = m ((c.tc : Thread Cert.StBack.nD Cert.StBack.τ).loc Cert.StBack.main_arg4)
      ∧ r.2.mem ((c.tc : Thread Cert.StBack.nD Cert.StBack.τ).loc Cert.StBack.main_arg5) = m ((c.tc : Thread Cert.StBack.nD Cert.StBack.τ).loc Cert.StBack.main_arg5)
      ∧ r.2.mem ((c.tc : Thread Cert.StBack.nD Cert.StBack.τ).loc Cert.StBack.main_arg6) = m ((c.tc : Thread Cert.StBack.nD Cert.StBack.τ).loc Cert.StBack.main_arg6)
      ∧ r.2.mem ((c.tc : Thread Cert.StBack.nD Cert.StBack.τ).loc Cert.StBack.main_arg7) = m ((c.tc : Thread Cert.StBack.nD Cert.StBack.τ).loc Cert.StBack.main_arg7)
      ∧ r.2.mem ((c.tc : Thread Cert.StBack.nD Cert.StBack.τ).loc Cert.StBack.main_arg8) = m ((c.tc : Thread Cert.StBack.nD Cert.StBack.τ).loc Cert.StBack.main_arg8)
      ∧ r.2.mem ((c.tc : Thread Cert.StBack.nD Cert.StBack.τ).loc Cert.StBack.main_arg9) = m ((c.tc : Thread Cert.StBack.nD Cert.StBack.τ).loc Cert.StBack.main_arg9))
      ∧ r.2.sem = fun _ => 0)

def quiescent_StBackIdeal [hStBackIdeal : Cert.StBackIdeal.Facts] : Prop :=
  ∀ (m : (ℓ : Loc Cert.StBackIdeal.nD Cert.StBackIdeal.τ Cert.StBackIdeal.sig) → Buf (Elt Ideal) ℓ) (g : Dev Cert.StBackIdeal.nD → PrngReg), Pre_StBackIdeal m →
    θ_run (Cert.StBackIdeal.defs (F := Ideal)) (onTc (τ := Cert.StBackIdeal.τ) (Cert.StBackIdeal.main (F := Ideal))) ⟨m, fun _ => 0, g⟩ (fun r => (∀ c : Dev Cert.StBackIdeal.nD,
      r.2.mem ((c.tc : Thread Cert.StBackIdeal.nD Cert.StBackIdeal.τ).loc Cert.StBackIdeal.main_arg0) = m ((c.tc : Thread Cert.StBackIdeal.nD Cert.StBackIdeal.τ).loc Cert.StBackIdeal.main_arg0)
      ∧ r.2.mem ((c.tc : Thread Cert.StBackIdeal.nD Cert.StBackIdeal.τ).loc Cert.StBackIdeal.main_arg1) = m ((c.tc : Thread Cert.StBackIdeal.nD Cert.StBackIdeal.τ).loc Cert.StBackIdeal.main_arg1)
      ∧ r.2.mem ((c.tc : Thread Cert.StBackIdeal.nD Cert.StBackIdeal.τ).loc Cert.StBackIdeal.main_arg2) = m ((c.tc : Thread Cert.StBackIdeal.nD Cert.StBackIdeal.τ).loc Cert.StBackIdeal.main_arg2)
      ∧ r.2.mem ((c.tc : Thread Cert.StBackIdeal.nD Cert.StBackIdeal.τ).loc Cert.StBackIdeal.main_arg3) = m ((c.tc : Thread Cert.StBackIdeal.nD Cert.StBackIdeal.τ).loc Cert.StBackIdeal.main_arg3)
      ∧ r.2.mem ((c.tc : Thread Cert.StBackIdeal.nD Cert.StBackIdeal.τ).loc Cert.StBackIdeal.main_arg4) = m ((c.tc : Thread Cert.StBackIdeal.nD Cert.StBackIdeal.τ).loc Cert.StBackIdeal.main_arg4)
      ∧ r.2.mem ((c.tc : Thread Cert.StBackIdeal.nD Cert.StBackIdeal.τ).loc Cert.StBackIdeal.main_arg5) = m ((c.tc : Thread Cert.StBackIdeal.nD Cert.StBackIdeal.τ).loc Cert.StBackIdeal.main_arg5)
      ∧ r.2.mem ((c.tc : Thread Cert.StBackIdeal.nD Cert.StBackIdeal.τ).loc Cert.StBackIdeal.main_arg6) = m ((c.tc : Thread Cert.StBackIdeal.nD Cert.StBackIdeal.τ).loc Cert.StBackIdeal.main_arg6)
      ∧ r.2.mem ((c.tc : Thread Cert.StBackIdeal.nD Cert.StBackIdeal.τ).loc Cert.StBackIdeal.main_arg7) = m ((c.tc : Thread Cert.StBackIdeal.nD Cert.StBackIdeal.τ).loc Cert.StBackIdeal.main_arg7)
      ∧ r.2.mem ((c.tc : Thread Cert.StBackIdeal.nD Cert.StBackIdeal.τ).loc Cert.StBackIdeal.main_arg8) = m ((c.tc : Thread Cert.StBackIdeal.nD Cert.StBackIdeal.τ).loc Cert.StBackIdeal.main_arg8)
      ∧ r.2.mem ((c.tc : Thread Cert.StBackIdeal.nD Cert.StBackIdeal.τ).loc Cert.StBackIdeal.main_arg9) = m ((c.tc : Thread Cert.StBackIdeal.nD Cert.StBackIdeal.τ).loc Cert.StBackIdeal.main_arg9))
      ∧ r.2.sem = fun _ => 0)

def quiescent_StBackRefIdeal [hStBackRefIdeal : Cert.StBackRefIdeal.Facts] : Prop :=
  ∀ (m : (ℓ : Loc Cert.StBackRefIdeal.nD Cert.StBackRefIdeal.τ Cert.StBackRefIdeal.sig) → Buf (Elt Ideal) ℓ) (g : Dev Cert.StBackRefIdeal.nD → PrngReg), Pre_StBackRefIdeal m →
    θ_run (Cert.StBackRefIdeal.defs (F := Ideal)) (onTc (τ := Cert.StBackRefIdeal.τ) (Cert.StBackRefIdeal.main (F := Ideal))) ⟨m, fun _ => 0, g⟩ (fun r => (∀ c : Dev Cert.StBackRefIdeal.nD,
      r.2.mem ((c.tc : Thread Cert.StBackRefIdeal.nD Cert.StBackRefIdeal.τ).loc Cert.StBackRefIdeal.main_arg0) = m ((c.tc : Thread Cert.StBackRefIdeal.nD Cert.StBackRefIdeal.τ).loc Cert.StBackRefIdeal.main_arg0)
      ∧ r.2.mem ((c.tc : Thread Cert.StBackRefIdeal.nD Cert.StBackRefIdeal.τ).loc Cert.StBackRefIdeal.main_arg1) = m ((c.tc : Thread Cert.StBackRefIdeal.nD Cert.StBackRefIdeal.τ).loc Cert.StBackRefIdeal.main_arg1)
      ∧ r.2.mem ((c.tc : Thread Cert.StBackRefIdeal.nD Cert.StBackRefIdeal.τ).loc Cert.StBackRefIdeal.main_arg2) = m ((c.tc : Thread Cert.StBackRefIdeal.nD Cert.StBackRefIdeal.τ).loc Cert.StBackRefIdeal.main_arg2)
      ∧ r.2.mem ((c.tc : Thread Cert.StBackRefIdeal.nD Cert.StBackRefIdeal.τ).loc Cert.StBackRefIdeal.main_arg3) = m ((c.tc : Thread Cert.StBackRefIdeal.nD Cert.StBackRefIdeal.τ).loc Cert.StBackRefIdeal.main_arg3)
      ∧ r.2.mem ((c.tc : Thread Cert.StBackRefIdeal.nD Cert.StBackRefIdeal.τ).loc Cert.StBackRefIdeal.main_arg4) = m ((c.tc : Thread Cert.StBackRefIdeal.nD Cert.StBackRefIdeal.τ).loc Cert.StBackRefIdeal.main_arg4)
      ∧ r.2.mem ((c.tc : Thread Cert.StBackRefIdeal.nD Cert.StBackRefIdeal.τ).loc Cert.StBackRefIdeal.main_arg5) = m ((c.tc : Thread Cert.StBackRefIdeal.nD Cert.StBackRefIdeal.τ).loc Cert.StBackRefIdeal.main_arg5)
      ∧ r.2.mem ((c.tc : Thread Cert.StBackRefIdeal.nD Cert.StBackRefIdeal.τ).loc Cert.StBackRefIdeal.main_arg6) = m ((c.tc : Thread Cert.StBackRefIdeal.nD Cert.StBackRefIdeal.τ).loc Cert.StBackRefIdeal.main_arg6)
      ∧ r.2.mem ((c.tc : Thread Cert.StBackRefIdeal.nD Cert.StBackRefIdeal.τ).loc Cert.StBackRefIdeal.main_arg7) = m ((c.tc : Thread Cert.StBackRefIdeal.nD Cert.StBackRefIdeal.τ).loc Cert.StBackRefIdeal.main_arg7)
      ∧ r.2.mem ((c.tc : Thread Cert.StBackRefIdeal.nD Cert.StBackRefIdeal.τ).loc Cert.StBackRefIdeal.main_arg8) = m ((c.tc : Thread Cert.StBackRefIdeal.nD Cert.StBackRefIdeal.τ).loc Cert.StBackRefIdeal.main_arg8)
      ∧ r.2.mem ((c.tc : Thread Cert.StBackRefIdeal.nD Cert.StBackRefIdeal.τ).loc Cert.StBackRefIdeal.main_arg9) = m ((c.tc : Thread Cert.StBackRefIdeal.nD Cert.StBackRefIdeal.τ).loc Cert.StBackRefIdeal.main_arg9))
      ∧ r.2.sem = fun _ => 0)

def quiescent_RmsB [hRmsB : Cert.RmsB.Facts] : Prop :=
  ∀ (m : (ℓ : Loc Cert.RmsB.nD Cert.RmsB.τ Cert.RmsB.sig) → Buf (Elt Bits) ℓ) (g : Dev Cert.RmsB.nD → PrngReg), Pre_RmsB m →
    θ_run (Cert.RmsB.defs (F := Bits)) (onTc (τ := Cert.RmsB.τ) (Cert.RmsB.main (F := Bits))) ⟨m, fun _ => 0, g⟩ (fun r => (∀ c : Dev Cert.RmsB.nD,
      r.2.mem ((c.tc : Thread Cert.RmsB.nD Cert.RmsB.τ).loc Cert.RmsB.main_arg0) = m ((c.tc : Thread Cert.RmsB.nD Cert.RmsB.τ).loc Cert.RmsB.main_arg0)
      ∧ r.2.mem ((c.tc : Thread Cert.RmsB.nD Cert.RmsB.τ).loc Cert.RmsB.main_arg1) = m ((c.tc : Thread Cert.RmsB.nD Cert.RmsB.τ).loc Cert.RmsB.main_arg1)
      ∧ r.2.mem ((c.tc : Thread Cert.RmsB.nD Cert.RmsB.τ).loc Cert.RmsB.main_arg2) = m ((c.tc : Thread Cert.RmsB.nD Cert.RmsB.τ).loc Cert.RmsB.main_arg2)
      ∧ r.2.mem ((c.tc : Thread Cert.RmsB.nD Cert.RmsB.τ).loc Cert.RmsB.main_arg3) = m ((c.tc : Thread Cert.RmsB.nD Cert.RmsB.τ).loc Cert.RmsB.main_arg3))
      ∧ r.2.sem = fun _ => 0)

def quiescent_RmsBIdeal [hRmsBIdeal : Cert.RmsBIdeal.Facts] : Prop :=
  ∀ (m : (ℓ : Loc Cert.RmsBIdeal.nD Cert.RmsBIdeal.τ Cert.RmsBIdeal.sig) → Buf (Elt Ideal) ℓ) (g : Dev Cert.RmsBIdeal.nD → PrngReg), Pre_RmsBIdeal m →
    θ_run (Cert.RmsBIdeal.defs (F := Ideal)) (onTc (τ := Cert.RmsBIdeal.τ) (Cert.RmsBIdeal.main (F := Ideal))) ⟨m, fun _ => 0, g⟩ (fun r => (∀ c : Dev Cert.RmsBIdeal.nD,
      r.2.mem ((c.tc : Thread Cert.RmsBIdeal.nD Cert.RmsBIdeal.τ).loc Cert.RmsBIdeal.main_arg0) = m ((c.tc : Thread Cert.RmsBIdeal.nD Cert.RmsBIdeal.τ).loc Cert.RmsBIdeal.main_arg0)
      ∧ r.2.mem ((c.tc : Thread Cert.RmsBIdeal.nD Cert.RmsBIdeal.τ).loc Cert.RmsBIdeal.main_arg1) = m ((c.tc : Thread Cert.RmsBIdeal.nD Cert.RmsBIdeal.τ).loc Cert.RmsBIdeal.main_arg1)
      ∧ r.2.mem ((c.tc : Thread Cert.RmsBIdeal.nD Cert.RmsBIdeal.τ).loc Cert.RmsBIdeal.main_arg2) = m ((c.tc : Thread Cert.RmsBIdeal.nD Cert.RmsBIdeal.τ).loc Cert.RmsBIdeal.main_arg2)
      ∧ r.2.mem ((c.tc : Thread Cert.RmsBIdeal.nD Cert.RmsBIdeal.τ).loc Cert.RmsBIdeal.main_arg3) = m ((c.tc : Thread Cert.RmsBIdeal.nD Cert.RmsBIdeal.τ).loc Cert.RmsBIdeal.main_arg3))
      ∧ r.2.sem = fun _ => 0)

def quiescent_RmsBRefIdeal [hRmsBRefIdeal : Cert.RmsBRefIdeal.Facts] : Prop :=
  ∀ (m : (ℓ : Loc Cert.RmsBRefIdeal.nD Cert.RmsBRefIdeal.τ Cert.RmsBRefIdeal.sig) → Buf (Elt Ideal) ℓ) (g : Dev Cert.RmsBRefIdeal.nD → PrngReg), Pre_RmsBRefIdeal m →
    θ_run (Cert.RmsBRefIdeal.defs (F := Ideal)) (onTc (τ := Cert.RmsBRefIdeal.τ) (Cert.RmsBRefIdeal.main (F := Ideal))) ⟨m, fun _ => 0, g⟩ (fun r => (∀ c : Dev Cert.RmsBRefIdeal.nD,
      r.2.mem ((c.tc : Thread Cert.RmsBRefIdeal.nD Cert.RmsBRefIdeal.τ).loc Cert.RmsBRefIdeal.main_arg0) = m ((c.tc : Thread Cert.RmsBRefIdeal.nD Cert.RmsBRefIdeal.τ).loc Cert.RmsBRefIdeal.main_arg0)
      ∧ r.2.mem ((c.tc : Thread Cert.RmsBRefIdeal.nD Cert.RmsBRefIdeal.τ).loc Cert.RmsBRefIdeal.main_arg1) = m ((c.tc : Thread Cert.RmsBRefIdeal.nD Cert.RmsBRefIdeal.τ).loc Cert.RmsBRefIdeal.main_arg1)
      ∧ r.2.mem ((c.tc : Thread Cert.RmsBRefIdeal.nD Cert.RmsBRefIdeal.τ).loc Cert.RmsBRefIdeal.main_arg2) = m ((c.tc : Thread Cert.RmsBRefIdeal.nD Cert.RmsBRefIdeal.τ).loc Cert.RmsBRefIdeal.main_arg2)
      ∧ r.2.mem ((c.tc : Thread Cert.RmsBRefIdeal.nD Cert.RmsBRefIdeal.τ).loc Cert.RmsBRefIdeal.main_arg3) = m ((c.tc : Thread Cert.RmsBRefIdeal.nD Cert.RmsBRefIdeal.τ).loc Cert.RmsBRefIdeal.main_arg3))
      ∧ r.2.sem = fun _ => 0)

def quiescent_GnormB [hGnormB : Cert.GnormB.Facts] : Prop :=
  ∀ (m : (ℓ : Loc Cert.GnormB.nD Cert.GnormB.τ Cert.GnormB.sig) → Buf (Elt Bits) ℓ) (g : Dev Cert.GnormB.nD → PrngReg), Pre_GnormB m →
    θ_run (Cert.GnormB.defs (F := Bits)) (onTc (τ := Cert.GnormB.τ) (Cert.GnormB.main (F := Bits))) ⟨m, fun _ => 0, g⟩ (fun r => (∀ c : Dev Cert.GnormB.nD,
      r.2.mem ((c.tc : Thread Cert.GnormB.nD Cert.GnormB.τ).loc Cert.GnormB.main_arg0) = m ((c.tc : Thread Cert.GnormB.nD Cert.GnormB.τ).loc Cert.GnormB.main_arg0)
      ∧ r.2.mem ((c.tc : Thread Cert.GnormB.nD Cert.GnormB.τ).loc Cert.GnormB.main_arg1) = m ((c.tc : Thread Cert.GnormB.nD Cert.GnormB.τ).loc Cert.GnormB.main_arg1)
      ∧ r.2.mem ((c.tc : Thread Cert.GnormB.nD Cert.GnormB.τ).loc Cert.GnormB.main_arg2) = m ((c.tc : Thread Cert.GnormB.nD Cert.GnormB.τ).loc Cert.GnormB.main_arg2)
      ∧ r.2.mem ((c.tc : Thread Cert.GnormB.nD Cert.GnormB.τ).loc Cert.GnormB.main_arg3) = m ((c.tc : Thread Cert.GnormB.nD Cert.GnormB.τ).loc Cert.GnormB.main_arg3))
      ∧ r.2.sem = fun _ => 0)

def quiescent_GnormBIdeal [hGnormBIdeal : Cert.GnormBIdeal.Facts] : Prop :=
  ∀ (m : (ℓ : Loc Cert.GnormBIdeal.nD Cert.GnormBIdeal.τ Cert.GnormBIdeal.sig) → Buf (Elt Ideal) ℓ) (g : Dev Cert.GnormBIdeal.nD → PrngReg), Pre_GnormBIdeal m →
    θ_run (Cert.GnormBIdeal.defs (F := Ideal)) (onTc (τ := Cert.GnormBIdeal.τ) (Cert.GnormBIdeal.main (F := Ideal))) ⟨m, fun _ => 0, g⟩ (fun r => (∀ c : Dev Cert.GnormBIdeal.nD,
      r.2.mem ((c.tc : Thread Cert.GnormBIdeal.nD Cert.GnormBIdeal.τ).loc Cert.GnormBIdeal.main_arg0) = m ((c.tc : Thread Cert.GnormBIdeal.nD Cert.GnormBIdeal.τ).loc Cert.GnormBIdeal.main_arg0)
      ∧ r.2.mem ((c.tc : Thread Cert.GnormBIdeal.nD Cert.GnormBIdeal.τ).loc Cert.GnormBIdeal.main_arg1) = m ((c.tc : Thread Cert.GnormBIdeal.nD Cert.GnormBIdeal.τ).loc Cert.GnormBIdeal.main_arg1)
      ∧ r.2.mem ((c.tc : Thread Cert.GnormBIdeal.nD Cert.GnormBIdeal.τ).loc Cert.GnormBIdeal.main_arg2) = m ((c.tc : Thread Cert.GnormBIdeal.nD Cert.GnormBIdeal.τ).loc Cert.GnormBIdeal.main_arg2)
      ∧ r.2.mem ((c.tc : Thread Cert.GnormBIdeal.nD Cert.GnormBIdeal.τ).loc Cert.GnormBIdeal.main_arg3) = m ((c.tc : Thread Cert.GnormBIdeal.nD Cert.GnormBIdeal.τ).loc Cert.GnormBIdeal.main_arg3))
      ∧ r.2.sem = fun _ => 0)

def quiescent_GnormBRefIdeal [hGnormBRefIdeal : Cert.GnormBRefIdeal.Facts] : Prop :=
  ∀ (m : (ℓ : Loc Cert.GnormBRefIdeal.nD Cert.GnormBRefIdeal.τ Cert.GnormBRefIdeal.sig) → Buf (Elt Ideal) ℓ) (g : Dev Cert.GnormBRefIdeal.nD → PrngReg), Pre_GnormBRefIdeal m →
    θ_run (Cert.GnormBRefIdeal.defs (F := Ideal)) (onTc (τ := Cert.GnormBRefIdeal.τ) (Cert.GnormBRefIdeal.main (F := Ideal))) ⟨m, fun _ => 0, g⟩ (fun r => (∀ c : Dev Cert.GnormBRefIdeal.nD,
      r.2.mem ((c.tc : Thread Cert.GnormBRefIdeal.nD Cert.GnormBRefIdeal.τ).loc Cert.GnormBRefIdeal.main_arg0) = m ((c.tc : Thread Cert.GnormBRefIdeal.nD Cert.GnormBRefIdeal.τ).loc Cert.GnormBRefIdeal.main_arg0)
      ∧ r.2.mem ((c.tc : Thread Cert.GnormBRefIdeal.nD Cert.GnormBRefIdeal.τ).loc Cert.GnormBRefIdeal.main_arg1) = m ((c.tc : Thread Cert.GnormBRefIdeal.nD Cert.GnormBRefIdeal.τ).loc Cert.GnormBRefIdeal.main_arg1)
      ∧ r.2.mem ((c.tc : Thread Cert.GnormBRefIdeal.nD Cert.GnormBRefIdeal.τ).loc Cert.GnormBRefIdeal.main_arg2) = m ((c.tc : Thread Cert.GnormBRefIdeal.nD Cert.GnormBRefIdeal.τ).loc Cert.GnormBRefIdeal.main_arg2)
      ∧ r.2.mem ((c.tc : Thread Cert.GnormBRefIdeal.nD Cert.GnormBRefIdeal.τ).loc Cert.GnormBRefIdeal.main_arg3) = m ((c.tc : Thread Cert.GnormBRefIdeal.nD Cert.GnormBRefIdeal.τ).loc Cert.GnormBRefIdeal.main_arg3))
      ∧ r.2.sem = fun _ => 0)

def quiescent_RmsF [hRmsF : Cert.RmsF.Facts] : Prop :=
  ∀ (m : (ℓ : Loc Cert.RmsF.nD Cert.RmsF.τ Cert.RmsF.sig) → Buf (Elt Bits) ℓ) (g : Dev Cert.RmsF.nD → PrngReg), Pre_RmsF m →
    θ_run (Cert.RmsF.defs (F := Bits)) (onTc (τ := Cert.RmsF.τ) (Cert.RmsF.main (F := Bits))) ⟨m, fun _ => 0, g⟩ (fun r => (∀ c : Dev Cert.RmsF.nD,
      r.2.mem ((c.tc : Thread Cert.RmsF.nD Cert.RmsF.τ).loc Cert.RmsF.main_arg0) = m ((c.tc : Thread Cert.RmsF.nD Cert.RmsF.τ).loc Cert.RmsF.main_arg0)
      ∧ r.2.mem ((c.tc : Thread Cert.RmsF.nD Cert.RmsF.τ).loc Cert.RmsF.main_arg1) = m ((c.tc : Thread Cert.RmsF.nD Cert.RmsF.τ).loc Cert.RmsF.main_arg1))
      ∧ r.2.sem = fun _ => 0)

def quiescent_RmsFIdeal [hRmsFIdeal : Cert.RmsFIdeal.Facts] : Prop :=
  ∀ (m : (ℓ : Loc Cert.RmsFIdeal.nD Cert.RmsFIdeal.τ Cert.RmsFIdeal.sig) → Buf (Elt Ideal) ℓ) (g : Dev Cert.RmsFIdeal.nD → PrngReg), Pre_RmsFIdeal m →
    θ_run (Cert.RmsFIdeal.defs (F := Ideal)) (onTc (τ := Cert.RmsFIdeal.τ) (Cert.RmsFIdeal.main (F := Ideal))) ⟨m, fun _ => 0, g⟩ (fun r => (∀ c : Dev Cert.RmsFIdeal.nD,
      r.2.mem ((c.tc : Thread Cert.RmsFIdeal.nD Cert.RmsFIdeal.τ).loc Cert.RmsFIdeal.main_arg0) = m ((c.tc : Thread Cert.RmsFIdeal.nD Cert.RmsFIdeal.τ).loc Cert.RmsFIdeal.main_arg0)
      ∧ r.2.mem ((c.tc : Thread Cert.RmsFIdeal.nD Cert.RmsFIdeal.τ).loc Cert.RmsFIdeal.main_arg1) = m ((c.tc : Thread Cert.RmsFIdeal.nD Cert.RmsFIdeal.τ).loc Cert.RmsFIdeal.main_arg1))
      ∧ r.2.sem = fun _ => 0)

def quiescent_RmsFRefIdeal [hRmsFRefIdeal : Cert.RmsFRefIdeal.Facts] : Prop :=
  ∀ (m : (ℓ : Loc Cert.RmsFRefIdeal.nD Cert.RmsFRefIdeal.τ Cert.RmsFRefIdeal.sig) → Buf (Elt Ideal) ℓ) (g : Dev Cert.RmsFRefIdeal.nD → PrngReg), Pre_RmsFRefIdeal m →
    θ_run (Cert.RmsFRefIdeal.defs (F := Ideal)) (onTc (τ := Cert.RmsFRefIdeal.τ) (Cert.RmsFRefIdeal.main (F := Ideal))) ⟨m, fun _ => 0, g⟩ (fun r => (∀ c : Dev Cert.RmsFRefIdeal.nD,
      r.2.mem ((c.tc : Thread Cert.RmsFRefIdeal.nD Cert.RmsFRefIdeal.τ).loc Cert.RmsFRefIdeal.main_arg0) = m ((c.tc : Thread Cert.RmsFRefIdeal.nD Cert.RmsFRefIdeal.τ).loc Cert.RmsFRefIdeal.main_arg0)
      ∧ r.2.mem ((c.tc : Thread Cert.RmsFRefIdeal.nD Cert.RmsFRefIdeal.τ).loc Cert.RmsFRefIdeal.main_arg1) = m ((c.tc : Thread Cert.RmsFRefIdeal.nD Cert.RmsFRefIdeal.τ).loc Cert.RmsFRefIdeal.main_arg1))
      ∧ r.2.sem = fun _ => 0)

def quiescent_GnormF [hGnormF : Cert.GnormF.Facts] : Prop :=
  ∀ (m : (ℓ : Loc Cert.GnormF.nD Cert.GnormF.τ Cert.GnormF.sig) → Buf (Elt Bits) ℓ) (g : Dev Cert.GnormF.nD → PrngReg), Pre_GnormF m →
    θ_run (Cert.GnormF.defs (F := Bits)) (onTc (τ := Cert.GnormF.τ) (Cert.GnormF.main (F := Bits))) ⟨m, fun _ => 0, g⟩ (fun r => (∀ c : Dev Cert.GnormF.nD,
      r.2.mem ((c.tc : Thread Cert.GnormF.nD Cert.GnormF.τ).loc Cert.GnormF.main_arg0) = m ((c.tc : Thread Cert.GnormF.nD Cert.GnormF.τ).loc Cert.GnormF.main_arg0)
      ∧ r.2.mem ((c.tc : Thread Cert.GnormF.nD Cert.GnormF.τ).loc Cert.GnormF.main_arg1) = m ((c.tc : Thread Cert.GnormF.nD Cert.GnormF.τ).loc Cert.GnormF.main_arg1)
      ∧ r.2.mem ((c.tc : Thread Cert.GnormF.nD Cert.GnormF.τ).loc Cert.GnormF.main_arg2) = m ((c.tc : Thread Cert.GnormF.nD Cert.GnormF.τ).loc Cert.GnormF.main_arg2))
      ∧ r.2.sem = fun _ => 0)

def quiescent_GnormFIdeal [hGnormFIdeal : Cert.GnormFIdeal.Facts] : Prop :=
  ∀ (m : (ℓ : Loc Cert.GnormFIdeal.nD Cert.GnormFIdeal.τ Cert.GnormFIdeal.sig) → Buf (Elt Ideal) ℓ) (g : Dev Cert.GnormFIdeal.nD → PrngReg), Pre_GnormFIdeal m →
    θ_run (Cert.GnormFIdeal.defs (F := Ideal)) (onTc (τ := Cert.GnormFIdeal.τ) (Cert.GnormFIdeal.main (F := Ideal))) ⟨m, fun _ => 0, g⟩ (fun r => (∀ c : Dev Cert.GnormFIdeal.nD,
      r.2.mem ((c.tc : Thread Cert.GnormFIdeal.nD Cert.GnormFIdeal.τ).loc Cert.GnormFIdeal.main_arg0) = m ((c.tc : Thread Cert.GnormFIdeal.nD Cert.GnormFIdeal.τ).loc Cert.GnormFIdeal.main_arg0)
      ∧ r.2.mem ((c.tc : Thread Cert.GnormFIdeal.nD Cert.GnormFIdeal.τ).loc Cert.GnormFIdeal.main_arg1) = m ((c.tc : Thread Cert.GnormFIdeal.nD Cert.GnormFIdeal.τ).loc Cert.GnormFIdeal.main_arg1)
      ∧ r.2.mem ((c.tc : Thread Cert.GnormFIdeal.nD Cert.GnormFIdeal.τ).loc Cert.GnormFIdeal.main_arg2) = m ((c.tc : Thread Cert.GnormFIdeal.nD Cert.GnormFIdeal.τ).loc Cert.GnormFIdeal.main_arg2))
      ∧ r.2.sem = fun _ => 0)

def quiescent_GnormFRefIdeal [hGnormFRefIdeal : Cert.GnormFRefIdeal.Facts] : Prop :=
  ∀ (m : (ℓ : Loc Cert.GnormFRefIdeal.nD Cert.GnormFRefIdeal.τ Cert.GnormFRefIdeal.sig) → Buf (Elt Ideal) ℓ) (g : Dev Cert.GnormFRefIdeal.nD → PrngReg), Pre_GnormFRefIdeal m →
    θ_run (Cert.GnormFRefIdeal.defs (F := Ideal)) (onTc (τ := Cert.GnormFRefIdeal.τ) (Cert.GnormFRefIdeal.main (F := Ideal))) ⟨m, fun _ => 0, g⟩ (fun r => (∀ c : Dev Cert.GnormFRefIdeal.nD,
      r.2.mem ((c.tc : Thread Cert.GnormFRefIdeal.nD Cert.GnormFRefIdeal.τ).loc Cert.GnormFRefIdeal.main_arg0) = m ((c.tc : Thread Cert.GnormFRefIdeal.nD Cert.GnormFRefIdeal.τ).loc Cert.GnormFRefIdeal.main_arg0)
      ∧ r.2.mem ((c.tc : Thread Cert.GnormFRefIdeal.nD Cert.GnormFRefIdeal.τ).loc Cert.GnormFRefIdeal.main_arg1) = m ((c.tc : Thread Cert.GnormFRefIdeal.nD Cert.GnormFRefIdeal.τ).loc Cert.GnormFRefIdeal.main_arg1)
      ∧ r.2.mem ((c.tc : Thread Cert.GnormFRefIdeal.nD Cert.GnormFRefIdeal.τ).loc Cert.GnormFRefIdeal.main_arg2) = m ((c.tc : Thread Cert.GnormFRefIdeal.nD Cert.GnormFRefIdeal.τ).loc Cert.GnormFRefIdeal.main_arg2))
      ∧ r.2.sem = fun _ => 0)

def preserves_Kernel_KernelIdeal : Prop :=
  True

def algebraic_KernelIdeal_ReferenceIdeal_pre_steps_decay [hKernelIdeal : Cert.KernelIdeal.Facts] [hReferenceIdeal : Cert.ReferenceIdeal.Facts] [hPre_steps_decay : Cert.Pre_steps_decay.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_steps_decay m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v57_0)) (v1 : (c : Dev Cert.KernelIdeal.nD) → Buf (Elt Ideal) ((c.tc : Thread Cert.KernelIdeal.nD Cert.KernelIdeal.τ).loc Cert.KernelIdeal.main_v57_1)) (v2 : (c : Dev Cert.KernelIdeal.nD) → Buf (Elt Ideal) ((c.tc : Thread Cert.KernelIdeal.nD Cert.KernelIdeal.τ).loc Cert.KernelIdeal.main_v57_2)) (v3 : (c : Dev Cert.KernelIdeal.nD) → Buf (Elt Ideal) ((c.tc : Thread Cert.KernelIdeal.nD Cert.KernelIdeal.τ).loc Cert.KernelIdeal.main_v57_4)) (v4 : (c : Dev Cert.KernelIdeal.nD) → Buf (Elt Ideal) ((c.tc : Thread Cert.KernelIdeal.nD Cert.KernelIdeal.τ).loc Cert.KernelIdeal.main_v57_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57_0) = v0 c
          ∧ r.2.mem ((c.tc : Thread Cert.KernelIdeal.nD Cert.KernelIdeal.τ).loc Cert.KernelIdeal.main_v57_1) = v1 c
          ∧ r.2.mem ((c.tc : Thread Cert.KernelIdeal.nD Cert.KernelIdeal.τ).loc Cert.KernelIdeal.main_v57_2) = v2 c
          ∧ r.2.mem ((c.tc : Thread Cert.KernelIdeal.nD Cert.KernelIdeal.τ).loc Cert.KernelIdeal.main_v57_4) = v3 c
          ∧ r.2.mem ((c.tc : Thread Cert.KernelIdeal.nD Cert.KernelIdeal.τ).loc Cert.KernelIdeal.main_v57_7) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_v118) = v1 c
          ∧ r.2.mem ((c.tc : Thread Cert.ReferenceIdeal.nD Cert.ReferenceIdeal.τ).loc Cert.ReferenceIdeal.main_v117) = v2 c
          ∧ r.2.mem ((c.tc : Thread Cert.ReferenceIdeal.nD Cert.ReferenceIdeal.τ).loc Cert.ReferenceIdeal.main_v120) = v3 c
          ∧ r.2.mem ((c.tc : Thread Cert.ReferenceIdeal.nD Cert.ReferenceIdeal.τ).loc Cert.ReferenceIdeal.main_v123) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_DownW_DownWIdeal : Prop :=
  True

def algebraic_DownWIdeal_DownWRefIdeal [hDownWIdeal : Cert.DownWIdeal.Facts] [hDownWRefIdeal : Cert.DownWRefIdeal.Facts] : Prop :=
  ∀ (m : (ℓ : Loc Cert.DownWIdeal.nD Cert.DownWIdeal.τ Cert.DownWIdeal.sig) → Buf (Elt Ideal) ℓ) (g : Dev Cert.DownWIdeal.nD → PrngReg)
    (m' : (ℓ : Loc Cert.DownWRefIdeal.nD Cert.DownWRefIdeal.τ Cert.DownWRefIdeal.sig) → Buf (Elt Ideal) ℓ) (g' : Dev Cert.DownWRefIdeal.nD → PrngReg), Pre_DownWIdeal m →
    (∀ c : Dev Cert.DownWIdeal.nD,
      m' ((c.tc : Thread Cert.DownWRefIdeal.nD Cert.DownWRefIdeal.τ).loc Cert.DownWRefIdeal.main_arg0) = m ((c.tc : Thread Cert.DownWIdeal.nD Cert.DownWIdeal.τ).loc Cert.DownWIdeal.main_arg0)
      ∧ m' ((c.tc : Thread Cert.DownWRefIdeal.nD Cert.DownWRefIdeal.τ).loc Cert.DownWRefIdeal.main_arg1) = m ((c.tc : Thread Cert.DownWIdeal.nD Cert.DownWIdeal.τ).loc Cert.DownWIdeal.main_arg1)
      ∧ m' ((c.tc : Thread Cert.DownWRefIdeal.nD Cert.DownWRefIdeal.τ).loc Cert.DownWRefIdeal.main_arg2) = m ((c.tc : Thread Cert.DownWIdeal.nD Cert.DownWIdeal.τ).loc Cert.DownWIdeal.main_arg2)) →
    ∃ (v0 : (c : Dev Cert.DownWIdeal.nD) → Buf (Elt Ideal) ((c.tc : Thread Cert.DownWIdeal.nD Cert.DownWIdeal.τ).loc Cert.DownWIdeal.main_v2)),
      θ_run (Cert.DownWIdeal.defs (F := Ideal)) (onTc (τ := Cert.DownWIdeal.τ) (Cert.DownWIdeal.main (F := Ideal))) ⟨m, fun _ => 0, g⟩ (fun r => ∀ c : Dev Cert.DownWIdeal.nD,
          r.2.mem ((c.tc : Thread Cert.DownWIdeal.nD Cert.DownWIdeal.τ).loc Cert.DownWIdeal.main_v2) = v0 c
          ∧ r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
          ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1)
          ∧ r.2.mem ((c.tc : Thread Cert.DownWIdeal.nD Cert.DownWIdeal.τ).loc Cert.DownWIdeal.main_arg2) = m ((c.tc : Thread Cert.DownWIdeal.nD Cert.DownWIdeal.τ).loc Cert.DownWIdeal.main_arg2))
      ∧ θ_run (Cert.DownWRefIdeal.defs (F := Ideal)) (onTc (τ := Cert.DownWRefIdeal.τ) (Cert.DownWRefIdeal.main (F := Ideal))) ⟨m', fun _ => 0, g'⟩ (fun r => ∀ c : Dev Cert.DownWRefIdeal.nD,
          r.2.mem ((c.tc : Thread Cert.DownWRefIdeal.nD Cert.DownWRefIdeal.τ).loc Cert.DownWRefIdeal.main_v4) = v0 c
          ∧ r.2.mem ((c.tc : Thread Cert.DownWRefIdeal.nD Cert.DownWRefIdeal.τ).loc Cert.DownWRefIdeal.main_arg0) = m' ((c.tc : Thread Cert.DownWRefIdeal.nD Cert.DownWRefIdeal.τ).loc Cert.DownWRefIdeal.main_arg0)
          ∧ r.2.mem ((c.tc : Thread Cert.DownWRefIdeal.nD Cert.DownWRefIdeal.τ).loc Cert.DownWRefIdeal.main_arg1) = m' ((c.tc : Thread Cert.DownWRefIdeal.nD Cert.DownWRefIdeal.τ).loc Cert.DownWRefIdeal.main_arg1)
          ∧ r.2.mem ((c.tc : Thread Cert.DownWRefIdeal.nD Cert.DownWRefIdeal.τ).loc Cert.DownWRefIdeal.main_arg2) = m' ((c.tc : Thread Cert.DownWRefIdeal.nD Cert.DownWRefIdeal.τ).loc Cert.DownWRefIdeal.main_arg2))

def preserves_DownX_DownXIdeal : Prop :=
  True

def algebraic_DownXIdeal_DownXRefIdeal [hDownXIdeal : Cert.DownXIdeal.Facts] [hDownXRefIdeal : Cert.DownXRefIdeal.Facts] : Prop :=
  ∀ (m : (ℓ : Loc Cert.DownXIdeal.nD Cert.DownXIdeal.τ Cert.DownXIdeal.sig) → Buf (Elt Ideal) ℓ) (g : Dev Cert.DownXIdeal.nD → PrngReg)
    (m' : (ℓ : Loc Cert.DownXRefIdeal.nD Cert.DownXRefIdeal.τ Cert.DownXRefIdeal.sig) → Buf (Elt Ideal) ℓ) (g' : Dev Cert.DownXRefIdeal.nD → PrngReg), Pre_DownXIdeal m →
    (∀ c : Dev Cert.DownXIdeal.nD,
      m' ((c.tc : Thread Cert.DownXRefIdeal.nD Cert.DownXRefIdeal.τ).loc Cert.DownXRefIdeal.main_arg0) = m ((c.tc : Thread Cert.DownXIdeal.nD Cert.DownXIdeal.τ).loc Cert.DownXIdeal.main_arg0)
      ∧ m' ((c.tc : Thread Cert.DownXRefIdeal.nD Cert.DownXRefIdeal.τ).loc Cert.DownXRefIdeal.main_arg1) = m ((c.tc : Thread Cert.DownXIdeal.nD Cert.DownXIdeal.τ).loc Cert.DownXIdeal.main_arg1)
      ∧ m' ((c.tc : Thread Cert.DownXRefIdeal.nD Cert.DownXRefIdeal.τ).loc Cert.DownXRefIdeal.main_arg2) = m ((c.tc : Thread Cert.DownXIdeal.nD Cert.DownXIdeal.τ).loc Cert.DownXIdeal.main_arg2)) →
    ∃ (v0 : (c : Dev Cert.DownXIdeal.nD) → Buf (Elt Ideal) ((c.tc : Thread Cert.DownXIdeal.nD Cert.DownXIdeal.τ).loc Cert.DownXIdeal.main_v2)),
      θ_run (Cert.DownXIdeal.defs (F := Ideal)) (onTc (τ := Cert.DownXIdeal.τ) (Cert.DownXIdeal.main (F := Ideal))) ⟨m, fun _ => 0, g⟩ (fun r => ∀ c : Dev Cert.DownXIdeal.nD,
          r.2.mem ((c.tc : Thread Cert.DownXIdeal.nD Cert.DownXIdeal.τ).loc Cert.DownXIdeal.main_v2) = v0 c
          ∧ r.2.mem ((c.tc : Thread Cert.DownXIdeal.nD Cert.DownXIdeal.τ).loc Cert.DownXIdeal.main_arg0) = m ((c.tc : Thread Cert.DownXIdeal.nD Cert.DownXIdeal.τ).loc Cert.DownXIdeal.main_arg0)
          ∧ r.2.mem ((c.tc : Thread Cert.DownXIdeal.nD Cert.DownXIdeal.τ).loc Cert.DownXIdeal.main_arg1) = m ((c.tc : Thread Cert.DownXIdeal.nD Cert.DownXIdeal.τ).loc Cert.DownXIdeal.main_arg1)
          ∧ r.2.mem ((c.tc : Thread Cert.DownXIdeal.nD Cert.DownXIdeal.τ).loc Cert.DownXIdeal.main_arg2) = m ((c.tc : Thread Cert.DownXIdeal.nD Cert.DownXIdeal.τ).loc Cert.DownXIdeal.main_arg2))
      ∧ θ_run (Cert.DownXRefIdeal.defs (F := Ideal)) (onTc (τ := Cert.DownXRefIdeal.τ) (Cert.DownXRefIdeal.main (F := Ideal))) ⟨m', fun _ => 0, g'⟩ (fun r => ∀ c : Dev Cert.DownXRefIdeal.nD,
          r.2.mem ((c.tc : Thread Cert.DownXRefIdeal.nD Cert.DownXRefIdeal.τ).loc Cert.DownXRefIdeal.main_v4) = v0 c
          ∧ r.2.mem ((c.tc : Thread Cert.DownXRefIdeal.nD Cert.DownXRefIdeal.τ).loc Cert.DownXRefIdeal.main_arg0) = m' ((c.tc : Thread Cert.DownXRefIdeal.nD Cert.DownXRefIdeal.τ).loc Cert.DownXRefIdeal.main_arg0)
          ∧ r.2.mem ((c.tc : Thread Cert.DownXRefIdeal.nD Cert.DownXRefIdeal.τ).loc Cert.DownXRefIdeal.main_arg1) = m' ((c.tc : Thread Cert.DownXRefIdeal.nD Cert.DownXRefIdeal.τ).loc Cert.DownXRefIdeal.main_arg1)
          ∧ r.2.mem ((c.tc : Thread Cert.DownXRefIdeal.nD Cert.DownXRefIdeal.τ).loc Cert.DownXRefIdeal.main_arg2) = m' ((c.tc : Thread Cert.DownXRefIdeal.nD Cert.DownXRefIdeal.τ).loc Cert.DownXRefIdeal.main_arg2))

def preserves_UpW_UpWIdeal : Prop :=
  True

def algebraic_UpWIdeal_UpWRefIdeal [hUpWIdeal : Cert.UpWIdeal.Facts] [hUpWRefIdeal : Cert.UpWRefIdeal.Facts] : Prop :=
  ∀ (m : (ℓ : Loc Cert.UpWIdeal.nD Cert.UpWIdeal.τ Cert.UpWIdeal.sig) → Buf (Elt Ideal) ℓ) (g : Dev Cert.UpWIdeal.nD → PrngReg)
    (m' : (ℓ : Loc Cert.UpWRefIdeal.nD Cert.UpWRefIdeal.τ Cert.UpWRefIdeal.sig) → Buf (Elt Ideal) ℓ) (g' : Dev Cert.UpWRefIdeal.nD → PrngReg), Pre_UpWIdeal m →
    (∀ c : Dev Cert.UpWIdeal.nD,
      m' ((c.tc : Thread Cert.UpWRefIdeal.nD Cert.UpWRefIdeal.τ).loc Cert.UpWRefIdeal.main_arg0) = m ((c.tc : Thread Cert.UpWIdeal.nD Cert.UpWIdeal.τ).loc Cert.UpWIdeal.main_arg0)
      ∧ m' ((c.tc : Thread Cert.UpWRefIdeal.nD Cert.UpWRefIdeal.τ).loc Cert.UpWRefIdeal.main_arg1) = m ((c.tc : Thread Cert.UpWIdeal.nD Cert.UpWIdeal.τ).loc Cert.UpWIdeal.main_arg1)
      ∧ m' ((c.tc : Thread Cert.UpWRefIdeal.nD Cert.UpWRefIdeal.τ).loc Cert.UpWRefIdeal.main_arg2) = m ((c.tc : Thread Cert.UpWIdeal.nD Cert.UpWIdeal.τ).loc Cert.UpWIdeal.main_arg2)) →
    ∃ (v0 : (c : Dev Cert.UpWIdeal.nD) → Buf (Elt Ideal) ((c.tc : Thread Cert.UpWIdeal.nD Cert.UpWIdeal.τ).loc Cert.UpWIdeal.main_v2)),
      θ_run (Cert.UpWIdeal.defs (F := Ideal)) (onTc (τ := Cert.UpWIdeal.τ) (Cert.UpWIdeal.main (F := Ideal))) ⟨m, fun _ => 0, g⟩ (fun r => ∀ c : Dev Cert.UpWIdeal.nD,
          r.2.mem ((c.tc : Thread Cert.UpWIdeal.nD Cert.UpWIdeal.τ).loc Cert.UpWIdeal.main_v2) = v0 c
          ∧ r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
          ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1)
          ∧ r.2.mem ((c.tc : Thread Cert.UpWIdeal.nD Cert.UpWIdeal.τ).loc Cert.UpWIdeal.main_arg2) = m ((c.tc : Thread Cert.UpWIdeal.nD Cert.UpWIdeal.τ).loc Cert.UpWIdeal.main_arg2))
      ∧ θ_run (Cert.UpWRefIdeal.defs (F := Ideal)) (onTc (τ := Cert.UpWRefIdeal.τ) (Cert.UpWRefIdeal.main (F := Ideal))) ⟨m', fun _ => 0, g'⟩ (fun r => ∀ c : Dev Cert.UpWRefIdeal.nD,
          r.2.mem ((c.tc : Thread Cert.UpWRefIdeal.nD Cert.UpWRefIdeal.τ).loc Cert.UpWRefIdeal.main_v13) = v0 c
          ∧ r.2.mem ((c.tc : Thread Cert.UpWRefIdeal.nD Cert.UpWRefIdeal.τ).loc Cert.UpWRefIdeal.main_arg0) = m' ((c.tc : Thread Cert.UpWRefIdeal.nD Cert.UpWRefIdeal.τ).loc Cert.UpWRefIdeal.main_arg0)
          ∧ r.2.mem ((c.tc : Thread Cert.UpWRefIdeal.nD Cert.UpWRefIdeal.τ).loc Cert.UpWRefIdeal.main_arg1) = m' ((c.tc : Thread Cert.UpWRefIdeal.nD Cert.UpWRefIdeal.τ).loc Cert.UpWRefIdeal.main_arg1)
          ∧ r.2.mem ((c.tc : Thread Cert.UpWRefIdeal.nD Cert.UpWRefIdeal.τ).loc Cert.UpWRefIdeal.main_arg2) = m' ((c.tc : Thread Cert.UpWRefIdeal.nD Cert.UpWRefIdeal.τ).loc Cert.UpWRefIdeal.main_arg2))

def preserves_UpX_UpXIdeal : Prop :=
  True

def algebraic_UpXIdeal_UpXRefIdeal [hUpXIdeal : Cert.UpXIdeal.Facts] [hUpXRefIdeal : Cert.UpXRefIdeal.Facts] : Prop :=
  ∀ (m : (ℓ : Loc Cert.UpXIdeal.nD Cert.UpXIdeal.τ Cert.UpXIdeal.sig) → Buf (Elt Ideal) ℓ) (g : Dev Cert.UpXIdeal.nD → PrngReg)
    (m' : (ℓ : Loc Cert.UpXRefIdeal.nD Cert.UpXRefIdeal.τ Cert.UpXRefIdeal.sig) → Buf (Elt Ideal) ℓ) (g' : Dev Cert.UpXRefIdeal.nD → PrngReg), Pre_UpXIdeal m →
    (∀ c : Dev Cert.UpXIdeal.nD,
      m' ((c.tc : Thread Cert.UpXRefIdeal.nD Cert.UpXRefIdeal.τ).loc Cert.UpXRefIdeal.main_arg0) = m ((c.tc : Thread Cert.UpXIdeal.nD Cert.UpXIdeal.τ).loc Cert.UpXIdeal.main_arg0)
      ∧ m' ((c.tc : Thread Cert.UpXRefIdeal.nD Cert.UpXRefIdeal.τ).loc Cert.UpXRefIdeal.main_arg1) = m ((c.tc : Thread Cert.UpXIdeal.nD Cert.UpXIdeal.τ).loc Cert.UpXIdeal.main_arg1)
      ∧ m' ((c.tc : Thread Cert.UpXRefIdeal.nD Cert.UpXRefIdeal.τ).loc Cert.UpXRefIdeal.main_arg2) = m ((c.tc : Thread Cert.UpXIdeal.nD Cert.UpXIdeal.τ).loc Cert.UpXIdeal.main_arg2)) →
    ∃ (v0 : (c : Dev Cert.UpXIdeal.nD) → Buf (Elt Ideal) ((c.tc : Thread Cert.UpXIdeal.nD Cert.UpXIdeal.τ).loc Cert.UpXIdeal.main_v4)),
      θ_run (Cert.UpXIdeal.defs (F := Ideal)) (onTc (τ := Cert.UpXIdeal.τ) (Cert.UpXIdeal.main (F := Ideal))) ⟨m, fun _ => 0, g⟩ (fun r => ∀ c : Dev Cert.UpXIdeal.nD,
          r.2.mem ((c.tc : Thread Cert.UpXIdeal.nD Cert.UpXIdeal.τ).loc Cert.UpXIdeal.main_v4) = v0 c
          ∧ r.2.mem ((c.tc : Thread Cert.UpXIdeal.nD Cert.UpXIdeal.τ).loc Cert.UpXIdeal.main_arg0) = m ((c.tc : Thread Cert.UpXIdeal.nD Cert.UpXIdeal.τ).loc Cert.UpXIdeal.main_arg0)
          ∧ r.2.mem ((c.tc : Thread Cert.UpXIdeal.nD Cert.UpXIdeal.τ).loc Cert.UpXIdeal.main_arg1) = m ((c.tc : Thread Cert.UpXIdeal.nD Cert.UpXIdeal.τ).loc Cert.UpXIdeal.main_arg1)
          ∧ r.2.mem ((c.tc : Thread Cert.UpXIdeal.nD Cert.UpXIdeal.τ).loc Cert.UpXIdeal.main_arg2) = m ((c.tc : Thread Cert.UpXIdeal.nD Cert.UpXIdeal.τ).loc Cert.UpXIdeal.main_arg2))
      ∧ θ_run (Cert.UpXRefIdeal.defs (F := Ideal)) (onTc (τ := Cert.UpXRefIdeal.τ) (Cert.UpXRefIdeal.main (F := Ideal))) ⟨m', fun _ => 0, g'⟩ (fun r => ∀ c : Dev Cert.UpXRefIdeal.nD,
          r.2.mem ((c.tc : Thread Cert.UpXRefIdeal.nD Cert.UpXRefIdeal.τ).loc Cert.UpXRefIdeal.main_v3) = v0 c
          ∧ r.2.mem ((c.tc : Thread Cert.UpXRefIdeal.nD Cert.UpXRefIdeal.τ).loc Cert.UpXRefIdeal.main_arg0) = m' ((c.tc : Thread Cert.UpXRefIdeal.nD Cert.UpXRefIdeal.τ).loc Cert.UpXRefIdeal.main_arg0)
          ∧ r.2.mem ((c.tc : Thread Cert.UpXRefIdeal.nD Cert.UpXRefIdeal.τ).loc Cert.UpXRefIdeal.main_arg1) = m' ((c.tc : Thread Cert.UpXRefIdeal.nD Cert.UpXRefIdeal.τ).loc Cert.UpXRefIdeal.main_arg1)
          ∧ r.2.mem ((c.tc : Thread Cert.UpXRefIdeal.nD Cert.UpXRefIdeal.τ).loc Cert.UpXRefIdeal.main_arg2) = m' ((c.tc : Thread Cert.UpXRefIdeal.nD Cert.UpXRefIdeal.τ).loc Cert.UpXRefIdeal.main_arg2))

def preserves_InW_InWIdeal : Prop :=
  True

def algebraic_InWIdeal_InWRefIdeal [hInWIdeal : Cert.InWIdeal.Facts] [hInWRefIdeal : Cert.InWRefIdeal.Facts] : Prop :=
  ∀ (m : (ℓ : Loc Cert.InWIdeal.nD Cert.InWIdeal.τ Cert.InWIdeal.sig) → Buf (Elt Ideal) ℓ) (g : Dev Cert.InWIdeal.nD → PrngReg)
    (m' : (ℓ : Loc Cert.InWRefIdeal.nD Cert.InWRefIdeal.τ Cert.InWRefIdeal.sig) → Buf (Elt Ideal) ℓ) (g' : Dev Cert.InWRefIdeal.nD → PrngReg), Pre_InWIdeal m →
    (∀ c : Dev Cert.InWIdeal.nD,
      m' ((c.tc : Thread Cert.InWRefIdeal.nD Cert.InWRefIdeal.τ).loc Cert.InWRefIdeal.main_arg0) = m ((c.tc : Thread Cert.InWIdeal.nD Cert.InWIdeal.τ).loc Cert.InWIdeal.main_arg0)
      ∧ m' ((c.tc : Thread Cert.InWRefIdeal.nD Cert.InWRefIdeal.τ).loc Cert.InWRefIdeal.main_arg1) = m ((c.tc : Thread Cert.InWIdeal.nD Cert.InWIdeal.τ).loc Cert.InWIdeal.main_arg1)
      ∧ m' ((c.tc : Thread Cert.InWRefIdeal.nD Cert.InWRefIdeal.τ).loc Cert.InWRefIdeal.main_arg2) = m ((c.tc : Thread Cert.InWIdeal.nD Cert.InWIdeal.τ).loc Cert.InWIdeal.main_arg2)
      ∧ m' ((c.tc : Thread Cert.InWRefIdeal.nD Cert.InWRefIdeal.τ).loc Cert.InWRefIdeal.main_arg3) = m ((c.tc : Thread Cert.InWIdeal.nD Cert.InWIdeal.τ).loc Cert.InWIdeal.main_arg3)
      ∧ m' ((c.tc : Thread Cert.InWRefIdeal.nD Cert.InWRefIdeal.τ).loc Cert.InWRefIdeal.main_arg4) = m ((c.tc : Thread Cert.InWIdeal.nD Cert.InWIdeal.τ).loc Cert.InWIdeal.main_arg4)
      ∧ m' ((c.tc : Thread Cert.InWRefIdeal.nD Cert.InWRefIdeal.τ).loc Cert.InWRefIdeal.main_arg5) = m ((c.tc : Thread Cert.InWIdeal.nD Cert.InWIdeal.τ).loc Cert.InWIdeal.main_arg5)
      ∧ m' ((c.tc : Thread Cert.InWRefIdeal.nD Cert.InWRefIdeal.τ).loc Cert.InWRefIdeal.main_arg6) = m ((c.tc : Thread Cert.InWIdeal.nD Cert.InWIdeal.τ).loc Cert.InWIdeal.main_arg6)
      ∧ m' ((c.tc : Thread Cert.InWRefIdeal.nD Cert.InWRefIdeal.τ).loc Cert.InWRefIdeal.main_arg7) = m ((c.tc : Thread Cert.InWIdeal.nD Cert.InWIdeal.τ).loc Cert.InWIdeal.main_arg7)) →
    ∃ (v0 : (c : Dev Cert.InWIdeal.nD) → Buf (Elt Ideal) ((c.tc : Thread Cert.InWIdeal.nD Cert.InWIdeal.τ).loc Cert.InWIdeal.main_v7)),
      θ_run (Cert.InWIdeal.defs (F := Ideal)) (onTc (τ := Cert.InWIdeal.τ) (Cert.InWIdeal.main (F := Ideal))) ⟨m, fun _ => 0, g⟩ (fun r => ∀ c : Dev Cert.InWIdeal.nD,
          r.2.mem ((c.tc : Thread Cert.InWIdeal.nD Cert.InWIdeal.τ).loc Cert.InWIdeal.main_v7) = v0 c
          ∧ r.2.mem ((c.tc : Thread Cert.InWIdeal.nD Cert.InWIdeal.τ).loc Cert.InWIdeal.main_arg0) = m ((c.tc : Thread Cert.InWIdeal.nD Cert.InWIdeal.τ).loc Cert.InWIdeal.main_arg0)
          ∧ r.2.mem ((c.tc : Thread Cert.InWIdeal.nD Cert.InWIdeal.τ).loc Cert.InWIdeal.main_arg1) = m ((c.tc : Thread Cert.InWIdeal.nD Cert.InWIdeal.τ).loc Cert.InWIdeal.main_arg1)
          ∧ r.2.mem ((c.tc : Thread Cert.InWIdeal.nD Cert.InWIdeal.τ).loc Cert.InWIdeal.main_arg2) = m ((c.tc : Thread Cert.InWIdeal.nD Cert.InWIdeal.τ).loc Cert.InWIdeal.main_arg2)
          ∧ r.2.mem ((c.tc : Thread Cert.InWIdeal.nD Cert.InWIdeal.τ).loc Cert.InWIdeal.main_arg3) = m ((c.tc : Thread Cert.InWIdeal.nD Cert.InWIdeal.τ).loc Cert.InWIdeal.main_arg3)
          ∧ r.2.mem ((c.tc : Thread Cert.InWIdeal.nD Cert.InWIdeal.τ).loc Cert.InWIdeal.main_arg4) = m ((c.tc : Thread Cert.InWIdeal.nD Cert.InWIdeal.τ).loc Cert.InWIdeal.main_arg4)
          ∧ r.2.mem ((c.tc : Thread Cert.InWIdeal.nD Cert.InWIdeal.τ).loc Cert.InWIdeal.main_arg5) = m ((c.tc : Thread Cert.InWIdeal.nD Cert.InWIdeal.τ).loc Cert.InWIdeal.main_arg5)
          ∧ r.2.mem ((c.tc : Thread Cert.InWIdeal.nD Cert.InWIdeal.τ).loc Cert.InWIdeal.main_arg6) = m ((c.tc : Thread Cert.InWIdeal.nD Cert.InWIdeal.τ).loc Cert.InWIdeal.main_arg6)
          ∧ r.2.mem ((c.tc : Thread Cert.InWIdeal.nD Cert.InWIdeal.τ).loc Cert.InWIdeal.main_arg7) = m ((c.tc : Thread Cert.InWIdeal.nD Cert.InWIdeal.τ).loc Cert.InWIdeal.main_arg7))
      ∧ θ_run (Cert.InWRefIdeal.defs (F := Ideal)) (onTc (τ := Cert.InWRefIdeal.τ) (Cert.InWRefIdeal.main (F := Ideal))) ⟨m', fun _ => 0, g'⟩ (fun r => ∀ c : Dev Cert.InWRefIdeal.nD,
          r.2.mem ((c.tc : Thread Cert.InWRefIdeal.nD Cert.InWRefIdeal.τ).loc Cert.InWRefIdeal.main_v22) = v0 c
          ∧ r.2.mem ((c.tc : Thread Cert.InWRefIdeal.nD Cert.InWRefIdeal.τ).loc Cert.InWRefIdeal.main_arg0) = m' ((c.tc : Thread Cert.InWRefIdeal.nD Cert.InWRefIdeal.τ).loc Cert.InWRefIdeal.main_arg0)
          ∧ r.2.mem ((c.tc : Thread Cert.InWRefIdeal.nD Cert.InWRefIdeal.τ).loc Cert.InWRefIdeal.main_arg1) = m' ((c.tc : Thread Cert.InWRefIdeal.nD Cert.InWRefIdeal.τ).loc Cert.InWRefIdeal.main_arg1)
          ∧ r.2.mem ((c.tc : Thread Cert.InWRefIdeal.nD Cert.InWRefIdeal.τ).loc Cert.InWRefIdeal.main_arg2) = m' ((c.tc : Thread Cert.InWRefIdeal.nD Cert.InWRefIdeal.τ).loc Cert.InWRefIdeal.main_arg2)
          ∧ r.2.mem ((c.tc : Thread Cert.InWRefIdeal.nD Cert.InWRefIdeal.τ).loc Cert.InWRefIdeal.main_arg3) = m' ((c.tc : Thread Cert.InWRefIdeal.nD Cert.InWRefIdeal.τ).loc Cert.InWRefIdeal.main_arg3)
          ∧ r.2.mem ((c.tc : Thread Cert.InWRefIdeal.nD Cert.InWRefIdeal.τ).loc Cert.InWRefIdeal.main_arg4) = m' ((c.tc : Thread Cert.InWRefIdeal.nD Cert.InWRefIdeal.τ).loc Cert.InWRefIdeal.main_arg4)
          ∧ r.2.mem ((c.tc : Thread Cert.InWRefIdeal.nD Cert.InWRefIdeal.τ).loc Cert.InWRefIdeal.main_arg5) = m' ((c.tc : Thread Cert.InWRefIdeal.nD Cert.InWRefIdeal.τ).loc Cert.InWRefIdeal.main_arg5)
          ∧ r.2.mem ((c.tc : Thread Cert.InWRefIdeal.nD Cert.InWRefIdeal.τ).loc Cert.InWRefIdeal.main_arg6) = m' ((c.tc : Thread Cert.InWRefIdeal.nD Cert.InWRefIdeal.τ).loc Cert.InWRefIdeal.main_arg6)
          ∧ r.2.mem ((c.tc : Thread Cert.InWRefIdeal.nD Cert.InWRefIdeal.τ).loc Cert.InWRefIdeal.main_arg7) = m' ((c.tc : Thread Cert.InWRefIdeal.nD Cert.InWRefIdeal.τ).loc Cert.InWRefIdeal.main_arg7))

def preserves_InX_InXIdeal : Prop :=
  True

def algebraic_InXIdeal_InXRefIdeal [hInXIdeal : Cert.InXIdeal.Facts] [hInXRefIdeal : Cert.InXRefIdeal.Facts] : Prop :=
  ∀ (m : (ℓ : Loc Cert.InXIdeal.nD Cert.InXIdeal.τ Cert.InXIdeal.sig) → Buf (Elt Ideal) ℓ) (g : Dev Cert.InXIdeal.nD → PrngReg)
    (m' : (ℓ : Loc Cert.InXRefIdeal.nD Cert.InXRefIdeal.τ Cert.InXRefIdeal.sig) → Buf (Elt Ideal) ℓ) (g' : Dev Cert.InXRefIdeal.nD → PrngReg), Pre_InXIdeal m →
    (∀ c : Dev Cert.InXIdeal.nD,
      m' ((c.tc : Thread Cert.InXRefIdeal.nD Cert.InXRefIdeal.τ).loc Cert.InXRefIdeal.main_arg0) = m ((c.tc : Thread Cert.InXIdeal.nD Cert.InXIdeal.τ).loc Cert.InXIdeal.main_arg0)
      ∧ m' ((c.tc : Thread Cert.InXRefIdeal.nD Cert.InXRefIdeal.τ).loc Cert.InXRefIdeal.main_arg1) = m ((c.tc : Thread Cert.InXIdeal.nD Cert.InXIdeal.τ).loc Cert.InXIdeal.main_arg1)
      ∧ m' ((c.tc : Thread Cert.InXRefIdeal.nD Cert.InXRefIdeal.τ).loc Cert.InXRefIdeal.main_arg2) = m ((c.tc : Thread Cert.InXIdeal.nD Cert.InXIdeal.τ).loc Cert.InXIdeal.main_arg2)
      ∧ m' ((c.tc : Thread Cert.InXRefIdeal.nD Cert.InXRefIdeal.τ).loc Cert.InXRefIdeal.main_arg3) = m ((c.tc : Thread Cert.InXIdeal.nD Cert.InXIdeal.τ).loc Cert.InXIdeal.main_arg3)
      ∧ m' ((c.tc : Thread Cert.InXRefIdeal.nD Cert.InXRefIdeal.τ).loc Cert.InXRefIdeal.main_arg4) = m ((c.tc : Thread Cert.InXIdeal.nD Cert.InXIdeal.τ).loc Cert.InXIdeal.main_arg4)
      ∧ m' ((c.tc : Thread Cert.InXRefIdeal.nD Cert.InXRefIdeal.τ).loc Cert.InXRefIdeal.main_arg5) = m ((c.tc : Thread Cert.InXIdeal.nD Cert.InXIdeal.τ).loc Cert.InXIdeal.main_arg5)
      ∧ m' ((c.tc : Thread Cert.InXRefIdeal.nD Cert.InXRefIdeal.τ).loc Cert.InXRefIdeal.main_arg6) = m ((c.tc : Thread Cert.InXIdeal.nD Cert.InXIdeal.τ).loc Cert.InXIdeal.main_arg6)
      ∧ m' ((c.tc : Thread Cert.InXRefIdeal.nD Cert.InXRefIdeal.τ).loc Cert.InXRefIdeal.main_arg7) = m ((c.tc : Thread Cert.InXIdeal.nD Cert.InXIdeal.τ).loc Cert.InXIdeal.main_arg7)) →
    ∃ (v0 : (c : Dev Cert.InXIdeal.nD) → Buf (Elt Ideal) ((c.tc : Thread Cert.InXIdeal.nD Cert.InXIdeal.τ).loc Cert.InXIdeal.main_v16)),
      θ_run (Cert.InXIdeal.defs (F := Ideal)) (onTc (τ := Cert.InXIdeal.τ) (Cert.InXIdeal.main (F := Ideal))) ⟨m, fun _ => 0, g⟩ (fun r => ∀ c : Dev Cert.InXIdeal.nD,
          r.2.mem ((c.tc : Thread Cert.InXIdeal.nD Cert.InXIdeal.τ).loc Cert.InXIdeal.main_v16) = v0 c
          ∧ r.2.mem ((c.tc : Thread Cert.InXIdeal.nD Cert.InXIdeal.τ).loc Cert.InXIdeal.main_arg0) = m ((c.tc : Thread Cert.InXIdeal.nD Cert.InXIdeal.τ).loc Cert.InXIdeal.main_arg0)
          ∧ r.2.mem ((c.tc : Thread Cert.InXIdeal.nD Cert.InXIdeal.τ).loc Cert.InXIdeal.main_arg1) = m ((c.tc : Thread Cert.InXIdeal.nD Cert.InXIdeal.τ).loc Cert.InXIdeal.main_arg1)
          ∧ r.2.mem ((c.tc : Thread Cert.InXIdeal.nD Cert.InXIdeal.τ).loc Cert.InXIdeal.main_arg2) = m ((c.tc : Thread Cert.InXIdeal.nD Cert.InXIdeal.τ).loc Cert.InXIdeal.main_arg2)
          ∧ r.2.mem ((c.tc : Thread Cert.InXIdeal.nD Cert.InXIdeal.τ).loc Cert.InXIdeal.main_arg3) = m ((c.tc : Thread Cert.InXIdeal.nD Cert.InXIdeal.τ).loc Cert.InXIdeal.main_arg3)
          ∧ r.2.mem ((c.tc : Thread Cert.InXIdeal.nD Cert.InXIdeal.τ).loc Cert.InXIdeal.main_arg4) = m ((c.tc : Thread Cert.InXIdeal.nD Cert.InXIdeal.τ).loc Cert.InXIdeal.main_arg4)
          ∧ r.2.mem ((c.tc : Thread Cert.InXIdeal.nD Cert.InXIdeal.τ).loc Cert.InXIdeal.main_arg5) = m ((c.tc : Thread Cert.InXIdeal.nD Cert.InXIdeal.τ).loc Cert.InXIdeal.main_arg5)
          ∧ r.2.mem ((c.tc : Thread Cert.InXIdeal.nD Cert.InXIdeal.τ).loc Cert.InXIdeal.main_arg6) = m ((c.tc : Thread Cert.InXIdeal.nD Cert.InXIdeal.τ).loc Cert.InXIdeal.main_arg6)
          ∧ r.2.mem ((c.tc : Thread Cert.InXIdeal.nD Cert.InXIdeal.τ).loc Cert.InXIdeal.main_arg7) = m ((c.tc : Thread Cert.InXIdeal.nD Cert.InXIdeal.τ).loc Cert.InXIdeal.main_arg7))
      ∧ θ_run (Cert.InXRefIdeal.defs (F := Ideal)) (onTc (τ := Cert.InXRefIdeal.τ) (Cert.InXRefIdeal.main (F := Ideal))) ⟨m', fun _ => 0, g'⟩ (fun r => ∀ c : Dev Cert.InXRefIdeal.nD,
          r.2.mem ((c.tc : Thread Cert.InXRefIdeal.nD Cert.InXRefIdeal.τ).loc Cert.InXRefIdeal.main_v10) = v0 c
          ∧ r.2.mem ((c.tc : Thread Cert.InXRefIdeal.nD Cert.InXRefIdeal.τ).loc Cert.InXRefIdeal.main_arg0) = m' ((c.tc : Thread Cert.InXRefIdeal.nD Cert.InXRefIdeal.τ).loc Cert.InXRefIdeal.main_arg0)
          ∧ r.2.mem ((c.tc : Thread Cert.InXRefIdeal.nD Cert.InXRefIdeal.τ).loc Cert.InXRefIdeal.main_arg1) = m' ((c.tc : Thread Cert.InXRefIdeal.nD Cert.InXRefIdeal.τ).loc Cert.InXRefIdeal.main_arg1)
          ∧ r.2.mem ((c.tc : Thread Cert.InXRefIdeal.nD Cert.InXRefIdeal.τ).loc Cert.InXRefIdeal.main_arg2) = m' ((c.tc : Thread Cert.InXRefIdeal.nD Cert.InXRefIdeal.τ).loc Cert.InXRefIdeal.main_arg2)
          ∧ r.2.mem ((c.tc : Thread Cert.InXRefIdeal.nD Cert.InXRefIdeal.τ).loc Cert.InXRefIdeal.main_arg3) = m' ((c.tc : Thread Cert.InXRefIdeal.nD Cert.InXRefIdeal.τ).loc Cert.InXRefIdeal.main_arg3)
          ∧ r.2.mem ((c.tc : Thread Cert.InXRefIdeal.nD Cert.InXRefIdeal.τ).loc Cert.InXRefIdeal.main_arg4) = m' ((c.tc : Thread Cert.InXRefIdeal.nD Cert.InXRefIdeal.τ).loc Cert.InXRefIdeal.main_arg4)
          ∧ r.2.mem ((c.tc : Thread Cert.InXRefIdeal.nD Cert.InXRefIdeal.τ).loc Cert.InXRefIdeal.main_arg5) = m' ((c.tc : Thread Cert.InXRefIdeal.nD Cert.InXRefIdeal.τ).loc Cert.InXRefIdeal.main_arg5)
          ∧ r.2.mem ((c.tc : Thread Cert.InXRefIdeal.nD Cert.InXRefIdeal.τ).loc Cert.InXRefIdeal.main_arg6) = m' ((c.tc : Thread Cert.InXRefIdeal.nD Cert.InXRefIdeal.τ).loc Cert.InXRefIdeal.main_arg6)
          ∧ r.2.mem ((c.tc : Thread Cert.InXRefIdeal.nD Cert.InXRefIdeal.τ).loc Cert.InXRefIdeal.main_arg7) = m' ((c.tc : Thread Cert.InXRefIdeal.nD Cert.InXRefIdeal.τ).loc Cert.InXRefIdeal.main_arg7))

def preserves_ProjW_ProjWIdeal : Prop :=
  True

def algebraic_ProjWIdeal_ProjWRefIdeal [hProjWIdeal : Cert.ProjWIdeal.Facts] [hProjWRefIdeal : Cert.ProjWRefIdeal.Facts] : Prop :=
  ∀ (m : (ℓ : Loc Cert.ProjWIdeal.nD Cert.ProjWIdeal.τ Cert.ProjWIdeal.sig) → Buf (Elt Ideal) ℓ) (g : Dev Cert.ProjWIdeal.nD → PrngReg)
    (m' : (ℓ : Loc Cert.ProjWRefIdeal.nD Cert.ProjWRefIdeal.τ Cert.ProjWRefIdeal.sig) → Buf (Elt Ideal) ℓ) (g' : Dev Cert.ProjWRefIdeal.nD → PrngReg), Pre_ProjWIdeal m →
    (∀ c : Dev Cert.ProjWIdeal.nD,
      m' ((c.tc : Thread Cert.ProjWRefIdeal.nD Cert.ProjWRefIdeal.τ).loc Cert.ProjWRefIdeal.main_arg0) = m ((c.tc : Thread Cert.ProjWIdeal.nD Cert.ProjWIdeal.τ).loc Cert.ProjWIdeal.main_arg0)
      ∧ m' ((c.tc : Thread Cert.ProjWRefIdeal.nD Cert.ProjWRefIdeal.τ).loc Cert.ProjWRefIdeal.main_arg1) = m ((c.tc : Thread Cert.ProjWIdeal.nD Cert.ProjWIdeal.τ).loc Cert.ProjWIdeal.main_arg1)
      ∧ m' ((c.tc : Thread Cert.ProjWRefIdeal.nD Cert.ProjWRefIdeal.τ).loc Cert.ProjWRefIdeal.main_arg2) = m ((c.tc : Thread Cert.ProjWIdeal.nD Cert.ProjWIdeal.τ).loc Cert.ProjWIdeal.main_arg2)) →
    ∃ (v0 : (c : Dev Cert.ProjWIdeal.nD) → Buf (Elt Ideal) ((c.tc : Thread Cert.ProjWIdeal.nD Cert.ProjWIdeal.τ).loc Cert.ProjWIdeal.main_v2)),
      θ_run (Cert.ProjWIdeal.defs (F := Ideal)) (onTc (τ := Cert.ProjWIdeal.τ) (Cert.ProjWIdeal.main (F := Ideal))) ⟨m, fun _ => 0, g⟩ (fun r => ∀ c : Dev Cert.ProjWIdeal.nD,
          r.2.mem ((c.tc : Thread Cert.ProjWIdeal.nD Cert.ProjWIdeal.τ).loc Cert.ProjWIdeal.main_v2) = v0 c
          ∧ r.2.mem ((c.tc : Thread Cert.ProjWIdeal.nD Cert.ProjWIdeal.τ).loc Cert.ProjWIdeal.main_arg0) = m ((c.tc : Thread Cert.ProjWIdeal.nD Cert.ProjWIdeal.τ).loc Cert.ProjWIdeal.main_arg0)
          ∧ r.2.mem ((c.tc : Thread Cert.ProjWIdeal.nD Cert.ProjWIdeal.τ).loc Cert.ProjWIdeal.main_arg1) = m ((c.tc : Thread Cert.ProjWIdeal.nD Cert.ProjWIdeal.τ).loc Cert.ProjWIdeal.main_arg1)
          ∧ r.2.mem ((c.tc : Thread Cert.ProjWIdeal.nD Cert.ProjWIdeal.τ).loc Cert.ProjWIdeal.main_arg2) = m ((c.tc : Thread Cert.ProjWIdeal.nD Cert.ProjWIdeal.τ).loc Cert.ProjWIdeal.main_arg2))
      ∧ θ_run (Cert.ProjWRefIdeal.defs (F := Ideal)) (onTc (τ := Cert.ProjWRefIdeal.τ) (Cert.ProjWRefIdeal.main (F := Ideal))) ⟨m', fun _ => 0, g'⟩ (fun r => ∀ c : Dev Cert.ProjWRefIdeal.nD,
          r.2.mem ((c.tc : Thread Cert.ProjWRefIdeal.nD Cert.ProjWRefIdeal.τ).loc Cert.ProjWRefIdeal.main_v4) = v0 c
          ∧ r.2.mem ((c.tc : Thread Cert.ProjWRefIdeal.nD Cert.ProjWRefIdeal.τ).loc Cert.ProjWRefIdeal.main_arg0) = m' ((c.tc : Thread Cert.ProjWRefIdeal.nD Cert.ProjWRefIdeal.τ).loc Cert.ProjWRefIdeal.main_arg0)
          ∧ r.2.mem ((c.tc : Thread Cert.ProjWRefIdeal.nD Cert.ProjWRefIdeal.τ).loc Cert.ProjWRefIdeal.main_arg1) = m' ((c.tc : Thread Cert.ProjWRefIdeal.nD Cert.ProjWRefIdeal.τ).loc Cert.ProjWRefIdeal.main_arg1)
          ∧ r.2.mem ((c.tc : Thread Cert.ProjWRefIdeal.nD Cert.ProjWRefIdeal.τ).loc Cert.ProjWRefIdeal.main_arg2) = m' ((c.tc : Thread Cert.ProjWRefIdeal.nD Cert.ProjWRefIdeal.τ).loc Cert.ProjWRefIdeal.main_arg2))

def preserves_ProjX_ProjXIdeal : Prop :=
  True

def algebraic_ProjXIdeal_ProjXRefIdeal [hProjXIdeal : Cert.ProjXIdeal.Facts] [hProjXRefIdeal : Cert.ProjXRefIdeal.Facts] : Prop :=
  ∀ (m : (ℓ : Loc Cert.ProjXIdeal.nD Cert.ProjXIdeal.τ Cert.ProjXIdeal.sig) → Buf (Elt Ideal) ℓ) (g : Dev Cert.ProjXIdeal.nD → PrngReg)
    (m' : (ℓ : Loc Cert.ProjXRefIdeal.nD Cert.ProjXRefIdeal.τ Cert.ProjXRefIdeal.sig) → Buf (Elt Ideal) ℓ) (g' : Dev Cert.ProjXRefIdeal.nD → PrngReg), Pre_ProjXIdeal m →
    (∀ c : Dev Cert.ProjXIdeal.nD,
      m' ((c.tc : Thread Cert.ProjXRefIdeal.nD Cert.ProjXRefIdeal.τ).loc Cert.ProjXRefIdeal.main_arg0) = m ((c.tc : Thread Cert.ProjXIdeal.nD Cert.ProjXIdeal.τ).loc Cert.ProjXIdeal.main_arg0)
      ∧ m' ((c.tc : Thread Cert.ProjXRefIdeal.nD Cert.ProjXRefIdeal.τ).loc Cert.ProjXRefIdeal.main_arg1) = m ((c.tc : Thread Cert.ProjXIdeal.nD Cert.ProjXIdeal.τ).loc Cert.ProjXIdeal.main_arg1)
      ∧ m' ((c.tc : Thread Cert.ProjXRefIdeal.nD Cert.ProjXRefIdeal.τ).loc Cert.ProjXRefIdeal.main_arg2) = m ((c.tc : Thread Cert.ProjXIdeal.nD Cert.ProjXIdeal.τ).loc Cert.ProjXIdeal.main_arg2)) →
    ∃ (v0 : (c : Dev Cert.ProjXIdeal.nD) → Buf (Elt Ideal) ((c.tc : Thread Cert.ProjXIdeal.nD Cert.ProjXIdeal.τ).loc Cert.ProjXIdeal.main_v2)),
      θ_run (Cert.ProjXIdeal.defs (F := Ideal)) (onTc (τ := Cert.ProjXIdeal.τ) (Cert.ProjXIdeal.main (F := Ideal))) ⟨m, fun _ => 0, g⟩ (fun r => ∀ c : Dev Cert.ProjXIdeal.nD,
          r.2.mem ((c.tc : Thread Cert.ProjXIdeal.nD Cert.ProjXIdeal.τ).loc Cert.ProjXIdeal.main_v2) = v0 c
          ∧ r.2.mem ((c.tc : Thread Cert.ProjXIdeal.nD Cert.ProjXIdeal.τ).loc Cert.ProjXIdeal.main_arg0) = m ((c.tc : Thread Cert.ProjXIdeal.nD Cert.ProjXIdeal.τ).loc Cert.ProjXIdeal.main_arg0)
          ∧ r.2.mem ((c.tc : Thread Cert.ProjXIdeal.nD Cert.ProjXIdeal.τ).loc Cert.ProjXIdeal.main_arg1) = m ((c.tc : Thread Cert.ProjXIdeal.nD Cert.ProjXIdeal.τ).loc Cert.ProjXIdeal.main_arg1)
          ∧ r.2.mem ((c.tc : Thread Cert.ProjXIdeal.nD Cert.ProjXIdeal.τ).loc Cert.ProjXIdeal.main_arg2) = m ((c.tc : Thread Cert.ProjXIdeal.nD Cert.ProjXIdeal.τ).loc Cert.ProjXIdeal.main_arg2))
      ∧ θ_run (Cert.ProjXRefIdeal.defs (F := Ideal)) (onTc (τ := Cert.ProjXRefIdeal.τ) (Cert.ProjXRefIdeal.main (F := Ideal))) ⟨m', fun _ => 0, g'⟩ (fun r => ∀ c : Dev Cert.ProjXRefIdeal.nD,
          r.2.mem ((c.tc : Thread Cert.ProjXRefIdeal.nD Cert.ProjXRefIdeal.τ).loc Cert.ProjXRefIdeal.main_v3) = v0 c
          ∧ r.2.mem ((c.tc : Thread Cert.ProjXRefIdeal.nD Cert.ProjXRefIdeal.τ).loc Cert.ProjXRefIdeal.main_arg0) = m' ((c.tc : Thread Cert.ProjXRefIdeal.nD Cert.ProjXRefIdeal.τ).loc Cert.ProjXRefIdeal.main_arg0)
          ∧ r.2.mem ((c.tc : Thread Cert.ProjXRefIdeal.nD Cert.ProjXRefIdeal.τ).loc Cert.ProjXRefIdeal.main_arg1) = m' ((c.tc : Thread Cert.ProjXRefIdeal.nD Cert.ProjXRefIdeal.τ).loc Cert.ProjXRefIdeal.main_arg1)
          ∧ r.2.mem ((c.tc : Thread Cert.ProjXRefIdeal.nD Cert.ProjXRefIdeal.τ).loc Cert.ProjXRefIdeal.main_arg2) = m' ((c.tc : Thread Cert.ProjXRefIdeal.nD Cert.ProjXRefIdeal.τ).loc Cert.ProjXRefIdeal.main_arg2))

def preserves_OutW_OutWIdeal : Prop :=
  True

def algebraic_OutWIdeal_OutWRefIdeal [hOutWIdeal : Cert.OutWIdeal.Facts] [hOutWRefIdeal : Cert.OutWRefIdeal.Facts] : Prop :=
  ∀ (m : (ℓ : Loc Cert.OutWIdeal.nD Cert.OutWIdeal.τ Cert.OutWIdeal.sig) → Buf (Elt Ideal) ℓ) (g : Dev Cert.OutWIdeal.nD → PrngReg)
    (m' : (ℓ : Loc Cert.OutWRefIdeal.nD Cert.OutWRefIdeal.τ Cert.OutWRefIdeal.sig) → Buf (Elt Ideal) ℓ) (g' : Dev Cert.OutWRefIdeal.nD → PrngReg), Pre_OutWIdeal m →
    (∀ c : Dev Cert.OutWIdeal.nD,
      m' ((c.tc : Thread Cert.OutWRefIdeal.nD Cert.OutWRefIdeal.τ).loc Cert.OutWRefIdeal.main_arg0) = m ((c.tc : Thread Cert.OutWIdeal.nD Cert.OutWIdeal.τ).loc Cert.OutWIdeal.main_arg0)
      ∧ m' ((c.tc : Thread Cert.OutWRefIdeal.nD Cert.OutWRefIdeal.τ).loc Cert.OutWRefIdeal.main_arg1) = m ((c.tc : Thread Cert.OutWIdeal.nD Cert.OutWIdeal.τ).loc Cert.OutWIdeal.main_arg1)
      ∧ m' ((c.tc : Thread Cert.OutWRefIdeal.nD Cert.OutWRefIdeal.τ).loc Cert.OutWRefIdeal.main_arg2) = m ((c.tc : Thread Cert.OutWIdeal.nD Cert.OutWIdeal.τ).loc Cert.OutWIdeal.main_arg2)) →
    ∃ (v0 : (c : Dev Cert.OutWIdeal.nD) → Buf (Elt Ideal) ((c.tc : Thread Cert.OutWIdeal.nD Cert.OutWIdeal.τ).loc Cert.OutWIdeal.main_v2)),
      θ_run (Cert.OutWIdeal.defs (F := Ideal)) (onTc (τ := Cert.OutWIdeal.τ) (Cert.OutWIdeal.main (F := Ideal))) ⟨m, fun _ => 0, g⟩ (fun r => ∀ c : Dev Cert.OutWIdeal.nD,
          r.2.mem ((c.tc : Thread Cert.OutWIdeal.nD Cert.OutWIdeal.τ).loc Cert.OutWIdeal.main_v2) = v0 c
          ∧ r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
          ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1)
          ∧ r.2.mem ((c.tc : Thread Cert.OutWIdeal.nD Cert.OutWIdeal.τ).loc Cert.OutWIdeal.main_arg2) = m ((c.tc : Thread Cert.OutWIdeal.nD Cert.OutWIdeal.τ).loc Cert.OutWIdeal.main_arg2))
      ∧ θ_run (Cert.OutWRefIdeal.defs (F := Ideal)) (onTc (τ := Cert.OutWRefIdeal.τ) (Cert.OutWRefIdeal.main (F := Ideal))) ⟨m', fun _ => 0, g'⟩ (fun r => ∀ c : Dev Cert.OutWRefIdeal.nD,
          r.2.mem ((c.tc : Thread Cert.OutWRefIdeal.nD Cert.OutWRefIdeal.τ).loc Cert.OutWRefIdeal.main_v4) = v0 c
          ∧ r.2.mem ((c.tc : Thread Cert.OutWRefIdeal.nD Cert.OutWRefIdeal.τ).loc Cert.OutWRefIdeal.main_arg0) = m' ((c.tc : Thread Cert.OutWRefIdeal.nD Cert.OutWRefIdeal.τ).loc Cert.OutWRefIdeal.main_arg0)
          ∧ r.2.mem ((c.tc : Thread Cert.OutWRefIdeal.nD Cert.OutWRefIdeal.τ).loc Cert.OutWRefIdeal.main_arg1) = m' ((c.tc : Thread Cert.OutWRefIdeal.nD Cert.OutWRefIdeal.τ).loc Cert.OutWRefIdeal.main_arg1)
          ∧ r.2.mem ((c.tc : Thread Cert.OutWRefIdeal.nD Cert.OutWRefIdeal.τ).loc Cert.OutWRefIdeal.main_arg2) = m' ((c.tc : Thread Cert.OutWRefIdeal.nD Cert.OutWRefIdeal.τ).loc Cert.OutWRefIdeal.main_arg2))

def preserves_OutX_OutXIdeal : Prop :=
  True

def algebraic_OutXIdeal_OutXRefIdeal [hOutXIdeal : Cert.OutXIdeal.Facts] [hOutXRefIdeal : Cert.OutXRefIdeal.Facts] : Prop :=
  ∀ (m : (ℓ : Loc Cert.OutXIdeal.nD Cert.OutXIdeal.τ Cert.OutXIdeal.sig) → Buf (Elt Ideal) ℓ) (g : Dev Cert.OutXIdeal.nD → PrngReg)
    (m' : (ℓ : Loc Cert.OutXRefIdeal.nD Cert.OutXRefIdeal.τ Cert.OutXRefIdeal.sig) → Buf (Elt Ideal) ℓ) (g' : Dev Cert.OutXRefIdeal.nD → PrngReg), Pre_OutXIdeal m →
    (∀ c : Dev Cert.OutXIdeal.nD,
      m' ((c.tc : Thread Cert.OutXRefIdeal.nD Cert.OutXRefIdeal.τ).loc Cert.OutXRefIdeal.main_arg0) = m ((c.tc : Thread Cert.OutXIdeal.nD Cert.OutXIdeal.τ).loc Cert.OutXIdeal.main_arg0)
      ∧ m' ((c.tc : Thread Cert.OutXRefIdeal.nD Cert.OutXRefIdeal.τ).loc Cert.OutXRefIdeal.main_arg1) = m ((c.tc : Thread Cert.OutXIdeal.nD Cert.OutXIdeal.τ).loc Cert.OutXIdeal.main_arg1)
      ∧ m' ((c.tc : Thread Cert.OutXRefIdeal.nD Cert.OutXRefIdeal.τ).loc Cert.OutXRefIdeal.main_arg2) = m ((c.tc : Thread Cert.OutXIdeal.nD Cert.OutXIdeal.τ).loc Cert.OutXIdeal.main_arg2)) →
    ∃ (v0 : (c : Dev Cert.OutXIdeal.nD) → Buf (Elt Ideal) ((c.tc : Thread Cert.OutXIdeal.nD Cert.OutXIdeal.τ).loc Cert.OutXIdeal.main_v2)),
      θ_run (Cert.OutXIdeal.defs (F := Ideal)) (onTc (τ := Cert.OutXIdeal.τ) (Cert.OutXIdeal.main (F := Ideal))) ⟨m, fun _ => 0, g⟩ (fun r => ∀ c : Dev Cert.OutXIdeal.nD,
          r.2.mem ((c.tc : Thread Cert.OutXIdeal.nD Cert.OutXIdeal.τ).loc Cert.OutXIdeal.main_v2) = v0 c
          ∧ r.2.mem ((c.tc : Thread Cert.OutXIdeal.nD Cert.OutXIdeal.τ).loc Cert.OutXIdeal.main_arg0) = m ((c.tc : Thread Cert.OutXIdeal.nD Cert.OutXIdeal.τ).loc Cert.OutXIdeal.main_arg0)
          ∧ r.2.mem ((c.tc : Thread Cert.OutXIdeal.nD Cert.OutXIdeal.τ).loc Cert.OutXIdeal.main_arg1) = m ((c.tc : Thread Cert.OutXIdeal.nD Cert.OutXIdeal.τ).loc Cert.OutXIdeal.main_arg1)
          ∧ r.2.mem ((c.tc : Thread Cert.OutXIdeal.nD Cert.OutXIdeal.τ).loc Cert.OutXIdeal.main_arg2) = m ((c.tc : Thread Cert.OutXIdeal.nD Cert.OutXIdeal.τ).loc Cert.OutXIdeal.main_arg2))
      ∧ θ_run (Cert.OutXRefIdeal.defs (F := Ideal)) (onTc (τ := Cert.OutXRefIdeal.τ) (Cert.OutXRefIdeal.main (F := Ideal))) ⟨m', fun _ => 0, g'⟩ (fun r => ∀ c : Dev Cert.OutXRefIdeal.nD,
          r.2.mem ((c.tc : Thread Cert.OutXRefIdeal.nD Cert.OutXRefIdeal.τ).loc Cert.OutXRefIdeal.main_v3) = v0 c
          ∧ r.2.mem ((c.tc : Thread Cert.OutXRefIdeal.nD Cert.OutXRefIdeal.τ).loc Cert.OutXRefIdeal.main_arg0) = m' ((c.tc : Thread Cert.OutXRefIdeal.nD Cert.OutXRefIdeal.τ).loc Cert.OutXRefIdeal.main_arg0)
          ∧ r.2.mem ((c.tc : Thread Cert.OutXRefIdeal.nD Cert.OutXRefIdeal.τ).loc Cert.OutXRefIdeal.main_arg1) = m' ((c.tc : Thread Cert.OutXRefIdeal.nD Cert.OutXRefIdeal.τ).loc Cert.OutXRefIdeal.main_arg1)
          ∧ r.2.mem ((c.tc : Thread Cert.OutXRefIdeal.nD Cert.OutXRefIdeal.τ).loc Cert.OutXRefIdeal.main_arg2) = m' ((c.tc : Thread Cert.OutXRefIdeal.nD Cert.OutXRefIdeal.τ).loc Cert.OutXRefIdeal.main_arg2))

def preserves_GluW_GluWIdeal : Prop :=
  True

def algebraic_GluWIdeal_GluWRefIdeal [hGluWIdeal : Cert.GluWIdeal.Facts] [hGluWRefIdeal : Cert.GluWRefIdeal.Facts] : Prop :=
  ∀ (m : (ℓ : Loc Cert.GluWIdeal.nD Cert.GluWIdeal.τ Cert.GluWIdeal.sig) → Buf (Elt Ideal) ℓ) (g : Dev Cert.GluWIdeal.nD → PrngReg)
    (m' : (ℓ : Loc Cert.GluWRefIdeal.nD Cert.GluWRefIdeal.τ Cert.GluWRefIdeal.sig) → Buf (Elt Ideal) ℓ) (g' : Dev Cert.GluWRefIdeal.nD → PrngReg), Pre_GluWIdeal m →
    (∀ c : Dev Cert.GluWIdeal.nD,
      m' ((c.tc : Thread Cert.GluWRefIdeal.nD Cert.GluWRefIdeal.τ).loc Cert.GluWRefIdeal.main_arg0) = m ((c.tc : Thread Cert.GluWIdeal.nD Cert.GluWIdeal.τ).loc Cert.GluWIdeal.main_arg0)
      ∧ m' ((c.tc : Thread Cert.GluWRefIdeal.nD Cert.GluWRefIdeal.τ).loc Cert.GluWRefIdeal.main_arg1) = m ((c.tc : Thread Cert.GluWIdeal.nD Cert.GluWIdeal.τ).loc Cert.GluWIdeal.main_arg1)
      ∧ m' ((c.tc : Thread Cert.GluWRefIdeal.nD Cert.GluWRefIdeal.τ).loc Cert.GluWRefIdeal.main_arg2) = m ((c.tc : Thread Cert.GluWIdeal.nD Cert.GluWIdeal.τ).loc Cert.GluWIdeal.main_arg2)
      ∧ m' ((c.tc : Thread Cert.GluWRefIdeal.nD Cert.GluWRefIdeal.τ).loc Cert.GluWRefIdeal.main_arg3) = m ((c.tc : Thread Cert.GluWIdeal.nD Cert.GluWIdeal.τ).loc Cert.GluWIdeal.main_arg3)) →
    ∃ (v0 : (c : Dev Cert.GluWIdeal.nD) → Buf (Elt Ideal) ((c.tc : Thread Cert.GluWIdeal.nD Cert.GluWIdeal.τ).loc Cert.GluWIdeal.main_v3)),
      θ_run (Cert.GluWIdeal.defs (F := Ideal)) (onTc (τ := Cert.GluWIdeal.τ) (Cert.GluWIdeal.main (F := Ideal))) ⟨m, fun _ => 0, g⟩ (fun r => ∀ c : Dev Cert.GluWIdeal.nD,
          r.2.mem ((c.tc : Thread Cert.GluWIdeal.nD Cert.GluWIdeal.τ).loc Cert.GluWIdeal.main_v3) = v0 c
          ∧ r.2.mem ((c.tc : Thread Cert.GluWIdeal.nD Cert.GluWIdeal.τ).loc Cert.GluWIdeal.main_arg0) = m ((c.tc : Thread Cert.GluWIdeal.nD Cert.GluWIdeal.τ).loc Cert.GluWIdeal.main_arg0)
          ∧ r.2.mem ((c.tc : Thread Cert.GluWIdeal.nD Cert.GluWIdeal.τ).loc Cert.GluWIdeal.main_arg1) = m ((c.tc : Thread Cert.GluWIdeal.nD Cert.GluWIdeal.τ).loc Cert.GluWIdeal.main_arg1)
          ∧ r.2.mem ((c.tc : Thread Cert.GluWIdeal.nD Cert.GluWIdeal.τ).loc Cert.GluWIdeal.main_arg2) = m ((c.tc : Thread Cert.GluWIdeal.nD Cert.GluWIdeal.τ).loc Cert.GluWIdeal.main_arg2)
          ∧ r.2.mem ((c.tc : Thread Cert.GluWIdeal.nD Cert.GluWIdeal.τ).loc Cert.GluWIdeal.main_arg3) = m ((c.tc : Thread Cert.GluWIdeal.nD Cert.GluWIdeal.τ).loc Cert.GluWIdeal.main_arg3))
      ∧ θ_run (Cert.GluWRefIdeal.defs (F := Ideal)) (onTc (τ := Cert.GluWRefIdeal.τ) (Cert.GluWRefIdeal.main (F := Ideal))) ⟨m', fun _ => 0, g'⟩ (fun r => ∀ c : Dev Cert.GluWRefIdeal.nD,
          r.2.mem ((c.tc : Thread Cert.GluWRefIdeal.nD Cert.GluWRefIdeal.τ).loc Cert.GluWRefIdeal.main_v16) = v0 c
          ∧ r.2.mem ((c.tc : Thread Cert.GluWRefIdeal.nD Cert.GluWRefIdeal.τ).loc Cert.GluWRefIdeal.main_arg0) = m' ((c.tc : Thread Cert.GluWRefIdeal.nD Cert.GluWRefIdeal.τ).loc Cert.GluWRefIdeal.main_arg0)
          ∧ r.2.mem ((c.tc : Thread Cert.GluWRefIdeal.nD Cert.GluWRefIdeal.τ).loc Cert.GluWRefIdeal.main_arg1) = m' ((c.tc : Thread Cert.GluWRefIdeal.nD Cert.GluWRefIdeal.τ).loc Cert.GluWRefIdeal.main_arg1)
          ∧ r.2.mem ((c.tc : Thread Cert.GluWRefIdeal.nD Cert.GluWRefIdeal.τ).loc Cert.GluWRefIdeal.main_arg2) = m' ((c.tc : Thread Cert.GluWRefIdeal.nD Cert.GluWRefIdeal.τ).loc Cert.GluWRefIdeal.main_arg2)
          ∧ r.2.mem ((c.tc : Thread Cert.GluWRefIdeal.nD Cert.GluWRefIdeal.τ).loc Cert.GluWRefIdeal.main_arg3) = m' ((c.tc : Thread Cert.GluWRefIdeal.nD Cert.GluWRefIdeal.τ).loc Cert.GluWRefIdeal.main_arg3))

def preserves_GluX_GluXIdeal : Prop :=
  True

def algebraic_GluXIdeal_GluXRefIdeal [hGluXIdeal : Cert.GluXIdeal.Facts] [hGluXRefIdeal : Cert.GluXRefIdeal.Facts] : Prop :=
  ∀ (m : (ℓ : Loc Cert.GluXIdeal.nD Cert.GluXIdeal.τ Cert.GluXIdeal.sig) → Buf (Elt Ideal) ℓ) (g : Dev Cert.GluXIdeal.nD → PrngReg)
    (m' : (ℓ : Loc Cert.GluXRefIdeal.nD Cert.GluXRefIdeal.τ Cert.GluXRefIdeal.sig) → Buf (Elt Ideal) ℓ) (g' : Dev Cert.GluXRefIdeal.nD → PrngReg), Pre_GluXIdeal m →
    (∀ c : Dev Cert.GluXIdeal.nD,
      m' ((c.tc : Thread Cert.GluXRefIdeal.nD Cert.GluXRefIdeal.τ).loc Cert.GluXRefIdeal.main_arg0) = m ((c.tc : Thread Cert.GluXIdeal.nD Cert.GluXIdeal.τ).loc Cert.GluXIdeal.main_arg0)
      ∧ m' ((c.tc : Thread Cert.GluXRefIdeal.nD Cert.GluXRefIdeal.τ).loc Cert.GluXRefIdeal.main_arg1) = m ((c.tc : Thread Cert.GluXIdeal.nD Cert.GluXIdeal.τ).loc Cert.GluXIdeal.main_arg1)
      ∧ m' ((c.tc : Thread Cert.GluXRefIdeal.nD Cert.GluXRefIdeal.τ).loc Cert.GluXRefIdeal.main_arg2) = m ((c.tc : Thread Cert.GluXIdeal.nD Cert.GluXIdeal.τ).loc Cert.GluXIdeal.main_arg2)
      ∧ m' ((c.tc : Thread Cert.GluXRefIdeal.nD Cert.GluXRefIdeal.τ).loc Cert.GluXRefIdeal.main_arg3) = m ((c.tc : Thread Cert.GluXIdeal.nD Cert.GluXIdeal.τ).loc Cert.GluXIdeal.main_arg3)) →
    ∃ (v0 : (c : Dev Cert.GluXIdeal.nD) → Buf (Elt Ideal) ((c.tc : Thread Cert.GluXIdeal.nD Cert.GluXIdeal.τ).loc Cert.GluXIdeal.main_v5)),
      θ_run (Cert.GluXIdeal.defs (F := Ideal)) (onTc (τ := Cert.GluXIdeal.τ) (Cert.GluXIdeal.main (F := Ideal))) ⟨m, fun _ => 0, g⟩ (fun r => ∀ c : Dev Cert.GluXIdeal.nD,
          r.2.mem ((c.tc : Thread Cert.GluXIdeal.nD Cert.GluXIdeal.τ).loc Cert.GluXIdeal.main_v5) = v0 c
          ∧ r.2.mem ((c.tc : Thread Cert.GluXIdeal.nD Cert.GluXIdeal.τ).loc Cert.GluXIdeal.main_arg0) = m ((c.tc : Thread Cert.GluXIdeal.nD Cert.GluXIdeal.τ).loc Cert.GluXIdeal.main_arg0)
          ∧ r.2.mem ((c.tc : Thread Cert.GluXIdeal.nD Cert.GluXIdeal.τ).loc Cert.GluXIdeal.main_arg1) = m ((c.tc : Thread Cert.GluXIdeal.nD Cert.GluXIdeal.τ).loc Cert.GluXIdeal.main_arg1)
          ∧ r.2.mem ((c.tc : Thread Cert.GluXIdeal.nD Cert.GluXIdeal.τ).loc Cert.GluXIdeal.main_arg2) = m ((c.tc : Thread Cert.GluXIdeal.nD Cert.GluXIdeal.τ).loc Cert.GluXIdeal.main_arg2)
          ∧ r.2.mem ((c.tc : Thread Cert.GluXIdeal.nD Cert.GluXIdeal.τ).loc Cert.GluXIdeal.main_arg3) = m ((c.tc : Thread Cert.GluXIdeal.nD Cert.GluXIdeal.τ).loc Cert.GluXIdeal.main_arg3))
      ∧ θ_run (Cert.GluXRefIdeal.defs (F := Ideal)) (onTc (τ := Cert.GluXRefIdeal.τ) (Cert.GluXRefIdeal.main (F := Ideal))) ⟨m', fun _ => 0, g'⟩ (fun r => ∀ c : Dev Cert.GluXRefIdeal.nD,
          r.2.mem ((c.tc : Thread Cert.GluXRefIdeal.nD Cert.GluXRefIdeal.τ).loc Cert.GluXRefIdeal.main_v6) = v0 c
          ∧ r.2.mem ((c.tc : Thread Cert.GluXRefIdeal.nD Cert.GluXRefIdeal.τ).loc Cert.GluXRefIdeal.main_arg0) = m' ((c.tc : Thread Cert.GluXRefIdeal.nD Cert.GluXRefIdeal.τ).loc Cert.GluXRefIdeal.main_arg0)
          ∧ r.2.mem ((c.tc : Thread Cert.GluXRefIdeal.nD Cert.GluXRefIdeal.τ).loc Cert.GluXRefIdeal.main_arg1) = m' ((c.tc : Thread Cert.GluXRefIdeal.nD Cert.GluXRefIdeal.τ).loc Cert.GluXRefIdeal.main_arg1)
          ∧ r.2.mem ((c.tc : Thread Cert.GluXRefIdeal.nD Cert.GluXRefIdeal.τ).loc Cert.GluXRefIdeal.main_arg2) = m' ((c.tc : Thread Cert.GluXRefIdeal.nD Cert.GluXRefIdeal.τ).loc Cert.GluXRefIdeal.main_arg2)
          ∧ r.2.mem ((c.tc : Thread Cert.GluXRefIdeal.nD Cert.GluXRefIdeal.τ).loc Cert.GluXRefIdeal.main_arg3) = m' ((c.tc : Thread Cert.GluXRefIdeal.nD Cert.GluXRefIdeal.τ).loc Cert.GluXRefIdeal.main_arg3))

def preserves_InA_InAIdeal : Prop :=
  True

def algebraic_InAIdeal_InARefIdeal [hInAIdeal : Cert.InAIdeal.Facts] [hInARefIdeal : Cert.InARefIdeal.Facts] : Prop :=
  ∀ (m : (ℓ : Loc Cert.InAIdeal.nD Cert.InAIdeal.τ Cert.InAIdeal.sig) → Buf (Elt Ideal) ℓ) (g : Dev Cert.InAIdeal.nD → PrngReg)
    (m' : (ℓ : Loc Cert.InARefIdeal.nD Cert.InARefIdeal.τ Cert.InARefIdeal.sig) → Buf (Elt Ideal) ℓ) (g' : Dev Cert.InARefIdeal.nD → PrngReg), Pre_InAIdeal m →
    (∀ c : Dev Cert.InAIdeal.nD,
      m' ((c.tc : Thread Cert.InARefIdeal.nD Cert.InARefIdeal.τ).loc Cert.InARefIdeal.main_arg0) = m ((c.tc : Thread Cert.InAIdeal.nD Cert.InAIdeal.τ).loc Cert.InAIdeal.main_arg0)
      ∧ m' ((c.tc : Thread Cert.InARefIdeal.nD Cert.InARefIdeal.τ).loc Cert.InARefIdeal.main_arg1) = m ((c.tc : Thread Cert.InAIdeal.nD Cert.InAIdeal.τ).loc Cert.InAIdeal.main_arg1)) →
    ∃ (v0 : (c : Dev Cert.InAIdeal.nD) → Buf (Elt Ideal) ((c.tc : Thread Cert.InAIdeal.nD Cert.InAIdeal.τ).loc Cert.InAIdeal.main_v13)),
      θ_run (Cert.InAIdeal.defs (F := Ideal)) (onTc (τ := Cert.InAIdeal.τ) (Cert.InAIdeal.main (F := Ideal))) ⟨m, fun _ => 0, g⟩ (fun r => ∀ c : Dev Cert.InAIdeal.nD,
          r.2.mem ((c.tc : Thread Cert.InAIdeal.nD Cert.InAIdeal.τ).loc Cert.InAIdeal.main_v13) = v0 c
          ∧ r.2.mem ((c.tc : Thread Cert.InAIdeal.nD Cert.InAIdeal.τ).loc Cert.InAIdeal.main_arg0) = m ((c.tc : Thread Cert.InAIdeal.nD Cert.InAIdeal.τ).loc Cert.InAIdeal.main_arg0)
          ∧ r.2.mem ((c.tc : Thread Cert.InAIdeal.nD Cert.InAIdeal.τ).loc Cert.InAIdeal.main_arg1) = m ((c.tc : Thread Cert.InAIdeal.nD Cert.InAIdeal.τ).loc Cert.InAIdeal.main_arg1))
      ∧ θ_run (Cert.InARefIdeal.defs (F := Ideal)) (onTc (τ := Cert.InARefIdeal.τ) (Cert.InARefIdeal.main (F := Ideal))) ⟨m', fun _ => 0, g'⟩ (fun r => ∀ c : Dev Cert.InARefIdeal.nD,
          r.2.mem ((c.tc : Thread Cert.InARefIdeal.nD Cert.InARefIdeal.τ).loc Cert.InARefIdeal.main_v12) = v0 c
          ∧ r.2.mem ((c.tc : Thread Cert.InARefIdeal.nD Cert.InARefIdeal.τ).loc Cert.InARefIdeal.main_arg0) = m' ((c.tc : Thread Cert.InARefIdeal.nD Cert.InARefIdeal.τ).loc Cert.InARefIdeal.main_arg0)
          ∧ r.2.mem ((c.tc : Thread Cert.InARefIdeal.nD Cert.InARefIdeal.τ).loc Cert.InARefIdeal.main_arg1) = m' ((c.tc : Thread Cert.InARefIdeal.nD Cert.InARefIdeal.τ).loc Cert.InARefIdeal.main_arg1))

def preserves_InB_InBIdeal : Prop :=
  True

def algebraic_InBIdeal_InBRefIdeal [hInBIdeal : Cert.InBIdeal.Facts] [hInBRefIdeal : Cert.InBRefIdeal.Facts] : Prop :=
  ∀ (m : (ℓ : Loc Cert.InBIdeal.nD Cert.InBIdeal.τ Cert.InBIdeal.sig) → Buf (Elt Ideal) ℓ) (g : Dev Cert.InBIdeal.nD → PrngReg)
    (m' : (ℓ : Loc Cert.InBRefIdeal.nD Cert.InBRefIdeal.τ Cert.InBRefIdeal.sig) → Buf (Elt Ideal) ℓ) (g' : Dev Cert.InBRefIdeal.nD → PrngReg), Pre_InBIdeal m →
    (∀ c : Dev Cert.InBIdeal.nD,
      m' ((c.tc : Thread Cert.InBRefIdeal.nD Cert.InBRefIdeal.τ).loc Cert.InBRefIdeal.main_arg0) = m ((c.tc : Thread Cert.InBIdeal.nD Cert.InBIdeal.τ).loc Cert.InBIdeal.main_arg0)
      ∧ m' ((c.tc : Thread Cert.InBRefIdeal.nD Cert.InBRefIdeal.τ).loc Cert.InBRefIdeal.main_arg1) = m ((c.tc : Thread Cert.InBIdeal.nD Cert.InBIdeal.τ).loc Cert.InBIdeal.main_arg1)
      ∧ m' ((c.tc : Thread Cert.InBRefIdeal.nD Cert.InBRefIdeal.τ).loc Cert.InBRefIdeal.main_arg2) = m ((c.tc : Thread Cert.InBIdeal.nD Cert.InBIdeal.τ).loc Cert.InBIdeal.main_arg2)) →
    ∃ (v0 : (c : Dev Cert.InBIdeal.nD) → Buf (Elt Ideal) ((c.tc : Thread Cert.InBIdeal.nD Cert.InBIdeal.τ).loc Cert.InBIdeal.main_v13)),
      θ_run (Cert.InBIdeal.defs (F := Ideal)) (onTc (τ := Cert.InBIdeal.τ) (Cert.InBIdeal.main (F := Ideal))) ⟨m, fun _ => 0, g⟩ (fun r => ∀ c : Dev Cert.InBIdeal.nD,
          r.2.mem ((c.tc : Thread Cert.InBIdeal.nD Cert.InBIdeal.τ).loc Cert.InBIdeal.main_v13) = v0 c
          ∧ r.2.mem ((c.tc : Thread Cert.InBIdeal.nD Cert.InBIdeal.τ).loc Cert.InBIdeal.main_arg0) = m ((c.tc : Thread Cert.InBIdeal.nD Cert.InBIdeal.τ).loc Cert.InBIdeal.main_arg0)
          ∧ r.2.mem ((c.tc : Thread Cert.InBIdeal.nD Cert.InBIdeal.τ).loc Cert.InBIdeal.main_arg1) = m ((c.tc : Thread Cert.InBIdeal.nD Cert.InBIdeal.τ).loc Cert.InBIdeal.main_arg1)
          ∧ r.2.mem ((c.tc : Thread Cert.InBIdeal.nD Cert.InBIdeal.τ).loc Cert.InBIdeal.main_arg2) = m ((c.tc : Thread Cert.InBIdeal.nD Cert.InBIdeal.τ).loc Cert.InBIdeal.main_arg2))
      ∧ θ_run (Cert.InBRefIdeal.defs (F := Ideal)) (onTc (τ := Cert.InBRefIdeal.τ) (Cert.InBRefIdeal.main (F := Ideal))) ⟨m', fun _ => 0, g'⟩ (fun r => ∀ c : Dev Cert.InBRefIdeal.nD,
          r.2.mem ((c.tc : Thread Cert.InBRefIdeal.nD Cert.InBRefIdeal.τ).loc Cert.InBRefIdeal.main_v13) = v0 c
          ∧ r.2.mem ((c.tc : Thread Cert.InBRefIdeal.nD Cert.InBRefIdeal.τ).loc Cert.InBRefIdeal.main_arg0) = m' ((c.tc : Thread Cert.InBRefIdeal.nD Cert.InBRefIdeal.τ).loc Cert.InBRefIdeal.main_arg0)
          ∧ r.2.mem ((c.tc : Thread Cert.InBRefIdeal.nD Cert.InBRefIdeal.τ).loc Cert.InBRefIdeal.main_arg1) = m' ((c.tc : Thread Cert.InBRefIdeal.nD Cert.InBRefIdeal.τ).loc Cert.InBRefIdeal.main_arg1)
          ∧ r.2.mem ((c.tc : Thread Cert.InBRefIdeal.nD Cert.InBRefIdeal.τ).loc Cert.InBRefIdeal.main_arg2) = m' ((c.tc : Thread Cert.InBRefIdeal.nD Cert.InBRefIdeal.τ).loc Cert.InBRefIdeal.main_arg2))

def preserves_ProjF_ProjFIdeal : Prop :=
  True

def algebraic_ProjFIdeal_ProjFRefIdeal [hProjFIdeal : Cert.ProjFIdeal.Facts] [hProjFRefIdeal : Cert.ProjFRefIdeal.Facts] : Prop :=
  ∀ (m : (ℓ : Loc Cert.ProjFIdeal.nD Cert.ProjFIdeal.τ Cert.ProjFIdeal.sig) → Buf (Elt Ideal) ℓ) (g : Dev Cert.ProjFIdeal.nD → PrngReg)
    (m' : (ℓ : Loc Cert.ProjFRefIdeal.nD Cert.ProjFRefIdeal.τ Cert.ProjFRefIdeal.sig) → Buf (Elt Ideal) ℓ) (g' : Dev Cert.ProjFRefIdeal.nD → PrngReg), Pre_ProjFIdeal m →
    (∀ c : Dev Cert.ProjFIdeal.nD,
      m' ((c.tc : Thread Cert.ProjFRefIdeal.nD Cert.ProjFRefIdeal.τ).loc Cert.ProjFRefIdeal.main_arg0) = m ((c.tc : Thread Cert.ProjFIdeal.nD Cert.ProjFIdeal.τ).loc Cert.ProjFIdeal.main_arg0)
      ∧ m' ((c.tc : Thread Cert.ProjFRefIdeal.nD Cert.ProjFRefIdeal.τ).loc Cert.ProjFRefIdeal.main_arg1) = m ((c.tc : Thread Cert.ProjFIdeal.nD Cert.ProjFIdeal.τ).loc Cert.ProjFIdeal.main_arg1)) →
    ∃ (v0 : (c : Dev Cert.ProjFIdeal.nD) → Buf (Elt Ideal) ((c.tc : Thread Cert.ProjFIdeal.nD Cert.ProjFIdeal.τ).loc Cert.ProjFIdeal.main_v2)),
      θ_run (Cert.ProjFIdeal.defs (F := Ideal)) (onTc (τ := Cert.ProjFIdeal.τ) (Cert.ProjFIdeal.main (F := Ideal))) ⟨m, fun _ => 0, g⟩ (fun r => ∀ c : Dev Cert.ProjFIdeal.nD,
          r.2.mem ((c.tc : Thread Cert.ProjFIdeal.nD Cert.ProjFIdeal.τ).loc Cert.ProjFIdeal.main_v2) = v0 c
          ∧ r.2.mem ((c.tc : Thread Cert.ProjFIdeal.nD Cert.ProjFIdeal.τ).loc Cert.ProjFIdeal.main_arg0) = m ((c.tc : Thread Cert.ProjFIdeal.nD Cert.ProjFIdeal.τ).loc Cert.ProjFIdeal.main_arg0)
          ∧ r.2.mem ((c.tc : Thread Cert.ProjFIdeal.nD Cert.ProjFIdeal.τ).loc Cert.ProjFIdeal.main_arg1) = m ((c.tc : Thread Cert.ProjFIdeal.nD Cert.ProjFIdeal.τ).loc Cert.ProjFIdeal.main_arg1))
      ∧ θ_run (Cert.ProjFRefIdeal.defs (F := Ideal)) (onTc (τ := Cert.ProjFRefIdeal.τ) (Cert.ProjFRefIdeal.main (F := Ideal))) ⟨m', fun _ => 0, g'⟩ (fun r => ∀ c : Dev Cert.ProjFRefIdeal.nD,
          r.2.mem ((c.tc : Thread Cert.ProjFRefIdeal.nD Cert.ProjFRefIdeal.τ).loc Cert.ProjFRefIdeal.main_v0) = v0 c
          ∧ r.2.mem ((c.tc : Thread Cert.ProjFRefIdeal.nD Cert.ProjFRefIdeal.τ).loc Cert.ProjFRefIdeal.main_arg0) = m' ((c.tc : Thread Cert.ProjFRefIdeal.nD Cert.ProjFRefIdeal.τ).loc Cert.ProjFRefIdeal.main_arg0)
          ∧ r.2.mem ((c.tc : Thread Cert.ProjFRefIdeal.nD Cert.ProjFRefIdeal.τ).loc Cert.ProjFRefIdeal.main_arg1) = m' ((c.tc : Thread Cert.ProjFRefIdeal.nD Cert.ProjFRefIdeal.τ).loc Cert.ProjFRefIdeal.main_arg1))

def preserves_GluF_GluFIdeal : Prop :=
  True

def algebraic_GluFIdeal_GluFRefIdeal [hGluFIdeal : Cert.GluFIdeal.Facts] [hGluFRefIdeal : Cert.GluFRefIdeal.Facts] : Prop :=
  ∀ (m : (ℓ : Loc Cert.GluFIdeal.nD Cert.GluFIdeal.τ Cert.GluFIdeal.sig) → Buf (Elt Ideal) ℓ) (g : Dev Cert.GluFIdeal.nD → PrngReg)
    (m' : (ℓ : Loc Cert.GluFRefIdeal.nD Cert.GluFRefIdeal.τ Cert.GluFRefIdeal.sig) → Buf (Elt Ideal) ℓ) (g' : Dev Cert.GluFRefIdeal.nD → PrngReg), Pre_GluFIdeal m →
    (∀ c : Dev Cert.GluFIdeal.nD,
      m' ((c.tc : Thread Cert.GluFRefIdeal.nD Cert.GluFRefIdeal.τ).loc Cert.GluFRefIdeal.main_arg0) = m ((c.tc : Thread Cert.GluFIdeal.nD Cert.GluFIdeal.τ).loc Cert.GluFIdeal.main_arg0)
      ∧ m' ((c.tc : Thread Cert.GluFRefIdeal.nD Cert.GluFRefIdeal.τ).loc Cert.GluFRefIdeal.main_arg1) = m ((c.tc : Thread Cert.GluFIdeal.nD Cert.GluFIdeal.τ).loc Cert.GluFIdeal.main_arg1)) →
    ∃ (v0 : (c : Dev Cert.GluFIdeal.nD) → Buf (Elt Ideal) ((c.tc : Thread Cert.GluFIdeal.nD Cert.GluFIdeal.τ).loc Cert.GluFIdeal.main_v4)),
      θ_run (Cert.GluFIdeal.defs (F := Ideal)) (onTc (τ := Cert.GluFIdeal.τ) (Cert.GluFIdeal.main (F := Ideal))) ⟨m, fun _ => 0, g⟩ (fun r => ∀ c : Dev Cert.GluFIdeal.nD,
          r.2.mem ((c.tc : Thread Cert.GluFIdeal.nD Cert.GluFIdeal.τ).loc Cert.GluFIdeal.main_v4) = v0 c
          ∧ r.2.mem ((c.tc : Thread Cert.GluFIdeal.nD Cert.GluFIdeal.τ).loc Cert.GluFIdeal.main_arg0) = m ((c.tc : Thread Cert.GluFIdeal.nD Cert.GluFIdeal.τ).loc Cert.GluFIdeal.main_arg0)
          ∧ r.2.mem ((c.tc : Thread Cert.GluFIdeal.nD Cert.GluFIdeal.τ).loc Cert.GluFIdeal.main_arg1) = m ((c.tc : Thread Cert.GluFIdeal.nD Cert.GluFIdeal.τ).loc Cert.GluFIdeal.main_arg1))
      ∧ θ_run (Cert.GluFRefIdeal.defs (F := Ideal)) (onTc (τ := Cert.GluFRefIdeal.τ) (Cert.GluFRefIdeal.main (F := Ideal))) ⟨m', fun _ => 0, g'⟩ (fun r => ∀ c : Dev Cert.GluFRefIdeal.nD,
          r.2.mem ((c.tc : Thread Cert.GluFRefIdeal.nD Cert.GluFRefIdeal.τ).loc Cert.GluFRefIdeal.main_v0) = v0 c
          ∧ r.2.mem ((c.tc : Thread Cert.GluFRefIdeal.nD Cert.GluFRefIdeal.τ).loc Cert.GluFRefIdeal.main_arg0) = m' ((c.tc : Thread Cert.GluFRefIdeal.nD Cert.GluFRefIdeal.τ).loc Cert.GluFRefIdeal.main_arg0)
          ∧ r.2.mem ((c.tc : Thread Cert.GluFRefIdeal.nD Cert.GluFRefIdeal.τ).loc Cert.GluFRefIdeal.main_arg1) = m' ((c.tc : Thread Cert.GluFRefIdeal.nD Cert.GluFRefIdeal.τ).loc Cert.GluFRefIdeal.main_arg1))

def preserves_OutF_OutFIdeal : Prop :=
  True

def algebraic_OutFIdeal_OutFRefIdeal [hOutFIdeal : Cert.OutFIdeal.Facts] [hOutFRefIdeal : Cert.OutFRefIdeal.Facts] : Prop :=
  ∀ (m : (ℓ : Loc Cert.OutFIdeal.nD Cert.OutFIdeal.τ Cert.OutFIdeal.sig) → Buf (Elt Ideal) ℓ) (g : Dev Cert.OutFIdeal.nD → PrngReg)
    (m' : (ℓ : Loc Cert.OutFRefIdeal.nD Cert.OutFRefIdeal.τ Cert.OutFRefIdeal.sig) → Buf (Elt Ideal) ℓ) (g' : Dev Cert.OutFRefIdeal.nD → PrngReg), Pre_OutFIdeal m →
    (∀ c : Dev Cert.OutFIdeal.nD,
      m' ((c.tc : Thread Cert.OutFRefIdeal.nD Cert.OutFRefIdeal.τ).loc Cert.OutFRefIdeal.main_arg0) = m ((c.tc : Thread Cert.OutFIdeal.nD Cert.OutFIdeal.τ).loc Cert.OutFIdeal.main_arg0)
      ∧ m' ((c.tc : Thread Cert.OutFRefIdeal.nD Cert.OutFRefIdeal.τ).loc Cert.OutFRefIdeal.main_arg1) = m ((c.tc : Thread Cert.OutFIdeal.nD Cert.OutFIdeal.τ).loc Cert.OutFIdeal.main_arg1)
      ∧ m' ((c.tc : Thread Cert.OutFRefIdeal.nD Cert.OutFRefIdeal.τ).loc Cert.OutFRefIdeal.main_arg2) = m ((c.tc : Thread Cert.OutFIdeal.nD Cert.OutFIdeal.τ).loc Cert.OutFIdeal.main_arg2)) →
    ∃ (v0 : (c : Dev Cert.OutFIdeal.nD) → Buf (Elt Ideal) ((c.tc : Thread Cert.OutFIdeal.nD Cert.OutFIdeal.τ).loc Cert.OutFIdeal.main_v2)),
      θ_run (Cert.OutFIdeal.defs (F := Ideal)) (onTc (τ := Cert.OutFIdeal.τ) (Cert.OutFIdeal.main (F := Ideal))) ⟨m, fun _ => 0, g⟩ (fun r => ∀ c : Dev Cert.OutFIdeal.nD,
          r.2.mem ((c.tc : Thread Cert.OutFIdeal.nD Cert.OutFIdeal.τ).loc Cert.OutFIdeal.main_v2) = v0 c
          ∧ r.2.mem ((c.tc : Thread Cert.OutFIdeal.nD Cert.OutFIdeal.τ).loc Cert.OutFIdeal.main_arg0) = m ((c.tc : Thread Cert.OutFIdeal.nD Cert.OutFIdeal.τ).loc Cert.OutFIdeal.main_arg0)
          ∧ r.2.mem ((c.tc : Thread Cert.OutFIdeal.nD Cert.OutFIdeal.τ).loc Cert.OutFIdeal.main_arg1) = m ((c.tc : Thread Cert.OutFIdeal.nD Cert.OutFIdeal.τ).loc Cert.OutFIdeal.main_arg1)
          ∧ r.2.mem ((c.tc : Thread Cert.OutFIdeal.nD Cert.OutFIdeal.τ).loc Cert.OutFIdeal.main_arg2) = m ((c.tc : Thread Cert.OutFIdeal.nD Cert.OutFIdeal.τ).loc Cert.OutFIdeal.main_arg2))
      ∧ θ_run (Cert.OutFRefIdeal.defs (F := Ideal)) (onTc (τ := Cert.OutFRefIdeal.τ) (Cert.OutFRefIdeal.main (F := Ideal))) ⟨m', fun _ => 0, g'⟩ (fun r => ∀ c : Dev Cert.OutFRefIdeal.nD,
          r.2.mem ((c.tc : Thread Cert.OutFRefIdeal.nD Cert.OutFRefIdeal.τ).loc Cert.OutFRefIdeal.main_v1) = v0 c
          ∧ r.2.mem ((c.tc : Thread Cert.OutFRefIdeal.nD Cert.OutFRefIdeal.τ).loc Cert.OutFRefIdeal.main_arg0) = m' ((c.tc : Thread Cert.OutFRefIdeal.nD Cert.OutFRefIdeal.τ).loc Cert.OutFRefIdeal.main_arg0)
          ∧ r.2.mem ((c.tc : Thread Cert.OutFRefIdeal.nD Cert.OutFRefIdeal.τ).loc Cert.OutFRefIdeal.main_arg1) = m' ((c.tc : Thread Cert.OutFRefIdeal.nD Cert.OutFRefIdeal.τ).loc Cert.OutFRefIdeal.main_arg1)
          ∧ r.2.mem ((c.tc : Thread Cert.OutFRefIdeal.nD Cert.OutFRefIdeal.τ).loc Cert.OutFRefIdeal.main_arg2) = m' ((c.tc : Thread Cert.OutFRefIdeal.nD Cert.OutFRefIdeal.τ).loc Cert.OutFRefIdeal.main_arg2))

def preserves_UpF_UpFIdeal : Prop :=
  True

def algebraic_UpFIdeal_UpFRefIdeal [hUpFIdeal : Cert.UpFIdeal.Facts] [hUpFRefIdeal : Cert.UpFRefIdeal.Facts] : Prop :=
  ∀ (m : (ℓ : Loc Cert.UpFIdeal.nD Cert.UpFIdeal.τ Cert.UpFIdeal.sig) → Buf (Elt Ideal) ℓ) (g : Dev Cert.UpFIdeal.nD → PrngReg)
    (m' : (ℓ : Loc Cert.UpFRefIdeal.nD Cert.UpFRefIdeal.τ Cert.UpFRefIdeal.sig) → Buf (Elt Ideal) ℓ) (g' : Dev Cert.UpFRefIdeal.nD → PrngReg), Pre_UpFIdeal m →
    (∀ c : Dev Cert.UpFIdeal.nD,
      m' ((c.tc : Thread Cert.UpFRefIdeal.nD Cert.UpFRefIdeal.τ).loc Cert.UpFRefIdeal.main_arg0) = m ((c.tc : Thread Cert.UpFIdeal.nD Cert.UpFIdeal.τ).loc Cert.UpFIdeal.main_arg0)
      ∧ m' ((c.tc : Thread Cert.UpFRefIdeal.nD Cert.UpFRefIdeal.τ).loc Cert.UpFRefIdeal.main_arg1) = m ((c.tc : Thread Cert.UpFIdeal.nD Cert.UpFIdeal.τ).loc Cert.UpFIdeal.main_arg1)) →
    ∃ (v0 : (c : Dev Cert.UpFIdeal.nD) → Buf (Elt Ideal) ((c.tc : Thread Cert.UpFIdeal.nD Cert.UpFIdeal.τ).loc Cert.UpFIdeal.main_v4)),
      θ_run (Cert.UpFIdeal.defs (F := Ideal)) (onTc (τ := Cert.UpFIdeal.τ) (Cert.UpFIdeal.main (F := Ideal))) ⟨m, fun _ => 0, g⟩ (fun r => ∀ c : Dev Cert.UpFIdeal.nD,
          r.2.mem ((c.tc : Thread Cert.UpFIdeal.nD Cert.UpFIdeal.τ).loc Cert.UpFIdeal.main_v4) = v0 c
          ∧ r.2.mem ((c.tc : Thread Cert.UpFIdeal.nD Cert.UpFIdeal.τ).loc Cert.UpFIdeal.main_arg0) = m ((c.tc : Thread Cert.UpFIdeal.nD Cert.UpFIdeal.τ).loc Cert.UpFIdeal.main_arg0)
          ∧ r.2.mem ((c.tc : Thread Cert.UpFIdeal.nD Cert.UpFIdeal.τ).loc Cert.UpFIdeal.main_arg1) = m ((c.tc : Thread Cert.UpFIdeal.nD Cert.UpFIdeal.τ).loc Cert.UpFIdeal.main_arg1))
      ∧ θ_run (Cert.UpFRefIdeal.defs (F := Ideal)) (onTc (τ := Cert.UpFRefIdeal.τ) (Cert.UpFRefIdeal.main (F := Ideal))) ⟨m', fun _ => 0, g'⟩ (fun r => ∀ c : Dev Cert.UpFRefIdeal.nD,
          r.2.mem ((c.tc : Thread Cert.UpFRefIdeal.nD Cert.UpFRefIdeal.τ).loc Cert.UpFRefIdeal.main_v0) = v0 c
          ∧ r.2.mem ((c.tc : Thread Cert.UpFRefIdeal.nD Cert.UpFRefIdeal.τ).loc Cert.UpFRefIdeal.main_arg0) = m' ((c.tc : Thread Cert.UpFRefIdeal.nD Cert.UpFRefIdeal.τ).loc Cert.UpFRefIdeal.main_arg0)
          ∧ r.2.mem ((c.tc : Thread Cert.UpFRefIdeal.nD Cert.UpFRefIdeal.τ).loc Cert.UpFRefIdeal.main_arg1) = m' ((c.tc : Thread Cert.UpFRefIdeal.nD Cert.UpFRefIdeal.τ).loc Cert.UpFRefIdeal.main_arg1))

def preserves_DownF_DownFIdeal : Prop :=
  True

def algebraic_DownFIdeal_DownFRefIdeal [hDownFIdeal : Cert.DownFIdeal.Facts] [hDownFRefIdeal : Cert.DownFRefIdeal.Facts] : Prop :=
  ∀ (m : (ℓ : Loc Cert.DownFIdeal.nD Cert.DownFIdeal.τ Cert.DownFIdeal.sig) → Buf (Elt Ideal) ℓ) (g : Dev Cert.DownFIdeal.nD → PrngReg)
    (m' : (ℓ : Loc Cert.DownFRefIdeal.nD Cert.DownFRefIdeal.τ Cert.DownFRefIdeal.sig) → Buf (Elt Ideal) ℓ) (g' : Dev Cert.DownFRefIdeal.nD → PrngReg), Pre_DownFIdeal m →
    (∀ c : Dev Cert.DownFIdeal.nD,
      m' ((c.tc : Thread Cert.DownFRefIdeal.nD Cert.DownFRefIdeal.τ).loc Cert.DownFRefIdeal.main_arg0) = m ((c.tc : Thread Cert.DownFIdeal.nD Cert.DownFIdeal.τ).loc Cert.DownFIdeal.main_arg0)
      ∧ m' ((c.tc : Thread Cert.DownFRefIdeal.nD Cert.DownFRefIdeal.τ).loc Cert.DownFRefIdeal.main_arg1) = m ((c.tc : Thread Cert.DownFIdeal.nD Cert.DownFIdeal.τ).loc Cert.DownFIdeal.main_arg1)
      ∧ m' ((c.tc : Thread Cert.DownFRefIdeal.nD Cert.DownFRefIdeal.τ).loc Cert.DownFRefIdeal.main_arg2) = m ((c.tc : Thread Cert.DownFIdeal.nD Cert.DownFIdeal.τ).loc Cert.DownFIdeal.main_arg2)) →
    ∃ (v0 : (c : Dev Cert.DownFIdeal.nD) → Buf (Elt Ideal) ((c.tc : Thread Cert.DownFIdeal.nD Cert.DownFIdeal.τ).loc Cert.DownFIdeal.main_v2)),
      θ_run (Cert.DownFIdeal.defs (F := Ideal)) (onTc (τ := Cert.DownFIdeal.τ) (Cert.DownFIdeal.main (F := Ideal))) ⟨m, fun _ => 0, g⟩ (fun r => ∀ c : Dev Cert.DownFIdeal.nD,
          r.2.mem ((c.tc : Thread Cert.DownFIdeal.nD Cert.DownFIdeal.τ).loc Cert.DownFIdeal.main_v2) = v0 c
          ∧ r.2.mem ((c.tc : Thread Cert.DownFIdeal.nD Cert.DownFIdeal.τ).loc Cert.DownFIdeal.main_arg0) = m ((c.tc : Thread Cert.DownFIdeal.nD Cert.DownFIdeal.τ).loc Cert.DownFIdeal.main_arg0)
          ∧ r.2.mem ((c.tc : Thread Cert.DownFIdeal.nD Cert.DownFIdeal.τ).loc Cert.DownFIdeal.main_arg1) = m ((c.tc : Thread Cert.DownFIdeal.nD Cert.DownFIdeal.τ).loc Cert.DownFIdeal.main_arg1)
          ∧ r.2.mem ((c.tc : Thread Cert.DownFIdeal.nD Cert.DownFIdeal.τ).loc Cert.DownFIdeal.main_arg2) = m ((c.tc : Thread Cert.DownFIdeal.nD Cert.DownFIdeal.τ).loc Cert.DownFIdeal.main_arg2))
      ∧ θ_run (Cert.DownFRefIdeal.defs (F := Ideal)) (onTc (τ := Cert.DownFRefIdeal.τ) (Cert.DownFRefIdeal.main (F := Ideal))) ⟨m', fun _ => 0, g'⟩ (fun r => ∀ c : Dev Cert.DownFRefIdeal.nD,
          r.2.mem ((c.tc : Thread Cert.DownFRefIdeal.nD Cert.DownFRefIdeal.τ).loc Cert.DownFRefIdeal.main_v1) = v0 c
          ∧ r.2.mem ((c.tc : Thread Cert.DownFRefIdeal.nD Cert.DownFRefIdeal.τ).loc Cert.DownFRefIdeal.main_arg0) = m' ((c.tc : Thread Cert.DownFRefIdeal.nD Cert.DownFRefIdeal.τ).loc Cert.DownFRefIdeal.main_arg0)
          ∧ r.2.mem ((c.tc : Thread Cert.DownFRefIdeal.nD Cert.DownFRefIdeal.τ).loc Cert.DownFRefIdeal.main_arg1) = m' ((c.tc : Thread Cert.DownFRefIdeal.nD Cert.DownFRefIdeal.τ).loc Cert.DownFRefIdeal.main_arg1)
          ∧ r.2.mem ((c.tc : Thread Cert.DownFRefIdeal.nD Cert.DownFRefIdeal.τ).loc Cert.DownFRefIdeal.main_arg2) = m' ((c.tc : Thread Cert.DownFRefIdeal.nD Cert.DownFRefIdeal.τ).loc Cert.DownFRefIdeal.main_arg2))

def preserves_SsdF_SsdFIdeal : Prop :=
  True

def algebraic_SsdFIdeal_SsdFRefIdeal_pre_steps_decay_forward [hSsdFIdeal : Cert.SsdFIdeal.Facts] [hSsdFRefIdeal : Cert.SsdFRefIdeal.Facts] [hPre_steps_decay_forward : Cert.Pre_steps_decay_forward.Facts] : Prop :=
  ∀ (m : (ℓ : Loc Cert.SsdFIdeal.nD Cert.SsdFIdeal.τ Cert.SsdFIdeal.sig) → Buf (Elt Ideal) ℓ) (g : Dev Cert.SsdFIdeal.nD → PrngReg)
    (m' : (ℓ : Loc Cert.SsdFRefIdeal.nD Cert.SsdFRefIdeal.τ Cert.SsdFRefIdeal.sig) → Buf (Elt Ideal) ℓ) (g' : Dev Cert.SsdFRefIdeal.nD → PrngReg), Pre_SsdFIdeal_steps_decay_forward m →
    (∀ c : Dev Cert.SsdFIdeal.nD,
      m' ((c.tc : Thread Cert.SsdFRefIdeal.nD Cert.SsdFRefIdeal.τ).loc Cert.SsdFRefIdeal.main_arg0) = m ((c.tc : Thread Cert.SsdFIdeal.nD Cert.SsdFIdeal.τ).loc Cert.SsdFIdeal.main_arg0)
      ∧ m' ((c.tc : Thread Cert.SsdFRefIdeal.nD Cert.SsdFRefIdeal.τ).loc Cert.SsdFRefIdeal.main_arg1) = m ((c.tc : Thread Cert.SsdFIdeal.nD Cert.SsdFIdeal.τ).loc Cert.SsdFIdeal.main_arg1)
      ∧ m' ((c.tc : Thread Cert.SsdFRefIdeal.nD Cert.SsdFRefIdeal.τ).loc Cert.SsdFRefIdeal.main_arg2) = m ((c.tc : Thread Cert.SsdFIdeal.nD Cert.SsdFIdeal.τ).loc Cert.SsdFIdeal.main_arg2)
      ∧ m' ((c.tc : Thread Cert.SsdFRefIdeal.nD Cert.SsdFRefIdeal.τ).loc Cert.SsdFRefIdeal.main_arg3) = m ((c.tc : Thread Cert.SsdFIdeal.nD Cert.SsdFIdeal.τ).loc Cert.SsdFIdeal.main_arg3)
      ∧ m' ((c.tc : Thread Cert.SsdFRefIdeal.nD Cert.SsdFRefIdeal.τ).loc Cert.SsdFRefIdeal.main_arg4) = m ((c.tc : Thread Cert.SsdFIdeal.nD Cert.SsdFIdeal.τ).loc Cert.SsdFIdeal.main_arg4)
      ∧ m' ((c.tc : Thread Cert.SsdFRefIdeal.nD Cert.SsdFRefIdeal.τ).loc Cert.SsdFRefIdeal.main_arg5) = m ((c.tc : Thread Cert.SsdFIdeal.nD Cert.SsdFIdeal.τ).loc Cert.SsdFIdeal.main_arg5)) →
    ∃ (v0 : (c : Dev Cert.SsdFIdeal.nD) → Buf (Elt Ideal) ((c.tc : Thread Cert.SsdFIdeal.nD Cert.SsdFIdeal.τ).loc Cert.SsdFIdeal.main_v24_0)) (v1 : (c : Dev Cert.SsdFIdeal.nD) → Buf (Elt Ideal) ((c.tc : Thread Cert.SsdFIdeal.nD Cert.SsdFIdeal.τ).loc Cert.SsdFIdeal.main_v24_1)),
      θ_run (Cert.SsdFIdeal.defs (F := Ideal)) (onTc (τ := Cert.SsdFIdeal.τ) (Cert.SsdFIdeal.main (F := Ideal))) ⟨m, fun _ => 0, g⟩ (fun r => ∀ c : Dev Cert.SsdFIdeal.nD,
          r.2.mem ((c.tc : Thread Cert.SsdFIdeal.nD Cert.SsdFIdeal.τ).loc Cert.SsdFIdeal.main_v24_0) = v0 c
          ∧ r.2.mem ((c.tc : Thread Cert.SsdFIdeal.nD Cert.SsdFIdeal.τ).loc Cert.SsdFIdeal.main_v24_1) = v1 c
          ∧ r.2.mem ((c.tc : Thread Cert.SsdFIdeal.nD Cert.SsdFIdeal.τ).loc Cert.SsdFIdeal.main_arg0) = m ((c.tc : Thread Cert.SsdFIdeal.nD Cert.SsdFIdeal.τ).loc Cert.SsdFIdeal.main_arg0)
          ∧ r.2.mem ((c.tc : Thread Cert.SsdFIdeal.nD Cert.SsdFIdeal.τ).loc Cert.SsdFIdeal.main_arg1) = m ((c.tc : Thread Cert.SsdFIdeal.nD Cert.SsdFIdeal.τ).loc Cert.SsdFIdeal.main_arg1)
          ∧ r.2.mem ((c.tc : Thread Cert.SsdFIdeal.nD Cert.SsdFIdeal.τ).loc Cert.SsdFIdeal.main_arg2) = m ((c.tc : Thread Cert.SsdFIdeal.nD Cert.SsdFIdeal.τ).loc Cert.SsdFIdeal.main_arg2)
          ∧ r.2.mem ((c.tc : Thread Cert.SsdFIdeal.nD Cert.SsdFIdeal.τ).loc Cert.SsdFIdeal.main_arg3) = m ((c.tc : Thread Cert.SsdFIdeal.nD Cert.SsdFIdeal.τ).loc Cert.SsdFIdeal.main_arg3)
          ∧ r.2.mem ((c.tc : Thread Cert.SsdFIdeal.nD Cert.SsdFIdeal.τ).loc Cert.SsdFIdeal.main_arg4) = m ((c.tc : Thread Cert.SsdFIdeal.nD Cert.SsdFIdeal.τ).loc Cert.SsdFIdeal.main_arg4)
          ∧ r.2.mem ((c.tc : Thread Cert.SsdFIdeal.nD Cert.SsdFIdeal.τ).loc Cert.SsdFIdeal.main_arg5) = m ((c.tc : Thread Cert.SsdFIdeal.nD Cert.SsdFIdeal.τ).loc Cert.SsdFIdeal.main_arg5))
      ∧ θ_run (Cert.SsdFRefIdeal.defs (F := Ideal)) (onTc (τ := Cert.SsdFRefIdeal.τ) (Cert.SsdFRefIdeal.main (F := Ideal))) ⟨m', fun _ => 0, g'⟩ (fun r => ∀ c : Dev Cert.SsdFRefIdeal.nD,
          r.2.mem ((c.tc : Thread Cert.SsdFRefIdeal.nD Cert.SsdFRefIdeal.τ).loc Cert.SsdFRefIdeal.main_v72) = v0 c
          ∧ r.2.mem ((c.tc : Thread Cert.SsdFRefIdeal.nD Cert.SsdFRefIdeal.τ).loc Cert.SsdFRefIdeal.main_v103) = v1 c
          ∧ r.2.mem ((c.tc : Thread Cert.SsdFRefIdeal.nD Cert.SsdFRefIdeal.τ).loc Cert.SsdFRefIdeal.main_arg0) = m' ((c.tc : Thread Cert.SsdFRefIdeal.nD Cert.SsdFRefIdeal.τ).loc Cert.SsdFRefIdeal.main_arg0)
          ∧ r.2.mem ((c.tc : Thread Cert.SsdFRefIdeal.nD Cert.SsdFRefIdeal.τ).loc Cert.SsdFRefIdeal.main_arg1) = m' ((c.tc : Thread Cert.SsdFRefIdeal.nD Cert.SsdFRefIdeal.τ).loc Cert.SsdFRefIdeal.main_arg1)
          ∧ r.2.mem ((c.tc : Thread Cert.SsdFRefIdeal.nD Cert.SsdFRefIdeal.τ).loc Cert.SsdFRefIdeal.main_arg2) = m' ((c.tc : Thread Cert.SsdFRefIdeal.nD Cert.SsdFRefIdeal.τ).loc Cert.SsdFRefIdeal.main_arg2)
          ∧ r.2.mem ((c.tc : Thread Cert.SsdFRefIdeal.nD Cert.SsdFRefIdeal.τ).loc Cert.SsdFRefIdeal.main_arg3) = m' ((c.tc : Thread Cert.SsdFRefIdeal.nD Cert.SsdFRefIdeal.τ).loc Cert.SsdFRefIdeal.main_arg3)
          ∧ r.2.mem ((c.tc : Thread Cert.SsdFRefIdeal.nD Cert.SsdFRefIdeal.τ).loc Cert.SsdFRefIdeal.main_arg4) = m' ((c.tc : Thread Cert.SsdFRefIdeal.nD Cert.SsdFRefIdeal.τ).loc Cert.SsdFRefIdeal.main_arg4)
          ∧ r.2.mem ((c.tc : Thread Cert.SsdFRefIdeal.nD Cert.SsdFRefIdeal.τ).loc Cert.SsdFRefIdeal.main_arg5) = m' ((c.tc : Thread Cert.SsdFRefIdeal.nD Cert.SsdFRefIdeal.τ).loc Cert.SsdFRefIdeal.main_arg5))

def preserves_MergeB_MergeBIdeal : Prop :=
  True

def algebraic_MergeBIdeal_MergeBRefIdeal [hMergeBIdeal : Cert.MergeBIdeal.Facts] [hMergeBRefIdeal : Cert.MergeBRefIdeal.Facts] : Prop :=
  ∀ (m : (ℓ : Loc Cert.MergeBIdeal.nD Cert.MergeBIdeal.τ Cert.MergeBIdeal.sig) → Buf (Elt Ideal) ℓ) (g : Dev Cert.MergeBIdeal.nD → PrngReg)
    (m' : (ℓ : Loc Cert.MergeBRefIdeal.nD Cert.MergeBRefIdeal.τ Cert.MergeBRefIdeal.sig) → Buf (Elt Ideal) ℓ) (g' : Dev Cert.MergeBRefIdeal.nD → PrngReg), Pre_MergeBIdeal m →
    (∀ c : Dev Cert.MergeBIdeal.nD,
      m' ((c.tc : Thread Cert.MergeBRefIdeal.nD Cert.MergeBRefIdeal.τ).loc Cert.MergeBRefIdeal.main_arg0) = m ((c.tc : Thread Cert.MergeBIdeal.nD Cert.MergeBIdeal.τ).loc Cert.MergeBIdeal.main_arg0)
      ∧ m' ((c.tc : Thread Cert.MergeBRefIdeal.nD Cert.MergeBRefIdeal.τ).loc Cert.MergeBRefIdeal.main_arg1) = m ((c.tc : Thread Cert.MergeBIdeal.nD Cert.MergeBIdeal.τ).loc Cert.MergeBIdeal.main_arg1)
      ∧ m' ((c.tc : Thread Cert.MergeBRefIdeal.nD Cert.MergeBRefIdeal.τ).loc Cert.MergeBRefIdeal.main_arg2) = m ((c.tc : Thread Cert.MergeBIdeal.nD Cert.MergeBIdeal.τ).loc Cert.MergeBIdeal.main_arg2)
      ∧ m' ((c.tc : Thread Cert.MergeBRefIdeal.nD Cert.MergeBRefIdeal.τ).loc Cert.MergeBRefIdeal.main_arg3) = m ((c.tc : Thread Cert.MergeBIdeal.nD Cert.MergeBIdeal.τ).loc Cert.MergeBIdeal.main_arg3)) →
    ∃ (v0 : (c : Dev Cert.MergeBIdeal.nD) → Buf (Elt Ideal) ((c.tc : Thread Cert.MergeBIdeal.nD Cert.MergeBIdeal.τ).loc Cert.MergeBIdeal.main_v10_0)) (v1 : (c : Dev Cert.MergeBIdeal.nD) → Buf (Elt Ideal) ((c.tc : Thread Cert.MergeBIdeal.nD Cert.MergeBIdeal.τ).loc Cert.MergeBIdeal.main_v10_1)) (v2 : (c : Dev Cert.MergeBIdeal.nD) → Buf (Elt Ideal) ((c.tc : Thread Cert.MergeBIdeal.nD Cert.MergeBIdeal.τ).loc Cert.MergeBIdeal.main_v10_2)) (v3 : (c : Dev Cert.MergeBIdeal.nD) → Buf (Elt Ideal) ((c.tc : Thread Cert.MergeBIdeal.nD Cert.MergeBIdeal.τ).loc Cert.MergeBIdeal.main_v10_3)) (v4 : (c : Dev Cert.MergeBIdeal.nD) → Buf (Elt Ideal) ((c.tc : Thread Cert.MergeBIdeal.nD Cert.MergeBIdeal.τ).loc Cert.MergeBIdeal.main_v10_4)),
      θ_run (Cert.MergeBIdeal.defs (F := Ideal)) (onTc (τ := Cert.MergeBIdeal.τ) (Cert.MergeBIdeal.main (F := Ideal))) ⟨m, fun _ => 0, g⟩ (fun r => ∀ c : Dev Cert.MergeBIdeal.nD,
          r.2.mem ((c.tc : Thread Cert.MergeBIdeal.nD Cert.MergeBIdeal.τ).loc Cert.MergeBIdeal.main_v10_0) = v0 c
          ∧ r.2.mem ((c.tc : Thread Cert.MergeBIdeal.nD Cert.MergeBIdeal.τ).loc Cert.MergeBIdeal.main_v10_1) = v1 c
          ∧ r.2.mem ((c.tc : Thread Cert.MergeBIdeal.nD Cert.MergeBIdeal.τ).loc Cert.MergeBIdeal.main_v10_2) = v2 c
          ∧ r.2.mem ((c.tc : Thread Cert.MergeBIdeal.nD Cert.MergeBIdeal.τ).loc Cert.MergeBIdeal.main_v10_3) = v3 c
          ∧ r.2.mem ((c.tc : Thread Cert.MergeBIdeal.nD Cert.MergeBIdeal.τ).loc Cert.MergeBIdeal.main_v10_4) = v4 c
          ∧ r.2.mem ((c.tc : Thread Cert.MergeBIdeal.nD Cert.MergeBIdeal.τ).loc Cert.MergeBIdeal.main_arg0) = m ((c.tc : Thread Cert.MergeBIdeal.nD Cert.MergeBIdeal.τ).loc Cert.MergeBIdeal.main_arg0)
          ∧ r.2.mem ((c.tc : Thread Cert.MergeBIdeal.nD Cert.MergeBIdeal.τ).loc Cert.MergeBIdeal.main_arg1) = m ((c.tc : Thread Cert.MergeBIdeal.nD Cert.MergeBIdeal.τ).loc Cert.MergeBIdeal.main_arg1)
          ∧ r.2.mem ((c.tc : Thread Cert.MergeBIdeal.nD Cert.MergeBIdeal.τ).loc Cert.MergeBIdeal.main_arg2) = m ((c.tc : Thread Cert.MergeBIdeal.nD Cert.MergeBIdeal.τ).loc Cert.MergeBIdeal.main_arg2)
          ∧ r.2.mem ((c.tc : Thread Cert.MergeBIdeal.nD Cert.MergeBIdeal.τ).loc Cert.MergeBIdeal.main_arg3) = m ((c.tc : Thread Cert.MergeBIdeal.nD Cert.MergeBIdeal.τ).loc Cert.MergeBIdeal.main_arg3))
      ∧ θ_run (Cert.MergeBRefIdeal.defs (F := Ideal)) (onTc (τ := Cert.MergeBRefIdeal.τ) (Cert.MergeBRefIdeal.main (F := Ideal))) ⟨m', fun _ => 0, g'⟩ (fun r => ∀ c : Dev Cert.MergeBRefIdeal.nD,
          r.2.mem ((c.tc : Thread Cert.MergeBRefIdeal.nD Cert.MergeBRefIdeal.τ).loc Cert.MergeBRefIdeal.main_v50) = v0 c
          ∧ r.2.mem ((c.tc : Thread Cert.MergeBRefIdeal.nD Cert.MergeBRefIdeal.τ).loc Cert.MergeBRefIdeal.main_v51) = v1 c
          ∧ r.2.mem ((c.tc : Thread Cert.MergeBRefIdeal.nD Cert.MergeBRefIdeal.τ).loc Cert.MergeBRefIdeal.main_v52) = v2 c
          ∧ r.2.mem ((c.tc : Thread Cert.MergeBRefIdeal.nD Cert.MergeBRefIdeal.τ).loc Cert.MergeBRefIdeal.main_v53) = v3 c
          ∧ r.2.mem ((c.tc : Thread Cert.MergeBRefIdeal.nD Cert.MergeBRefIdeal.τ).loc Cert.MergeBRefIdeal.main_v54) = v4 c
          ∧ r.2.mem ((c.tc : Thread Cert.MergeBRefIdeal.nD Cert.MergeBRefIdeal.τ).loc Cert.MergeBRefIdeal.main_arg0) = m' ((c.tc : Thread Cert.MergeBRefIdeal.nD Cert.MergeBRefIdeal.τ).loc Cert.MergeBRefIdeal.main_arg0)
          ∧ r.2.mem ((c.tc : Thread Cert.MergeBRefIdeal.nD Cert.MergeBRefIdeal.τ).loc Cert.MergeBRefIdeal.main_arg1) = m' ((c.tc : Thread Cert.MergeBRefIdeal.nD Cert.MergeBRefIdeal.τ).loc Cert.MergeBRefIdeal.main_arg1)
          ∧ r.2.mem ((c.tc : Thread Cert.MergeBRefIdeal.nD Cert.MergeBRefIdeal.τ).loc Cert.MergeBRefIdeal.main_arg2) = m' ((c.tc : Thread Cert.MergeBRefIdeal.nD Cert.MergeBRefIdeal.τ).loc Cert.MergeBRefIdeal.main_arg2)
          ∧ r.2.mem ((c.tc : Thread Cert.MergeBRefIdeal.nD Cert.MergeBRefIdeal.τ).loc Cert.MergeBRefIdeal.main_arg3) = m' ((c.tc : Thread Cert.MergeBRefIdeal.nD Cert.MergeBRefIdeal.τ).loc Cert.MergeBRefIdeal.main_arg3))

def preserves_MergeF_MergeFIdeal : Prop :=
  True

def algebraic_MergeFIdeal_MergeFRefIdeal [hMergeFIdeal : Cert.MergeFIdeal.Facts] [hMergeFRefIdeal : Cert.MergeFRefIdeal.Facts] : Prop :=
  ∀ (m : (ℓ : Loc Cert.MergeFIdeal.nD Cert.MergeFIdeal.τ Cert.MergeFIdeal.sig) → Buf (Elt Ideal) ℓ) (g : Dev Cert.MergeFIdeal.nD → PrngReg)
    (m' : (ℓ : Loc Cert.MergeFRefIdeal.nD Cert.MergeFRefIdeal.τ Cert.MergeFRefIdeal.sig) → Buf (Elt Ideal) ℓ) (g' : Dev Cert.MergeFRefIdeal.nD → PrngReg), Pre_MergeFIdeal m →
    (∀ c : Dev Cert.MergeFIdeal.nD,
      m' ((c.tc : Thread Cert.MergeFRefIdeal.nD Cert.MergeFRefIdeal.τ).loc Cert.MergeFRefIdeal.main_arg0) = m ((c.tc : Thread Cert.MergeFIdeal.nD Cert.MergeFIdeal.τ).loc Cert.MergeFIdeal.main_arg0)
      ∧ m' ((c.tc : Thread Cert.MergeFRefIdeal.nD Cert.MergeFRefIdeal.τ).loc Cert.MergeFRefIdeal.main_arg1) = m ((c.tc : Thread Cert.MergeFIdeal.nD Cert.MergeFIdeal.τ).loc Cert.MergeFIdeal.main_arg1)
      ∧ m' ((c.tc : Thread Cert.MergeFRefIdeal.nD Cert.MergeFRefIdeal.τ).loc Cert.MergeFRefIdeal.main_arg2) = m ((c.tc : Thread Cert.MergeFIdeal.nD Cert.MergeFIdeal.τ).loc Cert.MergeFIdeal.main_arg2)) →
    ∃ (v0 : (c : Dev Cert.MergeFIdeal.nD) → Buf (Elt Ideal) ((c.tc : Thread Cert.MergeFIdeal.nD Cert.MergeFIdeal.τ).loc Cert.MergeFIdeal.main_v10)),
      θ_run (Cert.MergeFIdeal.defs (F := Ideal)) (onTc (τ := Cert.MergeFIdeal.τ) (Cert.MergeFIdeal.main (F := Ideal))) ⟨m, fun _ => 0, g⟩ (fun r => ∀ c : Dev Cert.MergeFIdeal.nD,
          r.2.mem ((c.tc : Thread Cert.MergeFIdeal.nD Cert.MergeFIdeal.τ).loc Cert.MergeFIdeal.main_v10) = v0 c
          ∧ r.2.mem ((c.tc : Thread Cert.MergeFIdeal.nD Cert.MergeFIdeal.τ).loc Cert.MergeFIdeal.main_arg0) = m ((c.tc : Thread Cert.MergeFIdeal.nD Cert.MergeFIdeal.τ).loc Cert.MergeFIdeal.main_arg0)
          ∧ r.2.mem ((c.tc : Thread Cert.MergeFIdeal.nD Cert.MergeFIdeal.τ).loc Cert.MergeFIdeal.main_arg1) = m ((c.tc : Thread Cert.MergeFIdeal.nD Cert.MergeFIdeal.τ).loc Cert.MergeFIdeal.main_arg1)
          ∧ r.2.mem ((c.tc : Thread Cert.MergeFIdeal.nD Cert.MergeFIdeal.τ).loc Cert.MergeFIdeal.main_arg2) = m ((c.tc : Thread Cert.MergeFIdeal.nD Cert.MergeFIdeal.τ).loc Cert.MergeFIdeal.main_arg2))
      ∧ θ_run (Cert.MergeFRefIdeal.defs (F := Ideal)) (onTc (τ := Cert.MergeFRefIdeal.τ) (Cert.MergeFRefIdeal.main (F := Ideal))) ⟨m', fun _ => 0, g'⟩ (fun r => ∀ c : Dev Cert.MergeFRefIdeal.nD,
          r.2.mem ((c.tc : Thread Cert.MergeFRefIdeal.nD Cert.MergeFRefIdeal.τ).loc Cert.MergeFRefIdeal.main_v30) = v0 c
          ∧ r.2.mem ((c.tc : Thread Cert.MergeFRefIdeal.nD Cert.MergeFRefIdeal.τ).loc Cert.MergeFRefIdeal.main_arg0) = m' ((c.tc : Thread Cert.MergeFRefIdeal.nD Cert.MergeFRefIdeal.τ).loc Cert.MergeFRefIdeal.main_arg0)
          ∧ r.2.mem ((c.tc : Thread Cert.MergeFRefIdeal.nD Cert.MergeFRefIdeal.τ).loc Cert.MergeFRefIdeal.main_arg1) = m' ((c.tc : Thread Cert.MergeFRefIdeal.nD Cert.MergeFRefIdeal.τ).loc Cert.MergeFRefIdeal.main_arg1)
          ∧ r.2.mem ((c.tc : Thread Cert.MergeFRefIdeal.nD Cert.MergeFRefIdeal.τ).loc Cert.MergeFRefIdeal.main_arg2) = m' ((c.tc : Thread Cert.MergeFRefIdeal.nD Cert.MergeFRefIdeal.τ).loc Cert.MergeFRefIdeal.main_arg2))

def preserves_StIn_StInIdeal : Prop :=
  True

def algebraic_StInIdeal_StInRefIdeal [hStInIdeal : Cert.StInIdeal.Facts] [hStInRefIdeal : Cert.StInRefIdeal.Facts] : Prop :=
  ∀ (m : (ℓ : Loc Cert.StInIdeal.nD Cert.StInIdeal.τ Cert.StInIdeal.sig) → Buf (Elt Ideal) ℓ) (g : Dev Cert.StInIdeal.nD → PrngReg)
    (m' : (ℓ : Loc Cert.StInRefIdeal.nD Cert.StInRefIdeal.τ Cert.StInRefIdeal.sig) → Buf (Elt Ideal) ℓ) (g' : Dev Cert.StInRefIdeal.nD → PrngReg), Pre_StInIdeal m →
    (∀ c : Dev Cert.StInIdeal.nD,
      m' ((c.tc : Thread Cert.StInRefIdeal.nD Cert.StInRefIdeal.τ).loc Cert.StInRefIdeal.main_arg0) = m ((c.tc : Thread Cert.StInIdeal.nD Cert.StInIdeal.τ).loc Cert.StInIdeal.main_arg0)
      ∧ m' ((c.tc : Thread Cert.StInRefIdeal.nD Cert.StInRefIdeal.τ).loc Cert.StInRefIdeal.main_arg1) = m ((c.tc : Thread Cert.StInIdeal.nD Cert.StInIdeal.τ).loc Cert.StInIdeal.main_arg1)
      ∧ m' ((c.tc : Thread Cert.StInRefIdeal.nD Cert.StInRefIdeal.τ).loc Cert.StInRefIdeal.main_arg2) = m ((c.tc : Thread Cert.StInIdeal.nD Cert.StInIdeal.τ).loc Cert.StInIdeal.main_arg2)) →
    ∃ (v0 : (c : Dev Cert.StInIdeal.nD) → Buf (Elt Ideal) ((c.tc : Thread Cert.StInIdeal.nD Cert.StInIdeal.τ).loc Cert.StInIdeal.main_v42_0)) (v1 : (c : Dev Cert.StInIdeal.nD) → Buf (Elt Ideal) ((c.tc : Thread Cert.StInIdeal.nD Cert.StInIdeal.τ).loc Cert.StInIdeal.main_v42_1)),
      θ_run (Cert.StInIdeal.defs (F := Ideal)) (onTc (τ := Cert.StInIdeal.τ) (Cert.StInIdeal.main (F := Ideal))) ⟨m, fun _ => 0, g⟩ (fun r => ∀ c : Dev Cert.StInIdeal.nD,
          r.2.mem ((c.tc : Thread Cert.StInIdeal.nD Cert.StInIdeal.τ).loc Cert.StInIdeal.main_v42_0) = v0 c
          ∧ r.2.mem ((c.tc : Thread Cert.StInIdeal.nD Cert.StInIdeal.τ).loc Cert.StInIdeal.main_v42_1) = v1 c
          ∧ r.2.mem ((c.tc : Thread Cert.StInIdeal.nD Cert.StInIdeal.τ).loc Cert.StInIdeal.main_arg0) = m ((c.tc : Thread Cert.StInIdeal.nD Cert.StInIdeal.τ).loc Cert.StInIdeal.main_arg0)
          ∧ r.2.mem ((c.tc : Thread Cert.StInIdeal.nD Cert.StInIdeal.τ).loc Cert.StInIdeal.main_arg1) = m ((c.tc : Thread Cert.StInIdeal.nD Cert.StInIdeal.τ).loc Cert.StInIdeal.main_arg1)
          ∧ r.2.mem ((c.tc : Thread Cert.StInIdeal.nD Cert.StInIdeal.τ).loc Cert.StInIdeal.main_arg2) = m ((c.tc : Thread Cert.StInIdeal.nD Cert.StInIdeal.τ).loc Cert.StInIdeal.main_arg2))
      ∧ θ_run (Cert.StInRefIdeal.defs (F := Ideal)) (onTc (τ := Cert.StInRefIdeal.τ) (Cert.StInRefIdeal.main (F := Ideal))) ⟨m', fun _ => 0, g'⟩ (fun r => ∀ c : Dev Cert.StInRefIdeal.nD,
          r.2.mem ((c.tc : Thread Cert.StInRefIdeal.nD Cert.StInRefIdeal.τ).loc Cert.StInRefIdeal.main_v9) = v0 c
          ∧ r.2.mem ((c.tc : Thread Cert.StInRefIdeal.nD Cert.StInRefIdeal.τ).loc Cert.StInRefIdeal.main_v12) = v1 c
          ∧ r.2.mem ((c.tc : Thread Cert.StInRefIdeal.nD Cert.StInRefIdeal.τ).loc Cert.StInRefIdeal.main_arg0) = m' ((c.tc : Thread Cert.StInRefIdeal.nD Cert.StInRefIdeal.τ).loc Cert.StInRefIdeal.main_arg0)
          ∧ r.2.mem ((c.tc : Thread Cert.StInRefIdeal.nD Cert.StInRefIdeal.τ).loc Cert.StInRefIdeal.main_arg1) = m' ((c.tc : Thread Cert.StInRefIdeal.nD Cert.StInRefIdeal.τ).loc Cert.StInRefIdeal.main_arg1)
          ∧ r.2.mem ((c.tc : Thread Cert.StInRefIdeal.nD Cert.StInRefIdeal.τ).loc Cert.StInRefIdeal.main_arg2) = m' ((c.tc : Thread Cert.StInRefIdeal.nD Cert.StInRefIdeal.τ).loc Cert.StInRefIdeal.main_arg2))

def preserves_StOut_StOutIdeal : Prop :=
  True

def algebraic_StOutIdeal_StOutRefIdeal [hStOutIdeal : Cert.StOutIdeal.Facts] [hStOutRefIdeal : Cert.StOutRefIdeal.Facts] : Prop :=
  ∀ (m : (ℓ : Loc Cert.StOutIdeal.nD Cert.StOutIdeal.τ Cert.StOutIdeal.sig) → Buf (Elt Ideal) ℓ) (g : Dev Cert.StOutIdeal.nD → PrngReg)
    (m' : (ℓ : Loc Cert.StOutRefIdeal.nD Cert.StOutRefIdeal.τ Cert.StOutRefIdeal.sig) → Buf (Elt Ideal) ℓ) (g' : Dev Cert.StOutRefIdeal.nD → PrngReg), Pre_StOutIdeal m →
    (∀ c : Dev Cert.StOutIdeal.nD,
      m' ((c.tc : Thread Cert.StOutRefIdeal.nD Cert.StOutRefIdeal.τ).loc Cert.StOutRefIdeal.main_arg0) = m ((c.tc : Thread Cert.StOutIdeal.nD Cert.StOutIdeal.τ).loc Cert.StOutIdeal.main_arg0)
      ∧ m' ((c.tc : Thread Cert.StOutRefIdeal.nD Cert.StOutRefIdeal.τ).loc Cert.StOutRefIdeal.main_arg1) = m ((c.tc : Thread Cert.StOutIdeal.nD Cert.StOutIdeal.τ).loc Cert.StOutIdeal.main_arg1)
      ∧ m' ((c.tc : Thread Cert.StOutRefIdeal.nD Cert.StOutRefIdeal.τ).loc Cert.StOutRefIdeal.main_arg2) = m ((c.tc : Thread Cert.StOutIdeal.nD Cert.StOutIdeal.τ).loc Cert.StOutIdeal.main_arg2)
      ∧ m' ((c.tc : Thread Cert.StOutRefIdeal.nD Cert.StOutRefIdeal.τ).loc Cert.StOutRefIdeal.main_arg3) = m ((c.tc : Thread Cert.StOutIdeal.nD Cert.StOutIdeal.τ).loc Cert.StOutIdeal.main_arg3)
      ∧ m' ((c.tc : Thread Cert.StOutRefIdeal.nD Cert.StOutRefIdeal.τ).loc Cert.StOutRefIdeal.main_arg4) = m ((c.tc : Thread Cert.StOutIdeal.nD Cert.StOutIdeal.τ).loc Cert.StOutIdeal.main_arg4)
      ∧ m' ((c.tc : Thread Cert.StOutRefIdeal.nD Cert.StOutRefIdeal.τ).loc Cert.StOutRefIdeal.main_arg5) = m ((c.tc : Thread Cert.StOutIdeal.nD Cert.StOutIdeal.τ).loc Cert.StOutIdeal.main_arg5)) →
    ∃ (v0 : (c : Dev Cert.StOutIdeal.nD) → Buf (Elt Ideal) ((c.tc : Thread Cert.StOutIdeal.nD Cert.StOutIdeal.τ).loc Cert.StOutIdeal.main_v44_0)) (v1 : (c : Dev Cert.StOutIdeal.nD) → Buf (Elt Ideal) ((c.tc : Thread Cert.StOutIdeal.nD Cert.StOutIdeal.τ).loc Cert.StOutIdeal.main_v44_1)),
      θ_run (Cert.StOutIdeal.defs (F := Ideal)) (onTc (τ := Cert.StOutIdeal.τ) (Cert.StOutIdeal.main (F := Ideal))) ⟨m, fun _ => 0, g⟩ (fun r => ∀ c : Dev Cert.StOutIdeal.nD,
          r.2.mem ((c.tc : Thread Cert.StOutIdeal.nD Cert.StOutIdeal.τ).loc Cert.StOutIdeal.main_v44_0) = v0 c
          ∧ r.2.mem ((c.tc : Thread Cert.StOutIdeal.nD Cert.StOutIdeal.τ).loc Cert.StOutIdeal.main_v44_1) = v1 c
          ∧ r.2.mem ((c.tc : Thread Cert.StOutIdeal.nD Cert.StOutIdeal.τ).loc Cert.StOutIdeal.main_arg0) = m ((c.tc : Thread Cert.StOutIdeal.nD Cert.StOutIdeal.τ).loc Cert.StOutIdeal.main_arg0)
          ∧ r.2.mem ((c.tc : Thread Cert.StOutIdeal.nD Cert.StOutIdeal.τ).loc Cert.StOutIdeal.main_arg1) = m ((c.tc : Thread Cert.StOutIdeal.nD Cert.StOutIdeal.τ).loc Cert.StOutIdeal.main_arg1)
          ∧ r.2.mem ((c.tc : Thread Cert.StOutIdeal.nD Cert.StOutIdeal.τ).loc Cert.StOutIdeal.main_arg2) = m ((c.tc : Thread Cert.StOutIdeal.nD Cert.StOutIdeal.τ).loc Cert.StOutIdeal.main_arg2)
          ∧ r.2.mem ((c.tc : Thread Cert.StOutIdeal.nD Cert.StOutIdeal.τ).loc Cert.StOutIdeal.main_arg3) = m ((c.tc : Thread Cert.StOutIdeal.nD Cert.StOutIdeal.τ).loc Cert.StOutIdeal.main_arg3)
          ∧ r.2.mem ((c.tc : Thread Cert.StOutIdeal.nD Cert.StOutIdeal.τ).loc Cert.StOutIdeal.main_arg4) = m ((c.tc : Thread Cert.StOutIdeal.nD Cert.StOutIdeal.τ).loc Cert.StOutIdeal.main_arg4)
          ∧ r.2.mem ((c.tc : Thread Cert.StOutIdeal.nD Cert.StOutIdeal.τ).loc Cert.StOutIdeal.main_arg5) = m ((c.tc : Thread Cert.StOutIdeal.nD Cert.StOutIdeal.τ).loc Cert.StOutIdeal.main_arg5))
      ∧ θ_run (Cert.StOutRefIdeal.defs (F := Ideal)) (onTc (τ := Cert.StOutRefIdeal.τ) (Cert.StOutRefIdeal.main (F := Ideal))) ⟨m', fun _ => 0, g'⟩ (fun r => ∀ c : Dev Cert.StOutRefIdeal.nD,
          r.2.mem ((c.tc : Thread Cert.StOutRefIdeal.nD Cert.StOutRefIdeal.τ).loc Cert.StOutRefIdeal.main_v20) = v0 c
          ∧ r.2.mem ((c.tc : Thread Cert.StOutRefIdeal.nD Cert.StOutRefIdeal.τ).loc Cert.StOutRefIdeal.main_v34) = v1 c
          ∧ r.2.mem ((c.tc : Thread Cert.StOutRefIdeal.nD Cert.StOutRefIdeal.τ).loc Cert.StOutRefIdeal.main_arg0) = m' ((c.tc : Thread Cert.StOutRefIdeal.nD Cert.StOutRefIdeal.τ).loc Cert.StOutRefIdeal.main_arg0)
          ∧ r.2.mem ((c.tc : Thread Cert.StOutRefIdeal.nD Cert.StOutRefIdeal.τ).loc Cert.StOutRefIdeal.main_arg1) = m' ((c.tc : Thread Cert.StOutRefIdeal.nD Cert.StOutRefIdeal.τ).loc Cert.StOutRefIdeal.main_arg1)
          ∧ r.2.mem ((c.tc : Thread Cert.StOutRefIdeal.nD Cert.StOutRefIdeal.τ).loc Cert.StOutRefIdeal.main_arg2) = m' ((c.tc : Thread Cert.StOutRefIdeal.nD Cert.StOutRefIdeal.τ).loc Cert.StOutRefIdeal.main_arg2)
          ∧ r.2.mem ((c.tc : Thread Cert.StOutRefIdeal.nD Cert.StOutRefIdeal.τ).loc Cert.StOutRefIdeal.main_arg3) = m' ((c.tc : Thread Cert.StOutRefIdeal.nD Cert.StOutRefIdeal.τ).loc Cert.StOutRefIdeal.main_arg3)
          ∧ r.2.mem ((c.tc : Thread Cert.StOutRefIdeal.nD Cert.StOutRefIdeal.τ).loc Cert.StOutRefIdeal.main_arg4) = m' ((c.tc : Thread Cert.StOutRefIdeal.nD Cert.StOutRefIdeal.τ).loc Cert.StOutRefIdeal.main_arg4)
          ∧ r.2.mem ((c.tc : Thread Cert.StOutRefIdeal.nD Cert.StOutRefIdeal.τ).loc Cert.StOutRefIdeal.main_arg5) = m' ((c.tc : Thread Cert.StOutRefIdeal.nD Cert.StOutRefIdeal.τ).loc Cert.StOutRefIdeal.main_arg5))

def preserves_StBack_StBackIdeal : Prop :=
  True

def algebraic_StBackIdeal_StBackRefIdeal [hStBackIdeal : Cert.StBackIdeal.Facts] [hStBackRefIdeal : Cert.StBackRefIdeal.Facts] : Prop :=
  ∀ (m : (ℓ : Loc Cert.StBackIdeal.nD Cert.StBackIdeal.τ Cert.StBackIdeal.sig) → Buf (Elt Ideal) ℓ) (g : Dev Cert.StBackIdeal.nD → PrngReg)
    (m' : (ℓ : Loc Cert.StBackRefIdeal.nD Cert.StBackRefIdeal.τ Cert.StBackRefIdeal.sig) → Buf (Elt Ideal) ℓ) (g' : Dev Cert.StBackRefIdeal.nD → PrngReg), Pre_StBackIdeal m →
    (∀ c : Dev Cert.StBackIdeal.nD,
      m' ((c.tc : Thread Cert.StBackRefIdeal.nD Cert.StBackRefIdeal.τ).loc Cert.StBackRefIdeal.main_arg0) = m ((c.tc : Thread Cert.StBackIdeal.nD Cert.StBackIdeal.τ).loc Cert.StBackIdeal.main_arg0)
      ∧ m' ((c.tc : Thread Cert.StBackRefIdeal.nD Cert.StBackRefIdeal.τ).loc Cert.StBackRefIdeal.main_arg1) = m ((c.tc : Thread Cert.StBackIdeal.nD Cert.StBackIdeal.τ).loc Cert.StBackIdeal.main_arg1)
      ∧ m' ((c.tc : Thread Cert.StBackRefIdeal.nD Cert.StBackRefIdeal.τ).loc Cert.StBackRefIdeal.main_arg2) = m ((c.tc : Thread Cert.StBackIdeal.nD Cert.StBackIdeal.τ).loc Cert.StBackIdeal.main_arg2)
      ∧ m' ((c.tc : Thread Cert.StBackRefIdeal.nD Cert.StBackRefIdeal.τ).loc Cert.StBackRefIdeal.main_arg3) = m ((c.tc : Thread Cert.StBackIdeal.nD Cert.StBackIdeal.τ).loc Cert.StBackIdeal.main_arg3)
      ∧ m' ((c.tc : Thread Cert.StBackRefIdeal.nD Cert.StBackRefIdeal.τ).loc Cert.StBackRefIdeal.main_arg4) = m ((c.tc : Thread Cert.StBackIdeal.nD Cert.StBackIdeal.τ).loc Cert.StBackIdeal.main_arg4)
      ∧ m' ((c.tc : Thread Cert.StBackRefIdeal.nD Cert.StBackRefIdeal.τ).loc Cert.StBackRefIdeal.main_arg5) = m ((c.tc : Thread Cert.StBackIdeal.nD Cert.StBackIdeal.τ).loc Cert.StBackIdeal.main_arg5)
      ∧ m' ((c.tc : Thread Cert.StBackRefIdeal.nD Cert.StBackRefIdeal.τ).loc Cert.StBackRefIdeal.main_arg6) = m ((c.tc : Thread Cert.StBackIdeal.nD Cert.StBackIdeal.τ).loc Cert.StBackIdeal.main_arg6)
      ∧ m' ((c.tc : Thread Cert.StBackRefIdeal.nD Cert.StBackRefIdeal.τ).loc Cert.StBackRefIdeal.main_arg7) = m ((c.tc : Thread Cert.StBackIdeal.nD Cert.StBackIdeal.τ).loc Cert.StBackIdeal.main_arg7)
      ∧ m' ((c.tc : Thread Cert.StBackRefIdeal.nD Cert.StBackRefIdeal.τ).loc Cert.StBackRefIdeal.main_arg8) = m ((c.tc : Thread Cert.StBackIdeal.nD Cert.StBackIdeal.τ).loc Cert.StBackIdeal.main_arg8)
      ∧ m' ((c.tc : Thread Cert.StBackRefIdeal.nD Cert.StBackRefIdeal.τ).loc Cert.StBackRefIdeal.main_arg9) = m ((c.tc : Thread Cert.StBackIdeal.nD Cert.StBackIdeal.τ).loc Cert.StBackIdeal.main_arg9)) →
    ∃ (v0 : (c : Dev Cert.StBackIdeal.nD) → Buf (Elt Ideal) ((c.tc : Thread Cert.StBackIdeal.nD Cert.StBackIdeal.τ).loc Cert.StBackIdeal.main_v44_0)) (v1 : (c : Dev Cert.StBackIdeal.nD) → Buf (Elt Ideal) ((c.tc : Thread Cert.StBackIdeal.nD Cert.StBackIdeal.τ).loc Cert.StBackIdeal.main_v44_3)) (v2 : (c : Dev Cert.StBackIdeal.nD) → Buf (Elt Ideal) ((c.tc : Thread Cert.StBackIdeal.nD Cert.StBackIdeal.τ).loc Cert.StBackIdeal.main_v44_4)),
      θ_run (Cert.StBackIdeal.defs (F := Ideal)) (onTc (τ := Cert.StBackIdeal.τ) (Cert.StBackIdeal.main (F := Ideal))) ⟨m, fun _ => 0, g⟩ (fun r => ∀ c : Dev Cert.StBackIdeal.nD,
          r.2.mem ((c.tc : Thread Cert.StBackIdeal.nD Cert.StBackIdeal.τ).loc Cert.StBackIdeal.main_v44_0) = v0 c
          ∧ r.2.mem ((c.tc : Thread Cert.StBackIdeal.nD Cert.StBackIdeal.τ).loc Cert.StBackIdeal.main_v44_3) = v1 c
          ∧ r.2.mem ((c.tc : Thread Cert.StBackIdeal.nD Cert.StBackIdeal.τ).loc Cert.StBackIdeal.main_v44_4) = v2 c
          ∧ r.2.mem ((c.tc : Thread Cert.StBackIdeal.nD Cert.StBackIdeal.τ).loc Cert.StBackIdeal.main_arg0) = m ((c.tc : Thread Cert.StBackIdeal.nD Cert.StBackIdeal.τ).loc Cert.StBackIdeal.main_arg0)
          ∧ r.2.mem ((c.tc : Thread Cert.StBackIdeal.nD Cert.StBackIdeal.τ).loc Cert.StBackIdeal.main_arg1) = m ((c.tc : Thread Cert.StBackIdeal.nD Cert.StBackIdeal.τ).loc Cert.StBackIdeal.main_arg1)
          ∧ r.2.mem ((c.tc : Thread Cert.StBackIdeal.nD Cert.StBackIdeal.τ).loc Cert.StBackIdeal.main_arg2) = m ((c.tc : Thread Cert.StBackIdeal.nD Cert.StBackIdeal.τ).loc Cert.StBackIdeal.main_arg2)
          ∧ r.2.mem ((c.tc : Thread Cert.StBackIdeal.nD Cert.StBackIdeal.τ).loc Cert.StBackIdeal.main_arg3) = m ((c.tc : Thread Cert.StBackIdeal.nD Cert.StBackIdeal.τ).loc Cert.StBackIdeal.main_arg3)
          ∧ r.2.mem ((c.tc : Thread Cert.StBackIdeal.nD Cert.StBackIdeal.τ).loc Cert.StBackIdeal.main_arg4) = m ((c.tc : Thread Cert.StBackIdeal.nD Cert.StBackIdeal.τ).loc Cert.StBackIdeal.main_arg4)
          ∧ r.2.mem ((c.tc : Thread Cert.StBackIdeal.nD Cert.StBackIdeal.τ).loc Cert.StBackIdeal.main_arg5) = m ((c.tc : Thread Cert.StBackIdeal.nD Cert.StBackIdeal.τ).loc Cert.StBackIdeal.main_arg5)
          ∧ r.2.mem ((c.tc : Thread Cert.StBackIdeal.nD Cert.StBackIdeal.τ).loc Cert.StBackIdeal.main_arg6) = m ((c.tc : Thread Cert.StBackIdeal.nD Cert.StBackIdeal.τ).loc Cert.StBackIdeal.main_arg6)
          ∧ r.2.mem ((c.tc : Thread Cert.StBackIdeal.nD Cert.StBackIdeal.τ).loc Cert.StBackIdeal.main_arg7) = m ((c.tc : Thread Cert.StBackIdeal.nD Cert.StBackIdeal.τ).loc Cert.StBackIdeal.main_arg7)
          ∧ r.2.mem ((c.tc : Thread Cert.StBackIdeal.nD Cert.StBackIdeal.τ).loc Cert.StBackIdeal.main_arg8) = m ((c.tc : Thread Cert.StBackIdeal.nD Cert.StBackIdeal.τ).loc Cert.StBackIdeal.main_arg8)
          ∧ r.2.mem ((c.tc : Thread Cert.StBackIdeal.nD Cert.StBackIdeal.τ).loc Cert.StBackIdeal.main_arg9) = m ((c.tc : Thread Cert.StBackIdeal.nD Cert.StBackIdeal.τ).loc Cert.StBackIdeal.main_arg9))
      ∧ θ_run (Cert.StBackRefIdeal.defs (F := Ideal)) (onTc (τ := Cert.StBackRefIdeal.τ) (Cert.StBackRefIdeal.main (F := Ideal))) ⟨m', fun _ => 0, g'⟩ (fun r => ∀ c : Dev Cert.StBackRefIdeal.nD,
          r.2.mem ((c.tc : Thread Cert.StBackRefIdeal.nD Cert.StBackRefIdeal.τ).loc Cert.StBackRefIdeal.main_v59) = v0 c
          ∧ r.2.mem ((c.tc : Thread Cert.StBackRefIdeal.nD Cert.StBackRefIdeal.τ).loc Cert.StBackRefIdeal.main_v47) = v1 c
          ∧ r.2.mem ((c.tc : Thread Cert.StBackRefIdeal.nD Cert.StBackRefIdeal.τ).loc Cert.StBackRefIdeal.main_v43) = v2 c
          ∧ r.2.mem ((c.tc : Thread Cert.StBackRefIdeal.nD Cert.StBackRefIdeal.τ).loc Cert.StBackRefIdeal.main_arg0) = m' ((c.tc : Thread Cert.StBackRefIdeal.nD Cert.StBackRefIdeal.τ).loc Cert.StBackRefIdeal.main_arg0)
          ∧ r.2.mem ((c.tc : Thread Cert.StBackRefIdeal.nD Cert.StBackRefIdeal.τ).loc Cert.StBackRefIdeal.main_arg1) = m' ((c.tc : Thread Cert.StBackRefIdeal.nD Cert.StBackRefIdeal.τ).loc Cert.StBackRefIdeal.main_arg1)
          ∧ r.2.mem ((c.tc : Thread Cert.StBackRefIdeal.nD Cert.StBackRefIdeal.τ).loc Cert.StBackRefIdeal.main_arg2) = m' ((c.tc : Thread Cert.StBackRefIdeal.nD Cert.StBackRefIdeal.τ).loc Cert.StBackRefIdeal.main_arg2)
          ∧ r.2.mem ((c.tc : Thread Cert.StBackRefIdeal.nD Cert.StBackRefIdeal.τ).loc Cert.StBackRefIdeal.main_arg3) = m' ((c.tc : Thread Cert.StBackRefIdeal.nD Cert.StBackRefIdeal.τ).loc Cert.StBackRefIdeal.main_arg3)
          ∧ r.2.mem ((c.tc : Thread Cert.StBackRefIdeal.nD Cert.StBackRefIdeal.τ).loc Cert.StBackRefIdeal.main_arg4) = m' ((c.tc : Thread Cert.StBackRefIdeal.nD Cert.StBackRefIdeal.τ).loc Cert.StBackRefIdeal.main_arg4)
          ∧ r.2.mem ((c.tc : Thread Cert.StBackRefIdeal.nD Cert.StBackRefIdeal.τ).loc Cert.StBackRefIdeal.main_arg5) = m' ((c.tc : Thread Cert.StBackRefIdeal.nD Cert.StBackRefIdeal.τ).loc Cert.StBackRefIdeal.main_arg5)
          ∧ r.2.mem ((c.tc : Thread Cert.StBackRefIdeal.nD Cert.StBackRefIdeal.τ).loc Cert.StBackRefIdeal.main_arg6) = m' ((c.tc : Thread Cert.StBackRefIdeal.nD Cert.StBackRefIdeal.τ).loc Cert.StBackRefIdeal.main_arg6)
          ∧ r.2.mem ((c.tc : Thread Cert.StBackRefIdeal.nD Cert.StBackRefIdeal.τ).loc Cert.StBackRefIdeal.main_arg7) = m' ((c.tc : Thread Cert.StBackRefIdeal.nD Cert.StBackRefIdeal.τ).loc Cert.StBackRefIdeal.main_arg7)
          ∧ r.2.mem ((c.tc : Thread Cert.StBackRefIdeal.nD Cert.StBackRefIdeal.τ).loc Cert.StBackRefIdeal.main_arg8) = m' ((c.tc : Thread Cert.StBackRefIdeal.nD Cert.StBackRefIdeal.τ).loc Cert.StBackRefIdeal.main_arg8)
          ∧ r.2.mem ((c.tc : Thread Cert.StBackRefIdeal.nD Cert.StBackRefIdeal.τ).loc Cert.StBackRefIdeal.main_arg9) = m' ((c.tc : Thread Cert.StBackRefIdeal.nD Cert.StBackRefIdeal.τ).loc Cert.StBackRefIdeal.main_arg9))

def preserves_RmsB_RmsBIdeal : Prop :=
  True

def algebraic_RmsBIdeal_RmsBRefIdeal [hRmsBIdeal : Cert.RmsBIdeal.Facts] [hRmsBRefIdeal : Cert.RmsBRefIdeal.Facts] : Prop :=
  ∀ (m : (ℓ : Loc Cert.RmsBIdeal.nD Cert.RmsBIdeal.τ Cert.RmsBIdeal.sig) → Buf (Elt Ideal) ℓ) (g : Dev Cert.RmsBIdeal.nD → PrngReg)
    (m' : (ℓ : Loc Cert.RmsBRefIdeal.nD Cert.RmsBRefIdeal.τ Cert.RmsBRefIdeal.sig) → Buf (Elt Ideal) ℓ) (g' : Dev Cert.RmsBRefIdeal.nD → PrngReg), Pre_RmsBIdeal m →
    (∀ c : Dev Cert.RmsBIdeal.nD,
      m' ((c.tc : Thread Cert.RmsBRefIdeal.nD Cert.RmsBRefIdeal.τ).loc Cert.RmsBRefIdeal.main_arg0) = m ((c.tc : Thread Cert.RmsBIdeal.nD Cert.RmsBIdeal.τ).loc Cert.RmsBIdeal.main_arg0)
      ∧ m' ((c.tc : Thread Cert.RmsBRefIdeal.nD Cert.RmsBRefIdeal.τ).loc Cert.RmsBRefIdeal.main_arg1) = m ((c.tc : Thread Cert.RmsBIdeal.nD Cert.RmsBIdeal.τ).loc Cert.RmsBIdeal.main_arg1)
      ∧ m' ((c.tc : Thread Cert.RmsBRefIdeal.nD Cert.RmsBRefIdeal.τ).loc Cert.RmsBRefIdeal.main_arg2) = m ((c.tc : Thread Cert.RmsBIdeal.nD Cert.RmsBIdeal.τ).loc Cert.RmsBIdeal.main_arg2)
      ∧ m' ((c.tc : Thread Cert.RmsBRefIdeal.nD Cert.RmsBRefIdeal.τ).loc Cert.RmsBRefIdeal.main_arg3) = m ((c.tc : Thread Cert.RmsBIdeal.nD Cert.RmsBIdeal.τ).loc Cert.RmsBIdeal.main_arg3)) →
    ∃ (v0 : (c : Dev Cert.RmsBIdeal.nD) → Buf (Elt Ideal) ((c.tc : Thread Cert.RmsBIdeal.nD Cert.RmsBIdeal.τ).loc Cert.RmsBIdeal.main_v1_0)) (v1 : (c : Dev Cert.RmsBIdeal.nD) → Buf (Elt Ideal) ((c.tc : Thread Cert.RmsBIdeal.nD Cert.RmsBIdeal.τ).loc Cert.RmsBIdeal.main_v1_1)) (v2 : (c : Dev Cert.RmsBIdeal.nD) → Buf (Elt Ideal) ((c.tc : Thread Cert.RmsBIdeal.nD Cert.RmsBIdeal.τ).loc Cert.RmsBIdeal.main_v1_2)),
      θ_run (Cert.RmsBIdeal.defs (F := Ideal)) (onTc (τ := Cert.RmsBIdeal.τ) (Cert.RmsBIdeal.main (F := Ideal))) ⟨m, fun _ => 0, g⟩ (fun r => ∀ c : Dev Cert.RmsBIdeal.nD,
          r.2.mem ((c.tc : Thread Cert.RmsBIdeal.nD Cert.RmsBIdeal.τ).loc Cert.RmsBIdeal.main_v1_0) = v0 c
          ∧ r.2.mem ((c.tc : Thread Cert.RmsBIdeal.nD Cert.RmsBIdeal.τ).loc Cert.RmsBIdeal.main_v1_1) = v1 c
          ∧ r.2.mem ((c.tc : Thread Cert.RmsBIdeal.nD Cert.RmsBIdeal.τ).loc Cert.RmsBIdeal.main_v1_2) = v2 c
          ∧ r.2.mem ((c.tc : Thread Cert.RmsBIdeal.nD Cert.RmsBIdeal.τ).loc Cert.RmsBIdeal.main_arg0) = m ((c.tc : Thread Cert.RmsBIdeal.nD Cert.RmsBIdeal.τ).loc Cert.RmsBIdeal.main_arg0)
          ∧ r.2.mem ((c.tc : Thread Cert.RmsBIdeal.nD Cert.RmsBIdeal.τ).loc Cert.RmsBIdeal.main_arg1) = m ((c.tc : Thread Cert.RmsBIdeal.nD Cert.RmsBIdeal.τ).loc Cert.RmsBIdeal.main_arg1)
          ∧ r.2.mem ((c.tc : Thread Cert.RmsBIdeal.nD Cert.RmsBIdeal.τ).loc Cert.RmsBIdeal.main_arg2) = m ((c.tc : Thread Cert.RmsBIdeal.nD Cert.RmsBIdeal.τ).loc Cert.RmsBIdeal.main_arg2)
          ∧ r.2.mem ((c.tc : Thread Cert.RmsBIdeal.nD Cert.RmsBIdeal.τ).loc Cert.RmsBIdeal.main_arg3) = m ((c.tc : Thread Cert.RmsBIdeal.nD Cert.RmsBIdeal.τ).loc Cert.RmsBIdeal.main_arg3))
      ∧ θ_run (Cert.RmsBRefIdeal.defs (F := Ideal)) (onTc (τ := Cert.RmsBRefIdeal.τ) (Cert.RmsBRefIdeal.main (F := Ideal))) ⟨m', fun _ => 0, g'⟩ (fun r => ∀ c : Dev Cert.RmsBRefIdeal.nD,
          r.2.mem ((c.tc : Thread Cert.RmsBRefIdeal.nD Cert.RmsBRefIdeal.τ).loc Cert.RmsBRefIdeal.main_v36) = v0 c
          ∧ r.2.mem ((c.tc : Thread Cert.RmsBRefIdeal.nD Cert.RmsBRefIdeal.τ).loc Cert.RmsBRefIdeal.main_v38) = v1 c
          ∧ r.2.mem ((c.tc : Thread Cert.RmsBRefIdeal.nD Cert.RmsBRefIdeal.τ).loc Cert.RmsBRefIdeal.main_v39) = v2 c
          ∧ r.2.mem ((c.tc : Thread Cert.RmsBRefIdeal.nD Cert.RmsBRefIdeal.τ).loc Cert.RmsBRefIdeal.main_arg0) = m' ((c.tc : Thread Cert.RmsBRefIdeal.nD Cert.RmsBRefIdeal.τ).loc Cert.RmsBRefIdeal.main_arg0)
          ∧ r.2.mem ((c.tc : Thread Cert.RmsBRefIdeal.nD Cert.RmsBRefIdeal.τ).loc Cert.RmsBRefIdeal.main_arg1) = m' ((c.tc : Thread Cert.RmsBRefIdeal.nD Cert.RmsBRefIdeal.τ).loc Cert.RmsBRefIdeal.main_arg1)
          ∧ r.2.mem ((c.tc : Thread Cert.RmsBRefIdeal.nD Cert.RmsBRefIdeal.τ).loc Cert.RmsBRefIdeal.main_arg2) = m' ((c.tc : Thread Cert.RmsBRefIdeal.nD Cert.RmsBRefIdeal.τ).loc Cert.RmsBRefIdeal.main_arg2)
          ∧ r.2.mem ((c.tc : Thread Cert.RmsBRefIdeal.nD Cert.RmsBRefIdeal.τ).loc Cert.RmsBRefIdeal.main_arg3) = m' ((c.tc : Thread Cert.RmsBRefIdeal.nD Cert.RmsBRefIdeal.τ).loc Cert.RmsBRefIdeal.main_arg3))

def preserves_GnormB_GnormBIdeal : Prop :=
  True

def algebraic_GnormBIdeal_GnormBRefIdeal [hGnormBIdeal : Cert.GnormBIdeal.Facts] [hGnormBRefIdeal : Cert.GnormBRefIdeal.Facts] : Prop :=
  ∀ (m : (ℓ : Loc Cert.GnormBIdeal.nD Cert.GnormBIdeal.τ Cert.GnormBIdeal.sig) → Buf (Elt Ideal) ℓ) (g : Dev Cert.GnormBIdeal.nD → PrngReg)
    (m' : (ℓ : Loc Cert.GnormBRefIdeal.nD Cert.GnormBRefIdeal.τ Cert.GnormBRefIdeal.sig) → Buf (Elt Ideal) ℓ) (g' : Dev Cert.GnormBRefIdeal.nD → PrngReg), Pre_GnormBIdeal m →
    (∀ c : Dev Cert.GnormBIdeal.nD,
      m' ((c.tc : Thread Cert.GnormBRefIdeal.nD Cert.GnormBRefIdeal.τ).loc Cert.GnormBRefIdeal.main_arg0) = m ((c.tc : Thread Cert.GnormBIdeal.nD Cert.GnormBIdeal.τ).loc Cert.GnormBIdeal.main_arg0)
      ∧ m' ((c.tc : Thread Cert.GnormBRefIdeal.nD Cert.GnormBRefIdeal.τ).loc Cert.GnormBRefIdeal.main_arg1) = m ((c.tc : Thread Cert.GnormBIdeal.nD Cert.GnormBIdeal.τ).loc Cert.GnormBIdeal.main_arg1)
      ∧ m' ((c.tc : Thread Cert.GnormBRefIdeal.nD Cert.GnormBRefIdeal.τ).loc Cert.GnormBRefIdeal.main_arg2) = m ((c.tc : Thread Cert.GnormBIdeal.nD Cert.GnormBIdeal.τ).loc Cert.GnormBIdeal.main_arg2)
      ∧ m' ((c.tc : Thread Cert.GnormBRefIdeal.nD Cert.GnormBRefIdeal.τ).loc Cert.GnormBRefIdeal.main_arg3) = m ((c.tc : Thread Cert.GnormBIdeal.nD Cert.GnormBIdeal.τ).loc Cert.GnormBIdeal.main_arg3)) →
    ∃ (v0 : (c : Dev Cert.GnormBIdeal.nD) → Buf (Elt Ideal) ((c.tc : Thread Cert.GnormBIdeal.nD Cert.GnormBIdeal.τ).loc Cert.GnormBIdeal.main_v11_0)) (v1 : (c : Dev Cert.GnormBIdeal.nD) → Buf (Elt Ideal) ((c.tc : Thread Cert.GnormBIdeal.nD Cert.GnormBIdeal.τ).loc Cert.GnormBIdeal.main_v11_2)),
      θ_run (Cert.GnormBIdeal.defs (F := Ideal)) (onTc (τ := Cert.GnormBIdeal.τ) (Cert.GnormBIdeal.main (F := Ideal))) ⟨m, fun _ => 0, g⟩ (fun r => ∀ c : Dev Cert.GnormBIdeal.nD,
          r.2.mem ((c.tc : Thread Cert.GnormBIdeal.nD Cert.GnormBIdeal.τ).loc Cert.GnormBIdeal.main_v11_0) = v0 c
          ∧ r.2.mem ((c.tc : Thread Cert.GnormBIdeal.nD Cert.GnormBIdeal.τ).loc Cert.GnormBIdeal.main_v11_2) = v1 c
          ∧ r.2.mem ((c.tc : Thread Cert.GnormBIdeal.nD Cert.GnormBIdeal.τ).loc Cert.GnormBIdeal.main_arg0) = m ((c.tc : Thread Cert.GnormBIdeal.nD Cert.GnormBIdeal.τ).loc Cert.GnormBIdeal.main_arg0)
          ∧ r.2.mem ((c.tc : Thread Cert.GnormBIdeal.nD Cert.GnormBIdeal.τ).loc Cert.GnormBIdeal.main_arg1) = m ((c.tc : Thread Cert.GnormBIdeal.nD Cert.GnormBIdeal.τ).loc Cert.GnormBIdeal.main_arg1)
          ∧ r.2.mem ((c.tc : Thread Cert.GnormBIdeal.nD Cert.GnormBIdeal.τ).loc Cert.GnormBIdeal.main_arg2) = m ((c.tc : Thread Cert.GnormBIdeal.nD Cert.GnormBIdeal.τ).loc Cert.GnormBIdeal.main_arg2)
          ∧ r.2.mem ((c.tc : Thread Cert.GnormBIdeal.nD Cert.GnormBIdeal.τ).loc Cert.GnormBIdeal.main_arg3) = m ((c.tc : Thread Cert.GnormBIdeal.nD Cert.GnormBIdeal.τ).loc Cert.GnormBIdeal.main_arg3))
      ∧ θ_run (Cert.GnormBRefIdeal.defs (F := Ideal)) (onTc (τ := Cert.GnormBRefIdeal.τ) (Cert.GnormBRefIdeal.main (F := Ideal))) ⟨m', fun _ => 0, g'⟩ (fun r => ∀ c : Dev Cert.GnormBRefIdeal.nD,
          r.2.mem ((c.tc : Thread Cert.GnormBRefIdeal.nD Cert.GnormBRefIdeal.τ).loc Cert.GnormBRefIdeal.main_v48) = v0 c
          ∧ r.2.mem ((c.tc : Thread Cert.GnormBRefIdeal.nD Cert.GnormBRefIdeal.τ).loc Cert.GnormBRefIdeal.main_v49) = v1 c
          ∧ r.2.mem ((c.tc : Thread Cert.GnormBRefIdeal.nD Cert.GnormBRefIdeal.τ).loc Cert.GnormBRefIdeal.main_arg0) = m' ((c.tc : Thread Cert.GnormBRefIdeal.nD Cert.GnormBRefIdeal.τ).loc Cert.GnormBRefIdeal.main_arg0)
          ∧ r.2.mem ((c.tc : Thread Cert.GnormBRefIdeal.nD Cert.GnormBRefIdeal.τ).loc Cert.GnormBRefIdeal.main_arg1) = m' ((c.tc : Thread Cert.GnormBRefIdeal.nD Cert.GnormBRefIdeal.τ).loc Cert.GnormBRefIdeal.main_arg1)
          ∧ r.2.mem ((c.tc : Thread Cert.GnormBRefIdeal.nD Cert.GnormBRefIdeal.τ).loc Cert.GnormBRefIdeal.main_arg2) = m' ((c.tc : Thread Cert.GnormBRefIdeal.nD Cert.GnormBRefIdeal.τ).loc Cert.GnormBRefIdeal.main_arg2)
          ∧ r.2.mem ((c.tc : Thread Cert.GnormBRefIdeal.nD Cert.GnormBRefIdeal.τ).loc Cert.GnormBRefIdeal.main_arg3) = m' ((c.tc : Thread Cert.GnormBRefIdeal.nD Cert.GnormBRefIdeal.τ).loc Cert.GnormBRefIdeal.main_arg3))

def preserves_RmsF_RmsFIdeal : Prop :=
  True

def algebraic_RmsFIdeal_RmsFRefIdeal [hRmsFIdeal : Cert.RmsFIdeal.Facts] [hRmsFRefIdeal : Cert.RmsFRefIdeal.Facts] : Prop :=
  ∀ (m : (ℓ : Loc Cert.RmsFIdeal.nD Cert.RmsFIdeal.τ Cert.RmsFIdeal.sig) → Buf (Elt Ideal) ℓ) (g : Dev Cert.RmsFIdeal.nD → PrngReg)
    (m' : (ℓ : Loc Cert.RmsFRefIdeal.nD Cert.RmsFRefIdeal.τ Cert.RmsFRefIdeal.sig) → Buf (Elt Ideal) ℓ) (g' : Dev Cert.RmsFRefIdeal.nD → PrngReg), Pre_RmsFIdeal m →
    (∀ c : Dev Cert.RmsFIdeal.nD,
      m' ((c.tc : Thread Cert.RmsFRefIdeal.nD Cert.RmsFRefIdeal.τ).loc Cert.RmsFRefIdeal.main_arg0) = m ((c.tc : Thread Cert.RmsFIdeal.nD Cert.RmsFIdeal.τ).loc Cert.RmsFIdeal.main_arg0)
      ∧ m' ((c.tc : Thread Cert.RmsFRefIdeal.nD Cert.RmsFRefIdeal.τ).loc Cert.RmsFRefIdeal.main_arg1) = m ((c.tc : Thread Cert.RmsFIdeal.nD Cert.RmsFIdeal.τ).loc Cert.RmsFIdeal.main_arg1)) →
    ∃ (v0 : (c : Dev Cert.RmsFIdeal.nD) → Buf (Elt Ideal) ((c.tc : Thread Cert.RmsFIdeal.nD Cert.RmsFIdeal.τ).loc Cert.RmsFIdeal.main_v1)),
      θ_run (Cert.RmsFIdeal.defs (F := Ideal)) (onTc (τ := Cert.RmsFIdeal.τ) (Cert.RmsFIdeal.main (F := Ideal))) ⟨m, fun _ => 0, g⟩ (fun r => ∀ c : Dev Cert.RmsFIdeal.nD,
          r.2.mem ((c.tc : Thread Cert.RmsFIdeal.nD Cert.RmsFIdeal.τ).loc Cert.RmsFIdeal.main_v1) = v0 c
          ∧ r.2.mem ((c.tc : Thread Cert.RmsFIdeal.nD Cert.RmsFIdeal.τ).loc Cert.RmsFIdeal.main_arg0) = m ((c.tc : Thread Cert.RmsFIdeal.nD Cert.RmsFIdeal.τ).loc Cert.RmsFIdeal.main_arg0)
          ∧ r.2.mem ((c.tc : Thread Cert.RmsFIdeal.nD Cert.RmsFIdeal.τ).loc Cert.RmsFIdeal.main_arg1) = m ((c.tc : Thread Cert.RmsFIdeal.nD Cert.RmsFIdeal.τ).loc Cert.RmsFIdeal.main_arg1))
      ∧ θ_run (Cert.RmsFRefIdeal.defs (F := Ideal)) (onTc (τ := Cert.RmsFRefIdeal.τ) (Cert.RmsFRefIdeal.main (F := Ideal))) ⟨m', fun _ => 0, g'⟩ (fun r => ∀ c : Dev Cert.RmsFRefIdeal.nD,
          r.2.mem ((c.tc : Thread Cert.RmsFRefIdeal.nD Cert.RmsFRefIdeal.τ).loc Cert.RmsFRefIdeal.main_v13) = v0 c
          ∧ r.2.mem ((c.tc : Thread Cert.RmsFRefIdeal.nD Cert.RmsFRefIdeal.τ).loc Cert.RmsFRefIdeal.main_arg0) = m' ((c.tc : Thread Cert.RmsFRefIdeal.nD Cert.RmsFRefIdeal.τ).loc Cert.RmsFRefIdeal.main_arg0)
          ∧ r.2.mem ((c.tc : Thread Cert.RmsFRefIdeal.nD Cert.RmsFRefIdeal.τ).loc Cert.RmsFRefIdeal.main_arg1) = m' ((c.tc : Thread Cert.RmsFRefIdeal.nD Cert.RmsFRefIdeal.τ).loc Cert.RmsFRefIdeal.main_arg1))

def preserves_GnormF_GnormFIdeal : Prop :=
  True

def algebraic_GnormFIdeal_GnormFRefIdeal [hGnormFIdeal : Cert.GnormFIdeal.Facts] [hGnormFRefIdeal : Cert.GnormFRefIdeal.Facts] : Prop :=
  ∀ (m : (ℓ : Loc Cert.GnormFIdeal.nD Cert.GnormFIdeal.τ Cert.GnormFIdeal.sig) → Buf (Elt Ideal) ℓ) (g : Dev Cert.GnormFIdeal.nD → PrngReg)
    (m' : (ℓ : Loc Cert.GnormFRefIdeal.nD Cert.GnormFRefIdeal.τ Cert.GnormFRefIdeal.sig) → Buf (Elt Ideal) ℓ) (g' : Dev Cert.GnormFRefIdeal.nD → PrngReg), Pre_GnormFIdeal m →
    (∀ c : Dev Cert.GnormFIdeal.nD,
      m' ((c.tc : Thread Cert.GnormFRefIdeal.nD Cert.GnormFRefIdeal.τ).loc Cert.GnormFRefIdeal.main_arg0) = m ((c.tc : Thread Cert.GnormFIdeal.nD Cert.GnormFIdeal.τ).loc Cert.GnormFIdeal.main_arg0)
      ∧ m' ((c.tc : Thread Cert.GnormFRefIdeal.nD Cert.GnormFRefIdeal.τ).loc Cert.GnormFRefIdeal.main_arg1) = m ((c.tc : Thread Cert.GnormFIdeal.nD Cert.GnormFIdeal.τ).loc Cert.GnormFIdeal.main_arg1)
      ∧ m' ((c.tc : Thread Cert.GnormFRefIdeal.nD Cert.GnormFRefIdeal.τ).loc Cert.GnormFRefIdeal.main_arg2) = m ((c.tc : Thread Cert.GnormFIdeal.nD Cert.GnormFIdeal.τ).loc Cert.GnormFIdeal.main_arg2)) →
    ∃ (v0 : (c : Dev Cert.GnormFIdeal.nD) → Buf (Elt Ideal) ((c.tc : Thread Cert.GnormFIdeal.nD Cert.GnormFIdeal.τ).loc Cert.GnormFIdeal.main_v11)),
      θ_run (Cert.GnormFIdeal.defs (F := Ideal)) (onTc (τ := Cert.GnormFIdeal.τ) (Cert.GnormFIdeal.main (F := Ideal))) ⟨m, fun _ => 0, g⟩ (fun r => ∀ c : Dev Cert.GnormFIdeal.nD,
          r.2.mem ((c.tc : Thread Cert.GnormFIdeal.nD Cert.GnormFIdeal.τ).loc Cert.GnormFIdeal.main_v11) = v0 c
          ∧ r.2.mem ((c.tc : Thread Cert.GnormFIdeal.nD Cert.GnormFIdeal.τ).loc Cert.GnormFIdeal.main_arg0) = m ((c.tc : Thread Cert.GnormFIdeal.nD Cert.GnormFIdeal.τ).loc Cert.GnormFIdeal.main_arg0)
          ∧ r.2.mem ((c.tc : Thread Cert.GnormFIdeal.nD Cert.GnormFIdeal.τ).loc Cert.GnormFIdeal.main_arg1) = m ((c.tc : Thread Cert.GnormFIdeal.nD Cert.GnormFIdeal.τ).loc Cert.GnormFIdeal.main_arg1)
          ∧ r.2.mem ((c.tc : Thread Cert.GnormFIdeal.nD Cert.GnormFIdeal.τ).loc Cert.GnormFIdeal.main_arg2) = m ((c.tc : Thread Cert.GnormFIdeal.nD Cert.GnormFIdeal.τ).loc Cert.GnormFIdeal.main_arg2))
      ∧ θ_run (Cert.GnormFRefIdeal.defs (F := Ideal)) (onTc (τ := Cert.GnormFRefIdeal.τ) (Cert.GnormFRefIdeal.main (F := Ideal))) ⟨m', fun _ => 0, g'⟩ (fun r => ∀ c : Dev Cert.GnormFRefIdeal.nD,
          r.2.mem ((c.tc : Thread Cert.GnormFRefIdeal.nD Cert.GnormFRefIdeal.τ).loc Cert.GnormFRefIdeal.main_v23) = v0 c
          ∧ r.2.mem ((c.tc : Thread Cert.GnormFRefIdeal.nD Cert.GnormFRefIdeal.τ).loc Cert.GnormFRefIdeal.main_arg0) = m' ((c.tc : Thread Cert.GnormFRefIdeal.nD Cert.GnormFRefIdeal.τ).loc Cert.GnormFRefIdeal.main_arg0)
          ∧ r.2.mem ((c.tc : Thread Cert.GnormFRefIdeal.nD Cert.GnormFRefIdeal.τ).loc Cert.GnormFRefIdeal.main_arg1) = m' ((c.tc : Thread Cert.GnormFRefIdeal.nD Cert.GnormFRefIdeal.τ).loc Cert.GnormFRefIdeal.main_arg1)
          ∧ r.2.mem ((c.tc : Thread Cert.GnormFRefIdeal.nD Cert.GnormFRefIdeal.τ).loc Cert.GnormFRefIdeal.main_arg2) = m' ((c.tc : Thread Cert.GnormFRefIdeal.nD Cert.GnormFRefIdeal.τ).loc Cert.GnormFRefIdeal.main_arg2))

def Claim : Prop :=
  ∃ (hKernel : Cert.Kernel.Facts) (hKernelIdeal : Cert.KernelIdeal.Facts) (hReferenceIdeal : Cert.ReferenceIdeal.Facts) (hDownW : Cert.DownW.Facts) (hDownWIdeal : Cert.DownWIdeal.Facts) (hDownWRefIdeal : Cert.DownWRefIdeal.Facts) (hDownX : Cert.DownX.Facts) (hDownXIdeal : Cert.DownXIdeal.Facts) (hDownXRefIdeal : Cert.DownXRefIdeal.Facts) (hUpW : Cert.UpW.Facts) (hUpWIdeal : Cert.UpWIdeal.Facts) (hUpWRefIdeal : Cert.UpWRefIdeal.Facts) (hUpX : Cert.UpX.Facts) (hUpXIdeal : Cert.UpXIdeal.Facts) (hUpXRefIdeal : Cert.UpXRefIdeal.Facts) (hInW : Cert.InW.Facts) (hInWIdeal : Cert.InWIdeal.Facts) (hInWRefIdeal : Cert.InWRefIdeal.Facts) (hInX : Cert.InX.Facts) (hInXIdeal : Cert.InXIdeal.Facts) (hInXRefIdeal : Cert.InXRefIdeal.Facts) (hProjW : Cert.ProjW.Facts) (hProjWIdeal : Cert.ProjWIdeal.Facts) (hProjWRefIdeal : Cert.ProjWRefIdeal.Facts) (hProjX : Cert.ProjX.Facts) (hProjXIdeal : Cert.ProjXIdeal.Facts) (hProjXRefIdeal : Cert.ProjXRefIdeal.Facts) (hOutW : Cert.OutW.Facts) (hOutWIdeal : Cert.OutWIdeal.Facts) (hOutWRefIdeal : Cert.OutWRefIdeal.Facts) (hOutX : Cert.OutX.Facts) (hOutXIdeal : Cert.OutXIdeal.Facts) (hOutXRefIdeal : Cert.OutXRefIdeal.Facts) (hGluW : Cert.GluW.Facts) (hGluWIdeal : Cert.GluWIdeal.Facts) (hGluWRefIdeal : Cert.GluWRefIdeal.Facts) (hGluX : Cert.GluX.Facts) (hGluXIdeal : Cert.GluXIdeal.Facts) (hGluXRefIdeal : Cert.GluXRefIdeal.Facts) (hInA : Cert.InA.Facts) (hInAIdeal : Cert.InAIdeal.Facts) (hInARefIdeal : Cert.InARefIdeal.Facts) (hInB : Cert.InB.Facts) (hInBIdeal : Cert.InBIdeal.Facts) (hInBRefIdeal : Cert.InBRefIdeal.Facts) (hProjF : Cert.ProjF.Facts) (hProjFIdeal : Cert.ProjFIdeal.Facts) (hProjFRefIdeal : Cert.ProjFRefIdeal.Facts) (hGluF : Cert.GluF.Facts) (hGluFIdeal : Cert.GluFIdeal.Facts) (hGluFRefIdeal : Cert.GluFRefIdeal.Facts) (hOutF : Cert.OutF.Facts) (hOutFIdeal : Cert.OutFIdeal.Facts) (hOutFRefIdeal : Cert.OutFRefIdeal.Facts) (hUpF : Cert.UpF.Facts) (hUpFIdeal : Cert.UpFIdeal.Facts) (hUpFRefIdeal : Cert.UpFRefIdeal.Facts) (hDownF : Cert.DownF.Facts) (hDownFIdeal : Cert.DownFIdeal.Facts) (hDownFRefIdeal : Cert.DownFRefIdeal.Facts) (hSsdF : Cert.SsdF.Facts) (hSsdFIdeal : Cert.SsdFIdeal.Facts) (hSsdFRefIdeal : Cert.SsdFRefIdeal.Facts) (hMergeB : Cert.MergeB.Facts) (hMergeBIdeal : Cert.MergeBIdeal.Facts) (hMergeBRefIdeal : Cert.MergeBRefIdeal.Facts) (hMergeF : Cert.MergeF.Facts) (hMergeFIdeal : Cert.MergeFIdeal.Facts) (hMergeFRefIdeal : Cert.MergeFRefIdeal.Facts) (hStIn : Cert.StIn.Facts) (hStInIdeal : Cert.StInIdeal.Facts) (hStInRefIdeal : Cert.StInRefIdeal.Facts) (hStOut : Cert.StOut.Facts) (hStOutIdeal : Cert.StOutIdeal.Facts) (hStOutRefIdeal : Cert.StOutRefIdeal.Facts) (hStBack : Cert.StBack.Facts) (hStBackIdeal : Cert.StBackIdeal.Facts) (hStBackRefIdeal : Cert.StBackRefIdeal.Facts) (hRmsB : Cert.RmsB.Facts) (hRmsBIdeal : Cert.RmsBIdeal.Facts) (hRmsBRefIdeal : Cert.RmsBRefIdeal.Facts) (hGnormB : Cert.GnormB.Facts) (hGnormBIdeal : Cert.GnormBIdeal.Facts) (hGnormBRefIdeal : Cert.GnormBRefIdeal.Facts) (hRmsF : Cert.RmsF.Facts) (hRmsFIdeal : Cert.RmsFIdeal.Facts) (hRmsFRefIdeal : Cert.RmsFRefIdeal.Facts) (hGnormF : Cert.GnormF.Facts) (hGnormFIdeal : Cert.GnormFIdeal.Facts) (hGnormFRefIdeal : Cert.GnormFRefIdeal.Facts) (hPre_steps_decay : Cert.Pre_steps_decay.Facts) (hPre_steps_decay_forward : Cert.Pre_steps_decay_forward.Facts),
    quiescent_Kernel (hKernel := hKernel)
    ∧ quiescent_KernelIdeal (hKernelIdeal := hKernelIdeal)
    ∧ quiescent_KernelIdeal_pre_steps_decay (hKernelIdeal := hKernelIdeal) (hPre_steps_decay := hPre_steps_decay)
    ∧ quiescent_ReferenceIdeal (hReferenceIdeal := hReferenceIdeal)
    ∧ quiescent_ReferenceIdeal_pre_steps_decay (hReferenceIdeal := hReferenceIdeal) (hPre_steps_decay := hPre_steps_decay)
    ∧ quiescent_DownW (hDownW := hDownW)
    ∧ quiescent_DownWIdeal (hDownWIdeal := hDownWIdeal)
    ∧ quiescent_DownWRefIdeal (hDownWRefIdeal := hDownWRefIdeal)
    ∧ quiescent_DownX (hDownX := hDownX)
    ∧ quiescent_DownXIdeal (hDownXIdeal := hDownXIdeal)
    ∧ quiescent_DownXRefIdeal (hDownXRefIdeal := hDownXRefIdeal)
    ∧ quiescent_UpW (hUpW := hUpW)
    ∧ quiescent_UpWIdeal (hUpWIdeal := hUpWIdeal)
    ∧ quiescent_UpWRefIdeal (hUpWRefIdeal := hUpWRefIdeal)
    ∧ quiescent_UpX (hUpX := hUpX)
    ∧ quiescent_UpXIdeal (hUpXIdeal := hUpXIdeal)
    ∧ quiescent_UpXRefIdeal (hUpXRefIdeal := hUpXRefIdeal)
    ∧ quiescent_InW (hInW := hInW)
    ∧ quiescent_InWIdeal (hInWIdeal := hInWIdeal)
    ∧ quiescent_InWRefIdeal (hInWRefIdeal := hInWRefIdeal)
    ∧ quiescent_InX (hInX := hInX)
    ∧ quiescent_InXIdeal (hInXIdeal := hInXIdeal)
    ∧ quiescent_InXRefIdeal (hInXRefIdeal := hInXRefIdeal)
    ∧ quiescent_ProjW (hProjW := hProjW)
    ∧ quiescent_ProjWIdeal (hProjWIdeal := hProjWIdeal)
    ∧ quiescent_ProjWRefIdeal (hProjWRefIdeal := hProjWRefIdeal)
    ∧ quiescent_ProjX (hProjX := hProjX)
    ∧ quiescent_ProjXIdeal (hProjXIdeal := hProjXIdeal)
    ∧ quiescent_ProjXRefIdeal (hProjXRefIdeal := hProjXRefIdeal)
    ∧ quiescent_OutW (hOutW := hOutW)
    ∧ quiescent_OutWIdeal (hOutWIdeal := hOutWIdeal)
    ∧ quiescent_OutWRefIdeal (hOutWRefIdeal := hOutWRefIdeal)
    ∧ quiescent_OutX (hOutX := hOutX)
    ∧ quiescent_OutXIdeal (hOutXIdeal := hOutXIdeal)
    ∧ quiescent_OutXRefIdeal (hOutXRefIdeal := hOutXRefIdeal)
    ∧ quiescent_GluW (hGluW := hGluW)
    ∧ quiescent_GluWIdeal (hGluWIdeal := hGluWIdeal)
    ∧ quiescent_GluWRefIdeal (hGluWRefIdeal := hGluWRefIdeal)
    ∧ quiescent_GluX (hGluX := hGluX)
    ∧ quiescent_GluXIdeal (hGluXIdeal := hGluXIdeal)
    ∧ quiescent_GluXRefIdeal (hGluXRefIdeal := hGluXRefIdeal)
    ∧ quiescent_InA (hInA := hInA)
    ∧ quiescent_InAIdeal (hInAIdeal := hInAIdeal)
    ∧ quiescent_InARefIdeal (hInARefIdeal := hInARefIdeal)
    ∧ quiescent_InB (hInB := hInB)
    ∧ quiescent_InBIdeal (hInBIdeal := hInBIdeal)
    ∧ quiescent_InBRefIdeal (hInBRefIdeal := hInBRefIdeal)
    ∧ quiescent_ProjF (hProjF := hProjF)
    ∧ quiescent_ProjFIdeal (hProjFIdeal := hProjFIdeal)
    ∧ quiescent_ProjFRefIdeal (hProjFRefIdeal := hProjFRefIdeal)
    ∧ quiescent_GluF (hGluF := hGluF)
    ∧ quiescent_GluFIdeal (hGluFIdeal := hGluFIdeal)
    ∧ quiescent_GluFRefIdeal (hGluFRefIdeal := hGluFRefIdeal)
    ∧ quiescent_OutF (hOutF := hOutF)
    ∧ quiescent_OutFIdeal (hOutFIdeal := hOutFIdeal)
    ∧ quiescent_OutFRefIdeal (hOutFRefIdeal := hOutFRefIdeal)
    ∧ quiescent_UpF (hUpF := hUpF)
    ∧ quiescent_UpFIdeal (hUpFIdeal := hUpFIdeal)
    ∧ quiescent_UpFRefIdeal (hUpFRefIdeal := hUpFRefIdeal)
    ∧ quiescent_DownF (hDownF := hDownF)
    ∧ quiescent_DownFIdeal (hDownFIdeal := hDownFIdeal)
    ∧ quiescent_DownFRefIdeal (hDownFRefIdeal := hDownFRefIdeal)
    ∧ quiescent_SsdF (hSsdF := hSsdF)
    ∧ quiescent_SsdFIdeal (hSsdFIdeal := hSsdFIdeal)
    ∧ quiescent_SsdFIdeal_pre_steps_decay_forward (hSsdFIdeal := hSsdFIdeal) (hPre_steps_decay_forward := hPre_steps_decay_forward)
    ∧ quiescent_SsdFRefIdeal (hSsdFRefIdeal := hSsdFRefIdeal)
    ∧ quiescent_SsdFRefIdeal_pre_steps_decay_forward (hSsdFRefIdeal := hSsdFRefIdeal) (hPre_steps_decay_forward := hPre_steps_decay_forward)
    ∧ quiescent_MergeB (hMergeB := hMergeB)
    ∧ quiescent_MergeBIdeal (hMergeBIdeal := hMergeBIdeal)
    ∧ quiescent_MergeBRefIdeal (hMergeBRefIdeal := hMergeBRefIdeal)
    ∧ quiescent_MergeF (hMergeF := hMergeF)
    ∧ quiescent_MergeFIdeal (hMergeFIdeal := hMergeFIdeal)
    ∧ quiescent_MergeFRefIdeal (hMergeFRefIdeal := hMergeFRefIdeal)
    ∧ quiescent_StIn (hStIn := hStIn)
    ∧ quiescent_StInIdeal (hStInIdeal := hStInIdeal)
    ∧ quiescent_StInRefIdeal (hStInRefIdeal := hStInRefIdeal)
    ∧ quiescent_StOut (hStOut := hStOut)
    ∧ quiescent_StOutIdeal (hStOutIdeal := hStOutIdeal)
    ∧ quiescent_StOutRefIdeal (hStOutRefIdeal := hStOutRefIdeal)
    ∧ quiescent_StBack (hStBack := hStBack)
    ∧ quiescent_StBackIdeal (hStBackIdeal := hStBackIdeal)
    ∧ quiescent_StBackRefIdeal (hStBackRefIdeal := hStBackRefIdeal)
    ∧ quiescent_RmsB (hRmsB := hRmsB)
    ∧ quiescent_RmsBIdeal (hRmsBIdeal := hRmsBIdeal)
    ∧ quiescent_RmsBRefIdeal (hRmsBRefIdeal := hRmsBRefIdeal)
    ∧ quiescent_GnormB (hGnormB := hGnormB)
    ∧ quiescent_GnormBIdeal (hGnormBIdeal := hGnormBIdeal)
    ∧ quiescent_GnormBRefIdeal (hGnormBRefIdeal := hGnormBRefIdeal)
    ∧ quiescent_RmsF (hRmsF := hRmsF)
    ∧ quiescent_RmsFIdeal (hRmsFIdeal := hRmsFIdeal)
    ∧ quiescent_RmsFRefIdeal (hRmsFRefIdeal := hRmsFRefIdeal)
    ∧ quiescent_GnormF (hGnormF := hGnormF)
    ∧ quiescent_GnormFIdeal (hGnormFIdeal := hGnormFIdeal)
    ∧ quiescent_GnormFRefIdeal (hGnormFRefIdeal := hGnormFRefIdeal)
    ∧ preserves_Kernel_KernelIdeal
    ∧ algebraic_KernelIdeal_ReferenceIdeal_pre_steps_decay (hKernelIdeal := hKernelIdeal) (hReferenceIdeal := hReferenceIdeal) (hPre_steps_decay := hPre_steps_decay)
    ∧ preserves_DownW_DownWIdeal
    ∧ algebraic_DownWIdeal_DownWRefIdeal (hDownWIdeal := hDownWIdeal) (hDownWRefIdeal := hDownWRefIdeal)
    ∧ preserves_DownX_DownXIdeal
    ∧ algebraic_DownXIdeal_DownXRefIdeal (hDownXIdeal := hDownXIdeal) (hDownXRefIdeal := hDownXRefIdeal)
    ∧ preserves_UpW_UpWIdeal
    ∧ algebraic_UpWIdeal_UpWRefIdeal (hUpWIdeal := hUpWIdeal) (hUpWRefIdeal := hUpWRefIdeal)
    ∧ preserves_UpX_UpXIdeal
    ∧ algebraic_UpXIdeal_UpXRefIdeal (hUpXIdeal := hUpXIdeal) (hUpXRefIdeal := hUpXRefIdeal)
    ∧ preserves_InW_InWIdeal
    ∧ algebraic_InWIdeal_InWRefIdeal (hInWIdeal := hInWIdeal) (hInWRefIdeal := hInWRefIdeal)
    ∧ preserves_InX_InXIdeal
    ∧ algebraic_InXIdeal_InXRefIdeal (hInXIdeal := hInXIdeal) (hInXRefIdeal := hInXRefIdeal)
    ∧ preserves_ProjW_ProjWIdeal
    ∧ algebraic_ProjWIdeal_ProjWRefIdeal (hProjWIdeal := hProjWIdeal) (hProjWRefIdeal := hProjWRefIdeal)
    ∧ preserves_ProjX_ProjXIdeal
    ∧ algebraic_ProjXIdeal_ProjXRefIdeal (hProjXIdeal := hProjXIdeal) (hProjXRefIdeal := hProjXRefIdeal)
    ∧ preserves_OutW_OutWIdeal
    ∧ algebraic_OutWIdeal_OutWRefIdeal (hOutWIdeal := hOutWIdeal) (hOutWRefIdeal := hOutWRefIdeal)
    ∧ preserves_OutX_OutXIdeal
    ∧ algebraic_OutXIdeal_OutXRefIdeal (hOutXIdeal := hOutXIdeal) (hOutXRefIdeal := hOutXRefIdeal)
    ∧ preserves_GluW_GluWIdeal
    ∧ algebraic_GluWIdeal_GluWRefIdeal (hGluWIdeal := hGluWIdeal) (hGluWRefIdeal := hGluWRefIdeal)
    ∧ preserves_GluX_GluXIdeal
    ∧ algebraic_GluXIdeal_GluXRefIdeal (hGluXIdeal := hGluXIdeal) (hGluXRefIdeal := hGluXRefIdeal)
    ∧ preserves_InA_InAIdeal
    ∧ algebraic_InAIdeal_InARefIdeal (hInAIdeal := hInAIdeal) (hInARefIdeal := hInARefIdeal)
    ∧ preserves_InB_InBIdeal
    ∧ algebraic_InBIdeal_InBRefIdeal (hInBIdeal := hInBIdeal) (hInBRefIdeal := hInBRefIdeal)
    ∧ preserves_ProjF_ProjFIdeal
    ∧ algebraic_ProjFIdeal_ProjFRefIdeal (hProjFIdeal := hProjFIdeal) (hProjFRefIdeal := hProjFRefIdeal)
    ∧ preserves_GluF_GluFIdeal
    ∧ algebraic_GluFIdeal_GluFRefIdeal (hGluFIdeal := hGluFIdeal) (hGluFRefIdeal := hGluFRefIdeal)
    ∧ preserves_OutF_OutFIdeal
    ∧ algebraic_OutFIdeal_OutFRefIdeal (hOutFIdeal := hOutFIdeal) (hOutFRefIdeal := hOutFRefIdeal)
    ∧ preserves_UpF_UpFIdeal
    ∧ algebraic_UpFIdeal_UpFRefIdeal (hUpFIdeal := hUpFIdeal) (hUpFRefIdeal := hUpFRefIdeal)
    ∧ preserves_DownF_DownFIdeal
    ∧ algebraic_DownFIdeal_DownFRefIdeal (hDownFIdeal := hDownFIdeal) (hDownFRefIdeal := hDownFRefIdeal)
    ∧ preserves_SsdF_SsdFIdeal
    ∧ algebraic_SsdFIdeal_SsdFRefIdeal_pre_steps_decay_forward (hSsdFIdeal := hSsdFIdeal) (hSsdFRefIdeal := hSsdFRefIdeal) (hPre_steps_decay_forward := hPre_steps_decay_forward)
    ∧ preserves_MergeB_MergeBIdeal
    ∧ algebraic_MergeBIdeal_MergeBRefIdeal (hMergeBIdeal := hMergeBIdeal) (hMergeBRefIdeal := hMergeBRefIdeal)
    ∧ preserves_MergeF_MergeFIdeal
    ∧ algebraic_MergeFIdeal_MergeFRefIdeal (hMergeFIdeal := hMergeFIdeal) (hMergeFRefIdeal := hMergeFRefIdeal)
    ∧ preserves_StIn_StInIdeal
    ∧ algebraic_StInIdeal_StInRefIdeal (hStInIdeal := hStInIdeal) (hStInRefIdeal := hStInRefIdeal)
    ∧ preserves_StOut_StOutIdeal
    ∧ algebraic_StOutIdeal_StOutRefIdeal (hStOutIdeal := hStOutIdeal) (hStOutRefIdeal := hStOutRefIdeal)
    ∧ preserves_StBack_StBackIdeal
    ∧ algebraic_StBackIdeal_StBackRefIdeal (hStBackIdeal := hStBackIdeal) (hStBackRefIdeal := hStBackRefIdeal)
    ∧ preserves_RmsB_RmsBIdeal
    ∧ algebraic_RmsBIdeal_RmsBRefIdeal (hRmsBIdeal := hRmsBIdeal) (hRmsBRefIdeal := hRmsBRefIdeal)
    ∧ preserves_GnormB_GnormBIdeal
    ∧ algebraic_GnormBIdeal_GnormBRefIdeal (hGnormBIdeal := hGnormBIdeal) (hGnormBRefIdeal := hGnormBRefIdeal)
    ∧ preserves_RmsF_RmsFIdeal
    ∧ algebraic_RmsFIdeal_RmsFRefIdeal (hRmsFIdeal := hRmsFIdeal) (hRmsFRefIdeal := hRmsFRefIdeal)
    ∧ preserves_GnormF_GnormFIdeal
    ∧ algebraic_GnormFIdeal_GnormFRefIdeal (hGnormFIdeal := hGnormFIdeal) (hGnormFRefIdeal := hGnormFRefIdeal)
-- ==== Pre_steps_decay.lean ====
abbrev S4096x3072 : Shape := ⟨2, ![4096, 3072]⟩
abbrev S4096x1024 : Shape := ⟨2, ![4096, 1024]⟩
abbrev S4096x48 : Shape := ⟨2, ![4096, 48]⟩
abbrev S48 : Shape := ⟨1, ![48]⟩
abbrev S_ : Shape := ⟨0, ![]⟩

class Facts : Prop where
  bcast_S_S4096x48 : S_.BroadcastsInDim S4096x48 (![] : Fin 0 → Fin S4096x48.rank)
  reducesTo_S4096x48_S_d0_1 : S4096x48.ReducesTo [0, 1] S_
  h_S_ : 0 < S_.numel
  bcast_S_S48 : S_.BroadcastsInDim S48 (![] : Fin 0 → Fin S48.rank)
  reducesTo_S48_S_d0 : S48.ReducesTo [0] S_

variable [Facts]

def fn {F : FTy → Type} [FloatOps F] (main_arg0 : FVec F S4096x3072 .f32) (main_arg1 : FVec F S4096x1024 .f32) (main_arg2 : FVec F S4096x1024 .f32) (main_arg3 : FVec F S4096x48 .f32) (main_arg4 : FVec F S48 .f32) (main_arg5 : FVec F S48 .f32) (main_arg6 : FVec F S4096x3072 .f32) : IVec S_ 1 :=
  let main_cst : FVec F S_ .f32 := constant S_ .f32 0x00000000#32
  let main_v0 : FVec F S4096x48 .f32 := broadcastInDim S4096x48 ![] bcast_S_S4096x48 main_cst
  let main_v1 : IVec S4096x48 1 := cmpf .oge main_arg3 main_v0
  let main_c : IVec S_ 1 := constantI S_ 1 1#1
  let main_v2 : IVec S_ 1 := (fun x v => Host.reduce IntOp.andi x v reducesTo_S4096x48_S_d0_1 h_S_) main_v1 main_c
  let main_cst_0 : FVec F S_ .f32 := constant S_ .f32 0x7F800000#32
  let main_v3 : FVec F S4096x48 .f32 := broadcastInDim S4096x48 ![] bcast_S_S4096x48 main_cst_0
  let main_v4 : IVec S4096x48 1 := cmpf .olt main_arg3 main_v3
  let main_c_1 : IVec S_ 1 := constantI S_ 1 1#1
  let main_v5 : IVec S_ 1 := (fun x v => Host.reduce IntOp.andi x v reducesTo_S4096x48_S_d0_1 h_S_) main_v4 main_c_1
  let main_v6 : IVec S_ 1 := andi main_v2 main_v5
  let main_v7 : FVec F S48 .f32 := Host.absf main_arg4
  let main_cst_2 : FVec F S_ .f32 := constant S_ .f32 0x7F800000#32
  let main_v8 : FVec F S48 .f32 := broadcastInDim S48 ![] bcast_S_S48 main_cst_2
  let main_v9 : IVec S48 1 := cmpf .olt main_v7 main_v8
  let main_c_3 : IVec S_ 1 := constantI S_ 1 1#1
  let main_v10 : IVec S_ 1 := (fun x v => Host.reduce IntOp.andi x v reducesTo_S48_S_d0 h_S_) main_v9 main_c_3
  let main_v11 : IVec S_ 1 := andi main_v6 main_v10
  main_v11
-- ==== Pre_steps_decay_forward.lean ====
abbrev S4096x3072 : Shape := ⟨2, ![4096, 3072]⟩
abbrev S4096x1024 : Shape := ⟨2, ![4096, 1024]⟩
abbrev S4096x48 : Shape := ⟨2, ![4096, 48]⟩
abbrev S48 : Shape := ⟨1, ![48]⟩
abbrev S_ : Shape := ⟨0, ![]⟩

class Facts : Prop where
  bcast_S_S4096x48 : S_.BroadcastsInDim S4096x48 (![] : Fin 0 → Fin S4096x48.rank)
  reducesTo_S4096x48_S_d0_1 : S4096x48.ReducesTo [0, 1] S_
  h_S_ : 0 < S_.numel
  bcast_S_S48 : S_.BroadcastsInDim S48 (![] : Fin 0 → Fin S48.rank)
  reducesTo_S48_S_d0 : S48.ReducesTo [0] S_

variable [Facts]

def fn {F : FTy → Type} [FloatOps F] (main_arg0 : FVec F S4096x3072 .f32) (main_arg1 : FVec F S4096x1024 .f32) (main_arg2 : FVec F S4096x1024 .f32) (main_arg3 : FVec F S4096x48 .f32) (main_arg4 : FVec F S48 .f32) (main_arg5 : FVec F S48 .f32) : IVec S_ 1 :=
  let main_cst : FVec F S_ .f32 := constant S_ .f32 0x00000000#32
  let main_v0 : FVec F S4096x48 .f32 := broadcastInDim S4096x48 ![] bcast_S_S4096x48 main_cst
  let main_v1 : IVec S4096x48 1 := cmpf .oge main_arg3 main_v0
  let main_c : IVec S_ 1 := constantI S_ 1 1#1
  let main_v2 : IVec S_ 1 := (fun x v => Host.reduce IntOp.andi x v reducesTo_S4096x48_S_d0_1 h_S_) main_v1 main_c
  let main_cst_0 : FVec F S_ .f32 := constant S_ .f32 0x7F800000#32
  let main_v3 : FVec F S4096x48 .f32 := broadcastInDim S4096x48 ![] bcast_S_S4096x48 main_cst_0
  let main_v4 : IVec S4096x48 1 := cmpf .olt main_arg3 main_v3
  let main_c_1 : IVec S_ 1 := constantI S_ 1 1#1
  let main_v5 : IVec S_ 1 := (fun x v => Host.reduce IntOp.andi x v reducesTo_S4096x48_S_d0_1 h_S_) main_v4 main_c_1
  let main_v6 : IVec S_ 1 := andi main_v2 main_v5
  let main_v7 : FVec F S48 .f32 := Host.absf main_arg4
  let main_cst_2 : FVec F S_ .f32 := constant S_ .f32 0x7F800000#32
  let main_v8 : FVec F S48 .f32 := broadcastInDim S48 ![] bcast_S_S48 main_cst_2
  let main_v9 : IVec S48 1 := cmpf .olt main_v7 main_v8
  let main_c_3 : IVec S_ 1 := constantI S_ 1 1#1
  let main_v10 : IVec S_ 1 := (fun x v => Host.reduce IntOp.andi x v reducesTo_S48_S_d0 h_S_) main_v9 main_c_3
  let main_v11 : IVec S_ 1 := andi main_v6 main_v10
  main_v11
-- ==== Kernel.lean ====
abbrev S4096x3072 : Shape := ⟨2, ![4096, 3072]⟩
abbrev S4096x1024 : Shape := ⟨2, ![4096, 1024]⟩
abbrev S4096x48 : Shape := ⟨2, ![4096, 48]⟩
abbrev S48 : Shape := ⟨1, ![48]⟩
abbrev S4096x5120 : Shape := ⟨2, ![4096, 5120]⟩
abbrev S4096x48x64 : Shape := ⟨3, ![4096, 48, 64]⟩
abbrev S1x48 : Shape := ⟨2, ![1, 48]⟩
abbrev S16x256x8x6 : Shape := ⟨4, ![16, 256, 8, 6]⟩
abbrev S8x6x16x256 : Shape := ⟨4, ![8, 6, 16, 256]⟩
abbrev S_ : Shape := ⟨0, ![]⟩
abbrev S16x256x8x6x64 : Shape := ⟨5, ![16, 256, 8, 6, 64]⟩
abbrev S16x256x8x128 : Shape := ⟨4, ![16, 256, 8, 128]⟩
abbrev S8x6x16x1 : Shape := ⟨4, ![8, 6, 16, 1]⟩
abbrev S16x256x8x6x1 : Shape := ⟨5, ![16, 256, 8, 6, 1]⟩
abbrev S16x8x6x64x128 : Shape := ⟨5, ![16, 8, 6, 64, 128]⟩
abbrev S1x8x6x64x128 : Shape := ⟨5, ![1, 8, 6, 64, 128]⟩
abbrev S17x8x6x64x128 : Shape := ⟨5, ![17, 8, 6, 64, 128]⟩
abbrev S8x6x16 : Shape := ⟨3, ![8, 6, 16]⟩
abbrev S8x6x17 : Shape := ⟨3, ![8, 6, 17]⟩
abbrev S8x6x17x1 : Shape := ⟨4, ![8, 6, 17, 1]⟩
abbrev S8x6x17x17 : Shape := ⟨4, ![8, 6, 17, 17]⟩
abbrev S17x17 : Shape := ⟨2, ![17, 17]⟩
abbrev S8x6x64x128x17 : Shape := ⟨5, ![8, 6, 64, 128, 17]⟩
abbrev S16x8x128x6x64 : Shape := ⟨5, ![16, 8, 128, 6, 64]⟩
abbrev S16x8x128x384 : Shape := ⟨4, ![16, 8, 128, 384]⟩
abbrev S4096x8x6 : Shape := ⟨3, ![4096, 8, 6]⟩
abbrev S8x4096x6 : Shape := ⟨3, ![8, 4096, 6]⟩
abbrev S8x4096x8 : Shape := ⟨3, ![8, 4096, 8]⟩
abbrev S8x8x4096 : Shape := ⟨3, ![8, 8, 4096]⟩
abbrev S64x4096 : Shape := ⟨2, ![64, 4096]⟩
abbrev S128x4096 : Shape := ⟨2, ![128, 4096]⟩
abbrev S48x64 : Shape := ⟨2, ![48, 64]⟩
abbrev S3072 : Shape := ⟨1, ![3072]⟩
abbrev S1x3072 : Shape := ⟨2, ![1, 3072]⟩
abbrev S16x1x3072 : Shape := ⟨3, ![16, 1, 3072]⟩
abbrev S8x1x384 : Shape := ⟨3, ![8, 1, 384]⟩
abbrev S256x384 : Shape := ⟨2, ![256, 384]⟩
abbrev S256x128 : Shape := ⟨2, ![256, 128]⟩
abbrev S1x256x8 : Shape := ⟨3, ![1, 256, 8]⟩
abbrev S8x256 : Shape := ⟨2, ![8, 256]⟩
abbrev S1x384 : Shape := ⟨2, ![1, 384]⟩
abbrev S1x1x128x384 : Shape := ⟨4, ![1, 1, 128, 384]⟩
abbrev S1x1x384 : Shape := ⟨3, ![1, 1, 384]⟩
abbrev S128x384 : Shape := ⟨2, ![128, 384]⟩
abbrev S256x256 : Shape := ⟨2, ![256, 256]⟩
abbrev S256x8 : Shape := ⟨2, ![256, 8]⟩
abbrev S1x8 : Shape := ⟨2, ![1, 8]⟩
abbrev S256x1 : Shape := ⟨2, ![256, 1]⟩
abbrev S1x256 : Shape := ⟨2, ![1, 256]⟩
abbrev S256x64 : Shape := ⟨2, ![256, 64]⟩
abbrev S256 : Shape := ⟨1, ![256]⟩
abbrev S384 : Shape := ⟨1, ![384]⟩

abbrev nBuf : Space → Nat
  | .hbm => 109
  | .vmem => 38
  | .smem => 0
  | _ => 0

abbrev bufTy : (tb : Table) → Fin (tcTables nBuf tb) → BufTy
  | .hbm, ⟨0, _⟩ => ⟨S4096x3072, .f32⟩
  | .hbm, ⟨1, _⟩ => ⟨S4096x1024, .f32⟩
  | .hbm, ⟨2, _⟩ => ⟨S4096x1024, .f32⟩
  | .hbm, ⟨3, _⟩ => ⟨S4096x48, .f32⟩
  | .hbm, ⟨4, _⟩ => ⟨S48, .f32⟩
  | .hbm, ⟨5, _⟩ => ⟨S48, .f32⟩
  | .hbm, ⟨6, _⟩ => ⟨S4096x3072, .f32⟩
  | .hbm, ⟨7, _⟩ => ⟨S4096x5120, .f32⟩
  | .hbm, ⟨8, _⟩ => ⟨S4096x48x64, .f32⟩
  | .hbm, ⟨9, _⟩ => ⟨S4096x3072, .f32⟩
  | .hbm, ⟨10, _⟩ => ⟨S48, .f32⟩
  | .hbm, ⟨11, _⟩ => ⟨S48, .f32⟩
  | .hbm, ⟨12, _⟩ => ⟨S1x48, .f32⟩
  | .hbm, ⟨13, _⟩ => ⟨S4096x48, .f32⟩
  | .hbm, ⟨14, _⟩ => ⟨S4096x48, .f32⟩
  | .hbm, ⟨15, _⟩ => ⟨S16x256x8x6, .f32⟩
  | .hbm, ⟨16, _⟩ => ⟨S8x6x16x256, .f32⟩
  | .hbm, ⟨17, _⟩ => ⟨S_, .f32⟩
  | .hbm, ⟨18, _⟩ => ⟨S_, .f32⟩
  | .hbm, ⟨19, _⟩ => ⟨S8x6x16x256, .f32⟩
  | .hbm, ⟨20, _⟩ => ⟨S4096x3072, .f32⟩
  | .hbm, ⟨21, _⟩ => ⟨S16x256x8x6x64, .f32⟩
  | .hbm, ⟨22, _⟩ => ⟨S16x256x8x128, .f32⟩
  | .hbm, ⟨23, _⟩ => ⟨S8x6x16x1, .f32⟩
  | .hbm, ⟨24, _⟩ => ⟨S8x6x16x256, .f32⟩
  | .hbm, ⟨25, _⟩ => ⟨S8x6x16x256, .f32⟩
  | .hbm, ⟨26, _⟩ => ⟨S8x6x16x256, .f32⟩
  | .hbm, ⟨27, _⟩ => ⟨S16x256x8x6, .f32⟩
  | .hbm, ⟨28, _⟩ => ⟨S16x256x8x6x1, .f32⟩
  | .hbm, ⟨29, _⟩ => ⟨S16x256x8x6x64, .f32⟩
  | .hbm, ⟨30, _⟩ => ⟨S16x256x8x6x64, .f32⟩
  | .hbm, ⟨31, _⟩ => ⟨S16x8x6x64x128, .f32⟩
  | .hbm, ⟨32, _⟩ => ⟨S1x8x6x64x128, .f32⟩
  | .hbm, ⟨33, _⟩ => ⟨S_, .f32⟩
  | .hbm, ⟨34, _⟩ => ⟨S1x8x6x64x128, .f32⟩
  | .hbm, ⟨35, _⟩ => ⟨S17x8x6x64x128, .f32⟩
  | .hbm, ⟨36, _⟩ => ⟨S8x6x16x1, .f32⟩
  | .hbm, ⟨37, _⟩ => ⟨S8x6x16, .f32⟩
  | .hbm, ⟨38, _⟩ => ⟨S_, .i32⟩
  | .hbm, ⟨39, _⟩ => ⟨S_, .f32⟩
  | .hbm, ⟨40, _⟩ => ⟨S8x6x17, .f32⟩
  | .hbm, ⟨41, _⟩ => ⟨S8x6x17x1, .f32⟩
  | .hbm, ⟨42, _⟩ => ⟨S8x6x17x17, .f32⟩
  | .hbm, ⟨43, _⟩ => ⟨S_, .i1⟩
  | .hbm, ⟨44, _⟩ => ⟨S17x17, .i1⟩
  | .hbm, ⟨45, _⟩ => ⟨S17x17, .i32⟩
  | .hbm, ⟨46, _⟩ => ⟨S_, .i32⟩
  | .hbm, ⟨47, _⟩ => ⟨S17x17, .i32⟩
  | .hbm, ⟨48, _⟩ => ⟨S17x17, .i32⟩
  | .hbm, ⟨49, _⟩ => ⟨S17x17, .i32⟩
  | .hbm, ⟨50, _⟩ => ⟨S17x17, .i1⟩
  | .hbm, ⟨51, _⟩ => ⟨S_, .i1⟩
  | .hbm, ⟨52, _⟩ => ⟨S17x17, .i1⟩
  | .hbm, ⟨53, _⟩ => ⟨S17x17, .i1⟩
  | .hbm, ⟨54, _⟩ => ⟨S_, .f32⟩
  | .hbm, ⟨55, _⟩ => ⟨S_, .f32⟩
  | .hbm, ⟨56, _⟩ => ⟨S8x6x17x17, .i1⟩
  | .hbm, ⟨57, _⟩ => ⟨S8x6x17x17, .f32⟩
  | .hbm, ⟨58, _⟩ => ⟨S8x6x17x17, .f32⟩
  | .hbm, ⟨59, _⟩ => ⟨S_, .f32⟩
  | .hbm, ⟨60, _⟩ => ⟨S_, .f32⟩
  | .hbm, ⟨61, _⟩ => ⟨S8x6x17x17, .f32⟩
  | .hbm, ⟨62, _⟩ => ⟨S_, .i1⟩
  | .hbm, ⟨63, _⟩ => ⟨S17x17, .i1⟩
  | .hbm, ⟨64, _⟩ => ⟨S17x17, .i32⟩
  | .hbm, ⟨65, _⟩ => ⟨S_, .i32⟩
  | .hbm, ⟨66, _⟩ => ⟨S17x17, .i32⟩
  | .hbm, ⟨67, _⟩ => ⟨S17x17, .i32⟩
  | .hbm, ⟨68, _⟩ => ⟨S17x17, .i32⟩
  | .hbm, ⟨69, _⟩ => ⟨S17x17, .i1⟩
  | .hbm, ⟨70, _⟩ => ⟨S_, .i1⟩
  | .hbm, ⟨71, _⟩ => ⟨S17x17, .i1⟩
  | .hbm, ⟨72, _⟩ => ⟨S17x17, .i1⟩
  | .hbm, ⟨73, _⟩ => ⟨S_, .f32⟩
  | .hbm, ⟨74, _⟩ => ⟨S_, .f32⟩
  | .hbm, ⟨75, _⟩ => ⟨S8x6x17x17, .i1⟩
  | .hbm, ⟨76, _⟩ => ⟨S8x6x17x17, .f32⟩
  | .hbm, ⟨77, _⟩ => ⟨S8x6x17x17, .f32⟩
  | .hbm, ⟨78, _⟩ => ⟨S8x6x17x17, .f32⟩
  | .hbm, ⟨79, _⟩ => ⟨S8x6x64x128x17, .f32⟩
  | .hbm, ⟨80, _⟩ => ⟨S17x8x6x64x128, .f32⟩
  | .hbm, ⟨81, _⟩ => ⟨S16x8x6x64x128, .f32⟩
  | .hbm, ⟨82, _⟩ => ⟨S16x8x128x6x64, .f32⟩
  | .hbm, ⟨83, _⟩ => ⟨S16x8x128x384, .f32⟩
  | .hbm, ⟨84, _⟩ => ⟨S16x256x8x6, .f32⟩
  | .hbm, ⟨85, _⟩ => ⟨S4096x48, .f32⟩
  | .hbm, ⟨86, _⟩ => ⟨S4096x8x6, .f32⟩
  | .hbm, ⟨87, _⟩ => ⟨S8x4096x6, .f32⟩
  | .hbm, ⟨88, _⟩ => ⟨S_, .i32⟩
  | .hbm, ⟨89, _⟩ => ⟨S_, .f32⟩
  | .hbm, ⟨90, _⟩ => ⟨S8x4096x8, .f32⟩
  | .hbm, ⟨91, _⟩ => ⟨S8x8x4096, .f32⟩
  | .hbm, ⟨92, _⟩ => ⟨S64x4096, .f32⟩
  | .hbm, ⟨93, _⟩ => ⟨S_, .i32⟩
  | .hbm, ⟨94, _⟩ => ⟨S_, .f32⟩
  | .hbm, ⟨95, _⟩ => ⟨S128x4096, .f32⟩
  | .hbm, ⟨96, _⟩ => ⟨S4096x48x64, .f32⟩
  | .hbm, ⟨97, _⟩ => ⟨S4096x3072, .f32⟩
  | .hbm, ⟨98, _⟩ => ⟨S48x64, .f32⟩
  | .hbm, ⟨99, _⟩ => ⟨S3072, .f32⟩
  | .hbm, ⟨100, _⟩ => ⟨S1x3072, .f32⟩
  | .hbm, ⟨101, _⟩ => ⟨S4096x3072, .f32⟩
  | .hbm, ⟨102, _⟩ => ⟨S4096x1024, .f32⟩
  | .hbm, ⟨103, _⟩ => ⟨S4096x1024, .f32⟩
  | .hbm, ⟨104, _⟩ => ⟨S4096x3072, .f32⟩
  | .hbm, ⟨105, _⟩ => ⟨S4096x3072, .f32⟩
  | .hbm, ⟨106, _⟩ => ⟨S16x1x3072, .f32⟩
  | .hbm, ⟨107, _⟩ => ⟨S8x4096x8, .f32⟩
  | .hbm, ⟨108, _⟩ => ⟨S8x1x384, .f32⟩
  | .local _ .vmem, ⟨0, _⟩ => ⟨S256x384, .f32⟩
  | .local _ .vmem, ⟨1, _⟩ => ⟨S256x384, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x256x8, .f32⟩
  | .local _ .vmem, ⟨7, _⟩ => ⟨S1x256x8, .f32⟩
  | .local _ .vmem, ⟨8, _⟩ => ⟨S8x256, .f32⟩
  | .local _ .vmem, ⟨9, _⟩ => ⟨S8x256, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | .local _ .vmem, ⟨14, _⟩ => ⟨S1x384, .f32⟩
  | .local _ .vmem, ⟨15, _⟩ => ⟨S1x384, .f32⟩
  | .local _ .vmem, ⟨16, _⟩ => ⟨S1x1x128x384, .f32⟩
  | .local _ .vmem, ⟨17, _⟩ => ⟨S1x1x128x384, .f32⟩
  | .local _ .vmem, ⟨18, _⟩ => ⟨S256x384, .f32⟩
  | .local _ .vmem, ⟨19, _⟩ => ⟨S256x384, .f32⟩
  | .local _ .vmem, ⟨20, _⟩ => ⟨S256x384, .f32⟩
  | .local _ .vmem, ⟨21, _⟩ => ⟨S256x384, .f32⟩
  | .local _ .vmem, ⟨22, _⟩ => ⟨S256x128, .f32⟩
  | .local _ .vmem, ⟨23, _⟩ => ⟨S256x128, .f32⟩
  | .local _ .vmem, ⟨24, _⟩ => ⟨S256x128, .f32⟩
  | .local _ .vmem, ⟨25, _⟩ => ⟨S256x128, .f32⟩
  | .local _ .vmem, ⟨26, _⟩ => ⟨S256x384, .f32⟩
  | .local _ .vmem, ⟨27, _⟩ => ⟨S256x384, .f32⟩
  | .local _ .vmem, ⟨28, _⟩ => ⟨S256x384, .f32⟩
  | .local _ .vmem, ⟨29, _⟩ => ⟨S256x384, .f32⟩
  | .local _ .vmem, ⟨30, _⟩ => ⟨S1x1x384, .f32⟩
  | .local _ .vmem, ⟨31, _⟩ => ⟨S1x1x384, .f32⟩
  | .local _ .vmem, ⟨32, _⟩ => ⟨S1x256x8, .f32⟩
  | .local _ .vmem, ⟨33, _⟩ => ⟨S1x256x8, .f32⟩
  | .local _ .vmem, ⟨34, _⟩ => ⟨S1x1x384, .f32⟩
  | .local _ .vmem, ⟨35, _⟩ => ⟨S1x1x384, .f32⟩
  | .local _ .vmem, ⟨36, _⟩ => ⟨S128x384, .f32⟩
  | .local _ .vmem, ⟨37, _⟩ => ⟨S256x384, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_call0_cst : Ref sig .tc := ⟨.hbm, 17, rfl⟩
abbrev main_call0_call0_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c : Ref sig .tc := ⟨.hbm, 38, rfl⟩
abbrev main_call1_v0 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_0 : Ref sig .tc := ⟨.hbm, 43, rfl⟩
abbrev main_v31 : Ref sig .tc := ⟨.hbm, 44, rfl⟩
abbrev main_call2_v0 : Ref sig .tc := ⟨.hbm, 45, rfl⟩
abbrev main_call2_c : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_c_0 : Ref sig .tc := ⟨.hbm, 51, rfl⟩
abbrev main_call2_v5 : Ref sig .tc := ⟨.hbm, 52, rfl⟩
abbrev main_v32 : Ref sig .tc := ⟨.hbm, 53, rfl⟩
abbrev main_cst_1 : Ref sig .tc := ⟨.hbm, 54, rfl⟩
abbrev main_call3_v0 : Ref sig .tc := ⟨.hbm, 55, rfl⟩
abbrev main_call3_v1 : Ref sig .tc := ⟨.hbm, 56, rfl⟩
abbrev main_call3_v2 : Ref sig .tc := ⟨.hbm, 57, rfl⟩
abbrev main_v33 : Ref sig .tc := ⟨.hbm, 58, rfl⟩
abbrev main_call4_call0_cst : Ref sig .tc := ⟨.hbm, 59, rfl⟩
abbrev main_call4_call0_v0 : Ref sig .tc := ⟨.hbm, 60, rfl⟩
abbrev main_v34 : Ref sig .tc := ⟨.hbm, 61, rfl⟩
abbrev main_c_2 : Ref sig .tc := ⟨.hbm, 62, rfl⟩
abbrev main_v35 : Ref sig .tc := ⟨.hbm, 63, rfl⟩
abbrev main_call5_v0 : Ref sig .tc := ⟨.hbm, 64, rfl⟩
abbrev main_call5_c : Ref sig .tc := ⟨.hbm, 65, rfl⟩
abbrev main_call5_v1 : Ref sig .tc := ⟨.hbm, 66, rfl⟩
abbrev main_call5_v2 : Ref sig .tc := ⟨.hbm, 67, rfl⟩
abbrev main_call5_v3 : Ref sig .tc := ⟨.hbm, 68, rfl⟩
abbrev main_call5_v4 : Ref sig .tc := ⟨.hbm, 69, rfl⟩
abbrev main_call5_c_0 : Ref sig .tc := ⟨.hbm, 70, rfl⟩
abbrev main_call5_v5 : Ref sig .tc := ⟨.hbm, 71, rfl⟩
abbrev main_v36 : Ref sig .tc := ⟨.hbm, 72, rfl⟩
abbrev main_cst_3 : Ref sig .tc := ⟨.hbm, 73, rfl⟩
abbrev main_call6_v0 : Ref sig .tc := ⟨.hbm, 74, rfl⟩
abbrev main_call6_v1 : Ref sig .tc := ⟨.hbm, 75, rfl⟩
abbrev main_call6_v2 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_c_4 : Ref sig .tc := ⟨.hbm, 88, rfl⟩
abbrev main_call7_v0 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_c_5 : Ref sig .tc := ⟨.hbm, 93, rfl⟩
abbrev main_call8_v0 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57_0 : Ref sig .tc := ⟨.hbm, 101, rfl⟩
abbrev main_v57_1 : Ref sig .tc := ⟨.hbm, 102, rfl⟩
abbrev main_v57_2 : Ref sig .tc := ⟨.hbm, 103, rfl⟩
abbrev main_v57_3 : Ref sig .tc := ⟨.hbm, 104, rfl⟩
abbrev main_v57_4 : Ref sig .tc := ⟨.hbm, 105, rfl⟩
abbrev main_v57_5 : Ref sig .tc := ⟨.hbm, 106, rfl⟩
abbrev main_v57_6 : Ref sig .tc := ⟨.hbm, 107, rfl⟩
abbrev main_v57_7 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_scratch0 : Ref sig .tc := ⟨.vmem, 36, rfl⟩
abbrev cc0_scratch1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c24_i32 : BitVec 32 := 24#32
  let v1 : BitVec 32 := Scalar.addi c24_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c32_i32 : BitVec 32 := 32#32
  let v1 : BitVec 32 := Scalar.addi c32_i32 arg0
  let c0_i32 : BitVec 32 := 0#32
  ![v0.toNat, v1.toNat]

def cc0_transform_3 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_4 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_6 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  ![v0.toNat, arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_10 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_11 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_12 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_13 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_14 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_15 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![v0.toNat, c0_i32.toNat, arg0.toNat]

def cc0_transform_16 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x128x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x384 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S256x384 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x384 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x8 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1x384 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== ReferenceIdeal.lean ====
abbrev S4096x3072 : Shape := ⟨2, ![4096, 3072]⟩
abbrev S4096x1024 : Shape := ⟨2, ![4096, 1024]⟩
abbrev S4096x48 : Shape := ⟨2, ![4096, 48]⟩
abbrev S48 : Shape := ⟨1, ![48]⟩
abbrev S1x48 : Shape := ⟨2, ![1, 48]⟩
abbrev S16x256x8x6 : Shape := ⟨4, ![16, 256, 8, 6]⟩
abbrev S8x6x16x256 : Shape := ⟨4, ![8, 6, 16, 256]⟩
abbrev S4096x48x64 : Shape := ⟨3, ![4096, 48, 64]⟩
abbrev S48x64 : Shape := ⟨2, ![48, 64]⟩
abbrev S3072 : Shape := ⟨1, ![3072]⟩
abbrev S16x256x8x6x64 : Shape := ⟨5, ![16, 256, 8, 6, 64]⟩
abbrev S16x256x8x128 : Shape := ⟨4, ![16, 256, 8, 128]⟩
abbrev S_ : Shape := ⟨0, ![]⟩
abbrev S8x6x16x256x1 : Shape := ⟨5, ![8, 6, 16, 256, 1]⟩
abbrev S8x6x16x256x256 : Shape := ⟨5, ![8, 6, 16, 256, 256]⟩
abbrev S256x256 : Shape := ⟨2, ![256, 256]⟩
abbrev S8x16x256x256 : Shape := ⟨4, ![8, 16, 256, 256]⟩
abbrev S8x1x16x256x256 : Shape := ⟨5, ![8, 1, 16, 256, 256]⟩
abbrev S16x8x6x64x256 : Shape := ⟨5, ![16, 8, 6, 64, 256]⟩
abbrev S8x6x16x1 : Shape := ⟨4, ![8, 6, 16, 1]⟩
abbrev S16x256x8x6x1 : Shape := ⟨5, ![16, 256, 8, 6, 1]⟩
abbrev S16x8x6x64x128 : Shape := ⟨5, ![16, 8, 6, 64, 128]⟩
abbrev S1x8x6x64x128 : Shape := ⟨5, ![1, 8, 6, 64, 128]⟩
abbrev S17x8x6x64x128 : Shape := ⟨5, ![17, 8, 6, 64, 128]⟩
abbrev S8x6x16 : Shape := ⟨3, ![8, 6, 16]⟩
abbrev S8x6x17 : Shape := ⟨3, ![8, 6, 17]⟩
abbrev S8x6x17x1 : Shape := ⟨4, ![8, 6, 17, 1]⟩
abbrev S8x6x17x17 : Shape := ⟨4, ![8, 6, 17, 17]⟩
abbrev S17x17 : Shape := ⟨2, ![17, 17]⟩
abbrev S8x6x64x128x17 : Shape := ⟨5, ![8, 6, 64, 128, 17]⟩
abbrev S1x3072 : Shape := ⟨2, ![1, 3072]⟩
abbrev S16x8x256x128 : Shape := ⟨4, ![16, 8, 256, 128]⟩
abbrev S16x8x128x256 : Shape := ⟨4, ![16, 8, 128, 256]⟩
abbrev S16x8x6x256x256 : Shape := ⟨5, ![16, 8, 6, 256, 256]⟩
abbrev S8x16x256x128 : Shape := ⟨4, ![8, 16, 256, 128]⟩
abbrev S8x1x384 : Shape := ⟨3, ![8, 1, 384]⟩

abbrev nBuf : Space → Nat
  | .hbm => 198
  | .vmem => 0
  | .smem => 0
  | _ => 0

abbrev hbmTy0_0 (i : Nat) : BufTy := match i % 128 with
  | 0 => ⟨S4096x3072, .f32⟩
  | 1 => ⟨S4096x1024, .f32⟩
  | 2 => ⟨S4096x1024, .f32⟩
  | 3 => ⟨S4096x48, .f32⟩
  | 4 => ⟨S48, .f32⟩
  | 5 => ⟨S48, .f32⟩
  | 6 => ⟨S4096x3072, .f32⟩
  | 7 => ⟨S48, .f32⟩
  | 8 => ⟨S48, .f32⟩
  | 9 => ⟨S1x48, .f32⟩
  | 10 => ⟨S4096x48, .f32⟩
  | 11 => ⟨S4096x48, .f32⟩
  | 12 => ⟨S16x256x8x6, .f32⟩
  | 13 => ⟨S8x6x16x256, .f32⟩
  | 14 => ⟨S4096x48x64, .f32⟩
  | 15 => ⟨S4096x3072, .f32⟩
  | 16 => ⟨S48x64, .f32⟩
  | 17 => ⟨S3072, .f32⟩
  | 18 => ⟨S4096x3072, .f32⟩
  | 19 => ⟨S16x256x8x6x64, .f32⟩
  | 20 => ⟨S16x256x8x128, .f32⟩
  | 21 => ⟨S16x256x8x128, .f32⟩
  | 22 => ⟨S_, .f32⟩
  | 23 => ⟨S_, .f32⟩
  | 24 => ⟨S8x6x16x256, .f32⟩
  | 25 => ⟨S8x6x16x256x1, .f32⟩
  | 26 => ⟨S8x6x16x256x256, .f32⟩
  | 27 => ⟨S_, .i1⟩
  | 28 => ⟨S256x256, .i1⟩
  | 29 => ⟨S256x256, .i32⟩
  | 30 => ⟨S_, .i32⟩
  | 31 => ⟨S256x256, .i32⟩
  | 32 => ⟨S256x256, .i32⟩
  | 33 => ⟨S256x256, .i32⟩
  | 34 => ⟨S256x256, .i1⟩
  | 35 => ⟨S_, .i1⟩
  | 36 => ⟨S256x256, .i1⟩
  | 37 => ⟨S256x256, .i1⟩
  | 38 => ⟨S_, .f32⟩
  | 39 => ⟨S_, .f32⟩
  | 40 => ⟨S8x6x16x256x256, .i1⟩
  | 41 => ⟨S8x6x16x256x256, .f32⟩
  | 42 => ⟨S8x6x16x256x256, .f32⟩
  | 43 => ⟨S_, .f32⟩
  | 44 => ⟨S_, .f32⟩
  | 45 => ⟨S8x6x16x256x256, .f32⟩
  | 46 => ⟨S_, .i1⟩
  | 47 => ⟨S256x256, .i1⟩
  | 48 => ⟨S256x256, .i32⟩
  | 49 => ⟨S_, .i32⟩
  | 50 => ⟨S256x256, .i32⟩
  | 51 => ⟨S256x256, .i32⟩
  | 52 => ⟨S256x256, .i32⟩
  | 53 => ⟨S256x256, .i1⟩
  | 54 => ⟨S_, .i1⟩
  | 55 => ⟨S256x256, .i1⟩
  | 56 => ⟨S256x256, .i1⟩
  | 57 => ⟨S_, .f32⟩
  | 58 => ⟨S_, .f32⟩
  | 59 => ⟨S8x6x16x256x256, .i1⟩
  | 60 => ⟨S8x6x16x256x256, .f32⟩
  | 61 => ⟨S8x6x16x256x256, .f32⟩
  | 62 => ⟨S8x6x16x256x256, .f32⟩
  | 63 => ⟨S8x16x256x256, .f32⟩
  | 64 => ⟨S8x1x16x256x256, .f32⟩
  | 65 => ⟨S8x6x16x256x256, .f32⟩
  | 66 => ⟨S8x6x16x256x256, .f32⟩
  | 67 => ⟨S16x8x6x64x256, .f32⟩
  | 68 => ⟨S16x256x8x6x64, .f32⟩
  | 69 => ⟨S8x6x16x1, .f32⟩
  | 70 => ⟨S8x6x16x256, .f32⟩
  | 71 => ⟨S8x6x16x256, .f32⟩
  | 72 => ⟨S8x6x16x256, .f32⟩
  | 73 => ⟨S16x256x8x6, .f32⟩
  | 74 => ⟨S16x256x8x6x1, .f32⟩
  | 75 => ⟨S16x256x8x6x64, .f32⟩
  | 76 => ⟨S16x256x8x6x64, .f32⟩
  | 77 => ⟨S16x8x6x64x128, .f32⟩
  | 78 => ⟨S1x8x6x64x128, .f32⟩
  | 79 => ⟨S_, .f32⟩
  | 80 => ⟨S1x8x6x64x128, .f32⟩
  | 81 => ⟨S17x8x6x64x128, .f32⟩
  | 82 => ⟨S_, .f32⟩
  | 83 => ⟨S1x8x6x64x128, .f32⟩
  | 84 => ⟨S8x6x16x1, .f32⟩
  | 85 => ⟨S8x6x16, .f32⟩
  | 86 => ⟨S_, .i32⟩
  | 87 => ⟨S_, .f32⟩
  | 88 => ⟨S8x6x17, .f32⟩
  | 89 => ⟨S8x6x17x1, .f32⟩
  | 90 => ⟨S8x6x17x17, .f32⟩
  | 91 => ⟨S_, .i1⟩
  | 92 => ⟨S17x17, .i1⟩
  | 93 => ⟨S17x17, .i32⟩
  | 94 => ⟨S_, .i32⟩
  | 95 => ⟨S17x17, .i32⟩
  | 96 => ⟨S17x17, .i32⟩
  | 97 => ⟨S17x17, .i32⟩
  | 98 => ⟨S17x17, .i1⟩
  | 99 => ⟨S_, .i1⟩
  | 100 => ⟨S17x17, .i1⟩
  | 101 => ⟨S17x17, .i1⟩
  | 102 => ⟨S_, .f32⟩
  | 103 => ⟨S_, .f32⟩
  | 104 => ⟨S8x6x17x17, .i1⟩
  | 105 => ⟨S8x6x17x17, .f32⟩
  | 106 => ⟨S8x6x17x17, .f32⟩
  | 107 => ⟨S_, .f32⟩
  | 108 => ⟨S_, .f32⟩
  | 109 => ⟨S8x6x17x17, .f32⟩
  | 110 => ⟨S_, .i1⟩
  | 111 => ⟨S17x17, .i1⟩
  | 112 => ⟨S17x17, .i32⟩
  | 113 => ⟨S_, .i32⟩
  | 114 => ⟨S17x17, .i32⟩
  | 115 => ⟨S17x17, .i32⟩
  | 116 => ⟨S17x17, .i32⟩
  | 117 => ⟨S17x17, .i1⟩
  | 118 => ⟨S_, .i1⟩
  | 119 => ⟨S17x17, .i1⟩
  | 120 => ⟨S17x17, .i1⟩
  | 121 => ⟨S_, .f32⟩
  | 122 => ⟨S_, .f32⟩
  | 123 => ⟨S8x6x17x17, .i1⟩
  | 124 => ⟨S8x6x17x17, .f32⟩
  | 125 => ⟨S8x6x17x17, .f32⟩
  | 126 => ⟨S8x6x17x17, .f32⟩
  | 127 => ⟨S8x6x64x128x17, .f32⟩
  | _ => ⟨S4096x3072, .f32⟩

abbrev hbmTy0_1 (i : Nat) : BufTy := match i % 128 with
  | 0 => ⟨S17x8x6x64x128, .f32⟩
  | 1 => ⟨S16x8x6x64x128, .f32⟩
  | 2 => ⟨S16x8x6x64x256, .f32⟩
  | 3 => ⟨S16x256x8x6x64, .f32⟩
  | 4 => ⟨S8x6x16x256, .f32⟩
  | 5 => ⟨S16x256x8x6, .f32⟩
  | 6 => ⟨S16x256x8x6x1, .f32⟩
  | 7 => ⟨S16x256x8x6x64, .f32⟩
  | 8 => ⟨S16x256x8x6x64, .f32⟩
  | 9 => ⟨S16x256x8x6x64, .f32⟩
  | 10 => ⟨S4096x3072, .f32⟩
  | 11 => ⟨S1x3072, .f32⟩
  | 12 => ⟨S4096x3072, .f32⟩
  | 13 => ⟨S4096x3072, .f32⟩
  | 14 => ⟨S4096x3072, .f32⟩
  | 15 => ⟨S4096x3072, .f32⟩
  | 16 => ⟨S4096x3072, .f32⟩
  | 17 => ⟨S4096x3072, .f32⟩
  | 18 => ⟨S4096x3072, .f32⟩
  | 19 => ⟨S4096x3072, .f32⟩
  | 20 => ⟨S_, .f32⟩
  | 21 => ⟨S3072, .f32⟩
  | 22 => ⟨S1x3072, .f32⟩
  | 23 => ⟨S_, .f32⟩
  | 24 => ⟨S3072, .f32⟩
  | 25 => ⟨S16x256x8x6x64, .f32⟩
  | 26 => ⟨S16x256x8x6x64, .f32⟩
  | 27 => ⟨S16x256x8x6x64, .f32⟩
  | 28 => ⟨S16x8x6x64x256, .f32⟩
  | 29 => ⟨S16x8x256x128, .f32⟩
  | 30 => ⟨S16x256x8x128, .f32⟩
  | 31 => ⟨S16x8x6x64x128, .f32⟩
  | 32 => ⟨S_, .f32⟩
  | 33 => ⟨S17x8x6x64x128, .f32⟩
  | 34 => ⟨S8x6x64x128x17, .f32⟩
  | 35 => ⟨S8x6x64x128x17, .f32⟩
  | 36 => ⟨S17x8x6x64x128, .f32⟩
  | 37 => ⟨S1x8x6x64x128, .f32⟩
  | 38 => ⟨S16x8x6x64x128, .f32⟩
  | 39 => ⟨S16x8x128x256, .f32⟩
  | 40 => ⟨S16x256x8x128, .f32⟩
  | 41 => ⟨S16x8x6x64x256, .f32⟩
  | 42 => ⟨S16x256x8x6x64, .f32⟩
  | 43 => ⟨S16x256x8x6x64, .f32⟩
  | 44 => ⟨S16x256x8x6x64, .f32⟩
  | 45 => ⟨S16x8x6x64x256, .f32⟩
  | 46 => ⟨S16x8x6x256x256, .f32⟩
  | 47 => ⟨S8x6x16x256x256, .f32⟩
  | 48 => ⟨S16x8x6x64x256, .f32⟩
  | 49 => ⟨S16x256x8x6x64, .f32⟩
  | 50 => ⟨S16x256x8x6x64, .f32⟩
  | 51 => ⟨S8x6x16x256x256, .f32⟩
  | 52 => ⟨S_, .f32⟩
  | 53 => ⟨S8x16x256x256, .f32⟩
  | 54 => ⟨S8x1x16x256x256, .f32⟩
  | 55 => ⟨S_, .f32⟩
  | 56 => ⟨S8x16x256x256, .f32⟩
  | 57 => ⟨S8x16x256x128, .f32⟩
  | 58 => ⟨S16x256x8x128, .f32⟩
  | 59 => ⟨S16x256x8x128, .f32⟩
  | 60 => ⟨S8x16x256x128, .f32⟩
  | 61 => ⟨S16x256x8x128, .f32⟩
  | 62 => ⟨S16x256x8x128, .f32⟩
  | 63 => ⟨S4096x1024, .f32⟩
  | 64 => ⟨S4096x1024, .f32⟩
  | 65 => ⟨S4096x3072, .f32⟩
  | 66 => ⟨S4096x3072, .f32⟩
  | 67 => ⟨S4096x3072, .f32⟩
  | 68 => ⟨S4096x3072, .f32⟩
  | 69 => ⟨S8x1x384, .f32⟩
  | _ => ⟨S4096x3072, .f32⟩

abbrev hbmTy (i : Nat) : BufTy := match i / 128 with
  | 0 => hbmTy0_0 i
  | 1 => hbmTy0_1 i
  | _ => ⟨S4096x3072, .f32⟩

abbrev bufTy : (tb : Table) → Fin (tcTables nBuf tb) → BufTy
  | .hbm, ⟨i, _⟩ => hbmTy i
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_call0_cst : Ref sig .tc := ⟨.hbm, 22, rfl⟩
abbrev main_call0_call0_v0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_v18 : Ref sig .tc := ⟨.hbm, 28, rfl⟩
abbrev main_call1_v0 : Ref sig .tc := ⟨.hbm, 29, rfl⟩
abbrev main_call1_c : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_c_0 : Ref sig .tc := ⟨.hbm, 35, rfl⟩
abbrev main_call1_v5 : Ref sig .tc := ⟨.hbm, 36, rfl⟩
abbrev main_v19 : Ref sig .tc := ⟨.hbm, 37, rfl⟩
abbrev main_cst : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_v20 : Ref sig .tc := ⟨.hbm, 42, rfl⟩
abbrev main_call3_call0_cst : Ref sig .tc := ⟨.hbm, 43, rfl⟩
abbrev main_call3_call0_v0 : Ref sig .tc := ⟨.hbm, 44, rfl⟩
abbrev main_v21 : Ref sig .tc := ⟨.hbm, 45, rfl⟩
abbrev main_c_0 : Ref sig .tc := ⟨.hbm, 46, rfl⟩
abbrev main_v22 : Ref sig .tc := ⟨.hbm, 47, rfl⟩
abbrev main_call4_v0 : Ref sig .tc := ⟨.hbm, 48, rfl⟩
abbrev main_call4_c : Ref sig .tc := ⟨.hbm, 49, rfl⟩
abbrev main_call4_v1 : Ref sig .tc := ⟨.hbm, 50, rfl⟩
abbrev main_call4_v2 : Ref sig .tc := ⟨.hbm, 51, rfl⟩
abbrev main_call4_v3 : Ref sig .tc := ⟨.hbm, 52, rfl⟩
abbrev main_call4_v4 : Ref sig .tc := ⟨.hbm, 53, rfl⟩
abbrev main_call4_c_0 : Ref sig .tc := ⟨.hbm, 54, rfl⟩
abbrev main_call4_v5 : Ref sig .tc := ⟨.hbm, 55, rfl⟩
abbrev main_v23 : Ref sig .tc := ⟨.hbm, 56, rfl⟩
abbrev main_cst_1 : Ref sig .tc := ⟨.hbm, 57, rfl⟩
abbrev main_call5_v0 : Ref sig .tc := ⟨.hbm, 58, rfl⟩
abbrev main_call5_v1 : Ref sig .tc := ⟨.hbm, 59, rfl⟩
abbrev main_call5_v2 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_cst_2 : Ref sig .tc := ⟨.hbm, 79, rfl⟩
abbrev main_v42 : Ref sig .tc := ⟨.hbm, 80, rfl⟩
abbrev main_v43 : Ref sig .tc := ⟨.hbm, 81, rfl⟩
abbrev main_cst_3 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_c_4 : Ref sig .tc := ⟨.hbm, 86, rfl⟩
abbrev main_call6_v0 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_c_5 : Ref sig .tc := ⟨.hbm, 91, rfl⟩
abbrev main_v50 : Ref sig .tc := ⟨.hbm, 92, rfl⟩
abbrev main_call7_v0 : Ref sig .tc := ⟨.hbm, 93, rfl⟩
abbrev main_call7_c : Ref sig .tc := ⟨.hbm, 94, rfl⟩
abbrev main_call7_v1 : Ref sig .tc := ⟨.hbm, 95, rfl⟩
abbrev main_call7_v2 : Ref sig .tc := ⟨.hbm, 96, rfl⟩
abbrev main_call7_v3 : Ref sig .tc := ⟨.hbm, 97, rfl⟩
abbrev main_call7_v4 : Ref sig .tc := ⟨.hbm, 98, rfl⟩
abbrev main_call7_c_0 : Ref sig .tc := ⟨.hbm, 99, rfl⟩
abbrev main_call7_v5 : Ref sig .tc := ⟨.hbm, 100, rfl⟩
abbrev main_v51 : Ref sig .tc := ⟨.hbm, 101, rfl⟩
abbrev main_cst_6 : Ref sig .tc := ⟨.hbm, 102, rfl⟩
abbrev main_call8_v0 : Ref sig .tc := ⟨.hbm, 103, rfl⟩
abbrev main_call8_v1 : Ref sig .tc := ⟨.hbm, 104, rfl⟩
abbrev main_call8_v2 : Ref sig .tc := ⟨.hbm, 105, rfl⟩
abbrev main_v52 : Ref sig .tc := ⟨.hbm, 106, rfl⟩
abbrev main_call9_call0_cst : Ref sig .tc := ⟨.hbm, 107, rfl⟩
abbrev main_call9_call0_v0 : Ref sig .tc := ⟨.hbm, 108, rfl⟩
abbrev main_v53 : Ref sig .tc := ⟨.hbm, 109, rfl⟩
abbrev main_c_7 : Ref sig .tc := ⟨.hbm, 110, rfl⟩
abbrev main_v54 : Ref sig .tc := ⟨.hbm, 111, rfl⟩
abbrev main_call10_v0 : Ref sig .tc := ⟨.hbm, 112, rfl⟩
abbrev main_call10_c : Ref sig .tc := ⟨.hbm, 113, rfl⟩
abbrev main_call10_v1 : Ref sig .tc := ⟨.hbm, 114, rfl⟩
abbrev main_call10_v2 : Ref sig .tc := ⟨.hbm, 115, rfl⟩
abbrev main_call10_v3 : Ref sig .tc := ⟨.hbm, 116, rfl⟩
abbrev main_call10_v4 : Ref sig .tc := ⟨.hbm, 117, rfl⟩
abbrev main_call10_c_0 : Ref sig .tc := ⟨.hbm, 118, rfl⟩
abbrev main_call10_v5 : Ref sig .tc := ⟨.hbm, 119, rfl⟩
abbrev main_v55 : Ref sig .tc := ⟨.hbm, 120, rfl⟩
abbrev main_cst_8 : Ref sig .tc := ⟨.hbm, 121, rfl⟩
abbrev main_call11_v0 : Ref sig .tc := ⟨.hbm, 122, rfl⟩
abbrev main_call11_v1 : Ref sig .tc := ⟨.hbm, 123, rfl⟩
abbrev main_call11_v2 : Ref sig .tc := ⟨.hbm, 124, rfl⟩
abbrev main_v56 : Ref sig .tc := ⟨.hbm, 125, rfl⟩
abbrev main_v57 : Ref sig .tc := ⟨.hbm, 126, rfl⟩
abbrev main_v58 : Ref sig .tc := ⟨.hbm, 127, rfl⟩
abbrev main_v59 : Ref sig .tc := ⟨.hbm, 128, rfl⟩
abbrev main_v60 : Ref sig .tc := ⟨.hbm, 129, rfl⟩
abbrev main_v61 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_cst_9 : Ref sig .tc := ⟨.hbm, 148, rfl⟩
abbrev main_v79 : Ref sig .tc := ⟨.hbm, 149, rfl⟩
abbrev main_v80 : Ref sig .tc := ⟨.hbm, 150, rfl⟩
abbrev main_cst_10 : Ref sig .tc := ⟨.hbm, 151, rfl⟩
abbrev main_v81 : Ref sig .tc := ⟨.hbm, 152, rfl⟩
abbrev main_v82 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_cst_11 : Ref sig .tc := ⟨.hbm, 160, rfl⟩
abbrev main_v89 : Ref sig .tc := ⟨.hbm, 161, rfl⟩
abbrev main_v90 : Ref sig .tc := ⟨.hbm, 162, rfl⟩
abbrev main_v91 : Ref sig .tc := ⟨.hbm, 163, rfl⟩
abbrev main_v92 : Ref sig .tc := ⟨.hbm, 164, rfl⟩
abbrev main_v93 : Ref sig .tc := ⟨.hbm, 165, rfl⟩
abbrev main_v94 : Ref sig .tc := ⟨.hbm, 166, rfl⟩
abbrev main_v95 : Ref sig .tc := ⟨.hbm, 167, rfl⟩
abbrev main_v96 : Ref sig .tc := ⟨.hbm, 168, rfl⟩
abbrev main_v97 : Ref sig .tc := ⟨.hbm, 169, rfl⟩
abbrev main_v98 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩
abbrev main_v102 : Ref sig .tc := ⟨.hbm, 174, rfl⟩
abbrev main_v103 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_cst_12 : Ref sig .tc := ⟨.hbm, 180, rfl⟩
abbrev main_v108 : Ref sig .tc := ⟨.hbm, 181, rfl⟩
abbrev main_v109 : Ref sig .tc := ⟨.hbm, 182, rfl⟩
abbrev main_cst_13 : Ref sig .tc := ⟨.hbm, 183, rfl⟩
abbrev main_v110 : Ref sig .tc := ⟨.hbm, 184, rfl⟩
abbrev main_v111 : Ref sig .tc := ⟨.hbm, 185, rfl⟩
abbrev main_v112 : Ref sig .tc := ⟨.hbm, 186, rfl⟩
abbrev main_v113 : Ref sig .tc := ⟨.hbm, 187, rfl⟩
abbrev main_v114 : Ref sig .tc := ⟨.hbm, 188, rfl⟩
abbrev main_v115 : Ref sig .tc := ⟨.hbm, 189, rfl⟩
abbrev main_v116 : Ref sig .tc := ⟨.hbm, 190, rfl⟩
abbrev main_v117 : Ref sig .tc := ⟨.hbm, 191, rfl⟩
abbrev main_v118 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩

abbrev nD : Nat := 1
abbrev τ : Topo := Topo.v7x

variable {F : FTy → Type} [FloatOps F]
-- ==== DownW.lean ====
abbrev S4096x5632 : Shape := ⟨2, ![4096, 5632]⟩
abbrev S5632x2048 : Shape := ⟨2, ![5632, 2048]⟩
abbrev S4096x2048 : Shape := ⟨2, ![4096, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x2048, .f32⟩
  | .hbm, ⟨3, _⟩ => ⟨S4096x5632, .bf16⟩
  | .hbm, ⟨4, _⟩ => ⟨S4096x2048, .bf16⟩
  | .hbm, ⟨5, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWRefIdeal.lean ====
abbrev S4096x5632 : Shape := ⟨2, ![4096, 5632]⟩
abbrev S5632x2048 : Shape := ⟨2, ![5632, 2048]⟩
abbrev S4096x2048 : Shape := ⟨2, ![4096, 2048]⟩
abbrev S2048x5632 : Shape := ⟨2, ![2048, 5632]⟩

abbrev nBuf : Space → Nat
  | .hbm => 8
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x2048, .f32⟩
  | .hbm, ⟨3, _⟩ => ⟨S4096x2048, .f32⟩
  | .hbm, ⟨4, _⟩ => ⟨S2048x5632, .f32⟩
  | .hbm, ⟨5, _⟩ => ⟨S5632x2048, .f32⟩
  | .hbm, ⟨6, _⟩ => ⟨S4096x5632, .f32⟩
  | .hbm, ⟨7, _⟩ => ⟨S5632x2048, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownX.lean ====
abbrev S4096x5632 : Shape := ⟨2, ![4096, 5632]⟩
abbrev S5632x2048 : Shape := ⟨2, ![5632, 2048]⟩
abbrev S4096x2048 : Shape := ⟨2, ![4096, 2048]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 6
  | .vmem => 6
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x2048, .f32⟩
  | .hbm, ⟨3, _⟩ => ⟨S4096x2048, .bf16⟩
  | .hbm, ⟨4, _⟩ => ⟨S5632x2048, .bf16⟩
  | .hbm, ⟨5, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .bf16⟩
  | .local _ .vmem, ⟨5, _⟩ => ⟨S1024x1408, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownXRefIdeal.lean ====
abbrev S4096x5632 : Shape := ⟨2, ![4096, 5632]⟩
abbrev S5632x2048 : Shape := ⟨2, ![5632, 2048]⟩
abbrev S4096x2048 : Shape := ⟨2, ![4096, 2048]⟩
abbrev S2048x5632 : Shape := ⟨2, ![2048, 5632]⟩

abbrev nBuf : Space → Nat
  | .hbm => 8
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x2048, .f32⟩
  | .hbm, ⟨3, _⟩ => ⟨S4096x2048, .f32⟩
  | .hbm, ⟨4, _⟩ => ⟨S2048x5632, .f32⟩
  | .hbm, ⟨5, _⟩ => ⟨S5632x2048, .f32⟩
  | .hbm, ⟨6, _⟩ => ⟨S4096x5632, .f32⟩
  | .hbm, ⟨7, _⟩ => ⟨S4096x5632, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpW.lean ====
abbrev S4096x2048 : Shape := ⟨2, ![4096, 2048]⟩
abbrev S2048x11264 : Shape := ⟨2, ![2048, 11264]⟩
abbrev S4096x11264 : Shape := ⟨2, ![4096, 11264]⟩
abbrev S4x2048x2816 : Shape := ⟨3, ![4, 2048, 2816]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 6
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x11264, .f32⟩
  | .hbm, ⟨2, _⟩ => ⟨S4096x11264, .f32⟩
  | .hbm, ⟨3, _⟩ => ⟨S4096x2048, .bf16⟩
  | .hbm, ⟨4, _⟩ => ⟨S4096x11264, .bf16⟩
  | .hbm, ⟨5, _⟩ => ⟨S4x2048x2816, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpWRefIdeal.lean ====
abbrev S4096x2048 : Shape := ⟨2, ![4096, 2048]⟩
abbrev S2048x11264 : Shape := ⟨2, ![2048, 11264]⟩
abbrev S4096x11264 : Shape := ⟨2, ![4096, 11264]⟩
abbrev S11264x2048 : Shape := ⟨2, ![11264, 2048]⟩
abbrev S2048x2816 : Shape := ⟨2, ![2048, 2816]⟩
abbrev S1x2048x2816 : Shape := ⟨3, ![1, 2048, 2816]⟩
abbrev S4x2048x2816 : Shape := ⟨3, ![4, 2048, 2816]⟩

abbrev nBuf : Space → Nat
  | .hbm => 17
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x11264, .f32⟩
  | .hbm, ⟨2, _⟩ => ⟨S4096x11264, .f32⟩
  | .hbm, ⟨3, _⟩ => ⟨S4096x11264, .f32⟩
  | .hbm, ⟨4, _⟩ => ⟨S11264x2048, .f32⟩
  | .hbm, ⟨5, _⟩ => ⟨S2048x11264, .f32⟩
  | .hbm, ⟨6, _⟩ => ⟨S4096x2048, .f32⟩
  | .hbm, ⟨7, _⟩ => ⟨S2048x11264, .bf16⟩
  | .hbm, ⟨8, _⟩ => ⟨S2048x2816, .bf16⟩
  | .hbm, ⟨9, _⟩ => ⟨S2048x2816, .bf16⟩
  | .hbm, ⟨10, _⟩ => ⟨S2048x2816, .bf16⟩
  | .hbm, ⟨11, _⟩ => ⟨S2048x2816, .bf16⟩
  | .hbm, ⟨12, _⟩ => ⟨S1x2048x2816, .bf16⟩
  | .hbm, ⟨13, _⟩ => ⟨S1x2048x2816, .bf16⟩
  | .hbm, ⟨14, _⟩ => ⟨S1x2048x2816, .bf16⟩
  | .hbm, ⟨15, _⟩ => ⟨S1x2048x2816, .bf16⟩
  | .hbm, ⟨16, _⟩ => ⟨S4x2048x2816, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== UpX.lean ====
abbrev S4096x2048 : Shape := ⟨2, ![4096, 2048]⟩
abbrev S2048x11264 : Shape := ⟨2, ![2048, 11264]⟩
abbrev S4096x11264 : Shape := ⟨2, ![4096, 11264]⟩
abbrev S2048x4x2816 : Shape := ⟨3, ![2048, 4, 2816]⟩
abbrev S4x2048x2816 : Shape := ⟨3, ![4, 2048, 2816]⟩
abbrev S1024x2816 : Shape := ⟨2, ![1024, 2816]⟩
abbrev S1x1024x2816 : Shape := ⟨3, ![1, 1024, 2816]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x11264, .f32⟩
  | .hbm, ⟨2, _⟩ => ⟨S4096x11264, .f32⟩
  | .hbm, ⟨3, _⟩ => ⟨S2048x11264, .bf16⟩
  | .hbm, ⟨4, _⟩ => ⟨S2048x4x2816, .bf16⟩
  | .hbm, ⟨5, _⟩ => ⟨S4x2048x2816, .bf16⟩
  | .hbm, ⟨6, _⟩ => ⟨S4096x11264, .bf16⟩
  | .hbm, ⟨7, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpXRefIdeal.lean ====
abbrev S4096x2048 : Shape := ⟨2, ![4096, 2048]⟩
abbrev S2048x11264 : Shape := ⟨2, ![2048, 11264]⟩
abbrev S4096x11264 : Shape := ⟨2, ![4096, 11264]⟩
abbrev S11264x2048 : Shape := ⟨2, ![11264, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x11264, .f32⟩
  | .hbm, ⟨2, _⟩ => ⟨S4096x11264, .f32⟩
  | .hbm, ⟨3, _⟩ => ⟨S4096x11264, .f32⟩
  | .hbm, ⟨4, _⟩ => ⟨S11264x2048, .f32⟩
  | .hbm, ⟨5, _⟩ => ⟨S2048x11264, .f32⟩
  | .hbm, ⟨6, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InW.lean ====
abbrev S4096x2048 : Shape := ⟨2, ![4096, 2048]⟩
abbrev S2048x13360 : Shape := ⟨2, ![2048, 13360]⟩
abbrev S4096x3072 : Shape := ⟨2, ![4096, 3072]⟩
abbrev S4096x5120 : Shape := ⟨2, ![4096, 5120]⟩
abbrev S4096x48 : Shape := ⟨2, ![4096, 48]⟩
abbrev S4096x1024 : Shape := ⟨2, ![4096, 1024]⟩
abbrev S4096x8x6 : Shape := ⟨3, ![4096, 8, 6]⟩
abbrev S_ : Shape := ⟨0, ![]⟩
abbrev S4096x8x8 : Shape := ⟨3, ![4096, 8, 8]⟩
abbrev S4096x64 : Shape := ⟨2, ![4096, 64]⟩
abbrev S4096x13440 : Shape := ⟨2, ![4096, 13440]⟩
abbrev S13440x2048 : Shape := ⟨2, ![13440, 2048]⟩
abbrev S2048x896 : Shape := ⟨2, ![2048, 896]⟩
abbrev S2048x2048 : Shape := ⟨2, ![2048, 2048]⟩
abbrev S896x2048 : Shape := ⟨2, ![896, 2048]⟩

abbrev nBuf : Space → Nat
  | .hbm => 19
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x13360, .f32⟩
  | .hbm, ⟨2, _⟩ => ⟨S4096x3072, .f32⟩
  | .hbm, ⟨3, _⟩ => ⟨S4096x5120, .f32⟩
  | .hbm, ⟨4, _⟩ => ⟨S4096x48, .f32⟩
  | .hbm, ⟨5, _⟩ => ⟨S4096x1024, .f32⟩
  | .hbm, ⟨6, _⟩ => ⟨S4096x2048, .f32⟩
  | .hbm, ⟨7, _⟩ => ⟨S4096x2048, .f32⟩
  | .hbm, ⟨8, _⟩ => ⟨S4096x8x6, .f32⟩
  | .hbm, ⟨9, _⟩ => ⟨S_, .i32⟩
  | .hbm, ⟨10, _⟩ => ⟨S_, .f32⟩
  | .hbm, ⟨11, _⟩ => ⟨S4096x8x8, .f32⟩
  | .hbm, ⟨12, _⟩ => ⟨S4096x64, .f32⟩
  | .hbm, ⟨13, _⟩ => ⟨S_, .f32⟩
  | .hbm, ⟨14, _⟩ => ⟨S4096x64, .f32⟩
  | .hbm, ⟨15, _⟩ => ⟨S4096x13440, .f32⟩
  | .hbm, ⟨16, _⟩ => ⟨S4096x13440, .bf16⟩
  | .hbm, ⟨17, _⟩ => ⟨S4096x2048, .bf16⟩
  | .hbm, ⟨18, _⟩ => ⟨S13440x2048, .bf16⟩
  | .local _ .vmem, ⟨0, _⟩ => ⟨S2048x896, .bf16⟩
  | .local _ .vmem, ⟨1, _⟩ => ⟨S2048x896, .bf16⟩
  | .local _ .vmem, ⟨2, _⟩ => ⟨S2048x2048, .bf16⟩
  | .local _ .vmem, ⟨3, _⟩ => ⟨S2048x2048, .bf16⟩
  | .local _ .vmem, ⟨4, _⟩ => ⟨S896x2048, .bf16⟩
  | .local _ .vmem, ⟨5, _⟩ => ⟨S896x2048, .bf16⟩
  | .local _ .vmem, ⟨6, _⟩ => ⟨S896x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![15, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S896x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWRefIdeal.lean ====
abbrev S4096x2048 : Shape := ⟨2, ![4096, 2048]⟩
abbrev S2048x13360 : Shape := ⟨2, ![2048, 13360]⟩
abbrev S4096x3072 : Shape := ⟨2, ![4096, 3072]⟩
abbrev S4096x5120 : Shape := ⟨2, ![4096, 5120]⟩
abbrev S4096x48 : Shape := ⟨2, ![4096, 48]⟩
abbrev S4096x1024 : Shape := ⟨2, ![4096, 1024]⟩
abbrev S4096x13360 : Shape := ⟨2, ![4096, 13360]⟩
abbrev S13360x2048 : Shape := ⟨2, ![13360, 2048]⟩
abbrev S3072x2048 : Shape := ⟨2, ![3072, 2048]⟩
abbrev S5120x2048 : Shape := ⟨2, ![5120, 2048]⟩
abbrev S48x2048 : Shape := ⟨2, ![48, 2048]⟩
abbrev S1024x2048 : Shape := ⟨2, ![1024, 2048]⟩
abbrev S2048x2048 : Shape := ⟨2, ![2048, 2048]⟩
abbrev S8x6x2048 : Shape := ⟨3, ![8, 6, 2048]⟩
abbrev S_ : Shape := ⟨0, ![]⟩
abbrev S16x8x2048 : Shape := ⟨3, ![16, 8, 2048]⟩
abbrev S128x2048 : Shape := ⟨2, ![128, 2048]⟩
abbrev S13440x2048 : Shape := ⟨2, ![13440, 2048]⟩

abbrev nBuf : Space → Nat
  | .hbm => 33
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x13360, .f32⟩
  | .hbm, ⟨2, _⟩ => ⟨S4096x3072, .f32⟩
  | .hbm, ⟨3, _⟩ => ⟨S4096x5120, .f32⟩
  | .hbm, ⟨4, _⟩ => ⟨S4096x48, .f32⟩
  | .hbm, ⟨5, _⟩ => ⟨S4096x1024, .f32⟩
  | .hbm, ⟨6, _⟩ => ⟨S4096x2048, .f32⟩
  | .hbm, ⟨7, _⟩ => ⟨S4096x2048, .f32⟩
  | .hbm, ⟨8, _⟩ => ⟨S4096x13360, .f32⟩
  | .hbm, ⟨9, _⟩ => ⟨S4096x3072, .f32⟩
  | .hbm, ⟨10, _⟩ => ⟨S4096x5120, .f32⟩
  | .hbm, ⟨11, _⟩ => ⟨S4096x48, .f32⟩
  | .hbm, ⟨12, _⟩ => ⟨S4096x1024, .f32⟩
  | .hbm, ⟨13, _⟩ => ⟨S4096x2048, .f32⟩
  | .hbm, ⟨14, _⟩ => ⟨S4096x2048, .f32⟩
  | .hbm, ⟨15, _⟩ => ⟨S4096x13360, .f32⟩
  | .hbm, ⟨16, _⟩ => ⟨S13360x2048, .f32⟩
  | .hbm, ⟨17, _⟩ => ⟨S2048x13360, .f32⟩
  | .hbm, ⟨18, _⟩ => ⟨S4096x2048, .f32⟩
  | .hbm, ⟨19, _⟩ => ⟨S13360x2048, .f32⟩
  | .hbm, ⟨20, _⟩ => ⟨S3072x2048, .f32⟩
  | .hbm, ⟨21, _⟩ => ⟨S5120x2048, .f32⟩
  | .hbm, ⟨22, _⟩ => ⟨S48x2048, .f32⟩
  | .hbm, ⟨23, _⟩ => ⟨S1024x2048, .f32⟩
  | .hbm, ⟨24, _⟩ => ⟨S2048x2048, .f32⟩
  | .hbm, ⟨25, _⟩ => ⟨S2048x2048, .f32⟩
  | .hbm, ⟨26, _⟩ => ⟨S8x6x2048, .f32⟩
  | .hbm, ⟨27, _⟩ => ⟨S_, .i32⟩
  | .hbm, ⟨28, _⟩ => ⟨S_, .f32⟩
  | .hbm, ⟨29, _⟩ => ⟨S16x8x2048, .f32⟩
  | .hbm, ⟨30, _⟩ => ⟨S128x2048, .f32⟩
  | .hbm, ⟨31, _⟩ => ⟨S13440x2048, .f32⟩
  | .hbm, ⟨32, _⟩ => ⟨S13440x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c : Ref sig .tc := ⟨.hbm, 27, rfl⟩
abbrev main_call0_v0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== InX.lean ====
abbrev S4096x2048 : Shape := ⟨2, ![4096, 2048]⟩
abbrev S2048x13360 : Shape := ⟨2, ![2048, 13360]⟩
abbrev S4096x3072 : Shape := ⟨2, ![4096, 3072]⟩
abbrev S4096x5120 : Shape := ⟨2, ![4096, 5120]⟩
abbrev S4096x48 : Shape := ⟨2, ![4096, 48]⟩
abbrev S4096x1024 : Shape := ⟨2, ![4096, 1024]⟩
abbrev S4096x8x6 : Shape := ⟨3, ![4096, 8, 6]⟩
abbrev S_ : Shape := ⟨0, ![]⟩
abbrev S4096x8x8 : Shape := ⟨3, ![4096, 8, 8]⟩
abbrev S4096x64 : Shape := ⟨2, ![4096, 64]⟩
abbrev S4096x13440 : Shape := ⟨2, ![4096, 13440]⟩
abbrev S13360x2048 : Shape := ⟨2, ![13360, 2048]⟩
abbrev S48x2048 : Shape := ⟨2, ![48, 2048]⟩
abbrev S8x6x2048 : Shape := ⟨3, ![8, 6, 2048]⟩
abbrev S8x8x2048 : Shape := ⟨3, ![8, 8, 2048]⟩
abbrev S64x2048 : Shape := ⟨2, ![64, 2048]⟩
abbrev S8192x2048 : Shape := ⟨2, ![8192, 2048]⟩
abbrev S5120x2048 : Shape := ⟨2, ![5120, 2048]⟩
abbrev S13440x2048 : Shape := ⟨2, ![13440, 2048]⟩
abbrev S1024x4480 : Shape := ⟨2, ![1024, 4480]⟩
abbrev S4480x1024 : Shape := ⟨2, ![4480, 1024]⟩
abbrev S1024x1024 : Shape := ⟨2, ![1024, 1024]⟩

abbrev nBuf : Space → Nat
  | .hbm => 31
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x13360, .f32⟩
  | .hbm, ⟨2, _⟩ => ⟨S4096x3072, .f32⟩
  | .hbm, ⟨3, _⟩ => ⟨S4096x5120, .f32⟩
  | .hbm, ⟨4, _⟩ => ⟨S4096x48, .f32⟩
  | .hbm, ⟨5, _⟩ => ⟨S4096x1024, .f32⟩
  | .hbm, ⟨6, _⟩ => ⟨S4096x2048, .f32⟩
  | .hbm, ⟨7, _⟩ => ⟨S4096x2048, .f32⟩
  | .hbm, ⟨8, _⟩ => ⟨S4096x8x6, .f32⟩
  | .hbm, ⟨9, _⟩ => ⟨S_, .i32⟩
  | .hbm, ⟨10, _⟩ => ⟨S_, .f32⟩
  | .hbm, ⟨11, _⟩ => ⟨S4096x8x8, .f32⟩
  | .hbm, ⟨12, _⟩ => ⟨S4096x64, .f32⟩
  | .hbm, ⟨13, _⟩ => ⟨S_, .f32⟩
  | .hbm, ⟨14, _⟩ => ⟨S4096x64, .f32⟩
  | .hbm, ⟨15, _⟩ => ⟨S4096x13440, .f32⟩
  | .hbm, ⟨16, _⟩ => ⟨S4096x13440, .bf16⟩
  | .hbm, ⟨17, _⟩ => ⟨S13360x2048, .f32⟩
  | .hbm, ⟨18, _⟩ => ⟨S48x2048, .f32⟩
  | .hbm, ⟨19, _⟩ => ⟨S8x6x2048, .f32⟩
  | .hbm, ⟨20, _⟩ => ⟨S_, .i32⟩
  | .hbm, ⟨21, _⟩ => ⟨S_, .f32⟩
  | .hbm, ⟨22, _⟩ => ⟨S8x8x2048, .f32⟩
  | .hbm, ⟨23, _⟩ => ⟨S64x2048, .f32⟩
  | .hbm, ⟨24, _⟩ => ⟨S8192x2048, .f32⟩
  | .hbm, ⟨25, _⟩ => ⟨S5120x2048, .f32⟩
  | .hbm, ⟨26, _⟩ => ⟨S_, .f32⟩
  | .hbm, ⟨27, _⟩ => ⟨S64x2048, .f32⟩
  | .hbm, ⟨28, _⟩ => ⟨S13440x2048, .f32⟩
  | .hbm, ⟨29, _⟩ => ⟨S13440x2048, .bf16⟩
  | .hbm, ⟨30, _⟩ => ⟨S4096x2048, .f32⟩
  | .local _ .vmem, ⟨0, _⟩ => ⟨S1024x4480, .bf16⟩
  | .local _ .vmem, ⟨1, _⟩ => ⟨S1024x4480, .bf16⟩
  | .local _ .vmem, ⟨2, _⟩ => ⟨S4480x1024, .bf16⟩
  | .local _ .vmem, ⟨3, _⟩ => ⟨S4480x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_0 : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 3], ![false, false, false]⟩

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4480 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4480x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InXRefIdeal.lean ====
abbrev S4096x2048 : Shape := ⟨2, ![4096, 2048]⟩
abbrev S2048x13360 : Shape := ⟨2, ![2048, 13360]⟩
abbrev S4096x3072 : Shape := ⟨2, ![4096, 3072]⟩
abbrev S4096x5120 : Shape := ⟨2, ![4096, 5120]⟩
abbrev S4096x48 : Shape := ⟨2, ![4096, 48]⟩
abbrev S4096x1024 : Shape := ⟨2, ![4096, 1024]⟩
abbrev S4096x13360 : Shape := ⟨2, ![4096, 13360]⟩
abbrev S13360x2048 : Shape := ⟨2, ![13360, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x13360, .f32⟩
  | .hbm, ⟨2, _⟩ => ⟨S4096x3072, .f32⟩
  | .hbm, ⟨3, _⟩ => ⟨S4096x5120, .f32⟩
  | .hbm, ⟨4, _⟩ => ⟨S4096x48, .f32⟩
  | .hbm, ⟨5, _⟩ => ⟨S4096x1024, .f32⟩
  | .hbm, ⟨6, _⟩ => ⟨S4096x2048, .f32⟩
  | .hbm, ⟨7, _⟩ => ⟨S4096x2048, .f32⟩
  | .hbm, ⟨8, _⟩ => ⟨S4096x13360, .f32⟩
  | .hbm, ⟨9, _⟩ => ⟨S4096x3072, .f32⟩
  | .hbm, ⟨10, _⟩ => ⟨S4096x5120, .f32⟩
  | .hbm, ⟨11, _⟩ => ⟨S4096x48, .f32⟩
  | .hbm, ⟨12, _⟩ => ⟨S4096x1024, .f32⟩
  | .hbm, ⟨13, _⟩ => ⟨S4096x2048, .f32⟩
  | .hbm, ⟨14, _⟩ => ⟨S4096x2048, .f32⟩
  | .hbm, ⟨15, _⟩ => ⟨S4096x13360, .f32⟩
  | .hbm, ⟨16, _⟩ => ⟨S13360x2048, .f32⟩
  | .hbm, ⟨17, _⟩ => ⟨S2048x13360, .f32⟩
  | .hbm, ⟨18, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]
-- ==== ProjW.lean ====
abbrev S4096x3072 : Shape := ⟨2, ![4096, 3072]⟩
abbrev S3072x2048 : Shape := ⟨2, ![3072, 2048]⟩
abbrev S4096x2048 : Shape := ⟨2, ![4096, 2048]⟩
abbrev S2048x1024 : Shape := ⟨2, ![2048, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x3072, .f32⟩
  | .hbm, ⟨1, _⟩ => ⟨S3072x2048, .f32⟩
  | .hbm, ⟨2, _⟩ => ⟨S4096x2048, .f32⟩
  | .hbm, ⟨3, _⟩ => ⟨S4096x3072, .bf16⟩
  | .hbm, ⟨4, _⟩ => ⟨S4096x2048, .bf16⟩
  | .hbm, ⟨5, _⟩ => ⟨S3072x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjWRefIdeal.lean ====
abbrev S4096x3072 : Shape := ⟨2, ![4096, 3072]⟩
abbrev S3072x2048 : Shape := ⟨2, ![3072, 2048]⟩
abbrev S4096x2048 : Shape := ⟨2, ![4096, 2048]⟩
abbrev S2048x3072 : Shape := ⟨2, ![2048, 3072]⟩

abbrev nBuf : Space → Nat
  | .hbm => 8
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S3072x2048, .f32⟩
  | .hbm, ⟨2, _⟩ => ⟨S4096x2048, .f32⟩
  | .hbm, ⟨3, _⟩ => ⟨S4096x2048, .f32⟩
  | .hbm, ⟨4, _⟩ => ⟨S2048x3072, .f32⟩
  | .hbm, ⟨5, _⟩ => ⟨S3072x2048, .f32⟩
  | .hbm, ⟨6, _⟩ => ⟨S4096x3072, .f32⟩
  | .hbm, ⟨7, _⟩ => ⟨S3072x2048, .bf16⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ProjX.lean ====
abbrev S4096x3072 : Shape := ⟨2, ![4096, 3072]⟩
abbrev S3072x2048 : Shape := ⟨2, ![3072, 2048]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x3072, .f32⟩
  | .hbm, ⟨1, _⟩ => ⟨S3072x2048, .f32⟩
  | .hbm, ⟨2, _⟩ => ⟨S4096x2048, .f32⟩
  | .hbm, ⟨3, _⟩ => ⟨S4096x2048, .bf16⟩
  | .hbm, ⟨4, _⟩ => ⟨S3072x2048, .bf16⟩
  | .hbm, ⟨5, _⟩ => ⟨S4096x3072, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjXRefIdeal.lean ====
abbrev S4096x3072 : Shape := ⟨2, ![4096, 3072]⟩
abbrev S3072x2048 : Shape := ⟨2, ![3072, 2048]⟩
abbrev S4096x2048 : Shape := ⟨2, ![4096, 2048]⟩
abbrev S2048x3072 : Shape := ⟨2, ![2048, 3072]⟩

abbrev nBuf : Space → Nat
  | .hbm => 7
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S3072x2048, .f32⟩
  | .hbm, ⟨2, _⟩ => ⟨S4096x2048, .f32⟩
  | .hbm, ⟨3, _⟩ => ⟨S4096x2048, .f32⟩
  | .hbm, ⟨4, _⟩ => ⟨S2048x3072, .f32⟩
  | .hbm, ⟨5, _⟩ => ⟨S3072x2048, .f32⟩
  | .hbm, ⟨6, _⟩ => ⟨S4096x3072, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutW.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .bf16⟩
  | .hbm, ⟨4, _⟩ => ⟨S4096x2048, .bf16⟩
  | .hbm, ⟨5, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutWRefIdeal.lean ====
abbrev S4096x2048 : Shape := ⟨2, ![4096, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S2048x2048, .f32⟩
  | .hbm, ⟨6, _⟩ => ⟨S4096x2048, .f32⟩
  | .hbm, ⟨7, _⟩ => ⟨S2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutX.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .bf16⟩
  | .hbm, ⟨4, _⟩ => ⟨S2048x2048, .bf16⟩
  | .hbm, ⟨5, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutXRefIdeal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S2048x2048, .f32⟩
  | .hbm, ⟨6, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GluW.lean ====
abbrev S4096x1024 : Shape := ⟨2, ![4096, 1024]⟩
abbrev S1024x4096 : Shape := ⟨2, ![1024, 4096]⟩
abbrev S4096x2048 : Shape := ⟨2, ![4096, 2048]⟩
abbrev S4096x4096 : Shape := ⟨2, ![4096, 4096]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x2048, .f32⟩
  | .hbm, ⟨3, _⟩ => ⟨S4096x2048, .f32⟩
  | .hbm, ⟨4, _⟩ => ⟨S4096x4096, .f32⟩
  | .hbm, ⟨5, _⟩ => ⟨S4096x4096, .bf16⟩
  | .hbm, ⟨6, _⟩ => ⟨S4096x1024, .bf16⟩
  | .hbm, ⟨7, _⟩ => ⟨S4x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluWRefIdeal.lean ====
abbrev S4096x1024 : Shape := ⟨2, ![4096, 1024]⟩
abbrev S1024x4096 : Shape := ⟨2, ![1024, 4096]⟩
abbrev S4096x2048 : Shape := ⟨2, ![4096, 2048]⟩
abbrev S4096x4096 : Shape := ⟨2, ![4096, 4096]⟩
abbrev S1024x1024 : Shape := ⟨2, ![1024, 1024]⟩
abbrev S1x1024x1024 : Shape := ⟨3, ![1, 1024, 1024]⟩
abbrev S4x1024x1024 : Shape := ⟨3, ![4, 1024, 1024]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x2048, .f32⟩
  | .hbm, ⟨3, _⟩ => ⟨S4096x2048, .f32⟩
  | .hbm, ⟨4, _⟩ => ⟨S4096x4096, .f32⟩
  | .hbm, ⟨5, _⟩ => ⟨S4096x2048, .f32⟩
  | .hbm, ⟨6, _⟩ => ⟨S4096x2048, .f32⟩
  | .hbm, ⟨7, _⟩ => ⟨S4096x4096, .f32⟩
  | .hbm, ⟨8, _⟩ => ⟨S4096x1024, .f32⟩
  | .hbm, ⟨9, _⟩ => ⟨S1024x4096, .f32⟩
  | .hbm, ⟨10, _⟩ => ⟨S4096x1024, .f32⟩
  | .hbm, ⟨11, _⟩ => ⟨S1024x4096, .bf16⟩
  | .hbm, ⟨12, _⟩ => ⟨S1024x1024, .bf16⟩
  | .hbm, ⟨13, _⟩ => ⟨S1024x1024, .bf16⟩
  | .hbm, ⟨14, _⟩ => ⟨S1024x1024, .bf16⟩
  | .hbm, ⟨15, _⟩ => ⟨S1024x1024, .bf16⟩
  | .hbm, ⟨16, _⟩ => ⟨S1x1024x1024, .bf16⟩
  | .hbm, ⟨17, _⟩ => ⟨S1x1024x1024, .bf16⟩
  | .hbm, ⟨18, _⟩ => ⟨S1x1024x1024, .bf16⟩
  | .hbm, ⟨19, _⟩ => ⟨S1x1024x1024, .bf16⟩
  | .hbm, ⟨20, _⟩ => ⟨S4x1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== GluX.lean ====
abbrev S4096x1024 : Shape := ⟨2, ![4096, 1024]⟩
abbrev S1024x4096 : Shape := ⟨2, ![1024, 4096]⟩
abbrev S4096x2048 : Shape := ⟨2, ![4096, 2048]⟩
abbrev S4096x4096 : Shape := ⟨2, ![4096, 4096]⟩
abbrev S1024x4x1024 : Shape := ⟨3, ![1024, 4, 1024]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x2048, .f32⟩
  | .hbm, ⟨3, _⟩ => ⟨S4096x2048, .f32⟩
  | .hbm, ⟨4, _⟩ => ⟨S4096x4096, .f32⟩
  | .hbm, ⟨5, _⟩ => ⟨S4096x4096, .bf16⟩
  | .hbm, ⟨6, _⟩ => ⟨S1024x4096, .bf16⟩
  | .hbm, ⟨7, _⟩ => ⟨S1024x4x1024, .bf16⟩
  | .hbm, ⟨8, _⟩ => ⟨S4x1024x1024, .bf16⟩
  | .hbm, ⟨9, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluXRefIdeal.lean ====
abbrev S4096x1024 : Shape := ⟨2, ![4096, 1024]⟩
abbrev S1024x4096 : Shape := ⟨2, ![1024, 4096]⟩
abbrev S4096x2048 : Shape := ⟨2, ![4096, 2048]⟩
abbrev S4096x4096 : Shape := ⟨2, ![4096, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x2048, .f32⟩
  | .hbm, ⟨3, _⟩ => ⟨S4096x2048, .f32⟩
  | .hbm, ⟨4, _⟩ => ⟨S4096x4096, .f32⟩
  | .hbm, ⟨5, _⟩ => ⟨S4096x2048, .f32⟩
  | .hbm, ⟨6, _⟩ => ⟨S4096x2048, .f32⟩
  | .hbm, ⟨7, _⟩ => ⟨S4096x4096, .f32⟩
  | .hbm, ⟨8, _⟩ => ⟨S4096x1024, .f32⟩
  | .hbm, ⟨9, _⟩ => ⟨S1024x4096, .f32⟩
  | .hbm, ⟨10, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== InA.lean ====
abbrev S4096x2048 : Shape := ⟨2, ![4096, 2048]⟩
abbrev S2048x13360 : Shape := ⟨2, ![2048, 13360]⟩
abbrev S13360x2048 : Shape := ⟨2, ![13360, 2048]⟩
abbrev S48x2048 : Shape := ⟨2, ![48, 2048]⟩
abbrev S8x6x2048 : Shape := ⟨3, ![8, 6, 2048]⟩
abbrev S_ : Shape := ⟨0, ![]⟩
abbrev S8x8x2048 : Shape := ⟨3, ![8, 8, 2048]⟩
abbrev S64x2048 : Shape := ⟨2, ![64, 2048]⟩
abbrev S8192x2048 : Shape := ⟨2, ![8192, 2048]⟩
abbrev S5120x2048 : Shape := ⟨2, ![5120, 2048]⟩
abbrev S13440x2048 : Shape := ⟨2, ![13440, 2048]⟩
abbrev S4096x1024 : Shape := ⟨2, ![4096, 1024]⟩
abbrev S13440x1024 : Shape := ⟨2, ![13440, 1024]⟩
abbrev S4096x13440 : Shape := ⟨2, ![4096, 13440]⟩
abbrev S1024x1024 : Shape := ⟨2, ![1024, 1024]⟩
abbrev S1920x1024 : Shape := ⟨2, ![1920, 1024]⟩
abbrev S1024x1920 : Shape := ⟨2, ![1024, 1920]⟩

abbrev nBuf : Space → Nat
  | .hbm => 19
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x13360, .f32⟩
  | .hbm, ⟨2, _⟩ => ⟨S4096x2048, .bf16⟩
  | .hbm, ⟨3, _⟩ => ⟨S13360x2048, .f32⟩
  | .hbm, ⟨4, _⟩ => ⟨S48x2048, .f32⟩
  | .hbm, ⟨5, _⟩ => ⟨S8x6x2048, .f32⟩
  | .hbm, ⟨6, _⟩ => ⟨S_, .i32⟩
  | .hbm, ⟨7, _⟩ => ⟨S_, .f32⟩
  | .hbm, ⟨8, _⟩ => ⟨S8x8x2048, .f32⟩
  | .hbm, ⟨9, _⟩ => ⟨S64x2048, .f32⟩
  | .hbm, ⟨10, _⟩ => ⟨S8192x2048, .f32⟩
  | .hbm, ⟨11, _⟩ => ⟨S5120x2048, .f32⟩
  | .hbm, ⟨12, _⟩ => ⟨S_, .f32⟩
  | .hbm, ⟨13, _⟩ => ⟨S64x2048, .f32⟩
  | .hbm, ⟨14, _⟩ => ⟨S13440x2048, .f32⟩
  | .hbm, ⟨15, _⟩ => ⟨S13440x2048, .bf16⟩
  | .hbm, ⟨16, _⟩ => ⟨S4096x1024, .bf16⟩
  | .hbm, ⟨17, _⟩ => ⟨S13440x1024, .bf16⟩
  | .hbm, ⟨18, _⟩ => ⟨S4096x13440, .f32⟩
  | .local _ .vmem, ⟨0, _⟩ => ⟨S1024x1024, .bf16⟩
  | .local _ .vmem, ⟨1, _⟩ => ⟨S1024x1024, .bf16⟩
  | .local _ .vmem, ⟨2, _⟩ => ⟨S1920x1024, .bf16⟩
  | .local _ .vmem, ⟨3, _⟩ => ⟨S1920x1024, .bf16⟩
  | .local _ .vmem, ⟨4, _⟩ => ⟨S1024x1920, .f32⟩
  | .local _ .vmem, ⟨5, _⟩ => ⟨S1024x1920, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1920x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InARefIdeal.lean ====
abbrev S4096x2048 : Shape := ⟨2, ![4096, 2048]⟩
abbrev S2048x13360 : Shape := ⟨2, ![2048, 13360]⟩
abbrev S4096x1024 : Shape := ⟨2, ![4096, 1024]⟩
abbrev S1024x13360 : Shape := ⟨2, ![1024, 13360]⟩
abbrev S4096x13360 : Shape := ⟨2, ![4096, 13360]⟩
abbrev S4096x3072 : Shape := ⟨2, ![4096, 3072]⟩
abbrev S4096x5120 : Shape := ⟨2, ![4096, 5120]⟩
abbrev S4096x48 : Shape := ⟨2, ![4096, 48]⟩
abbrev S4096x8x6 : Shape := ⟨3, ![4096, 8, 6]⟩
abbrev S_ : Shape := ⟨0, ![]⟩
abbrev S4096x16x8 : Shape := ⟨3, ![4096, 16, 8]⟩
abbrev S4096x128 : Shape := ⟨2, ![4096, 128]⟩
abbrev S4096x13440 : Shape := ⟨2, ![4096, 13440]⟩

abbrev nBuf : Space → Nat
  | .hbm => 17
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x13360, .f32⟩
  | .hbm, ⟨2, _⟩ => ⟨S4096x1024, .f32⟩
  | .hbm, ⟨3, _⟩ => ⟨S1024x13360, .f32⟩
  | .hbm, ⟨4, _⟩ => ⟨S4096x13360, .f32⟩
  | .hbm, ⟨5, _⟩ => ⟨S4096x3072, .f32⟩
  | .hbm, ⟨6, _⟩ => ⟨S4096x5120, .f32⟩
  | .hbm, ⟨7, _⟩ => ⟨S4096x48, .f32⟩
  | .hbm, ⟨8, _⟩ => ⟨S4096x1024, .f32⟩
  | .hbm, ⟨9, _⟩ => ⟨S4096x2048, .f32⟩
  | .hbm, ⟨10, _⟩ => ⟨S4096x2048, .f32⟩
  | .hbm, ⟨11, _⟩ => ⟨S4096x8x6, .f32⟩
  | .hbm, ⟨12, _⟩ => ⟨S_, .i32⟩
  | .hbm, ⟨13, _⟩ => ⟨S_, .f32⟩
  | .hbm, ⟨14, _⟩ => ⟨S4096x16x8, .f32⟩
  | .hbm, ⟨15, _⟩ => ⟨S4096x128, .f32⟩
  | .hbm, ⟨16, _⟩ => ⟨S4096x13440, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c : Ref sig .tc := ⟨.hbm, 12, rfl⟩
abbrev main_call0_v0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== InB.lean ====
abbrev S4096x2048 : Shape := ⟨2, ![4096, 2048]⟩
abbrev S2048x13360 : Shape := ⟨2, ![2048, 13360]⟩
abbrev S4096x13440 : Shape := ⟨2, ![4096, 13440]⟩
abbrev S13360x2048 : Shape := ⟨2, ![13360, 2048]⟩
abbrev S48x2048 : Shape := ⟨2, ![48, 2048]⟩
abbrev S8x6x2048 : Shape := ⟨3, ![8, 6, 2048]⟩
abbrev S_ : Shape := ⟨0, ![]⟩
abbrev S8x8x2048 : Shape := ⟨3, ![8, 8, 2048]⟩
abbrev S64x2048 : Shape := ⟨2, ![64, 2048]⟩
abbrev S8192x2048 : Shape := ⟨2, ![8192, 2048]⟩
abbrev S5120x2048 : Shape := ⟨2, ![5120, 2048]⟩
abbrev S13440x2048 : Shape := ⟨2, ![13440, 2048]⟩
abbrev S4096x1024 : Shape := ⟨2, ![4096, 1024]⟩
abbrev S13440x1024 : Shape := ⟨2, ![13440, 1024]⟩
abbrev S1024x1024 : Shape := ⟨2, ![1024, 1024]⟩
abbrev S1920x1024 : Shape := ⟨2, ![1920, 1024]⟩
abbrev S1024x1920 : Shape := ⟨2, ![1024, 1920]⟩

abbrev nBuf : Space → Nat
  | .hbm => 20
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S2048x13360, .f32⟩
  | .hbm, ⟨2, _⟩ => ⟨S4096x13440, .f32⟩
  | .hbm, ⟨3, _⟩ => ⟨S4096x2048, .bf16⟩
  | .hbm, ⟨4, _⟩ => ⟨S13360x2048, .f32⟩
  | .hbm, ⟨5, _⟩ => ⟨S48x2048, .f32⟩
  | .hbm, ⟨6, _⟩ => ⟨S8x6x2048, .f32⟩
  | .hbm, ⟨7, _⟩ => ⟨S_, .i32⟩
  | .hbm, ⟨8, _⟩ => ⟨S_, .f32⟩
  | .hbm, ⟨9, _⟩ => ⟨S8x8x2048, .f32⟩
  | .hbm, ⟨10, _⟩ => ⟨S64x2048, .f32⟩
  | .hbm, ⟨11, _⟩ => ⟨S8192x2048, .f32⟩
  | .hbm, ⟨12, _⟩ => ⟨S5120x2048, .f32⟩
  | .hbm, ⟨13, _⟩ => ⟨S_, .f32⟩
  | .hbm, ⟨14, _⟩ => ⟨S64x2048, .f32⟩
  | .hbm, ⟨15, _⟩ => ⟨S13440x2048, .f32⟩
  | .hbm, ⟨16, _⟩ => ⟨S13440x2048, .bf16⟩
  | .hbm, ⟨17, _⟩ => ⟨S4096x1024, .bf16⟩
  | .hbm, ⟨18, _⟩ => ⟨S13440x1024, .bf16⟩
  | .hbm, ⟨19, _⟩ => ⟨S4096x13440, .f32⟩
  | .local _ .vmem, ⟨0, _⟩ => ⟨S1024x1024, .bf16⟩
  | .local _ .vmem, ⟨1, _⟩ => ⟨S1024x1024, .bf16⟩
  | .local _ .vmem, ⟨2, _⟩ => ⟨S1920x1024, .bf16⟩
  | .local _ .vmem, ⟨3, _⟩ => ⟨S1920x1024, .bf16⟩
  | .local _ .vmem, ⟨4, _⟩ => ⟨S1024x1920, .f32⟩
  | .local _ .vmem, ⟨5, _⟩ => ⟨S1024x1920, .f32⟩
  | .local _ .vmem, ⟨6, _⟩ => ⟨S1024x1920, .f32⟩
  | .local _ .vmem, ⟨7, _⟩ => ⟨S1024x1920, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1920x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1920 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InBRefIdeal.lean ====
abbrev S4096x2048 : Shape := ⟨2, ![4096, 2048]⟩
abbrev S2048x13360 : Shape := ⟨2, ![2048, 13360]⟩
abbrev S4096x13440 : Shape := ⟨2, ![4096, 13440]⟩
abbrev S4096x1024 : Shape := ⟨2, ![4096, 1024]⟩
abbrev S1024x13360 : Shape := ⟨2, ![1024, 13360]⟩
abbrev S4096x13360 : Shape := ⟨2, ![4096, 13360]⟩
abbrev S4096x3072 : Shape := ⟨2, ![4096, 3072]⟩
abbrev S4096x5120 : Shape := ⟨2, ![4096, 5120]⟩
abbrev S4096x48 : Shape := ⟨2, ![4096, 48]⟩
abbrev S4096x8x6 : Shape := ⟨3, ![4096, 8, 6]⟩
abbrev S_ : Shape := ⟨0, ![]⟩
abbrev S4096x16x8 : Shape := ⟨3, ![4096, 16, 8]⟩
abbrev S4096x128 : Shape := ⟨2, ![4096, 128]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x13360, .f32⟩
  | .hbm, ⟨2, _⟩ => ⟨S4096x13440, .f32⟩
  | .hbm, ⟨3, _⟩ => ⟨S4096x1024, .f32⟩
  | .hbm, ⟨4, _⟩ => ⟨S1024x13360, .f32⟩
  | .hbm, ⟨5, _⟩ => ⟨S4096x13360, .f32⟩
  | .hbm, ⟨6, _⟩ => ⟨S4096x3072, .f32⟩
  | .hbm, ⟨7, _⟩ => ⟨S4096x5120, .f32⟩
  | .hbm, ⟨8, _⟩ => ⟨S4096x48, .f32⟩
  | .hbm, ⟨9, _⟩ => ⟨S4096x1024, .f32⟩
  | .hbm, ⟨10, _⟩ => ⟨S4096x2048, .f32⟩
  | .hbm, ⟨11, _⟩ => ⟨S4096x2048, .f32⟩
  | .hbm, ⟨12, _⟩ => ⟨S4096x8x6, .f32⟩
  | .hbm, ⟨13, _⟩ => ⟨S_, .i32⟩
  | .hbm, ⟨14, _⟩ => ⟨S_, .f32⟩
  | .hbm, ⟨15, _⟩ => ⟨S4096x16x8, .f32⟩
  | .hbm, ⟨16, _⟩ => ⟨S4096x128, .f32⟩
  | .hbm, ⟨17, _⟩ => ⟨S4096x13440, .f32⟩
  | .hbm, ⟨18, _⟩ => ⟨S4096x13440, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== ProjF.lean ====
abbrev S4096x3072 : Shape := ⟨2, ![4096, 3072]⟩
abbrev S3072x2048 : Shape := ⟨2, ![3072, 2048]⟩
abbrev S4096x2048 : Shape := ⟨2, ![4096, 2048]⟩
abbrev S1024x1536 : Shape := ⟨2, ![1024, 1536]⟩
abbrev S1536x1024 : Shape := ⟨2, ![1536, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x3072, .f32⟩
  | .hbm, ⟨1, _⟩ => ⟨S3072x2048, .f32⟩
  | .hbm, ⟨2, _⟩ => ⟨S4096x3072, .bf16⟩
  | .hbm, ⟨3, _⟩ => ⟨S3072x2048, .bf16⟩
  | .hbm, ⟨4, _⟩ => ⟨S4096x2048, .f32⟩
  | .local _ .vmem, ⟨0, _⟩ => ⟨S1024x1536, .bf16⟩
  | .local _ .vmem, ⟨1, _⟩ => ⟨S1024x1536, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjFRefIdeal.lean ====
abbrev S4096x3072 : Shape := ⟨2, ![4096, 3072]⟩
abbrev S3072x2048 : Shape := ⟨2, ![3072, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S3072x2048, .f32⟩
  | .hbm, ⟨2, _⟩ => ⟨S4096x2048, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== GluF.lean ====
abbrev S4096x1024 : Shape := ⟨2, ![4096, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4096x4096 : Shape := ⟨2, ![4096, 4096]⟩
abbrev S1024x1024 : Shape := ⟨2, ![1024, 1024]⟩
abbrev S1x1024x1024 : Shape := ⟨3, ![1, 1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S1024x4096, .bf16⟩
  | .hbm, ⟨3, _⟩ => ⟨S1024x4x1024, .bf16⟩
  | .hbm, ⟨4, _⟩ => ⟨S4x1024x1024, .bf16⟩
  | .hbm, ⟨5, _⟩ => ⟨S4096x1024, .bf16⟩
  | .hbm, ⟨6, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluFRefIdeal.lean ====
abbrev S4096x1024 : Shape := ⟨2, ![4096, 1024]⟩
abbrev S1024x4096 : Shape := ⟨2, ![1024, 4096]⟩
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== OutF.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .bf16⟩
  | .hbm, ⟨4, _⟩ => ⟨S2048x2048, .bf16⟩
  | .hbm, ⟨5, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutFRefIdeal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== UpF.lean ====
abbrev S4096x2048 : Shape := ⟨2, ![4096, 2048]⟩
abbrev S2048x11264 : Shape := ⟨2, ![2048, 11264]⟩
abbrev S2048x4x2816 : Shape := ⟨3, ![2048, 4, 2816]⟩
abbrev S4x2048x2816 : Shape := ⟨3, ![4, 2048, 2816]⟩
abbrev S4096x11264 : Shape := ⟨2, ![4096, 11264]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 7
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x11264, .f32⟩
  | .hbm, ⟨2, _⟩ => ⟨S2048x11264, .bf16⟩
  | .hbm, ⟨3, _⟩ => ⟨S2048x4x2816, .bf16⟩
  | .hbm, ⟨4, _⟩ => ⟨S4x2048x2816, .bf16⟩
  | .hbm, ⟨5, _⟩ => ⟨S4096x2048, .bf16⟩
  | .hbm, ⟨6, _⟩ => ⟨S4096x11264, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .f32⟩
  | .local _ .vmem, ⟨5, _⟩ => ⟨S1024x1408, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpFRefIdeal.lean ====
abbrev S4096x2048 : Shape := ⟨2, ![4096, 2048]⟩
abbrev S2048x11264 : Shape := ⟨2, ![2048, 11264]⟩
abbrev S4096x11264 : Shape := ⟨2, ![4096, 11264]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x11264, .f32⟩
  | .hbm, ⟨2, _⟩ => ⟨S4096x11264, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DownF.lean ====
abbrev S4096x5632 : Shape := ⟨2, ![4096, 5632]⟩
abbrev S5632x2048 : Shape := ⟨2, ![5632, 2048]⟩
abbrev S4096x2048 : Shape := ⟨2, ![4096, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x2048, .f32⟩
  | .hbm, ⟨3, _⟩ => ⟨S4096x5632, .bf16⟩
  | .hbm, ⟨4, _⟩ => ⟨S5632x2048, .bf16⟩
  | .hbm, ⟨5, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownFRefIdeal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x2048, .f32⟩
  | .hbm, ⟨3, _⟩ => ⟨S4096x2048, .f32⟩
  | .hbm, ⟨4, _⟩ => ⟨S4096x2048, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== SsdF.lean ====
abbrev S4096x3072 : Shape := ⟨2, ![4096, 3072]⟩
abbrev S4096x1024 : Shape := ⟨2, ![4096, 1024]⟩
abbrev S4096x48 : Shape := ⟨2, ![4096, 48]⟩
abbrev S48 : Shape := ⟨1, ![48]⟩
abbrev S4096x5120 : Shape := ⟨2, ![4096, 5120]⟩
abbrev S4096x48x64 : Shape := ⟨3, ![4096, 48, 64]⟩
abbrev S1x48 : Shape := ⟨2, ![1, 48]⟩
abbrev S16x256x8x6 : Shape := ⟨4, ![16, 256, 8, 6]⟩
abbrev S8x6x16x256 : Shape := ⟨4, ![8, 6, 16, 256]⟩
abbrev S_ : Shape := ⟨0, ![]⟩
abbrev S4096x8x6 : Shape := ⟨3, ![4096, 8, 6]⟩
abbrev S8x4096x6 : Shape := ⟨3, ![8, 4096, 6]⟩
abbrev S8x4096x8 : Shape := ⟨3, ![8, 4096, 8]⟩
abbrev S8x8x4096 : Shape := ⟨3, ![8, 8, 4096]⟩
abbrev S64x4096 : Shape := ⟨2, ![64, 4096]⟩
abbrev S128x4096 : Shape := ⟨2, ![128, 4096]⟩
abbrev S48x64 : Shape := ⟨2, ![48, 64]⟩
abbrev S3072 : Shape := ⟨1, ![3072]⟩
abbrev S1x3072 : Shape := ⟨2, ![1, 3072]⟩
abbrev S16x8x128x384 : Shape := ⟨4, ![16, 8, 128, 384]⟩
abbrev S256x384 : Shape := ⟨2, ![256, 384]⟩
abbrev S256x128 : Shape := ⟨2, ![256, 128]⟩
abbrev S1x256x8 : Shape := ⟨3, ![1, 256, 8]⟩
abbrev S8x256 : Shape := ⟨2, ![8, 256]⟩
abbrev S1x384 : Shape := ⟨2, ![1, 384]⟩
abbrev S1x1x128x384 : Shape := ⟨4, ![1, 1, 128, 384]⟩
abbrev S128x384 : Shape := ⟨2, ![128, 384]⟩
abbrev S256x256 : Shape := ⟨2, ![256, 256]⟩
abbrev S256x8 : Shape := ⟨2, ![256, 8]⟩
abbrev S256x1 : Shape := ⟨2, ![256, 1]⟩
abbrev S1x256 : Shape := ⟨2, ![1, 256]⟩
abbrev S256x64 : Shape := ⟨2, ![256, 64]⟩

abbrev nBuf : Space → Nat
  | .hbm => 38
  | .vmem => 21
  | .smem => 0
  | _ => 0

abbrev bufTy : (tb : Table) → Fin (tcTables nBuf tb) → BufTy
  | .hbm, ⟨0, _⟩ => ⟨S4096x3072, .f32⟩
  | .hbm, ⟨1, _⟩ => ⟨S4096x1024, .f32⟩
  | .hbm, ⟨2, _⟩ => ⟨S4096x1024, .f32⟩
  | .hbm, ⟨3, _⟩ => ⟨S4096x48, .f32⟩
  | .hbm, ⟨4, _⟩ => ⟨S48, .f32⟩
  | .hbm, ⟨5, _⟩ => ⟨S48, .f32⟩
  | .hbm, ⟨6, _⟩ => ⟨S4096x5120, .f32⟩
  | .hbm, ⟨7, _⟩ => ⟨S4096x48x64, .f32⟩
  | .hbm, ⟨8, _⟩ => ⟨S4096x3072, .f32⟩
  | .hbm, ⟨9, _⟩ => ⟨S48, .f32⟩
  | .hbm, ⟨10, _⟩ => ⟨S48, .f32⟩
  | .hbm, ⟨11, _⟩ => ⟨S1x48, .f32⟩
  | .hbm, ⟨12, _⟩ => ⟨S4096x48, .f32⟩
  | .hbm, ⟨13, _⟩ => ⟨S4096x48, .f32⟩
  | .hbm, ⟨14, _⟩ => ⟨S16x256x8x6, .f32⟩
  | .hbm, ⟨15, _⟩ => ⟨S8x6x16x256, .f32⟩
  | .hbm, ⟨16, _⟩ => ⟨S_, .f32⟩
  | .hbm, ⟨17, _⟩ => ⟨S_, .f32⟩
  | .hbm, ⟨18, _⟩ => ⟨S8x6x16x256, .f32⟩
  | .hbm, ⟨19, _⟩ => ⟨S16x256x8x6, .f32⟩
  | .hbm, ⟨20, _⟩ => ⟨S4096x48, .f32⟩
  | .hbm, ⟨21, _⟩ => ⟨S4096x8x6, .f32⟩
  | .hbm, ⟨22, _⟩ => ⟨S8x4096x6, .f32⟩
  | .hbm, ⟨23, _⟩ => ⟨S_, .i32⟩
  | .hbm, ⟨24, _⟩ => ⟨S_, .f32⟩
  | .hbm, ⟨25, _⟩ => ⟨S8x4096x8, .f32⟩
  | .hbm, ⟨26, _⟩ => ⟨S8x8x4096, .f32⟩
  | .hbm, ⟨27, _⟩ => ⟨S64x4096, .f32⟩
  | .hbm, ⟨28, _⟩ => ⟨S_, .i32⟩
  | .hbm, ⟨29, _⟩ => ⟨S_, .f32⟩
  | .hbm, ⟨30, _⟩ => ⟨S128x4096, .f32⟩
  | .hbm, ⟨31, _⟩ => ⟨S4096x48x64, .f32⟩
  | .hbm, ⟨32, _⟩ => ⟨S4096x3072, .f32⟩
  | .hbm, ⟨33, _⟩ => ⟨S48x64, .f32⟩
  | .hbm, ⟨34, _⟩ => ⟨S3072, .f32⟩
  | .hbm, ⟨35, _⟩ => ⟨S1x3072, .f32⟩
  | .hbm, ⟨36, _⟩ => ⟨S4096x3072, .f32⟩
  | .hbm, ⟨37, _⟩ => ⟨S16x8x128x384, .f32⟩
  | .local _ .vmem, ⟨0, _⟩ => ⟨S256x384, .f32⟩
  | .local _ .vmem, ⟨1, _⟩ => ⟨S256x384, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x256x8, .f32⟩
  | .local _ .vmem, ⟨7, _⟩ => ⟨S1x256x8, .f32⟩
  | .local _ .vmem, ⟨8, _⟩ => ⟨S8x256, .f32⟩
  | .local _ .vmem, ⟨9, _⟩ => ⟨S8x256, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | .local _ .vmem, ⟨14, _⟩ => ⟨S1x384, .f32⟩
  | .local _ .vmem, ⟨15, _⟩ => ⟨S1x384, .f32⟩
  | .local _ .vmem, ⟨16, _⟩ => ⟨S256x384, .f32⟩
  | .local _ .vmem, ⟨17, _⟩ => ⟨S256x384, .f32⟩
  | .local _ .vmem, ⟨18, _⟩ => ⟨S1x1x128x384, .f32⟩
  | .local _ .vmem, ⟨19, _⟩ => ⟨S1x1x128x384, .f32⟩
  | .local _ .vmem, ⟨20, _⟩ => ⟨S128x384, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_call0_cst : Ref sig .tc := ⟨.hbm, 16, rfl⟩
abbrev main_call0_call0_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_call1_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_0 : Ref sig .tc := ⟨.hbm, 28, rfl⟩
abbrev main_call2_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24_0 : Ref sig .tc := ⟨.hbm, 36, rfl⟩
abbrev main_v24_1 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![arg1.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x128x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== SsdFRefIdeal.lean ====
abbrev S4096x3072 : Shape := ⟨2, ![4096, 3072]⟩
abbrev S4096x1024 : Shape := ⟨2, ![4096, 1024]⟩
abbrev S4096x48 : Shape := ⟨2, ![4096, 48]⟩
abbrev S48 : Shape := ⟨1, ![48]⟩
abbrev S1x48 : Shape := ⟨2, ![1, 48]⟩
abbrev S16x256x8x6 : Shape := ⟨4, ![16, 256, 8, 6]⟩
abbrev S8x6x16x256 : Shape := ⟨4, ![8, 6, 16, 256]⟩
abbrev S4096x48x64 : Shape := ⟨3, ![4096, 48, 64]⟩
abbrev S16x256x8x6x64 : Shape := ⟨5, ![16, 256, 8, 6, 64]⟩
abbrev S16x256x8x128 : Shape := ⟨4, ![16, 256, 8, 128]⟩
abbrev S_ : Shape := ⟨0, ![]⟩
abbrev S8x6x16x256x1 : Shape := ⟨5, ![8, 6, 16, 256, 1]⟩
abbrev S8x6x16x256x256 : Shape := ⟨5, ![8, 6, 16, 256, 256]⟩
abbrev S256x256 : Shape := ⟨2, ![256, 256]⟩
abbrev S8x16x256x256 : Shape := ⟨4, ![8, 16, 256, 256]⟩
abbrev S8x1x16x256x256 : Shape := ⟨5, ![8, 1, 16, 256, 256]⟩
abbrev S16x8x6x64x256 : Shape := ⟨5, ![16, 8, 6, 64, 256]⟩
abbrev S8x6x16x1 : Shape := ⟨4, ![8, 6, 16, 1]⟩
abbrev S16x256x8x6x1 : Shape := ⟨5, ![16, 256, 8, 6, 1]⟩
abbrev S16x8x6x64x128 : Shape := ⟨5, ![16, 8, 6, 64, 128]⟩
abbrev S1x8x6x64x128 : Shape := ⟨5, ![1, 8, 6, 64, 128]⟩
abbrev S17x8x6x64x128 : Shape := ⟨5, ![17, 8, 6, 64, 128]⟩
abbrev S8x6x16 : Shape := ⟨3, ![8, 6, 16]⟩
abbrev S8x6x17 : Shape := ⟨3, ![8, 6, 17]⟩
abbrev S8x6x17x1 : Shape := ⟨4, ![8, 6, 17, 1]⟩
abbrev S8x6x17x17 : Shape := ⟨4, ![8, 6, 17, 17]⟩
abbrev S17x17 : Shape := ⟨2, ![17, 17]⟩
abbrev S8x6x64x128x17 : Shape := ⟨5, ![8, 6, 64, 128, 17]⟩
abbrev S48x64 : Shape := ⟨2, ![48, 64]⟩
abbrev S3072 : Shape := ⟨1, ![3072]⟩
abbrev S1x3072 : Shape := ⟨2, ![1, 3072]⟩
abbrev S16x8x128x6x64 : Shape := ⟨5, ![16, 8, 128, 6, 64]⟩
abbrev S16x8x128x384 : Shape := ⟨4, ![16, 8, 128, 384]⟩

abbrev nBuf : Space → Nat
  | .hbm => 204
  | .vmem => 0
  | .smem => 0
  | _ => 0

abbrev hbmTy0_0 (i : Nat) : BufTy := match i % 128 with
  | 0 => ⟨S4096x3072, .f32⟩
  | 1 => ⟨S4096x1024, .f32⟩
  | 2 => ⟨S4096x1024, .f32⟩
  | 3 => ⟨S4096x48, .f32⟩
  | 4 => ⟨S48, .f32⟩
  | 5 => ⟨S48, .f32⟩
  | 6 => ⟨S48, .f32⟩
  | 7 => ⟨S48, .f32⟩
  | 8 => ⟨S1x48, .f32⟩
  | 9 => ⟨S4096x48, .f32⟩
  | 10 => ⟨S4096x48, .f32⟩
  | 11 => ⟨S16x256x8x6, .f32⟩
  | 12 => ⟨S8x6x16x256, .f32⟩
  | 13 => ⟨S4096x48x64, .f32⟩
  | 14 => ⟨S4096x3072, .f32⟩
  | 15 => ⟨S4096x3072, .f32⟩
  | 16 => ⟨S16x256x8x6x64, .f32⟩
  | 17 => ⟨S16x256x8x128, .f32⟩
  | 18 => ⟨S16x256x8x128, .f32⟩
  | 19 => ⟨S_, .f32⟩
  | 20 => ⟨S_, .f32⟩
  | 21 => ⟨S8x6x16x256, .f32⟩
  | 22 => ⟨S8x6x16x256x1, .f32⟩
  | 23 => ⟨S8x6x16x256x256, .f32⟩
  | 24 => ⟨S_, .i1⟩
  | 25 => ⟨S256x256, .i1⟩
  | 26 => ⟨S256x256, .i32⟩
  | 27 => ⟨S_, .i32⟩
  | 28 => ⟨S256x256, .i32⟩
  | 29 => ⟨S256x256, .i32⟩
  | 30 => ⟨S256x256, .i32⟩
  | 31 => ⟨S256x256, .i1⟩
  | 32 => ⟨S_, .i1⟩
  | 33 => ⟨S256x256, .i1⟩
  | 34 => ⟨S256x256, .i1⟩
  | 35 => ⟨S_, .f32⟩
  | 36 => ⟨S_, .f32⟩
  | 37 => ⟨S8x6x16x256x256, .i1⟩
  | 38 => ⟨S8x6x16x256x256, .f32⟩
  | 39 => ⟨S8x6x16x256x256, .f32⟩
  | 40 => ⟨S_, .f32⟩
  | 41 => ⟨S_, .f32⟩
  | 42 => ⟨S8x6x16x256x256, .f32⟩
  | 43 => ⟨S_, .i1⟩
  | 44 => ⟨S256x256, .i1⟩
  | 45 => ⟨S256x256, .i32⟩
  | 46 => ⟨S_, .i32⟩
  | 47 => ⟨S256x256, .i32⟩
  | 48 => ⟨S256x256, .i32⟩
  | 49 => ⟨S256x256, .i32⟩
  | 50 => ⟨S256x256, .i1⟩
  | 51 => ⟨S_, .i1⟩
  | 52 => ⟨S256x256, .i1⟩
  | 53 => ⟨S256x256, .i1⟩
  | 54 => ⟨S_, .f32⟩
  | 55 => ⟨S_, .f32⟩
  | 56 => ⟨S8x6x16x256x256, .i1⟩
  | 57 => ⟨S8x6x16x256x256, .f32⟩
  | 58 => ⟨S8x6x16x256x256, .f32⟩
  | 59 => ⟨S8x6x16x256x256, .f32⟩
  | 60 => ⟨S8x16x256x256, .f32⟩
  | 61 => ⟨S8x1x16x256x256, .f32⟩
  | 62 => ⟨S8x6x16x256x256, .f32⟩
  | 63 => ⟨S8x6x16x256x256, .f32⟩
  | 64 => ⟨S16x8x6x64x256, .f32⟩
  | 65 => ⟨S16x256x8x6x64, .f32⟩
  | 66 => ⟨S8x6x16x1, .f32⟩
  | 67 => ⟨S8x6x16x256, .f32⟩
  | 68 => ⟨S8x6x16x256, .f32⟩
  | 69 => ⟨S8x6x16x256, .f32⟩
  | 70 => ⟨S16x256x8x6, .f32⟩
  | 71 => ⟨S16x256x8x6x1, .f32⟩
  | 72 => ⟨S16x256x8x6x64, .f32⟩
  | 73 => ⟨S16x256x8x6x64, .f32⟩
  | 74 => ⟨S16x8x6x64x128, .f32⟩
  | 75 => ⟨S1x8x6x64x128, .f32⟩
  | 76 => ⟨S_, .f32⟩
  | 77 => ⟨S1x8x6x64x128, .f32⟩
  | 78 => ⟨S17x8x6x64x128, .f32⟩
  | 79 => ⟨S8x6x16x1, .f32⟩
  | 80 => ⟨S8x6x16, .f32⟩
  | 81 => ⟨S_, .i32⟩
  | 82 => ⟨S_, .f32⟩
  | 83 => ⟨S8x6x17, .f32⟩
  | 84 => ⟨S8x6x17x1, .f32⟩
  | 85 => ⟨S8x6x17x17, .f32⟩
  | 86 => ⟨S_, .i1⟩
  | 87 => ⟨S17x17, .i1⟩
  | 88 => ⟨S17x17, .i32⟩
  | 89 => ⟨S_, .i32⟩
  | 90 => ⟨S17x17, .i32⟩
  | 91 => ⟨S17x17, .i32⟩
  | 92 => ⟨S17x17, .i32⟩
  | 93 => ⟨S17x17, .i1⟩
  | 94 => ⟨S_, .i1⟩
  | 95 => ⟨S17x17, .i1⟩
  | 96 => ⟨S17x17, .i1⟩
  | 97 => ⟨S_, .f32⟩
  | 98 => ⟨S_, .f32⟩
  | 99 => ⟨S8x6x17x17, .i1⟩
  | 100 => ⟨S8x6x17x17, .f32⟩
  | 101 => ⟨S8x6x17x17, .f32⟩
  | 102 => ⟨S_, .f32⟩
  | 103 => ⟨S_, .f32⟩
  | 104 => ⟨S8x6x17x17, .f32⟩
  | 105 => ⟨S_, .i1⟩
  | 106 => ⟨S17x17, .i1⟩
  | 107 => ⟨S17x17, .i32⟩
  | 108 => ⟨S_, .i32⟩
  | 109 => ⟨S17x17, .i32⟩
  | 110 => ⟨S17x17, .i32⟩
  | 111 => ⟨S17x17, .i32⟩
  | 112 => ⟨S17x17, .i1⟩
  | 113 => ⟨S_, .i1⟩
  | 114 => ⟨S17x17, .i1⟩
  | 115 => ⟨S17x17, .i1⟩
  | 116 => ⟨S_, .f32⟩
  | 117 => ⟨S_, .f32⟩
  | 118 => ⟨S8x6x17x17, .i1⟩
  | 119 => ⟨S8x6x17x17, .f32⟩
  | 120 => ⟨S8x6x17x17, .f32⟩
  | 121 => ⟨S8x6x17x17, .f32⟩
  | 122 => ⟨S8x6x64x128x17, .f32⟩
  | 123 => ⟨S17x8x6x64x128, .f32⟩
  | 124 => ⟨S16x8x6x64x128, .f32⟩
  | 125 => ⟨S16x8x6x64x256, .f32⟩
  | 126 => ⟨S16x256x8x6x64, .f32⟩
  | 127 => ⟨S8x6x16x256, .f32⟩
  | _ => ⟨S4096x3072, .f32⟩

abbrev hbmTy0_1 (i : Nat) : BufTy := match i % 128 with
  | 0 => ⟨S16x256x8x6, .f32⟩
  | 1 => ⟨S16x256x8x6x1, .f32⟩
  | 2 => ⟨S16x256x8x6x64, .f32⟩
  | 3 => ⟨S16x256x8x6x64, .f32⟩
  | 4 => ⟨S16x256x8x6x64, .f32⟩
  | 5 => ⟨S4096x3072, .f32⟩
  | 6 => ⟨S48x64, .f32⟩
  | 7 => ⟨S3072, .f32⟩
  | 8 => ⟨S1x3072, .f32⟩
  | 9 => ⟨S4096x3072, .f32⟩
  | 10 => ⟨S4096x3072, .f32⟩
  | 11 => ⟨S4096x3072, .f32⟩
  | 12 => ⟨S_, .f32⟩
  | 13 => ⟨S_, .f32⟩
  | 14 => ⟨S8x6x16x256, .f32⟩
  | 15 => ⟨S8x6x16x1, .f32⟩
  | 16 => ⟨S8x6x16x256, .f32⟩
  | 17 => ⟨S8x6x16x256, .f32⟩
  | 18 => ⟨S8x6x16x256, .f32⟩
  | 19 => ⟨S16x256x8x6, .f32⟩
  | 20 => ⟨S16x256x8x6x1, .f32⟩
  | 21 => ⟨S16x256x8x6x64, .f32⟩
  | 22 => ⟨S16x256x8x6x64, .f32⟩
  | 23 => ⟨S16x8x6x64x128, .f32⟩
  | 24 => ⟨S1x8x6x64x128, .f32⟩
  | 25 => ⟨S_, .f32⟩
  | 26 => ⟨S1x8x6x64x128, .f32⟩
  | 27 => ⟨S17x8x6x64x128, .f32⟩
  | 28 => ⟨S8x6x16x1, .f32⟩
  | 29 => ⟨S8x6x16, .f32⟩
  | 30 => ⟨S_, .i32⟩
  | 31 => ⟨S_, .f32⟩
  | 32 => ⟨S8x6x17, .f32⟩
  | 33 => ⟨S8x6x17x1, .f32⟩
  | 34 => ⟨S8x6x17x17, .f32⟩
  | 35 => ⟨S_, .i1⟩
  | 36 => ⟨S17x17, .i1⟩
  | 37 => ⟨S17x17, .i32⟩
  | 38 => ⟨S_, .i32⟩
  | 39 => ⟨S17x17, .i32⟩
  | 40 => ⟨S17x17, .i32⟩
  | 41 => ⟨S17x17, .i32⟩
  | 42 => ⟨S17x17, .i1⟩
  | 43 => ⟨S_, .i1⟩
  | 44 => ⟨S17x17, .i1⟩
  | 45 => ⟨S17x17, .i1⟩
  | 46 => ⟨S_, .f32⟩
  | 47 => ⟨S_, .f32⟩
  | 48 => ⟨S8x6x17x17, .i1⟩
  | 49 => ⟨S8x6x17x17, .f32⟩
  | 50 => ⟨S8x6x17x17, .f32⟩
  | 51 => ⟨S_, .f32⟩
  | 52 => ⟨S_, .f32⟩
  | 53 => ⟨S8x6x17x17, .f32⟩
  | 54 => ⟨S_, .i1⟩
  | 55 => ⟨S17x17, .i1⟩
  | 56 => ⟨S17x17, .i32⟩
  | 57 => ⟨S_, .i32⟩
  | 58 => ⟨S17x17, .i32⟩
  | 59 => ⟨S17x17, .i32⟩
  | 60 => ⟨S17x17, .i32⟩
  | 61 => ⟨S17x17, .i1⟩
  | 62 => ⟨S_, .i1⟩
  | 63 => ⟨S17x17, .i1⟩
  | 64 => ⟨S17x17, .i1⟩
  | 65 => ⟨S_, .f32⟩
  | 66 => ⟨S_, .f32⟩
  | 67 => ⟨S8x6x17x17, .i1⟩
  | 68 => ⟨S8x6x17x17, .f32⟩
  | 69 => ⟨S8x6x17x17, .f32⟩
  | 70 => ⟨S8x6x17x17, .f32⟩
  | 71 => ⟨S8x6x64x128x17, .f32⟩
  | 72 => ⟨S17x8x6x64x128, .f32⟩
  | 73 => ⟨S16x8x6x64x128, .f32⟩
  | 74 => ⟨S16x8x128x6x64, .f32⟩
  | 75 => ⟨S16x8x128x384, .f32⟩
  | _ => ⟨S4096x3072, .f32⟩

abbrev hbmTy (i : Nat) : BufTy := match i / 128 with
  | 0 => hbmTy0_0 i
  | 1 => hbmTy0_1 i
  | _ => ⟨S4096x3072, .f32⟩

abbrev bufTy : (tb : Table) → Fin (tcTables nBuf tb) → BufTy
  | .hbm, ⟨i, _⟩ => hbmTy i
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_call0_cst : Ref sig .tc := ⟨.hbm, 19, rfl⟩
abbrev main_call0_call0_v0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_call1_v0 : Ref sig .tc := ⟨.hbm, 26, rfl⟩
abbrev main_call1_c : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_c_0 : Ref sig .tc := ⟨.hbm, 32, rfl⟩
abbrev main_call1_v5 : Ref sig .tc := ⟨.hbm, 33, rfl⟩
abbrev main_v17 : Ref sig .tc := ⟨.hbm, 34, rfl⟩
abbrev main_cst : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_v18 : Ref sig .tc := ⟨.hbm, 39, rfl⟩
abbrev main_call3_call0_cst : Ref sig .tc := ⟨.hbm, 40, rfl⟩
abbrev main_call3_call0_v0 : Ref sig .tc := ⟨.hbm, 41, rfl⟩
abbrev main_v19 : Ref sig .tc := ⟨.hbm, 42, rfl⟩
abbrev main_c_0 : Ref sig .tc := ⟨.hbm, 43, rfl⟩
abbrev main_v20 : Ref sig .tc := ⟨.hbm, 44, rfl⟩
abbrev main_call4_v0 : Ref sig .tc := ⟨.hbm, 45, rfl⟩
abbrev main_call4_c : Ref sig .tc := ⟨.hbm, 46, rfl⟩
abbrev main_call4_v1 : Ref sig .tc := ⟨.hbm, 47, rfl⟩
abbrev main_call4_v2 : Ref sig .tc := ⟨.hbm, 48, rfl⟩
abbrev main_call4_v3 : Ref sig .tc := ⟨.hbm, 49, rfl⟩
abbrev main_call4_v4 : Ref sig .tc := ⟨.hbm, 50, rfl⟩
abbrev main_call4_c_0 : Ref sig .tc := ⟨.hbm, 51, rfl⟩
abbrev main_call4_v5 : Ref sig .tc := ⟨.hbm, 52, rfl⟩
abbrev main_v21 : Ref sig .tc := ⟨.hbm, 53, rfl⟩
abbrev main_cst_1 : Ref sig .tc := ⟨.hbm, 54, rfl⟩
abbrev main_call5_v0 : Ref sig .tc := ⟨.hbm, 55, rfl⟩
abbrev main_call5_v1 : Ref sig .tc := ⟨.hbm, 56, rfl⟩
abbrev main_call5_v2 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_cst_2 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_c_3 : Ref sig .tc := ⟨.hbm, 81, rfl⟩
abbrev main_call6_v0 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_c_4 : Ref sig .tc := ⟨.hbm, 86, rfl⟩
abbrev main_v47 : Ref sig .tc := ⟨.hbm, 87, rfl⟩
abbrev main_call7_v0 : Ref sig .tc := ⟨.hbm, 88, rfl⟩
abbrev main_call7_c : Ref sig .tc := ⟨.hbm, 89, rfl⟩
abbrev main_call7_v1 : Ref sig .tc := ⟨.hbm, 90, rfl⟩
abbrev main_call7_v2 : Ref sig .tc := ⟨.hbm, 91, rfl⟩
abbrev main_call7_v3 : Ref sig .tc := ⟨.hbm, 92, rfl⟩
abbrev main_call7_v4 : Ref sig .tc := ⟨.hbm, 93, rfl⟩
abbrev main_call7_c_0 : Ref sig .tc := ⟨.hbm, 94, rfl⟩
abbrev main_call7_v5 : Ref sig .tc := ⟨.hbm, 95, rfl⟩
abbrev main_v48 : Ref sig .tc := ⟨.hbm, 96, rfl⟩
abbrev main_cst_5 : Ref sig .tc := ⟨.hbm, 97, rfl⟩
abbrev main_call8_v0 : Ref sig .tc := ⟨.hbm, 98, rfl⟩
abbrev main_call8_v1 : Ref sig .tc := ⟨.hbm, 99, rfl⟩
abbrev main_call8_v2 : Ref sig .tc := ⟨.hbm, 100, rfl⟩
abbrev main_v49 : Ref sig .tc := ⟨.hbm, 101, rfl⟩
abbrev main_call9_call0_cst : Ref sig .tc := ⟨.hbm, 102, rfl⟩
abbrev main_call9_call0_v0 : Ref sig .tc := ⟨.hbm, 103, rfl⟩
abbrev main_v50 : Ref sig .tc := ⟨.hbm, 104, rfl⟩
abbrev main_c_6 : Ref sig .tc := ⟨.hbm, 105, rfl⟩
abbrev main_v51 : Ref sig .tc := ⟨.hbm, 106, rfl⟩
abbrev main_call10_v0 : Ref sig .tc := ⟨.hbm, 107, rfl⟩
abbrev main_call10_c : Ref sig .tc := ⟨.hbm, 108, rfl⟩
abbrev main_call10_v1 : Ref sig .tc := ⟨.hbm, 109, rfl⟩
abbrev main_call10_v2 : Ref sig .tc := ⟨.hbm, 110, rfl⟩
abbrev main_call10_v3 : Ref sig .tc := ⟨.hbm, 111, rfl⟩
abbrev main_call10_v4 : Ref sig .tc := ⟨.hbm, 112, rfl⟩
abbrev main_call10_c_0 : Ref sig .tc := ⟨.hbm, 113, rfl⟩
abbrev main_call10_v5 : Ref sig .tc := ⟨.hbm, 114, rfl⟩
abbrev main_v52 : Ref sig .tc := ⟨.hbm, 115, rfl⟩
abbrev main_cst_7 : Ref sig .tc := ⟨.hbm, 116, rfl⟩
abbrev main_call11_v0 : Ref sig .tc := ⟨.hbm, 117, rfl⟩
abbrev main_call11_v1 : Ref sig .tc := ⟨.hbm, 118, rfl⟩
abbrev main_call11_v2 : Ref sig .tc := ⟨.hbm, 119, rfl⟩
abbrev main_v53 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_v63 : Ref sig .tc := ⟨.hbm, 130, rfl⟩
abbrev main_v64 : Ref sig .tc := ⟨.hbm, 131, rfl⟩
abbrev main_v65 : Ref sig .tc := ⟨.hbm, 132, rfl⟩
abbrev main_v66 : Ref sig .tc := ⟨.hbm, 133, rfl⟩
abbrev main_v67 : Ref sig .tc := ⟨.hbm, 134, rfl⟩
abbrev main_v68 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_call12_call0_cst : Ref sig .tc := ⟨.hbm, 140, rfl⟩
abbrev main_call12_call0_v0 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_v82 : Ref sig .tc := ⟨.hbm, 151, rfl⟩
abbrev main_v83 : Ref sig .tc := ⟨.hbm, 152, rfl⟩
abbrev main_cst_8 : Ref sig .tc := ⟨.hbm, 153, rfl⟩
abbrev main_v84 : Ref sig .tc := ⟨.hbm, 154, rfl⟩
abbrev main_v85 : Ref sig .tc := ⟨.hbm, 155, rfl⟩
abbrev main_v86 : Ref sig .tc := ⟨.hbm, 156, rfl⟩
abbrev main_v87 : Ref sig .tc := ⟨.hbm, 157, rfl⟩
abbrev main_c_9 : Ref sig .tc := ⟨.hbm, 158, rfl⟩
abbrev main_call13_v0 : Ref sig .tc := ⟨.hbm, 159, rfl⟩
abbrev main_v88 : Ref sig .tc := ⟨.hbm, 160, rfl⟩
abbrev main_v89 : Ref sig .tc := ⟨.hbm, 161, rfl⟩
abbrev main_v90 : Ref sig .tc := ⟨.hbm, 162, rfl⟩
abbrev main_c_10 : Ref sig .tc := ⟨.hbm, 163, rfl⟩
abbrev main_v91 : Ref sig .tc := ⟨.hbm, 164, rfl⟩
abbrev main_call14_v0 : Ref sig .tc := ⟨.hbm, 165, rfl⟩
abbrev main_call14_c : Ref sig .tc := ⟨.hbm, 166, rfl⟩
abbrev main_call14_v1 : Ref sig .tc := ⟨.hbm, 167, rfl⟩
abbrev main_call14_v2 : Ref sig .tc := ⟨.hbm, 168, rfl⟩
abbrev main_call14_v3 : Ref sig .tc := ⟨.hbm, 169, rfl⟩
abbrev main_call14_v4 : Ref sig .tc := ⟨.hbm, 170, rfl⟩
abbrev main_call14_c_0 : Ref sig .tc := ⟨.hbm, 171, rfl⟩
abbrev main_call14_v5 : Ref sig .tc := ⟨.hbm, 172, rfl⟩
abbrev main_v92 : Ref sig .tc := ⟨.hbm, 173, rfl⟩
abbrev main_cst_11 : Ref sig .tc := ⟨.hbm, 174, rfl⟩
abbrev main_call15_v0 : Ref sig .tc := ⟨.hbm, 175, rfl⟩
abbrev main_call15_v1 : Ref sig .tc := ⟨.hbm, 176, rfl⟩
abbrev main_call15_v2 : Ref sig .tc := ⟨.hbm, 177, rfl⟩
abbrev main_v93 : Ref sig .tc := ⟨.hbm, 178, rfl⟩
abbrev main_call16_call0_cst : Ref sig .tc := ⟨.hbm, 179, rfl⟩
abbrev main_call16_call0_v0 : Ref sig .tc := ⟨.hbm, 180, rfl⟩
abbrev main_v94 : Ref sig .tc := ⟨.hbm, 181, rfl⟩
abbrev main_c_12 : Ref sig .tc := ⟨.hbm, 182, rfl⟩
abbrev main_v95 : Ref sig .tc := ⟨.hbm, 183, rfl⟩
abbrev main_call17_v0 : Ref sig .tc := ⟨.hbm, 184, rfl⟩
abbrev main_call17_c : Ref sig .tc := ⟨.hbm, 185, rfl⟩
abbrev main_call17_v1 : Ref sig .tc := ⟨.hbm, 186, rfl⟩
abbrev main_call17_v2 : Ref sig .tc := ⟨.hbm, 187, rfl⟩
abbrev main_call17_v3 : Ref sig .tc := ⟨.hbm, 188, rfl⟩
abbrev main_call17_v4 : Ref sig .tc := ⟨.hbm, 189, rfl⟩
abbrev main_call17_c_0 : Ref sig .tc := ⟨.hbm, 190, rfl⟩
abbrev main_call17_v5 : Ref sig .tc := ⟨.hbm, 191, rfl⟩
abbrev main_v96 : Ref sig .tc := ⟨.hbm, 192, rfl⟩
abbrev main_cst_13 : Ref sig .tc := ⟨.hbm, 193, rfl⟩
abbrev main_call18_v0 : Ref sig .tc := ⟨.hbm, 194, rfl⟩
abbrev main_call18_v1 : Ref sig .tc := ⟨.hbm, 195, rfl⟩
abbrev main_call18_v2 : Ref sig .tc := ⟨.hbm, 196, rfl⟩
abbrev main_v97 : Ref sig .tc := ⟨.hbm, 197, rfl⟩
abbrev main_v98 : Ref sig .tc := ⟨.hbm, 198, rfl⟩
abbrev main_v99 : Ref sig .tc := ⟨.hbm, 199, rfl⟩
abbrev main_v100 : Ref sig .tc := ⟨.hbm, 200, rfl⟩
abbrev main_v101 : Ref sig .tc := ⟨.hbm, 201, rfl⟩
abbrev main_v102 : Ref sig .tc := ⟨.hbm, 202, rfl⟩
abbrev main_v103 : Ref sig .tc := ⟨.hbm, 203, rfl⟩

abbrev nD : Nat := 1
abbrev τ : Topo := Topo.v7x

variable {F : FTy → Type} [FloatOps F]
-- ==== MergeB.lean ====
abbrev S4096x13360 : Shape := ⟨2, ![4096, 13360]⟩
abbrev S4096x2048 : Shape := ⟨2, ![4096, 2048]⟩
abbrev S4096x4096 : Shape := ⟨2, ![4096, 4096]⟩
abbrev S4096x3072 : Shape := ⟨2, ![4096, 3072]⟩
abbrev S4096x5120 : Shape := ⟨2, ![4096, 5120]⟩
abbrev S4096x48 : Shape := ⟨2, ![4096, 48]⟩
abbrev S4096x1024 : Shape := ⟨2, ![4096, 1024]⟩
abbrev S4096x8x6 : Shape := ⟨3, ![4096, 8, 6]⟩
abbrev S_ : Shape := ⟨0, ![]⟩
abbrev S4096x16x8 : Shape := ⟨3, ![4096, 16, 8]⟩
abbrev S4096x128 : Shape := ⟨2, ![4096, 128]⟩
abbrev S4096x13440 : Shape := ⟨2, ![4096, 13440]⟩
abbrev S256x1024 : Shape := ⟨2, ![256, 1024]⟩

abbrev nBuf : Space → Nat
  | .hbm => 21
  | .vmem => 22
  | .smem => 0
  | _ => 0

abbrev bufTy : (tb : Table) → Fin (tcTables nBuf tb) → BufTy
  | .hbm, ⟨0, _⟩ => ⟨S4096x13360, .f32⟩
  | .hbm, ⟨1, _⟩ => ⟨S4096x2048, .f32⟩
  | .hbm, ⟨2, _⟩ => ⟨S4096x4096, .f32⟩
  | .hbm, ⟨3, _⟩ => ⟨S4096x2048, .f32⟩
  | .hbm, ⟨4, _⟩ => ⟨S4096x3072, .f32⟩
  | .hbm, ⟨5, _⟩ => ⟨S4096x5120, .f32⟩
  | .hbm, ⟨6, _⟩ => ⟨S4096x48, .f32⟩
  | .hbm, ⟨7, _⟩ => ⟨S4096x1024, .f32⟩
  | .hbm, ⟨8, _⟩ => ⟨S4096x2048, .f32⟩
  | .hbm, ⟨9, _⟩ => ⟨S4096x2048, .f32⟩
  | .hbm, ⟨10, _⟩ => ⟨S4096x8x6, .f32⟩
  | .hbm, ⟨11, _⟩ => ⟨S_, .i32⟩
  | .hbm, ⟨12, _⟩ => ⟨S_, .f32⟩
  | .hbm, ⟨13, _⟩ => ⟨S4096x16x8, .f32⟩
  | .hbm, ⟨14, _⟩ => ⟨S4096x128, .f32⟩
  | .hbm, ⟨15, _⟩ => ⟨S4096x13440, .f32⟩
  | .hbm, ⟨16, _⟩ => ⟨S4096x2048, .bf16⟩
  | .hbm, ⟨17, _⟩ => ⟨S4096x2048, .bf16⟩
  | .hbm, ⟨18, _⟩ => ⟨S4096x2048, .bf16⟩
  | .hbm, ⟨19, _⟩ => ⟨S4096x2048, .bf16⟩
  | .hbm, ⟨20, _⟩ => ⟨S4096x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | _, _ => ⟨S4096x13360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v10_3 : Ref sig .tc := ⟨.hbm, 19, rfl⟩
abbrev main_v10_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MergeBRefIdeal.lean ====
abbrev S4096x13360 : Shape := ⟨2, ![4096, 13360]⟩
abbrev S4096x2048 : Shape := ⟨2, ![4096, 2048]⟩
abbrev S4096x4096 : Shape := ⟨2, ![4096, 4096]⟩
abbrev S4096x3072 : Shape := ⟨2, ![4096, 3072]⟩
abbrev S4096x5120 : Shape := ⟨2, ![4096, 5120]⟩
abbrev S4096x48 : Shape := ⟨2, ![4096, 48]⟩
abbrev S4096x1024 : Shape := ⟨2, ![4096, 1024]⟩
abbrev S_ : Shape := ⟨0, ![]⟩

abbrev nBuf : Space → Nat
  | .hbm => 68
  | .vmem => 0
  | .smem => 0
  | _ => 0

abbrev bufTy : (tb : Table) → Fin (tcTables nBuf tb) → BufTy
  | .hbm, ⟨0, _⟩ => ⟨S4096x13360, .f32⟩
  | .hbm, ⟨1, _⟩ => ⟨S4096x2048, .f32⟩
  | .hbm, ⟨2, _⟩ => ⟨S4096x4096, .f32⟩
  | .hbm, ⟨3, _⟩ => ⟨S4096x2048, .f32⟩
  | .hbm, ⟨4, _⟩ => ⟨S4096x3072, .f32⟩
  | .hbm, ⟨5, _⟩ => ⟨S4096x5120, .f32⟩
  | .hbm, ⟨6, _⟩ => ⟨S4096x48, .f32⟩
  | .hbm, ⟨7, _⟩ => ⟨S4096x1024, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S4096x2048, .f32⟩
  | .hbm, ⟨45, _⟩ => ⟨S4096x2048, .f32⟩
  | .hbm, ⟨46, _⟩ => ⟨S_, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S4096x2048, .f32⟩
  | .hbm, ⟨61, _⟩ => ⟨S4096x2048, .f32⟩
  | .hbm, ⟨62, _⟩ => ⟨S4096x2048, .f32⟩
  | .hbm, ⟨63, _⟩ => ⟨S4096x2048, .bf16⟩
  | .hbm, ⟨64, _⟩ => ⟨S4096x2048, .bf16⟩
  | .hbm, ⟨65, _⟩ => ⟨S4096x2048, .bf16⟩
  | .hbm, ⟨66, _⟩ => ⟨S4096x2048, .bf16⟩
  | .hbm, ⟨67, _⟩ => ⟨S4096x2048, .bf16⟩
  | _, _ => ⟨S4096x13360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩

abbrev nD : Nat := 1
abbrev τ : Topo := Topo.v7x

variable {F : FTy → Type} [FloatOps F]
-- ==== MergeF.lean ====
abbrev S4096x13360 : Shape := ⟨2, ![4096, 13360]⟩
abbrev S4096x2048 : Shape := ⟨2, ![4096, 2048]⟩
abbrev S4096x4096 : Shape := ⟨2, ![4096, 4096]⟩
abbrev S4096x3072 : Shape := ⟨2, ![4096, 3072]⟩
abbrev S4096x5120 : Shape := ⟨2, ![4096, 5120]⟩
abbrev S4096x48 : Shape := ⟨2, ![4096, 48]⟩
abbrev S4096x1024 : Shape := ⟨2, ![4096, 1024]⟩
abbrev S4096x8x6 : Shape := ⟨3, ![4096, 8, 6]⟩
abbrev S_ : Shape := ⟨0, ![]⟩
abbrev S4096x16x8 : Shape := ⟨3, ![4096, 16, 8]⟩
abbrev S4096x128 : Shape := ⟨2, ![4096, 128]⟩
abbrev S4096x13440 : Shape := ⟨2, ![4096, 13440]⟩
abbrev S256x1024 : Shape := ⟨2, ![256, 1024]⟩

abbrev nBuf : Space → Nat
  | .hbm => 16
  | .vmem => 12
  | .smem => 0
  | _ => 0

abbrev bufTy : (tb : Table) → Fin (tcTables nBuf tb) → BufTy
  | .hbm, ⟨0, _⟩ => ⟨S4096x13360, .f32⟩
  | .hbm, ⟨1, _⟩ => ⟨S4096x2048, .f32⟩
  | .hbm, ⟨2, _⟩ => ⟨S4096x4096, .f32⟩
  | .hbm, ⟨3, _⟩ => ⟨S4096x3072, .f32⟩
  | .hbm, ⟨4, _⟩ => ⟨S4096x5120, .f32⟩
  | .hbm, ⟨5, _⟩ => ⟨S4096x48, .f32⟩
  | .hbm, ⟨6, _⟩ => ⟨S4096x1024, .f32⟩
  | .hbm, ⟨7, _⟩ => ⟨S4096x2048, .f32⟩
  | .hbm, ⟨8, _⟩ => ⟨S4096x2048, .f32⟩
  | .hbm, ⟨9, _⟩ => ⟨S4096x8x6, .f32⟩
  | .hbm, ⟨10, _⟩ => ⟨S_, .i32⟩
  | .hbm, ⟨11, _⟩ => ⟨S_, .f32⟩
  | .hbm, ⟨12, _⟩ => ⟨S4096x16x8, .f32⟩
  | .hbm, ⟨13, _⟩ => ⟨S4096x128, .f32⟩
  | .hbm, ⟨14, _⟩ => ⟨S4096x13440, .f32⟩
  | .hbm, ⟨15, _⟩ => ⟨S4096x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | _, _ => ⟨S4096x13360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MergeFRefIdeal.lean ====
abbrev S4096x13360 : Shape := ⟨2, ![4096, 13360]⟩
abbrev S4096x2048 : Shape := ⟨2, ![4096, 2048]⟩
abbrev S4096x4096 : Shape := ⟨2, ![4096, 4096]⟩
abbrev S4096x3072 : Shape := ⟨2, ![4096, 3072]⟩
abbrev S4096x5120 : Shape := ⟨2, ![4096, 5120]⟩
abbrev S4096x48 : Shape := ⟨2, ![4096, 48]⟩
abbrev S4096x1024 : Shape := ⟨2, ![4096, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4096x13360, .f32⟩
  | .hbm, ⟨1, _⟩ => ⟨S4096x2048, .f32⟩
  | .hbm, ⟨2, _⟩ => ⟨S4096x4096, .f32⟩
  | .hbm, ⟨3, _⟩ => ⟨S4096x3072, .f32⟩
  | .hbm, ⟨4, _⟩ => ⟨S4096x5120, .f32⟩
  | .hbm, ⟨5, _⟩ => ⟨S4096x48, .f32⟩
  | .hbm, ⟨6, _⟩ => ⟨S4096x1024, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .bf16⟩
  | _, _ => ⟨S4096x13360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== StIn.lean ====
abbrev S4096x13360 : Shape := ⟨2, ![4096, 13360]⟩
abbrev S64x64x16 : Shape := ⟨3, ![64, 64, 16]⟩
abbrev S4096x3072 : Shape := ⟨2, ![4096, 3072]⟩
abbrev S4096x5120 : Shape := ⟨2, ![4096, 5120]⟩
abbrev S4096x48 : Shape := ⟨2, ![4096, 48]⟩
abbrev S4096x1024 : Shape := ⟨2, ![4096, 1024]⟩
abbrev S4096x2048 : Shape := ⟨2, ![4096, 2048]⟩
abbrev S4096x8x6 : Shape := ⟨3, ![4096, 8, 6]⟩
abbrev S_ : Shape := ⟨0, ![]⟩
abbrev S4096x16x8 : Shape := ⟨3, ![4096, 16, 8]⟩
abbrev S4096x128 : Shape := ⟨2, ![4096, 128]⟩
abbrev S4096x13440 : Shape := ⟨2, ![4096, 13440]⟩
abbrev S8x8x64x16 : Shape := ⟨4, ![8, 8, 64, 16]⟩
abbrev S8x8x16x64 : Shape := ⟨4, ![8, 8, 16, 64]⟩
abbrev S8x8x16x1x64 : Shape := ⟨5, ![8, 8, 16, 1, 64]⟩
abbrev S8x8 : Shape := ⟨2, ![8, 8]⟩
abbrev S8x1x8x1 : Shape := ⟨4, ![8, 1, 8, 1]⟩
abbrev S1x8x1x8x1 : Shape := ⟨5, ![1, 8, 1, 8, 1]⟩
abbrev S8x8x16x8x64 : Shape := ⟨5, ![8, 8, 16, 8, 64]⟩
abbrev S8x128x512 : Shape := ⟨3, ![8, 128, 512]⟩
abbrev S4096x4096 : Shape := ⟨2, ![4096, 4096]⟩
abbrev S1024x128 : Shape := ⟨2, ![1024, 128]⟩
abbrev S1x128x512 : Shape := ⟨3, ![1, 128, 512]⟩
abbrev S1024x512 : Shape := ⟨2, ![1024, 512]⟩
abbrev S128x512 : Shape := ⟨2, ![128, 512]⟩

abbrev nBuf : Space → Nat
  | .hbm => 51
  | .vmem => 10
  | .smem => 0
  | _ => 0

abbrev bufTy : (tb : Table) → Fin (tcTables nBuf tb) → BufTy
  | .hbm, ⟨0, _⟩ => ⟨S4096x13360, .f32⟩
  | .hbm, ⟨1, _⟩ => ⟨S64x64x16, .f32⟩
  | .hbm, ⟨2, _⟩ => ⟨S64x64x16, .f32⟩
  | .hbm, ⟨3, _⟩ => ⟨S4096x3072, .f32⟩
  | .hbm, ⟨4, _⟩ => ⟨S4096x5120, .f32⟩
  | .hbm, ⟨5, _⟩ => ⟨S4096x48, .f32⟩
  | .hbm, ⟨6, _⟩ => ⟨S4096x1024, .f32⟩
  | .hbm, ⟨7, _⟩ => ⟨S4096x2048, .f32⟩
  | .hbm, ⟨8, _⟩ => ⟨S4096x2048, .f32⟩
  | .hbm, ⟨9, _⟩ => ⟨S4096x8x6, .f32⟩
  | .hbm, ⟨10, _⟩ => ⟨S_, .i32⟩
  | .hbm, ⟨11, _⟩ => ⟨S_, .f32⟩
  | .hbm, ⟨12, _⟩ => ⟨S4096x16x8, .f32⟩
  | .hbm, ⟨13, _⟩ => ⟨S4096x128, .f32⟩
  | .hbm, ⟨14, _⟩ => ⟨S4096x13440, .f32⟩
  | .hbm, ⟨15, _⟩ => ⟨S8x8x64x16, .f32⟩
  | .hbm, ⟨16, _⟩ => ⟨S8x8x16x64, .f32⟩
  | .hbm, ⟨17, _⟩ => ⟨S8x8x16x1x64, .f32⟩
  | .hbm, ⟨18, _⟩ => ⟨S8x8, .i32⟩
  | .hbm, ⟨19, _⟩ => ⟨S8x8, .i32⟩
  | .hbm, ⟨20, _⟩ => ⟨S_, .i32⟩
  | .hbm, ⟨21, _⟩ => ⟨S8x8, .i32⟩
  | .hbm, ⟨22, _⟩ => ⟨S8x8, .i32⟩
  | .hbm, ⟨23, _⟩ => ⟨S8x8, .i1⟩
  | .hbm, ⟨24, _⟩ => ⟨S8x8, .f32⟩
  | .hbm, ⟨25, _⟩ => ⟨S8x1x8x1, .f32⟩
  | .hbm, ⟨26, _⟩ => ⟨S1x8x1x8x1, .f32⟩
  | .hbm, ⟨27, _⟩ => ⟨S8x8x16x8x64, .f32⟩
  | .hbm, ⟨28, _⟩ => ⟨S8x8x16x8x64, .f32⟩
  | .hbm, ⟨29, _⟩ => ⟨S8x8x16x8x64, .f32⟩
  | .hbm, ⟨30, _⟩ => ⟨S8x128x512, .f32⟩
  | .hbm, ⟨31, _⟩ => ⟨S8x128x512, .bf16⟩
  | .hbm, ⟨32, _⟩ => ⟨S8x8x64x16, .f32⟩
  | .hbm, ⟨33, _⟩ => ⟨S8x8x16x64, .f32⟩
  | .hbm, ⟨34, _⟩ => ⟨S8x8x16x1x64, .f32⟩
  | .hbm, ⟨35, _⟩ => ⟨S8x8, .i32⟩
  | .hbm, ⟨36, _⟩ => ⟨S8x8, .i32⟩
  | .hbm, ⟨37, _⟩ => ⟨S_, .i32⟩
  | .hbm, ⟨38, _⟩ => ⟨S8x8, .i32⟩
  | .hbm, ⟨39, _⟩ => ⟨S8x8, .i32⟩
  | .hbm, ⟨40, _⟩ => ⟨S8x8, .i1⟩
  | .hbm, ⟨41, _⟩ => ⟨S8x8, .f32⟩
  | .hbm, ⟨42, _⟩ => ⟨S8x1x8x1, .f32⟩
  | .hbm, ⟨43, _⟩ => ⟨S1x8x1x8x1, .f32⟩
  | .hbm, ⟨44, _⟩ => ⟨S8x8x16x8x64, .f32⟩
  | .hbm, ⟨45, _⟩ => ⟨S8x8x16x8x64, .f32⟩
  | .hbm, ⟨46, _⟩ => ⟨S8x8x16x8x64, .f32⟩
  | .hbm, ⟨47, _⟩ => ⟨S8x128x512, .f32⟩
  | .hbm, ⟨48, _⟩ => ⟨S8x128x512, .bf16⟩
  | .hbm, ⟨49, _⟩ => ⟨S4096x4096, .f32⟩
  | .hbm, ⟨50, _⟩ => ⟨S4096x4096, .f32⟩
  | .local _ .vmem, ⟨0, _⟩ => ⟨S1024x128, .f32⟩
  | .local _ .vmem, ⟨1, _⟩ => ⟨S1024x128, .f32⟩
  | .local _ .vmem, ⟨2, _⟩ => ⟨S1x128x512, .bf16⟩
  | .local _ .vmem, ⟨3, _⟩ => ⟨S1x128x512, .bf16⟩
  | .local _ .vmem, ⟨4, _⟩ => ⟨S1x128x512, .bf16⟩
  | .local _ .vmem, ⟨5, _⟩ => ⟨S1x128x512, .bf16⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | _, _ => ⟨S4096x13360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_c_1 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42_0 : Ref sig .tc := ⟨.hbm, 49, rfl⟩
abbrev main_v42_1 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg1
  let c0_i32 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== StInRefIdeal.lean ====
abbrev S4096x13360 : Shape := ⟨2, ![4096, 13360]⟩
abbrev S64x64x16 : Shape := ⟨3, ![64, 64, 16]⟩
abbrev S4096x3072 : Shape := ⟨2, ![4096, 3072]⟩
abbrev S4096x5120 : Shape := ⟨2, ![4096, 5120]⟩
abbrev S4096x48 : Shape := ⟨2, ![4096, 48]⟩
abbrev S4096x1024 : Shape := ⟨2, ![4096, 1024]⟩
abbrev S4096x2048 : Shape := ⟨2, ![4096, 2048]⟩
abbrev S4096x64x16 : Shape := ⟨3, ![4096, 64, 16]⟩
abbrev S64x4096x64 : Shape := ⟨3, ![64, 4096, 64]⟩
abbrev S4096x64x64 : Shape := ⟨3, ![4096, 64, 64]⟩
abbrev S4096x4096 : Shape := ⟨2, ![4096, 4096]⟩

abbrev nBuf : Space → Nat
  | .hbm => 16
  | .vmem => 0
  | .smem => 0
  | _ => 0

abbrev bufTy : (tb : Table) → Fin (tcTables nBuf tb) → BufTy
  | .hbm, ⟨0, _⟩ => ⟨S4096x13360, .f32⟩
  | .hbm, ⟨1, _⟩ => ⟨S64x64x16, .f32⟩
  | .hbm, ⟨2, _⟩ => ⟨S64x64x16, .f32⟩
  | .hbm, ⟨3, _⟩ => ⟨S4096x3072, .f32⟩
  | .hbm, ⟨4, _⟩ => ⟨S4096x5120, .f32⟩
  | .hbm, ⟨5, _⟩ => ⟨S4096x48, .f32⟩
  | .hbm, ⟨6, _⟩ => ⟨S4096x1024, .f32⟩
  | .hbm, ⟨7, _⟩ => ⟨S4096x2048, .f32⟩
  | .hbm, ⟨8, _⟩ => ⟨S4096x2048, .f32⟩
  | .hbm, ⟨9, _⟩ => ⟨S4096x64x16, .f32⟩
  | .hbm, ⟨10, _⟩ => ⟨S64x4096x64, .f32⟩
  | .hbm, ⟨11, _⟩ => ⟨S4096x64x64, .f32⟩
  | .hbm, ⟨12, _⟩ => ⟨S4096x4096, .f32⟩
  | .hbm, ⟨13, _⟩ => ⟨S64x4096x64, .f32⟩
  | .hbm, ⟨14, _⟩ => ⟨S4096x64x64, .f32⟩
  | .hbm, ⟨15, _⟩ => ⟨S4096x4096, .f32⟩
  | _, _ => ⟨S4096x13360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== StOut.lean ====
abbrev S4096x13360 : Shape := ⟨2, ![4096, 13360]⟩
abbrev S4096x4096 : Shape := ⟨2, ![4096, 4096]⟩
abbrev S64x16x64 : Shape := ⟨3, ![64, 16, 64]⟩
abbrev S1024 : Shape := ⟨1, ![1024]⟩
abbrev S4096x3072 : Shape := ⟨2, ![4096, 3072]⟩
abbrev S4096x5120 : Shape := ⟨2, ![4096, 5120]⟩
abbrev S4096x48 : Shape := ⟨2, ![4096, 48]⟩
abbrev S4096x1024 : Shape := ⟨2, ![4096, 1024]⟩
abbrev S4096x2048 : Shape := ⟨2, ![4096, 2048]⟩
abbrev S4096x8x6 : Shape := ⟨3, ![4096, 8, 6]⟩
abbrev S_ : Shape := ⟨0, ![]⟩
abbrev S4096x16x8 : Shape := ⟨3, ![4096, 16, 8]⟩
abbrev S4096x128 : Shape := ⟨2, ![4096, 128]⟩
abbrev S4096x13440 : Shape := ⟨2, ![4096, 13440]⟩
abbrev S8x8x16x64 : Shape := ⟨4, ![8, 8, 16, 64]⟩
abbrev S8x8x64x16 : Shape := ⟨4, ![8, 8, 64, 16]⟩
abbrev S8x8x64x1x16 : Shape := ⟨5, ![8, 8, 64, 1, 16]⟩
abbrev S8x8 : Shape := ⟨2, ![8, 8]⟩
abbrev S8x1x8x1 : Shape := ⟨4, ![8, 1, 8, 1]⟩
abbrev S1x8x1x8x1 : Shape := ⟨5, ![1, 8, 1, 8, 1]⟩
abbrev S8x8x64x8x16 : Shape := ⟨5, ![8, 8, 64, 8, 16]⟩
abbrev S8x512x128 : Shape := ⟨3, ![8, 512, 128]⟩
abbrev S1x1024 : Shape := ⟨2, ![1, 1024]⟩
abbrev S1024x512 : Shape := ⟨2, ![1024, 512]⟩
abbrev S1x512x128 : Shape := ⟨3, ![1, 512, 128]⟩
abbrev S1024x128 : Shape := ⟨2, ![1024, 128]⟩
abbrev S1x128 : Shape := ⟨2, ![1, 128]⟩
abbrev S512x128 : Shape := ⟨2, ![512, 128]⟩

abbrev nBuf : Space → Nat
  | .hbm => 56
  | .vmem => 16
  | .smem => 0
  | _ => 0

abbrev bufTy : (tb : Table) → Fin (tcTables nBuf tb) → BufTy
  | .hbm, ⟨0, _⟩ => ⟨S4096x13360, .f32⟩
  | .hbm, ⟨1, _⟩ => ⟨S4096x4096, .f32⟩
  | .hbm, ⟨2, _⟩ => ⟨S4096x4096, .f32⟩
  | .hbm, ⟨3, _⟩ => ⟨S64x16x64, .f32⟩
  | .hbm, ⟨4, _⟩ => ⟨S64x16x64, .f32⟩
  | .hbm, ⟨5, _⟩ => ⟨S1024, .f32⟩
  | .hbm, ⟨6, _⟩ => ⟨S4096x3072, .f32⟩
  | .hbm, ⟨7, _⟩ => ⟨S4096x5120, .f32⟩
  | .hbm, ⟨8, _⟩ => ⟨S4096x48, .f32⟩
  | .hbm, ⟨9, _⟩ => ⟨S4096x1024, .f32⟩
  | .hbm, ⟨10, _⟩ => ⟨S4096x2048, .f32⟩
  | .hbm, ⟨11, _⟩ => ⟨S4096x2048, .f32⟩
  | .hbm, ⟨12, _⟩ => ⟨S4096x8x6, .f32⟩
  | .hbm, ⟨13, _⟩ => ⟨S_, .i32⟩
  | .hbm, ⟨14, _⟩ => ⟨S_, .f32⟩
  | .hbm, ⟨15, _⟩ => ⟨S4096x16x8, .f32⟩
  | .hbm, ⟨16, _⟩ => ⟨S4096x128, .f32⟩
  | .hbm, ⟨17, _⟩ => ⟨S4096x13440, .f32⟩
  | .hbm, ⟨18, _⟩ => ⟨S8x8x16x64, .f32⟩
  | .hbm, ⟨19, _⟩ => ⟨S8x8x64x16, .f32⟩
  | .hbm, ⟨20, _⟩ => ⟨S8x8x64x1x16, .f32⟩
  | .hbm, ⟨21, _⟩ => ⟨S8x8, .i32⟩
  | .hbm, ⟨22, _⟩ => ⟨S8x8, .i32⟩
  | .hbm, ⟨23, _⟩ => ⟨S_, .i32⟩
  | .hbm, ⟨24, _⟩ => ⟨S8x8, .i32⟩
  | .hbm, ⟨25, _⟩ => ⟨S8x8, .i32⟩
  | .hbm, ⟨26, _⟩ => ⟨S8x8, .i1⟩
  | .hbm, ⟨27, _⟩ => ⟨S8x8, .f32⟩
  | .hbm, ⟨28, _⟩ => ⟨S8x1x8x1, .f32⟩
  | .hbm, ⟨29, _⟩ => ⟨S1x8x1x8x1, .f32⟩
  | .hbm, ⟨30, _⟩ => ⟨S8x8x64x8x16, .f32⟩
  | .hbm, ⟨31, _⟩ => ⟨S8x8x64x8x16, .f32⟩
  | .hbm, ⟨32, _⟩ => ⟨S8x8x64x8x16, .f32⟩
  | .hbm, ⟨33, _⟩ => ⟨S8x512x128, .f32⟩
  | .hbm, ⟨34, _⟩ => ⟨S8x512x128, .bf16⟩
  | .hbm, ⟨35, _⟩ => ⟨S64x16x64, .f32⟩
  | .hbm, ⟨36, _⟩ => ⟨S8x8x16x64, .f32⟩
  | .hbm, ⟨37, _⟩ => ⟨S8x8x64x16, .f32⟩
  | .hbm, ⟨38, _⟩ => ⟨S8x8x64x1x16, .f32⟩
  | .hbm, ⟨39, _⟩ => ⟨S8x8, .i32⟩
  | .hbm, ⟨40, _⟩ => ⟨S8x8, .i32⟩
  | .hbm, ⟨41, _⟩ => ⟨S_, .i32⟩
  | .hbm, ⟨42, _⟩ => ⟨S8x8, .i32⟩
  | .hbm, ⟨43, _⟩ => ⟨S8x8, .i32⟩
  | .hbm, ⟨44, _⟩ => ⟨S8x8, .i1⟩
  | .hbm, ⟨45, _⟩ => ⟨S8x8, .f32⟩
  | .hbm, ⟨46, _⟩ => ⟨S8x1x8x1, .f32⟩
  | .hbm, ⟨47, _⟩ => ⟨S1x8x1x8x1, .f32⟩
  | .hbm, ⟨48, _⟩ => ⟨S8x8x64x8x16, .f32⟩
  | .hbm, ⟨49, _⟩ => ⟨S8x8x64x8x16, .f32⟩
  | .hbm, ⟨50, _⟩ => ⟨S8x8x64x8x16, .f32⟩
  | .hbm, ⟨51, _⟩ => ⟨S8x512x128, .f32⟩
  | .hbm, ⟨52, _⟩ => ⟨S8x512x128, .bf16⟩
  | .hbm, ⟨53, _⟩ => ⟨S1x1024, .f32⟩
  | .hbm, ⟨54, _⟩ => ⟨S4096x1024, .f32⟩
  | .hbm, ⟨55, _⟩ => ⟨S4096x1024, .bf16⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x512x128, .bf16⟩
  | .local _ .vmem, ⟨5, _⟩ => ⟨S1x512x128, .bf16⟩
  | .local _ .vmem, ⟨6, _⟩ => ⟨S1x512x128, .bf16⟩
  | .local _ .vmem, ⟨7, _⟩ => ⟨S1x512x128, .bf16⟩
  | .local _ .vmem, ⟨8, _⟩ => ⟨S1024x128, .f32⟩
  | .local _ .vmem, ⟨9, _⟩ => ⟨S1024x128, .f32⟩
  | .local _ .vmem, ⟨10, _⟩ => ⟨S1x128, .f32⟩
  | .local _ .vmem, ⟨11, _⟩ => ⟨S1x128, .f32⟩
  | .local _ .vmem, ⟨12, _⟩ => ⟨S1024x128, .f32⟩
  | .local _ .vmem, ⟨13, _⟩ => ⟨S1024x128, .f32⟩
  | .local _ .vmem, ⟨14, _⟩ => ⟨S1024x128, .bf16⟩
  | .local _ .vmem, ⟨15, _⟩ => ⟨S1024x128, .bf16⟩
  | _, _ => ⟨S4096x13360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_call0_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_c_1 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44_0 : Ref sig .tc := ⟨.hbm, 54, rfl⟩
abbrev main_v44_1 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== StOutRefIdeal.lean ====
abbrev S4096x13360 : Shape := ⟨2, ![4096, 13360]⟩
abbrev S4096x4096 : Shape := ⟨2, ![4096, 4096]⟩
abbrev S64x16x64 : Shape := ⟨3, ![64, 16, 64]⟩
abbrev S1024 : Shape := ⟨1, ![1024]⟩
abbrev S4096x3072 : Shape := ⟨2, ![4096, 3072]⟩
abbrev S4096x5120 : Shape := ⟨2, ![4096, 5120]⟩
abbrev S4096x48 : Shape := ⟨2, ![4096, 48]⟩
abbrev S4096x1024 : Shape := ⟨2, ![4096, 1024]⟩
abbrev S4096x2048 : Shape := ⟨2, ![4096, 2048]⟩
abbrev S4096x64x16 : Shape := ⟨3, ![4096, 64, 16]⟩
abbrev S4096x64x64 : Shape := ⟨3, ![4096, 64, 64]⟩
abbrev S64x4096x16 : Shape := ⟨3, ![64, 4096, 16]⟩
abbrev S64x16 : Shape := ⟨2, ![64, 16]⟩
abbrev S1x64x16 : Shape := ⟨3, ![1, 64, 16]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4096x13360, .f32⟩
  | .hbm, ⟨1, _⟩ => ⟨S4096x4096, .f32⟩
  | .hbm, ⟨2, _⟩ => ⟨S4096x4096, .f32⟩
  | .hbm, ⟨3, _⟩ => ⟨S64x16x64, .f32⟩
  | .hbm, ⟨4, _⟩ => ⟨S64x16x64, .f32⟩
  | .hbm, ⟨5, _⟩ => ⟨S1024, .f32⟩
  | .hbm, ⟨6, _⟩ => ⟨S4096x3072, .f32⟩
  | .hbm, ⟨7, _⟩ => ⟨S4096x5120, .f32⟩
  | .hbm, ⟨8, _⟩ => ⟨S4096x48, .f32⟩
  | .hbm, ⟨9, _⟩ => ⟨S4096x1024, .f32⟩
  | .hbm, ⟨10, _⟩ => ⟨S4096x2048, .f32⟩
  | .hbm, ⟨11, _⟩ => ⟨S4096x2048, .f32⟩
  | .hbm, ⟨12, _⟩ => ⟨S4096x64x16, .f32⟩
  | .hbm, ⟨13, _⟩ => ⟨S4096x64x64, .f32⟩
  | .hbm, ⟨14, _⟩ => ⟨S64x4096x16, .f32⟩
  | .hbm, ⟨15, _⟩ => ⟨S4096x64x16, .f32⟩
  | .hbm, ⟨16, _⟩ => ⟨S64x16x64, .f32⟩
  | .hbm, ⟨17, _⟩ => ⟨S4096x64x64, .f32⟩
  | .hbm, ⟨18, _⟩ => ⟨S64x4096x16, .f32⟩
  | .hbm, ⟨19, _⟩ => ⟨S4096x64x16, .f32⟩
  | .hbm, ⟨20, _⟩ => ⟨S4096x64x16, .f32⟩
  | .hbm, ⟨21, _⟩ => ⟨S64x16, .f32⟩
  | .hbm, ⟨22, _⟩ => ⟨S1x64x16, .f32⟩
  | .hbm, ⟨23, _⟩ => ⟨S4096x64x16, .f32⟩
  | .hbm, ⟨24, _⟩ => ⟨S4096x64x16, .f32⟩
  | .hbm, ⟨25, _⟩ => ⟨S4096x64x16, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .bf16⟩
  | _, _ => ⟨S4096x13360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_0 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_1 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== StBack.lean ====
abbrev S4096x13360 : Shape := ⟨2, ![4096, 13360]⟩
abbrev S1x4096 : Shape := ⟨2, ![1, 4096]⟩
abbrev S64x64x16 : Shape := ⟨3, ![64, 64, 16]⟩
abbrev S4096x4096 : Shape := ⟨2, ![4096, 4096]⟩
abbrev S4096x1024 : Shape := ⟨2, ![4096, 1024]⟩
abbrev S4096x3072 : Shape := ⟨2, ![4096, 3072]⟩
abbrev S4096x5120 : Shape := ⟨2, ![4096, 5120]⟩
abbrev S4096x48 : Shape := ⟨2, ![4096, 48]⟩
abbrev S4096x2048 : Shape := ⟨2, ![4096, 2048]⟩
abbrev S4096x8x6 : Shape := ⟨3, ![4096, 8, 6]⟩
abbrev S_ : Shape := ⟨0, ![]⟩
abbrev S4096x16x8 : Shape := ⟨3, ![4096, 16, 8]⟩
abbrev S4096x128 : Shape := ⟨2, ![4096, 128]⟩
abbrev S4096x13440 : Shape := ⟨2, ![4096, 13440]⟩
abbrev S8x8x64x16 : Shape := ⟨4, ![8, 8, 64, 16]⟩
abbrev S8x8x16x64 : Shape := ⟨4, ![8, 8, 16, 64]⟩
abbrev S8x8x16x1x64 : Shape := ⟨5, ![8, 8, 16, 1, 64]⟩
abbrev S8x8 : Shape := ⟨2, ![8, 8]⟩
abbrev S8x1x8x1 : Shape := ⟨4, ![8, 1, 8, 1]⟩
abbrev S1x8x1x8x1 : Shape := ⟨5, ![1, 8, 1, 8, 1]⟩
abbrev S8x8x16x8x64 : Shape := ⟨5, ![8, 8, 16, 8, 64]⟩
abbrev S8x128x512 : Shape := ⟨3, ![8, 128, 512]⟩
abbrev S8x512x128 : Shape := ⟨3, ![8, 512, 128]⟩
abbrev S1024x512 : Shape := ⟨2, ![1024, 512]⟩
abbrev S1x512x128 : Shape := ⟨3, ![1, 512, 128]⟩
abbrev S1024x128 : Shape := ⟨2, ![1024, 128]⟩
abbrev S8x512 : Shape := ⟨2, ![8, 512]⟩
abbrev S1x512 : Shape := ⟨2, ![1, 512]⟩
abbrev S512x128 : Shape := ⟨2, ![512, 128]⟩
abbrev S512 : Shape := ⟨1, ![512]⟩

abbrev nBuf : Space → Nat
  | .hbm => 63
  | .vmem => 30
  | .smem => 0
  | _ => 0

abbrev bufTy : (tb : Table) → Fin (tcTables nBuf tb) → BufTy
  | .hbm, ⟨0, _⟩ => ⟨S4096x13360, .f32⟩
  | .hbm, ⟨1, _⟩ => ⟨S1x4096, .f32⟩
  | .hbm, ⟨2, _⟩ => ⟨S1x4096, .f32⟩
  | .hbm, ⟨3, _⟩ => ⟨S64x64x16, .f32⟩
  | .hbm, ⟨4, _⟩ => ⟨S64x64x16, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x1024, .f32⟩
  | .hbm, ⟨10, _⟩ => ⟨S4096x3072, .f32⟩
  | .hbm, ⟨11, _⟩ => ⟨S4096x5120, .f32⟩
  | .hbm, ⟨12, _⟩ => ⟨S4096x48, .f32⟩
  | .hbm, ⟨13, _⟩ => ⟨S4096x1024, .f32⟩
  | .hbm, ⟨14, _⟩ => ⟨S4096x2048, .f32⟩
  | .hbm, ⟨15, _⟩ => ⟨S4096x2048, .f32⟩
  | .hbm, ⟨16, _⟩ => ⟨S4096x8x6, .f32⟩
  | .hbm, ⟨17, _⟩ => ⟨S_, .i32⟩
  | .hbm, ⟨18, _⟩ => ⟨S_, .f32⟩
  | .hbm, ⟨19, _⟩ => ⟨S4096x16x8, .f32⟩
  | .hbm, ⟨20, _⟩ => ⟨S4096x128, .f32⟩
  | .hbm, ⟨21, _⟩ => ⟨S4096x13440, .f32⟩
  | .hbm, ⟨22, _⟩ => ⟨S8x8x64x16, .f32⟩
  | .hbm, ⟨23, _⟩ => ⟨S8x8x16x64, .f32⟩
  | .hbm, ⟨24, _⟩ => ⟨S8x8x16x1x64, .f32⟩
  | .hbm, ⟨25, _⟩ => ⟨S8x8, .i32⟩
  | .hbm, ⟨26, _⟩ => ⟨S8x8, .i32⟩
  | .hbm, ⟨27, _⟩ => ⟨S_, .i32⟩
  | .hbm, ⟨28, _⟩ => ⟨S8x8, .i32⟩
  | .hbm, ⟨29, _⟩ => ⟨S8x8, .i32⟩
  | .hbm, ⟨30, _⟩ => ⟨S8x8, .i1⟩
  | .hbm, ⟨31, _⟩ => ⟨S8x8, .f32⟩
  | .hbm, ⟨32, _⟩ => ⟨S8x1x8x1, .f32⟩
  | .hbm, ⟨33, _⟩ => ⟨S1x8x1x8x1, .f32⟩
  | .hbm, ⟨34, _⟩ => ⟨S8x8x16x8x64, .f32⟩
  | .hbm, ⟨35, _⟩ => ⟨S8x8x16x8x64, .f32⟩
  | .hbm, ⟨36, _⟩ => ⟨S8x8x16x8x64, .f32⟩
  | .hbm, ⟨37, _⟩ => ⟨S8x128x512, .f32⟩
  | .hbm, ⟨38, _⟩ => ⟨S8x512x128, .f32⟩
  | .hbm, ⟨39, _⟩ => ⟨S8x512x128, .bf16⟩
  | .hbm, ⟨40, _⟩ => ⟨S8x8x64x16, .f32⟩
  | .hbm, ⟨41, _⟩ => ⟨S8x8x16x64, .f32⟩
  | .hbm, ⟨42, _⟩ => ⟨S8x8x16x1x64, .f32⟩
  | .hbm, ⟨43, _⟩ => ⟨S8x8, .i32⟩
  | .hbm, ⟨44, _⟩ => ⟨S8x8, .i32⟩
  | .hbm, ⟨45, _⟩ => ⟨S_, .i32⟩
  | .hbm, ⟨46, _⟩ => ⟨S8x8, .i32⟩
  | .hbm, ⟨47, _⟩ => ⟨S8x8, .i32⟩
  | .hbm, ⟨48, _⟩ => ⟨S8x8, .i1⟩
  | .hbm, ⟨49, _⟩ => ⟨S8x8, .f32⟩
  | .hbm, ⟨50, _⟩ => ⟨S8x1x8x1, .f32⟩
  | .hbm, ⟨51, _⟩ => ⟨S1x8x1x8x1, .f32⟩
  | .hbm, ⟨52, _⟩ => ⟨S8x8x16x8x64, .f32⟩
  | .hbm, ⟨53, _⟩ => ⟨S8x8x16x8x64, .f32⟩
  | .hbm, ⟨54, _⟩ => ⟨S8x8x16x8x64, .f32⟩
  | .hbm, ⟨55, _⟩ => ⟨S8x128x512, .f32⟩
  | .hbm, ⟨56, _⟩ => ⟨S8x512x128, .f32⟩
  | .hbm, ⟨57, _⟩ => ⟨S8x512x128, .bf16⟩
  | .hbm, ⟨58, _⟩ => ⟨S4096x1024, .bf16⟩
  | .hbm, ⟨59, _⟩ => ⟨S8x512x128, .f32⟩
  | .hbm, ⟨60, _⟩ => ⟨S8x512x128, .f32⟩
  | .hbm, ⟨61, _⟩ => ⟨S1x4096, .f32⟩
  | .hbm, ⟨62, _⟩ => ⟨S1x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x512x128, .bf16⟩
  | .local _ .vmem, ⟨5, _⟩ => ⟨S1x512x128, .bf16⟩
  | .local _ .vmem, ⟨6, _⟩ => ⟨S1x512x128, .bf16⟩
  | .local _ .vmem, ⟨7, _⟩ => ⟨S1x512x128, .bf16⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S8x512, .f32⟩
  | .local _ .vmem, ⟨17, _⟩ => ⟨S8x512, .f32⟩
  | .local _ .vmem, ⟨18, _⟩ => ⟨S8x512, .f32⟩
  | .local _ .vmem, ⟨19, _⟩ => ⟨S8x512, .f32⟩
  | .local _ .vmem, ⟨20, _⟩ => ⟨S1024x128, .bf16⟩
  | .local _ .vmem, ⟨21, _⟩ => ⟨S1024x128, .bf16⟩
  | .local _ .vmem, ⟨22, _⟩ => ⟨S1x512x128, .f32⟩
  | .local _ .vmem, ⟨23, _⟩ => ⟨S1x512x128, .f32⟩
  | .local _ .vmem, ⟨24, _⟩ => ⟨S1x512x128, .f32⟩
  | .local _ .vmem, ⟨25, _⟩ => ⟨S1x512x128, .f32⟩
  | .local _ .vmem, ⟨26, _⟩ => ⟨S1x512, .f32⟩
  | .local _ .vmem, ⟨27, _⟩ => ⟨S1x512, .f32⟩
  | .local _ .vmem, ⟨28, _⟩ => ⟨S1x512, .f32⟩
  | .local _ .vmem, ⟨29, _⟩ => ⟨S1x512, .f32⟩
  | _, _ => ⟨S4096x13360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_call0_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_1 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44_0 : Ref sig .tc := ⟨.hbm, 58, rfl⟩
abbrev main_v44_1 : Ref sig .tc := ⟨.hbm, 59, rfl⟩
abbrev main_v44_2 : Ref sig .tc := ⟨.hbm, 60, rfl⟩
abbrev main_v44_3 : Ref sig .tc := ⟨.hbm, 61, rfl⟩
abbrev main_v44_4 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_9 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== StBackRefIdeal.lean ====
abbrev S4096x13360 : Shape := ⟨2, ![4096, 13360]⟩
abbrev S1x4096 : Shape := ⟨2, ![1, 4096]⟩
abbrev S64x64x16 : Shape := ⟨3, ![64, 64, 16]⟩
abbrev S4096x4096 : Shape := ⟨2, ![4096, 4096]⟩
abbrev S4096x1024 : Shape := ⟨2, ![4096, 1024]⟩
abbrev S4096x3072 : Shape := ⟨2, ![4096, 3072]⟩
abbrev S4096x5120 : Shape := ⟨2, ![4096, 5120]⟩
abbrev S4096x48 : Shape := ⟨2, ![4096, 48]⟩
abbrev S4096x2048 : Shape := ⟨2, ![4096, 2048]⟩
abbrev S_ : Shape := ⟨0, ![]⟩
abbrev S4097x4096 : Shape := ⟨2, ![4097, 4096]⟩
abbrev S4096x64x16 : Shape := ⟨3, ![4096, 64, 16]⟩
abbrev S64x4096x64 : Shape := ⟨3, ![64, 4096, 64]⟩
abbrev S4096x64x64 : Shape := ⟨3, ![4096, 64, 64]⟩
abbrev S4096 : Shape := ⟨1, ![4096]⟩
abbrev S64x4096x16 : Shape := ⟨3, ![64, 4096, 16]⟩

abbrev nBuf : Space → Nat
  | .hbm => 78
  | .vmem => 0
  | .smem => 0
  | _ => 0

abbrev bufTy : (tb : Table) → Fin (tcTables nBuf tb) → BufTy
  | .hbm, ⟨0, _⟩ => ⟨S4096x13360, .f32⟩
  | .hbm, ⟨1, _⟩ => ⟨S1x4096, .f32⟩
  | .hbm, ⟨2, _⟩ => ⟨S1x4096, .f32⟩
  | .hbm, ⟨3, _⟩ => ⟨S64x64x16, .f32⟩
  | .hbm, ⟨4, _⟩ => ⟨S64x64x16, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x1024, .f32⟩
  | .hbm, ⟨10, _⟩ => ⟨S4096x3072, .f32⟩
  | .hbm, ⟨11, _⟩ => ⟨S4096x5120, .f32⟩
  | .hbm, ⟨12, _⟩ => ⟨S4096x48, .f32⟩
  | .hbm, ⟨13, _⟩ => ⟨S4096x1024, .f32⟩
  | .hbm, ⟨14, _⟩ => ⟨S4096x2048, .f32⟩
  | .hbm, ⟨15, _⟩ => ⟨S4096x2048, .f32⟩
  | .hbm, ⟨16, _⟩ => ⟨S_, .i32⟩
  | .hbm, ⟨17, _⟩ => ⟨S_, .f32⟩
  | .hbm, ⟨18, _⟩ => ⟨S4097x4096, .f32⟩
  | .hbm, ⟨19, _⟩ => ⟨S4096x4096, .f32⟩
  | .hbm, ⟨20, _⟩ => ⟨S_, .i32⟩
  | .hbm, ⟨21, _⟩ => ⟨S_, .f32⟩
  | .hbm, ⟨22, _⟩ => ⟨S4097x4096, .f32⟩
  | .hbm, ⟨23, _⟩ => ⟨S4096x4096, .f32⟩
  | .hbm, ⟨24, _⟩ => ⟨S4096x64x16, .f32⟩
  | .hbm, ⟨25, _⟩ => ⟨S64x4096x64, .f32⟩
  | .hbm, ⟨26, _⟩ => ⟨S4096x64x64, .f32⟩
  | .hbm, ⟨27, _⟩ => ⟨S4096x4096, .f32⟩
  | .hbm, ⟨28, _⟩ => ⟨S64x4096x64, .f32⟩
  | .hbm, ⟨29, _⟩ => ⟨S4096x64x64, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S_, .f32⟩
  | .hbm, ⟨47, _⟩ => ⟨S4096, .f32⟩
  | .hbm, ⟨48, _⟩ => ⟨S1x4096, .f32⟩
  | .hbm, ⟨49, _⟩ => ⟨S4096x4096, .f32⟩
  | .hbm, ⟨50, _⟩ => ⟨S_, .f32⟩
  | .hbm, ⟨51, _⟩ => ⟨S4096, .f32⟩
  | .hbm, ⟨52, _⟩ => ⟨S1x4096, .f32⟩
  | .hbm, ⟨53, _⟩ => ⟨S4096x4096, .f32⟩
  | .hbm, ⟨54, _⟩ => ⟨S4096x4096, .f32⟩
  | .hbm, ⟨55, _⟩ => ⟨S4096x4096, .f32⟩
  | .hbm, ⟨56, _⟩ => ⟨S4096x4096, .f32⟩
  | .hbm, ⟨57, _⟩ => ⟨S_, .f32⟩
  | .hbm, ⟨58, _⟩ => ⟨S4096, .f32⟩
  | .hbm, ⟨59, _⟩ => ⟨S1x4096, .f32⟩
  | .hbm, ⟨60, _⟩ => ⟨S1x4096, .f32⟩
  | .hbm, ⟨61, _⟩ => ⟨S4096x4096, .f32⟩
  | .hbm, ⟨62, _⟩ => ⟨S_, .f32⟩
  | .hbm, ⟨63, _⟩ => ⟨S4096, .f32⟩
  | .hbm, ⟨64, _⟩ => ⟨S1x4096, .f32⟩
  | .hbm, ⟨65, _⟩ => ⟨S1x4096, .f32⟩
  | .hbm, ⟨66, _⟩ => ⟨S4096x64x64, .f32⟩
  | .hbm, ⟨67, _⟩ => ⟨S64x4096x64, .f32⟩
  | .hbm, ⟨68, _⟩ => ⟨S64x4096x16, .f32⟩
  | .hbm, ⟨69, _⟩ => ⟨S4096x64x16, .f32⟩
  | .hbm, ⟨70, _⟩ => ⟨S4096x64x64, .f32⟩
  | .hbm, ⟨71, _⟩ => ⟨S64x4096x64, .f32⟩
  | .hbm, ⟨72, _⟩ => ⟨S64x4096x16, .f32⟩
  | .hbm, ⟨73, _⟩ => ⟨S4096x64x16, .f32⟩
  | .hbm, ⟨74, _⟩ => ⟨S4096x64x16, .f32⟩
  | .hbm, ⟨75, _⟩ => ⟨S4096x1024, .f32⟩
  | .hbm, ⟨76, _⟩ => ⟨S4096x1024, .f32⟩
  | .hbm, ⟨77, _⟩ => ⟨S4096x1024, .bf16⟩
  | _, _ => ⟨S4096x13360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_call0_v0 : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_call1_v0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_1 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_2 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_3 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩

abbrev nD : Nat := 1
abbrev τ : Topo := Topo.v7x

variable {F : FTy → Type} [FloatOps F]
-- ==== RmsB.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RmsBRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 53
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .bf16⟩
  | .hbm, ⟨52, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== GnormB.lean ====
abbrev S4096x3072 : Shape := ⟨2, ![4096, 3072]⟩
abbrev S4096x13360 : Shape := ⟨2, ![4096, 13360]⟩
abbrev S3072 : Shape := ⟨1, ![3072]⟩
abbrev S4096x5120 : Shape := ⟨2, ![4096, 5120]⟩
abbrev S4096x48 : Shape := ⟨2, ![4096, 48]⟩
abbrev S4096x1024 : Shape := ⟨2, ![4096, 1024]⟩
abbrev S4096x2048 : Shape := ⟨2, ![4096, 2048]⟩
abbrev S4096x8x6 : Shape := ⟨3, ![4096, 8, 6]⟩
abbrev S_ : Shape := ⟨0, ![]⟩
abbrev S4096x16x8 : Shape := ⟨3, ![4096, 16, 8]⟩
abbrev S4096x128 : Shape := ⟨2, ![4096, 128]⟩
abbrev S4096x13440 : Shape := ⟨2, ![4096, 13440]⟩
abbrev S1x3072 : Shape := ⟨2, ![1, 3072]⟩
abbrev S256x3072 : Shape := ⟨2, ![256, 3072]⟩
abbrev S256x384 : Shape := ⟨2, ![256, 384]⟩
abbrev S256 : Shape := ⟨1, ![256]⟩
abbrev S256x1 : Shape := ⟨2, ![256, 1]⟩
abbrev S1x384 : Shape := ⟨2, ![1, 384]⟩
abbrev S384 : Shape := ⟨1, ![384]⟩

abbrev nBuf : Space → Nat
  | .hbm => 20
  | .vmem => 12
  | .smem => 0
  | _ => 0

abbrev bufTy : (tb : Table) → Fin (tcTables nBuf tb) → BufTy
  | .hbm, ⟨0, _⟩ => ⟨S4096x3072, .f32⟩
  | .hbm, ⟨1, _⟩ => ⟨S4096x13360, .f32⟩
  | .hbm, ⟨2, _⟩ => ⟨S3072, .f32⟩
  | .hbm, ⟨3, _⟩ => ⟨S4096x3072, .f32⟩
  | .hbm, ⟨4, _⟩ => ⟨S4096x3072, .f32⟩
  | .hbm, ⟨5, _⟩ => ⟨S4096x5120, .f32⟩
  | .hbm, ⟨6, _⟩ => ⟨S4096x48, .f32⟩
  | .hbm, ⟨7, _⟩ => ⟨S4096x1024, .f32⟩
  | .hbm, ⟨8, _⟩ => ⟨S4096x2048, .f32⟩
  | .hbm, ⟨9, _⟩ => ⟨S4096x2048, .f32⟩
  | .hbm, ⟨10, _⟩ => ⟨S4096x8x6, .f32⟩
  | .hbm, ⟨11, _⟩ => ⟨S_, .i32⟩
  | .hbm, ⟨12, _⟩ => ⟨S_, .f32⟩
  | .hbm, ⟨13, _⟩ => ⟨S4096x16x8, .f32⟩
  | .hbm, ⟨14, _⟩ => ⟨S4096x128, .f32⟩
  | .hbm, ⟨15, _⟩ => ⟨S4096x13440, .f32⟩
  | .hbm, ⟨16, _⟩ => ⟨S1x3072, .f32⟩
  | .hbm, ⟨17, _⟩ => ⟨S4096x3072, .f32⟩
  | .hbm, ⟨18, _⟩ => ⟨S4096x3072, .bf16⟩
  | .hbm, ⟨19, _⟩ => ⟨S1x3072, .f32⟩
  | .local _ .vmem, ⟨0, _⟩ => ⟨S256x3072, .f32⟩
  | .local _ .vmem, ⟨1, _⟩ => ⟨S256x3072, .f32⟩
  | .local _ .vmem, ⟨2, _⟩ => ⟨S256x3072, .f32⟩
  | .local _ .vmem, ⟨3, _⟩ => ⟨S256x3072, .f32⟩
  | .local _ .vmem, ⟨4, _⟩ => ⟨S256x3072, .f32⟩
  | .local _ .vmem, ⟨5, _⟩ => ⟨S256x3072, .f32⟩
  | .local _ .vmem, ⟨6, _⟩ => ⟨S1x3072, .f32⟩
  | .local _ .vmem, ⟨7, _⟩ => ⟨S256x3072, .f32⟩
  | .local _ .vmem, ⟨8, _⟩ => ⟨S256x3072, .f32⟩
  | .local _ .vmem, ⟨9, _⟩ => ⟨S256x3072, .bf16⟩
  | .local _ .vmem, ⟨10, _⟩ => ⟨S256x3072, .bf16⟩
  | .local _ .vmem, ⟨11, _⟩ => ⟨S1x3072, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GnormBRefIdeal.lean ====
abbrev S4096x3072 : Shape := ⟨2, ![4096, 3072]⟩
abbrev S4096x13360 : Shape := ⟨2, ![4096, 13360]⟩
abbrev S3072 : Shape := ⟨1, ![3072]⟩
abbrev S4096x5120 : Shape := ⟨2, ![4096, 5120]⟩
abbrev S4096x48 : Shape := ⟨2, ![4096, 48]⟩
abbrev S4096x1024 : Shape := ⟨2, ![4096, 1024]⟩
abbrev S4096x2048 : Shape := ⟨2, ![4096, 2048]⟩
abbrev S_ : Shape := ⟨0, ![]⟩
abbrev S4096x8x384 : Shape := ⟨3, ![4096, 8, 384]⟩
abbrev S4096x8 : Shape := ⟨2, ![4096, 8]⟩
abbrev S4096x8x1 : Shape := ⟨3, ![4096, 8, 1]⟩
abbrev S1x3072 : Shape := ⟨2, ![1, 3072]⟩

abbrev nBuf : Space → Nat
  | .hbm => 71
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4096x13360, .f32⟩
  | .hbm, ⟨2, _⟩ => ⟨S3072, .f32⟩
  | .hbm, ⟨3, _⟩ => ⟨S4096x3072, .f32⟩
  | .hbm, ⟨4, _⟩ => ⟨S4096x3072, .f32⟩
  | .hbm, ⟨5, _⟩ => ⟨S4096x5120, .f32⟩
  | .hbm, ⟨6, _⟩ => ⟨S4096x48, .f32⟩
  | .hbm, ⟨7, _⟩ => ⟨S4096x1024, .f32⟩
  | .hbm, ⟨8, _⟩ => ⟨S4096x2048, .f32⟩
  | .hbm, ⟨9, _⟩ => ⟨S4096x2048, .f32⟩
  | .hbm, ⟨10, _⟩ => ⟨S4096x3072, .f32⟩
  | .hbm, ⟨11, _⟩ => ⟨S4096x3072, .f32⟩
  | .hbm, ⟨12, _⟩ => ⟨S_, .f32⟩
  | .hbm, ⟨13, _⟩ => ⟨S4096x3072, .f32⟩
  | .hbm, ⟨14, _⟩ => ⟨S4096x3072, .f32⟩
  | .hbm, ⟨15, _⟩ => ⟨S_, .f32⟩
  | .hbm, ⟨16, _⟩ => ⟨S4096x3072, .f32⟩
  | .hbm, ⟨17, _⟩ => ⟨S4096x3072, .f32⟩
  | .hbm, ⟨18, _⟩ => ⟨S4096x3072, .f32⟩
  | .hbm, ⟨19, _⟩ => ⟨S4096x3072, .f32⟩
  | .hbm, ⟨20, _⟩ => ⟨S4096x8x384, .f32⟩
  | .hbm, ⟨21, _⟩ => ⟨S4096x8x384, .f32⟩
  | .hbm, ⟨22, _⟩ => ⟨S_, .f32⟩
  | .hbm, ⟨23, _⟩ => ⟨S4096x8, .f32⟩
  | .hbm, ⟨24, _⟩ => ⟨S4096x8x1, .f32⟩
  | .hbm, ⟨25, _⟩ => ⟨S_, .f32⟩
  | .hbm, ⟨26, _⟩ => ⟨S4096x8x1, .f32⟩
  | .hbm, ⟨27, _⟩ => ⟨S4096x8x1, .f32⟩
  | .hbm, ⟨28, _⟩ => ⟨S_, .f32⟩
  | .hbm, ⟨29, _⟩ => ⟨S4096x8x1, .f32⟩
  | .hbm, ⟨30, _⟩ => ⟨S4096x8x1, .f32⟩
  | .hbm, ⟨31, _⟩ => ⟨S4096x8x1, .f32⟩
  | .hbm, ⟨32, _⟩ => ⟨S4096x8x1, .f32⟩
  | .hbm, ⟨33, _⟩ => ⟨S_, .f32⟩
  | .hbm, ⟨34, _⟩ => ⟨S4096x8x1, .f32⟩
  | .hbm, ⟨35, _⟩ => ⟨S4096x8x1, .f32⟩
  | .hbm, ⟨36, _⟩ => ⟨S4096x8x384, .f32⟩
  | .hbm, ⟨37, _⟩ => ⟨S4096x8x384, .f32⟩
  | .hbm, ⟨38, _⟩ => ⟨S4096x3072, .f32⟩
  | .hbm, ⟨39, _⟩ => ⟨S1x3072, .f32⟩
  | .hbm, ⟨40, _⟩ => ⟨S4096x3072, .f32⟩
  | .hbm, ⟨41, _⟩ => ⟨S4096x3072, .f32⟩
  | .hbm, ⟨42, _⟩ => ⟨S4096x3072, .f32⟩
  | .hbm, ⟨43, _⟩ => ⟨S_, .f32⟩
  | .hbm, ⟨44, _⟩ => ⟨S3072, .f32⟩
  | .hbm, ⟨45, _⟩ => ⟨S1x3072, .f32⟩
  | .hbm, ⟨46, _⟩ => ⟨S4096x3072, .f32⟩
  | .hbm, ⟨47, _⟩ => ⟨S4096x3072, .f32⟩
  | .hbm, ⟨48, _⟩ => ⟨S_, .f32⟩
  | .hbm, ⟨49, _⟩ => ⟨S3072, .f32⟩
  | .hbm, ⟨50, _⟩ => ⟨S4096x8x384, .f32⟩
  | .hbm, ⟨51, _⟩ => ⟨S4096x8x384, .f32⟩
  | .hbm, ⟨52, _⟩ => ⟨S_, .f32⟩
  | .hbm, ⟨53, _⟩ => ⟨S4096x8, .f32⟩
  | .hbm, ⟨54, _⟩ => ⟨S4096x8x1, .f32⟩
  | .hbm, ⟨55, _⟩ => ⟨S4096x8x384, .f32⟩
  | .hbm, ⟨56, _⟩ => ⟨S4096x8x384, .f32⟩
  | .hbm, ⟨57, _⟩ => ⟨S4096x8x1, .f32⟩
  | .hbm, ⟨58, _⟩ => ⟨S_, .f32⟩
  | .hbm, ⟨59, _⟩ => ⟨S4096x8x1, .f32⟩
  | .hbm, ⟨60, _⟩ => ⟨S4096x8x1, .f32⟩
  | .hbm, ⟨61, _⟩ => ⟨S_, .f32⟩
  | .hbm, ⟨62, _⟩ => ⟨S4096x8, .f32⟩
  | .hbm, ⟨63, _⟩ => ⟨S4096x8x384, .f32⟩
  | .hbm, ⟨64, _⟩ => ⟨S4096x8x384, .f32⟩
  | .hbm, ⟨65, _⟩ => ⟨S4096x8x384, .f32⟩
  | .hbm, ⟨66, _⟩ => ⟨S4096x8x384, .f32⟩
  | .hbm, ⟨67, _⟩ => ⟨S4096x8x384, .f32⟩
  | .hbm, ⟨68, _⟩ => ⟨S4096x3072, .f32⟩
  | .hbm, ⟨69, _⟩ => ⟨S4096x3072, .f32⟩
  | .hbm, ⟨70, _⟩ => ⟨S1x3072, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_6 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩

abbrev nD : Nat := 1
abbrev τ : Topo := Topo.v7x

variable {F : FTy → Type} [FloatOps F]
-- ==== RmsF.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== GnormF.lean ====
abbrev S4096x3072 : Shape := ⟨2, ![4096, 3072]⟩
abbrev S4096x13360 : Shape := ⟨2, ![4096, 13360]⟩
abbrev S3072 : Shape := ⟨1, ![3072]⟩
abbrev S4096x5120 : Shape := ⟨2, ![4096, 5120]⟩
abbrev S4096x48 : Shape := ⟨2, ![4096, 48]⟩
abbrev S4096x1024 : Shape := ⟨2, ![4096, 1024]⟩
abbrev S4096x2048 : Shape := ⟨2, ![4096, 2048]⟩
abbrev S4096x8x6 : Shape := ⟨3, ![4096, 8, 6]⟩
abbrev S_ : Shape := ⟨0, ![]⟩
abbrev S4096x16x8 : Shape := ⟨3, ![4096, 16, 8]⟩
abbrev S4096x128 : Shape := ⟨2, ![4096, 128]⟩
abbrev S4096x13440 : Shape := ⟨2, ![4096, 13440]⟩
abbrev S1x3072 : Shape := ⟨2, ![1, 3072]⟩
abbrev S256x3072 : Shape := ⟨2, ![256, 3072]⟩
abbrev S256x384 : Shape := ⟨2, ![256, 384]⟩
abbrev S256 : Shape := ⟨1, ![256]⟩
abbrev S256x1 : Shape := ⟨2, ![256, 1]⟩
abbrev S1x384 : Shape := ⟨2, ![1, 384]⟩

abbrev nBuf : Space → Nat
  | .hbm => 17
  | .vmem => 7
  | .smem => 0
  | _ => 0

abbrev bufTy : (tb : Table) → Fin (tcTables nBuf tb) → BufTy
  | .hbm, ⟨0, _⟩ => ⟨S4096x3072, .f32⟩
  | .hbm, ⟨1, _⟩ => ⟨S4096x13360, .f32⟩
  | .hbm, ⟨2, _⟩ => ⟨S3072, .f32⟩
  | .hbm, ⟨3, _⟩ => ⟨S4096x3072, .f32⟩
  | .hbm, ⟨4, _⟩ => ⟨S4096x5120, .f32⟩
  | .hbm, ⟨5, _⟩ => ⟨S4096x48, .f32⟩
  | .hbm, ⟨6, _⟩ => ⟨S4096x1024, .f32⟩
  | .hbm, ⟨7, _⟩ => ⟨S4096x2048, .f32⟩
  | .hbm, ⟨8, _⟩ => ⟨S4096x2048, .f32⟩
  | .hbm, ⟨9, _⟩ => ⟨S4096x8x6, .f32⟩
  | .hbm, ⟨10, _⟩ => ⟨S_, .i32⟩
  | .hbm, ⟨11, _⟩ => ⟨S_, .f32⟩
  | .hbm, ⟨12, _⟩ => ⟨S4096x16x8, .f32⟩
  | .hbm, ⟨13, _⟩ => ⟨S4096x128, .f32⟩
  | .hbm, ⟨14, _⟩ => ⟨S4096x13440, .f32⟩
  | .hbm, ⟨15, _⟩ => ⟨S1x3072, .f32⟩
  | .hbm, ⟨16, _⟩ => ⟨S4096x3072, .bf16⟩
  | .local _ .vmem, ⟨0, _⟩ => ⟨S256x3072, .f32⟩
  | .local _ .vmem, ⟨1, _⟩ => ⟨S256x3072, .f32⟩
  | .local _ .vmem, ⟨2, _⟩ => ⟨S256x3072, .f32⟩
  | .local _ .vmem, ⟨3, _⟩ => ⟨S256x3072, .f32⟩
  | .local _ .vmem, ⟨4, _⟩ => ⟨S1x3072, .f32⟩
  | .local _ .vmem, ⟨5, _⟩ => ⟨S256x3072, .bf16⟩
  | .local _ .vmem, ⟨6, _⟩ => ⟨S256x3072, .bf16⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GnormFRefIdeal.lean ====
abbrev S4096x3072 : Shape := ⟨2, ![4096, 3072]⟩
abbrev S4096x13360 : Shape := ⟨2, ![4096, 13360]⟩
abbrev S3072 : Shape := ⟨1, ![3072]⟩
abbrev S4096x5120 : Shape := ⟨2, ![4096, 5120]⟩
abbrev S4096x48 : Shape := ⟨2, ![4096, 48]⟩
abbrev S4096x1024 : Shape := ⟨2, ![4096, 1024]⟩
abbrev S4096x2048 : Shape := ⟨2, ![4096, 2048]⟩
abbrev S_ : Shape := ⟨0, ![]⟩
abbrev S4096x8x384 : Shape := ⟨3, ![4096, 8, 384]⟩
abbrev S4096x8 : Shape := ⟨2, ![4096, 8]⟩
abbrev S4096x8x1 : Shape := ⟨3, ![4096, 8, 1]⟩
abbrev S1x3072 : Shape := ⟨2, ![1, 3072]⟩

abbrev nBuf : Space → Nat
  | .hbm => 38
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4096x13360, .f32⟩
  | .hbm, ⟨2, _⟩ => ⟨S3072, .f32⟩
  | .hbm, ⟨3, _⟩ => ⟨S4096x3072, .f32⟩
  | .hbm, ⟨4, _⟩ => ⟨S4096x5120, .f32⟩
  | .hbm, ⟨5, _⟩ => ⟨S4096x48, .f32⟩
  | .hbm, ⟨6, _⟩ => ⟨S4096x1024, .f32⟩
  | .hbm, ⟨7, _⟩ => ⟨S4096x2048, .f32⟩
  | .hbm, ⟨8, _⟩ => ⟨S4096x2048, .f32⟩
  | .hbm, ⟨9, _⟩ => ⟨S4096x3072, .f32⟩
  | .hbm, ⟨10, _⟩ => ⟨S4096x3072, .f32⟩
  | .hbm, ⟨11, _⟩ => ⟨S_, .f32⟩
  | .hbm, ⟨12, _⟩ => ⟨S4096x3072, .f32⟩
  | .hbm, ⟨13, _⟩ => ⟨S4096x3072, .f32⟩
  | .hbm, ⟨14, _⟩ => ⟨S_, .f32⟩
  | .hbm, ⟨15, _⟩ => ⟨S4096x3072, .f32⟩
  | .hbm, ⟨16, _⟩ => ⟨S4096x3072, .f32⟩
  | .hbm, ⟨17, _⟩ => ⟨S4096x3072, .f32⟩
  | .hbm, ⟨18, _⟩ => ⟨S4096x3072, .f32⟩
  | .hbm, ⟨19, _⟩ => ⟨S4096x8x384, .f32⟩
  | .hbm, ⟨20, _⟩ => ⟨S4096x8x384, .f32⟩
  | .hbm, ⟨21, _⟩ => ⟨S_, .f32⟩
  | .hbm, ⟨22, _⟩ => ⟨S4096x8, .f32⟩
  | .hbm, ⟨23, _⟩ => ⟨S4096x8x1, .f32⟩
  | .hbm, ⟨24, _⟩ => ⟨S_, .f32⟩
  | .hbm, ⟨25, _⟩ => ⟨S4096x8x1, .f32⟩
  | .hbm, ⟨26, _⟩ => ⟨S4096x8x1, .f32⟩
  | .hbm, ⟨27, _⟩ => ⟨S_, .f32⟩
  | .hbm, ⟨28, _⟩ => ⟨S4096x8x1, .f32⟩
  | .hbm, ⟨29, _⟩ => ⟨S4096x8x1, .f32⟩
  | .hbm, ⟨30, _⟩ => ⟨S4096x8x1, .f32⟩
  | .hbm, ⟨31, _⟩ => ⟨S4096x8x384, .f32⟩
  | .hbm, ⟨32, _⟩ => ⟨S4096x8x384, .f32⟩
  | .hbm, ⟨33, _⟩ => ⟨S4096x3072, .f32⟩
  | .hbm, ⟨34, _⟩ => ⟨S1x3072, .f32⟩
  | .hbm, ⟨35, _⟩ => ⟨S4096x3072, .f32⟩
  | .hbm, ⟨36, _⟩ => ⟨S4096x3072, .f32⟩
  | .hbm, ⟨37, _⟩ => ⟨S4096x3072, .bf16⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== Proof.Ssd.Block.lean ====
/- What one point of the grid stores, entry by entry, in terms of the point's blocks. -/
module

public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Ssd

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- Column `p` of head `h` in a group's columns. -/
def col (h : Fin 6) (p : Fin 64) : Fin 384 := ⟨h.val * 64 + p.val, by omega⟩

/-- The head a column of a group belongs to. -/
def headOf (q : Fin 384) : Fin 6 := ⟨q.val / 64, by omega⟩

theorem headOf_col (h : Fin 6) (p : Fin 64) : headOf (col h p) = h := Fin.ext (by simp only [headOf, col]; omega)

section Tiles

variable (T0 T1 T2 T3 T4 T5 : FVec Ideal S256x64 .f32) (X : Fin 256 → Fin 384 → EReal)
  (g0 : ∀ s p, T0 (ix2 s p) = X s (col 0 p)) (g1 : ∀ s p, T1 (ix2 s p) = X s (col 1 p))
  (g2 : ∀ s p, T2 (ix2 s p) = X s (col 2 p)) (g3 : ∀ s p, T3 (ix2 s p) = X s (col 3 p))
  (g4 : ∀ s p, T4 (ix2 s p) = X s (col 4 p)) (g5 : ∀ s p, T5 (ix2 s p) = X s (col 5 p))

/-- Six tiles of columns, one for each head. -/
abbrev six : List (View.Piece (Elt Ideal) S256x384 .f32) :=
  [⟨Rect.unit ![0, 320] ![256, 64] inb_S256x384_S256x64_0_320, T5⟩, ⟨Rect.unit ![0, 256] ![256, 64] inb_S256x384_S256x64_0_256, T4⟩,
    ⟨Rect.unit ![0, 192] ![256, 64] inb_S256x384_S256x64_0_192, T3⟩, ⟨Rect.unit ![0, 128] ![256, 64] inb_S256x384_S256x64_0_128, T2⟩,
    ⟨Rect.unit ![0, 64] ![256, 64] inb_S256x384_S256x64_0_64, T1⟩, ⟨Rect.unit ![0, 0] ![256, 64] inb_S256x384_S256x64_0_0, T0⟩]

include g0 g1 g2 g3 g4 g5

set_option maxHeartbeats 1000000 in
/-- Six tiles of columns stored one after another are one array over all columns. -/
theorem six_eq (y : S256x384.Idx) : View.canon (Val := Elt Ideal) (six T0 T1 T2 T3 T4 T5) y = X (y 0) (y 1) := by
  have close : ∀ (T : FVec Ideal S256x64 .f32) (h : Fin 6), (∀ s p, T (ix2 s p) = X s (col h p)) → ∀ x : S256x64.Idx,
      (y 0).val = (x 0).val → (y 1).val = h.val * 64 + (x 1).val → T x = X (y 0) (y 1) := by
    intro T h g x e0 e1
    have hx : x = ix2 (x 0) (x 1) := by funext a; fin_cases a <;> rfl
    have h0 : y 0 = x 0 := Fin.ext e0
    have h1 : y 1 = col h (x 1) := Fin.ext e1
    rw [hx, h0, h1]
    exact g _ _
  canon_tiles x e
  · exact close T5 5 g5 x e0 (by simpa using e1)
  · exact close T4 4 g4 x e0 (by simpa using e1)
  · exact close T3 3 g3 x e0 (by simpa using e1)
  · exact close T2 2 g2 x e0 (by simpa using e1)
  · exact close T1 1 g1 x e0 (by simpa using e1)
  · exact close T0 0 g0 x e0 (by simpa using e1)

/-- The same read back whole. -/
theorem tiles_eq : (View.whole cc0_scratch1).readCov (Val := Elt Ideal) (six T0 T1 T2 T3 T4 T5)
      (Rect.unit (s := S256x384) ![0, 0] ![256, 384] inb_S256x384_S256x384_0_0).toLoadRect = fun y => X (y 0) (y 1) := by
  rw [View.readCov_eq_canon']
  funext y
  have hy : ((Rect.unit (s := S256x384) ![0, 0] ![256, 384] inb_S256x384_S256x384_0_0).toLoadRect).idx y = y := by
    idx_ext
  exact (congrArg _ hy).trans (six_eq T0 T1 T2 T3 T4 T5 X g0 g1 g2 g3 g4 g5 y)

end Tiles

section Terms

variable (x0 x5 x6 x9 : FVec Ideal S256x384 .f32) (x1 x2 : FVec Ideal S256x128 .f32) (x3 : FVec Ideal S1x256x8 .f32)
  (x4 : FVec Ideal S8x256 .f32) (x7 : FVec Ideal S1x384 .f32) (x8 : FVec Ideal S1x1x128x384 .f32) (D : FVec Ideal S128x384 .f32)

/-- The decay of head `h` from row `s` to row `l`, the running sums at `l` read along rows. -/
def segL (h : Fin 6) (l s : Fin 256) : EReal :=
  Scalar.select (IntOp.cmpi .sge (BitVec.ofNat 32 l.val) (BitVec.ofNat 32 s.val))
    (Ideal.exp (min (x3 (ix3 0 l (h.castLE (by decide))) - x4 (ix2 (h.castLE (by decide)) s)) 0)) 0

/-- The same decay, the running sums at `s` read along rows. -/
def segR (h : Fin 6) (s l : Fin 256) : EReal :=
  Scalar.select (IntOp.cmpi .sle (BitVec.ofNat 32 s.val) (BitVec.ofNat 32 l.val))
    (Ideal.exp (min (x4 (ix2 (h.castLE (by decide)) l) - x3 (ix3 0 s (h.castLE (by decide)))) 0)) 0

/-- The product of the cotangent's row `l` and the input's row `s` in head `h`, decayed. -/
def pairL (h : Fin 6) (l s : Fin 256) : EReal :=
  (∑ p : Fin 64, x9 (ix2 l (col h p)) * (x0 (ix2 s (col h p)) * x5 (ix2 s (col h p)))) * segL x3 x4 h l s

/-- The same of row `s` of the input and row `l` of the cotangent. -/
def pairR (h : Fin 6) (s l : Fin 256) : EReal :=
  (∑ p : Fin 64, (x0 (ix2 s (col h p)) * x5 (ix2 s (col h p))) * x9 (ix2 l (col h p))) * segR x3 x4 h s l

/-- The gradient of the input's product with the step, through the places of the same chunk. -/
def dxDiag (s : Fin 256) (q : Fin 384) : EReal :=
  ∑ l : Fin 256, ((∑ n : Fin 128, x1 (ix2 s n) * x2 (ix2 l n)) * segR x3 x4 (headOf q) s l) * x9 (ix2 l q)

/-- The gradient of the input's product with the step. -/
def dxTerm (s : Fin 256) (q : Fin 384) : EReal :=
  (∑ n : Fin 128, x1 (ix2 s n) * D (ix2 n q)) * Ideal.exp (x6 (ix2 255 q) - x6 (ix2 s q)) + dxDiag x9 x1 x2 x3 x4 s q

/-- What a point stores of the gradient of B. -/
def dbTerm (s : Fin 256) (n : Fin 128) : EReal :=
  (∑ q : Fin 384, ((x0 (ix2 s q) * x5 (ix2 s q)) * Ideal.exp (x6 (ix2 255 q) - x6 (ix2 s q))) * D (ix2 n q))
    + ∑ l : Fin 256, (∑ h : Fin 6, pairR x0 x5 x9 x3 x4 h s l) * x2 (ix2 l n)

/-- What a point stores of the gradient of C. -/
def dcTerm (l : Fin 256) (n : Fin 128) : EReal :=
  (∑ q : Fin 384, (x9 (ix2 l q) * Ideal.exp (x6 (ix2 l q))) * x8 (ix4 0 0 n q))
    + ∑ s : Fin 256, (∑ h : Fin 6, pairL x0 x5 x9 x3 x4 h l s) * x1 (ix2 s n)

/-- The gradient of the state a point hands to the chunk before. -/
def stateTerm (n : Fin 128) (q : Fin 384) : EReal :=
  Ideal.exp (x6 (ix2 255 q)) * D (ix2 n q) + ∑ l : Fin 256, x2 (ix2 l n) * (x9 (ix2 l q) * Ideal.exp (x6 (ix2 l q)))

/-- What a point stores of the gradient of the step. -/
def ddtTerm (s : Fin 256) (q : Fin 384) : EReal := dxTerm x6 x9 x1 x2 x3 x4 D s q * x0 (ix2 s q)

/-- What a point stores of the gradient of the input. -/
def dxsTerm (s : Fin 256) (q : Fin 384) : EReal :=
  dxTerm x6 x9 x1 x2 x3 x4 D s q * x5 (ix2 s q) + x9 (ix2 s q) * x7 (ix2 0 q)

set_option maxHeartbeats 1000000 in
theorem tile0 (s : Fin 256) (p : Fin 64) : k0_pay41 (F := Ideal) (k0_pay22 x9) (k0_pay40 k0_pay6 (k0_pay7 x3) (k0_pay8 x4) (k0_pay17 x1 x2)) (ix2 s p) = dxDiag x9 x1 x2 x3 x4 s (col 0 p) := by
  simp only [dxDiag, headOf_col]
  pointwise [k0_pay41, k0_pay40, k0_pay39, segR, col, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay34, k0_pay35, k0_pay36, k0_pay37, k0_pay38, k0_pay47, k0_pay48, k0_pay49, k0_pay58, k0_pay59, k0_pay60, k0_pay70, k0_pay71, k0_pay72, k0_pay82, k0_pay83, k0_pay84, k0_pay85, k0_pay93, k0_pay94, k0_pay95]
  rfl

set_option maxHeartbeats 1000000 in
theorem tile1 (s : Fin 256) (p : Fin 64) : k0_pay52 (F := Ideal) k0_pay6 (k0_pay17 x1 x2) (k0_pay22 x9) (k0_pay50 (k0_pay7 x3) (k0_pay8 x4)) (FloatOps.ofBits FTy.f32 0#32) (ix2 s p) = dxDiag x9 x1 x2 x3 x4 s (col 1 p) := by
  simp only [dxDiag, headOf_col]
  pointwise [k0_pay52, k0_pay51, k0_pay50, segR, col, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay34, k0_pay35, k0_pay36, k0_pay37, k0_pay38, k0_pay47, k0_pay48, k0_pay49, k0_pay58, k0_pay59, k0_pay60, k0_pay70, k0_pay71, k0_pay72, k0_pay82, k0_pay83, k0_pay84, k0_pay85, k0_pay93, k0_pay94, k0_pay95]
  rfl

set_option maxHeartbeats 1000000 in
theorem tile2 (s : Fin 256) (p : Fin 64) : k0_pay64 (F := Ideal) k0_pay6 (k0_pay17 x1 x2) (k0_pay22 x9) (k0_pay61 (k0_pay7 x3) (k0_pay8 x4)) k0_pay62 (ix2 s p) = dxDiag x9 x1 x2 x3 x4 s (col 2 p) := by
  simp only [dxDiag, headOf_col]
  pointwise [k0_pay64, k0_pay63, k0_pay62, k0_pay61, segR, col, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay34, k0_pay35, k0_pay36, k0_pay37, k0_pay38, k0_pay47, k0_pay48, k0_pay49, k0_pay58, k0_pay59, k0_pay60, k0_pay70, k0_pay71, k0_pay72, k0_pay82, k0_pay83, k0_pay84, k0_pay85, k0_pay93, k0_pay94, k0_pay95]
  rfl

set_option maxHeartbeats 1000000 in
theorem tile3 (s : Fin 256) (p : Fin 64) : k0_pay76 (F := Ideal) k0_pay6 (k0_pay17 x1 x2) (k0_pay22 x9) (k0_pay73 (k0_pay8 x4)) (k0_pay74 (k0_pay7 x3)) (ix2 s p) = dxDiag x9 x1 x2 x3 x4 s (col 3 p) := by
  simp only [dxDiag, headOf_col]
  pointwise [k0_pay76, k0_pay75, k0_pay74, k0_pay73, segR, col, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay34, k0_pay35, k0_pay36, k0_pay37, k0_pay38, k0_pay47, k0_pay48, k0_pay49, k0_pay58, k0_pay59, k0_pay60, k0_pay70, k0_pay71, k0_pay72, k0_pay82, k0_pay83, k0_pay84, k0_pay85, k0_pay93, k0_pay94, k0_pay95]
  rfl

set_option maxHeartbeats 1000000 in
theorem tile4 (s : Fin 256) (p : Fin 64) : k0_pay87 (F := Ideal) k0_pay6 (k0_pay17 x1 x2) (k0_pay22 x9) (k0_pay82 (k0_pay7 x3)) (k0_pay83 (k0_pay8 x4)) (ix2 s p) = dxDiag x9 x1 x2 x3 x4 s (col 4 p) := by
  simp only [dxDiag, headOf_col]
  pointwise [k0_pay87, k0_pay86, segR, col, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay34, k0_pay35, k0_pay36, k0_pay37, k0_pay38, k0_pay47, k0_pay48, k0_pay49, k0_pay58, k0_pay59, k0_pay60, k0_pay70, k0_pay71, k0_pay72, k0_pay82, k0_pay83, k0_pay84, k0_pay85, k0_pay93, k0_pay94, k0_pay95]
  rfl

set_option maxHeartbeats 1000000 in
theorem tile5 (s : Fin 256) (p : Fin 64) : k0_pay97 (F := Ideal) k0_pay6 (k0_pay17 x1 x2) (k0_pay22 x9) (k0_pay93 (k0_pay7 x3)) (k0_pay94 (k0_pay8 x4)) (ix2 s p) = dxDiag x9 x1 x2 x3 x4 s (col 5 p) := by
  simp only [dxDiag, headOf_col]
  pointwise [k0_pay97, k0_pay96, segR, col, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay34, k0_pay35, k0_pay36, k0_pay37, k0_pay38, k0_pay47, k0_pay48, k0_pay49, k0_pay58, k0_pay59, k0_pay60, k0_pay70, k0_pay71, k0_pay72, k0_pay82, k0_pay83, k0_pay84, k0_pay85, k0_pay93, k0_pay94, k0_pay95]
  rfl

end Terms

/-- The gradient of the state that the point finds, left by the chunk after: zero at the last chunk. -/
def carried (c : Dev nD) (t : Fin cfg0.N) : FVec Ideal S128x384 .f32 :=
  if t.val % 16 = 0 then k0_pay3 else (outsAt0 m c (t.val - 1) (by have := t.isLt; omega)).2.2.2.2.2.2.2.2

theorem carried_first (c : Dev nD) (t : Fin cfg0.N) (h : t.val % 16 = 0) : carried m c t = k0_pay3 := if_pos h

theorem carried_later (c : Dev nD) (t : Fin cfg0.N) (h : ¬t.val % 16 = 0) :
    carried m c t = (outsAt0 m c (t.val - 1) (by have := t.isLt; omega)).2.2.2.2.2.2.2.2 := if_neg h

set_option maxHeartbeats 2000000 in
/-- What a point stores of the gradient of C, entry by entry. -/
theorem dc_out (c : Dev nD) (t : Fin cfg0.N) (l : Fin 256) (n : Fin 128) : (outsAt0 m c t.val t.isLt).2.2.1 (ix2 l n) = dcTerm (X0_0 m c t) (iblk m c 5 t) (iblk m c 6 t) (iblk m c 9 t) (iblk m c 1 t) (iblk m c 3 t) (iblk m c 4 t) (iblk m c 8 t) l n := by
  by_cases h : t.val % 16 = 0
  · rw [outsAt0_A m c t h]
    frame_open
    simp (disch := decide) only [↓ View.readCov_skip, ↓ View.readCov_cons_toLoadRect, ↓ View.readCov_fill]
    frame_out
    try simp only [read_unread_whole]
    unfold dcTerm
    simp only [Fin.sum_univ_six]
    pointwise [k0_pay101, k0_pay98, k0_pay90, k0_pay88, k0_pay79, k0_pay77, k0_pay67, k0_pay65, k0_pay55, k0_pay53, k0_pay44, k0_pay42, pairL, segL, col, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay34, k0_pay35, k0_pay36, k0_pay37, k0_pay38, k0_pay47, k0_pay48, k0_pay49, k0_pay58, k0_pay59, k0_pay60, k0_pay70, k0_pay71, k0_pay72, k0_pay82, k0_pay83, k0_pay84, k0_pay85, k0_pay93, k0_pay94, k0_pay95]
    rfl
  · rw [outsAt0_B m c t h]
    frame_open
    simp (disch := decide) only [↓ View.readCov_skip, ↓ View.readCov_cons_toLoadRect, ↓ View.readCov_fill]
    frame_out
    try simp only [read_unread_whole]
    unfold dcTerm
    simp only [Fin.sum_univ_six]
    pointwise [k0_pay101, k0_pay98, k0_pay90, k0_pay88, k0_pay79, k0_pay77, k0_pay67, k0_pay65, k0_pay55, k0_pay53, k0_pay44, k0_pay42, pairL, segL, col, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay34, k0_pay35, k0_pay36, k0_pay37, k0_pay38, k0_pay47, k0_pay48, k0_pay49, k0_pay58, k0_pay59, k0_pay60, k0_pay70, k0_pay71, k0_pay72, k0_pay82, k0_pay83, k0_pay84, k0_pay85, k0_pay93, k0_pay94, k0_pay95]
    rfl

set_option maxHeartbeats 2000000 in
/-- What a point stores of the gradient of B, entry by entry. -/
theorem db_out (c : Dev nD) (t : Fin cfg0.N) (s : Fin 256) (n : Fin 128) : (outsAt0 m c t.val t.isLt).2.1 (ix2 s n) = dbTerm (X0_0 m c t) (iblk m c 5 t) (iblk m c 6 t) (iblk m c 9 t) (iblk m c 2 t) (iblk m c 3 t) (iblk m c 4 t) (carried m c t) s n := by
  by_cases h : t.val % 16 = 0
  · rw [outsAt0_A m c t h, carried_first m c t h]
    frame_open
    simp (disch := decide) only [↓ View.readCov_skip, ↓ View.readCov_cons_toLoadRect, ↓ View.readCov_fill]
    frame_out
    try simp only [read_unread_whole]
    unfold dbTerm
    simp only [Fin.sum_univ_six]
    pointwise [k0_pay103, k0_pay102, k0_pay99, k0_pay96, k0_pay91, k0_pay89, k0_pay86, k0_pay80, k0_pay78, k0_pay75, k0_pay68, k0_pay66, k0_pay63, k0_pay56, k0_pay54, k0_pay51, k0_pay45, k0_pay43, k0_pay39, k0_pay50, k0_pay61, k0_pay62, k0_pay73, k0_pay74, pairR, segR, col, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay34, k0_pay35, k0_pay36, k0_pay37, k0_pay38, k0_pay47, k0_pay48, k0_pay49, k0_pay58, k0_pay59, k0_pay60, k0_pay70, k0_pay71, k0_pay72, k0_pay82, k0_pay83, k0_pay84, k0_pay85, k0_pay93, k0_pay94, k0_pay95]
    rfl
  · rw [outsAt0_B m c t h, carried_later m c t h]
    frame_open
    simp (disch := decide) only [↓ View.readCov_skip, ↓ View.readCov_cons_toLoadRect, ↓ View.readCov_fill]
    frame_out
    try simp only [read_unread_whole]
    unfold dbTerm
    simp only [Fin.sum_univ_six]
    pointwise [k0_pay103, k0_pay102, k0_pay99, k0_pay96, k0_pay91, k0_pay89, k0_pay86, k0_pay80, k0_pay78, k0_pay75, k0_pay68, k0_pay66, k0_pay63, k0_pay56, k0_pay54, k0_pay51, k0_pay45, k0_pay43, k0_pay39, k0_pay50, k0_pay61, k0_pay62, k0_pay73, k0_pay74, pairR, segR, col, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay34, k0_pay35, k0_pay36, k0_pay37, k0_pay38, k0_pay47, k0_pay48, k0_pay49, k0_pay58, k0_pay59, k0_pay60, k0_pay70, k0_pay71, k0_pay72, k0_pay82, k0_pay83, k0_pay84, k0_pay85, k0_pay93, k0_pay94, k0_pay95]
    rfl

set_option maxHeartbeats 2000000 in
/-- What a point stores of the gradient of the step, column by column. -/
theorem ddt_out (c : Dev nD) (t : Fin cfg0.N) (s : Fin 256) (q : Fin 384) : (outsAt0 m c t.val t.isLt).2.2.2.2.1 (ix2 s q) = ddtTerm (X0_0 m c t) (iblk m c 6 t) (iblk m c 9 t) (iblk m c 1 t) (iblk m c 2 t) (iblk m c 3 t) (iblk m c 4 t) (carried m c t) s q := by
  by_cases h : t.val % 16 = 0
  · rw [outsAt0_A m c t h, carried_first m c t h]
    frame_open
    simp (disch := decide) only [↓ View.readCov_skip, ↓ View.readCov_cons_toLoadRect, ↓ View.readCov_fill]
    frame_out
    try simp only [read_unread_whole]
    rw [tiles_eq _ _ _ _ _ _ (dxDiag (iblk m c 9 t) (iblk m c 1 t) (iblk m c 2 t) (iblk m c 3 t) (iblk m c 4 t))
      (tile0 (iblk m c 9 t) (iblk m c 1 t) (iblk m c 2 t) (iblk m c 3 t) (iblk m c 4 t)) (tile1 (iblk m c 9 t) (iblk m c 1 t) (iblk m c 2 t) (iblk m c 3 t) (iblk m c 4 t)) (tile2 (iblk m c 9 t) (iblk m c 1 t) (iblk m c 2 t) (iblk m c 3 t) (iblk m c 4 t)) (tile3 (iblk m c 9 t) (iblk m c 1 t) (iblk m c 2 t) (iblk m c 3 t) (iblk m c 4 t)) (tile4 (iblk m c 9 t) (iblk m c 1 t) (iblk m c 2 t) (iblk m c 3 t) (iblk m c 4 t)) (tile5 (iblk m c 9 t) (iblk m c 1 t) (iblk m c 2 t) (iblk m c 3 t) (iblk m c 4 t))]
    pointwise [k0_pay107, k0_pay104, ddtTerm, dxTerm, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay34, k0_pay35]
  · rw [outsAt0_B m c t h, carried_later m c t h]
    frame_open
    simp (disch := decide) only [↓ View.readCov_skip, ↓ View.readCov_cons_toLoadRect, ↓ View.readCov_fill]
    frame_out
    try simp only [read_unread_whole]
    rw [tiles_eq _ _ _ _ _ _ (dxDiag (iblk m c 9 t) (iblk m c 1 t) (iblk m c 2 t) (iblk m c 3 t) (iblk m c 4 t))
      (tile0 (iblk m c 9 t) (iblk m c 1 t) (iblk m c 2 t) (iblk m c 3 t) (iblk m c 4 t)) (tile1 (iblk m c 9 t) (iblk m c 1 t) (iblk m c 2 t) (iblk m c 3 t) (iblk m c 4 t)) (tile2 (iblk m c 9 t) (iblk m c 1 t) (iblk m c 2 t) (iblk m c 3 t) (iblk m c 4 t)) (tile3 (iblk m c 9 t) (iblk m c 1 t) (iblk m c 2 t) (iblk m c 3 t) (iblk m c 4 t)) (tile4 (iblk m c 9 t) (iblk m c 1 t) (iblk m c 2 t) (iblk m c 3 t) (iblk m c 4 t)) (tile5 (iblk m c 9 t) (iblk m c 1 t) (iblk m c 2 t) (iblk m c 3 t) (iblk m c 4 t))]
    pointwise [k0_pay107, k0_pay104, ddtTerm, dxTerm, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay34, k0_pay35]

set_option maxHeartbeats 2000000 in
/-- What a point stores of the gradient of the input. -/
theorem dxs_out (c : Dev nD) (t : Fin cfg0.N) (s : Fin 256) (q : Fin 384) : (outsAt0 m c t.val t.isLt).1 (ix2 s q) = dxsTerm (iblk m c 5 t) (iblk m c 6 t) (iblk m c 9 t) (iblk m c 1 t) (iblk m c 2 t) (iblk m c 3 t) (iblk m c 4 t) (iblk m c 7 t) (carried m c t) s q := by
  by_cases h : t.val % 16 = 0
  · rw [outsAt0_A m c t h, carried_first m c t h]
    frame_open
    simp (disch := decide) only [↓ View.readCov_skip, ↓ View.readCov_cons_toLoadRect, ↓ View.readCov_fill]
    frame_out
    try simp only [read_unread_whole]
    rw [tiles_eq _ _ _ _ _ _ (dxDiag (iblk m c 9 t) (iblk m c 1 t) (iblk m c 2 t) (iblk m c 3 t) (iblk m c 4 t))
      (tile0 (iblk m c 9 t) (iblk m c 1 t) (iblk m c 2 t) (iblk m c 3 t) (iblk m c 4 t)) (tile1 (iblk m c 9 t) (iblk m c 1 t) (iblk m c 2 t) (iblk m c 3 t) (iblk m c 4 t)) (tile2 (iblk m c 9 t) (iblk m c 1 t) (iblk m c 2 t) (iblk m c 3 t) (iblk m c 4 t)) (tile3 (iblk m c 9 t) (iblk m c 1 t) (iblk m c 2 t) (iblk m c 3 t) (iblk m c 4 t)) (tile4 (iblk m c 9 t) (iblk m c 1 t) (iblk m c 2 t) (iblk m c 3 t) (iblk m c 4 t)) (tile5 (iblk m c 9 t) (iblk m c 1 t) (iblk m c 2 t) (iblk m c 3 t) (iblk m c 4 t))]
    pointwise [k0_pay1, k0_pay109, k0_pay104, k0_pay110, dxsTerm, dxTerm, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay34, k0_pay35]
  · rw [outsAt0_B m c t h, carried_later m c t h]
    frame_open
    simp (disch := decide) only [↓ View.readCov_skip, ↓ View.readCov_cons_toLoadRect, ↓ View.readCov_fill]
    frame_out
    try simp only [read_unread_whole]
    rw [tiles_eq _ _ _ _ _ _ (dxDiag (iblk m c 9 t) (iblk m c 1 t) (iblk m c 2 t) (iblk m c 3 t) (iblk m c 4 t))
      (tile0 (iblk m c 9 t) (iblk m c 1 t) (iblk m c 2 t) (iblk m c 3 t) (iblk m c 4 t)) (tile1 (iblk m c 9 t) (iblk m c 1 t) (iblk m c 2 t) (iblk m c 3 t) (iblk m c 4 t)) (tile2 (iblk m c 9 t) (iblk m c 1 t) (iblk m c 2 t) (iblk m c 3 t) (iblk m c 4 t)) (tile3 (iblk m c 9 t) (iblk m c 1 t) (iblk m c 2 t) (iblk m c 3 t) (iblk m c 4 t)) (tile4 (iblk m c 9 t) (iblk m c 1 t) (iblk m c 2 t) (iblk m c 3 t) (iblk m c 4 t)) (tile5 (iblk m c 9 t) (iblk m c 1 t) (iblk m c 2 t) (iblk m c 3 t) (iblk m c 4 t))]
    pointwise [k0_pay1, k0_pay109, k0_pay104, k0_pay110, dxsTerm, dxTerm, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay34, k0_pay35]

set_option maxHeartbeats 2000000 in
/-- The gradient of the state a point leaves for the chunk before. -/
theorem state_out (c : Dev nD) (t : Fin cfg0.N) (n : Fin 128) (q : Fin 384) : (outsAt0 m c t.val t.isLt).2.2.2.2.2.2.2.2 (ix2 n q) = stateTerm (iblk m c 6 t) (iblk m c 9 t) (iblk m c 2 t) (carried m c t) n q := by
  by_cases h : t.val % 16 = 0
  · rw [outsAt0_A m c t h, carried_first m c t h]
    frame_open
    simp (disch := decide) only [↓ View.readCov_skip, ↓ View.readCov_cons_toLoadRect, ↓ View.readCov_fill]
    frame_out
    try simp only [read_unread_whole]
    pointwise [k0_pay2, stateTerm, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay34, k0_pay35]
  · rw [outsAt0_B m c t h, carried_later m c t h]
    frame_open
    simp (disch := decide) only [↓ View.readCov_skip, ↓ View.readCov_cons_toLoadRect, ↓ View.readCov_fill]
    frame_out
    try simp only [read_unread_whole]
    pointwise [k0_pay2, stateTerm, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay34, k0_pay35]

end Cert.KernelIdeal.Ssd

end
-- ==== Proof.Ssd.Places.lean ====
/- Where the entries of the wide arrays lie: rows by chunk, columns by group and head. -/
module

public import Idealize.ShloMosaic.Lib.Pointwise

@[expose] public section

namespace Cert.Ssd

/-- The row of place `s` of chunk `k`. -/
def row (k : Fin 16) (s : Fin 256) : Fin 4096 := ⟨k.val * 256 + s.val, by omega⟩

/-- The head `h` of group `g`, among all heads. -/
def head (g : Fin 8) (h : Fin 6) : Fin 48 := ⟨g.val * 6 + h.val, by omega⟩

/-- The column `p` of head `h` of group `g`, among all columns. -/
def wideCol (g : Fin 8) (h : Fin 6) (p : Fin 64) : Fin 3072 := ⟨g.val * 384 + h.val * 64 + p.val, by omega⟩

/-- The state column `n` of group `g`. -/
def stateCol (g : Fin 8) (n : Fin 128) : Fin 1024 := ⟨g.val * 128 + n.val, by omega⟩

end Cert.Ssd
-- ==== Proof.Ssd.Host.lean ====
/- What the kernel's host lines hand to the region, by the reference's own stages. -/
module

public import proofs.«01_k».proof.Proof.Gen.KernelIdeal.Value
public import proofs.«01_k».proof.Proof.Ssd.Places
public import proofs.«01_k».proof.Proof.Gen.ReferenceIdeal.Read
public import Idealize.ShloMosaic.Lib.Pipeline.ValueKit
public import Idealize.ShloMosaic.Lib.Pointwise
public import Idealize.ShloMosaic.Lib.StableHlo.RunRead

@[expose] public section

set_option maxRecDepth 16384

noncomputable section

namespace Cert.KernelIdeal.Ssd

open Idealize.ShloMosaic Idealize.ShloMosaic.TcCoe Idealize.SL.Sem
open Idealize.ShloMosaic.Pipeline (Dat)
open Cert.KernelIdeal Cert.KernelIdeal.Gen
open Cert.Ssd (row head wideCol stateCol)

variable (m : (ℓ : Loc nD τ sig) → Buf (Elt Ideal) ℓ) (c : Dev nD)

/-- The input. -/
abbrev X0 : FVec Ideal S4096x3072 .f32 := m ((c : Thread nD τ).loc main_arg0)
/-- B. -/
abbrev X1 : FVec Ideal S4096x1024 .f32 := m ((c : Thread nD τ).loc main_arg1)
/-- C. -/
abbrev X2 : FVec Ideal S4096x1024 .f32 := m ((c : Thread nD τ).loc main_arg2)
/-- The step. -/
abbrev X3 : FVec Ideal S4096x48 .f32 := m ((c : Thread nD τ).loc main_arg3)
/-- The logarithm of the decay rate. -/
abbrev X4 : FVec Ideal S48 .f32 := m ((c : Thread nD τ).loc main_arg4)
/-- D. -/
abbrev X5 : FVec Ideal S48 .f32 := m ((c : Thread nD τ).loc main_arg5)
/-- The cotangent. -/
abbrev X6 : FVec Ideal S4096x3072 .f32 := m ((c : Thread nD τ).loc main_arg6)

/-- The running sums of the log decays, by the reference's stage. -/
abbrev S15 : FVec Ideal S8x6x16x256 .f32 := Cert.ReferenceIdeal.Read.val_main_v15 (F := Ideal) (X3 m c) (X4 m c)
/-- The states at the chunks' starts, by the reference's stage. -/
abbrev H60 : FVec Ideal S16x8x6x64x128 .f32 := Cert.ReferenceIdeal.Read.val_main_v60 (F := Ideal) (X0 m c) (X1 m c) (X3 m c) (X4 m c)

open Cert.ReferenceIdeal.Read in
set_option maxRecDepth 65536 in
set_option maxHeartbeats 2000000 in
theorem V43 : V m c main_v43 = shapeCast S16x8x128x384 (transpose S16x8x128x6x64 [0, 1, 4, 2, 3] (H60 m c) transposes_S16x8x6x64x128_S16x8x128x6x64_0_1_4_2_3)
    shapeCasts_S16x8x128x6x64_S16x8x128x384 := by
  unfold V
  simp only [List.flatten_cons, List.flatten_nil, List.append_nil]
  after_reads_simp
  simp -implicitDefEqProofs only [StableHlo.TRef.toBuf, StableHlo.TRef.ofBuf, cast_cast, cast_eq]
  unfold H60
  simp only [val_main_v0, val_main_v1, val_main_v2, val_main_v3, val_main_v4, val_main_v5, val_main_v6, val_main_v7, val_main_v8, val_main_v9, val_main_v10,
    val_main_v11, val_main_v12, val_main_v13, val_main_v14, val_main_call0_call0_cst, val_main_call0_call0_v0, val_main_v15, val_main_v16,
    val_main_v17, val_main_c, val_main_v18, val_main_call1_v0, val_main_call1_c, val_main_call1_v1, val_main_call1_v2, val_main_call1_v3,
    val_main_call1_v4, val_main_call1_c_0, val_main_call1_v5, val_main_v19, val_main_cst, val_main_call2_v0, val_main_call2_v1, val_main_call2_v2,
    val_main_v20, val_main_call3_call0_cst, val_main_call3_call0_v0, val_main_v21, val_main_c_0, val_main_v22, val_main_call4_v0, val_main_call4_c,
    val_main_call4_v1, val_main_call4_v2, val_main_call4_v3, val_main_call4_v4, val_main_call4_c_0, val_main_call4_v5, val_main_v23, val_main_cst_1,
    val_main_call5_v0, val_main_call5_v1, val_main_call5_v2, val_main_v24, val_main_v25, val_main_v26, val_main_v27, val_main_v28, val_main_v29,
    val_main_v30, val_main_v31, val_main_v32, val_main_v33, val_main_v34, val_main_v35, val_main_v36, val_main_v37, val_main_v38, val_main_v39,
    val_main_v40, val_main_v41, val_main_cst_2, val_main_v42, val_main_v43, val_main_cst_3, val_main_v44, val_main_v45, val_main_v46, val_main_c_4,
    val_main_call6_v0, val_main_v47, val_main_v48, val_main_v49, val_main_c_5, val_main_v50, val_main_call7_v0, val_main_call7_c, val_main_call7_v1,
    val_main_call7_v2, val_main_call7_v3, val_main_call7_v4, val_main_call7_c_0, val_main_call7_v5, val_main_v51, val_main_cst_6, val_main_call8_v0,
    val_main_call8_v1, val_main_call8_v2, val_main_v52, val_main_call9_call0_cst, val_main_call9_call0_v0, val_main_v53, val_main_c_7, val_main_v54,
    val_main_call10_v0, val_main_call10_c, val_main_call10_v1, val_main_call10_v2, val_main_call10_v3, val_main_call10_v4, val_main_call10_c_0,
    val_main_call10_v5, val_main_v55, val_main_cst_8, val_main_call11_v0, val_main_call11_v1, val_main_call11_v2, val_main_v56, val_main_v57,
    val_main_v58, val_main_v59, val_main_v60]
  rfl

section Layouts

variable (y : FVec Ideal S8x6x16x256 .f32)

/-- An array of one entry for each place and head, with a row for every place. -/
abbrev S45 : FVec Ideal S4096x48 .f32 :=
  shapeCast S4096x48 (transpose S16x256x8x6 [2, 3, 0, 1] y transposes_S8x6x16x256_S16x256x8x6_2_3_0_1) shapeCasts_S16x256x8x6_S4096x48

/-- The same by groups, the heads of a group padded to eight. -/
abbrev S48p : FVec Ideal S8x4096x8 .f32 :=
  pad S8x4096x8 ![0, 0, 0] ![0, 0, 2] ![0, 0, 0] (transpose S8x4096x6 [1, 0, 2] (shapeCast S4096x8x6 (S45 y) shapeCasts_S4096x48_S4096x8x6) transposes_S4096x8x6_S8x4096x6_1_0_2)
    (sitofp .f32 (constantI S_ 32 0#32)) pads_S8x4096x6_S8x4096x8_000_000_020 h_S_

/-- The same with a column for every place, the rows padded. -/
abbrev S51p : FVec Ideal S128x4096 .f32 :=
  pad S128x4096 ![0, 0] ![64, 0] ![0, 0]
    (shapeCast S64x4096 (transpose S8x8x4096 [0, 2, 1] (S48p y) transposes_S8x4096x8_S8x8x4096_0_2_1) shapeCasts_S8x8x4096_S64x4096)
    (sitofp .f32 (constantI S_ 32 0#32)) pads_S64x4096_S128x4096_0640_000 h_S_

/-- An array of one entry for each place and head, repeated over the head's columns. -/
abbrev spread (w : FVec Ideal S4096x48 .f32) : FVec Ideal S4096x3072 .f32 :=
  shapeCast S4096x3072 (broadcastInDim S4096x48x64 ![0, 1] bcast_S4096x48_S4096x48x64_0_1 w) shapeCasts_S4096x48x64_S4096x3072

/-- An array of one entry for each head, repeated over the head's columns. -/
abbrev spreadRow (w : FVec Ideal S48 .f32) : FVec Ideal S1x3072 .f32 :=
  broadcastInDim S1x3072 ![1] bcast_S3072_S1x3072_1 (shapeCast S3072 (broadcastInDim S48x64 ![0] bcast_S48_S48x64_0 w) shapeCasts_S48x64_S3072)

/-- The input, B and C side by side. -/
abbrev sideBySide (x : FVec Ideal S4096x3072 .f32) (b e : FVec Ideal S4096x1024 .f32) : FVec Ideal S4096x5120 .f32 :=
  concatenate S4096x5120 1 [⟨S4096x3072, x⟩, ⟨S4096x1024, b⟩, ⟨S4096x1024, e⟩] concatenates_S4096x3072_S4096x1024_S4096x1024_S4096x5120_d1

theorem S45_at (k : Fin 16) (s : Fin 256) (g : Fin 8) (h : Fin 6) : S45 y (ix2 (row k s) (head g h)) = y (ix4 g h k s) := by
  unfold S45
  pointwise [row, head]
  blk_ext

theorem S48_at (k : Fin 16) (s : Fin 256) (g : Fin 8) (h : Fin 6) : S48p y (ix3 g (row k s) (h.castLE (by decide))) = y (ix4 g h k s) := by
  refine Eq.trans ?_ (S45_at y k s g h)
  unfold S48p
  generalize S45 y = y
  pointwise [row, head]
  rw [dif_pos (by simp only [Fin.val_castLE]; omega)]
  blk_ext
  simp only [Fin.val_castLE]

theorem S51_at (k : Fin 16) (s : Fin 256) (g : Fin 8) (h : Fin 6) : S51p y (ix2 ⟨g.val * 8 + h.val, by omega⟩ (row k s)) = y (ix4 g h k s) := by
  refine Eq.trans ?_ (S48_at y k s g h)
  unfold S51p
  generalize S48p y = y
  pointwise [row, head]
  rw [dif_pos (by omega)]
  blk_ext
  simp only [Fin.val_castLE]
  omega

theorem spread_at (w : FVec Ideal S4096x48 .f32) (r : Fin 4096) (g : Fin 8) (h : Fin 6) (p : Fin 64) :
    spread w (ix2 r (wideCol g h p)) = w (ix2 r (head g h)) := by
  pointwise [spread, head, wideCol]
  blk_ext

theorem spreadRow_at (w : FVec Ideal S48 .f32) (g : Fin 8) (h : Fin 6) (p : Fin 64) : spreadRow w (ix2 0 (wideCol g h p)) = w (ix1 (head g h)) := by
  pointwise [spreadRow, head, wideCol]
  blk_ext

theorem side_x (x : FVec Ideal S4096x3072 .f32) (b e : FVec Ideal S4096x1024 .f32) (r : Fin 4096) (q : Fin 3072) :
    sideBySide x b e (ix2 r ⟨q.val, by omega⟩) = x (ix2 r q) := by
  pointwise [sideBySide]

theorem side_b (x : FVec Ideal S4096x3072 .f32) (b e : FVec Ideal S4096x1024 .f32) (r : Fin 4096) (q : Fin 1024) :
    sideBySide x b e (ix2 r ⟨3072 + q.val, by omega⟩) = b (ix2 r q) := by
  pointwise [sideBySide]

theorem side_c (x : FVec Ideal S4096x3072 .f32) (b e : FVec Ideal S4096x1024 .f32) (r : Fin 4096) (q : Fin 1024) :
    sideBySide x b e (ix2 r ⟨4096 + q.val, by omega⟩) = e (ix2 r q) := by
  pointwise [sideBySide]
  rw [dif_neg (by omega), dif_neg (by omega)]
  have e : 4096 + q.val - 3072 - 1024 = q.val := by omega
  simp only [e]

end Layouts

set_option maxHeartbeats 2000000 in
theorem V48 : V m c main_v48 = S48p (S15 m c) := by
  unfold V
  simp only [List.flatten_cons, List.flatten_nil, List.append_nil]
  after_reads_simp
  rfl

set_option maxHeartbeats 2000000 in
theorem V51 : V m c main_v51 = S51p (S15 m c) := by
  unfold V
  simp only [List.flatten_cons, List.flatten_nil, List.append_nil]
  after_reads_simp
  rfl

set_option maxHeartbeats 2000000 in
theorem V53 : V m c main_v53 = spread (S45 (S15 m c)) := by
  unfold V
  simp only [List.flatten_cons, List.flatten_nil, List.append_nil]
  after_reads_simp
  rfl

set_option maxHeartbeats 2000000 in
theorem V2 : V m c main_v2 = spread (X3 m c) := by
  unfold V
  simp only [List.flatten_cons, List.flatten_nil, List.append_nil]
  after_reads_simp
  rfl

set_option maxHeartbeats 2000000 in
theorem V56 : V m c main_v56 = spreadRow (X5 m c) := by
  unfold V
  simp only [List.flatten_cons, List.flatten_nil, List.append_nil]
  after_reads_simp
  rfl

set_option maxHeartbeats 2000000 in
theorem V0 : V m c main_v0 = sideBySide (X0 m c) (X1 m c) (X2 m c) := by
  unfold V
  simp only [List.flatten_cons, List.flatten_nil, List.append_nil]
  after_reads_simp
  rfl

theorem V43_at (k : Fin 16) (g : Fin 8) (h : Fin 6) (p : Fin 64) (n : Fin 128) :
    (V m c main_v43 : FVec Ideal S16x8x128x384 .f32) (ix4 k g n ⟨h.val * 64 + p.val, by omega⟩) = H60 m c (ix5 k g h p n) := by
  rw [V43]
  generalize H60 m c = y
  pointwise
  blk_ext

end Cert.KernelIdeal.Ssd

end
-- ==== Proof.Ssd.Reads.lean ====
/- Every block of a point of the grid, entry by entry, as the stages of the reference or as the arguments. -/
module

public import proofs.«01_k».proof.Proof.Ssd.Block
public import proofs.«01_k».proof.Proof.Ssd.Host

@[expose] public section

set_option maxRecDepth 16384

noncomputable section

namespace Cert.KernelIdeal.Ssd

open Idealize.ShloMosaic Idealize.ShloMosaic.TcCoe Idealize.SL.Sem
open Idealize.ShloMosaic.Pipeline (Dat)
open Cert.KernelIdeal Cert.KernelIdeal.Gen
open Cert.Ssd (row head wideCol stateCol)

variable (m : (ℓ : Loc nD τ sig) → Buf (Elt Ideal) ℓ) (c : Dev nD)

/-- The group of a point. -/
def grp (t : Fin cfg0.N) : Fin 8 := ⟨t.val / 16, by have := t.isLt; have := N_0; change t.val < grid0.N at *; omega⟩

/-- The chunk of a point: the last one comes first. -/
def chk (t : Fin cfg0.N) : Fin 16 := ⟨15 - t.val % 16, by omega⟩

theorem idx : ∀ t : Fin cfg0.N, win0_0.index t = ![15 - t.val % 16, t.val / 16] ∧ win0_1.index t = ![15 - t.val % 16, 24 + t.val / 16] ∧
    win0_2.index t = ![15 - t.val % 16, 32 + t.val / 16] ∧ win0_3.index t = ![t.val / 16, 15 - t.val % 16, 0] ∧
    win0_4.index t = ![t.val / 16, 15 - t.val % 16] ∧ win0_5.index t = ![15 - t.val % 16, t.val / 16] ∧
    win0_6.index t = ![15 - t.val % 16, t.val / 16] ∧ win0_7.index t = ![0, t.val / 16] ∧
    win0_8.index t = ![15 - t.val % 16, t.val / 16, 0, 0] ∧ win0_9.index t = ![15 - t.val % 16, t.val / 16] ∧
    win0_10.index t = ![15 - t.val % 16, t.val / 16] ∧ win0_11.index t = ![15 - t.val % 16, t.val / 16] ∧
    win0_12.index t = ![15 - t.val % 16, t.val / 16] ∧
    win0_14.index t = ![15 - t.val % 16, t.val / 16] ∧ win0_17.index t = ![t.val / 16, 0, 0] :=
  (by decide +kernel : ∀ t : Fin grid0.N, _)

theorem blk1_at (t : Fin cfg0.N) (s : Fin 256) (n : Fin 128) :
    (iblk m c 1 t : FVec Ideal S256x128 .f32) (ix2 s n) = X1 m c (ix2 (row (chk t) s) (stateCol (grp t) n)) := by
  rw [← side_b (X0 m c) (X1 m c) (X2 m c), ← V0]
  blk_ext [iblk, idx t, grp, chk, row, stateCol]

theorem blk3_at (t : Fin cfg0.N) (s : Fin 256) (h : Fin 6) :
    (iblk m c 3 t : FVec Ideal S1x256x8 .f32) (ix3 0 s (h.castLE (by decide))) = S15 m c (ix4 (grp t) h (chk t) s) := by
  refine Eq.trans ?_ (S48_at (S15 m c) _ _ _ _)
  rw [← V48]
  blk_ext [iblk, idx t, grp, chk, row, Fin.val_castLE]

theorem blk4_at (t : Fin cfg0.N) (s : Fin 256) (h : Fin 6) :
    (iblk m c 4 t : FVec Ideal S8x256 .f32) (ix2 (h.castLE (by decide)) s) = S15 m c (ix4 (grp t) h (chk t) s) := by
  refine Eq.trans ?_ (S51_at (S15 m c) _ _ _ _)
  rw [← V51]
  blk_ext [iblk, idx t, grp, chk, row]
  simp only [Fin.val_castLE]

theorem blk5_at (t : Fin cfg0.N) (s : Fin 256) (h : Fin 6) (p : Fin 64) :
    (iblk m c 5 t : FVec Ideal S256x384 .f32) (ix2 s (col h p)) = X3 m c (ix2 (row (chk t) s) (head (grp t) h)) := by
  refine Eq.trans ?_ (spread_at (X3 m c) _ _ _ p)
  rw [← V2]
  blk_ext [iblk, idx t, grp, chk, row, col, wideCol]

theorem blk6_at (t : Fin cfg0.N) (s : Fin 256) (h : Fin 6) (p : Fin 64) :
    (iblk m c 6 t : FVec Ideal S256x384 .f32) (ix2 s (col h p)) = S15 m c (ix4 (grp t) h (chk t) s) := by
  refine Eq.trans ?_ ((spread_at (S45 (S15 m c)) _ _ _ p).trans (S45_at (S15 m c) _ _ _ _))
  rw [← V53]
  blk_ext [iblk, idx t, grp, chk, row, col, wideCol]

theorem blk7_at (t : Fin cfg0.N) (h : Fin 6) (p : Fin 64) :
    (iblk m c 7 t : FVec Ideal S1x384 .f32) (ix2 0 (col h p)) = X5 m c (ix1 (head (grp t) h)) := by
  refine Eq.trans ?_ (spreadRow_at (X5 m c) _ _ p)
  rw [← V56]
  blk_ext [iblk, idx t, grp, chk, row, col, wideCol]

theorem blk8_at (t : Fin cfg0.N) (n : Fin 128) (h : Fin 6) (p : Fin 64) :
    (iblk m c 8 t : FVec Ideal S1x1x128x384 .f32) (ix4 0 0 n (col h p)) = H60 m c (ix5 (chk t) (grp t) h p n) := by
  rw [← V43_at]
  blk_ext [iblk, idx t, grp, chk, row, col, wideCol]

theorem blk9_at (t : Fin cfg0.N) (s : Fin 256) (h : Fin 6) (p : Fin 64) :
    (iblk m c 9 t : FVec Ideal S256x384 .f32) (ix2 s (col h p)) = X6 m c (ix2 (row (chk t) s) (wideCol (grp t) h p)) := by
  blk_ext [iblk, V, idx t, grp, chk, row, col, wideCol]

theorem blk2_at (t : Fin cfg0.N) (s : Fin 256) (n : Fin 128) :
    (iblk m c 2 t : FVec Ideal S256x128 .f32) (ix2 s n) = X2 m c (ix2 (row (chk t) s) (stateCol (grp t) n)) := by
  rw [← side_c (X0 m c) (X1 m c) (X2 m c), ← V0]
  blk_ext [iblk, idx t, grp, chk, row, stateCol]

theorem blk0_at (t : Fin cfg0.N) (s : Fin 256) (h : Fin 6) (p : Fin 64) :
    X0_0 m c t (ix2 s (col h p)) = X0 m c (ix2 (row (chk t) s) (wideCol (grp t) h p)) := by
  rw [← side_x (X0 m c) (X1 m c) (X2 m c), ← V0]
  unfold X0_0 Pipeline.Window.fill
  rw [dif_pos (moved0_0 t _)]
  blk_ext [iblk, idx t, grp, chk, row, col, wideCol]

end Cert.KernelIdeal.Ssd
-- ==== Proof.Ssd.RunningSum.lean ====
/- A running sum along one axis, and the sums of its terms between two places. -/
module

public import Idealize.ShloMosaic.Lib.ValueIdx
public import Idealize.ShloMosaic.PureOps.Ideal.Laws
public import Idealize.ShloMosaic.PureOps.Contract

@[expose] public section

noncomputable section

namespace Cert.Ssd

open Idealize.ShloMosaic

/-- A left fold of sums over the places of a list of all indices is the sum over the indices. -/
theorem foldl_add_finRange {n : ℕ} (g : Fin n → EReal) :
    (List.finRange n).foldl (fun r k => r + g k) 0 = ∑ k, g k := by
  rw [Fin.sum_univ_def, List.sum_eq_foldl, List.foldl_map]

/-- The index `j` with its coordinate on axis `a` replaced by `k`. -/
def setAxis {s : Shape} (j : s.Idx) (a : Fin s.rank) (k : Fin (s.size a)) : s.Idx :=
  fun b => if h : b = a then h ▸ k else j b

theorem setAxis_val_self {s : Shape} (j : s.Idx) (a : Fin s.rank) (k : Fin (s.size a)) : (setAxis j a k a).val = k.val := by
  simp [setAxis]

theorem setAxis_val_of_ne {s : Shape} (j : s.Idx) {a b : Fin s.rank} (k : Fin (s.size a)) (h : b ≠ a) :
    (setAxis j a k b).val = (j b).val := by
  simp [setAxis, h]

/-- The window sum a cumulative sum along axis `a` is made of: at `j`, the sum of the entries at the places up to `j a`. -/
theorem runningSum_apply {s : Shape} (a : Fin s.rank) (window strides lo hi : Fin s.rank → ℕ)
    (h : s.ReduceWindows window strides lo hi s) (hstr : ∀ b, strides b = 1)
    (hwa : window a = s.size a) (hwb : ∀ b, b ≠ a → window b = 1)
    (hla : lo a = s.size a - 1) (hlb : ∀ b, b ≠ a → lo b = 0) (x : s.Idx → EReal) (j : s.Idx) :
    Ideal.hostReduceWindowAdd window strides lo hi h x 0 j
      = ∑ k : Fin (s.size a), if k.val ≤ (j a).val then x (setAxis j a k) else 0 := by
  unfold Ideal.hostReduceWindowAdd Host.reduceWindow
  dsimp only
  rw [foldl_add_finRange]
  rw [← Equiv.sum_comp (Shape.rowMajor ⟨s.rank, window⟩) _]
  simp only [Equiv.symm_apply_apply]
  have hja := (j a).isLt
  have dite_sum : ∀ i : Shape.Idx ⟨s.rank, window⟩,
      (if hin : ∀ b, lo b ≤ (j (b.cast h.1.symm)).val * strides b + (i b).val ∧
          (j (b.cast h.1.symm)).val * strides b + (i b).val - lo b < s.size b then
        x (fun b => ⟨(j (b.cast h.1.symm)).val * strides b + (i b).val - lo b, (hin b).2⟩) else 0)
      = if s.size a - 1 ≤ (j a).val + (i a).val then
          x (setAxis j a ⟨((j a).val + (i a).val - (s.size a - 1)) % s.size a, Nat.mod_lt _ (by omega)⟩) else 0 := by
    intro i
    have hia : (i a).val < s.size a := hwa ▸ (i a).isLt
    by_cases hc : s.size a - 1 ≤ (j a).val + (i a).val
    · rw [if_pos hc, dif_pos]
      · refine congrArg x (funext fun b => Fin.ext ?_)
        show (j b).val * strides b + (i b).val - lo b = _
        by_cases hb : b = a
        · subst hb
          rw [setAxis_val_self, hstr, hla]
          show _ = _ % _
          rw [Nat.mod_eq_of_lt (by omega)]
          omega
        · rw [setAxis_val_of_ne _ _ hb, hstr, hlb b hb]
          have : (i b).val < 1 := hwb b hb ▸ (i b).isLt
          omega
      · intro b
        show lo b ≤ (j b).val * strides b + (i b).val ∧ (j b).val * strides b + (i b).val - lo b < s.size b
        have hjb := (j b).isLt
        by_cases hb : b = a
        · subst hb
          rw [hstr, hla]
          omega
        · rw [hstr, hlb b hb]
          have : (i b).val < 1 := hwb b hb ▸ (i b).isLt
          omega
    · rw [if_neg hc, dif_neg]
      intro hin
      have := (hin a).1
      rw [hstr, hla] at this
      apply hc
      have h2 : (j (a.cast h.1.symm)).val = (j a).val := rfl
      omega
  rw [Finset.sum_congr rfl fun i _ => dite_sum i]
  rw [← Finset.sum_filter, ← Finset.sum_filter]
  refine Finset.sum_bij' (i := fun i _ => ⟨((j a).val + (i a).val - (s.size a - 1)) % s.size a, Nat.mod_lt _ (by omega)⟩)
    (j := fun k _ => fun b => if hb : b = a then ⟨(k.val + (s.size a - 1) - (j a).val) % s.size a, by
      show _ < window b
      subst hb; rw [hwa]; exact Nat.mod_lt _ (by omega)⟩ else ⟨0, by show 0 < window b; rw [hwb b hb]; omega⟩) ?_ ?_ ?_ ?_ ?_
  · intro i hi
    have hia : (i a).val < s.size a := hwa ▸ (i a).isLt
    simp only [Finset.mem_filter, Finset.mem_univ, true_and] at hi ⊢
    rw [Nat.mod_eq_of_lt (by omega)]
    omega
  · intro k hk
    simp only [Finset.mem_filter, Finset.mem_univ, true_and, dif_pos] at hk ⊢
    have := k.isLt
    rw [Nat.mod_eq_of_lt (by omega)]
    omega
  · intro i hi
    have hia : (i a).val < s.size a := hwa ▸ (i a).isLt
    simp only [Finset.mem_filter, Finset.mem_univ, true_and] at hi
    funext b
    by_cases hb : b = a
    · subst hb
      rw [dif_pos rfl]
      apply Fin.ext
      show ((_ % _) + (s.size b - 1) - (j b).val) % s.size b = _
      rw [Nat.mod_eq_of_lt (a := (j b).val + (i b).val - (s.size b - 1)) (by omega), Nat.mod_eq_of_lt (by omega)]
      omega
    · rw [dif_neg hb]
      apply Fin.ext
      have : (i b).val < 1 := hwb b hb ▸ (i b).isLt
      show 0 = (i b).val
      omega
  · intro k hk
    simp only [Finset.mem_filter, Finset.mem_univ, true_and, dif_pos] at hk ⊢
    apply Fin.ext
    have := k.isLt
    show ((j a).val + (_ % _) - (s.size a - 1)) % s.size a = k.val
    rw [Nat.mod_eq_of_lt (a := k.val + (s.size a - 1) - (j a).val) (by omega), Nat.mod_eq_of_lt (by omega)]
    omega
  · intro i hi
    rfl

/-- The same, of the host's operation with an initial value of zero. -/
theorem hostRunningSum_apply {s u : Shape} (a : Fin s.rank) (window strides lo hi : Fin s.rank → ℕ)
    (h : s.ReduceWindows window strides lo hi s) (hu : 0 < u.numel) (hstr : ∀ b, strides b = 1)
    (hwa : window a = s.size a) (hwb : ∀ b, b ≠ a → window b = 1)
    (hla : lo a = s.size a - 1) (hlb : ∀ b, b ≠ a → lo b = 0) (x : FVec Ideal s .f32) (init : FVec Ideal u .f32)
    (h0 : init (Shape.Idx.first hu) = (0 : EReal)) (j : s.Idx) :
    Host.reduceWindowAdd window strides lo hi x init h hu j
      = ∑ k : Fin (s.size a), if k.val ≤ (j a).val then (show EReal from x (setAxis j a k)) else 0 := by
  show Ideal.hostReduceWindowAdd window strides lo hi h x (init (Shape.Idx.first hu)) j = _
  rw [h0]
  exact runningSum_apply a window strides lo hi h hstr hwa hwb hla hlb x j

end Cert.Ssd

end
-- ==== Proof.Ssd.Decay.lean ====
/- The decays of the reference: what its running sums and its segment sums are, entry by entry. -/
module

public import proofs.«01_k».proof.Proof.Gen.ReferenceIdeal.Read
public import proofs.«01_k».proof.Proof.Ssd.RunningSum
public import Idealize.ShloMosaic.Lib.Pointwise
public import Idealize.ShloMosaic.Lib.Tactic.WordOmega

@[expose] public section

set_option maxRecDepth 16384

noncomputable section

namespace Cert.Ssd

open Idealize.ShloMosaic Idealize.ShloMosaic.TcCoe Idealize.SL.Sem
open Cert.ReferenceIdeal Cert.ReferenceIdeal.Gen Cert.ReferenceIdeal.Read

variable (x3 : (⟨S4096x48, .f32⟩ : BufTy).Contents (Elt Ideal)) (x4 : (⟨S48, .f32⟩ : BufTy).Contents (Elt Ideal))

/-- The comparison under a strict lower triangle. -/
theorem below_strict (n : ℕ) (hn : n ≤ 65536) (l s : Fin n) :
    IntOp.cmpi .sge (IntOp.addi (BitVec.ofNat 32 l.val) 4294967295#32) (BitVec.ofNat 32 s.val) = if s.val < l.val then 1#1 else 0#1 := by
  have hl := l.isLt
  have hs := s.isLt
  generalize l.val = a at *
  generalize s.val = b at *
  by_cases h : b < a
  · rw [if_pos h]
    word_omega
  · rw [if_neg h]
    word_omega

/-- The comparison under a lower triangle. -/
theorem below (n : ℕ) (hn : n ≤ 65536) (l s : Fin n) :
    IntOp.cmpi .sge (IntOp.addi (BitVec.ofNat 32 l.val) 0#32) (BitVec.ofNat 32 s.val) = if s.val ≤ l.val then 1#1 else 0#1 := by
  have hl := l.isLt
  have hs := s.isLt
  by_cases h : s.val ≤ l.val
  · rw [if_pos h]
    word_omega
  · rw [if_neg h]
    word_omega

/-- The constant zero, read anywhere. -/
theorem constant_zero (i : S_.Idx) : constant (F := Ideal) S_ .f32 0x00000000#32 i = (0 : EReal) := by
  pointwise

/-- The constant minus infinity, read anywhere. -/
theorem constant_bot (i : S_.Idx) : constant (F := Ideal) S_ .f32 0xFF800000#32 i = (⊥ : EReal) := by
  show Ideal.ofBits .f32 0xFF800000#32 = ⊥
  simp [Ideal.ofBits, Ideal.ieee]

/-- The running sum inside a chunk. -/
theorem v15_at (g : Fin 8) (r : Fin 6) (c : Fin 16) (l : Fin 256) :
    val_main_v15 (F := Ideal) x3 x4 (ix4 g r c l)
      = ∑ k : Fin 256, if k.val ≤ l.val then val_main_v6 (F := Ideal) x3 x4 (ix4 g r c k) else 0 := by
  unfold val_main_v15
  have h0 : val_main_call0_call0_v0 (F := Ideal) (Shape.Idx.first h_S_) = 0 := by
    pointwise [val_main_call0_call0_v0, val_main_call0_call0_cst]
  refine (hostRunningSum_apply (s := S8x6x16x256) 3 _ _ _ _ _ _ (by decide +kernel) (by decide +kernel) (by decide +kernel) (by decide +kernel) (by decide +kernel) _ _ h0 _).trans ?_
  refine Finset.sum_congr rfl fun k _ => ?_
  refine if_congr Iff.rfl (congrArg (val_main_v6 (F := Ideal) x3 x4) ?_) rfl
  funext b
  fin_cases b <;> rfl

/-- The masked row a segment sum adds up. -/
theorem v20_at (g : Fin 8) (r : Fin 6) (c : Fin 16) (l s : Fin 256) :
    val_main_v20 (F := Ideal) x3 x4 (ix5 g r c l s)
      = if s.val < l.val then val_main_v6 (F := Ideal) x3 x4 (ix4 g r c l) else 0 := by
  pointwise [val_main_v20, val_main_v17, val_main_v16, val_main_call2_v1, val_main_call2_v2, val_main_call2_v0, val_main_cst, val_main_v19,
    val_main_v18, val_main_c, val_main_call1_v4, val_main_call1_v0, val_main_call1_c, val_main_call1_v1, val_main_call1_v2, val_main_call1_v3,
    val_main_call1_c_0, val_main_call1_v5]
  rw [below_strict 256 (by decide) l s, id_eq, constant_zero]
  by_cases h : s.val < l.val
  · simp only [if_pos h, Scalar.select]; rfl
  · simp only [if_neg h, Scalar.select]; rfl

theorem v24_at (g : Fin 8) (r : Fin 6) (c : Fin 16) (l s : Fin 256) :
    val_main_v24 (F := Ideal) x3 x4 (ix5 g r c l s)
      = if s.val ≤ l.val then val_main_v21 (F := Ideal) x3 x4 (ix5 g r c l s) else ⊥ := by
  pointwise [val_main_v24, val_main_call5_v1, val_main_call5_v2, val_main_call5_v0, val_main_cst_1, val_main_v23,
    val_main_v22, val_main_c_0, val_main_call4_v4, val_main_call4_v0, val_main_call4_c, val_main_call4_v1, val_main_call4_v2, val_main_call4_v3,
    val_main_call4_c_0, val_main_call4_v5]
  rw [below 256 (by decide) l s, id_eq, constant_bot]
  by_cases h : s.val ≤ l.val
  · simp only [if_pos h, Scalar.select]; rfl
  · simp only [if_neg h, Scalar.select]; rfl

theorem v21_at (g : Fin 8) (r : Fin 6) (c : Fin 16) (l s : Fin 256) :
    val_main_v21 (F := Ideal) x3 x4 (ix5 g r c l s)
      = ∑ k : Fin 256, if k.val ≤ l.val then val_main_v20 (F := Ideal) x3 x4 (ix5 g r c k s) else 0 := by
  unfold val_main_v21
  have h0 : val_main_call3_call0_v0 (F := Ideal) (Shape.Idx.first h_S_) = 0 := by
    pointwise [val_main_call3_call0_v0, val_main_call3_call0_cst]
  refine (hostRunningSum_apply (s := S8x6x16x256x256) 3 _ _ _ _ _ _ (by decide +kernel) (by decide +kernel) (by decide +kernel) (by decide +kernel) (by decide +kernel) _ _ h0 _).trans ?_
  refine Finset.sum_congr rfl fun k _ => ?_
  refine if_congr Iff.rfl (congrArg (val_main_v20 (F := Ideal) x3 x4) ?_) rfl
  funext b
  fin_cases b <;> rfl

/-- The totals of the chunks, one later. -/
theorem v47_at (g : Fin 8) (r : Fin 6) (z : Fin 17) :
    val_main_v47 (F := Ideal) x3 x4 (ix3 g r z)
      = if h : 1 ≤ z.val then val_main_v15 (F := Ideal) x3 x4 (ix4 g r ⟨z.val - 1, by omega⟩ 255) else 0 := by
  pointwise [val_main_v47, val_main_v46, val_main_v45, val_main_call6_v0, val_main_c_4]
  by_cases h : 1 ≤ z.val
  · rw [dif_pos h, dif_pos ⟨h, by omega⟩]
  · rw [dif_neg h, dif_neg (fun h' => h h'.1)]
    show (((0#32 : BitVec 32).toInt : ℝ) : EReal) = 0
    simp

/-- The entry of the chunks' masked totals, and of their segment sums. -/
theorem v52_at (g : Fin 8) (r : Fin 6) (z w : Fin 17) :
    val_main_v52 (F := Ideal) x3 x4 (ix4 g r z w)
      = if w.val < z.val then val_main_v47 (F := Ideal) x3 x4 (ix3 g r z) else 0 := by
  pointwise [val_main_v52, val_main_v49, val_main_v48, val_main_call8_v1, val_main_call8_v2, val_main_call8_v0, val_main_cst_6, val_main_v51,
    val_main_v50, val_main_c_5, val_main_call7_v4, val_main_call7_v0, val_main_call7_c, val_main_call7_v1, val_main_call7_v2, val_main_call7_v3,
    val_main_call7_c_0, val_main_call7_v5]
  rw [below_strict 17 (by decide) z w, id_eq, constant_zero]
  by_cases h : w.val < z.val
  · simp only [if_pos h, Scalar.select]; rfl
  · simp only [if_neg h, Scalar.select]; rfl

theorem v53_at (g : Fin 8) (r : Fin 6) (z w : Fin 17) :
    val_main_v53 (F := Ideal) x3 x4 (ix4 g r z w)
      = ∑ k : Fin 17, if k.val ≤ z.val then val_main_v52 (F := Ideal) x3 x4 (ix4 g r k w) else 0 := by
  unfold val_main_v53
  have h0 : val_main_call9_call0_v0 (F := Ideal) (Shape.Idx.first h_S_) = 0 := by
    pointwise [val_main_call9_call0_v0, val_main_call9_call0_cst]
  refine (hostRunningSum_apply (s := S8x6x17x17) 2 _ _ _ _ _ _ (by decide +kernel) (by decide +kernel) (by decide +kernel)
    (by decide +kernel) (by decide +kernel) _ _ h0 _).trans ?_
  refine Finset.sum_congr rfl fun k _ => ?_
  refine if_congr Iff.rfl (congrArg (val_main_v52 (F := Ideal) x3 x4) ?_) rfl
  funext b
  fin_cases b <;> rfl

theorem v56_at (g : Fin 8) (r : Fin 6) (z w : Fin 17) :
    val_main_v56 (F := Ideal) x3 x4 (ix4 g r z w)
      = if w.val ≤ z.val then val_main_v53 (F := Ideal) x3 x4 (ix4 g r z w) else ⊥ := by
  pointwise [val_main_v56, val_main_call11_v1, val_main_call11_v2, val_main_call11_v0, val_main_cst_8, val_main_v55,
    val_main_v54, val_main_c_7, val_main_call10_v4, val_main_call10_v0, val_main_call10_c, val_main_call10_v1, val_main_call10_v2,
    val_main_call10_v3, val_main_call10_c_0, val_main_call10_v5]
  rw [below 17 (by decide) z w, id_eq, constant_bot]
  by_cases h : w.val ≤ z.val
  · simp only [if_pos h, Scalar.select]; rfl
  · simp only [if_neg h, Scalar.select]; rfl

/-! ### Over the reals -/

/-- The sum of the terms up to a place. -/
def upTo {n : ℕ} (f : Fin n → ℝ) (l : ℕ) : ℝ := ∑ k : Fin n, if k.val ≤ l then f k else 0

theorem upTo_coe {n : ℕ} (f : Fin n → ℝ) (g : Fin n → EReal) (h : ∀ k, g k = (f k : EReal)) (l : ℕ) :
    (∑ k : Fin n, if k.val ≤ l then g k else 0) = ((upTo f l : ℝ) : EReal) := by
  have coe_sum : ∀ (s : Finset (Fin n)) (e : Fin n → ℝ), ((∑ k ∈ s, e k : ℝ) : EReal) = ∑ k ∈ s, (e k : EReal) := by
    intro s e
    induction s using Finset.cons_induction with
    | empty => simp
    | cons a s ha ih => rw [Finset.sum_cons, Finset.sum_cons, EReal.coe_add, ih]
  rw [upTo, coe_sum]
  refine Finset.sum_congr rfl fun k _ => ?_
  by_cases hk : k.val ≤ l
  · rw [if_pos hk, if_pos hk, h]
  · rw [if_neg hk, if_neg hk, EReal.coe_zero]

/-- A segment's sum is the difference of two running sums. -/
theorem upTo_segment {n : ℕ} (f : Fin n → ℝ) {l s : ℕ} (h : s ≤ l) :
    upTo (fun k => if s < k.val then f k else 0) l = upTo f l - upTo f s := by
  unfold upTo
  rw [← Finset.sum_sub_distrib]
  refine Finset.sum_congr rfl fun k _ => ?_
  by_cases h1 : k.val ≤ l <;> by_cases h2 : s < k.val <;> by_cases h3 : k.val ≤ s <;> simp [h1, h2, h3] <;> omega

theorem upTo_antitone {n : ℕ} (f : Fin n → ℝ) (hf : ∀ k, f k ≤ 0) {l s : ℕ} (h : s ≤ l) : upTo f l ≤ upTo f s := by
  unfold upTo
  refine Finset.sum_le_sum fun k _ => ?_
  by_cases h1 : k.val ≤ s
  · rw [if_pos h1, if_pos (h1.trans h)]
  · rw [if_neg h1]
    split_ifs
    · exact hf k
    · exact le_rfl

theorem upTo_succ {n : ℕ} (f : Fin n → ℝ) {l : ℕ} (h : l + 1 < n) : upTo f (l + 1) = upTo f l + f ⟨l + 1, h⟩ := by
  unfold upTo
  rw [← Finset.sum_erase_add _ _ (Finset.mem_univ (⟨l + 1, h⟩ : Fin n)), ← Finset.sum_erase_add (a := (⟨l + 1, h⟩ : Fin n)) _ (fun k : Fin n => if k.val ≤ l then f k else 0) (Finset.mem_univ _)]
  rw [if_pos le_rfl, if_neg (by simp), add_zero]
  congr 1
  refine Finset.sum_congr rfl fun k hk => ?_
  have hk' : k.val ≠ l + 1 := fun e => (Finset.ne_of_mem_erase hk) (Fin.ext e)
  by_cases h1 : k.val ≤ l
  · rw [if_pos h1, if_pos (by omega)]
  · rw [if_neg h1, if_neg (by omega)]

section Reals

variable {x3 x4}
variable (a : Fin 8 → Fin 6 → Fin 16 → Fin 256 → ℝ)
  (ha : ∀ g r c l, val_main_v6 (F := Ideal) x3 x4 (ix4 g r c l) = (a g r c l : EReal)) (hn : ∀ g r c l, a g r c l ≤ 0)

include ha in
theorem v15_real (g : Fin 8) (r : Fin 6) (c : Fin 16) (l : Fin 256) :
    val_main_v15 (F := Ideal) x3 x4 (ix4 g r c l) = ((upTo (a g r c) l.val : ℝ) : EReal) := by
  rw [v15_at]
  exact upTo_coe _ _ (ha g r c) _

include ha in
/-- The segment sums are differences of the running sums. -/
theorem v21_real (g : Fin 8) (r : Fin 6) (c : Fin 16) (l s : Fin 256) (h : s.val ≤ l.val) :
    val_main_v21 (F := Ideal) x3 x4 (ix5 g r c l s) = ((upTo (a g r c) l.val - upTo (a g r c) s.val : ℝ) : EReal) := by
  rw [v21_at, ← upTo_segment _ h]
  refine upTo_coe _ _ (fun k => ?_) _
  rw [v20_at, ha]
  split_ifs <;> rfl

include ha hn in
/-- The decay from place `s` to place `l` of a chunk, as the exponential of a difference held at most zero. -/
theorem v25_at (g : Fin 8) (r : Fin 6) (c : Fin 16) (l s : Fin 256) :
    val_main_v25 (F := Ideal) x3 x4 (ix5 g r c l s)
      = if s.val ≤ l.val then
          Ideal.exp (min (val_main_v15 (F := Ideal) x3 x4 (ix4 g r c l) - val_main_v15 (F := Ideal) x3 x4 (ix4 g r c s)) 0)
        else (0 : EReal) := by
  show Ideal.exp (val_main_v24 (F := Ideal) x3 x4 (ix5 g r c l s)) = _
  rw [v24_at]
  by_cases h : s.val ≤ l.val
  · rw [if_pos h, if_pos h, v21_real a ha _ _ _ _ _ h, v15_real a ha, v15_real a ha, ← EReal.coe_sub, min_eq_left]
    have := upTo_antitone (a g r c) (hn g r c) h
    exact_mod_cast sub_nonpos.2 this
  · rw [if_neg h, if_neg h]
    rfl

/-- The chunk totals the chunk decays are made of. -/
def total (g : Fin 8) (r : Fin 6) (z : Fin 17) : ℝ := if h : 1 ≤ z.val then upTo (a g r ⟨z.val - 1, by omega⟩) 255 else 0

include ha in
theorem v47_real (g : Fin 8) (r : Fin 6) (z : Fin 17) :
    val_main_v47 (F := Ideal) x3 x4 (ix3 g r z) = (total a g r z : EReal) := by
  rw [v47_at, total]
  split_ifs
  · rw [v15_real a ha]; rfl
  · rfl

include ha in
theorem v57_real (g : Fin 8) (r : Fin 6) (z w : Fin 17) :
    val_main_v57 (F := Ideal) x3 x4 (ix4 g r z w)
      = if w.val ≤ z.val then ((Real.exp (upTo (total a g r) z.val - upTo (total a g r) w.val) : ℝ) : EReal) else 0 := by
  show Ideal.exp (val_main_v56 (F := Ideal) x3 x4 (ix4 g r z w)) = _
  rw [v56_at]
  by_cases h : w.val ≤ z.val
  · rw [if_pos h, if_pos h, v53_at, upTo_coe (fun k => if w.val < k.val then total a g r k else 0), upTo_segment _ h]
    · rfl
    · intro k
      rw [v52_at, v47_real a ha]
      split_ifs <;> rfl
  · rw [if_neg h, if_neg h]
    rfl

include ha in
/-- One chunk further back: the decay of that chunk, after the decay from the next. -/
theorem v57_step (g : Fin 8) (r : Fin 6) (z : Fin 17) (c : Fin 16) (h : c.val + 1 ≤ z.val) :
    val_main_v57 (F := Ideal) x3 x4 (ix4 g r z c.castSucc)
      = (Ideal.exp (val_main_v15 (F := Ideal) x3 x4 (ix4 g r c 255)) : EReal) * val_main_v57 (F := Ideal) x3 x4 (ix4 g r z c.succ) := by
  rw [v57_real a ha, v57_real a ha, v15_real a ha]
  have h1 : (c.castSucc : Fin 17).val = c.val := rfl
  have h2 : (c.succ : Fin 17).val = c.val + 1 := rfl
  rw [if_pos (by omega), if_pos (by omega), h1, h2, upTo_succ (total a g r) (l := c.val) (by omega)]
  have ht : total a g r ⟨c.val + 1, by omega⟩ = upTo (a g r c) 255 := by
    rw [total, dif_pos (by simp)]
    rfl
  rw [ht]
  show _ = ((Real.exp (upTo (a g r c) 255) : ℝ) : EReal) * _
  rw [← EReal.coe_mul, ← Real.exp_add]
  congr 2
  ring

include ha in
/-- One chunk further on: the decay up to the chunk, and then the decay of the chunk. -/
theorem v57_next (g : Fin 8) (r : Fin 6) (c : Fin 16) (w : Fin 17) (h : w.val ≤ c.val) :
    val_main_v57 (F := Ideal) x3 x4 (ix4 g r c.succ w)
      = (Ideal.exp (val_main_v15 (F := Ideal) x3 x4 (ix4 g r c 255)) : EReal) * val_main_v57 (F := Ideal) x3 x4 (ix4 g r c.castSucc w) := by
  have h1 : (c.castSucc : Fin 17).val = c.val := rfl
  have h2 : (c.succ : Fin 17).val = c.val + 1 := rfl
  have ht : total a g r ⟨c.val + 1, by omega⟩ = upTo (a g r c) 255 := by
    rw [total, dif_pos (by simp)]
    rfl
  rw [v57_real a ha, v57_real a ha, v15_real a ha, if_pos (by omega), if_pos (by omega), h1, h2, upTo_succ (total a g r) (l := c.val) (by omega), ht]
  show _ = ((Real.exp (upTo (a g r c) 255) : ℝ) : EReal) * _
  rw [← EReal.coe_mul, ← Real.exp_add]
  congr 2
  ring

include ha in
theorem v57_self (g : Fin 8) (r : Fin 6) (z : Fin 17) : val_main_v57 (F := Ideal) x3 x4 (ix4 g r z z) = (1 : EReal) := by
  rw [v57_real a ha, if_pos le_rfl, sub_self, Real.exp_zero, EReal.coe_one]

include ha in
theorem v57_above (g : Fin 8) (r : Fin 6) (z w : Fin 17) (h : z.val < w.val) : val_main_v57 (F := Ideal) x3 x4 (ix4 g r z w) = (0 : EReal) := by
  rw [v57_real a ha, if_neg (by omega)]

end Reals

end Cert.Ssd

end
-- ==== Proof.Ssd.Stages.lean ====
/- The stages of the reference's backward pass, entry by entry. -/
module

public import proofs.«01_k».proof.Proof.Ssd.Decay
public import proofs.«01_k».proof.Proof.Ssd.Places
public import Idealize.ShloMosaic.Lib.Pipeline.ValueKit

@[expose] public section

set_option maxRecDepth 16384

noncomputable section

namespace Cert.Ssd

open Idealize.ShloMosaic Idealize.ShloMosaic.TcCoe Idealize.SL.Sem
open Cert.ReferenceIdeal Cert.ReferenceIdeal.Gen Cert.ReferenceIdeal.Read

variable (x0 x6 : (⟨S4096x3072, .f32⟩ : BufTy).Contents (Elt Ideal)) (x1 x2 : (⟨S4096x1024, .f32⟩ : BufTy).Contents (Elt Ideal))
  (x3 : (⟨S4096x48, .f32⟩ : BufTy).Contents (Elt Ideal)) (x4 x5 : (⟨S48, .f32⟩ : BufTy).Contents (Elt Ideal))

theorem v8_at (k : Fin 16) (s : Fin 256) (g : Fin 8) (h : Fin 6) (p : Fin 64) :
    val_main_v8 (F := Ideal) x3 (ix2 (row k s) (wideCol g h p)) = x3 (ix2 (row k s) (head g h)) := by
  pointwise [val_main_v8, val_main_v7, row, wideCol, head]
  blk_ext

theorem v12_at (k : Fin 16) (s : Fin 256) (g : Fin 8) (h : Fin 6) (p : Fin 64) :
    val_main_v12 (F := Ideal) x0 x3 (ix5 k s g h p) = (x0 (ix2 (row k s) (wideCol g h p)) : EReal) * x3 (ix2 (row k s) (head g h)) := by
  rw [← v8_at x3 k s g h p]
  show _ = val_main_v11 (F := Ideal) x0 x3 _
  unfold val_main_v12
  generalize val_main_v11 (F := Ideal) x0 x3 = y
  pointwise [row, wideCol]
  blk_ext

theorem v13_at (k : Fin 16) (s : Fin 256) (g : Fin 8) (n : Fin 128) :
    val_main_v13 (F := Ideal) x1 (ix4 k s g n) = x1 (ix2 (row k s) (stateCol g n)) := by
  pointwise [val_main_v13, row, stateCol]
  blk_ext

theorem v14_at (k : Fin 16) (s : Fin 256) (g : Fin 8) (n : Fin 128) :
    val_main_v14 (F := Ideal) x2 (ix4 k s g n) = x2 (ix2 (row k s) (stateCol g n)) := by
  pointwise [val_main_v14, row, stateCol]
  blk_ext

theorem v82_at (k : Fin 16) (s : Fin 256) (g : Fin 8) (h : Fin 6) (p : Fin 64) :
    val_main_v82 (F := Ideal) x6 (ix5 k s g h p) = x6 (ix2 (row k s) (wideCol g h p)) := by
  pointwise [val_main_v82, val_main_v74, row, wideCol]
  blk_ext

theorem v84_at (k : Fin 16) (s : Fin 256) (g : Fin 8) (h : Fin 6) (p : Fin 64) :
    val_main_v84 (F := Ideal) x3 x4 x6 (ix5 k s g h p)
      = (x6 (ix2 (row k s) (wideCol g h p)) : EReal) * Ideal.exp (val_main_v15 (F := Ideal) x3 x4 (ix4 g h k s)) := by
  rw [← v82_at x6]
  unfold val_main_v84 val_main_v83 val_main_v65 val_main_v64 val_main_v63
  generalize val_main_v15 (F := Ideal) x3 x4 = y
  generalize val_main_v82 (F := Ideal) x6 = z
  pointwise

theorem v88_at (k : Fin 16) (g : Fin 8) (h : Fin 6) (p : Fin 64) (n : Fin 128) :
    val_main_v88 (F := Ideal) x2 x3 x4 x6 (ix5 k g h p n)
      = ∑ s : Fin 256, (val_main_v84 (F := Ideal) x3 x4 x6 (ix5 k s g h p) : EReal) * x2 (ix2 (row k s) (stateCol g n)) := by
  simp only [← v14_at x2]
  unfold val_main_v88 val_main_v85
  generalize val_main_v84 (F := Ideal) x3 x4 x6 = y
  generalize val_main_v14 (F := Ideal) x2 = z
  pointwise

theorem v94_at (k : Fin 16) (g : Fin 8) (h : Fin 6) (p : Fin 64) (n : Fin 128) :
    val_main_v94 (F := Ideal) x2 x3 x4 x6 (ix5 k g h p n)
      = ∑ z : Fin 17, (val_main_v89 (F := Ideal) x2 x3 x4 x6 (ix5 z g h p n) : EReal) * val_main_v57 (F := Ideal) x3 x4 (ix4 g h z k.succ) := by
  unfold val_main_v94 val_main_v92 val_main_v91 val_main_v90
  generalize val_main_v89 (F := Ideal) x2 x3 x4 x6 = y
  generalize val_main_v57 (F := Ideal) x3 x4 = z
  pointwise
  have e : (⟨1 + k.val, by omega⟩ : Fin 17) = k.succ := Fin.ext (by simp only [Fin.val_succ]; omega)
  rw [e]

theorem v89_inner (k : Fin 16) (g : Fin 8) (h : Fin 6) (p : Fin 64) (n : Fin 128) :
    val_main_v89 (F := Ideal) x2 x3 x4 x6 (ix5 k.castSucc g h p n) = val_main_v88 (F := Ideal) x2 x3 x4 x6 (ix5 k g h p n) := by
  unfold val_main_v89
  generalize val_main_v88 (F := Ideal) x2 x3 x4 x6 = y
  pointwise [val_main_cst_11]
  exact dif_pos k.isLt

theorem v89_last (z : Fin 17) (hz : z.val = 16) (g : Fin 8) (h : Fin 6) (p : Fin 64) (n : Fin 128) :
    val_main_v89 (F := Ideal) x2 x3 x4 x6 (ix5 z g h p n) = (0 : EReal) := by
  unfold val_main_v89
  generalize val_main_v88 (F := Ideal) x2 x3 x4 x6 = y
  pointwise [val_main_cst_11]
  rw [dif_neg (by omega)]

theorem v35_at (k : Fin 16) (s : Fin 256) (g : Fin 8) (h : Fin 6) :
    val_main_v35 (F := Ideal) x3 x4 (ix4 g h k s)
      = (Ideal.exp (val_main_v15 (F := Ideal) x3 x4 (ix4 g h k 255) - val_main_v15 (F := Ideal) x3 x4 (ix4 g h k s)) : EReal) := by
  unfold val_main_v35 val_main_v34 val_main_v33 val_main_v32
  generalize val_main_v15 (F := Ideal) x3 x4 = y
  pointwise

theorem v39_at (k : Fin 16) (s : Fin 256) (g : Fin 8) (h : Fin 6) (p : Fin 64) :
    val_main_v39 (F := Ideal) x0 x3 x4 (ix5 k s g h p)
      = (val_main_v12 (F := Ideal) x0 x3 (ix5 k s g h p) : EReal) * val_main_v35 (F := Ideal) x3 x4 (ix4 g h k s) := by
  unfold val_main_v39 val_main_v38 val_main_v37 val_main_v36
  generalize val_main_v35 (F := Ideal) x3 x4 = y
  generalize val_main_v12 (F := Ideal) x0 x3 = z
  pointwise

theorem v100_at (k : Fin 16) (s : Fin 256) (g : Fin 8) (h : Fin 6) (p : Fin 64) :
    val_main_v100 (F := Ideal) x1 x2 x3 x4 x6 (ix5 k s g h p)
      = (∑ n : Fin 128, (val_main_v94 (F := Ideal) x2 x3 x4 x6 (ix5 k g h p n) : EReal) * x1 (ix2 (row k s) (stateCol g n)))
        * val_main_v35 (F := Ideal) x3 x4 (ix4 g h k s) := by
  simp only [← v13_at x1]
  unfold val_main_v100 val_main_v99 val_main_v98 val_main_v97 val_main_v37 val_main_v36
  generalize val_main_v35 (F := Ideal) x3 x4 = y
  generalize val_main_v94 (F := Ideal) x2 x3 x4 x6 = w
  generalize val_main_v13 (F := Ideal) x1 = z
  pointwise

theorem v29_at (k : Fin 16) (l s : Fin 256) (g : Fin 8) (h : Fin 6) :
    val_main_v29 (F := Ideal) x1 x2 x3 x4 (ix5 g h k l s)
      = (∑ n : Fin 128, (x2 (ix2 (row k l) (stateCol g n)) : EReal) * x1 (ix2 (row k s) (stateCol g n)))
        * val_main_v25 (F := Ideal) x3 x4 (ix5 g h k l s) := by
  simp only [← v13_at x1, ← v14_at x2]
  unfold val_main_v29 val_main_v28 val_main_v27 val_main_v26
  generalize val_main_v25 (F := Ideal) x3 x4 = y
  generalize val_main_v14 (F := Ideal) x2 = w
  generalize val_main_v13 (F := Ideal) x1 = z
  pointwise

theorem v105_at (k : Fin 16) (s : Fin 256) (g : Fin 8) (h : Fin 6) (p : Fin 64) :
    val_main_v105 (F := Ideal) x1 x2 x3 x4 x6 (ix5 k s g h p)
      = ∑ l : Fin 256, (x6 (ix2 (row k l) (wideCol g h p)) : EReal) * val_main_v29 (F := Ideal) x1 x2 x3 x4 (ix5 g h k l s) := by
  simp only [← v82_at x6]
  unfold val_main_v105 val_main_v104 val_main_v101
  generalize val_main_v29 (F := Ideal) x1 x2 x3 x4 = y
  generalize val_main_v82 (F := Ideal) x6 = z
  pointwise

theorem v103_at (k : Fin 16) (l s : Fin 256) (g : Fin 8) (h : Fin 6) :
    val_main_v103 (F := Ideal) x0 x3 x6 (ix5 g h k l s)
      = ∑ p : Fin 64, (x6 (ix2 (row k l) (wideCol g h p)) : EReal) * val_main_v12 (F := Ideal) x0 x3 (ix5 k s g h p) := by
  simp only [← v82_at x6]
  unfold val_main_v103 val_main_v102 val_main_v101
  generalize val_main_v12 (F := Ideal) x0 x3 = y
  generalize val_main_v82 (F := Ideal) x6 = z
  pointwise

theorem v110_at (k : Fin 16) (l s : Fin 256) (g : Fin 8) :
    val_main_v110 (F := Ideal) x0 x3 x4 x6 (ix4 g k l s)
      = ∑ h : Fin 6, (val_main_v103 (F := Ideal) x0 x3 x6 (ix5 g h k l s) : EReal) * val_main_v25 (F := Ideal) x3 x4 (ix5 g h k l s) := by
  unfold val_main_v110 val_main_v109 val_main_v108 val_main_v107
  generalize val_main_v103 (F := Ideal) x0 x3 x6 = y
  generalize val_main_v25 (F := Ideal) x3 x4 = z
  pointwise [val_main_cst_12, val_main_cst_13]
  exact Fin.sum_univ_one _

/-- The gradient by the scaled inputs. -/
theorem v119_at (k : Fin 16) (s : Fin 256) (g : Fin 8) (h : Fin 6) (p : Fin 64) :
    val_main_v119 (F := Ideal) x1 x2 x3 x4 x6 (ix2 (row k s) (wideCol g h p))
      = (val_main_v100 (F := Ideal) x1 x2 x3 x4 x6 (ix5 k s g h p) : EReal) + val_main_v105 (F := Ideal) x1 x2 x3 x4 x6 (ix5 k s g h p) := by
  show _ = val_main_v106 (F := Ideal) x1 x2 x3 x4 x6 (ix5 k s g h p)
  unfold val_main_v119
  generalize val_main_v106 (F := Ideal) x1 x2 x3 x4 x6 = y
  pointwise [row, wideCol]
  blk_ext

theorem v122_at (k : Fin 16) (s : Fin 256) (g : Fin 8) (h : Fin 6) (p : Fin 64) :
    val_main_v122 (F := Ideal) x1 x2 x3 x4 x5 x6 (ix2 (row k s) (wideCol g h p))
      = (x5 (ix1 (head g h)) : EReal) * x6 (ix2 (row k s) (wideCol g h p))
        + val_main_v119 (F := Ideal) x1 x2 x3 x4 x6 (ix2 (row k s) (wideCol g h p)) * x3 (ix2 (row k s) (head g h)) := by
  rw [← v8_at x3 k s g h p]
  unfold val_main_v122 val_main_v121 val_main_v77 val_main_v76 val_main_v75 val_main_v70 val_main_v10 val_main_v9
  generalize val_main_v119 (F := Ideal) x1 x2 x3 x4 x6 = y
  generalize val_main_v8 (F := Ideal) x3 = z
  pointwise [row, wideCol, head]
  have e : (g.val * 384 + h.val * 64 + p.val) / 64 = g.val * 6 + h.val := by omega
  simp only [e]

/-- The gradient by the columns written to the state. -/
theorem v118_at (k : Fin 16) (s : Fin 256) (g : Fin 8) (n : Fin 128) :
    val_main_v118 (F := Ideal) x0 x2 x3 x4 x6 (ix2 (row k s) (stateCol g n))
      = (∑ h : Fin 6, ∑ p : Fin 64, (val_main_v94 (F := Ideal) x2 x3 x4 x6 (ix5 k g h p n) : EReal) * val_main_v39 (F := Ideal) x0 x3 x4 (ix5 k s g h p))
        + ∑ l : Fin 256, (val_main_v110 (F := Ideal) x0 x3 x4 x6 (ix4 g k l s) : EReal) * x2 (ix2 (row k l) (stateCol g n)) := by
  simp only [← v14_at x2]
  unfold val_main_v118 val_main_v113 val_main_v96 val_main_v95 val_main_v112 val_main_v111
  generalize val_main_v94 (F := Ideal) x2 x3 x4 x6 = y
  generalize val_main_v39 (F := Ideal) x0 x3 x4 = z
  generalize val_main_v110 (F := Ideal) x0 x3 x4 x6 = u
  generalize val_main_v14 (F := Ideal) x2 = w
  pointwise [row, stateCol]

/-- The gradient by the columns read from the state. -/
theorem v117_at (k : Fin 16) (l : Fin 256) (g : Fin 8) (n : Fin 128) :
    val_main_v117 (F := Ideal) x0 x1 x3 x4 x6 (ix2 (row k l) (stateCol g n))
      = (∑ h : Fin 6, ∑ p : Fin 64, (val_main_v84 (F := Ideal) x3 x4 x6 (ix5 k l g h p) : EReal) * val_main_v60 (F := Ideal) x0 x1 x3 x4 (ix5 k g h p n))
        + ∑ s : Fin 256, (val_main_v110 (F := Ideal) x0 x3 x4 x6 (ix4 g k l s) : EReal) * x1 (ix2 (row k s) (stateCol g n)) := by
  simp only [← v13_at x1]
  unfold val_main_v117 val_main_v116 val_main_v87 val_main_v86 val_main_v115 val_main_v114 val_main_v85
  generalize val_main_v84 (F := Ideal) x3 x4 x6 = y
  generalize val_main_v60 (F := Ideal) x0 x1 x3 x4 = z
  generalize val_main_v110 (F := Ideal) x0 x3 x4 x6 = u
  generalize val_main_v13 (F := Ideal) x1 = w
  pointwise [row, stateCol]

/-- The gradient by the skip weights, a column at a time. -/
theorem v123_at (g : Fin 8) (q : Fin 384) :
    val_main_v123 (F := Ideal) x0 x6 (ix3 g 0 q)
      = ∑ r : Fin 4096, (x6 (ix2 r ⟨g.val * 384 + q.val, by omega⟩) : EReal) * x0 (ix2 r ⟨g.val * 384 + q.val, by omega⟩) := by
  pointwise [val_main_v123, val_main_v81, val_main_v80, val_main_v79, val_main_v78, val_main_v75, val_main_cst_9, val_main_cst_10]
  exact Fin.sum_univ_one _

end Cert.Ssd
-- ==== Proof.Ssd.States.lean ====
/- The gradients of the states of the reference, chunk by chunk: each is the next one, decayed, with what the next chunk's outputs add. -/
module

public import proofs.«01_k».proof.Proof.Ssd.Stages

@[expose] public section

set_option maxRecDepth 16384

noncomputable section

namespace Cert.Ssd

open Idealize.ShloMosaic Idealize.ShloMosaic.TcCoe Idealize.SL.Sem
open Cert.ReferenceIdeal Cert.ReferenceIdeal.Gen Cert.ReferenceIdeal.Read

/-- A finite factor that is not negative goes out of a sum. -/
theorem factor_sum {ι : Type} (s : Finset ι) (E : EReal) (h0 : 0 ≤ E) (h1 : E ≠ ⊤) (f : ι → EReal) : ∑ z ∈ s, E * f z = E * ∑ z ∈ s, f z := by
  induction s using Finset.cons_induction with
  | empty => simp
  | cons a s ha ih => rw [Finset.sum_cons, Finset.sum_cons, ih, EReal.left_distrib_of_nonneg_of_ne_top h0 h1]

/-- A weighted sum whose weights are one at place `i` and elsewhere carry the factor `E` over other weights, which leave `i` out. -/
theorem weighted_step {n : ℕ} (y v w : Fin n → EReal) (E : EReal) (h0 : 0 ≤ E) (h1 : E ≠ ⊤) (i : Fin n)
    (here : v i = 1) (there : w i = 0) (other : ∀ z, z ≠ i → v z = E * w z) : ∑ z, y z * v z = y i + E * ∑ z, y z * w z := by
  have term : ∀ z, y z * v z = (if z = i then y z else 0) + E * (y z * w z) := by
    intro z
    by_cases e : z = i
    · rw [if_pos e, e, here, there, mul_one, mul_zero, mul_zero, add_zero]
    · rw [other z e, if_neg e, zero_add, mul_left_comm]
  rw [Finset.sum_congr rfl fun z _ => term z, Finset.sum_add_distrib, Finset.sum_ite_eq' Finset.univ i, if_pos (Finset.mem_univ _),
    factor_sum _ _ h0 h1]

variable (x6 : (⟨S4096x3072, .f32⟩ : BufTy).Contents (Elt Ideal)) (x2 : (⟨S4096x1024, .f32⟩ : BufTy).Contents (Elt Ideal))
  (x3 : (⟨S4096x48, .f32⟩ : BufTy).Contents (Elt Ideal)) (x4 : (⟨S48, .f32⟩ : BufTy).Contents (Elt Ideal))
  (a : Fin 8 → Fin 6 → Fin 16 → Fin 256 → ℝ)
  (ha : ∀ g r c l, val_main_v6 (F := Ideal) x3 x4 (ix4 g r c l) = (a g r c l : EReal))

include ha

/-- No chunk comes after the last one. -/
theorem v94_last (g : Fin 8) (h : Fin 6) (p : Fin 64) (n : Fin 128) (k : Fin 16) (hk : k.val = 15) :
    val_main_v94 (F := Ideal) x2 x3 x4 x6 (ix5 k g h p n) = (0 : EReal) := by
  rw [v94_at]
  refine Finset.sum_eq_zero fun z _ => ?_
  by_cases hz : z.val = 16
  · rw [v89_last _ _ _ _ z hz]
    exact zero_mul _
  · rw [v57_above a ha g h z k.succ (by rw [Fin.val_succ]; omega)]
    exact mul_zero _

/-- One chunk back. -/
theorem v94_step (g : Fin 8) (h : Fin 6) (p : Fin 64) (n : Fin 128) (k k' : Fin 16) (hk : k'.val = k.val + 1) :
    val_main_v94 (F := Ideal) x2 x3 x4 x6 (ix5 k g h p n)
      = (val_main_v88 (F := Ideal) x2 x3 x4 x6 (ix5 k' g h p n) : EReal)
        + Ideal.exp (val_main_v15 (F := Ideal) x3 x4 (ix4 g h k' 255)) * val_main_v94 (F := Ideal) x2 x3 x4 x6 (ix5 k' g h p n) := by
  rw [v94_at, v94_at, ← v89_inner]
  have e : k.succ = k'.castSucc := Fin.ext (by rw [Fin.val_succ, Fin.val_castSucc]; omega)
  rw [e]
  have hE : Ideal.exp (val_main_v15 (F := Ideal) x3 x4 (ix4 g h k' 255)) = ((Real.exp (upTo (a g h k') 255) : ℝ) : EReal) := by
    rw [v15_real a ha]
    rfl
  refine weighted_step (fun z => val_main_v89 (F := Ideal) x2 x3 x4 x6 (ix5 z g h p n)) (fun z => val_main_v57 (F := Ideal) x3 x4 (ix4 g h z k'.castSucc))
    (fun z => val_main_v57 (F := Ideal) x3 x4 (ix4 g h z k'.succ)) _ ?_ ?_ k'.castSucc ?_ ?_ fun z hz => ?_
  · rw [hE]
    exact EReal.coe_nonneg.mpr (Real.exp_pos _).le
  · rw [hE]
    exact EReal.coe_ne_top _
  · exact v57_self a ha g h _
  · exact v57_above a ha g h _ _ (by rw [Fin.val_castSucc, Fin.val_succ]; omega)
  · by_cases hlt : z.val < k'.val
    · refine (v57_above a ha g h z _ (by rw [Fin.val_castSucc]; exact hlt)).trans ?_
      rw [v57_above a ha g h z _ (by rw [Fin.val_succ]; omega), mul_zero]
    · have hne : z.val ≠ k'.val := fun e => hz (Fin.ext (by rw [Fin.val_castSucc]; exact e))
      exact v57_step a ha g h z k' (by omega)

end Cert.Ssd
-- ==== Proof.Ssd.Equal.lean ====
/- What a point of the grid stores is what the reference holds at the point's chunk and group. -/
module

public import proofs.«01_k».proof.Proof.Ssd.Reads
public import proofs.«01_k».proof.Proof.Ssd.States

@[expose] public section

set_option maxRecDepth 16384

noncomputable section

namespace Cert.KernelIdeal.Ssd

open Idealize.ShloMosaic Idealize.ShloMosaic.TcCoe Idealize.SL.Sem
open Idealize.ShloMosaic.Pipeline (Dat)
open Cert.KernelIdeal Cert.KernelIdeal.Gen
open Cert.Ssd (row head wideCol stateCol)
open Cert.ReferenceIdeal.Read (val_main_v6 val_main_v12 val_main_v15 val_main_v25 val_main_v29 val_main_v35 val_main_v39 val_main_v60 val_main_v84 val_main_v88 val_main_v94
  val_main_v100 val_main_v103 val_main_v105 val_main_v110 val_main_v117 val_main_v118 val_main_v119 val_main_v120 val_main_v122)

variable (m : (ℓ : Loc nD τ sig) → Buf (Elt Ideal) ℓ) (c : Dev nD)
  (a : Fin 8 → Fin 6 → Fin 16 → Fin 256 → ℝ)
  (ha : ∀ g r k l, val_main_v6 (F := Ideal) (X3 m c) (X4 m c) (ix4 g r k l) = (a g r k l : EReal))
  (hn : ∀ g r k l, a g r k l ≤ 0)

/-- The comparison of two places. -/
theorem sge_places (l s : Fin 256) (e : EReal) :
    Scalar.select (IntOp.cmpi .sge (BitVec.ofNat 32 l.val) (BitVec.ofNat 32 s.val)) e (0 : EReal) = if s.val ≤ l.val then e else 0 := by
  have hl := l.isLt
  have hs := s.isLt
  by_cases h : s.val ≤ l.val
  · have e1 : IntOp.cmpi .sge (BitVec.ofNat 32 l.val) (BitVec.ofNat 32 s.val) = 1#1 := by word_omega
    rw [e1, if_pos h]
    rfl
  · have e1 : IntOp.cmpi .sge (BitVec.ofNat 32 l.val) (BitVec.ofNat 32 s.val) = 0#1 := by word_omega
    rw [e1, if_neg h]
    rfl

theorem sle_places (l s : Fin 256) (e : EReal) :
    Scalar.select (IntOp.cmpi .sle (BitVec.ofNat 32 s.val) (BitVec.ofNat 32 l.val)) e (0 : EReal) = if s.val ≤ l.val then e else 0 := by
  have hl := l.isLt
  have hs := s.isLt
  by_cases h : s.val ≤ l.val
  · have e1 : IntOp.cmpi .sle (BitVec.ofNat 32 s.val) (BitVec.ofNat 32 l.val) = 1#1 := by word_omega
    rw [e1, if_pos h]
    rfl
  · have e1 : IntOp.cmpi .sle (BitVec.ofNat 32 s.val) (BitVec.ofNat 32 l.val) = 0#1 := by word_omega
    rw [e1, if_neg h]
    rfl

include ha hn

theorem segL_eq (t : Fin cfg0.N) (h : Fin 6) (l s : Fin 256) :
    segL (iblk m c 3 t) (iblk m c 4 t) h l s = val_main_v25 (F := Ideal) (X3 m c) (X4 m c) (ix5 (grp t) h (chk t) l s) := by
  rw [Cert.Ssd.v25_at a ha hn, segL, sge_places, blk3_at, blk4_at]

theorem segR_eq (t : Fin cfg0.N) (h : Fin 6) (s l : Fin 256) :
    segR (iblk m c 3 t) (iblk m c 4 t) h s l = val_main_v25 (F := Ideal) (X3 m c) (X4 m c) (ix5 (grp t) h (chk t) l s) := by
  rw [Cert.Ssd.v25_at a ha hn, segR, sle_places, blk3_at, blk4_at]

theorem pairs_eq (t : Fin cfg0.N) (h : Fin 6) (l s : Fin 256) :
    pairL (X0_0 m c t) (iblk m c 5 t) (iblk m c 9 t) (iblk m c 3 t) (iblk m c 4 t) h l s
      = (val_main_v103 (F := Ideal) (X0 m c) (X3 m c) (X6 m c) (ix5 (grp t) h (chk t) l s) : EReal)
        * val_main_v25 (F := Ideal) (X3 m c) (X4 m c) (ix5 (grp t) h (chk t) l s) := by
  rw [pairL, segL_eq m c a ha hn, Cert.Ssd.v103_at]
  simp only [Cert.Ssd.v12_at, blk0_at, blk5_at, blk9_at]

theorem pairs_eq' (t : Fin cfg0.N) (h : Fin 6) (l s : Fin 256) :
    pairR (X0_0 m c t) (iblk m c 5 t) (iblk m c 9 t) (iblk m c 3 t) (iblk m c 4 t) h s l
      = (val_main_v103 (F := Ideal) (X0 m c) (X3 m c) (X6 m c) (ix5 (grp t) h (chk t) l s) : EReal)
        * val_main_v25 (F := Ideal) (X3 m c) (X4 m c) (ix5 (grp t) h (chk t) l s) := by
  rw [pairR, segR_eq m c a ha hn, Cert.Ssd.v103_at]
  simp only [Cert.Ssd.v12_at, blk0_at, blk5_at, blk9_at]
  refine congrArg (fun z : EReal => z * _) (Fin.sum_fin_congr fun p => ?_)
  exact mul_comm _ _

omit hn in
/-- The gradient of the state a point finds. -/
theorem carried_eq (t : Fin cfg0.N) (n : Fin 128) (h : Fin 6) (p : Fin 64) :
    carried m c t (ix2 n (col h p)) = val_main_v94 (F := Ideal) (X2 m c) (X3 m c) (X4 m c) (X6 m c) (ix5 (chk t) (grp t) h p n) := by
  obtain ⟨t, ht⟩ := t
  induction t using Nat.strong_induction_on generalizing n h p with
  | _ t ih =>
    by_cases h0 : t % 16 = 0
    · rw [carried_first m c ⟨t, ht⟩ h0, Cert.Ssd.v94_last _ _ _ _ a ha _ _ _ _ _ (by simp only [chk]; omega)]
      pointwise [k0_pay3]
    · have ht' : t - 1 < cfg0.N := by omega
      rw [carried_later m c ⟨t, ht⟩ h0]
      refine (state_out m c ⟨t - 1, ht'⟩ n (col h p)).trans ?_
      have eg : grp ⟨t - 1, ht'⟩ = grp ⟨t, ht⟩ := Fin.ext (by simp only [grp]; omega)
      rw [Cert.Ssd.v94_step _ _ _ _ a ha _ _ _ _ (chk ⟨t, ht⟩) (chk ⟨t - 1, ht'⟩) (by simp only [chk]; omega), Cert.Ssd.v88_at, ← eg,
        ← ih (t - 1) (by omega) n h p ht']
      unfold stateTerm
      simp only [Cert.Ssd.v84_at, blk6_at, blk2_at, blk9_at]
      rw [add_comm]
      refine congrArg (fun z : EReal => z + _) (Fin.sum_fin_congr fun l => ?_)
      exact mul_comm _ _

theorem dx_eq (t : Fin cfg0.N) (s : Fin 256) (h : Fin 6) (p : Fin 64) :
    dxTerm (iblk m c 6 t) (iblk m c 9 t) (iblk m c 1 t) (iblk m c 2 t) (iblk m c 3 t) (iblk m c 4 t) (carried m c t) s (col h p)
      = val_main_v119 (F := Ideal) (X1 m c) (X2 m c) (X3 m c) (X4 m c) (X6 m c) (ix2 (row (chk t) s) (wideCol (grp t) h p)) := by
  rw [Cert.Ssd.v119_at, Cert.Ssd.v100_at, Cert.Ssd.v105_at, dxTerm, dxDiag]
  simp only [headOf_col, segR_eq m c a ha hn, carried_eq m c a ha, blk1_at, blk2_at, blk6_at, blk9_at, Cert.Ssd.v35_at, Cert.Ssd.v29_at]
  refine congrArg₂ (fun y z : EReal => y + z) (congrArg (fun z : EReal => z * _) (Fin.sum_fin_congr fun n => mul_comm _ _)) (Fin.sum_fin_congr fun l => ?_)
  refine (mul_comm _ _).trans (congrArg (fun z : EReal => _ * (z * _)) (Fin.sum_fin_congr fun n => mul_comm _ _))

theorem ddt_eq (t : Fin cfg0.N) (s : Fin 256) (h : Fin 6) (p : Fin 64) :
    ddtTerm (X0_0 m c t) (iblk m c 6 t) (iblk m c 9 t) (iblk m c 1 t) (iblk m c 2 t) (iblk m c 3 t) (iblk m c 4 t) (carried m c t) s (col h p)
      = val_main_v120 (F := Ideal) (X0 m c) (X1 m c) (X2 m c) (X3 m c) (X4 m c) (X6 m c) (ix2 (row (chk t) s) (wideCol (grp t) h p)) := by
  rw [ddtTerm, dx_eq m c a ha hn, blk0_at]
  exact mul_comm _ _

theorem dxs_eq (t : Fin cfg0.N) (s : Fin 256) (h : Fin 6) (p : Fin 64) :
    dxsTerm (iblk m c 5 t) (iblk m c 6 t) (iblk m c 9 t) (iblk m c 1 t) (iblk m c 2 t) (iblk m c 3 t) (iblk m c 4 t) (iblk m c 7 t) (carried m c t) s (col h p)
      = val_main_v122 (F := Ideal) (X1 m c) (X2 m c) (X3 m c) (X4 m c) (X5 m c) (X6 m c) (ix2 (row (chk t) s) (wideCol (grp t) h p)) := by
  rw [dxsTerm, dx_eq m c a ha hn, Cert.Ssd.v122_at, blk5_at, blk7_at, blk9_at]
  exact (add_comm _ _).trans (congrArg (fun z : EReal => z + _) (mul_comm _ _))

omit ha hn in
/-- A sum over a group's columns is a sum over its heads and their columns. -/
theorem sum_cols (f : Fin 384 → EReal) : ∑ q : Fin 384, f q = ∑ h : Fin 6, ∑ p : Fin 64, f (col h p) :=
  Fin.sum_univ_tiles 6 64 rfl f

theorem db_eq (t : Fin cfg0.N) (s : Fin 256) (n : Fin 128) :
    dbTerm (X0_0 m c t) (iblk m c 5 t) (iblk m c 6 t) (iblk m c 9 t) (iblk m c 2 t) (iblk m c 3 t) (iblk m c 4 t) (carried m c t) s n
      = val_main_v118 (F := Ideal) (X0 m c) (X2 m c) (X3 m c) (X4 m c) (X6 m c) (ix2 (row (chk t) s) (stateCol (grp t) n)) := by
  rw [Cert.Ssd.v118_at, dbTerm, sum_cols]
  simp only [pairs_eq' m c a ha hn, carried_eq m c a ha, blk0_at, blk2_at, blk5_at, blk6_at, Cert.Ssd.v110_at, Cert.Ssd.v39_at, Cert.Ssd.v35_at, Cert.Ssd.v12_at]
  refine congrArg (fun z : EReal => z + _) (Fin.sum_fin_congr fun h => Fin.sum_fin_congr fun p => ?_)
  exact mul_comm _ _

theorem dc_eq (t : Fin cfg0.N) (l : Fin 256) (n : Fin 128) :
    dcTerm (X0_0 m c t) (iblk m c 5 t) (iblk m c 6 t) (iblk m c 9 t) (iblk m c 1 t) (iblk m c 3 t) (iblk m c 4 t) (iblk m c 8 t) l n
      = val_main_v117 (F := Ideal) (X0 m c) (X1 m c) (X3 m c) (X4 m c) (X6 m c) (ix2 (row (chk t) l) (stateCol (grp t) n)) := by
  rw [Cert.Ssd.v117_at, dcTerm, sum_cols]
  simp only [pairs_eq m c a ha hn, blk1_at, blk6_at, blk8_at, blk9_at, Cert.Ssd.v110_at, Cert.Ssd.v84_at]

end Cert.KernelIdeal.Ssd
-- ==== Proof.Ssd.Final.lean ====
/- The arrays the kernel leaves are the reference's. -/
module

public import proofs.«01_k».proof.Proof.Ssd.Equal

@[expose] public section

set_option maxRecDepth 16384

noncomputable section

namespace Cert.KernelIdeal.Ssd

open Idealize.ShloMosaic Idealize.ShloMosaic.TcCoe Idealize.SL.Sem
open Idealize.ShloMosaic.Pipeline (Dat)
open Cert.KernelIdeal Cert.KernelIdeal.Gen
open Cert.Ssd (row head wideCol stateCol)
open Cert.ReferenceIdeal.Read (val_main_v6 val_main_v117 val_main_v118 val_main_v120 val_main_v122 val_main_v123)

variable (m : (ℓ : Loc nD τ sig) → Buf (Elt Ideal) ℓ) (c : Dev nD)
  (a : Fin 8 → Fin 6 → Fin 16 → Fin 256 → ℝ)
  (ha : ∀ g r k l, val_main_v6 (F := Ideal) (X3 m c) (X4 m c) (ix4 g r k l) = (a g r k l : EReal))
  (hn : ∀ g r k l, a g r k l ≤ 0)

/-- Every column of a group is a column of one of its heads. -/
theorem col_cases (q : Fin 384) : ∃ h p, q = col h p :=
  ⟨⟨q.val / 64, by omega⟩, ⟨q.val % 64, by omega⟩, Fin.ext (by simp only [col]; omega)⟩

theorem wide_cases (y : S256x384.Idx) : ∃ (s : Fin 256) (q : Fin 384), y = ix2 s q := ⟨y 0, y 1, by funext b; fin_cases b <;> rfl⟩

theorem state_cases (y : S256x128.Idx) : ∃ (s : Fin 256) (n : Fin 128), y = ix2 s n := ⟨y 0, y 1, by funext b; fin_cases b <;> rfl⟩

include ha hn

theorem dxs_final : (dats m 0 c).arrAt 10 (cfgs 0).N = val_main_v122 (F := Ideal) (X1 m c) (X2 m c) (X3 m c) (X4 m c) (X5 m c) (X6 m c) := by
  refine (dats m 0 c).arrAt_eq_of_covers 10 _ (by decide +kernel) fun t _ y => ?_
  blk_simp
  rw [after0_10]
  obtain ⟨s, q, rfl⟩ := wide_cases y
  obtain ⟨h, p, rfl⟩ := col_cases q
  refine (dxs_out m c t s (col h p)).trans ((dxs_eq m c a ha hn t s h p).trans ?_)
  blk_ext [idx t, row, wideCol, col, grp, chk]

theorem ddt_final : (dats m 0 c).arrAt 14 (cfgs 0).N = val_main_v120 (F := Ideal) (X0 m c) (X1 m c) (X2 m c) (X3 m c) (X4 m c) (X6 m c) := by
  refine (dats m 0 c).arrAt_eq_of_covers 14 _ (by decide +kernel) fun t _ y => ?_
  blk_simp
  rw [after0_14]
  obtain ⟨s, q, rfl⟩ := wide_cases y
  obtain ⟨h, p, rfl⟩ := col_cases q
  refine (ddt_out m c t s (col h p)).trans ((ddt_eq m c a ha hn t s h p).trans ?_)
  blk_ext [idx t, row, wideCol, col, grp, chk]

theorem db_final : (dats m 0 c).arrAt 11 (cfgs 0).N = val_main_v118 (F := Ideal) (X0 m c) (X2 m c) (X3 m c) (X4 m c) (X6 m c) := by
  refine (dats m 0 c).arrAt_eq_of_covers 11 _ (by decide +kernel) fun t _ y => ?_
  blk_simp
  rw [after0_11]
  obtain ⟨s, n, rfl⟩ := state_cases y
  refine (db_out m c t s n).trans ((db_eq m c a ha hn t s n).trans ?_)
  blk_ext [idx t, row, stateCol, grp, chk]

theorem dc_final : (dats m 0 c).arrAt 12 (cfgs 0).N = val_main_v117 (F := Ideal) (X0 m c) (X1 m c) (X3 m c) (X4 m c) (X6 m c) := by
  refine (dats m 0 c).arrAt_eq_of_covers 12 _ (by decide +kernel) fun t _ y => ?_
  blk_simp
  rw [after0_12]
  obtain ⟨s, n, rfl⟩ := state_cases y
  refine (dc_out m c t s n).trans ((dc_eq m c a ha hn t s n).trans ?_)
  blk_ext [idx t, row, stateCol, grp, chk]

end Cert.KernelIdeal.Ssd
-- ==== Proof.Ssd.Skip.lean ====
/- The gradient of the skip weights: a sum over all rows, the kernel's chunk by chunk from the last one on. -/
module

public import proofs.«01_k».proof.Proof.Ssd.Reads
public import proofs.«01_k».proof.Proof.Ssd.Stages

@[expose] public section

set_option maxRecDepth 16384

noncomputable section

namespace Cert.KernelIdeal.Ssd

open Idealize.ShloMosaic Idealize.ShloMosaic.TcCoe Idealize.SL.Sem
open Idealize.ShloMosaic.Pipeline (Dat)
open Cert.KernelIdeal Cert.KernelIdeal.Gen
open Cert.Ssd (row head wideCol stateCol)
open Cert.ReferenceIdeal.Read (val_main_v123)

variable (m : (ℓ : Loc nD τ sig) → Buf (Elt Ideal) ℓ) (c : Dev nD)

theorem skip_cases (y : S1x1x384.Idx) : ∃ q : Fin 384, y = ix3 0 0 q :=
  ⟨y 2, by funext b; fin_cases b; exacts [Fin.ext (Nat.lt_one_iff.mp (y 0).isLt), Fin.ext (Nat.lt_one_iff.mp (y 1).isLt), rfl]⟩

/-- What a point adds to the gradient of the skip weights. -/
theorem skip_step (x0 x9 : FVec Ideal S256x384 .f32) (prev : FVec Ideal S1x1x384 .f32) (y : S1x1x384.Idx) :
    k0_pay108 (F := Ideal) x0 x9 prev y = (prev y : EReal) + ∑ s : Fin 256, x9 (ix2 s (y 2)) * x0 (ix2 s (y 2)) := by
  obtain ⟨q, rfl⟩ := skip_cases y
  pointwise [k0_pay108]

theorem skip_zero (y : S1x1x384.Idx) : k0_pay4 (F := Ideal) y = (0 : EReal) := by
  pointwise [k0_pay4]

theorem input_read (x : FVec Ideal S256x384 .f32) (i : S256x384.Idx) : k0_pay11 (F := Ideal) x i = x i := by
  pointwise [k0_pay11]

/-- What chunk `k` adds at a column. -/
def skipPart (k : Fin 16) (w : Fin 3072) : EReal := ∑ s : Fin 256, (X6 m c (ix2 (row k s) w) : EReal) * X0 m c (ix2 (row k s) w)

/-- What a point adds is what its chunk adds. -/
theorem point_part (t : Fin cfg0.N) (k : Fin 16) (hk : chk t = k) (h : Fin 6) (p : Fin 64) :
    ∑ s : Fin 256, (show EReal from iblk m c 9 t (ix2 s (col h p))) * k0_pay11 (F := Ideal) (X0_0 m c t) (ix2 s (col h p))
      = skipPart m c k (wideCol (grp t) h p) := by
  subst hk
  refine Finset.sum_congr rfl fun s _ => ?_
  rw [input_read, blk0_at, ← blk9_at]

/-- All chunks together, from the last one on. -/
theorem parts_sum (w : Fin 3072) : ∑ s : Fin 16, skipPart m c s.rev w = ∑ r : Fin 4096, (X6 m c (ix2 r w) : EReal) * X0 m c (ix2 r w) := by
  rw [Fin.sum_univ_tiles 16 256 rfl fun r : Fin 4096 => (X6 m c (ix2 r w) : EReal) * X0 m c (ix2 r w)]
  exact Equiv.sum_comp Fin.revPerm fun k => skipPart m c k w

set_option maxHeartbeats 2000000 in
theorem pd_final : (dats m 0 c).arrAt 17 (cfgs 0).N = val_main_v123 (F := Ideal) (X0 m c) (X6 m c) := by
  refine (dats m 0 c).arrAt_eq_of_covers 17 _ (by decide +kernel) fun t hf y => ?_
  blk_simp
  rw [after0_17, Pipeline.eq_sum_fin_of_reset_step_apply_of_flush (fun n h => (outsAt0 m c n h).2.2.2.2.2.2.2.1) 16 (fun _ => 0) _
    (fun t h j => by
      rw [outsAt0_A m c t h]
      frame_open
      simp (disch := decide) only [↓ View.readCov_skip, ↓ View.readCov_cons_toLoadRect, ↓ View.readCov_fill]
      frame_out
      try simp only [read_unread_whole]
      rw [skip_step, skip_zero])
    (fun t h j => by
      rw [outsAt0_B m c t h]
      frame_open
      simp (disch := decide) only [↓ View.readCov_skip, ↓ View.readCov_cons_toLoadRect, ↓ View.readCov_fill]
      frame_out
      try simp only [read_unread_whole]
      rw [skip_step]) t ((flush0_17 t).mp hf) _, zero_add]
  obtain ⟨q, rfl⟩ := skip_cases y
  obtain ⟨h, p, rfl⟩ : ∃ h p, q = col h p := ⟨⟨q.val / 64, by omega⟩, ⟨q.val % 64, by omega⟩, Fin.ext (by simp only [col]; omega)⟩
  refine (Fin.sum_fin_congr (G := fun s : Fin 16 => skipPart m c s.rev (wideCol (grp t) h p)) fun s => ?_).trans ((parts_sum m c _).trans ?_)
  · have hb := Pipeline.run_point_lt_of_flush t ((flush0_17 t).mp hf) s
    have eg : grp ⟨16 * (t.val / 16) + s.val, hb⟩ = grp t := Fin.ext (by simp only [grp]; omega)
    rw [← eg]
    exact point_part m c ⟨16 * (t.val / 16) + s.val, hb⟩ s.rev (Fin.ext (by simp only [chk, Fin.val_rev]; omega)) h p
  · refine (?_ : _ = val_main_v123 (F := Ideal) (X0 m c) (X6 m c) (ix3 (grp t) 0 (col h p))).trans ?_
    · rw [Cert.Ssd.v123_at]
      have e : wideCol (grp t) h p = ⟨(grp t).val * 384 + (col h p).val, by omega⟩ := Fin.ext (by simp only [wideCol, col]; omega)
      rw [e]
    · blk_ext [idx t, grp]

end Cert.KernelIdeal.Ssd
-- ==== Proof.Ssd.Steps.lean ====
/- The precondition read back: every step is a nonnegative real and every logarithm of a decay rate is real, so every exponent of a
   decay is a real that is not positive. -/
module

public import proofs.«01_k».proof.Pre_steps_decay
public import proofs.«01_k».proof.Proof.Gen.ReferenceIdeal.Read
public import proofs.«01_k».proof.Proof.Ssd.Places
public import proofs.«01_k».proof.Proof.Ssd.Decay
public import Idealize.ShloMosaic.Lib.ReduceAll
public import Idealize.ShloMosaic.Lib.Pointwise

@[expose] public section

set_option maxRecDepth 16384

noncomputable section

namespace Cert.Pre_steps_decay

open Idealize.ShloMosaic

/-- The side conditions of the precondition. -/
theorem facts_hold : Facts where
  bcast_S_S4096x48 := by decide
  reducesTo_S4096x48_S_d0_1 := by decide
  h_S_ := by decide
  bcast_S_S48 := by decide
  reducesTo_S48_S_d0 := by decide

end Cert.Pre_steps_decay

namespace Cert.Ssd

open Idealize.ShloMosaic Idealize.ShloMosaic.TcCoe Idealize.SL.Sem
open Cert.Pre_steps_decay (S4096x48 S48 S_)

/-- The constant plus infinity. -/
theorem constant_top (i : S_.Idx) : constant (F := Ideal) S_ .f32 0x7F800000#32 i = (⊤ : EReal) := by
  show Ideal.ofBits .f32 0x7F800000#32 = ⊤
  simp [Ideal.ofBits, Ideal.ieee]

section

variable [Cert.Pre_steps_decay.Facts]
  (x0 : FVec Ideal Cert.Pre_steps_decay.S4096x3072 .f32) (x1 x2 : FVec Ideal Cert.Pre_steps_decay.S4096x1024 .f32)
  (x3 : FVec Ideal S4096x48 .f32) (x4 x5 : FVec Ideal S48 .f32) (x6 : FVec Ideal Cert.Pre_steps_decay.S4096x3072 .f32)

/-- What the precondition says, entry by entry. -/
theorem steps_hold (h : Cert.Pre_steps_decay.fn (F := Ideal) x0 x1 x2 x3 x4 x5 x6 = fun _ => 1#1) :
    (∀ i, (0 : EReal) ≤ x3 i ∧ (x3 i : EReal) < ⊤) ∧ ∀ i, (x4 i : EReal) ≠ ⊤ ∧ (x4 i : EReal) ≠ ⊥ := by
  have : Subsingleton S_.Idx := ⟨fun a b => funext fun k => k.elim0⟩
  have h0 := congrFun h ix0
  simp only [Cert.Pre_steps_decay.fn, andi, IntOp.andi_eq_one] at h0
  obtain ⟨⟨h1, h2⟩, h3⟩ := h0
  have k1 := Host.reduce_andi_all _ _ _ _ _ h1
  have k2 := Host.reduce_andi_all _ _ _ _ _ h2
  have k3 := Host.reduce_andi_all _ _ _ _ _ h3
  refine ⟨fun i => ⟨?_, ?_⟩, fun i => ?_⟩
  · have e : Ideal.cmp .oge (x3 i) (constant (F := Ideal) S_ .f32 0x00000000#32 ix0) = 1 := k1 i
    rwa [Ideal.cmp_oge_eq_one, constant_zero] at e
  · have e : Ideal.cmp .olt (x3 i) (constant (F := Ideal) S_ .f32 0x7F800000#32 ix0) = 1 := k2 i
    rwa [Ideal.cmp_olt_eq_one, constant_top] at e
  · have e : Ideal.cmp .olt (max (x4 i : EReal) (-(x4 i : EReal))) (constant (F := Ideal) S_ .f32 0x7F800000#32 ix0) = 1 := k3 i
    rw [Ideal.cmp_olt_eq_one, constant_top, max_lt_iff] at e
    exact ⟨e.1.ne, fun hb => by rw [hb] at e; exact absurd e.2 (by simp)⟩

end

open Cert.ReferenceIdeal.Read (val_main_v0 val_main_v1 val_main_v2 val_main_v3 val_main_v4 val_main_v5 val_main_v6)

/-- The exponent of one place: the step times minus the exponential of the head's logarithm. -/
theorem v6_at (x3 : (⟨Cert.ReferenceIdeal.S4096x48, .f32⟩ : BufTy).Contents (Elt Ideal))
    (x4 : (⟨Cert.ReferenceIdeal.S48, .f32⟩ : BufTy).Contents (Elt Ideal)) (g : Fin 8) (h : Fin 6) (k : Fin 16) (s : Fin 256) :
    val_main_v6 (F := Ideal) x3 x4 (ix4 g h k s)
      = (show EReal from x3 (ix2 (row k s) (head g h))) * (-(Ideal.exp (show EReal from x4 (ix1 (head g h))))) := by
  pointwise [val_main_v6, val_main_v5, val_main_v4, val_main_v3, val_main_v2, val_main_v1, val_main_v0, row, head]

/-- The exponent of one place as a real. -/
def exponent (x3 : (⟨Cert.ReferenceIdeal.S4096x48, .f32⟩ : BufTy).Contents (Elt Ideal))
    (x4 : (⟨Cert.ReferenceIdeal.S48, .f32⟩ : BufTy).Contents (Elt Ideal)) (g : Fin 8) (h : Fin 6) (k : Fin 16) (s : Fin 256) : ℝ :=
  (show EReal from x3 (ix2 (row k s) (head g h))).toReal * (-(Real.exp (show EReal from x4 (ix1 (head g h))).toReal))

section

variable (x3 : FVec Ideal S4096x48 .f32) (x4 : FVec Ideal S48 .f32) (h3 : ∀ i, (0 : EReal) ≤ x3 i ∧ (x3 i : EReal) < ⊤)
  (h4 : ∀ i, (x4 i : EReal) ≠ ⊤ ∧ (x4 i : EReal) ≠ ⊥) (g : Fin 8) (h : Fin 6) (k : Fin 16) (s : Fin 256)

include h3 h4 in
/-- Where the steps and the logarithms are what the precondition says, the exponent is that real. -/
theorem exponent_real : val_main_v6 (F := Ideal) x3 x4 (ix4 g h k s) = (exponent x3 x4 g h k s : EReal) := by
  obtain ⟨p3, q3⟩ := h3 (ix2 (row k s) (head g h))
  obtain ⟨p4, q4⟩ := h4 (ix1 (head g h))
  rw [v6_at]
  unfold exponent
  generalize (x3 (ix2 (row k s) (head g h)) : EReal) = u at *
  generalize (x4 (ix1 (head g h)) : EReal) = w at *
  lift u to ℝ using ⟨q3.ne, fun hb => by rw [hb] at p3; exact absurd p3 (by simp)⟩
  lift w to ℝ using ⟨p4, q4⟩
  show (u : EReal) * -(Ideal.exp (w : EReal)) = _
  rw [Ideal.exp_coe]
  norm_cast

include h3 in
/-- Where the steps are not negative, the exponent is not positive. -/
theorem exponent_nonpos : exponent x3 x4 g h k s ≤ 0 :=
  mul_nonpos_of_nonneg_of_nonpos (EReal.toReal_nonneg (h3 _).1) (neg_nonpos.2 (Real.exp_pos _).le)

end

end Cert.Ssd
-- ==== Proof.Ssd.Agree.lean ====
/- The kernel's five results are the reference's, from memories that agree on the arguments. -/
module

public import proofs.«01_k».proof.Defs
public import proofs.«01_k».proof.Proof.Gen.ReferenceIdeal.Run
public import proofs.«01_k».proof.Proof.Ssd.Final
public import proofs.«01_k».proof.Proof.Ssd.Skip
public import proofs.«01_k».proof.Proof.Ssd.Steps

@[expose] public section

set_option maxRecDepth 16384

noncomputable section

namespace Cert.Proof

open Idealize.ShloMosaic Idealize.ShloMosaic.TcCoe Idealize.SL.Sem
open Cert.KernelIdeal.Ssd (X0 X1 X2 X3 X4 X5 X6)
open Cert.ReferenceIdeal.Read (val_main_v117 val_main_v118 val_main_v120 val_main_v122 val_main_v123 val_main_v117_eq
  val_main_v118_eq val_main_v120_eq val_main_v122_eq val_main_v123_eq)

/-- The reference runs from a memory that agrees with the kernel's on the arguments, and its results are its stages at the kernel's
    arguments. -/
theorem reference_run (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (g' : Dev Cert.ReferenceIdeal.nD → PrngReg)
    (h0 : ∀ c : Dev Cert.KernelIdeal.nD, m' ((c.tc : Thread Cert.ReferenceIdeal.nD Cert.ReferenceIdeal.τ).loc Cert.ReferenceIdeal.main_arg0) = X0 m c)
    (h1 : ∀ c : Dev Cert.KernelIdeal.nD, m' ((c.tc : Thread Cert.ReferenceIdeal.nD Cert.ReferenceIdeal.τ).loc Cert.ReferenceIdeal.main_arg1) = X1 m c)
    (h2 : ∀ c : Dev Cert.KernelIdeal.nD, m' ((c.tc : Thread Cert.ReferenceIdeal.nD Cert.ReferenceIdeal.τ).loc Cert.ReferenceIdeal.main_arg2) = X2 m c)
    (h3 : ∀ c : Dev Cert.KernelIdeal.nD, m' ((c.tc : Thread Cert.ReferenceIdeal.nD Cert.ReferenceIdeal.τ).loc Cert.ReferenceIdeal.main_arg3) = X3 m c)
    (h4 : ∀ c : Dev Cert.KernelIdeal.nD, m' ((c.tc : Thread Cert.ReferenceIdeal.nD Cert.ReferenceIdeal.τ).loc Cert.ReferenceIdeal.main_arg4) = X4 m c)
    (h5 : ∀ c : Dev Cert.KernelIdeal.nD, m' ((c.tc : Thread Cert.ReferenceIdeal.nD Cert.ReferenceIdeal.τ).loc Cert.ReferenceIdeal.main_arg5) = X5 m c)
    (h6 : ∀ c : Dev Cert.KernelIdeal.nD, m' ((c.tc : Thread Cert.ReferenceIdeal.nD Cert.ReferenceIdeal.τ).loc Cert.ReferenceIdeal.main_arg6) = X6 m c) :
    θ_run (Cert.ReferenceIdeal.defs (F := Ideal)) (onTc (τ := Cert.ReferenceIdeal.τ) (Cert.ReferenceIdeal.main (F := Ideal)))
      ⟨m', fun _ => 0, g'⟩ fun r => ∀ c : Dev Cert.ReferenceIdeal.nD,
        r.2.mem ((c.tc : Thread Cert.ReferenceIdeal.nD Cert.ReferenceIdeal.τ).loc Cert.ReferenceIdeal.main_v122) = val_main_v122 (F := Ideal) (X1 m c) (X2 m c) (X3 m c) (X4 m c) (X5 m c) (X6 m c)
        ∧ r.2.mem ((c.tc : Thread Cert.ReferenceIdeal.nD Cert.ReferenceIdeal.τ).loc Cert.ReferenceIdeal.main_v118) = val_main_v118 (F := Ideal) (X0 m c) (X2 m c) (X3 m c) (X4 m c) (X6 m c)
        ∧ r.2.mem ((c.tc : Thread Cert.ReferenceIdeal.nD Cert.ReferenceIdeal.τ).loc Cert.ReferenceIdeal.main_v117) = val_main_v117 (F := Ideal) (X0 m c) (X1 m c) (X3 m c) (X4 m c) (X6 m c)
        ∧ r.2.mem ((c.tc : Thread Cert.ReferenceIdeal.nD Cert.ReferenceIdeal.τ).loc Cert.ReferenceIdeal.main_v120) = val_main_v120 (F := Ideal) (X0 m c) (X1 m c) (X2 m c) (X3 m c) (X4 m c) (X6 m c)
        ∧ r.2.mem ((c.tc : Thread Cert.ReferenceIdeal.nD Cert.ReferenceIdeal.τ).loc Cert.ReferenceIdeal.main_v123) = val_main_v123 (F := Ideal) (X0 m c) (X6 m c)
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6) := by
  refine (θ_run _ _ _).mono (fun r h c => ?_) (Cert.ReferenceIdeal.Value.run (F := Ideal) m' g')
  have e0 : StableHlo.launchContents m' c (Proc.devRef .tc Cert.ReferenceIdeal.main_arg0) = X0 m c := h0 c
  have e1 : StableHlo.launchContents m' c (Proc.devRef .tc Cert.ReferenceIdeal.main_arg1) = X1 m c := h1 c
  have e2 : StableHlo.launchContents m' c (Proc.devRef .tc Cert.ReferenceIdeal.main_arg2) = X2 m c := h2 c
  have e3 : StableHlo.launchContents m' c (Proc.devRef .tc Cert.ReferenceIdeal.main_arg3) = X3 m c := h3 c
  have e4 : StableHlo.launchContents m' c (Proc.devRef .tc Cert.ReferenceIdeal.main_arg4) = X4 m c := h4 c
  have e5 : StableHlo.launchContents m' c (Proc.devRef .tc Cert.ReferenceIdeal.main_arg5) = X5 m c := h5 c
  have e6 : StableHlo.launchContents m' c (Proc.devRef .tc Cert.ReferenceIdeal.main_arg6) = X6 m c := h6 c
  obtain ⟨r0, r1, r2, r3, r4, rest⟩ := h c
  refine ⟨?_, ?_, ?_, ?_, ?_, rest⟩
  · rw [r0.trans (val_main_v122_eq (StableHlo.launchContents m' c))]
    rw [e1, e2, e3, e4, e5, e6]
  · rw [r1.trans (val_main_v118_eq (StableHlo.launchContents m' c))]
    rw [e0, e2, e3, e4, e6]
  · rw [r2.trans (val_main_v117_eq (StableHlo.launchContents m' c))]
    rw [e0, e1, e3, e4, e6]
  · rw [r3.trans (val_main_v120_eq (StableHlo.launchContents m' c))]
    rw [e0, e1, e2, e3, e4, e6]
  · rw [r4.trans (val_main_v123_eq (StableHlo.launchContents m' c))]
    rw [e0, e6]

/-- The value claim: under the precondition the kernel's five results are the reference's. -/
theorem agree [hp : Cert.Pre_steps_decay.Facts] :
    Cert.algebraic_KernelIdeal_ReferenceIdeal_pre_steps_decay (hKernelIdeal := Cert.KernelIdeal.Gen.facts)
      (hReferenceIdeal := Cert.ReferenceIdeal.Gen.facts) := by
  intro m g m' g' hpre hargs
  refine ⟨fun c => val_main_v122 (F := Ideal) (X1 m c) (X2 m c) (X3 m c) (X4 m c) (X5 m c) (X6 m c),
    fun c => val_main_v118 (F := Ideal) (X0 m c) (X2 m c) (X3 m c) (X4 m c) (X6 m c),
    fun c => val_main_v117 (F := Ideal) (X0 m c) (X1 m c) (X3 m c) (X4 m c) (X6 m c),
    fun c => val_main_v120 (F := Ideal) (X0 m c) (X1 m c) (X2 m c) (X3 m c) (X4 m c) (X6 m c),
    fun c => val_main_v123 (F := Ideal) (X0 m c) (X6 m c), ?_,
    reference_run m m' g' (fun c => (hargs c).1) (fun c => (hargs c).2.1) (fun c => (hargs c).2.2.1) (fun c => (hargs c).2.2.2.1)
      (fun c => (hargs c).2.2.2.2.1) (fun c => (hargs c).2.2.2.2.2.1) (fun c => (hargs c).2.2.2.2.2.2)⟩
  refine (θ_run _ _ _).mono (fun r h c => ?_) (Cert.KernelIdeal.Value.run_blocks (F := Ideal) m g)
  obtain ⟨b10, b11, b12, -, b14, -, -, b17, rest⟩ := h c
  obtain ⟨h3, h4⟩ := Cert.Ssd.steps_hold (X0 m c) (X1 m c) (X2 m c) (X3 m c) (X4 m c) (X5 m c) (X6 m c) (hpre c)
  have ha := Cert.Ssd.exponent_real (X3 m c) (X4 m c) h3 h4
  have hn := Cert.Ssd.exponent_nonpos (X3 m c) (X4 m c) h3
  exact ⟨b10.trans (Cert.KernelIdeal.Ssd.dxs_final m c _ ha hn), b11.trans (Cert.KernelIdeal.Ssd.db_final m c _ ha hn),
    b12.trans (Cert.KernelIdeal.Ssd.dc_final m c _ ha hn), b14.trans (Cert.KernelIdeal.Ssd.ddt_final m c _ ha hn),
    b17.trans (Cert.KernelIdeal.Ssd.pd_final m c), rest⟩

end Cert.Proof

end
-- ==== Proof.Prod.Tiles.lean ====
/- What the products with tiles share: an accumulator that starts at the first of `K` points and adds a tile of the sum at each of them
   holds the whole sum at the last. -/
module

public import Idealize.ShloMosaic.Lib.Pipeline.ValueKit
public import Idealize.ShloMosaic.Lib.Pointwise

@[expose] public section

noncomputable section

namespace Cert.Prod

open Idealize.ShloMosaic

/-- An index of a matrix is its row and its column. -/
theorem cases2 {a b : ℕ} (j : (⟨2, ![a, b]⟩ : Shape).Idx) : ∃ p q, j = ix2 p q :=
  ⟨j 0, j 1, by funext k; fin_cases k <;> rfl⟩

/-- The place of an entry of a tile. -/
def place {K S T : ℕ} (hT : T = K * S) (k : Fin K) (s : Fin S) : Fin T :=
  ⟨k.val * S + s.val, by
    subst hT
    calc k.val * S + s.val < k.val * S + S := by omega
      _ = (k.val + 1) * S := by ring
      _ ≤ K * S := Nat.mul_le_mul_right _ k.isLt⟩

/-- The whole sum at the last of the `K` points, where every point adds the entries of its tile. -/
theorem whole {N K S T : ℕ} [NeZero K] {ι : Type} (hT : T = K * S) (acc : (n : ℕ) → n < N → ι → EReal) (term : Fin N → ι → EReal)
    (full : Fin N → ι → Fin T → EReal)
    (first : ∀ t : Fin N, t.val % K = 0 → ∀ j, acc t.val t.isLt j = 0 + term t j)
    (next : ∀ t : Fin N, ¬t.val % K = 0 → ∀ j,
      acc t.val t.isLt j = acc (t.val - 1) (Nat.lt_of_le_of_lt (Nat.sub_le _ _) t.isLt) j + term t j)
    (tile : ∀ (t u : Fin N) (k : Fin K), u.val = K * (t.val / K) + k.val → ∀ j, term u j = ∑ s : Fin S, full t j (place hT k s))
    (t : Fin N) (ht : t.val % K = K - 1) (j : ι) : acc t.val t.isLt j = ∑ s : Fin T, full t j s := by
  rw [Pipeline.eq_sum_fin_of_reset_step_apply_of_flush acc K (fun _ => 0) term first next t ht j, zero_add]
  refine (Fin.sum_fin_congr fun k => tile t _ k rfl j).trans ?_
  rw [Fin.sum_univ_tiles K S hT.symm (full t j)]
  rfl

end Cert.Prod
-- ==== Proof.Prod.DownW.lean ====
/- The gradient of the down projection's weights. -/
module

public import proofs.«01_k».proof.Defs
public import proofs.«01_k».proof.Proof.Gen.DownW.Frame
public import proofs.«01_k».proof.Proof.Gen.DownWIdeal.Value
public import proofs.«01_k».proof.Proof.Gen.DownWRefIdeal.Run
public import proofs.«01_k».proof.Proof.Gen.DownWRefIdeal.Read
public import proofs.«01_k».proof.Proof.Prod.Tiles
public import Idealize.ShloMosaic.Lib.Pipeline.ValueKit
public import Idealize.ShloMosaic.Lib.Pipeline.ReadBack
public import Idealize.ShloMosaic.Lib.Pointwise
public import Idealize.ShloMosaic.Lib.StableHlo.RunRead
public import Idealize.ShloMosaic.Lib.Tactic.WordOmega
public import Idealize.ShloMosaic.Adequacy
public import Idealize.ShloMosaic.Init

@[expose] public section

set_option maxRecDepth 16384

noncomputable section

namespace Cert.DownWIdeal.Prod

open Idealize.ShloMosaic Idealize.ShloMosaic.TcCoe Idealize.SL.Sem
open Idealize.ShloMosaic.Pipeline (Dat)
open Cert.DownWIdeal Cert.DownWIdeal.Gen
open Cert.DownWRefIdeal.Read (val_main_v4 val_main_v4_eq)

variable (m : (ℓ : Loc nD τ sig) → Buf (Elt Ideal) ℓ) (c : Dev nD)

/-- The activations. -/
abbrev X : FVec Ideal S4096x5632 .f32 := m ((c : Thread nD τ).loc main_arg0)
/-- The cotangent. -/
abbrev Y : FVec Ideal S4096x2048 .f32 := m ((c : Thread nD τ).loc main_arg2)

theorem idx : ∀ t : Fin cfg0.N, win0_0.index t = ![t.val % 2, t.val / 4] ∧ win0_1.index t = ![t.val % 2, t.val / 2 % 2] ∧
    win0_2.index t = ![t.val / 4, t.val / 2 % 2] :=
  (by decide +kernel : ∀ t : Fin grid0.N, _)

theorem bound (t : Fin cfg0.N) : t.val < 16 := lt_of_lt_of_eq t.isLt N_0

/-- The row of a point's tile. -/
def row (t : Fin cfg0.N) (p : Fin 1408) : Fin 5632 := ⟨t.val / 4 * 1408 + p.val, by have := bound t; omega⟩
/-- The column of a point's tile. -/
def col (t : Fin cfg0.N) (q : Fin 1024) : Fin 2048 := ⟨t.val / 2 % 2 * 1024 + q.val, by omega⟩
/-- The token of a point's tile. -/
def tok (k : Fin 2) (s : Fin 2048) : Fin 4096 := ⟨k.val * 2048 + s.val, by omega⟩

theorem V0 : V m c main_v0 = truncf .bf16 (X m c) bitsLt_bf16_f32 := by
  unfold V
  after_reads_simp

theorem V1 : V m c main_v1 = truncf .bf16 (Y m c) bitsLt_bf16_f32 := by
  unfold V
  after_reads_simp

theorem blk0_at (t : Fin cfg0.N) (k : Fin 2) (hk : t.val % 2 = k.val) (s : Fin 2048) (p : Fin 1408) :
    (iblk m c 0 t : FVec Ideal S2048x1408 .bf16) (ix2 s p) = X m c (ix2 (tok k s) (row t p)) := by
  refine (?_ : _ = (V m c main_v0 : FVec Ideal S4096x5632 .bf16) (ix2 (tok k s) (row t p))).trans (by rw [V0]; rfl)
  blk_ext [iblk, idx t, tok, row, hk]

theorem blk1_at (t : Fin cfg0.N) (k : Fin 2) (hk : t.val % 2 = k.val) (s : Fin 2048) (q : Fin 1024) :
    (iblk m c 1 t : FVec Ideal S2048x1024 .bf16) (ix2 s q) = Y m c (ix2 (tok k s) (col t q)) := by
  refine (?_ : _ = (V m c main_v1 : FVec Ideal S4096x2048 .bf16) (ix2 (tok k s) (col t q))).trans (by rw [V1]; rfl)
  blk_ext [iblk, idx t, tok, col, hk]

theorem first (x : Vec Ideal S2048x1408 .bf16) (y : Vec Ideal S2048x1024 .bf16) (j : S1408x1024.Idx) :
    k0_pay2 (F := Ideal) x y j = (0 : EReal) + ∑ s : Fin 2048, (x (ix2 s (j 0)) : EReal) * y (ix2 s (j 1)) := by
  obtain ⟨p, q, rfl⟩ := Cert.Prod.cases2 j
  pointwise [k0_pay2, k0_pay1]

theorem next (x : Vec Ideal S2048x1408 .bf16) (y : Vec Ideal S2048x1024 .bf16) (a : Vec Ideal S1408x1024 .f32) (j : S1408x1024.Idx) :
    k0_pay3 (F := Ideal) x y a j = (a j : EReal) + ∑ s : Fin 2048, (x (ix2 s (j 0)) : EReal) * y (ix2 s (j 1)) := by
  obtain ⟨p, q, rfl⟩ := Cert.Prod.cases2 j
  pointwise [k0_pay3, k0_pay1]

theorem reference_at (x : FVec Ideal S4096x5632 .f32) (y : FVec Ideal S4096x2048 .f32) (p : Fin 5632) (q : Fin 2048) :
    val_main_v4 (F := Ideal) x y (ix2 p q) = ∑ s : Fin 4096, (x (ix2 s p) : EReal) * y (ix2 s q) := by
  simp only [mul_comm (x _ : EReal)]
  pointwise [val_main_v4, Cert.DownWRefIdeal.Read.val_main_v2, Cert.DownWRefIdeal.Read.val_main_v1]

/-- What the accumulator holds after a point. -/
abbrev acc (n : ℕ) (h : n < cfg0.N) : S1408x1024.Idx → EReal := (outsAt0 m c n h).2

/-- What a point adds. -/
abbrev term (t : Fin cfg0.N) (j : S1408x1024.Idx) : EReal :=
  ∑ s : Fin 2048, (show EReal from (iblk m c 0 t : FVec Ideal S2048x1408 .bf16) (ix2 s (j 0))) * (iblk m c 1 t : FVec Ideal S2048x1024 .bf16) (ix2 s (j 1))

theorem acc_first (t : Fin cfg0.N) (h : t.val % 2 = 0) (j : S1408x1024.Idx) : acc m c t.val t.isLt j = 0 + term m c t j := by
  unfold acc
  rw [outsAt0_A m c t h (by omega) (by omega)]
  frame_open
  simp (disch := decide) only [↓ View.readCov_skip, ↓ View.readCov_cons_toLoadRect, ↓ View.readCov_fill]
  frame_out
  try simp only [read_unread_whole]
  rw [first]

theorem acc_next (t : Fin cfg0.N) (h : ¬t.val % 2 = 0) (j : S1408x1024.Idx) :
    acc m c t.val t.isLt j = acc m c (t.val - 1) (Nat.lt_of_le_of_lt (Nat.sub_le _ _) t.isLt) j + term m c t j := by
  unfold acc
  rw [outsAt0_B m c t h (by omega) (by omega)]
  frame_open
  simp (disch := decide) only [↓ View.readCov_skip, ↓ View.readCov_cons_toLoadRect, ↓ View.readCov_fill]
  frame_out
  try simp only [read_unread_whole]
  rw [next]

theorem out_last (t : Fin cfg0.N) (h : t.val % 2 = 1) (j : S1408x1024.Idx) : ((outsAt0 m c t.val t.isLt).1 j : EReal) = acc m c t.val t.isLt j := by
  unfold acc
  rw [outsAt0_B m c t (by omega) (by omega) (by omega)]
  frame_open
  simp (disch := decide) only [↓ View.readCov_skip, ↓ View.readCov_cons_toLoadRect, ↓ View.readCov_fill]
  frame_out
  try simp only [read_unread_whole]
  rfl

/-- The whole sum after a run of points. -/
theorem acc_last (t : Fin cfg0.N) (h : t.val % 2 = 1) (j : S1408x1024.Idx) :
    acc m c t.val t.isLt j = ∑ s : Fin 4096, (X m c (ix2 s (row t (j 0))) : EReal) * Y m c (ix2 s (col t (j 1))) := by
  refine Cert.Prod.whole (K := 2) (S := 2048) rfl (acc m c) (term m c) (fun t j s => (X m c (ix2 s (row t (j 0))) : EReal) * Y m c (ix2 s (col t (j 1))))
    (acc_first m c) (acc_next m c) (fun t u k h j => Finset.sum_congr rfl fun s _ => ?_) t h j
  have er : row u = row t := funext fun _ => Fin.ext (by simp only [row]; omega)
  have ec : col u = col t := funext fun _ => Fin.ext (by simp only [col]; omega)
  rw [← er, ← ec]
  exact congrArg₂ (fun x y : EReal => x * y) (blk0_at m c u k (by omega) _ _) (blk1_at m c u k (by omega) _ _)

theorem final : (dats m 0 c).arrAt 2 (cfgs 0).N = val_main_v4 (F := Ideal) (X m c) (Y m c) := by
  refine (dats m 0 c).arrAt_eq_of_covers 2 _ (by decide +kernel) fun t hf y => ?_
  blk_simp
  rw [after0_2]
  have hl := (flush0_2 t).mp hf
  refine (out_last m c t hl _).trans ?_
  rw [acc_last m c t hl, ← reference_at]
  blk_ext [idx t, row, col]

end Cert.DownWIdeal.Prod

namespace Cert.DownW

open Idealize.ShloMosaic Idealize.SL.Sem

theorem reference_frame : Cert.quiescent_DownWRefIdeal (hDownWRefIdeal := Cert.DownWRefIdeal.Gen.facts) :=
  fun m ρ _ => (θ_run _ _ _).mono (fun r h => ⟨fun c => (h c).2, sem_eq_zero_of_no_sems (by decide) r.2⟩)
    (Cert.DownWRefIdeal.Value.run (F := Ideal) m ρ)

theorem agree : Cert.algebraic_DownWIdeal_DownWRefIdeal (hDownWIdeal := Cert.DownWIdeal.Gen.facts)
    (hDownWRefIdeal := Cert.DownWRefIdeal.Gen.facts) := by
  intro m g m' g' _ hargs
  refine ⟨fun c => Cert.DownWRefIdeal.Read.val_main_v4 (F := Ideal) (Cert.DownWIdeal.Prod.X m c) (Cert.DownWIdeal.Prod.Y m c),
    (θ_run _ _ _).mono (fun r h c => ⟨(h c).1.trans (Cert.DownWIdeal.Prod.final m c), (h c).2⟩)
      (Cert.DownWIdeal.Value.run_blocks (F := Ideal) m g),
    (θ_run _ _ _).mono (fun r h c => ⟨(h c).1.trans ?_, (h c).2⟩) (Cert.DownWRefIdeal.Value.run (F := Ideal) m' g')⟩
  rw [(hargs c).1, (hargs c).2.2]
  rfl

end Cert.DownW
-- ==== Proof.Prod.DownX.lean ====
/- The gradient of what the down projection is applied to. -/
module

public import proofs.«01_k».proof.Defs
public import proofs.«01_k».proof.Proof.Gen.DownX.Frame
public import proofs.«01_k».proof.Proof.Gen.DownXIdeal.Value
public import proofs.«01_k».proof.Proof.Gen.DownXRefIdeal.Run
public import proofs.«01_k».proof.Proof.Gen.DownXRefIdeal.Read
public import Idealize.ShloMosaic.Lib.Pipeline.ValueKit
public import Idealize.ShloMosaic.Lib.Pipeline.ReadBack
public import Idealize.ShloMosaic.Lib.Pointwise
public import Idealize.ShloMosaic.Lib.StableHlo.RunRead
public import Idealize.ShloMosaic.Lib.Tactic.WordOmega
public import Idealize.ShloMosaic.Adequacy
public import Idealize.ShloMosaic.Init

@[expose] public section

set_option maxRecDepth 16384

noncomputable section

namespace Cert.DownXIdeal.Prod

open Idealize.ShloMosaic Idealize.ShloMosaic.TcCoe Idealize.SL.Sem
open Idealize.ShloMosaic.Pipeline (Dat)
open Cert.DownXIdeal Cert.DownXIdeal.Gen

variable (m : (ℓ : Loc nD τ sig) → Buf (Elt Ideal) ℓ) (c : Dev nD)

open Cert.DownXRefIdeal.Read (val_main_v3 val_main_v4)

/-- The weights. -/
abbrev W : FVec Ideal S5632x2048 .f32 := m ((c : Thread nD τ).loc main_arg1)
/-- The cotangent. -/
abbrev Y : FVec Ideal S4096x2048 .f32 := m ((c : Thread nD τ).loc main_arg2)

theorem idx : ∀ t : Fin cfg0.N, win0_0.index t = ![t.val / 4, 0] ∧ win0_1.index t = ![t.val % 4, 0] ∧ win0_2.index t = ![t.val / 4, t.val % 4] :=
  (by decide +kernel : ∀ t : Fin grid0.N, _)

theorem bound (t : Fin cfg0.N) : t.val < 16 := lt_of_lt_of_eq t.isLt N_0

/-- The row of a point's tile. -/
def row (t : Fin cfg0.N) (p : Fin 1024) : Fin 4096 := ⟨t.val / 4 * 1024 + p.val, by have := bound t; omega⟩
/-- The column of a point's tile. -/
def col (t : Fin cfg0.N) (q : Fin 1408) : Fin 5632 := ⟨t.val % 4 * 1408 + q.val, by omega⟩

theorem V0 : V m c main_v0 = truncf .bf16 (Y m c) bitsLt_bf16_f32 := by
  unfold V
  after_reads_simp

theorem V1 : V m c main_v1 = truncf .bf16 (W m c) bitsLt_bf16_f32 := by
  unfold V
  after_reads_simp

theorem blk0_at (t : Fin cfg0.N) (p : Fin 1024) (s : Fin 2048) :
    (iblk m c 0 t : FVec Ideal S1024x2048 .bf16) (ix2 p s) = Y m c (ix2 (row t p) s) := by
  refine (?_ : _ = (V m c main_v0 : FVec Ideal S4096x2048 .bf16) (ix2 (row t p) s)).trans (by rw [V0]; rfl)
  blk_ext [iblk, idx t, row]

theorem blk1_at (t : Fin cfg0.N) (q : Fin 1408) (s : Fin 2048) :
    (iblk m c 1 t : FVec Ideal S1408x2048 .bf16) (ix2 q s) = W m c (ix2 (col t q) s) := by
  refine (?_ : _ = (V m c main_v1 : FVec Ideal S5632x2048 .bf16) (ix2 (col t q) s)).trans (by rw [V1]; rfl)
  blk_ext [iblk, idx t, col]

theorem tile (x : Vec Ideal S1024x2048 .bf16) (y : Vec Ideal S1408x2048 .bf16) (p : Fin 1024) (q : Fin 1408) :
    k0_pay1 (F := Ideal) x y (ix2 p q) = ∑ s : Fin 2048, (x (ix2 p s) : EReal) * y (ix2 q s) := by
  pointwise [k0_pay1]

theorem reference_at (w : FVec Ideal S5632x2048 .f32) (y : FVec Ideal S4096x2048 .f32) (p : Fin 4096) (q : Fin 5632) :
    val_main_v4 (F := Ideal) w y (ix2 p q) = ∑ s : Fin 2048, (y (ix2 p s) : EReal) * w (ix2 q s) := by
  pointwise [val_main_v4, val_main_v3]

/-- What a point leaves in its block. -/
theorem out_at (t : Fin cfg0.N) (j : S1024x1408.Idx) :
    (out0_2 (F := Ideal) (iblk m c 0 t) (iblk m c 1 t) j : EReal)
      = ∑ s : Fin 2048, (Y m c (ix2 (row t (j 0)) s) : EReal) * W m c (ix2 (col t (j 1)) s) := by
  obtain ⟨p, q, rfl⟩ : ∃ p q, j = ix2 p q := ⟨j 0, j 1, by funext b; fin_cases b <;> rfl⟩
  frame_open
  frame_out
  try simp only [read_unread_whole]
  rw [tile]
  exact Finset.sum_congr rfl fun s _ => by rw [blk0_at, blk1_at]; rfl

theorem final : (dats m 0 c).arrAt 2 (cfgs 0).N = val_main_v4 (F := Ideal) (W m c) (Y m c) := by
  refine (dats m 0 c).arrAt_eq_of_covers 2 _ (by decide +kernel) fun t hf y => ?_
  blk_simp
  rw [after0_2]
  refine (out_at m c t _).trans ?_
  rw [← reference_at]
  blk_ext [idx t, row, col]

end Cert.DownXIdeal.Prod

namespace Cert.DownX

open Idealize.ShloMosaic Idealize.SL.Sem

theorem reference_frame : Cert.quiescent_DownXRefIdeal (hDownXRefIdeal := Cert.DownXRefIdeal.Gen.facts) :=
  fun m ρ _ => (θ_run _ _ _).mono (fun r h => ⟨fun c => (h c).2, sem_eq_zero_of_no_sems (by decide) r.2⟩)
    (Cert.DownXRefIdeal.Value.run (F := Ideal) m ρ)

/-- The kernel's gradient is the reference's. -/
theorem agree : Cert.algebraic_DownXIdeal_DownXRefIdeal (hDownXIdeal := Cert.DownXIdeal.Gen.facts)
    (hDownXRefIdeal := Cert.DownXRefIdeal.Gen.facts) := by
  intro m g m' g' _ hargs
  refine ⟨fun c => Cert.DownXRefIdeal.Read.val_main_v4 (F := Ideal) (Cert.DownXIdeal.Prod.W m c) (Cert.DownXIdeal.Prod.Y m c),
    (θ_run _ _ _).mono (fun r h c => ⟨(h c).1.trans (Cert.DownXIdeal.Prod.final m c), (h c).2⟩)
      (Cert.DownXIdeal.Value.run_blocks (F := Ideal) m g),
    (θ_run _ _ _).mono (fun r h c => ⟨(h c).1.trans ?_, (h c).2⟩) (Cert.DownXRefIdeal.Value.run (F := Ideal) m' g')⟩
  rw [(hargs c).2.1, (hargs c).2.2]
  rfl

end Cert.DownX
-- ==== Proof.Prod.UpW.lean ====
/- The gradient of the up projection's weights, written as four stacked shards of their columns. -/
module

public import proofs.«01_k».proof.Defs
public import proofs.«01_k».proof.Proof.Gen.UpW.Frame
public import proofs.«01_k».proof.Proof.Gen.UpWIdeal.Value
public import proofs.«01_k».proof.Proof.Gen.UpWRefIdeal.Run
public import proofs.«01_k».proof.Proof.Gen.UpWRefIdeal.Read
public import proofs.«01_k».proof.Proof.Prod.Tiles
public import Idealize.ShloMosaic.Lib.Pipeline.ValueKit
public import Idealize.ShloMosaic.Lib.Pipeline.ReadBack
public import Idealize.ShloMosaic.Lib.Pointwise
public import Idealize.ShloMosaic.Lib.StableHlo.RunRead
public import Idealize.ShloMosaic.Lib.Tactic.WordOmega
public import Idealize.ShloMosaic.Adequacy
public import Idealize.ShloMosaic.Init

@[expose] public section

set_option maxRecDepth 16384

noncomputable section

namespace Cert.UpWIdeal.Prod

open Idealize.ShloMosaic Idealize.ShloMosaic.TcCoe Idealize.SL.Sem
open Idealize.ShloMosaic.Pipeline (Dat)
open Cert.UpWIdeal Cert.UpWIdeal.Gen
open Cert.UpWRefIdeal.Read (val_main_v13)

variable (m : (ℓ : Loc nD τ sig) → Buf (Elt Ideal) ℓ) (c : Dev nD)

/-- The activations. -/
abbrev X : FVec Ideal S4096x2048 .f32 := m ((c : Thread nD τ).loc main_arg0)
/-- The cotangent. -/
abbrev Y : FVec Ideal S4096x11264 .f32 := m ((c : Thread nD τ).loc main_arg2)

theorem idx : ∀ t : Fin cfg0.N, win0_0.index t = ![t.val % 2, t.val / 16] ∧ win0_1.index t = ![t.val % 2, t.val / 2 % 8] ∧
    win0_2.index t = ![t.val / 4 % 4, t.val / 16, t.val / 2 % 2] :=
  (by decide +kernel : ∀ t : Fin grid0.N, _)

theorem bound (t : Fin cfg0.N) : t.val < 32 := lt_of_lt_of_eq t.isLt N_0

/-- The row of a point's tile. -/
def row (t : Fin cfg0.N) (p : Fin 1024) : Fin 2048 := ⟨t.val / 16 * 1024 + p.val, by have := bound t; omega⟩
/-- The column of a point's tile. -/
def col (t : Fin cfg0.N) (q : Fin 1408) : Fin 11264 := ⟨t.val / 2 % 8 * 1408 + q.val, by omega⟩
/-- A column of a shard. -/
def shard (k : Fin 4) (s : Fin 2816) : Fin 11264 := ⟨k.val * 2816 + s.val, by omega⟩
/-- The token of a point's tile. -/
def tok (k : Fin 2) (s : Fin 2048) : Fin 4096 := ⟨k.val * 2048 + s.val, by omega⟩

theorem V0 : V m c main_v0 = truncf .bf16 (X m c) bitsLt_bf16_f32 := by
  unfold V
  after_reads_simp

theorem V1 : V m c main_v1 = truncf .bf16 (Y m c) bitsLt_bf16_f32 := by
  unfold V
  after_reads_simp

theorem blk0_at (t : Fin cfg0.N) (k : Fin 2) (hk : t.val % 2 = k.val) (s : Fin 2048) (p : Fin 1024) :
    (iblk m c 0 t : FVec Ideal S2048x1024 .bf16) (ix2 s p) = X m c (ix2 (tok k s) (row t p)) := by
  refine (?_ : _ = (V m c main_v0 : FVec Ideal S4096x2048 .bf16) (ix2 (tok k s) (row t p))).trans (by rw [V0]; rfl)
  blk_ext [iblk, idx t, tok, row, hk]

theorem blk1_at (t : Fin cfg0.N) (k : Fin 2) (hk : t.val % 2 = k.val) (s : Fin 2048) (q : Fin 1408) :
    (iblk m c 1 t : FVec Ideal S2048x1408 .bf16) (ix2 s q) = Y m c (ix2 (tok k s) (col t q)) := by
  refine (?_ : _ = (V m c main_v1 : FVec Ideal S4096x11264 .bf16) (ix2 (tok k s) (col t q))).trans (by rw [V1]; rfl)
  blk_ext [iblk, idx t, tok, col, hk]

theorem first (x : Vec Ideal S2048x1024 .bf16) (y : Vec Ideal S2048x1408 .bf16) (j : S1024x1408.Idx) :
    k0_pay2 (F := Ideal) x y j = (0 : EReal) + ∑ s : Fin 2048, (x (ix2 s (j 0)) : EReal) * y (ix2 s (j 1)) := by
  obtain ⟨p, q, rfl⟩ := Cert.Prod.cases2 j
  pointwise [k0_pay2, k0_pay1]

theorem next (x : Vec Ideal S2048x1024 .bf16) (y : Vec Ideal S2048x1408 .bf16) (a : Vec Ideal S1024x1408 .f32) (j : S1024x1408.Idx) :
    k0_pay3 (F := Ideal) x y a j = (a j : EReal) + ∑ s : Fin 2048, (x (ix2 s (j 0)) : EReal) * y (ix2 s (j 1)) := by
  obtain ⟨p, q, rfl⟩ := Cert.Prod.cases2 j
  pointwise [k0_pay3, k0_pay1]

theorem product_at (x : FVec Ideal S4096x2048 .f32) (y : FVec Ideal S4096x11264 .f32) (p : Fin 2048) (q : Fin 11264) :
    Cert.UpWRefIdeal.Read.val_main_v4 (F := Ideal) x y (ix2 p q) = ∑ s : Fin 4096, (x (ix2 s p) : EReal) * y (ix2 s q) := by
  simp only [mul_comm (x _ : EReal)]
  pointwise [Cert.UpWRefIdeal.Read.val_main_v4, Cert.UpWRefIdeal.Read.val_main_v2, Cert.UpWRefIdeal.Read.val_main_v1]

theorem reference_at (x : FVec Ideal S4096x2048 .f32) (y : FVec Ideal S4096x11264 .f32) (k : Fin 4) (p : Fin 2048) (q : Fin 2816) :
    val_main_v13 (F := Ideal) x y (ix3 k p q) = ∑ s : Fin 4096, (x (ix2 s p) : EReal) * y (ix2 s (shard k q)) := by
  rw [← product_at]
  fin_cases k
  all_goals
    generalize hz : Cert.UpWRefIdeal.Read.val_main_v4 (F := Ideal) x y = z
    pointwise [val_main_v13, Cert.UpWRefIdeal.Read.val_main_v5, Cert.UpWRefIdeal.Read.val_main_v6, Cert.UpWRefIdeal.Read.val_main_v7, Cert.UpWRefIdeal.Read.val_main_v8, Cert.UpWRefIdeal.Read.val_main_v9, Cert.UpWRefIdeal.Read.val_main_v10, Cert.UpWRefIdeal.Read.val_main_v11, Cert.UpWRefIdeal.Read.val_main_v12, shard, hz]

/-- What the accumulator holds after a point. -/
abbrev acc (n : ℕ) (h : n < cfg0.N) : S1024x1408.Idx → EReal := (outsAt0 m c n h).2

/-- What a point adds. -/
abbrev term (t : Fin cfg0.N) (j : S1024x1408.Idx) : EReal :=
  ∑ s : Fin 2048, (show EReal from (iblk m c 0 t : FVec Ideal S2048x1024 .bf16) (ix2 s (j 0))) * (iblk m c 1 t : FVec Ideal S2048x1408 .bf16) (ix2 s (j 1))

theorem acc_first (t : Fin cfg0.N) (h : t.val % 2 = 0) (j : S1024x1408.Idx) : acc m c t.val t.isLt j = 0 + term m c t j := by
  unfold acc
  rw [outsAt0_A m c t h (by omega) (by omega)]
  frame_open
  simp (disch := decide) only [↓ View.readCov_skip, ↓ View.readCov_cons_toLoadRect, ↓ View.readCov_fill]
  frame_out
  try simp only [read_unread_whole]
  rw [first]

theorem acc_next (t : Fin cfg0.N) (h : ¬t.val % 2 = 0) (j : S1024x1408.Idx) :
    acc m c t.val t.isLt j = acc m c (t.val - 1) (Nat.lt_of_le_of_lt (Nat.sub_le _ _) t.isLt) j + term m c t j := by
  unfold acc
  rw [outsAt0_B m c t h (by omega) (by omega)]
  frame_open
  simp (disch := decide) only [↓ View.readCov_skip, ↓ View.readCov_cons_toLoadRect, ↓ View.readCov_fill]
  frame_out
  try simp only [read_unread_whole]
  rw [next]

theorem out_last (t : Fin cfg0.N) (h : t.val % 2 = 1) (p : Fin 1024) (q : Fin 1408) :
    ((outsAt0 m c t.val t.isLt).1 (ix3 0 p q) : EReal) = acc m c t.val t.isLt (ix2 p q) := by
  unfold acc
  rw [outsAt0_B m c t (by omega) (by omega) (by omega)]
  frame_open
  simp (disch := decide) only [↓ View.readCov_skip, ↓ View.readCov_cons_toLoadRect, ↓ View.readCov_fill]
  frame_out
  try simp only [read_unread_whole]
  pointwise [k0_pay4]

/-- The whole sum after a run of points. -/
theorem acc_last (t : Fin cfg0.N) (h : t.val % 2 = 1) (j : S1024x1408.Idx) :
    acc m c t.val t.isLt j = ∑ s : Fin 4096, (X m c (ix2 s (row t (j 0))) : EReal) * Y m c (ix2 s (col t (j 1))) := by
  refine Cert.Prod.whole (K := 2) (S := 2048) rfl (acc m c) (term m c) (fun t j s => (X m c (ix2 s (row t (j 0))) : EReal) * Y m c (ix2 s (col t (j 1))))
    (acc_first m c) (acc_next m c) (fun t u k h j => Finset.sum_congr rfl fun s _ => ?_) t h j
  have er : row u = row t := funext fun _ => Fin.ext (by simp only [row]; omega)
  have ec : col u = col t := funext fun _ => Fin.ext (by simp only [col]; omega)
  rw [← er, ← ec]
  exact congrArg₂ (fun x y : EReal => x * y) (blk0_at m c u k (by omega) _ _) (blk1_at m c u k (by omega) _ _)

theorem final : (dats m 0 c).arrAt 2 (cfgs 0).N = val_main_v13 (F := Ideal) (X m c) (Y m c) := by
  refine (dats m 0 c).arrAt_eq_of_covers 2 _ (by decide +kernel) fun t hf y => ?_
  have hy : y = ix3 0 (y 1) (y 2) := by
    funext b; fin_cases b
    · exact Subsingleton.elim (α := Fin 1) _ _
    all_goals rfl
  blk_simp
  rw [after0_2]
  have hl := (flush0_2 t).mp hf
  rw [hy]
  refine (out_last m c t hl (y 1) (y 2)).trans ?_
  refine (acc_last m c t hl (ix2 (y 1) (y 2))).trans ?_
  refine Eq.trans (b := ∑ s : Fin 4096, (X m c (ix2 s (row t (y 1))) : EReal) * Y m c (ix2 s (col t (y 2)))) rfl ?_
  have hg : (t.val / 4 % 4) < 4 := Nat.mod_lt _ (by decide)
  have hc : col t (y 2) = shard ⟨t.val / 4 % 4, hg⟩ ⟨t.val / 2 % 2 * 1408 + (y 2).val, by have : (y 2).val < 1408 := (y 2).isLt; omega⟩ := by
    apply Fin.ext
    simp only [col, shard]
    omega
  rw [hc, ← reference_at]
  blk_ext [idx t, row]

end Cert.UpWIdeal.Prod

namespace Cert.UpW

open Idealize.ShloMosaic Idealize.SL.Sem

theorem reference_frame : Cert.quiescent_UpWRefIdeal (hUpWRefIdeal := Cert.UpWRefIdeal.Gen.facts) :=
  fun m ρ _ => (θ_run _ _ _).mono (fun r h => ⟨fun c => (h c).2, sem_eq_zero_of_no_sems (by decide) r.2⟩)
    (Cert.UpWRefIdeal.Value.run (F := Ideal) m ρ)

theorem agree : Cert.algebraic_UpWIdeal_UpWRefIdeal (hUpWIdeal := Cert.UpWIdeal.Gen.facts)
    (hUpWRefIdeal := Cert.UpWRefIdeal.Gen.facts) := by
  intro m g m' g' _ hargs
  refine ⟨fun c => Cert.UpWRefIdeal.Read.val_main_v13 (F := Ideal) (Cert.UpWIdeal.Prod.X m c) (Cert.UpWIdeal.Prod.Y m c),
    (θ_run _ _ _).mono (fun r h c => ⟨(h c).1.trans (Cert.UpWIdeal.Prod.final m c), (h c).2⟩)
      (Cert.UpWIdeal.Value.run_blocks (F := Ideal) m g),
    (θ_run _ _ _).mono (fun r h c => ⟨(h c).1.trans ?_, (h c).2⟩) (Cert.UpWRefIdeal.Value.run (F := Ideal) m' g')⟩
  rw [(hargs c).1, (hargs c).2.2]
  rfl

end Cert.UpW
-- ==== Proof.Prod.UpX.lean ====
/- The gradient of what the up projection is applied to. The weights reach the kernel as four stacked shards of their columns, and a point takes one shard. -/
module

public import proofs.«01_k».proof.Defs
public import proofs.«01_k».proof.Proof.Gen.UpX.Frame
public import proofs.«01_k».proof.Proof.Gen.UpXIdeal.Value
public import proofs.«01_k».proof.Proof.Gen.UpXRefIdeal.Run
public import proofs.«01_k».proof.Proof.Gen.UpXRefIdeal.Read
public import proofs.«01_k».proof.Proof.Prod.Tiles
public import Idealize.ShloMosaic.Lib.Pipeline.ValueKit
public import Idealize.ShloMosaic.Lib.Pipeline.ReadBack
public import Idealize.ShloMosaic.Lib.Pointwise
public import Idealize.ShloMosaic.Lib.StableHlo.RunRead
public import Idealize.ShloMosaic.Lib.Tactic.WordOmega
public import Idealize.ShloMosaic.Adequacy
public import Idealize.ShloMosaic.Init

@[expose] public section

set_option maxRecDepth 16384

noncomputable section

namespace Cert.UpXIdeal.Prod

open Idealize.ShloMosaic Idealize.ShloMosaic.TcCoe Idealize.SL.Sem
open Idealize.ShloMosaic.Pipeline (Dat)
open Cert.UpXIdeal Cert.UpXIdeal.Gen

variable (m : (ℓ : Loc nD τ sig) → Buf (Elt Ideal) ℓ) (c : Dev nD)

open Cert.UpXRefIdeal.Read (val_main_v3)

/-- The weights. -/
abbrev W : FVec Ideal S2048x11264 .f32 := m ((c : Thread nD τ).loc main_arg1)
/-- The cotangent. -/
abbrev Y : FVec Ideal S4096x11264 .f32 := m ((c : Thread nD τ).loc main_arg2)

theorem idx : ∀ t : Fin cfg0.N, win0_0.index t = ![t.val / 8, t.val % 4] ∧ win0_1.index t = ![t.val % 4, t.val / 4 % 2, 0] ∧
    win0_2.index t = ![t.val / 8, t.val / 4 % 2] :=
  (by decide +kernel : ∀ t : Fin grid0.N, _)

theorem bound (t : Fin cfg0.N) : t.val < 32 := lt_of_lt_of_eq t.isLt N_0

/-- The row of a point's tile. -/
def row (t : Fin cfg0.N) (p : Fin 1024) : Fin 4096 := ⟨t.val / 8 * 1024 + p.val, by have := bound t; omega⟩
/-- The column of a point's tile. -/
def col (t : Fin cfg0.N) (q : Fin 1024) : Fin 2048 := ⟨t.val / 4 % 2 * 1024 + q.val, by omega⟩
/-- A column of a shard. -/
def shard (k : Fin 4) (s : Fin 2816) : Fin 11264 := ⟨k.val * 2816 + s.val, by omega⟩

/-- The stacked shards. -/
def stacked (w : FVec Ideal S2048x11264 .f32) : FVec Ideal S4x2048x2816 .bf16 :=
  transpose S4x2048x2816 [1, 0, 2] (shapeCast S2048x4x2816 (truncf .bf16 w bitsLt_bf16_f32) shapeCasts_S2048x11264_S2048x4x2816)
    transposes_S2048x4x2816_S4x2048x2816_1_0_2

theorem V0 : V m c main_v3 = truncf .bf16 (Y m c) bitsLt_bf16_f32 := by
  unfold V
  after_reads_simp

theorem V1 : V m c main_v2 = stacked (W m c) := by
  unfold V
  after_reads_simp
  rfl

theorem stacked_at (w : FVec Ideal S2048x11264 .f32) (k : Fin 4) (q : Fin 2048) (s : Fin 2816) :
    stacked w (ix3 k q s) = w (ix2 q (shard k s)) := by
  pointwise [stacked, shard]

theorem blk0_at (t : Fin cfg0.N) (k : Fin 4) (hk : t.val % 4 = k.val) (p : Fin 1024) (s : Fin 2816) :
    (iblk m c 0 t : FVec Ideal S1024x2816 .bf16) (ix2 p s) = Y m c (ix2 (row t p) (shard k s)) := by
  refine (?_ : _ = (V m c main_v3 : FVec Ideal S4096x11264 .bf16) (ix2 (row t p) (shard k s))).trans (by rw [V0]; rfl)
  blk_ext [iblk, idx t, shard, row, hk]

theorem blk1_at (t : Fin cfg0.N) (k : Fin 4) (hk : t.val % 4 = k.val) (q : Fin 1024) (s : Fin 2816) :
    (iblk m c 1 t : FVec Ideal S1x1024x2816 .bf16) (ix3 0 q s) = W m c (ix2 (col t q) (shard k s)) := by
  refine (?_ : _ = (V m c main_v2 : FVec Ideal S4x2048x2816 .bf16) (ix3 k (col t q) s)).trans (by rw [V1, stacked_at])
  blk_ext [iblk, idx t, col, hk]

theorem first (x : Vec Ideal S1024x2816 .bf16) (y : Vec Ideal S1x1024x2816 .bf16) (j : S1024x1024.Idx) :
    k0_pay2 (F := Ideal) x y j = (0 : EReal) + ∑ s : Fin 2816, (x (ix2 (j 0) s) : EReal) * y (ix3 0 (j 1) s) := by
  obtain ⟨p, q, rfl⟩ := Cert.Prod.cases2 j
  pointwise [k0_pay2, k0_pay1]

theorem next (x : Vec Ideal S1024x2816 .bf16) (y : Vec Ideal S1x1024x2816 .bf16) (a : Vec Ideal S1024x1024 .f32) (j : S1024x1024.Idx) :
    k0_pay3 (F := Ideal) x y a j = (a j : EReal) + ∑ s : Fin 2816, (x (ix2 (j 0) s) : EReal) * y (ix3 0 (j 1) s) := by
  obtain ⟨p, q, rfl⟩ := Cert.Prod.cases2 j
  pointwise [k0_pay3, k0_pay1]

theorem reference_at (w : FVec Ideal S2048x11264 .f32) (y : FVec Ideal S4096x11264 .f32) (p : Fin 4096) (q : Fin 2048) :
    val_main_v3 (F := Ideal) w y (ix2 p q) = ∑ s : Fin 11264, (y (ix2 p s) : EReal) * w (ix2 q s) := by
  pointwise [val_main_v3]

/-- What the accumulator holds after a point. -/
abbrev acc (n : ℕ) (h : n < cfg0.N) : S1024x1024.Idx → EReal := (outsAt0 m c n h).2

/-- What a point adds. -/
abbrev term (t : Fin cfg0.N) (j : S1024x1024.Idx) : EReal :=
  ∑ s : Fin 2816, (show EReal from (iblk m c 0 t : FVec Ideal S1024x2816 .bf16) (ix2 (j 0) s)) *
    (iblk m c 1 t : FVec Ideal S1x1024x2816 .bf16) (ix3 0 (j 1) s)

theorem acc_first (t : Fin cfg0.N) (h : t.val % 4 = 0) (j : S1024x1024.Idx) : acc m c t.val t.isLt j = 0 + term m c t j := by
  unfold acc
  rw [outsAt0_A m c t h (by omega) (by omega)]
  frame_open
  simp (disch := decide) only [↓ View.readCov_skip, ↓ View.readCov_cons_toLoadRect, ↓ View.readCov_fill]
  frame_out
  try simp only [read_unread_whole]
  rw [first]

theorem acc_next (t : Fin cfg0.N) (h : ¬t.val % 4 = 0) (j : S1024x1024.Idx) :
    acc m c t.val t.isLt j = acc m c (t.val - 1) (Nat.lt_of_le_of_lt (Nat.sub_le _ _) t.isLt) j + term m c t j := by
  unfold acc
  by_cases hl : t.val % 4 = 3
  all_goals
    first | rw [outsAt0_C m c t h (by omega) hl] | rw [outsAt0_B m c t h (by omega) hl]
    frame_open
    simp (disch := decide) only [↓ View.readCov_skip, ↓ View.readCov_cons_toLoadRect, ↓ View.readCov_fill]
    frame_out
    try simp only [read_unread_whole]
    rw [next]

theorem out_last (t : Fin cfg0.N) (h : t.val % 4 = 3) (j : S1024x1024.Idx) : ((outsAt0 m c t.val t.isLt).1 j : EReal) = acc m c t.val t.isLt j := by
  unfold acc
  rw [outsAt0_C m c t (by omega) (by omega) h]
  frame_open
  simp (disch := decide) only [↓ View.readCov_skip, ↓ View.readCov_cons_toLoadRect, ↓ View.readCov_fill]
  frame_out

/-- The whole sum after a run of points. -/
theorem acc_last (t : Fin cfg0.N) (h : t.val % 4 = 3) (j : S1024x1024.Idx) :
    acc m c t.val t.isLt j = ∑ s : Fin 11264, (Y m c (ix2 (row t (j 0)) s) : EReal) * W m c (ix2 (col t (j 1)) s) := by
  refine Cert.Prod.whole (K := 4) (S := 2816) rfl (acc m c) (term m c) (fun t j s => (Y m c (ix2 (row t (j 0)) s) : EReal) * W m c (ix2 (col t (j 1)) s))
    (acc_first m c) (acc_next m c) (fun t u k h j => Finset.sum_congr rfl fun s _ => ?_) t h j
  have er : row u = row t := funext fun _ => Fin.ext (by simp only [row]; omega)
  have ec : col u = col t := funext fun _ => Fin.ext (by simp only [col]; omega)
  rw [← er, ← ec]
  exact congrArg₂ (fun x y : EReal => x * y) (blk0_at m c u k (by omega) _ _) (blk1_at m c u k (by omega) _ _)

theorem final : (dats m 0 c).arrAt 2 (cfgs 0).N = val_main_v3 (F := Ideal) (W m c) (Y m c) := by
  refine (dats m 0 c).arrAt_eq_of_covers 2 _ (by decide +kernel) fun t hf y => ?_
  blk_simp
  rw [after0_2]
  have hl := (flush0_2 t).mp hf
  refine (out_last m c t hl _).trans ?_
  rw [acc_last m c t hl, ← reference_at]
  blk_ext [idx t, row, col]

end Cert.UpXIdeal.Prod

namespace Cert.UpX

open Idealize.ShloMosaic Idealize.SL.Sem

theorem reference_frame : Cert.quiescent_UpXRefIdeal (hUpXRefIdeal := Cert.UpXRefIdeal.Gen.facts) :=
  fun m ρ _ => (θ_run _ _ _).mono (fun r h => ⟨fun c => (h c).2, sem_eq_zero_of_no_sems (by decide) r.2⟩)
    (Cert.UpXRefIdeal.Value.run (F := Ideal) m ρ)

/-- The kernel's gradient is the reference's. -/
theorem agree : Cert.algebraic_UpXIdeal_UpXRefIdeal (hUpXIdeal := Cert.UpXIdeal.Gen.facts)
    (hUpXRefIdeal := Cert.UpXRefIdeal.Gen.facts) := by
  intro m g m' g' _ hargs
  refine ⟨fun c => Cert.UpXRefIdeal.Read.val_main_v3 (F := Ideal) (Cert.UpXIdeal.Prod.W m c) (Cert.UpXIdeal.Prod.Y m c),
    (θ_run _ _ _).mono (fun r h c => ⟨(h c).1.trans (Cert.UpXIdeal.Prod.final m c), (h c).2⟩)
      (Cert.UpXIdeal.Value.run_blocks (F := Ideal) m g),
    (θ_run _ _ _).mono (fun r h c => ⟨(h c).1.trans ?_, (h c).2⟩) (Cert.UpXRefIdeal.Value.run (F := Ideal) m' g')⟩
  rw [(hargs c).2.1, (hargs c).2.2]
  rfl

end Cert.UpX
-- ==== Proof.Prod.Columns.lean ====
/- The columns of the input projection in the order the kernel keeps them.

The kernel moves the time steps' columns behind the others, gives each group of six of them two more of zeros, and adds sixty-four zero columns. -/
module

public import proofs.«01_k».proof.Defs
public import proofs.«01_k».proof.Proof.Gen.InX.Frame
public import proofs.«01_k».proof.Proof.Gen.InXIdeal.Value
public import proofs.«01_k».proof.Proof.Gen.InXRefIdeal.Run
public import proofs.«01_k».proof.Proof.Gen.InXRefIdeal.Read
public import Idealize.ShloMosaic.Lib.Pipeline.ValueKit
public import Idealize.ShloMosaic.Lib.Pipeline.ReadBack
public import Idealize.ShloMosaic.Lib.Pointwise
public import Idealize.ShloMosaic.Lib.StableHlo.RunRead
public import Idealize.ShloMosaic.Lib.Tactic.WordOmega
public import Idealize.ShloMosaic.Adequacy
public import Idealize.ShloMosaic.Init

@[expose] public section

set_option maxRecDepth 16384

noncomputable section

namespace Cert.InXIdeal.Columns

open Idealize.ShloMosaic Idealize.ShloMosaic.TcCoe Idealize.SL.Sem
open Idealize.ShloMosaic.Pipeline (Dat)
open Cert.InXIdeal Cert.InXIdeal.Gen

open Cert.InXRefIdeal.Read (val_main_v7)

/-- Where the kernel keeps a column. -/
def place (j : Fin 13360) : Fin 13440 :=
  if h : j.val < 8192 then ⟨j.val, by omega⟩
  else if h' : j.val < 8240 then ⟨13312 + (j.val - 8192) / 6 * 8 + (j.val - 8192) % 6, by omega⟩
  else ⟨j.val - 48, by omega⟩

theorem place_val (j : Fin 13360) : (place j).val =
    if j.val < 8192 then j.val else if j.val < 8240 then 13312 + (j.val - 8192) / 6 * 8 + (j.val - 8192) % 6 else j.val - 48 := by
  unfold place
  split_ifs <;> rfl

theorem place_injective : Function.Injective place := by
  intro i j h
  have h := congrArg Fin.val h
  rw [place_val, place_val] at h
  apply Fin.ext
  split_ifs at h <;> omega

/-- A column of zeros: one of the two added to a group, or one of the last sixty-four. -/
def Zero (n : Fin 13440) : Prop := (∃ (g : Fin 8) (r : Fin 2), n.val = 13312 + g.val * 8 + 6 + r.val) ∨ ∃ a : Fin 64, n.val = 13376 + a.val

theorem place_or_zero (n : Fin 13440) : (∃ j, n = place j) ∨ Zero n := by
  by_cases h0 : n.val < 8192
  · exact .inl ⟨⟨n.val, by omega⟩, Fin.ext (by rw [place_val]; simp only [h0, if_true])⟩
  by_cases h1 : n.val < 13312
  · refine .inl ⟨⟨n.val + 48, by omega⟩, Fin.ext ?_⟩
    rw [place_val, if_neg (by simp only; omega), if_neg (by simp only; omega)]
    simp only; omega
  by_cases h2 : n.val < 13376
  · by_cases h3 : (n.val - 13312) % 8 < 6
    · refine .inl ⟨⟨8192 + (n.val - 13312) / 8 * 6 + (n.val - 13312) % 8, by omega⟩, Fin.ext ?_⟩
      rw [place_val, if_neg (by simp only; omega), if_pos (by simp only; omega)]
      simp only; omega
    · exact .inr (.inl ⟨⟨(n.val - 13312) / 8, by omega⟩, ⟨(n.val - 13312) % 8 - 6, by omega⟩, by simp only; omega⟩)
  · exact .inr (.inr ⟨⟨n.val - 13376, by omega⟩, by simp only; omega⟩)

theorem not_zero (j : Fin 13360) : ¬Zero (place j) := by
  have h := place_val j
  rintro (⟨g, r, e⟩ | ⟨a, e⟩)
  all_goals
    rw [e] at h
    split_ifs at h <;> omega

/-- The columns' six parts, each with its place. -/
theorem cases {P : Fin 13360 → Fin 13440 → Prop}
    (z : ∀ a : Fin 3072, P ⟨a.val, by omega⟩ ⟨a.val, by omega⟩)
    (xbc : ∀ a : Fin 5120, P ⟨3072 + a.val, by omega⟩ ⟨3072 + a.val, by omega⟩)
    (dt : ∀ (g : Fin 8) (r : Fin 6), P ⟨8192 + g.val * 6 + r.val, by omega⟩ ⟨13312 + g.val * 8 + r.val, by omega⟩)
    (u : ∀ a : Fin 1024, P ⟨8240 + a.val, by omega⟩ ⟨8192 + a.val, by omega⟩)
    (ga : ∀ a : Fin 2048, P ⟨9264 + a.val, by omega⟩ ⟨9216 + a.val, by omega⟩)
    (gb : ∀ a : Fin 2048, P ⟨11312 + a.val, by omega⟩ ⟨11264 + a.val, by omega⟩) (j : Fin 13360) : P j (place j) := by
  have key : ∀ (i : Fin 13360) (n : Fin 13440), P i n → j = i → place j = n → P j (place j) := by
    rintro i n hp rfl rfl; exact hp
  have h := place_val j
  by_cases h0 : j.val < 3072
  · exact key _ _ (z ⟨j.val, h0⟩) rfl (Fin.ext (by rw [h, if_pos (by omega)]))
  by_cases h1 : j.val < 8192
  · exact key _ _ (xbc ⟨j.val - 3072, by omega⟩) (Fin.ext (by simp only; omega)) (Fin.ext (by rw [h, if_pos h1]; simp only; omega))
  by_cases h2 : j.val < 8240
  · exact key _ _ (dt ⟨(j.val - 8192) / 6, by omega⟩ ⟨(j.val - 8192) % 6, by omega⟩) (Fin.ext (by simp only; omega))
      (Fin.ext (by rw [h, if_neg h1, if_pos h2]))
  rw [if_neg h1, if_neg h2] at h
  by_cases h3 : j.val < 9264
  · exact key _ _ (u ⟨j.val - 8240, by omega⟩) (Fin.ext (by simp only; omega)) (Fin.ext (by rw [h]; simp only; omega))
  by_cases h4 : j.val < 11312
  · exact key _ _ (ga ⟨j.val - 9264, by omega⟩) (Fin.ext (by simp only; omega)) (Fin.ext (by rw [h]; simp only; omega))
  · exact key _ _ (gb ⟨j.val - 11312, by omega⟩) (Fin.ext (by simp only; omega)) (Fin.ext (by rw [h]; simp only; omega))

/-- A sum over the kernel's columns of what vanishes on its zero columns. -/
theorem sum_place (f : Fin 13360 → EReal) (g : Fin 13440 → EReal) (hz : ∀ n, Zero n → g n = 0) (hp : ∀ j, g (place j) = f j) :
    ∑ n, g n = ∑ j, f j := by
  refine (Fintype.sum_of_injective place place_injective f g (fun n hn => ?_) fun j => (hp j).symm).symm
  rcases place_or_zero n with ⟨j, rfl⟩ | h
  · exact absurd ⟨j, rfl⟩ hn
  · exact hz n h

variable (x2 : FVec Ideal S4096x3072 .f32) (x3 : FVec Ideal S4096x5120 .f32) (x4 : FVec Ideal S4096x48 .f32)
  (x5 : FVec Ideal S4096x1024 .f32) (x6 x7 : FVec Ideal S4096x2048 .f32) (w : FVec Ideal S2048x13360 .f32)

/-- The time steps' columns, each group with its two zero columns. -/
def steps : FVec Ideal S4096x64 .f32 :=
  shapeCast S4096x64 (pad S4096x8x8 ![0, 0, 0] ![0, 0, 2] ![0, 0, 0] (shapeCast S4096x8x6 x4 shapeCasts_S4096x48_S4096x8x6)
    (sitofp (F := Ideal) .f32 (constantI S_ 32 0#32)) pads_S4096x8x6_S4096x8x8_000_000_020 h_S_) shapeCasts_S4096x8x8_S4096x64

/-- The columns as the kernel keeps them. -/
def columns : FVec Ideal S4096x13440 .bf16 :=
  truncf .bf16 (concatenate S4096x13440 1 [⟨S4096x3072, x2⟩, ⟨S4096x5120, x3⟩, ⟨S4096x1024, x5⟩, ⟨S4096x2048, x6⟩, ⟨S4096x2048, x7⟩,
      ⟨S4096x64, steps x4⟩, ⟨S4096x64, broadcastInDim S4096x64 ![] bcast_S_S4096x64 (constant (F := Ideal) S_ .f32 0x00000000#32)⟩]
    concatenates_S4096x3072_S4096x5120_S4096x1024_S4096x2048_S4096x2048_S4096x64_S4096x64_S4096x13440_d1) bitsLt_bf16_f32

theorem steps_at (p : Fin 4096) (g : Fin 8) (r : Fin 6) : steps x4 (ix2 p ⟨g.val * 8 + r.val, by omega⟩) = x4 (ix2 p ⟨g.val * 6 + r.val, by omega⟩) := by
  pointwise [steps]
  rw [dif_pos (by omega)]
  exact congrArg x4 (congrArg (ix2 p) (Fin.ext (by simp only; omega)))

theorem zero_word : (FloatOps.sitofp (F := Ideal) FTy.f32 0#32 : EReal) = 0 := by
  show (((0#32 : BitVec 32).toInt : ℝ) : EReal) = 0
  simp

theorem steps_zero (p : Fin 4096) (g : Fin 8) (r : Fin 2) : (steps x4 (ix2 p ⟨g.val * 8 + 6 + r.val, by omega⟩) : EReal) = 0 := by
  pointwise [steps]
  rw [dif_neg (by omega)]
  exact zero_word

theorem columns_place (p : Fin 4096) (j : Fin 13360) :
    columns x2 x3 x4 x5 x6 x7 (ix2 p (place j)) = val_main_v7 (F := Ideal) x2 x3 x4 x5 x6 x7 (ix2 p j) := by
  refine cases (P := fun j n => columns x2 x3 x4 x5 x6 x7 (ix2 p n) = val_main_v7 (F := Ideal) x2 x3 x4 x5 x6 x7 (ix2 p j)) ?_ ?_ ?_ ?_ ?_ ?_ j
  · intro a; pointwise [columns, val_main_v7]
  · intro a; pointwise [columns, val_main_v7]
  · intro g r
    pointwise [columns, val_main_v7]
    repeat first | rw [dif_neg (by omega)] | rw [dif_pos (by omega)]
    refine (congrArg (steps x4) (congrArg (ix2 p) (Fin.ext ?_))).trans ((steps_at x4 p g r).trans (congrArg x4 (congrArg (ix2 p) (Fin.ext ?_))))
    all_goals simp only; omega
  all_goals
    intro a
    pointwise [columns, val_main_v7]
    repeat first | rw [dif_neg (by omega)] | rw [dif_pos (by omega)]
    first
      | exact congrArg x5 (congrArg (ix2 p) (Fin.ext (by simp only; omega)))
      | exact congrArg x6 (congrArg (ix2 p) (Fin.ext (by simp only; omega)))
      | exact congrArg x7 (congrArg (ix2 p) (Fin.ext (by simp only; omega)))

theorem columns_zero (p : Fin 4096) (n : Fin 13440) (h : Zero n) : (columns x2 x3 x4 x5 x6 x7 (ix2 p n) : EReal) = 0 := by
  rcases h with ⟨g, r, e⟩ | ⟨a, e⟩
  · pointwise [columns]
    repeat first | rw [dif_neg (by omega)] | rw [dif_pos (by omega)]
    refine (congrArg (steps x4) (congrArg (ix2 p) (Fin.ext ?_))).trans (steps_zero x4 p g r)
    simp only; omega
  · pointwise [columns]
    repeat first | rw [dif_neg (by omega)] | rw [dif_pos (by omega)]

/-- The weights' columns of the time steps as rows, each group with its two zero rows. -/
def stepRows : FVec Ideal S64x2048 .f32 :=
  shapeCast S64x2048 (pad S8x8x2048 ![0, 0, 0] ![0, 2, 0] ![0, 0, 0]
    (shapeCast S8x6x2048 (extractStridedSlice S48x2048 ![8192, 0] (transpose S13360x2048 [1, 0] w transposes_S2048x13360_S13360x2048_1_0)
      slices_S13360x2048_S48x2048_8192_0) shapeCasts_S48x2048_S8x6x2048)
    (sitofp (F := Ideal) .f32 (constantI S_ 32 0#32)) pads_S8x6x2048_S8x8x2048_000_020_000 h_S_) shapeCasts_S8x8x2048_S64x2048

/-- The weights as the kernel keeps them, transposed. -/
def rows : FVec Ideal S13440x2048 .bf16 :=
  truncf .bf16 (concatenate S13440x2048 0
    [⟨S8192x2048, extractStridedSlice S8192x2048 ![0, 0] (transpose S13360x2048 [1, 0] w transposes_S2048x13360_S13360x2048_1_0) slices_S13360x2048_S8192x2048_0_0⟩,
      ⟨S5120x2048, extractStridedSlice S5120x2048 ![8240, 0] (transpose S13360x2048 [1, 0] w transposes_S2048x13360_S13360x2048_1_0) slices_S13360x2048_S5120x2048_8240_0⟩,
      ⟨S64x2048, stepRows w⟩, ⟨S64x2048, broadcastInDim S64x2048 ![] bcast_S_S64x2048 (constant (F := Ideal) S_ .f32 0x00000000#32)⟩]
    concatenates_S8192x2048_S5120x2048_S64x2048_S64x2048_S13440x2048_d0) bitsLt_bf16_f32

theorem stepRows_at (q : Fin 2048) (g : Fin 8) (r : Fin 6) :
    stepRows w (ix2 ⟨g.val * 8 + r.val, by omega⟩ q) = w (ix2 q ⟨8192 + g.val * 6 + r.val, by omega⟩) := by
  pointwise [stepRows]
  rw [dif_pos (by omega)]
  exact congrArg w (congrArg (ix2 q) (Fin.ext (by simp only; omega)))

theorem rows_place (q : Fin 2048) (j : Fin 13360) : rows w (ix2 (place j) q) = w (ix2 q j) := by
  refine cases (P := fun j n => rows w (ix2 n q) = w (ix2 q j)) ?_ ?_ ?_ ?_ ?_ ?_ j
  case refine_3 =>
    intro g r
    pointwise [rows]
    repeat first | rw [dif_neg (by omega)] | rw [dif_pos (by omega)]
    refine (congrArg (fun k => stepRows w (ix2 k q)) (Fin.ext ?_)).trans (stepRows_at w q g r)
    simp only; omega
  all_goals
    intro a
    pointwise [rows]
    repeat first | rw [dif_neg (by omega)] | rw [dif_pos (by omega)]
    try exact congrArg w (congrArg (ix2 q) (Fin.ext (by simp only; omega)))

end Cert.InXIdeal.Columns
-- ==== Proof.Prod.InW.lean ====
/- The gradient of the input projection's weights, transposed, its rows in the order the kernel keeps them. -/
module

public import proofs.«01_k».proof.Defs
public import proofs.«01_k».proof.Proof.Gen.InW.Frame
public import proofs.«01_k».proof.Proof.Prod.Columns
public import proofs.«01_k».proof.Proof.Gen.InWIdeal.Value
public import proofs.«01_k».proof.Proof.Gen.InWRefIdeal.Run
public import proofs.«01_k».proof.Proof.Gen.InWRefIdeal.Read
public import proofs.«01_k».proof.Proof.Prod.Tiles
public import Idealize.ShloMosaic.Lib.Pipeline.ValueKit
public import Idealize.ShloMosaic.Lib.Pipeline.ReadBack
public import Idealize.ShloMosaic.Lib.Pointwise
public import Idealize.ShloMosaic.Lib.StableHlo.RunRead
public import Idealize.ShloMosaic.Lib.Tactic.WordOmega
public import Idealize.ShloMosaic.Adequacy
public import Idealize.ShloMosaic.Init

@[expose] public section

set_option maxRecDepth 16384

noncomputable section

namespace Cert.InWIdeal.Prod

open Idealize.ShloMosaic Idealize.ShloMosaic.TcCoe Idealize.SL.Sem
open Idealize.ShloMosaic.Pipeline (Dat)
open Cert.InWIdeal Cert.InWIdeal.Gen

variable (m : (ℓ : Loc nD τ sig) → Buf (Elt Ideal) ℓ) (c : Dev nD)

open Cert.InWRefIdeal.Read (val_main_v7 val_main_v22)
open Cert.InXIdeal.Columns (columns place Zero)

/-- What the projection is applied to. -/
abbrev X : FVec Ideal S4096x2048 .f32 := m ((c : Thread nD τ).loc main_arg0)
/-- The six cotangents. -/
abbrev C2 : FVec Ideal S4096x3072 .f32 := m ((c : Thread nD τ).loc main_arg2)
abbrev C3 : FVec Ideal S4096x5120 .f32 := m ((c : Thread nD τ).loc main_arg3)
abbrev C4 : FVec Ideal S4096x48 .f32 := m ((c : Thread nD τ).loc main_arg4)
abbrev C5 : FVec Ideal S4096x1024 .f32 := m ((c : Thread nD τ).loc main_arg5)
abbrev C6 : FVec Ideal S4096x2048 .f32 := m ((c : Thread nD τ).loc main_arg6)
abbrev C7 : FVec Ideal S4096x2048 .f32 := m ((c : Thread nD τ).loc main_arg7)
/-- The cotangents as the kernel keeps them. -/
abbrev K : FVec Ideal S4096x13440 .bf16 := columns (C2 m c) (C3 m c) (C4 m c) (C5 m c) (C6 m c) (C7 m c)
/-- The gradient in the reference. -/
abbrev Out : FVec Ideal S13440x2048 .bf16 := val_main_v22 (F := Ideal) (X m c) (C2 m c) (C3 m c) (C4 m c) (C5 m c) (C6 m c) (C7 m c)

theorem idx : ∀ t : Fin cfg0.N, win0_0.index t = ![t.val % 2, t.val / 2] ∧ win0_1.index t = ![t.val % 2, 0] ∧ win0_2.index t = ![t.val / 2, 0] :=
  (by decide +kernel : ∀ t : Fin grid0.N, _)

theorem bound (t : Fin cfg0.N) : t.val < 30 := lt_of_lt_of_eq t.isLt N_0

/-- The row of a point's tile. -/
def row (t : Fin cfg0.N) (p : Fin 896) : Fin 13440 := ⟨t.val / 2 * 896 + p.val, by have := bound t; omega⟩
/-- The token of a point's tile. -/
def tok (k : Fin 2) (s : Fin 2048) : Fin 4096 := ⟨k.val * 2048 + s.val, by omega⟩

set_option maxHeartbeats 2000000 in
theorem V0 : V m c main_v5 = K m c := by
  unfold V
  simp only [List.flatten_cons, List.flatten_nil, List.append_nil]
  after_reads_simp
  rfl

set_option maxHeartbeats 2000000 in
theorem V1 : V m c main_v6 = truncf .bf16 (X m c) bitsLt_bf16_f32 := by
  unfold V
  simp only [List.flatten_cons, List.flatten_nil, List.append_nil]
  after_reads_simp

theorem blk0_at (t : Fin cfg0.N) (k : Fin 2) (hk : t.val % 2 = k.val) (s : Fin 2048) (p : Fin 896) :
    (iblk m c 0 t : FVec Ideal S2048x896 .bf16) (ix2 s p) = K m c (ix2 (tok k s) (row t p)) := by
  refine (?_ : _ = (V m c main_v5 : FVec Ideal S4096x13440 .bf16) (ix2 (tok k s) (row t p))).trans (by rw [V0])
  blk_ext [iblk, idx t, tok, row, hk]

theorem blk1_at (t : Fin cfg0.N) (k : Fin 2) (hk : t.val % 2 = k.val) (s : Fin 2048) (q : Fin 2048) :
    (iblk m c 1 t : FVec Ideal S2048x2048 .bf16) (ix2 s q) = X m c (ix2 (tok k s) q) := by
  refine (?_ : _ = (V m c main_v6 : FVec Ideal S4096x2048 .bf16) (ix2 (tok k s) q)).trans (by rw [V1]; rfl)
  blk_ext [iblk, idx t, tok, hk]

theorem first (x : Vec Ideal S2048x896 .bf16) (y : Vec Ideal S2048x2048 .bf16) (j : S896x2048.Idx) :
    k0_pay2 (F := Ideal) x y j = (0 : EReal) + ∑ s : Fin 2048, (x (ix2 s (j 0)) : EReal) * y (ix2 s (j 1)) := by
  obtain ⟨p, q, rfl⟩ := Cert.Prod.cases2 j
  pointwise [k0_pay2, k0_pay1]

theorem next (x : Vec Ideal S2048x896 .bf16) (y : Vec Ideal S2048x2048 .bf16) (a : Vec Ideal S896x2048 .f32) (j : S896x2048.Idx) :
    k0_pay3 (F := Ideal) x y a j = (a j : EReal) + ∑ s : Fin 2048, (x (ix2 s (j 0)) : EReal) * y (ix2 s (j 1)) := by
  obtain ⟨p, q, rfl⟩ := Cert.Prod.cases2 j
  pointwise [k0_pay3, k0_pay1]

section
open Cert.InWRefIdeal.Read

variable (x0 : FVec Ideal S4096x2048 .f32) (x2 : FVec Ideal S4096x3072 .f32) (x3 : FVec Ideal S4096x5120 .f32) (x4 : FVec Ideal S4096x48 .f32)
  (x5 : FVec Ideal S4096x1024 .f32) (x6 x7 : FVec Ideal S4096x2048 .f32)

theorem gradient_at (p : Fin 13360) (q : Fin 2048) : (val_main_v11 (F := Ideal) x0 x2 x3 x4 x5 x6 x7 (ix2 p q) : EReal)
    = ∑ s : Fin 4096, (val_main_v7 (F := Ideal) x2 x3 x4 x5 x6 x7 (ix2 s p) : EReal) * x0 (ix2 s q) := by
  unfold val_main_v11 val_main_v9 val_main_v8
  generalize val_main_v7 (F := Ideal) x2 x3 x4 x5 x6 x7 = z
  pointwise

theorem steps_at (g : Fin 8) (r : Fin 6) (q : Fin 2048) : val_main_v20 (F := Ideal) x0 x2 x3 x4 x5 x6 x7 (ix2 ⟨g.val * 8 + r.val, by omega⟩ q)
    = val_main_v11 (F := Ideal) x0 x2 x3 x4 x5 x6 x7 (ix2 ⟨8192 + g.val * 6 + r.val, by omega⟩ q) := by
  unfold val_main_v20 val_main_v19 val_main_v18 val_main_v14
  generalize val_main_v11 (F := Ideal) x0 x2 x3 x4 x5 x6 x7 = z
  pointwise
  have hd : (g.val * 8 + r.val) / 8 = g.val := by omega
  have hm : (g.val * 8 + r.val) % 8 = r.val := by omega
  rw [dif_pos ⟨by omega, by omega⟩]
  simp only [hd, hm, add_assoc]

theorem steps_zero (n : Fin 128) (h : 64 ≤ n.val ∨ 6 ≤ n.val % 8) (q : Fin 2048) :
    (val_main_v20 (F := Ideal) x0 x2 x3 x4 x5 x6 x7 (ix2 n q) : EReal) = 0 := by
  unfold val_main_v20 val_main_v19 val_main_v18 val_main_v14 val_main_call0_v0 val_main_c
  generalize val_main_v11 (F := Ideal) x0 x2 x3 x4 x5 x6 x7 = z
  pointwise
  rw [dif_neg (by omega)]
  exact Cert.InXIdeal.Columns.zero_word

theorem reference_place (j : Fin 13360) (q : Fin 2048) : val_main_v22 (F := Ideal) x0 x2 x3 x4 x5 x6 x7 (ix2 (place j) q)
    = val_main_v11 (F := Ideal) x0 x2 x3 x4 x5 x6 x7 (ix2 j q) := by
  refine Cert.InXIdeal.Columns.cases (P := fun j n => val_main_v22 (F := Ideal) x0 x2 x3 x4 x5 x6 x7 (ix2 n q) =
    val_main_v11 (F := Ideal) x0 x2 x3 x4 x5 x6 x7 (ix2 j q)) ?_ ?_ ?_ ?_ ?_ ?_ j
  all_goals
    unfold val_main_v22 val_main_v21 val_main_v12 val_main_v13 val_main_v15 val_main_v16 val_main_v17
    generalize hs : val_main_v20 (F := Ideal) x0 x2 x3 x4 x5 x6 x7 = d
    generalize hz : val_main_v11 (F := Ideal) x0 x2 x3 x4 x5 x6 x7 = z
  case refine_3 =>
    intro g r
    pointwise
    repeat first | rw [dif_neg (by omega)] | rw [dif_pos (by omega)]
    rw [← hz, ← steps_at, hs]
    refine congrArg (fun k => d (ix2 k q)) (Fin.ext ?_)
    simp only; omega
  all_goals
    intro a
    pointwise
    repeat first | rw [dif_neg (by omega)] | rw [dif_pos (by omega)]
    try exact congrArg (fun k => z (ix2 k q)) (Fin.ext (by simp only; omega))

theorem reference_zero (n : Fin 13440) (h : Zero n) (q : Fin 2048) : (val_main_v22 (F := Ideal) x0 x2 x3 x4 x5 x6 x7 (ix2 n q) : EReal) = 0 := by
  have hn : 13312 ≤ n.val ∧ (64 ≤ n.val - 13312 ∨ 6 ≤ (n.val - 13312) % 8) := by
    rcases h with ⟨g, r, e⟩ | ⟨a, e⟩ <;> omega
  unfold val_main_v22 val_main_v21 val_main_v12 val_main_v13 val_main_v15 val_main_v16 val_main_v17
  generalize hs : val_main_v20 (F := Ideal) x0 x2 x3 x4 x5 x6 x7 = d
  generalize hz : val_main_v11 (F := Ideal) x0 x2 x3 x4 x5 x6 x7 = z
  pointwise
  repeat first | rw [dif_neg (by omega)] | rw [dif_pos (by omega)]
  rw [← hs]
  exact steps_zero x0 x2 x3 x4 x5 x6 x7 _ (by simp only; omega) q

end

/-- The sum is the reference's row: that of a column, or zero. -/
theorem whole_eq (p : Fin 13440) (q : Fin 2048) : ∑ s : Fin 4096, (K m c (ix2 s p) : EReal) * X m c (ix2 s q) = Out m c (ix2 p q) := by
  rcases Cert.InXIdeal.Columns.place_or_zero p with ⟨j, rfl⟩ | h
  · unfold Out
    rw [reference_place, gradient_at]
    refine Finset.sum_congr rfl fun s _ => ?_
    unfold K
    rw [Cert.InXIdeal.Columns.columns_place]
    rfl
  · unfold Out
    rw [reference_zero _ _ _ _ _ _ _ _ h]
    refine Finset.sum_eq_zero fun s _ => ?_
    unfold K
    rw [Cert.InXIdeal.Columns.columns_zero _ _ _ _ _ _ _ _ h, zero_mul]

/-- What the accumulator holds after a point. -/
abbrev acc (n : ℕ) (h : n < cfg0.N) : S896x2048.Idx → EReal := (outsAt0 m c n h).2

/-- What a point adds. -/
abbrev term (t : Fin cfg0.N) (j : S896x2048.Idx) : EReal :=
  ∑ s : Fin 2048, (show EReal from (iblk m c 0 t : FVec Ideal S2048x896 .bf16) (ix2 s (j 0))) * (iblk m c 1 t : FVec Ideal S2048x2048 .bf16) (ix2 s (j 1))

theorem acc_first (t : Fin cfg0.N) (h : t.val % 2 = 0) (j : S896x2048.Idx) : acc m c t.val t.isLt j = 0 + term m c t j := by
  unfold acc
  rw [outsAt0_A m c t h (by omega) (by omega)]
  frame_open
  simp (disch := decide) only [↓ View.readCov_skip, ↓ View.readCov_cons_toLoadRect, ↓ View.readCov_fill]
  frame_out
  try simp only [read_unread_whole]
  rw [first]

theorem acc_next (t : Fin cfg0.N) (h : ¬t.val % 2 = 0) (j : S896x2048.Idx) :
    acc m c t.val t.isLt j = acc m c (t.val - 1) (Nat.lt_of_le_of_lt (Nat.sub_le _ _) t.isLt) j + term m c t j := by
  unfold acc
  rw [outsAt0_B m c t h (by omega) (by omega)]
  frame_open
  simp (disch := decide) only [↓ View.readCov_skip, ↓ View.readCov_cons_toLoadRect, ↓ View.readCov_fill]
  frame_out
  try simp only [read_unread_whole]
  rw [next]

theorem out_last (t : Fin cfg0.N) (h : t.val % 2 = 1) (j : S896x2048.Idx) : ((outsAt0 m c t.val t.isLt).1 j : EReal) = acc m c t.val t.isLt j := by
  unfold acc
  rw [outsAt0_B m c t (by omega) (by omega) (by omega)]
  frame_open
  simp (disch := decide) only [↓ View.readCov_skip, ↓ View.readCov_cons_toLoadRect, ↓ View.readCov_fill]
  frame_out
  try simp only [read_unread_whole]
  rfl

/-- The whole sum after a run of points. -/
theorem acc_last (t : Fin cfg0.N) (h : t.val % 2 = 1) (j : S896x2048.Idx) :
    acc m c t.val t.isLt j = ∑ s : Fin 4096, (K m c (ix2 s (row t (j 0))) : EReal) * X m c (ix2 s (j 1)) := by
  refine Cert.Prod.whole (K := 2) (S := 2048) rfl (acc m c) (term m c) (fun t j s => (K m c (ix2 s (row t (j 0))) : EReal) * X m c (ix2 s (j 1)))
    (acc_first m c) (acc_next m c) (fun t u k h j => Finset.sum_congr rfl fun s _ => ?_) t h j
  have er : row u = row t := funext fun _ => Fin.ext (by simp only [row]; omega)
  rw [← er]
  exact congrArg₂ (fun x y : EReal => x * y) (blk0_at m c u k (by omega) _ _) (blk1_at m c u k (by omega) _ _)

theorem final : (dats m 0 c).arrAt 2 (cfgs 0).N = Out m c := by
  refine (dats m 0 c).arrAt_eq_of_covers 2 _ (by decide +kernel) fun t hf y => ?_
  blk_simp
  rw [after0_2]
  have hl := (flush0_2 t).mp hf
  refine (out_last m c t hl _).trans ?_
  rw [acc_last m c t hl]
  refine (whole_eq m c (row t (y 0)) (y 1)).trans ?_
  blk_ext [idx t, row]

end Cert.InWIdeal.Prod

namespace Cert.InW

open Idealize.ShloMosaic Idealize.SL.Sem

theorem reference_frame : Cert.quiescent_InWRefIdeal (hInWRefIdeal := Cert.InWRefIdeal.Gen.facts) :=
  fun m ρ _ => (θ_run _ _ _).mono (fun r h => ⟨fun c => (h c).2, sem_eq_zero_of_no_sems (by decide) r.2⟩)
    (Cert.InWRefIdeal.Value.run (F := Ideal) m ρ)

/-- The kernel's gradient is the reference's. -/
theorem agree : Cert.algebraic_InWIdeal_InWRefIdeal (hInWIdeal := Cert.InWIdeal.Gen.facts)
    (hInWRefIdeal := Cert.InWRefIdeal.Gen.facts) := by
  intro m g m' g' _ hargs
  refine ⟨fun c => Cert.InWIdeal.Prod.Out m c,
    (θ_run _ _ _).mono (fun r h c => ⟨(h c).1.trans (Cert.InWIdeal.Prod.final m c), (h c).2⟩)
      (Cert.InWIdeal.Value.run_blocks (F := Ideal) m g),
    (θ_run _ _ _).mono (fun r h c => ⟨(h c).1.trans ?_, (h c).2⟩) (Cert.InWRefIdeal.Value.run (F := Ideal) m' g')⟩
  obtain ⟨h0, h1, h2, h3, h4, h5, h6, h7⟩ := hargs c
  rw [Cert.InWRefIdeal.Read.val_main_v22_eq, h0, h2, h3, h4, h5, h6, h7]

end Cert.InW
-- ==== Proof.Prod.InX.lean ====
/- The gradient of what the input projection is applied to. -/
module

public import proofs.«01_k».proof.Defs
public import proofs.«01_k».proof.Proof.Gen.InX.Frame
public import proofs.«01_k».proof.Proof.Prod.Columns
public import proofs.«01_k».proof.Proof.Gen.InXIdeal.Value
public import proofs.«01_k».proof.Proof.Gen.InXRefIdeal.Run
public import proofs.«01_k».proof.Proof.Gen.InXRefIdeal.Read
public import proofs.«01_k».proof.Proof.Prod.Tiles
public import Idealize.ShloMosaic.Lib.Pipeline.ValueKit
public import Idealize.ShloMosaic.Lib.Pipeline.ReadBack
public import Idealize.ShloMosaic.Lib.Pointwise
public import Idealize.ShloMosaic.Lib.StableHlo.RunRead
public import Idealize.ShloMosaic.Lib.Tactic.WordOmega
public import Idealize.ShloMosaic.Adequacy
public import Idealize.ShloMosaic.Init

@[expose] public section

set_option maxRecDepth 16384

noncomputable section

namespace Cert.InXIdeal.Prod

open Idealize.ShloMosaic Idealize.ShloMosaic.TcCoe Idealize.SL.Sem
open Idealize.ShloMosaic.Pipeline (Dat)
open Cert.InXIdeal Cert.InXIdeal.Gen

variable (m : (ℓ : Loc nD τ sig) → Buf (Elt Ideal) ℓ) (c : Dev nD)

open Cert.InXRefIdeal.Read (val_main_v7 val_main_v10)
open Cert.InXIdeal.Columns (columns rows)

/-- The weights. -/
abbrev W : FVec Ideal S2048x13360 .f32 := m ((c : Thread nD τ).loc main_arg1)
/-- The six cotangents. -/
abbrev C2 : FVec Ideal S4096x3072 .f32 := m ((c : Thread nD τ).loc main_arg2)
abbrev C3 : FVec Ideal S4096x5120 .f32 := m ((c : Thread nD τ).loc main_arg3)
abbrev C4 : FVec Ideal S4096x48 .f32 := m ((c : Thread nD τ).loc main_arg4)
abbrev C5 : FVec Ideal S4096x1024 .f32 := m ((c : Thread nD τ).loc main_arg5)
abbrev C6 : FVec Ideal S4096x2048 .f32 := m ((c : Thread nD τ).loc main_arg6)
abbrev C7 : FVec Ideal S4096x2048 .f32 := m ((c : Thread nD τ).loc main_arg7)
/-- The cotangents as the kernel keeps them. -/
abbrev K : FVec Ideal S4096x13440 .bf16 := columns (C2 m c) (C3 m c) (C4 m c) (C5 m c) (C6 m c) (C7 m c)
/-- The gradient in the reference. -/
abbrev Out : FVec Ideal S4096x2048 .f32 := val_main_v10 (F := Ideal) (W m c) (C2 m c) (C3 m c) (C4 m c) (C5 m c) (C6 m c) (C7 m c)

theorem idx : ∀ t : Fin cfg0.N, win0_0.index t = ![t.val / 6, t.val % 3] ∧ win0_1.index t = ![t.val % 3, t.val / 3 % 2] ∧
    win0_2.index t = ![t.val / 6, t.val / 3 % 2] :=
  (by decide +kernel : ∀ t : Fin grid0.N, _)

theorem bound (t : Fin cfg0.N) : t.val < 24 := lt_of_lt_of_eq t.isLt N_0

/-- The row of a point's tile. -/
def row (t : Fin cfg0.N) (p : Fin 1024) : Fin 4096 := ⟨t.val / 6 * 1024 + p.val, by have := bound t; omega⟩
/-- The column of a point's tile. -/
def col (t : Fin cfg0.N) (q : Fin 1024) : Fin 2048 := ⟨t.val / 3 % 2 * 1024 + q.val, by omega⟩
/-- A column of a third. -/
def third (k : Fin 3) (s : Fin 4480) : Fin 13440 := ⟨k.val * 4480 + s.val, by omega⟩

set_option maxHeartbeats 2000000 in
theorem V0 : V m c main_v5 = K m c := by
  unfold V
  simp only [List.flatten_cons, List.flatten_nil, List.append_nil]
  after_reads_simp
  rfl

set_option maxHeartbeats 2000000 in
theorem V1 : V m c main_v15 = rows (W m c) := by
  unfold V
  simp only [List.flatten_cons, List.flatten_nil, List.append_nil]
  after_reads_simp
  rfl

theorem blk0_at (t : Fin cfg0.N) (k : Fin 3) (hk : t.val % 3 = k.val) (p : Fin 1024) (s : Fin 4480) :
    (iblk m c 0 t : FVec Ideal S1024x4480 .bf16) (ix2 p s) = K m c (ix2 (row t p) (third k s)) := by
  refine (?_ : _ = (V m c main_v5 : FVec Ideal S4096x13440 .bf16) (ix2 (row t p) (third k s))).trans (by rw [V0])
  blk_ext [iblk, idx t, third, row, hk]

theorem blk1_at (t : Fin cfg0.N) (k : Fin 3) (hk : t.val % 3 = k.val) (s : Fin 4480) (q : Fin 1024) :
    (iblk m c 1 t : FVec Ideal S4480x1024 .bf16) (ix2 s q) = rows (W m c) (ix2 (third k s) (col t q)) := by
  refine (?_ : _ = (V m c main_v15 : FVec Ideal S13440x2048 .bf16) (ix2 (third k s) (col t q))).trans (by rw [V1])
  blk_ext [iblk, idx t, third, col, hk]

theorem first (x : Vec Ideal S1024x4480 .bf16) (y : Vec Ideal S4480x1024 .bf16) (j : S1024x1024.Idx) :
    k0_pay2 (F := Ideal) x y j = (0 : EReal) + ∑ s : Fin 4480, (x (ix2 (j 0) s) : EReal) * y (ix2 s (j 1)) := by
  obtain ⟨p, q, rfl⟩ := Cert.Prod.cases2 j
  pointwise [k0_pay2, k0_pay1]

theorem next (x : Vec Ideal S1024x4480 .bf16) (y : Vec Ideal S4480x1024 .bf16) (a : Vec Ideal S1024x1024 .f32) (j : S1024x1024.Idx) :
    k0_pay3 (F := Ideal) x y a j = (a j : EReal) + ∑ s : Fin 4480, (x (ix2 (j 0) s) : EReal) * y (ix2 s (j 1)) := by
  obtain ⟨p, q, rfl⟩ := Cert.Prod.cases2 j
  pointwise [k0_pay3, k0_pay1]

theorem reference_at (p : Fin 4096) (q : Fin 2048) :
    (Out m c (ix2 p q) : EReal) =
      ∑ s : Fin 13360, (val_main_v7 (F := Ideal) (C2 m c) (C3 m c) (C4 m c) (C5 m c) (C6 m c) (C7 m c) (ix2 p s) : EReal) * W m c (ix2 q s) := by
  unfold Out val_main_v10
  generalize val_main_v7 (F := Ideal) (C2 m c) (C3 m c) (C4 m c) (C5 m c) (C6 m c) (C7 m c) = z
  pointwise

/-- The sum is the reference's: the columns are its columns in another order, and the zero columns add nothing. -/
theorem whole_eq (p : Fin 4096) (q : Fin 2048) :
    ∑ n : Fin 13440, (K m c (ix2 p n) : EReal) * rows (W m c) (ix2 n q) = Out m c (ix2 p q) := by
  rw [reference_at]
  refine (Columns.sum_place _ (fun n => (K m c (ix2 p n) : EReal) * rows (W m c) (ix2 n q)) (fun n hn => ?_) fun j => ?_)
  · unfold K
    rw [Columns.columns_zero _ _ _ _ _ _ _ _ hn, zero_mul]
  · unfold K
    rw [Columns.columns_place, Columns.rows_place]

/-- What the accumulator holds after a point. -/
abbrev acc (n : ℕ) (h : n < cfg0.N) : S1024x1024.Idx → EReal := (outsAt0 m c n h).2

/-- What a point adds. -/
abbrev term (t : Fin cfg0.N) (j : S1024x1024.Idx) : EReal :=
  ∑ s : Fin 4480, (show EReal from (iblk m c 0 t : FVec Ideal S1024x4480 .bf16) (ix2 (j 0) s)) *
    (iblk m c 1 t : FVec Ideal S4480x1024 .bf16) (ix2 s (j 1))

theorem acc_first (t : Fin cfg0.N) (h : t.val % 3 = 0) (j : S1024x1024.Idx) : acc m c t.val t.isLt j = 0 + term m c t j := by
  unfold acc
  rw [outsAt0_A m c t h (by omega) (by omega)]
  frame_open
  simp (disch := decide) only [↓ View.readCov_skip, ↓ View.readCov_cons_toLoadRect, ↓ View.readCov_fill]
  frame_out
  try simp only [read_unread_whole]
  rw [first]

theorem acc_next (t : Fin cfg0.N) (h : ¬t.val % 3 = 0) (j : S1024x1024.Idx) :
    acc m c t.val t.isLt j = acc m c (t.val - 1) (Nat.lt_of_le_of_lt (Nat.sub_le _ _) t.isLt) j + term m c t j := by
  unfold acc
  by_cases hl : t.val % 3 = 2
  all_goals
    first | rw [outsAt0_C m c t h (by omega) hl] | rw [outsAt0_B m c t h (by omega) hl]
    frame_open
    simp (disch := decide) only [↓ View.readCov_skip, ↓ View.readCov_cons_toLoadRect, ↓ View.readCov_fill]
    frame_out
    try simp only [read_unread_whole]
    rw [next]

theorem out_last (t : Fin cfg0.N) (h : t.val % 3 = 2) (j : S1024x1024.Idx) : ((outsAt0 m c t.val t.isLt).1 j : EReal) = acc m c t.val t.isLt j := by
  unfold acc
  rw [outsAt0_C m c t (by omega) (by omega) h]
  frame_open
  simp (disch := decide) only [↓ View.readCov_skip, ↓ View.readCov_cons_toLoadRect, ↓ View.readCov_fill]
  frame_out

/-- The whole sum after a run of points. -/
theorem acc_last (t : Fin cfg0.N) (h : t.val % 3 = 2) (j : S1024x1024.Idx) :
    acc m c t.val t.isLt j = ∑ s : Fin 13440, (K m c (ix2 (row t (j 0)) s) : EReal) * rows (W m c) (ix2 s (col t (j 1))) := by
  refine Cert.Prod.whole (K := 3) (S := 4480) rfl (acc m c) (term m c) (fun t j s => (K m c (ix2 (row t (j 0)) s) : EReal) * rows (W m c) (ix2 s (col t (j 1))))
    (acc_first m c) (acc_next m c) (fun t u k h j => Finset.sum_congr rfl fun s _ => ?_) t h j
  have er : row u = row t := funext fun _ => Fin.ext (by simp only [row]; omega)
  have ec : col u = col t := funext fun _ => Fin.ext (by simp only [col]; omega)
  rw [← er, ← ec]
  exact congrArg₂ (fun x y : EReal => x * y) (blk0_at m c u k (by omega) _ _) (blk1_at m c u k (by omega) _ _)

theorem final : (dats m 0 c).arrAt 2 (cfgs 0).N = Out m c := by
  refine (dats m 0 c).arrAt_eq_of_covers 2 _ (by decide +kernel) fun t hf y => ?_
  blk_simp
  rw [after0_2]
  have hl := (flush0_2 t).mp hf
  refine (out_last m c t hl _).trans ?_
  rw [acc_last m c t hl, whole_eq]
  blk_ext [idx t, row, col]

end Cert.InXIdeal.Prod

namespace Cert.InX

open Idealize.ShloMosaic Idealize.SL.Sem

theorem reference_frame : Cert.quiescent_InXRefIdeal (hInXRefIdeal := Cert.InXRefIdeal.Gen.facts) :=
  fun m ρ _ => (θ_run _ _ _).mono (fun r h => ⟨fun c => (h c).2, sem_eq_zero_of_no_sems (by decide) r.2⟩)
    (Cert.InXRefIdeal.Value.run (F := Ideal) m ρ)

/-- The kernel's gradient is the reference's. -/
theorem agree : Cert.algebraic_InXIdeal_InXRefIdeal (hInXIdeal := Cert.InXIdeal.Gen.facts)
    (hInXRefIdeal := Cert.InXRefIdeal.Gen.facts) := by
  intro m g m' g' _ hargs
  refine ⟨fun c => Cert.InXIdeal.Prod.Out m c,
    (θ_run _ _ _).mono (fun r h c => ⟨(h c).1.trans (Cert.InXIdeal.Prod.final m c), (h c).2⟩)
      (Cert.InXIdeal.Value.run_blocks (F := Ideal) m g),
    (θ_run _ _ _).mono (fun r h c => ⟨(h c).1.trans ?_, (h c).2⟩) (Cert.InXRefIdeal.Value.run (F := Ideal) m' g')⟩
  obtain ⟨h0, h1, h2, h3, h4, h5, h6, h7⟩ := hargs c
  rw [h1, h2, h3, h4, h5, h6, h7]
  rfl

end Cert.InX
-- ==== Proof.Prod.ProjW.lean ====
/- The gradient of the weights of the mixer's output projection. -/
module

public import proofs.«01_k».proof.Defs
public import proofs.«01_k».proof.Proof.Gen.ProjW.Frame
public import proofs.«01_k».proof.Proof.Gen.ProjWIdeal.Value
public import proofs.«01_k».proof.Proof.Gen.ProjWRefIdeal.Run
public import proofs.«01_k».proof.Proof.Gen.ProjWRefIdeal.Read
public import proofs.«01_k».proof.Proof.Prod.Tiles
public import Idealize.ShloMosaic.Lib.Pipeline.ValueKit
public import Idealize.ShloMosaic.Lib.Pipeline.ReadBack
public import Idealize.ShloMosaic.Lib.Pointwise
public import Idealize.ShloMosaic.Lib.StableHlo.RunRead
public import Idealize.ShloMosaic.Lib.Tactic.WordOmega
public import Idealize.ShloMosaic.Adequacy
public import Idealize.ShloMosaic.Init

@[expose] public section

set_option maxRecDepth 16384

noncomputable section

namespace Cert.ProjWIdeal.Prod

open Idealize.ShloMosaic Idealize.ShloMosaic.TcCoe Idealize.SL.Sem
open Idealize.ShloMosaic.Pipeline (Dat)
open Cert.ProjWIdeal Cert.ProjWIdeal.Gen
open Cert.ProjWRefIdeal.Read (val_main_v4 val_main_v4_eq)

variable (m : (ℓ : Loc nD τ sig) → Buf (Elt Ideal) ℓ) (c : Dev nD)

/-- The activations. -/
abbrev X : FVec Ideal S4096x3072 .f32 := m ((c : Thread nD τ).loc main_arg0)
/-- The cotangent. -/
abbrev Y : FVec Ideal S4096x2048 .f32 := m ((c : Thread nD τ).loc main_arg2)

theorem idx : ∀ t : Fin cfg0.N, win0_0.index t = ![t.val % 2, t.val / 4] ∧ win0_1.index t = ![t.val % 2, t.val / 2 % 2] ∧
    win0_2.index t = ![t.val / 4, t.val / 2 % 2] :=
  (by decide +kernel : ∀ t : Fin grid0.N, _)

theorem bound (t : Fin cfg0.N) : t.val < 12 := lt_of_lt_of_eq t.isLt N_0

/-- The row of a point's tile. -/
def row (t : Fin cfg0.N) (p : Fin 1024) : Fin 3072 := ⟨t.val / 4 * 1024 + p.val, by have := bound t; omega⟩
/-- The column of a point's tile. -/
def col (t : Fin cfg0.N) (q : Fin 1024) : Fin 2048 := ⟨t.val / 2 % 2 * 1024 + q.val, by omega⟩
/-- The token of a point's tile. -/
def tok (k : Fin 2) (s : Fin 2048) : Fin 4096 := ⟨k.val * 2048 + s.val, by omega⟩

theorem V0 : V m c main_v0 = truncf .bf16 (X m c) bitsLt_bf16_f32 := by
  unfold V
  after_reads_simp

theorem V1 : V m c main_v1 = truncf .bf16 (Y m c) bitsLt_bf16_f32 := by
  unfold V
  after_reads_simp

theorem blk0_at (t : Fin cfg0.N) (k : Fin 2) (hk : t.val % 2 = k.val) (s : Fin 2048) (p : Fin 1024) :
    (iblk m c 0 t : FVec Ideal S2048x1024 .bf16) (ix2 s p) = X m c (ix2 (tok k s) (row t p)) := by
  refine (?_ : _ = (V m c main_v0 : FVec Ideal S4096x3072 .bf16) (ix2 (tok k s) (row t p))).trans (by rw [V0]; rfl)
  blk_ext [iblk, idx t, tok, row, hk]

theorem blk1_at (t : Fin cfg0.N) (k : Fin 2) (hk : t.val % 2 = k.val) (s : Fin 2048) (q : Fin 1024) :
    (iblk m c 1 t : FVec Ideal S2048x1024 .bf16) (ix2 s q) = Y m c (ix2 (tok k s) (col t q)) := by
  refine (?_ : _ = (V m c main_v1 : FVec Ideal S4096x2048 .bf16) (ix2 (tok k s) (col t q))).trans (by rw [V1]; rfl)
  blk_ext [iblk, idx t, tok, col, hk]

theorem first (x : Vec Ideal S2048x1024 .bf16) (y : Vec Ideal S2048x1024 .bf16) (j : S1024x1024.Idx) :
    k0_pay2 (F := Ideal) x y j = (0 : EReal) + ∑ s : Fin 2048, (x (ix2 s (j 0)) : EReal) * y (ix2 s (j 1)) := by
  obtain ⟨p, q, rfl⟩ := Cert.Prod.cases2 j
  pointwise [k0_pay2, k0_pay1]

theorem next (x : Vec Ideal S2048x1024 .bf16) (y : Vec Ideal S2048x1024 .bf16) (a : Vec Ideal S1024x1024 .f32) (j : S1024x1024.Idx) :
    k0_pay3 (F := Ideal) x y a j = (a j : EReal) + ∑ s : Fin 2048, (x (ix2 s (j 0)) : EReal) * y (ix2 s (j 1)) := by
  obtain ⟨p, q, rfl⟩ := Cert.Prod.cases2 j
  pointwise [k0_pay3, k0_pay1]

theorem reference_at (x : FVec Ideal S4096x3072 .f32) (y : FVec Ideal S4096x2048 .f32) (p : Fin 3072) (q : Fin 2048) :
    val_main_v4 (F := Ideal) x y (ix2 p q) = ∑ s : Fin 4096, (x (ix2 s p) : EReal) * y (ix2 s q) := by
  simp only [mul_comm (x _ : EReal)]
  pointwise [val_main_v4, Cert.ProjWRefIdeal.Read.val_main_v2, Cert.ProjWRefIdeal.Read.val_main_v1]

/-- What the accumulator holds after a point. -/
abbrev acc (n : ℕ) (h : n < cfg0.N) : S1024x1024.Idx → EReal := (outsAt0 m c n h).2

/-- What a point adds. -/
abbrev term (t : Fin cfg0.N) (j : S1024x1024.Idx) : EReal :=
  ∑ s : Fin 2048, (show EReal from (iblk m c 0 t : FVec Ideal S2048x1024 .bf16) (ix2 s (j 0))) * (iblk m c 1 t : FVec Ideal S2048x1024 .bf16) (ix2 s (j 1))

theorem acc_first (t : Fin cfg0.N) (h : t.val % 2 = 0) (j : S1024x1024.Idx) : acc m c t.val t.isLt j = 0 + term m c t j := by
  unfold acc
  rw [outsAt0_A m c t h (by omega) (by omega)]
  frame_open
  simp (disch := decide) only [↓ View.readCov_skip, ↓ View.readCov_cons_toLoadRect, ↓ View.readCov_fill]
  frame_out
  try simp only [read_unread_whole]
  rw [first]

theorem acc_next (t : Fin cfg0.N) (h : ¬t.val % 2 = 0) (j : S1024x1024.Idx) :
    acc m c t.val t.isLt j = acc m c (t.val - 1) (Nat.lt_of_le_of_lt (Nat.sub_le _ _) t.isLt) j + term m c t j := by
  unfold acc
  rw [outsAt0_B m c t h (by omega) (by omega)]
  frame_open
  simp (disch := decide) only [↓ View.readCov_skip, ↓ View.readCov_cons_toLoadRect, ↓ View.readCov_fill]
  frame_out
  try simp only [read_unread_whole]
  rw [next]

theorem out_last (t : Fin cfg0.N) (h : t.val % 2 = 1) (j : S1024x1024.Idx) : ((outsAt0 m c t.val t.isLt).1 j : EReal) = acc m c t.val t.isLt j := by
  unfold acc
  rw [outsAt0_B m c t (by omega) (by omega) (by omega)]
  frame_open
  simp (disch := decide) only [↓ View.readCov_skip, ↓ View.readCov_cons_toLoadRect, ↓ View.readCov_fill]
  frame_out
  try simp only [read_unread_whole]
  rfl

/-- The whole sum after a run of points. -/
theorem acc_last (t : Fin cfg0.N) (h : t.val % 2 = 1) (j : S1024x1024.Idx) :
    acc m c t.val t.isLt j = ∑ s : Fin 4096, (X m c (ix2 s (row t (j 0))) : EReal) * Y m c (ix2 s (col t (j 1))) := by
  refine Cert.Prod.whole (K := 2) (S := 2048) rfl (acc m c) (term m c) (fun t j s => (X m c (ix2 s (row t (j 0))) : EReal) * Y m c (ix2 s (col t (j 1))))
    (acc_first m c) (acc_next m c) (fun t u k h j => Finset.sum_congr rfl fun s _ => ?_) t h j
  have er : row u = row t := funext fun _ => Fin.ext (by simp only [row]; omega)
  have ec : col u = col t := funext fun _ => Fin.ext (by simp only [col]; omega)
  rw [← er, ← ec]
  exact congrArg₂ (fun x y : EReal => x * y) (blk0_at m c u k (by omega) _ _) (blk1_at m c u k (by omega) _ _)

theorem final : (dats m 0 c).arrAt 2 (cfgs 0).N = val_main_v4 (F := Ideal) (X m c) (Y m c) := by
  refine (dats m 0 c).arrAt_eq_of_covers 2 _ (by decide +kernel) fun t hf y => ?_
  blk_simp
  rw [after0_2]
  have hl := (flush0_2 t).mp hf
  refine (out_last m c t hl _).trans ?_
  rw [acc_last m c t hl, ← reference_at]
  blk_ext [idx t, row, col]

end Cert.ProjWIdeal.Prod

namespace Cert.ProjW

open Idealize.ShloMosaic Idealize.SL.Sem

theorem reference_frame : Cert.quiescent_ProjWRefIdeal (hProjWRefIdeal := Cert.ProjWRefIdeal.Gen.facts) :=
  fun m ρ _ => (θ_run _ _ _).mono (fun r h => ⟨fun c => (h c).2, sem_eq_zero_of_no_sems (by decide) r.2⟩)
    (Cert.ProjWRefIdeal.Value.run (F := Ideal) m ρ)

theorem agree : Cert.algebraic_ProjWIdeal_ProjWRefIdeal (hProjWIdeal := Cert.ProjWIdeal.Gen.facts)
    (hProjWRefIdeal := Cert.ProjWRefIdeal.Gen.facts) := by
  intro m g m' g' _ hargs
  refine ⟨fun c => Cert.ProjWRefIdeal.Read.val_main_v4 (F := Ideal) (Cert.ProjWIdeal.Prod.X m c) (Cert.ProjWIdeal.Prod.Y m c),
    (θ_run _ _ _).mono (fun r h c => ⟨(h c).1.trans (Cert.ProjWIdeal.Prod.final m c), (h c).2⟩)
      (Cert.ProjWIdeal.Value.run_blocks (F := Ideal) m g),
    (θ_run _ _ _).mono (fun r h c => ⟨(h c).1.trans ?_, (h c).2⟩) (Cert.ProjWRefIdeal.Value.run (F := Ideal) m' g')⟩
  rw [(hargs c).1, (hargs c).2.2]
  rfl

end Cert.ProjW
-- ==== Proof.Prod.ProjX.lean ====
/- The gradient of what the mixer's output projection is applied to. -/
module

public import proofs.«01_k».proof.Defs
public import proofs.«01_k».proof.Proof.Gen.ProjX.Frame
public import proofs.«01_k».proof.Proof.Gen.ProjXIdeal.Value
public import proofs.«01_k».proof.Proof.Gen.ProjXRefIdeal.Run
public import proofs.«01_k».proof.Proof.Gen.ProjXRefIdeal.Read
public import Idealize.ShloMosaic.Lib.Pipeline.ValueKit
public import Idealize.ShloMosaic.Lib.Pipeline.ReadBack
public import Idealize.ShloMosaic.Lib.Pointwise
public import Idealize.ShloMosaic.Lib.StableHlo.RunRead
public import Idealize.ShloMosaic.Lib.Tactic.WordOmega
public import Idealize.ShloMosaic.Adequacy
public import Idealize.ShloMosaic.Init

@[expose] public section

set_option maxRecDepth 16384

noncomputable section

namespace Cert.ProjXIdeal.Prod

open Idealize.ShloMosaic Idealize.ShloMosaic.TcCoe Idealize.SL.Sem
open Idealize.ShloMosaic.Pipeline (Dat)
open Cert.ProjXIdeal Cert.ProjXIdeal.Gen

variable (m : (ℓ : Loc nD τ sig) → Buf (Elt Ideal) ℓ) (c : Dev nD)

open Cert.ProjXRefIdeal.Read (val_main_v3)

/-- The weights. -/
abbrev W : FVec Ideal S3072x2048 .f32 := m ((c : Thread nD τ).loc main_arg1)
/-- The cotangent. -/
abbrev Y : FVec Ideal S4096x2048 .f32 := m ((c : Thread nD τ).loc main_arg2)

theorem idx : ∀ t : Fin cfg0.N, win0_0.index t = ![t.val / 3, 0] ∧ win0_1.index t = ![t.val % 3, 0] ∧ win0_2.index t = ![t.val / 3, t.val % 3] :=
  (by decide +kernel : ∀ t : Fin grid0.N, _)

theorem bound (t : Fin cfg0.N) : t.val < 12 := lt_of_lt_of_eq t.isLt N_0

/-- The row of a point's tile. -/
def row (t : Fin cfg0.N) (p : Fin 1024) : Fin 4096 := ⟨t.val / 3 * 1024 + p.val, by have := bound t; omega⟩
/-- The column of a point's tile. -/
def col (t : Fin cfg0.N) (q : Fin 1024) : Fin 3072 := ⟨t.val % 3 * 1024 + q.val, by omega⟩

theorem V0 : V m c main_v0 = truncf .bf16 (Y m c) bitsLt_bf16_f32 := by
  unfold V
  after_reads_simp

theorem V1 : V m c main_v1 = truncf .bf16 (W m c) bitsLt_bf16_f32 := by
  unfold V
  after_reads_simp

theorem blk0_at (t : Fin cfg0.N) (p : Fin 1024) (s : Fin 2048) :
    (iblk m c 0 t : FVec Ideal S1024x2048 .bf16) (ix2 p s) = Y m c (ix2 (row t p) s) := by
  refine (?_ : _ = (V m c main_v0 : FVec Ideal S4096x2048 .bf16) (ix2 (row t p) s)).trans (by rw [V0]; rfl)
  blk_ext [iblk, idx t, row]

theorem blk1_at (t : Fin cfg0.N) (q : Fin 1024) (s : Fin 2048) :
    (iblk m c 1 t : FVec Ideal S1024x2048 .bf16) (ix2 q s) = W m c (ix2 (col t q) s) := by
  refine (?_ : _ = (V m c main_v1 : FVec Ideal S3072x2048 .bf16) (ix2 (col t q) s)).trans (by rw [V1]; rfl)
  blk_ext [iblk, idx t, col]

theorem tile (x : Vec Ideal S1024x2048 .bf16) (y : Vec Ideal S1024x2048 .bf16) (p : Fin 1024) (q : Fin 1024) :
    k0_pay1 (F := Ideal) x y (ix2 p q) = ∑ s : Fin 2048, (x (ix2 p s) : EReal) * y (ix2 q s) := by
  pointwise [k0_pay1]

theorem reference_at (w : FVec Ideal S3072x2048 .f32) (y : FVec Ideal S4096x2048 .f32) (p : Fin 4096) (q : Fin 3072) :
    val_main_v3 (F := Ideal) w y (ix2 p q) = ∑ s : Fin 2048, (y (ix2 p s) : EReal) * w (ix2 q s) := by
  pointwise [val_main_v3]

/-- What a point leaves in its block. -/
theorem out_at (t : Fin cfg0.N) (j : S1024x1024.Idx) :
    (out0_2 (F := Ideal) (iblk m c 0 t) (iblk m c 1 t) j : EReal)
      = ∑ s : Fin 2048, (Y m c (ix2 (row t (j 0)) s) : EReal) * W m c (ix2 (col t (j 1)) s) := by
  obtain ⟨p, q, rfl⟩ : ∃ p q, j = ix2 p q := ⟨j 0, j 1, by funext b; fin_cases b <;> rfl⟩
  frame_open
  frame_out
  try simp only [read_unread_whole]
  rw [tile]
  exact Finset.sum_congr rfl fun s _ => by rw [blk0_at, blk1_at]; rfl

theorem final : (dats m 0 c).arrAt 2 (cfgs 0).N = val_main_v3 (F := Ideal) (W m c) (Y m c) := by
  refine (dats m 0 c).arrAt_eq_of_covers 2 _ (by decide +kernel) fun t hf y => ?_
  blk_simp
  rw [after0_2]
  refine (out_at m c t _).trans ?_
  rw [← reference_at]
  blk_ext [idx t, row, col]

end Cert.ProjXIdeal.Prod

namespace Cert.ProjX

open Idealize.ShloMosaic Idealize.SL.Sem

theorem reference_frame : Cert.quiescent_ProjXRefIdeal (hProjXRefIdeal := Cert.ProjXRefIdeal.Gen.facts) :=
  fun m ρ _ => (θ_run _ _ _).mono (fun r h => ⟨fun c => (h c).2, sem_eq_zero_of_no_sems (by decide) r.2⟩)
    (Cert.ProjXRefIdeal.Value.run (F := Ideal) m ρ)

/-- The kernel's gradient is the reference's. -/
theorem agree : Cert.algebraic_ProjXIdeal_ProjXRefIdeal (hProjXIdeal := Cert.ProjXIdeal.Gen.facts)
    (hProjXRefIdeal := Cert.ProjXRefIdeal.Gen.facts) := by
  intro m g m' g' _ hargs
  refine ⟨fun c => Cert.ProjXRefIdeal.Read.val_main_v3 (F := Ideal) (Cert.ProjXIdeal.Prod.W m c) (Cert.ProjXIdeal.Prod.Y m c),
    (θ_run _ _ _).mono (fun r h c => ⟨(h c).1.trans (Cert.ProjXIdeal.Prod.final m c), (h c).2⟩)
      (Cert.ProjXIdeal.Value.run_blocks (F := Ideal) m g),
    (θ_run _ _ _).mono (fun r h c => ⟨(h c).1.trans ?_, (h c).2⟩) (Cert.ProjXRefIdeal.Value.run (F := Ideal) m' g')⟩
  rw [(hargs c).2.1, (hargs c).2.2]
  rfl

end Cert.ProjX
-- ==== Proof.Prod.OutW.lean ====
/- The gradient of the weights of the output projection. -/
module

public import proofs.«01_k».proof.Defs
public import proofs.«01_k».proof.Proof.Gen.OutW.Frame
public import proofs.«01_k».proof.Proof.Gen.OutWIdeal.Value
public import proofs.«01_k».proof.Proof.Gen.OutWRefIdeal.Run
public import proofs.«01_k».proof.Proof.Gen.OutWRefIdeal.Read
public import proofs.«01_k».proof.Proof.Prod.Tiles
public import Idealize.ShloMosaic.Lib.Pipeline.ValueKit
public import Idealize.ShloMosaic.Lib.Pipeline.ReadBack
public import Idealize.ShloMosaic.Lib.Pointwise
public import Idealize.ShloMosaic.Lib.StableHlo.RunRead
public import Idealize.ShloMosaic.Lib.Tactic.WordOmega
public import Idealize.ShloMosaic.Adequacy
public import Idealize.ShloMosaic.Init

@[expose] public section

set_option maxRecDepth 16384

noncomputable section

namespace Cert.OutWIdeal.Prod

open Idealize.ShloMosaic Idealize.ShloMosaic.TcCoe Idealize.SL.Sem
open Idealize.ShloMosaic.Pipeline (Dat)
open Cert.OutWIdeal Cert.OutWIdeal.Gen
open Cert.OutWRefIdeal.Read (val_main_v4 val_main_v4_eq)

variable (m : (ℓ : Loc nD τ sig) → Buf (Elt Ideal) ℓ) (c : Dev nD)

/-- The activations. -/
abbrev X : FVec Ideal S4096x2048 .f32 := m ((c : Thread nD τ).loc main_arg0)
/-- The cotangent. -/
abbrev Y : FVec Ideal S4096x2048 .f32 := m ((c : Thread nD τ).loc main_arg2)

theorem idx : ∀ t : Fin cfg0.N, win0_0.index t = ![t.val % 2, t.val / 4] ∧ win0_1.index t = ![t.val % 2, t.val / 2 % 2] ∧
    win0_2.index t = ![t.val / 4, t.val / 2 % 2] :=
  (by decide +kernel : ∀ t : Fin grid0.N, _)

theorem bound (t : Fin cfg0.N) : t.val < 8 := lt_of_lt_of_eq t.isLt N_0

/-- The row of a point's tile. -/
def row (t : Fin cfg0.N) (p : Fin 1024) : Fin 2048 := ⟨t.val / 4 * 1024 + p.val, by have := bound t; omega⟩
/-- The column of a point's tile. -/
def col (t : Fin cfg0.N) (q : Fin 1024) : Fin 2048 := ⟨t.val / 2 % 2 * 1024 + q.val, by omega⟩
/-- The token of a point's tile. -/
def tok (k : Fin 2) (s : Fin 2048) : Fin 4096 := ⟨k.val * 2048 + s.val, by omega⟩

theorem V0 : V m c main_v0 = truncf .bf16 (X m c) bitsLt_bf16_f32 := by
  unfold V
  after_reads_simp

theorem V1 : V m c main_v1 = truncf .bf16 (Y m c) bitsLt_bf16_f32 := by
  unfold V
  after_reads_simp

theorem blk0_at (t : Fin cfg0.N) (k : Fin 2) (hk : t.val % 2 = k.val) (s : Fin 2048) (p : Fin 1024) :
    (iblk m c 0 t : FVec Ideal S2048x1024 .bf16) (ix2 s p) = X m c (ix2 (tok k s) (row t p)) := by
  refine (?_ : _ = (V m c main_v0 : FVec Ideal S4096x2048 .bf16) (ix2 (tok k s) (row t p))).trans (by rw [V0]; rfl)
  blk_ext [iblk, idx t, tok, row, hk]

theorem blk1_at (t : Fin cfg0.N) (k : Fin 2) (hk : t.val % 2 = k.val) (s : Fin 2048) (q : Fin 1024) :
    (iblk m c 1 t : FVec Ideal S2048x1024 .bf16) (ix2 s q) = Y m c (ix2 (tok k s) (col t q)) := by
  refine (?_ : _ = (V m c main_v1 : FVec Ideal S4096x2048 .bf16) (ix2 (tok k s) (col t q))).trans (by rw [V1]; rfl)
  blk_ext [iblk, idx t, tok, col, hk]

theorem first (x : Vec Ideal S2048x1024 .bf16) (y : Vec Ideal S2048x1024 .bf16) (j : S1024x1024.Idx) :
    k0_pay2 (F := Ideal) x y j = (0 : EReal) + ∑ s : Fin 2048, (x (ix2 s (j 0)) : EReal) * y (ix2 s (j 1)) := by
  obtain ⟨p, q, rfl⟩ := Cert.Prod.cases2 j
  pointwise [k0_pay2, k0_pay1]

theorem next (x : Vec Ideal S2048x1024 .bf16) (y : Vec Ideal S2048x1024 .bf16) (a : Vec Ideal S1024x1024 .f32) (j : S1024x1024.Idx) :
    k0_pay3 (F := Ideal) x y a j = (a j : EReal) + ∑ s : Fin 2048, (x (ix2 s (j 0)) : EReal) * y (ix2 s (j 1)) := by
  obtain ⟨p, q, rfl⟩ := Cert.Prod.cases2 j
  pointwise [k0_pay3, k0_pay1]

theorem reference_at (x : FVec Ideal S4096x2048 .f32) (y : FVec Ideal S4096x2048 .f32) (p : Fin 2048) (q : Fin 2048) :
    val_main_v4 (F := Ideal) x y (ix2 p q) = ∑ s : Fin 4096, (x (ix2 s p) : EReal) * y (ix2 s q) := by
  simp only [mul_comm (x _ : EReal)]
  pointwise [val_main_v4, Cert.OutWRefIdeal.Read.val_main_v2, Cert.OutWRefIdeal.Read.val_main_v1]

/-- What the accumulator holds after a point. -/
abbrev acc (n : ℕ) (h : n < cfg0.N) : S1024x1024.Idx → EReal := (outsAt0 m c n h).2

/-- What a point adds. -/
abbrev term (t : Fin cfg0.N) (j : S1024x1024.Idx) : EReal :=
  ∑ s : Fin 2048, (show EReal from (iblk m c 0 t : FVec Ideal S2048x1024 .bf16) (ix2 s (j 0))) * (iblk m c 1 t : FVec Ideal S2048x1024 .bf16) (ix2 s (j 1))

theorem acc_first (t : Fin cfg0.N) (h : t.val % 2 = 0) (j : S1024x1024.Idx) : acc m c t.val t.isLt j = 0 + term m c t j := by
  unfold acc
  rw [outsAt0_A m c t h (by omega) (by omega)]
  frame_open
  simp (disch := decide) only [↓ View.readCov_skip, ↓ View.readCov_cons_toLoadRect, ↓ View.readCov_fill]
  frame_out
  try simp only [read_unread_whole]
  rw [first]

theorem acc_next (t : Fin cfg0.N) (h : ¬t.val % 2 = 0) (j : S1024x1024.Idx) :
    acc m c t.val t.isLt j = acc m c (t.val - 1) (Nat.lt_of_le_of_lt (Nat.sub_le _ _) t.isLt) j + term m c t j := by
  unfold acc
  rw [outsAt0_B m c t h (by omega) (by omega)]
  frame_open
  simp (disch := decide) only [↓ View.readCov_skip, ↓ View.readCov_cons_toLoadRect, ↓ View.readCov_fill]
  frame_out
  try simp only [read_unread_whole]
  rw [next]

theorem out_last (t : Fin cfg0.N) (h : t.val % 2 = 1) (j : S1024x1024.Idx) : ((outsAt0 m c t.val t.isLt).1 j : EReal) = acc m c t.val t.isLt j := by
  unfold acc
  rw [outsAt0_B m c t (by omega) (by omega) (by omega)]
  frame_open
  simp (disch := decide) only [↓ View.readCov_skip, ↓ View.readCov_cons_toLoadRect, ↓ View.readCov_fill]
  frame_out
  try simp only [read_unread_whole]
  rfl

/-- The whole sum after a run of points. -/
theorem acc_last (t : Fin cfg0.N) (h : t.val % 2 = 1) (j : S1024x1024.Idx) :
    acc m c t.val t.isLt j = ∑ s : Fin 4096, (X m c (ix2 s (row t (j 0))) : EReal) * Y m c (ix2 s (col t (j 1))) := by
  refine Cert.Prod.whole (K := 2) (S := 2048) rfl (acc m c) (term m c) (fun t j s => (X m c (ix2 s (row t (j 0))) : EReal) * Y m c (ix2 s (col t (j 1))))
    (acc_first m c) (acc_next m c) (fun t u k h j => Finset.sum_congr rfl fun s _ => ?_) t h j
  have er : row u = row t := funext fun _ => Fin.ext (by simp only [row]; omega)
  have ec : col u = col t := funext fun _ => Fin.ext (by simp only [col]; omega)
  rw [← er, ← ec]
  exact congrArg₂ (fun x y : EReal => x * y) (blk0_at m c u k (by omega) _ _) (blk1_at m c u k (by omega) _ _)

theorem final : (dats m 0 c).arrAt 2 (cfgs 0).N = val_main_v4 (F := Ideal) (X m c) (Y m c) := by
  refine (dats m 0 c).arrAt_eq_of_covers 2 _ (by decide +kernel) fun t hf y => ?_
  blk_simp
  rw [after0_2]
  have hl := (flush0_2 t).mp hf
  refine (out_last m c t hl _).trans ?_
  rw [acc_last m c t hl, ← reference_at]
  blk_ext [idx t, row, col]

end Cert.OutWIdeal.Prod

namespace Cert.OutW

open Idealize.ShloMosaic Idealize.SL.Sem

theorem reference_frame : Cert.quiescent_OutWRefIdeal (hOutWRefIdeal := Cert.OutWRefIdeal.Gen.facts) :=
  fun m ρ _ => (θ_run _ _ _).mono (fun r h => ⟨fun c => (h c).2, sem_eq_zero_of_no_sems (by decide) r.2⟩)
    (Cert.OutWRefIdeal.Value.run (F := Ideal) m ρ)

theorem agree : Cert.algebraic_OutWIdeal_OutWRefIdeal (hOutWIdeal := Cert.OutWIdeal.Gen.facts)
    (hOutWRefIdeal := Cert.OutWRefIdeal.Gen.facts) := by
  intro m g m' g' _ hargs
  refine ⟨fun c => Cert.OutWRefIdeal.Read.val_main_v4 (F := Ideal) (Cert.OutWIdeal.Prod.X m c) (Cert.OutWIdeal.Prod.Y m c),
    (θ_run _ _ _).mono (fun r h c => ⟨(h c).1.trans (Cert.OutWIdeal.Prod.final m c), (h c).2⟩)
      (Cert.OutWIdeal.Value.run_blocks (F := Ideal) m g),
    (θ_run _ _ _).mono (fun r h c => ⟨(h c).1.trans ?_, (h c).2⟩) (Cert.OutWRefIdeal.Value.run (F := Ideal) m' g')⟩
  rw [(hargs c).1, (hargs c).2.2]
  rfl

end Cert.OutW
-- ==== Proof.Prod.OutX.lean ====
/- The gradient of what the output projection is applied to. -/
module

public import proofs.«01_k».proof.Defs
public import proofs.«01_k».proof.Proof.Gen.OutX.Frame
public import proofs.«01_k».proof.Proof.Gen.OutXIdeal.Value
public import proofs.«01_k».proof.Proof.Gen.OutXRefIdeal.Run
public import proofs.«01_k».proof.Proof.Gen.OutXRefIdeal.Read
public import Idealize.ShloMosaic.Lib.Pipeline.ValueKit
public import Idealize.ShloMosaic.Lib.Pipeline.ReadBack
public import Idealize.ShloMosaic.Lib.Pointwise
public import Idealize.ShloMosaic.Lib.StableHlo.RunRead
public import Idealize.ShloMosaic.Lib.Tactic.WordOmega
public import Idealize.ShloMosaic.Adequacy
public import Idealize.ShloMosaic.Init

@[expose] public section

set_option maxRecDepth 16384

noncomputable section

namespace Cert.OutXIdeal.Prod

open Idealize.ShloMosaic Idealize.ShloMosaic.TcCoe Idealize.SL.Sem
open Idealize.ShloMosaic.Pipeline (Dat)
open Cert.OutXIdeal Cert.OutXIdeal.Gen

variable (m : (ℓ : Loc nD τ sig) → Buf (Elt Ideal) ℓ) (c : Dev nD)

open Cert.OutXRefIdeal.Read (val_main_v3)

/-- The weights. -/
abbrev W : FVec Ideal S2048x2048 .f32 := m ((c : Thread nD τ).loc main_arg1)
/-- The cotangent. -/
abbrev Y : FVec Ideal S4096x2048 .f32 := m ((c : Thread nD τ).loc main_arg2)

theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

theorem bound (t : Fin cfg0.N) : t.val < 8 := lt_of_lt_of_eq t.isLt N_0

/-- The row of a point's tile. -/
def row (t : Fin cfg0.N) (p : Fin 1024) : Fin 4096 := ⟨t.val / 2 * 1024 + p.val, by have := bound t; omega⟩
/-- The column of a point's tile. -/
def col (t : Fin cfg0.N) (q : Fin 1024) : Fin 2048 := ⟨t.val % 2 * 1024 + q.val, by omega⟩

theorem V0 : V m c main_v0 = truncf .bf16 (Y m c) bitsLt_bf16_f32 := by
  unfold V
  after_reads_simp

theorem V1 : V m c main_v1 = truncf .bf16 (W m c) bitsLt_bf16_f32 := by
  unfold V
  after_reads_simp

theorem blk0_at (t : Fin cfg0.N) (p : Fin 1024) (s : Fin 2048) :
    (iblk m c 0 t : FVec Ideal S1024x2048 .bf16) (ix2 p s) = Y m c (ix2 (row t p) s) := by
  refine (?_ : _ = (V m c main_v0 : FVec Ideal S4096x2048 .bf16) (ix2 (row t p) s)).trans (by rw [V0]; rfl)
  blk_ext [iblk, idx t, row]

theorem blk1_at (t : Fin cfg0.N) (q : Fin 1024) (s : Fin 2048) :
    (iblk m c 1 t : FVec Ideal S1024x2048 .bf16) (ix2 q s) = W m c (ix2 (col t q) s) := by
  refine (?_ : _ = (V m c main_v1 : FVec Ideal S2048x2048 .bf16) (ix2 (col t q) s)).trans (by rw [V1]; rfl)
  blk_ext [iblk, idx t, col]

theorem tile (x : Vec Ideal S1024x2048 .bf16) (y : Vec Ideal S1024x2048 .bf16) (p : Fin 1024) (q : Fin 1024) :
    k0_pay1 (F := Ideal) x y (ix2 p q) = ∑ s : Fin 2048, (x (ix2 p s) : EReal) * y (ix2 q s) := by
  pointwise [k0_pay1]

theorem reference_at (w : FVec Ideal S2048x2048 .f32) (y : FVec Ideal S4096x2048 .f32) (p : Fin 4096) (q : Fin 2048) :
    val_main_v3 (F := Ideal) w y (ix2 p q) = ∑ s : Fin 2048, (y (ix2 p s) : EReal) * w (ix2 q s) := by
  pointwise [val_main_v3]

/-- What a point leaves in its block. -/
theorem out_at (t : Fin cfg0.N) (j : S1024x1024.Idx) :
    (out0_2 (F := Ideal) (iblk m c 0 t) (iblk m c 1 t) j : EReal)
      = ∑ s : Fin 2048, (Y m c (ix2 (row t (j 0)) s) : EReal) * W m c (ix2 (col t (j 1)) s) := by
  obtain ⟨p, q, rfl⟩ : ∃ p q, j = ix2 p q := ⟨j 0, j 1, by funext b; fin_cases b <;> rfl⟩
  frame_open
  frame_out
  try simp only [read_unread_whole]
  rw [tile]
  exact Finset.sum_congr rfl fun s _ => by rw [blk0_at, blk1_at]; rfl

theorem final : (dats m 0 c).arrAt 2 (cfgs 0).N = val_main_v3 (F := Ideal) (W m c) (Y m c) := by
  refine (dats m 0 c).arrAt_eq_of_covers 2 _ (by decide +kernel) fun t hf y => ?_
  blk_simp
  rw [after0_2]
  refine (out_at m c t _).trans ?_
  rw [← reference_at]
  blk_ext [idx t, row, col]

end Cert.OutXIdeal.Prod

namespace Cert.OutX

open Idealize.ShloMosaic Idealize.SL.Sem

theorem reference_frame : Cert.quiescent_OutXRefIdeal (hOutXRefIdeal := Cert.OutXRefIdeal.Gen.facts) :=
  fun m ρ _ => (θ_run _ _ _).mono (fun r h => ⟨fun c => (h c).2, sem_eq_zero_of_no_sems (by decide) r.2⟩)
    (Cert.OutXRefIdeal.Value.run (F := Ideal) m ρ)

/-- The kernel's gradient is the reference's. -/
theorem agree : Cert.algebraic_OutXIdeal_OutXRefIdeal (hOutXIdeal := Cert.OutXIdeal.Gen.facts)
    (hOutXRefIdeal := Cert.OutXRefIdeal.Gen.facts) := by
  intro m g m' g' _ hargs
  refine ⟨fun c => Cert.OutXRefIdeal.Read.val_main_v3 (F := Ideal) (Cert.OutXIdeal.Prod.W m c) (Cert.OutXIdeal.Prod.Y m c),
    (θ_run _ _ _).mono (fun r h c => ⟨(h c).1.trans (Cert.OutXIdeal.Prod.final m c), (h c).2⟩)
      (Cert.OutXIdeal.Value.run_blocks (F := Ideal) m g),
    (θ_run _ _ _).mono (fun r h c => ⟨(h c).1.trans ?_, (h c).2⟩) (Cert.OutXRefIdeal.Value.run (F := Ideal) m' g')⟩
  rw [(hargs c).2.1, (hargs c).2.2]
  rfl

end Cert.OutX
-- ==== Proof.Prod.GluW.lean ====
/- The gradient of the gated projection's weights, written as four stacked shards of their columns. -/
module

public import proofs.«01_k».proof.Defs
public import proofs.«01_k».proof.Proof.Gen.GluW.Frame
public import proofs.«01_k».proof.Proof.Gen.GluWIdeal.Value
public import proofs.«01_k».proof.Proof.Gen.GluWRefIdeal.Run
public import proofs.«01_k».proof.Proof.Gen.GluWRefIdeal.Read
public import proofs.«01_k».proof.Proof.Prod.Tiles
public import Idealize.ShloMosaic.Lib.Pipeline.ValueKit
public import Idealize.ShloMosaic.Lib.Pipeline.ReadBack
public import Idealize.ShloMosaic.Lib.Pointwise
public import Idealize.ShloMosaic.Lib.StableHlo.RunRead
public import Idealize.ShloMosaic.Lib.Tactic.WordOmega
public import Idealize.ShloMosaic.Adequacy
public import Idealize.ShloMosaic.Init

@[expose] public section

set_option maxRecDepth 16384

noncomputable section

namespace Cert.GluWIdeal.Prod

open Idealize.ShloMosaic Idealize.ShloMosaic.TcCoe Idealize.SL.Sem
open Idealize.ShloMosaic.Pipeline (Dat)
open Cert.GluWIdeal Cert.GluWIdeal.Gen
open Cert.GluWRefIdeal.Read (val_main_v3 val_main_v16)

variable (m : (ℓ : Loc nD τ sig) → Buf (Elt Ideal) ℓ) (c : Dev nD)

/-- The activations. -/
abbrev X : FVec Ideal S4096x1024 .f32 := m ((c : Thread nD τ).loc main_arg0)
/-- The cotangents of the two halves. -/
abbrev Ya : FVec Ideal S4096x2048 .f32 := m ((c : Thread nD τ).loc main_arg2)
@[inherit_doc Ya] abbrev Yb : FVec Ideal S4096x2048 .f32 := m ((c : Thread nD τ).loc main_arg3)
/-- The cotangent of the product. -/
abbrev Y : FVec Ideal S4096x4096 .f32 := val_main_v3 (F := Ideal) (Ya m c) (Yb m c)

theorem idx : ∀ t : Fin cfg0.N, win0_0.index t = ![t.val % 2, 0] ∧ win0_1.index t = ![t.val % 2, t.val / 2] ∧
    win0_2.index t = ![t.val / 2, 0, 0] :=
  (by decide +kernel : ∀ t : Fin grid0.N, _)

theorem bound (t : Fin cfg0.N) : t.val < 8 := lt_of_lt_of_eq t.isLt N_0

/-- The shard of a point's tile. -/
def grp (t : Fin cfg0.N) : Fin 4 := ⟨t.val / 2, by have := bound t; omega⟩
/-- A column of a shard. -/
def shard (k : Fin 4) (s : Fin 1024) : Fin 4096 := ⟨k.val * 1024 + s.val, by omega⟩
/-- The token of a point's tile. -/
def tok (k : Fin 2) (s : Fin 2048) : Fin 4096 := ⟨k.val * 2048 + s.val, by omega⟩

theorem V0 : V m c main_v2 = truncf .bf16 (X m c) bitsLt_bf16_f32 := by
  unfold V
  after_reads_simp

theorem V1 : V m c main_v1 = truncf .bf16 (Y m c) bitsLt_bf16_f32 := by
  unfold V
  after_reads_simp
  rfl

theorem blk0_at (t : Fin cfg0.N) (k : Fin 2) (hk : t.val % 2 = k.val) (s : Fin 2048) (p : Fin 1024) :
    (iblk m c 0 t : FVec Ideal S2048x1024 .bf16) (ix2 s p) = X m c (ix2 (tok k s) p) := by
  refine (?_ : _ = (V m c main_v2 : FVec Ideal S4096x1024 .bf16) (ix2 (tok k s) p)).trans (by rw [V0]; rfl)
  blk_ext [iblk, idx t, tok, hk]

theorem blk1_at (t : Fin cfg0.N) (k : Fin 2) (hk : t.val % 2 = k.val) (s : Fin 2048) (q : Fin 1024) :
    (iblk m c 1 t : FVec Ideal S2048x1024 .bf16) (ix2 s q) = Y m c (ix2 (tok k s) (shard (grp t) q)) := by
  refine (?_ : _ = (V m c main_v1 : FVec Ideal S4096x4096 .bf16) (ix2 (tok k s) (shard (grp t) q))).trans (by rw [V1]; rfl)
  blk_ext [iblk, idx t, tok, shard, grp, hk]

theorem first (x : Vec Ideal S2048x1024 .bf16) (y : Vec Ideal S2048x1024 .bf16) (j : S1024x1024.Idx) :
    k0_pay2 (F := Ideal) x y j = (0 : EReal) + ∑ s : Fin 2048, (x (ix2 s (j 0)) : EReal) * y (ix2 s (j 1)) := by
  obtain ⟨p, q, rfl⟩ := Cert.Prod.cases2 j
  pointwise [k0_pay2, k0_pay1]

theorem next (x : Vec Ideal S2048x1024 .bf16) (y : Vec Ideal S2048x1024 .bf16) (a : Vec Ideal S1024x1024 .f32) (j : S1024x1024.Idx) :
    k0_pay3 (F := Ideal) x y a j = (a j : EReal) + ∑ s : Fin 2048, (x (ix2 s (j 0)) : EReal) * y (ix2 s (j 1)) := by
  obtain ⟨p, q, rfl⟩ := Cert.Prod.cases2 j
  pointwise [k0_pay3, k0_pay1]

theorem product_at (x : FVec Ideal S4096x1024 .f32) (a b : FVec Ideal S4096x2048 .f32) (p : Fin 1024) (q : Fin 4096) :
    Cert.GluWRefIdeal.Read.val_main_v7 (F := Ideal) x a b (ix2 p q) = ∑ s : Fin 4096, (x (ix2 s p) : EReal) * val_main_v3 (F := Ideal) a b (ix2 s q) := by
  simp only [mul_comm (x _ : EReal)]
  pointwise [Cert.GluWRefIdeal.Read.val_main_v7, Cert.GluWRefIdeal.Read.val_main_v5, Cert.GluWRefIdeal.Read.val_main_v4]

theorem reference_at (x : FVec Ideal S4096x1024 .f32) (a b : FVec Ideal S4096x2048 .f32) (k : Fin 4) (p : Fin 1024) (q : Fin 1024) :
    val_main_v16 (F := Ideal) x a b (ix3 k p q) = ∑ s : Fin 4096, (x (ix2 s p) : EReal) * val_main_v3 (F := Ideal) a b (ix2 s (shard k q)) := by
  rw [← product_at]
  fin_cases k
  all_goals
    generalize hz : Cert.GluWRefIdeal.Read.val_main_v7 (F := Ideal) x a b = z
    pointwise [val_main_v16, Cert.GluWRefIdeal.Read.val_main_v8, Cert.GluWRefIdeal.Read.val_main_v9, Cert.GluWRefIdeal.Read.val_main_v10, Cert.GluWRefIdeal.Read.val_main_v11, Cert.GluWRefIdeal.Read.val_main_v12, Cert.GluWRefIdeal.Read.val_main_v13, Cert.GluWRefIdeal.Read.val_main_v14, Cert.GluWRefIdeal.Read.val_main_v15, shard, hz]

/-- What the accumulator holds after a point. -/
abbrev acc (n : ℕ) (h : n < cfg0.N) : S1024x1024.Idx → EReal := (outsAt0 m c n h).2

/-- What a point adds. -/
abbrev term (t : Fin cfg0.N) (j : S1024x1024.Idx) : EReal :=
  ∑ s : Fin 2048, (show EReal from (iblk m c 0 t : FVec Ideal S2048x1024 .bf16) (ix2 s (j 0))) * (iblk m c 1 t : FVec Ideal S2048x1024 .bf16) (ix2 s (j 1))

theorem acc_first (t : Fin cfg0.N) (h : t.val % 2 = 0) (j : S1024x1024.Idx) : acc m c t.val t.isLt j = 0 + term m c t j := by
  unfold acc
  rw [outsAt0_A m c t h (by omega) (by omega)]
  frame_open
  simp (disch := decide) only [↓ View.readCov_skip, ↓ View.readCov_cons_toLoadRect, ↓ View.readCov_fill]
  frame_out
  try simp only [read_unread_whole]
  rw [first]

theorem acc_next (t : Fin cfg0.N) (h : ¬t.val % 2 = 0) (j : S1024x1024.Idx) :
    acc m c t.val t.isLt j = acc m c (t.val - 1) (Nat.lt_of_le_of_lt (Nat.sub_le _ _) t.isLt) j + term m c t j := by
  unfold acc
  rw [outsAt0_B m c t h (by omega) (by omega)]
  frame_open
  simp (disch := decide) only [↓ View.readCov_skip, ↓ View.readCov_cons_toLoadRect, ↓ View.readCov_fill]
  frame_out
  try simp only [read_unread_whole]
  rw [next]

theorem out_last (t : Fin cfg0.N) (h : t.val % 2 = 1) (p : Fin 1024) (q : Fin 1024) :
    ((outsAt0 m c t.val t.isLt).1 (ix3 0 p q) : EReal) = acc m c t.val t.isLt (ix2 p q) := by
  unfold acc
  rw [outsAt0_B m c t (by omega) (by omega) (by omega)]
  frame_open
  simp (disch := decide) only [↓ View.readCov_skip, ↓ View.readCov_cons_toLoadRect, ↓ View.readCov_fill]
  frame_out
  try simp only [read_unread_whole]
  pointwise [k0_pay4]

/-- The whole sum after a run of points. -/
theorem acc_last (t : Fin cfg0.N) (h : t.val % 2 = 1) (j : S1024x1024.Idx) :
    acc m c t.val t.isLt j = ∑ s : Fin 4096, (X m c (ix2 s (j 0)) : EReal) * Y m c (ix2 s (shard (grp t) (j 1))) := by
  refine Cert.Prod.whole (K := 2) (S := 2048) rfl (acc m c) (term m c) (fun t j s => (X m c (ix2 s (j 0)) : EReal) * Y m c (ix2 s (shard (grp t) (j 1))))
    (acc_first m c) (acc_next m c) (fun t u k h j => Finset.sum_congr rfl fun s _ => ?_) t h j
  have ec : grp u = grp t := Fin.ext (by simp only [grp]; omega)
  rw [← ec]
  exact congrArg₂ (fun x y : EReal => x * y) (blk0_at m c u k (by omega) _ _) (blk1_at m c u k (by omega) _ _)

theorem final : (dats m 0 c).arrAt 2 (cfgs 0).N = val_main_v16 (F := Ideal) (X m c) (Ya m c) (Yb m c) := by
  refine (dats m 0 c).arrAt_eq_of_covers 2 _ (by decide +kernel) fun t hf y => ?_
  have hy : y = ix3 0 (y 1) (y 2) := by
    funext b; fin_cases b
    · exact Subsingleton.elim (α := Fin 1) _ _
    all_goals rfl
  blk_simp
  rw [after0_2]
  have hl := (flush0_2 t).mp hf
  rw [hy]
  refine (out_last m c t hl (y 1) (y 2)).trans ?_
  rw [acc_last m c t hl]
  refine (reference_at (X m c) (Ya m c) (Yb m c) (grp t) (y 1) (y 2)).symm.trans ?_
  blk_ext [idx t, grp]

end Cert.GluWIdeal.Prod

namespace Cert.GluW

open Idealize.ShloMosaic Idealize.SL.Sem

theorem reference_frame : Cert.quiescent_GluWRefIdeal (hGluWRefIdeal := Cert.GluWRefIdeal.Gen.facts) :=
  fun m ρ _ => (θ_run _ _ _).mono (fun r h => ⟨fun c => (h c).2, sem_eq_zero_of_no_sems (by decide) r.2⟩)
    (Cert.GluWRefIdeal.Value.run (F := Ideal) m ρ)

theorem agree : Cert.algebraic_GluWIdeal_GluWRefIdeal (hGluWIdeal := Cert.GluWIdeal.Gen.facts)
    (hGluWRefIdeal := Cert.GluWRefIdeal.Gen.facts) := by
  intro m g m' g' _ hargs
  refine ⟨fun c => Cert.GluWRefIdeal.Read.val_main_v16 (F := Ideal) (Cert.GluWIdeal.Prod.X m c) (Cert.GluWIdeal.Prod.Ya m c)
      (Cert.GluWIdeal.Prod.Yb m c),
    (θ_run _ _ _).mono (fun r h c => ⟨(h c).1.trans (Cert.GluWIdeal.Prod.final m c), (h c).2⟩)
      (Cert.GluWIdeal.Value.run_blocks (F := Ideal) m g),
    (θ_run _ _ _).mono (fun r h c => ⟨(h c).1.trans ?_, (h c).2⟩) (Cert.GluWRefIdeal.Value.run (F := Ideal) m' g')⟩
  rw [Cert.GluWRefIdeal.Read.val_main_v16_eq, (hargs c).1, (hargs c).2.2.1, (hargs c).2.2.2]

end Cert.GluW
-- ==== Proof.Prod.GluX.lean ====
/- The gradient of what the gated projection is applied to. The weights reach the kernel as four stacked shards of their columns, and a point takes one shard. -/
module

public import proofs.«01_k».proof.Defs
public import proofs.«01_k».proof.Proof.Gen.GluX.Frame
public import proofs.«01_k».proof.Proof.Gen.GluXIdeal.Value
public import proofs.«01_k».proof.Proof.Gen.GluXRefIdeal.Run
public import proofs.«01_k».proof.Proof.Gen.GluXRefIdeal.Read
public import proofs.«01_k».proof.Proof.Prod.Tiles
public import Idealize.ShloMosaic.Lib.Pipeline.ValueKit
public import Idealize.ShloMosaic.Lib.Pipeline.ReadBack
public import Idealize.ShloMosaic.Lib.Pointwise
public import Idealize.ShloMosaic.Lib.StableHlo.RunRead
public import Idealize.ShloMosaic.Lib.Tactic.WordOmega
public import Idealize.ShloMosaic.Adequacy
public import Idealize.ShloMosaic.Init

@[expose] public section

set_option maxRecDepth 16384

noncomputable section

namespace Cert.GluXIdeal.Prod

open Idealize.ShloMosaic Idealize.ShloMosaic.TcCoe Idealize.SL.Sem
open Idealize.ShloMosaic.Pipeline (Dat)
open Cert.GluXIdeal Cert.GluXIdeal.Gen

variable (m : (ℓ : Loc nD τ sig) → Buf (Elt Ideal) ℓ) (c : Dev nD)

open Cert.GluXRefIdeal.Read (val_main_v3 val_main_v6)

/-- The weights. -/
abbrev W : FVec Ideal S1024x4096 .f32 := m ((c : Thread nD τ).loc main_arg1)
/-- The cotangents of the two halves. -/
abbrev Ya : FVec Ideal S4096x2048 .f32 := m ((c : Thread nD τ).loc main_arg2)
@[inherit_doc Ya] abbrev Yb : FVec Ideal S4096x2048 .f32 := m ((c : Thread nD τ).loc main_arg3)
/-- The cotangent of the product. -/
abbrev Y : FVec Ideal S4096x4096 .f32 := val_main_v3 (F := Ideal) (Ya m c) (Yb m c)

theorem idx : ∀ t : Fin cfg0.N, win0_0.index t = ![t.val / 4, t.val % 4] ∧ win0_1.index t = ![t.val % 4, 0, 0] ∧
    win0_2.index t = ![t.val / 4, 0] :=
  (by decide +kernel : ∀ t : Fin grid0.N, _)

theorem bound (t : Fin cfg0.N) : t.val < 16 := lt_of_lt_of_eq t.isLt N_0

/-- The row of a point's tile. -/
def row (t : Fin cfg0.N) (p : Fin 1024) : Fin 4096 := ⟨t.val / 4 * 1024 + p.val, by have := bound t; omega⟩
/-- A column of a shard. -/
def shard (k : Fin 4) (s : Fin 1024) : Fin 4096 := ⟨k.val * 1024 + s.val, by omega⟩

/-- The stacked shards. -/
def stacked (w : FVec Ideal S1024x4096 .f32) : FVec Ideal S4x1024x1024 .bf16 :=
  transpose S4x1024x1024 [1, 0, 2] (shapeCast S1024x4x1024 (truncf .bf16 w bitsLt_bf16_f32) shapeCasts_S1024x4096_S1024x4x1024)
    transposes_S1024x4x1024_S4x1024x1024_1_0_2

theorem V0 : V m c main_v1 = truncf .bf16 (Y m c) bitsLt_bf16_f32 := by
  unfold V
  after_reads_simp
  rfl

theorem V1 : V m c main_v4 = stacked (W m c) := by
  unfold V
  after_reads_simp
  rfl

theorem stacked_at (w : FVec Ideal S1024x4096 .f32) (k : Fin 4) (q : Fin 1024) (s : Fin 1024) :
    stacked w (ix3 k q s) = w (ix2 q (shard k s)) := by
  pointwise [stacked, shard]

theorem blk0_at (t : Fin cfg0.N) (k : Fin 4) (hk : t.val % 4 = k.val) (p : Fin 1024) (s : Fin 1024) :
    (iblk m c 0 t : FVec Ideal S1024x1024 .bf16) (ix2 p s) = Y m c (ix2 (row t p) (shard k s)) := by
  refine (?_ : _ = (V m c main_v1 : FVec Ideal S4096x4096 .bf16) (ix2 (row t p) (shard k s))).trans (by rw [V0]; rfl)
  blk_ext [iblk, idx t, shard, row, hk]

theorem blk1_at (t : Fin cfg0.N) (k : Fin 4) (hk : t.val % 4 = k.val) (q : Fin 1024) (s : Fin 1024) :
    (iblk m c 1 t : FVec Ideal S1x1024x1024 .bf16) (ix3 0 q s) = W m c (ix2 q (shard k s)) := by
  refine (?_ : _ = (V m c main_v4 : FVec Ideal S4x1024x1024 .bf16) (ix3 k q s)).trans (by rw [V1, stacked_at])
  blk_ext [iblk, idx t, hk]

theorem first (x : Vec Ideal S1024x1024 .bf16) (y : Vec Ideal S1x1024x1024 .bf16) (j : S1024x1024.Idx) :
    k0_pay2 (F := Ideal) x y j = (0 : EReal) + ∑ s : Fin 1024, (x (ix2 (j 0) s) : EReal) * y (ix3 0 (j 1) s) := by
  obtain ⟨p, q, rfl⟩ := Cert.Prod.cases2 j
  pointwise [k0_pay2, k0_pay1]

theorem next (x : Vec Ideal S1024x1024 .bf16) (y : Vec Ideal S1x1024x1024 .bf16) (a : Vec Ideal S1024x1024 .f32) (j : S1024x1024.Idx) :
    k0_pay3 (F := Ideal) x y a j = (a j : EReal) + ∑ s : Fin 1024, (x (ix2 (j 0) s) : EReal) * y (ix3 0 (j 1) s) := by
  obtain ⟨p, q, rfl⟩ := Cert.Prod.cases2 j
  pointwise [k0_pay3, k0_pay1]

theorem reference_at (w : FVec Ideal S1024x4096 .f32) (a b : FVec Ideal S4096x2048 .f32) (p : Fin 4096) (q : Fin 1024) :
    val_main_v6 (F := Ideal) w a b (ix2 p q) = ∑ s : Fin 4096, (val_main_v3 (F := Ideal) a b (ix2 p s) : EReal) * w (ix2 q s) := by
  pointwise [val_main_v6]

/-- What the accumulator holds after a point. -/
abbrev acc (n : ℕ) (h : n < cfg0.N) : S1024x1024.Idx → EReal := (outsAt0 m c n h).2

/-- What a point adds. -/
abbrev term (t : Fin cfg0.N) (j : S1024x1024.Idx) : EReal :=
  ∑ s : Fin 1024, (show EReal from (iblk m c 0 t : FVec Ideal S1024x1024 .bf16) (ix2 (j 0) s)) *
    (iblk m c 1 t : FVec Ideal S1x1024x1024 .bf16) (ix3 0 (j 1) s)

theorem acc_first (t : Fin cfg0.N) (h : t.val % 4 = 0) (j : S1024x1024.Idx) : acc m c t.val t.isLt j = 0 + term m c t j := by
  unfold acc
  rw [outsAt0_A m c t h (by omega) (by omega)]
  frame_open
  simp (disch := decide) only [↓ View.readCov_skip, ↓ View.readCov_cons_toLoadRect, ↓ View.readCov_fill]
  frame_out
  try simp only [read_unread_whole]
  rw [first]

theorem acc_next (t : Fin cfg0.N) (h : ¬t.val % 4 = 0) (j : S1024x1024.Idx) :
    acc m c t.val t.isLt j = acc m c (t.val - 1) (Nat.lt_of_le_of_lt (Nat.sub_le _ _) t.isLt) j + term m c t j := by
  unfold acc
  by_cases hl : t.val % 4 = 3
  all_goals
    first | rw [outsAt0_C m c t h (by omega) hl] | rw [outsAt0_B m c t h (by omega) hl]
    frame_open
    simp (disch := decide) only [↓ View.readCov_skip, ↓ View.readCov_cons_toLoadRect, ↓ View.readCov_fill]
    frame_out
    try simp only [read_unread_whole]
    rw [next]

theorem out_last (t : Fin cfg0.N) (h : t.val % 4 = 3) (j : S1024x1024.Idx) : ((outsAt0 m c t.val t.isLt).1 j : EReal) = acc m c t.val t.isLt j := by
  unfold acc
  rw [outsAt0_C m c t (by omega) (by omega) h]
  frame_open
  simp (disch := decide) only [↓ View.readCov_skip, ↓ View.readCov_cons_toLoadRect, ↓ View.readCov_fill]
  frame_out

/-- The whole sum after a run of points. -/
theorem acc_last (t : Fin cfg0.N) (h : t.val % 4 = 3) (j : S1024x1024.Idx) :
    acc m c t.val t.isLt j = ∑ s : Fin 4096, (Y m c (ix2 (row t (j 0)) s) : EReal) * W m c (ix2 (j 1) s) := by
  refine Cert.Prod.whole (K := 4) (S := 1024) rfl (acc m c) (term m c) (fun t j s => (Y m c (ix2 (row t (j 0)) s) : EReal) * W m c (ix2 (j 1) s))
    (acc_first m c) (acc_next m c) (fun t u k h j => Finset.sum_congr rfl fun s _ => ?_) t h j
  have er : row u = row t := funext fun _ => Fin.ext (by simp only [row]; omega)
  rw [← er]
  exact congrArg₂ (fun x y : EReal => x * y) (blk0_at m c u k (by omega) _ _) (blk1_at m c u k (by omega) _ _)

theorem final : (dats m 0 c).arrAt 2 (cfgs 0).N = val_main_v6 (F := Ideal) (W m c) (Ya m c) (Yb m c) := by
  refine (dats m 0 c).arrAt_eq_of_covers 2 _ (by decide +kernel) fun t hf y => ?_
  blk_simp
  rw [after0_2]
  have hl := (flush0_2 t).mp hf
  refine (out_last m c t hl _).trans ?_
  rw [acc_last m c t hl]
  refine (reference_at (W m c) (Ya m c) (Yb m c) (row t (y 0)) (y 1)).symm.trans ?_
  blk_ext [idx t, row]

end Cert.GluXIdeal.Prod

namespace Cert.GluX

open Idealize.ShloMosaic Idealize.SL.Sem

theorem reference_frame : Cert.quiescent_GluXRefIdeal (hGluXRefIdeal := Cert.GluXRefIdeal.Gen.facts) :=
  fun m ρ _ => (θ_run _ _ _).mono (fun r h => ⟨fun c => (h c).2, sem_eq_zero_of_no_sems (by decide) r.2⟩)
    (Cert.GluXRefIdeal.Value.run (F := Ideal) m ρ)

/-- The kernel's gradient is the reference's. -/
theorem agree : Cert.algebraic_GluXIdeal_GluXRefIdeal (hGluXIdeal := Cert.GluXIdeal.Gen.facts)
    (hGluXRefIdeal := Cert.GluXRefIdeal.Gen.facts) := by
  intro m g m' g' _ hargs
  refine ⟨fun c => Cert.GluXRefIdeal.Read.val_main_v6 (F := Ideal) (Cert.GluXIdeal.Prod.W m c) (Cert.GluXIdeal.Prod.Ya m c)
      (Cert.GluXIdeal.Prod.Yb m c),
    (θ_run _ _ _).mono (fun r h c => ⟨(h c).1.trans (Cert.GluXIdeal.Prod.final m c), (h c).2⟩)
      (Cert.GluXIdeal.Value.run_blocks (F := Ideal) m g),
    (θ_run _ _ _).mono (fun r h c => ⟨(h c).1.trans ?_, (h c).2⟩) (Cert.GluXRefIdeal.Value.run (F := Ideal) m' g')⟩
  rw [(hargs c).2.1, (hargs c).2.2.1, (hargs c).2.2.2]
  rfl

end Cert.GluX
-- ==== Proof.Prod.Laid.lean ====
/- What the input projection gives, its columns in the order the kernel keeps them. -/
module

public import proofs.«01_k».proof.Defs
public import proofs.«01_k».proof.Proof.Prod.Columns
public import proofs.«01_k».proof.Proof.Gen.InARefIdeal.Run
public import proofs.«01_k».proof.Proof.Gen.InARefIdeal.Read

@[expose] public section

set_option maxRecDepth 16384

noncomputable section

namespace Cert.InARefIdeal.Columns

open Idealize.ShloMosaic Idealize.ShloMosaic.TcCoe Idealize.SL.Sem
open Cert.InARefIdeal Cert.InARefIdeal.Gen
open Cert.InXIdeal.Columns (place Zero cases zero_word rows stepRows)

variable (z : FVec Ideal S4096x13360 .f32) (w : FVec Ideal S2048x13360 .f32)

/-- The time steps' columns, each group with its two zero columns, and eight groups of zeros. -/
def steps : FVec Ideal S4096x128 .f32 :=
  shapeCast S4096x128 (pad S4096x16x8 ![0, 0, 0] ![0, 8, 2] ![0, 0, 0]
    (shapeCast S4096x8x6 (extractStridedSlice S4096x48 ![0, 8192] z slices_S4096x13360_S4096x48_0_8192) shapeCasts_S4096x48_S4096x8x6)
    (sitofp (F := Ideal) .f32 (constantI S_ 32 0#32)) pads_S4096x8x6_S4096x16x8_000_080_020 h_S_) shapeCasts_S4096x16x8_S4096x128

/-- The columns as the kernel keeps them. -/
def laid : FVec Ideal S4096x13440 .f32 :=
  concatenate S4096x13440 1
    [⟨S4096x3072, extractStridedSlice S4096x3072 ![0, 0] z slices_S4096x13360_S4096x3072_0_0⟩,
      ⟨S4096x5120, extractStridedSlice S4096x5120 ![0, 3072] z slices_S4096x13360_S4096x5120_0_3072⟩,
      ⟨S4096x1024, extractStridedSlice S4096x1024 ![0, 8240] z slices_S4096x13360_S4096x1024_0_8240⟩,
      ⟨S4096x2048, extractStridedSlice S4096x2048 ![0, 9264] z slices_S4096x13360_S4096x2048_0_9264⟩,
      ⟨S4096x2048, extractStridedSlice S4096x2048 ![0, 11312] z slices_S4096x13360_S4096x2048_0_11312⟩, ⟨S4096x128, steps z⟩]
    concatenates_S4096x3072_S4096x5120_S4096x1024_S4096x2048_S4096x2048_S4096x128_S4096x13440_d1

theorem steps_at (p : Fin 4096) (g : Fin 8) (r : Fin 6) :
    steps z (ix2 p ⟨g.val * 8 + r.val, by omega⟩) = z (ix2 p ⟨8192 + g.val * 6 + r.val, by omega⟩) := by
  have hd : (g.val * 8 + r.val) / 8 = g.val := by omega
  have hm : (g.val * 8 + r.val) % 8 = r.val := by omega
  pointwise [steps]
  rw [dif_pos (by omega)]
  exact congrArg z (congrArg (ix2 p) (Fin.ext (by simp only; omega)))

theorem steps_zero (p : Fin 4096) (g : Fin 8) (r : Fin 2) : (steps z (ix2 p ⟨g.val * 8 + 6 + r.val, by omega⟩) : EReal) = 0 := by
  pointwise [steps]
  rw [dif_neg (by omega)]
  exact zero_word

theorem steps_rest (p : Fin 4096) (a : Fin 64) : (steps z (ix2 p ⟨64 + a.val, by omega⟩) : EReal) = 0 := by
  pointwise [steps]
  rw [dif_neg (by omega)]
  exact zero_word

theorem laid_place (p : Fin 4096) (j : Fin 13360) : laid z (ix2 p (place j)) = z (ix2 p j) := by
  refine cases (P := fun j n => laid z (ix2 p n) = z (ix2 p j)) ?_ ?_ ?_ ?_ ?_ ?_ j
  case refine_3 =>
    intro g r
    pointwise [laid]
    repeat first | rw [dif_neg (by omega)] | rw [dif_pos (by omega)]
    refine (congrArg (steps z) (congrArg (ix2 p) (Fin.ext ?_))).trans (steps_at z p g r)
    simp only; omega
  all_goals
    intro a
    pointwise [laid]
    repeat first | rw [dif_neg (by omega)] | rw [dif_pos (by omega)]
    try exact congrArg z (congrArg (ix2 p) (Fin.ext (by simp only; omega)))

theorem laid_zero (p : Fin 4096) (n : Fin 13440) (h : Zero n) : (laid z (ix2 p n) : EReal) = 0 := by
  rcases h with ⟨g, r, e⟩ | ⟨a, e⟩
  all_goals
    pointwise [laid]
    repeat first | rw [dif_neg (by omega)] | rw [dif_pos (by omega)]
  · refine (congrArg (steps z) (congrArg (ix2 p) (Fin.ext ?_))).trans (steps_zero z p g r)
    simp only; omega
  · refine (congrArg (steps z) (congrArg (ix2 p) (Fin.ext ?_))).trans (steps_rest z p a)
    simp only; omega

theorem stepRows_zero (q : Fin 2048) (g : Fin 8) (r : Fin 2) : (stepRows w (ix2 ⟨g.val * 8 + 6 + r.val, by omega⟩ q) : EReal) = 0 := by
  pointwise [stepRows]
  rw [dif_neg (by omega)]
  exact zero_word

theorem rows_zero (q : Fin 2048) (n : Fin 13440) (h : Zero n) : (rows w (ix2 n q) : EReal) = 0 := by
  rcases h with ⟨g, r, e⟩ | ⟨a, e⟩
  · pointwise [rows]
    repeat first | rw [dif_neg (by omega)] | rw [dif_pos (by omega)]
    refine (congrArg (fun k => stepRows w (ix2 k q)) (Fin.ext ?_)).trans (stepRows_zero w q g r)
    simp only; omega
  · pointwise [rows]
    repeat first | rw [dif_neg (by omega)] | rw [dif_pos (by omega)]

end Cert.InARefIdeal.Columns
-- ==== Proof.Prod.InA.lean ====
/- The first half of the input projection: the first half of the features, the columns in the order the kernel keeps them. -/
module

public import proofs.«01_k».proof.Defs
public import proofs.«01_k».proof.Proof.Prod.Laid
public import proofs.«01_k».proof.Proof.Gen.InA.Frame
public import proofs.«01_k».proof.Proof.Gen.InAIdeal.Value
public import proofs.«01_k».proof.Proof.Gen.InARefIdeal.Run
public import proofs.«01_k».proof.Proof.Gen.InARefIdeal.Read
public import Idealize.ShloMosaic.Lib.Pipeline.ValueKit
public import Idealize.ShloMosaic.Lib.Pipeline.ReadBack
public import Idealize.ShloMosaic.Lib.Pointwise
public import Idealize.ShloMosaic.Lib.StableHlo.RunRead
public import Idealize.ShloMosaic.Lib.Tactic.WordOmega
public import Idealize.ShloMosaic.Adequacy
public import Idealize.ShloMosaic.Init

@[expose] public section

set_option maxRecDepth 16384

noncomputable section

namespace Cert.InAIdeal.Prod

open Idealize.ShloMosaic Idealize.ShloMosaic.TcCoe Idealize.SL.Sem
open Idealize.ShloMosaic.Pipeline (Dat)
open Cert.InAIdeal Cert.InAIdeal.Gen

variable (m : (ℓ : Loc nD τ sig) → Buf (Elt Ideal) ℓ) (c : Dev nD)

open Cert.InXIdeal.Columns (place Zero rows place_or_zero rows_place)
open Cert.InARefIdeal.Columns (laid laid_place laid_zero rows_zero)
open Cert.InARefIdeal.Read (val_main_v12)

/-- The activations. -/
abbrev X : FVec Ideal S4096x2048 .f32 := m ((c : Thread nD τ).loc main_arg0)
/-- The weights. -/
abbrev W : FVec Ideal S2048x13360 .f32 := m ((c : Thread nD τ).loc main_arg1)

theorem idx : ∀ t : Fin cfg0.N, win0_0.index t = ![t.val / 7, 0] ∧ win0_1.index t = ![t.val % 7, 0] ∧
    win0_2.index t = ![t.val / 7, t.val % 7] :=
  (by decide +kernel : ∀ t : Fin grid0.N, _)

theorem bound (t : Fin cfg0.N) : t.val < 28 := lt_of_lt_of_eq t.isLt N_0

/-- The row of a point's tile. -/
def row (t : Fin cfg0.N) (p : Fin 1024) : Fin 4096 := ⟨t.val / 7 * 1024 + p.val, by have := bound t; omega⟩
/-- The column of a point's tile. -/
def col (t : Fin cfg0.N) (q : Fin 1920) : Fin 13440 := ⟨t.val % 7 * 1920 + q.val, by omega⟩
/-- A feature of the half. -/
def feat (s : Fin 1024) : Fin 2048 := ⟨s.val, by omega⟩

/-- The half of the activations. -/
def xs (x : FVec Ideal S4096x2048 .f32) : FVec Ideal S4096x1024 .bf16 :=
  extractStridedSlice S4096x1024 ![0, 0] (truncf .bf16 x bitsLt_bf16_f32) slices_S4096x2048_S4096x1024_0_0
/-- The half of the weights as the kernel keeps them. -/
def ws (w : FVec Ideal S2048x13360 .f32) : FVec Ideal S13440x1024 .bf16 :=
  extractStridedSlice S13440x1024 ![0, 0] (rows w) slices_S13440x2048_S13440x1024_0_0

theorem xs_at (x : FVec Ideal S4096x2048 .f32) (p : Fin 4096) (s : Fin 1024) : xs x (ix2 p s) = x (ix2 p (feat s)) := by
  pointwise [xs, feat]

theorem ws_at (w : FVec Ideal S2048x13360 .f32) (n : Fin 13440) (s : Fin 1024) : ws w (ix2 n s) = rows w (ix2 n (feat s)) := by
  generalize hr : rows w = r
  pointwise [ws, feat, hr]

theorem V0 : V m c main_v11 = xs (X m c) := by
  unfold V
  simp only [List.flatten_cons, List.flatten_nil, List.append_nil]
  after_reads_simp
  rfl

set_option maxHeartbeats 2000000 in
theorem V1 : V m c main_v12 = ws (W m c) := by
  unfold V
  simp only [List.flatten_cons, List.flatten_nil, List.append_nil]
  after_reads_simp
  rfl

theorem blk0_at (t : Fin cfg0.N) (p : Fin 1024) (s : Fin 1024) :
    (iblk m c 0 t : FVec Ideal S1024x1024 .bf16) (ix2 p s) = X m c (ix2 (row t p) (feat s)) := by
  refine (?_ : _ = (V m c main_v11 : FVec Ideal S4096x1024 .bf16) (ix2 (row t p) s)).trans (by rw [V0, xs_at])
  blk_ext [iblk, idx t, row]

theorem blk1_at (t : Fin cfg0.N) (q : Fin 1920) (s : Fin 1024) :
    (iblk m c 1 t : FVec Ideal S1920x1024 .bf16) (ix2 q s) = rows (W m c) (ix2 (col t q) (feat s)) := by
  refine (?_ : _ = (V m c main_v12 : FVec Ideal S13440x1024 .bf16) (ix2 (col t q) s)).trans (by rw [V1, ws_at])
  blk_ext [iblk, idx t, col]

theorem tile (x : Vec Ideal S1024x1024 .bf16) (y : Vec Ideal S1920x1024 .bf16) (p : Fin 1024) (q : Fin 1920) :
    k0_pay1 (F := Ideal) x y (ix2 p q) = ∑ s : Fin 1024, (x (ix2 p s) : EReal) * y (ix2 q s) := by
  pointwise [k0_pay1]

theorem product_at (x : FVec Ideal S4096x2048 .f32) (w : FVec Ideal S2048x13360 .f32) (p : Fin 4096) (j : Fin 13360) :
    Cert.InARefIdeal.Read.val_main_v2 (F := Ideal) x w (ix2 p j) = ∑ s : Fin 1024, (x (ix2 p (feat s)) : EReal) * w (ix2 (feat s) j) := by
  pointwise [Cert.InARefIdeal.Read.val_main_v2, Cert.InARefIdeal.Read.val_main_v0, Cert.InARefIdeal.Read.val_main_v1, feat]

theorem laid_at (x : FVec Ideal S4096x2048 .f32) (w : FVec Ideal S2048x13360 .f32) (p : Fin 4096) (n : Fin 13440) :
    Cert.InARefIdeal.Read.val_main_v12 (F := Ideal) x w (ix2 p n) = ∑ s : Fin 1024, (x (ix2 p (feat s)) : EReal) * rows w (ix2 n (feat s)) := by
  refine (rfl : _ = laid (Cert.InARefIdeal.Read.val_main_v2 (F := Ideal) x w) (ix2 p n)).trans ?_
  rcases place_or_zero n with ⟨j, rfl⟩ | h
  · rw [laid_place, product_at]
    exact Finset.sum_congr rfl fun s _ => by rw [rows_place]
  · rw [laid_zero _ p n h]
    exact (Finset.sum_eq_zero fun s _ => by rw [rows_zero w _ n h, mul_zero]).symm

/-- What a point leaves in its block. -/
theorem out_at (t : Fin cfg0.N) (j : S1024x1920.Idx) :
    (out0_2 (F := Ideal) (iblk m c 0 t) (iblk m c 1 t) j : EReal)
      = ∑ s : Fin 1024, (X m c (ix2 (row t (j 0)) (feat s)) : EReal) * rows (W m c) (ix2 (col t (j 1)) (feat s)) := by
  obtain ⟨p, q, rfl⟩ : ∃ p q, j = ix2 p q := ⟨j 0, j 1, by funext b; fin_cases b <;> rfl⟩
  frame_open
  frame_out
  try simp only [read_unread_whole]
  rw [tile]
  exact Finset.sum_congr rfl fun s _ => by rw [blk0_at, blk1_at]; rfl

theorem final : (dats m 0 c).arrAt 2 (cfgs 0).N = val_main_v12 (F := Ideal) (X m c) (W m c) := by
  refine (dats m 0 c).arrAt_eq_of_covers 2 _ (by decide +kernel) fun t hf y => ?_
  blk_simp
  rw [after0_2]
  refine (out_at m c t _).trans ?_
  rw [← laid_at]
  blk_ext [idx t, row, col]

end Cert.InAIdeal.Prod

namespace Cert.InA

open Idealize.ShloMosaic Idealize.SL.Sem

theorem reference_frame : Cert.quiescent_InARefIdeal (hInARefIdeal := Cert.InARefIdeal.Gen.facts) :=
  fun m ρ _ => (θ_run _ _ _).mono (fun r h => ⟨fun c => (h c).2, sem_eq_zero_of_no_sems (by decide) r.2⟩)
    (Cert.InARefIdeal.Value.run (F := Ideal) m ρ)

/-- The kernel's product is the reference's. -/
theorem agree : Cert.algebraic_InAIdeal_InARefIdeal (hInAIdeal := Cert.InAIdeal.Gen.facts)
    (hInARefIdeal := Cert.InARefIdeal.Gen.facts) := by
  intro m g m' g' _ hargs
  refine ⟨fun c => Cert.InARefIdeal.Read.val_main_v12 (F := Ideal) (Cert.InAIdeal.Prod.X m c) (Cert.InAIdeal.Prod.W m c),
    (θ_run _ _ _).mono (fun r h c => ⟨(h c).1.trans (Cert.InAIdeal.Prod.final m c), (h c).2⟩)
      (Cert.InAIdeal.Value.run_blocks (F := Ideal) m g),
    (θ_run _ _ _).mono (fun r h c => ⟨(h c).1.trans ?_, (h c).2⟩) (Cert.InARefIdeal.Value.run (F := Ideal) m' g')⟩
  rw [Cert.InARefIdeal.Read.val_main_v12_eq, (hargs c).1, (hargs c).2]

end Cert.InA
-- ==== Proof.Prod.InB.lean ====
/- The second half of the input projection, added to the first. -/
module

public import proofs.«01_k».proof.Defs
public import proofs.«01_k».proof.Proof.Prod.Laid
public import proofs.«01_k».proof.Proof.Gen.InB.Frame
public import proofs.«01_k».proof.Proof.Gen.InBIdeal.Value
public import proofs.«01_k».proof.Proof.Gen.InBRefIdeal.Run
public import proofs.«01_k».proof.Proof.Gen.InBRefIdeal.Read
public import Idealize.ShloMosaic.Lib.Pipeline.ValueKit
public import Idealize.ShloMosaic.Lib.Pipeline.ReadBack
public import Idealize.ShloMosaic.Lib.Pointwise
public import Idealize.ShloMosaic.Lib.StableHlo.RunRead
public import Idealize.ShloMosaic.Lib.Tactic.WordOmega
public import Idealize.ShloMosaic.Adequacy
public import Idealize.ShloMosaic.Init

@[expose] public section

set_option maxRecDepth 16384

noncomputable section

namespace Cert.InBIdeal.Prod

open Idealize.ShloMosaic Idealize.ShloMosaic.TcCoe Idealize.SL.Sem
open Idealize.ShloMosaic.Pipeline (Dat)
open Cert.InBIdeal Cert.InBIdeal.Gen

variable (m : (ℓ : Loc nD τ sig) → Buf (Elt Ideal) ℓ) (c : Dev nD)

open Cert.InXIdeal.Columns (place Zero rows place_or_zero rows_place)
open Cert.InARefIdeal.Columns (laid laid_place laid_zero rows_zero)
open Cert.InBRefIdeal.Read (val_main_v13)

/-- The activations. -/
abbrev X : FVec Ideal S4096x2048 .f32 := m ((c : Thread nD τ).loc main_arg0)
/-- The weights. -/
abbrev W : FVec Ideal S2048x13360 .f32 := m ((c : Thread nD τ).loc main_arg1)
/-- What the product is added to. -/
abbrev R : FVec Ideal S4096x13440 .f32 := m ((c : Thread nD τ).loc main_arg2)

theorem idx : ∀ t : Fin cfg0.N, win0_0.index t = ![t.val / 7, 0] ∧ win0_1.index t = ![t.val % 7, 0] ∧
    win0_2.index t = ![t.val / 7, t.val % 7] ∧ win0_3.index t = ![t.val / 7, t.val % 7] :=
  (by decide +kernel : ∀ t : Fin grid0.N, _)

theorem bound (t : Fin cfg0.N) : t.val < 28 := lt_of_lt_of_eq t.isLt N_0

/-- The row of a point's tile. -/
def row (t : Fin cfg0.N) (p : Fin 1024) : Fin 4096 := ⟨t.val / 7 * 1024 + p.val, by have := bound t; omega⟩
/-- The column of a point's tile. -/
def col (t : Fin cfg0.N) (q : Fin 1920) : Fin 13440 := ⟨t.val % 7 * 1920 + q.val, by omega⟩
/-- A feature of the half. -/
def feat (s : Fin 1024) : Fin 2048 := ⟨1024 + s.val, by omega⟩

/-- The half of the activations. -/
def xs (x : FVec Ideal S4096x2048 .f32) : FVec Ideal S4096x1024 .bf16 :=
  extractStridedSlice S4096x1024 ![0, 1024] (truncf .bf16 x bitsLt_bf16_f32) slices_S4096x2048_S4096x1024_0_1024
/-- The half of the weights as the kernel keeps them. -/
def ws (w : FVec Ideal S2048x13360 .f32) : FVec Ideal S13440x1024 .bf16 :=
  extractStridedSlice S13440x1024 ![0, 1024] (rows w) slices_S13440x2048_S13440x1024_0_1024

theorem xs_at (x : FVec Ideal S4096x2048 .f32) (p : Fin 4096) (s : Fin 1024) : xs x (ix2 p s) = x (ix2 p (feat s)) := by
  pointwise [xs, feat]

theorem ws_at (w : FVec Ideal S2048x13360 .f32) (n : Fin 13440) (s : Fin 1024) : ws w (ix2 n s) = rows w (ix2 n (feat s)) := by
  generalize hr : rows w = r
  pointwise [ws, feat, hr]

theorem V0 : V m c main_v11 = xs (X m c) := by
  unfold V
  simp only [List.flatten_cons, List.flatten_nil, List.append_nil]
  after_reads_simp
  rfl

set_option maxHeartbeats 2000000 in
theorem V1 : V m c main_v12 = ws (W m c) := by
  unfold V
  simp only [List.flatten_cons, List.flatten_nil, List.append_nil]
  after_reads_simp
  rfl

theorem V2 : V m c main_arg2 = R m c := by
  unfold V
  simp only [List.flatten_cons, List.flatten_nil, List.append_nil]
  after_reads_simp

theorem blk0_at (t : Fin cfg0.N) (p : Fin 1024) (s : Fin 1024) :
    (iblk m c 0 t : FVec Ideal S1024x1024 .bf16) (ix2 p s) = X m c (ix2 (row t p) (feat s)) := by
  refine (?_ : _ = (V m c main_v11 : FVec Ideal S4096x1024 .bf16) (ix2 (row t p) s)).trans (by rw [V0, xs_at])
  blk_ext [iblk, idx t, row]

theorem blk1_at (t : Fin cfg0.N) (q : Fin 1920) (s : Fin 1024) :
    (iblk m c 1 t : FVec Ideal S1920x1024 .bf16) (ix2 q s) = rows (W m c) (ix2 (col t q) (feat s)) := by
  refine (?_ : _ = (V m c main_v12 : FVec Ideal S13440x1024 .bf16) (ix2 (col t q) s)).trans (by rw [V1, ws_at])
  blk_ext [iblk, idx t, col]

theorem blk2_at (t : Fin cfg0.N) (p : Fin 1024) (q : Fin 1920) :
    (iblk m c 2 t : FVec Ideal S1024x1920 .f32) (ix2 p q) = R m c (ix2 (row t p) (col t q)) := by
  refine (?_ : _ = (V m c main_arg2 : FVec Ideal S4096x13440 .f32) (ix2 (row t p) (col t q))).trans (by rw [V2])
  blk_ext [iblk, idx t, row, col]

theorem tile (x : Vec Ideal S1024x1024 .bf16) (y : Vec Ideal S1920x1024 .bf16) (r : Vec Ideal S1024x1920 .f32) (p : Fin 1024) (q : Fin 1920) :
    k0_pay1 (F := Ideal) x y r (ix2 p q) = (∑ s : Fin 1024, (x (ix2 p s) : EReal) * y (ix2 q s)) + r (ix2 p q) := by
  pointwise [k0_pay1]

theorem product_at (x : FVec Ideal S4096x2048 .f32) (w : FVec Ideal S2048x13360 .f32) (p : Fin 4096) (j : Fin 13360) :
    Cert.InBRefIdeal.Read.val_main_v2 (F := Ideal) x w (ix2 p j) = ∑ s : Fin 1024, (x (ix2 p (feat s)) : EReal) * w (ix2 (feat s) j) := by
  pointwise [Cert.InBRefIdeal.Read.val_main_v2, Cert.InBRefIdeal.Read.val_main_v0, Cert.InBRefIdeal.Read.val_main_v1, feat]

theorem laid_at (x : FVec Ideal S4096x2048 .f32) (w : FVec Ideal S2048x13360 .f32) (p : Fin 4096) (n : Fin 13440) :
    Cert.InBRefIdeal.Read.val_main_v12 (F := Ideal) x w (ix2 p n) = ∑ s : Fin 1024, (x (ix2 p (feat s)) : EReal) * rows w (ix2 n (feat s)) := by
  refine (rfl : _ = laid (Cert.InBRefIdeal.Read.val_main_v2 (F := Ideal) x w) (ix2 p n)).trans ?_
  rcases place_or_zero n with ⟨j, rfl⟩ | h
  · rw [laid_place, product_at]
    exact Finset.sum_congr rfl fun s _ => by rw [rows_place]
  · rw [laid_zero _ p n h]
    exact (Finset.sum_eq_zero fun s _ => by rw [rows_zero w _ n h, mul_zero]).symm

theorem reference_at (x : FVec Ideal S4096x2048 .f32) (w : FVec Ideal S2048x13360 .f32) (r : FVec Ideal S4096x13440 .f32) (p : Fin 4096) (n : Fin 13440) :
    val_main_v13 (F := Ideal) x w r (ix2 p n) = (∑ s : Fin 1024, (x (ix2 p (feat s)) : EReal) * rows w (ix2 n (feat s))) + r (ix2 p n) := by
  rw [add_comm, ← laid_at]
  rfl

/-- What a point leaves in its block. -/
theorem out_at (t : Fin cfg0.N) (j : S1024x1920.Idx) :
    (out0_3 (F := Ideal) (iblk m c 0 t) (iblk m c 1 t) (iblk m c 2 t) j : EReal)
      = (∑ s : Fin 1024, (X m c (ix2 (row t (j 0)) (feat s)) : EReal) * rows (W m c) (ix2 (col t (j 1)) (feat s))) + R m c (ix2 (row t (j 0)) (col t (j 1))) := by
  obtain ⟨p, q, rfl⟩ : ∃ p q, j = ix2 p q := ⟨j 0, j 1, by funext b; fin_cases b <;> rfl⟩
  frame_open
  frame_out
  try simp only [read_unread_whole]
  rw [tile, blk2_at]
  exact congrArg (· + _) (Finset.sum_congr rfl fun s _ => by rw [blk0_at, blk1_at]; rfl)

theorem final : (dats m 0 c).arrAt 3 (cfgs 0).N = val_main_v13 (F := Ideal) (X m c) (W m c) (R m c) := by
  refine (dats m 0 c).arrAt_eq_of_covers 3 _ (by decide +kernel) fun t hf y => ?_
  blk_simp
  rw [after0_3]
  refine (out_at m c t _).trans ?_
  rw [← reference_at]
  blk_ext [idx t, row, col]

end Cert.InBIdeal.Prod

namespace Cert.InB

open Idealize.ShloMosaic Idealize.SL.Sem

theorem reference_frame : Cert.quiescent_InBRefIdeal (hInBRefIdeal := Cert.InBRefIdeal.Gen.facts) :=
  fun m ρ _ => (θ_run _ _ _).mono (fun r h => ⟨fun c => (h c).2, sem_eq_zero_of_no_sems (by decide) r.2⟩)
    (Cert.InBRefIdeal.Value.run (F := Ideal) m ρ)

/-- The kernel's product is the reference's. -/
theorem agree : Cert.algebraic_InBIdeal_InBRefIdeal (hInBIdeal := Cert.InBIdeal.Gen.facts)
    (hInBRefIdeal := Cert.InBRefIdeal.Gen.facts) := by
  intro m g m' g' _ hargs
  refine ⟨fun c => Cert.InBRefIdeal.Read.val_main_v13 (F := Ideal) (Cert.InBIdeal.Prod.X m c) (Cert.InBIdeal.Prod.W m c) (Cert.InBIdeal.Prod.R m c),
    (θ_run _ _ _).mono (fun r h c => ⟨(h c).1.trans (Cert.InBIdeal.Prod.final m c), (h c).2⟩)
      (Cert.InBIdeal.Value.run_blocks (F := Ideal) m g),
    (θ_run _ _ _).mono (fun r h c => ⟨(h c).1.trans ?_, (h c).2⟩) (Cert.InBRefIdeal.Value.run (F := Ideal) m' g')⟩
  rw [Cert.InBRefIdeal.Read.val_main_v13_eq, (hargs c).1, (hargs c).2.1, (hargs c).2.2]

end Cert.InB
-- ==== Proof.Prod.ProjF.lean ====
/- The mixer's output projection. -/
module

public import proofs.«01_k».proof.Defs
public import proofs.«01_k».proof.Proof.Gen.ProjF.Frame
public import proofs.«01_k».proof.Proof.Gen.ProjFIdeal.Value
public import proofs.«01_k».proof.Proof.Gen.ProjFRefIdeal.Run
public import proofs.«01_k».proof.Proof.Gen.ProjFRefIdeal.Read
public import proofs.«01_k».proof.Proof.Prod.Tiles
public import Idealize.ShloMosaic.Lib.Pipeline.ValueKit
public import Idealize.ShloMosaic.Lib.Pipeline.ReadBack
public import Idealize.ShloMosaic.Lib.Pointwise
public import Idealize.ShloMosaic.Lib.StableHlo.RunRead
public import Idealize.ShloMosaic.Lib.Tactic.WordOmega
public import Idealize.ShloMosaic.Adequacy
public import Idealize.ShloMosaic.Init

@[expose] public section

set_option maxRecDepth 16384

noncomputable section

namespace Cert.ProjFIdeal.Prod

open Idealize.ShloMosaic Idealize.ShloMosaic.TcCoe Idealize.SL.Sem
open Idealize.ShloMosaic.Pipeline (Dat)
open Cert.ProjFIdeal Cert.ProjFIdeal.Gen

variable (m : (ℓ : Loc nD τ sig) → Buf (Elt Ideal) ℓ) (c : Dev nD)

open Cert.ProjFRefIdeal.Read (val_main_v0)

/-- The activations. -/
abbrev X : FVec Ideal S4096x3072 .f32 := m ((c : Thread nD τ).loc main_arg0)
/-- The weights. -/
abbrev W : FVec Ideal S3072x2048 .f32 := m ((c : Thread nD τ).loc main_arg1)

theorem idx : ∀ t : Fin cfg0.N, win0_0.index t = ![t.val / 4, t.val % 2] ∧ win0_1.index t = ![t.val % 2, t.val / 2 % 2] ∧
    win0_2.index t = ![t.val / 4, t.val / 2 % 2] :=
  (by decide +kernel : ∀ t : Fin grid0.N, _)

theorem bound (t : Fin cfg0.N) : t.val < 16 := lt_of_lt_of_eq t.isLt N_0

/-- The row of a point's tile. -/
def row (t : Fin cfg0.N) (p : Fin 1024) : Fin 4096 := ⟨t.val / 4 * 1024 + p.val, by have := bound t; omega⟩
/-- The column of a point's tile. -/
def col (t : Fin cfg0.N) (q : Fin 1024) : Fin 2048 := ⟨t.val / 2 % 2 * 1024 + q.val, by omega⟩
/-- The feature of a point's tile. -/
def feat (k : Fin 2) (s : Fin 1536) : Fin 3072 := ⟨k.val * 1536 + s.val, by omega⟩

theorem V0 : V m c main_v0 = truncf .bf16 (X m c) bitsLt_bf16_f32 := by
  unfold V
  after_reads_simp

theorem V1 : V m c main_v1 = truncf .bf16 (W m c) bitsLt_bf16_f32 := by
  unfold V
  after_reads_simp

theorem blk0_at (t : Fin cfg0.N) (k : Fin 2) (hk : t.val % 2 = k.val) (p : Fin 1024) (s : Fin 1536) :
    (iblk m c 0 t : FVec Ideal S1024x1536 .bf16) (ix2 p s) = X m c (ix2 (row t p) (feat k s)) := by
  refine (?_ : _ = (V m c main_v0 : FVec Ideal S4096x3072 .bf16) (ix2 (row t p) (feat k s))).trans (by rw [V0]; rfl)
  blk_ext [iblk, idx t, feat, row, hk]

theorem blk1_at (t : Fin cfg0.N) (k : Fin 2) (hk : t.val % 2 = k.val) (s : Fin 1536) (q : Fin 1024) :
    (iblk m c 1 t : FVec Ideal S1536x1024 .bf16) (ix2 s q) = W m c (ix2 (feat k s) (col t q)) := by
  refine (?_ : _ = (V m c main_v1 : FVec Ideal S3072x2048 .bf16) (ix2 (feat k s) (col t q))).trans (by rw [V1]; rfl)
  blk_ext [iblk, idx t, feat, col, hk]

theorem first (x : Vec Ideal S1024x1536 .bf16) (y : Vec Ideal S1536x1024 .bf16) (j : S1024x1024.Idx) :
    k0_pay2 (F := Ideal) x y j = (0 : EReal) + ∑ s : Fin 1536, (x (ix2 (j 0) s) : EReal) * y (ix2 s (j 1)) := by
  obtain ⟨p, q, rfl⟩ := Cert.Prod.cases2 j
  pointwise [k0_pay2, k0_pay1]

theorem next (x : Vec Ideal S1024x1536 .bf16) (y : Vec Ideal S1536x1024 .bf16) (a : Vec Ideal S1024x1024 .f32) (j : S1024x1024.Idx) :
    k0_pay3 (F := Ideal) x y a j = (a j : EReal) + ∑ s : Fin 1536, (x (ix2 (j 0) s) : EReal) * y (ix2 s (j 1)) := by
  obtain ⟨p, q, rfl⟩ := Cert.Prod.cases2 j
  pointwise [k0_pay3, k0_pay1]

theorem reference_at (x : FVec Ideal S4096x3072 .f32) (w : FVec Ideal S3072x2048 .f32) (p : Fin 4096) (q : Fin 2048) :
    val_main_v0 (F := Ideal) x w (ix2 p q) = ∑ s : Fin 3072, (x (ix2 p s) : EReal) * w (ix2 s q) := by
  pointwise [val_main_v0]

/-- What the accumulator holds after a point. -/
abbrev acc (n : ℕ) (h : n < cfg0.N) : S1024x1024.Idx → EReal := (outsAt0 m c n h).2

/-- What a point adds. -/
abbrev term (t : Fin cfg0.N) (j : S1024x1024.Idx) : EReal :=
  ∑ s : Fin 1536, (show EReal from (iblk m c 0 t : FVec Ideal S1024x1536 .bf16) (ix2 (j 0) s)) * (iblk m c 1 t : FVec Ideal S1536x1024 .bf16) (ix2 s (j 1))

theorem acc_first (t : Fin cfg0.N) (h : t.val % 2 = 0) (j : S1024x1024.Idx) : acc m c t.val t.isLt j = 0 + term m c t j := by
  unfold acc
  rw [outsAt0_A m c t h (by omega) (by omega)]
  frame_open
  simp (disch := decide) only [↓ View.readCov_skip, ↓ View.readCov_cons_toLoadRect, ↓ View.readCov_fill]
  frame_out
  try simp only [read_unread_whole]
  rw [first]

theorem acc_next (t : Fin cfg0.N) (h : ¬t.val % 2 = 0) (j : S1024x1024.Idx) :
    acc m c t.val t.isLt j = acc m c (t.val - 1) (Nat.lt_of_le_of_lt (Nat.sub_le _ _) t.isLt) j + term m c t j := by
  unfold acc
  rw [outsAt0_B m c t h (by omega) (by omega)]
  frame_open
  simp (disch := decide) only [↓ View.readCov_skip, ↓ View.readCov_cons_toLoadRect, ↓ View.readCov_fill]
  frame_out
  try simp only [read_unread_whole]
  rw [next]

theorem out_last (t : Fin cfg0.N) (h : t.val % 2 = 1) (j : S1024x1024.Idx) : ((outsAt0 m c t.val t.isLt).1 j : EReal) = acc m c t.val t.isLt j := by
  unfold acc
  rw [outsAt0_B m c t (by omega) (by omega) (by omega)]
  frame_open
  simp (disch := decide) only [↓ View.readCov_skip, ↓ View.readCov_cons_toLoadRect, ↓ View.readCov_fill]
  frame_out

/-- The whole sum after a run of points. -/
theorem acc_last (t : Fin cfg0.N) (h : t.val % 2 = 1) (j : S1024x1024.Idx) :
    acc m c t.val t.isLt j = ∑ s : Fin 3072, (X m c (ix2 (row t (j 0)) s) : EReal) * W m c (ix2 s (col t (j 1))) := by
  refine Cert.Prod.whole (K := 2) (S := 1536) rfl (acc m c) (term m c) (fun t j s => (X m c (ix2 (row t (j 0)) s) : EReal) * W m c (ix2 s (col t (j 1))))
    (acc_first m c) (acc_next m c) (fun t u k h j => Finset.sum_congr rfl fun s _ => ?_) t h j
  have er : row u = row t := funext fun _ => Fin.ext (by simp only [row]; omega)
  have ec : col u = col t := funext fun _ => Fin.ext (by simp only [col]; omega)
  rw [← er, ← ec]
  exact congrArg₂ (fun x y : EReal => x * y) (blk0_at m c u k (by omega) _ _) (blk1_at m c u k (by omega) _ _)

theorem final : (dats m 0 c).arrAt 2 (cfgs 0).N = val_main_v0 (F := Ideal) (X m c) (W m c) := by
  refine (dats m 0 c).arrAt_eq_of_covers 2 _ (by decide +kernel) fun t hf y => ?_
  blk_simp
  rw [after0_2]
  have hl := (flush0_2 t).mp hf
  refine (out_last m c t hl _).trans ?_
  rw [acc_last m c t hl, ← reference_at]
  blk_ext [idx t, row, col]

end Cert.ProjFIdeal.Prod

namespace Cert.ProjF

open Idealize.ShloMosaic Idealize.SL.Sem

theorem reference_frame : Cert.quiescent_ProjFRefIdeal (hProjFRefIdeal := Cert.ProjFRefIdeal.Gen.facts) :=
  fun m ρ _ => (θ_run _ _ _).mono (fun r h => ⟨fun c => (h c).2, sem_eq_zero_of_no_sems (by decide) r.2⟩)
    (Cert.ProjFRefIdeal.Value.run (F := Ideal) m ρ)

/-- The kernel's product is the reference's. -/
theorem agree : Cert.algebraic_ProjFIdeal_ProjFRefIdeal (hProjFIdeal := Cert.ProjFIdeal.Gen.facts)
    (hProjFRefIdeal := Cert.ProjFRefIdeal.Gen.facts) := by
  intro m g m' g' _ hargs
  refine ⟨fun c => Cert.ProjFRefIdeal.Read.val_main_v0 (F := Ideal) (Cert.ProjFIdeal.Prod.X m c) (Cert.ProjFIdeal.Prod.W m c),
    (θ_run _ _ _).mono (fun r h c => ⟨(h c).1.trans (Cert.ProjFIdeal.Prod.final m c), (h c).2⟩)
      (Cert.ProjFIdeal.Value.run_blocks (F := Ideal) m g),
    (θ_run _ _ _).mono (fun r h c => ⟨(h c).1.trans ?_, (h c).2⟩) (Cert.ProjFRefIdeal.Value.run (F := Ideal) m' g')⟩
  rw [(hargs c).1, (hargs c).2]
  rfl

end Cert.ProjF
-- ==== Proof.Prod.GluF.lean ====
/- The gated projection of the S5 mixer's output. The weights reach the kernel as four stacked shards of their columns, and a point takes one shard. -/
module

public import proofs.«01_k».proof.Defs
public import proofs.«01_k».proof.Proof.Gen.GluF.Frame
public import proofs.«01_k».proof.Proof.Gen.GluFIdeal.Value
public import proofs.«01_k».proof.Proof.Gen.GluFRefIdeal.Run
public import proofs.«01_k».proof.Proof.Gen.GluFRefIdeal.Read
public import Idealize.ShloMosaic.Lib.Pipeline.ValueKit
public import Idealize.ShloMosaic.Lib.Pipeline.ReadBack
public import Idealize.ShloMosaic.Lib.Pointwise
public import Idealize.ShloMosaic.Lib.StableHlo.RunRead
public import Idealize.ShloMosaic.Lib.Tactic.WordOmega
public import Idealize.ShloMosaic.Adequacy
public import Idealize.ShloMosaic.Init

@[expose] public section

set_option maxRecDepth 16384

noncomputable section

namespace Cert.GluFIdeal.Prod

open Idealize.ShloMosaic Idealize.ShloMosaic.TcCoe Idealize.SL.Sem
open Idealize.ShloMosaic.Pipeline (Dat)
open Cert.GluFIdeal Cert.GluFIdeal.Gen

variable (m : (ℓ : Loc nD τ sig) → Buf (Elt Ideal) ℓ) (c : Dev nD)

open Cert.GluFRefIdeal.Read (val_main_v0)

/-- The activations. -/
abbrev X : FVec Ideal S4096x1024 .f32 := m ((c : Thread nD τ).loc main_arg0)
/-- The weights. -/
abbrev W : FVec Ideal S1024x4096 .f32 := m ((c : Thread nD τ).loc main_arg1)

theorem idx : ∀ t : Fin cfg0.N, win0_0.index t = ![t.val / 4, 0] ∧ win0_1.index t = ![t.val % 4, 0, 0] ∧
    win0_2.index t = ![t.val / 4, t.val % 4] :=
  (by decide +kernel : ∀ t : Fin grid0.N, _)

theorem bound (t : Fin cfg0.N) : t.val < 16 := lt_of_lt_of_eq t.isLt N_0

/-- The row of a point's tile. -/
def row (t : Fin cfg0.N) (p : Fin 1024) : Fin 4096 := ⟨t.val / 4 * 1024 + p.val, by have := bound t; omega⟩
/-- The column of a point's tile. -/
def col (t : Fin cfg0.N) (q : Fin 1024) : Fin 4096 := ⟨t.val % 4 * 1024 + q.val, by omega⟩
/-- A column of a shard. -/
def shard (k : Fin 4) (q : Fin 1024) : Fin 4096 := ⟨k.val * 1024 + q.val, by omega⟩

/-- The stacked shards. -/
def stacked (w : FVec Ideal S1024x4096 .f32) : FVec Ideal S4x1024x1024 .bf16 :=
  transpose S4x1024x1024 [1, 0, 2] (shapeCast S1024x4x1024 (truncf .bf16 w bitsLt_bf16_f32) shapeCasts_S1024x4096_S1024x4x1024)
    transposes_S1024x4x1024_S4x1024x1024_1_0_2

theorem stacked_at (w : FVec Ideal S1024x4096 .f32) (k : Fin 4) (s : Fin 1024) (q : Fin 1024) :
    stacked w (ix3 k s q) = w (ix2 s (shard k q)) := by
  pointwise [stacked, shard]

theorem V0 : V m c main_v3 = truncf .bf16 (X m c) bitsLt_bf16_f32 := by
  unfold V
  after_reads_simp

theorem V1 : V m c main_v2 = stacked (W m c) := by
  unfold V
  after_reads_simp
  rfl

theorem blk0_at (t : Fin cfg0.N) (p : Fin 1024) (s : Fin 1024) :
    (iblk m c 0 t : FVec Ideal S1024x1024 .bf16) (ix2 p s) = X m c (ix2 (row t p) s) := by
  refine (?_ : _ = (V m c main_v3 : FVec Ideal S4096x1024 .bf16) (ix2 (row t p) s)).trans (by rw [V0]; rfl)
  blk_ext [iblk, idx t, row]

theorem blk1_at (t : Fin cfg0.N) (s : Fin 1024) (q : Fin 1024) :
    (iblk m c 1 t : FVec Ideal S1x1024x1024 .bf16) (ix3 0 s q) = W m c (ix2 s (col t q)) := by
  have hc : col t q = shard ⟨t.val % 4, by omega⟩ ⟨0 * 1024 + q.val, by omega⟩ := Fin.ext (by simp only [col, shard]; omega)
  rw [hc]
  refine Eq.trans ?_ (stacked_at (W m c) _ s _)
  refine (?_ : _ = (V m c main_v2 : FVec Ideal S4x1024x1024 .bf16) (ix3 _ s _)).trans (by rw [V1])
  blk_ext [iblk, idx t]

theorem tile (x : Vec Ideal S1024x1024 .bf16) (y : Vec Ideal S1x1024x1024 .bf16) (p : Fin 1024) (q : Fin 1024) :
    k0_pay1 (F := Ideal) x y (ix2 p q) = ∑ s : Fin 1024, (x (ix2 p s) : EReal) * y (ix3 0 s q) := by
  pointwise [k0_pay1]

theorem reference_at (x : FVec Ideal S4096x1024 .f32) (w : FVec Ideal S1024x4096 .f32) (p : Fin 4096) (q : Fin 4096) :
    val_main_v0 (F := Ideal) x w (ix2 p q) = ∑ s : Fin 1024, (x (ix2 p s) : EReal) * w (ix2 s q) := by
  pointwise [val_main_v0]

/-- What a point leaves in its block. -/
theorem out_at (t : Fin cfg0.N) (j : S1024x1024.Idx) :
    (out0_2 (F := Ideal) (iblk m c 0 t) (iblk m c 1 t) j : EReal)
      = ∑ s : Fin 1024, (X m c (ix2 (row t (j 0)) s) : EReal) * W m c (ix2 s (col t (j 1))) := by
  obtain ⟨p, q, rfl⟩ : ∃ p q, j = ix2 p q := ⟨j 0, j 1, by funext b; fin_cases b <;> rfl⟩
  frame_open
  frame_out
  try simp only [read_unread_whole]
  rw [tile]
  exact Finset.sum_congr rfl fun s _ => by rw [blk0_at, blk1_at]; rfl

theorem final : (dats m 0 c).arrAt 2 (cfgs 0).N = val_main_v0 (F := Ideal) (X m c) (W m c) := by
  refine (dats m 0 c).arrAt_eq_of_covers 2 _ (by decide +kernel) fun t hf y => ?_
  blk_simp
  rw [after0_2]
  refine (out_at m c t _).trans ?_
  rw [← reference_at]
  blk_ext [idx t, row, col]

end Cert.GluFIdeal.Prod

namespace Cert.GluF

open Idealize.ShloMosaic Idealize.SL.Sem

theorem reference_frame : Cert.quiescent_GluFRefIdeal (hGluFRefIdeal := Cert.GluFRefIdeal.Gen.facts) :=
  fun m ρ _ => (θ_run _ _ _).mono (fun r h => ⟨fun c => (h c).2, sem_eq_zero_of_no_sems (by decide) r.2⟩)
    (Cert.GluFRefIdeal.Value.run (F := Ideal) m ρ)

/-- The kernel's product is the reference's. -/
theorem agree : Cert.algebraic_GluFIdeal_GluFRefIdeal (hGluFIdeal := Cert.GluFIdeal.Gen.facts)
    (hGluFRefIdeal := Cert.GluFRefIdeal.Gen.facts) := by
  intro m g m' g' _ hargs
  refine ⟨fun c => Cert.GluFRefIdeal.Read.val_main_v0 (F := Ideal) (Cert.GluFIdeal.Prod.X m c) (Cert.GluFIdeal.Prod.W m c),
    (θ_run _ _ _).mono (fun r h c => ⟨(h c).1.trans (Cert.GluFIdeal.Prod.final m c), (h c).2⟩)
      (Cert.GluFIdeal.Value.run_blocks (F := Ideal) m g),
    (θ_run _ _ _).mono (fun r h c => ⟨(h c).1.trans ?_, (h c).2⟩) (Cert.GluFRefIdeal.Value.run (F := Ideal) m' g')⟩
  rw [(hargs c).1, (hargs c).2]
  rfl

end Cert.GluF
-- ==== Proof.Prod.OutF.lean ====
/- The output projection, added to what enters the layer. -/
module

public import proofs.«01_k».proof.Defs
public import proofs.«01_k».proof.Proof.Gen.OutF.Frame
public import proofs.«01_k».proof.Proof.Gen.OutFIdeal.Value
public import proofs.«01_k».proof.Proof.Gen.OutFRefIdeal.Run
public import proofs.«01_k».proof.Proof.Gen.OutFRefIdeal.Read
public import Idealize.ShloMosaic.Lib.Pipeline.ValueKit
public import Idealize.ShloMosaic.Lib.Pipeline.ReadBack
public import Idealize.ShloMosaic.Lib.Pointwise
public import Idealize.ShloMosaic.Lib.StableHlo.RunRead
public import Idealize.ShloMosaic.Lib.Tactic.WordOmega
public import Idealize.ShloMosaic.Adequacy
public import Idealize.ShloMosaic.Init

@[expose] public section

set_option maxRecDepth 16384

noncomputable section

namespace Cert.OutFIdeal.Prod

open Idealize.ShloMosaic Idealize.ShloMosaic.TcCoe Idealize.SL.Sem
open Idealize.ShloMosaic.Pipeline (Dat)
open Cert.OutFIdeal Cert.OutFIdeal.Gen

variable (m : (ℓ : Loc nD τ sig) → Buf (Elt Ideal) ℓ) (c : Dev nD)

open Cert.OutFRefIdeal.Read (val_main_v1)

/-- The activations. -/
abbrev X : FVec Ideal S4096x2048 .f32 := m ((c : Thread nD τ).loc main_arg0)
/-- The weights. -/
abbrev W : FVec Ideal S2048x2048 .f32 := m ((c : Thread nD τ).loc main_arg1)
/-- What the product is added to. -/
abbrev R : FVec Ideal S4096x2048 .f32 := m ((c : Thread nD τ).loc main_arg2)

theorem idx : ∀ t : Fin cfg0.N, win0_0.index t = ![t.val / 2, 0] ∧ win0_1.index t = ![0, t.val % 2] ∧
    win0_2.index t = ![t.val / 2, t.val % 2] ∧ win0_3.index t = ![t.val / 2, t.val % 2] :=
  (by decide +kernel : ∀ t : Fin grid0.N, _)

theorem bound (t : Fin cfg0.N) : t.val < 8 := lt_of_lt_of_eq t.isLt N_0

/-- The row of a point's tile. -/
def row (t : Fin cfg0.N) (p : Fin 1024) : Fin 4096 := ⟨t.val / 2 * 1024 + p.val, by have := bound t; omega⟩
/-- The column of a point's tile. -/
def col (t : Fin cfg0.N) (q : Fin 1024) : Fin 2048 := ⟨t.val % 2 * 1024 + q.val, by omega⟩

theorem V0 : V m c main_v0 = truncf .bf16 (X m c) bitsLt_bf16_f32 := by
  unfold V
  after_reads_simp

theorem V1 : V m c main_v1 = truncf .bf16 (W m c) bitsLt_bf16_f32 := by
  unfold V
  after_reads_simp

theorem V2 : V m c main_arg2 = R m c := by
  unfold V
  after_reads_simp

theorem blk0_at (t : Fin cfg0.N) (p : Fin 1024) (s : Fin 2048) :
    (iblk m c 0 t : FVec Ideal S1024x2048 .bf16) (ix2 p s) = X m c (ix2 (row t p) s) := by
  refine (?_ : _ = (V m c main_v0 : FVec Ideal S4096x2048 .bf16) (ix2 (row t p) s)).trans (by rw [V0]; rfl)
  blk_ext [iblk, idx t, row]

theorem blk1_at (t : Fin cfg0.N) (s : Fin 2048) (q : Fin 1024) :
    (iblk m c 1 t : FVec Ideal S2048x1024 .bf16) (ix2 s q) = W m c (ix2 s (col t q)) := by
  refine (?_ : _ = (V m c main_v1 : FVec Ideal S2048x2048 .bf16) (ix2 s (col t q))).trans (by rw [V1]; rfl)
  blk_ext [iblk, idx t, col]

theorem blk2_at (t : Fin cfg0.N) (p : Fin 1024) (q : Fin 1024) :
    (iblk m c 2 t : FVec Ideal S1024x1024 .f32) (ix2 p q) = R m c (ix2 (row t p) (col t q)) := by
  refine (?_ : _ = (V m c main_arg2 : FVec Ideal S4096x2048 .f32) (ix2 (row t p) (col t q))).trans (by rw [V2])
  blk_ext [iblk, idx t, row, col]

theorem tile (x : Vec Ideal S1024x2048 .bf16) (y : Vec Ideal S2048x1024 .bf16) (r : Vec Ideal S1024x1024 .f32) (p : Fin 1024) (q : Fin 1024) :
    k0_pay1 (F := Ideal) x y r (ix2 p q) = (∑ s : Fin 2048, (x (ix2 p s) : EReal) * y (ix2 s q)) + r (ix2 p q) := by
  pointwise [k0_pay1]

theorem reference_at (x : FVec Ideal S4096x2048 .f32) (w : FVec Ideal S2048x2048 .f32) (r : FVec Ideal S4096x2048 .f32) (p : Fin 4096) (q : Fin 2048) :
    val_main_v1 (F := Ideal) x w r (ix2 p q) = (∑ s : Fin 2048, (x (ix2 p s) : EReal) * w (ix2 s q)) + r (ix2 p q) := by
  rw [add_comm]
  pointwise [val_main_v1, Cert.OutFRefIdeal.Read.val_main_v0]

/-- What a point leaves in its block. -/
theorem out_at (t : Fin cfg0.N) (j : S1024x1024.Idx) :
    (out0_3 (F := Ideal) (iblk m c 0 t) (iblk m c 1 t) (iblk m c 2 t) j : EReal)
      = (∑ s : Fin 2048, (X m c (ix2 (row t (j 0)) s) : EReal) * W m c (ix2 s (col t (j 1)))) + R m c (ix2 (row t (j 0)) (col t (j 1))) := by
  obtain ⟨p, q, rfl⟩ : ∃ p q, j = ix2 p q := ⟨j 0, j 1, by funext b; fin_cases b <;> rfl⟩
  frame_open
  frame_out
  try simp only [read_unread_whole]
  rw [tile, blk2_at]
  exact congrArg (· + _) (Finset.sum_congr rfl fun s _ => by rw [blk0_at, blk1_at]; rfl)

theorem final : (dats m 0 c).arrAt 3 (cfgs 0).N = val_main_v1 (F := Ideal) (X m c) (W m c) (R m c) := by
  refine (dats m 0 c).arrAt_eq_of_covers 3 _ (by decide +kernel) fun t hf y => ?_
  blk_simp
  rw [after0_3]
  refine (out_at m c t _).trans ?_
  rw [← reference_at]
  blk_ext [idx t, row, col]

end Cert.OutFIdeal.Prod

namespace Cert.OutF

open Idealize.ShloMosaic Idealize.SL.Sem

theorem reference_frame : Cert.quiescent_OutFRefIdeal (hOutFRefIdeal := Cert.OutFRefIdeal.Gen.facts) :=
  fun m ρ _ => (θ_run _ _ _).mono (fun r h => ⟨fun c => (h c).2, sem_eq_zero_of_no_sems (by decide) r.2⟩)
    (Cert.OutFRefIdeal.Value.run (F := Ideal) m ρ)

/-- The kernel's product is the reference's. -/
theorem agree : Cert.algebraic_OutFIdeal_OutFRefIdeal (hOutFIdeal := Cert.OutFIdeal.Gen.facts)
    (hOutFRefIdeal := Cert.OutFRefIdeal.Gen.facts) := by
  intro m g m' g' _ hargs
  refine ⟨fun c => Cert.OutFRefIdeal.Read.val_main_v1 (F := Ideal) (Cert.OutFIdeal.Prod.X m c) (Cert.OutFIdeal.Prod.W m c) (Cert.OutFIdeal.Prod.R m c),
    (θ_run _ _ _).mono (fun r h c => ⟨(h c).1.trans (Cert.OutFIdeal.Prod.final m c), (h c).2⟩)
      (Cert.OutFIdeal.Value.run_blocks (F := Ideal) m g),
    (θ_run _ _ _).mono (fun r h c => ⟨(h c).1.trans ?_, (h c).2⟩) (Cert.OutFRefIdeal.Value.run (F := Ideal) m' g')⟩
  rw [(hargs c).1, (hargs c).2.1, (hargs c).2.2]
  rfl

end Cert.OutF
-- ==== Proof.Prod.UpF.lean ====
/- The up projection. The weights reach the kernel as four stacked shards of their columns, and a point takes half a shard. -/
module

public import proofs.«01_k».proof.Defs
public import proofs.«01_k».proof.Proof.Gen.UpF.Frame
public import proofs.«01_k».proof.Proof.Gen.UpFIdeal.Value
public import proofs.«01_k».proof.Proof.Gen.UpFRefIdeal.Run
public import proofs.«01_k».proof.Proof.Gen.UpFRefIdeal.Read
public import Idealize.ShloMosaic.Lib.Pipeline.ValueKit
public import Idealize.ShloMosaic.Lib.Pipeline.ReadBack
public import Idealize.ShloMosaic.Lib.Pointwise
public import Idealize.ShloMosaic.Lib.StableHlo.RunRead
public import Idealize.ShloMosaic.Lib.Tactic.WordOmega
public import Idealize.ShloMosaic.Adequacy
public import Idealize.ShloMosaic.Init

@[expose] public section

set_option maxRecDepth 16384

noncomputable section

namespace Cert.UpFIdeal.Prod

open Idealize.ShloMosaic Idealize.ShloMosaic.TcCoe Idealize.SL.Sem
open Idealize.ShloMosaic.Pipeline (Dat)
open Cert.UpFIdeal Cert.UpFIdeal.Gen

variable (m : (ℓ : Loc nD τ sig) → Buf (Elt Ideal) ℓ) (c : Dev nD)

open Cert.UpFRefIdeal.Read (val_main_v0)

/-- The activations. -/
abbrev X : FVec Ideal S4096x2048 .f32 := m ((c : Thread nD τ).loc main_arg0)
/-- The weights. -/
abbrev W : FVec Ideal S2048x11264 .f32 := m ((c : Thread nD τ).loc main_arg1)

theorem idx : ∀ t : Fin cfg0.N, win0_0.index t = ![t.val / 8, 0] ∧ win0_1.index t = ![t.val % 8 / 2, 0, t.val % 2] ∧
    win0_2.index t = ![t.val / 8, t.val % 8] :=
  (by decide +kernel : ∀ t : Fin grid0.N, _)

theorem bound (t : Fin cfg0.N) : t.val < 32 := lt_of_lt_of_eq t.isLt N_0

/-- The row of a point's tile. -/
def row (t : Fin cfg0.N) (p : Fin 1024) : Fin 4096 := ⟨t.val / 8 * 1024 + p.val, by have := bound t; omega⟩
/-- The column of a point's tile. -/
def col (t : Fin cfg0.N) (q : Fin 1408) : Fin 11264 := ⟨t.val % 8 * 1408 + q.val, by omega⟩
/-- A column of a shard. -/
def shard (k : Fin 4) (q : Fin 2816) : Fin 11264 := ⟨k.val * 2816 + q.val, by omega⟩

/-- The stacked shards. -/
def stacked (w : FVec Ideal S2048x11264 .f32) : FVec Ideal S4x2048x2816 .bf16 :=
  transpose S4x2048x2816 [1, 0, 2] (shapeCast S2048x4x2816 (truncf .bf16 w bitsLt_bf16_f32) shapeCasts_S2048x11264_S2048x4x2816)
    transposes_S2048x4x2816_S4x2048x2816_1_0_2

theorem stacked_at (w : FVec Ideal S2048x11264 .f32) (k : Fin 4) (s : Fin 2048) (q : Fin 2816) :
    stacked w (ix3 k s q) = w (ix2 s (shard k q)) := by
  pointwise [stacked, shard]

theorem V0 : V m c main_v3 = truncf .bf16 (X m c) bitsLt_bf16_f32 := by
  unfold V
  after_reads_simp

theorem V1 : V m c main_v2 = stacked (W m c) := by
  unfold V
  after_reads_simp
  rfl

theorem blk0_at (t : Fin cfg0.N) (p : Fin 1024) (s : Fin 2048) :
    (iblk m c 0 t : FVec Ideal S1024x2048 .bf16) (ix2 p s) = X m c (ix2 (row t p) s) := by
  refine (?_ : _ = (V m c main_v3 : FVec Ideal S4096x2048 .bf16) (ix2 (row t p) s)).trans (by rw [V0]; rfl)
  blk_ext [iblk, idx t, row]

theorem blk1_at (t : Fin cfg0.N) (s : Fin 2048) (q : Fin 1408) :
    (iblk m c 1 t : FVec Ideal S1x2048x1408 .bf16) (ix3 0 s q) = W m c (ix2 s (col t q)) := by
  have hc : col t q = shard ⟨t.val % 8 / 2, by omega⟩ ⟨t.val % 2 * 1408 + q.val, by omega⟩ := Fin.ext (by simp only [col, shard]; omega)
  rw [hc]
  refine Eq.trans ?_ (stacked_at (W m c) _ s _)
  refine (?_ : _ = (V m c main_v2 : FVec Ideal S4x2048x2816 .bf16) (ix3 _ s _)).trans (by rw [V1])
  blk_ext [iblk, idx t]

theorem tile (x : Vec Ideal S1024x2048 .bf16) (y : Vec Ideal S1x2048x1408 .bf16) (p : Fin 1024) (q : Fin 1408) :
    k0_pay1 (F := Ideal) x y (ix2 p q) = ∑ s : Fin 2048, (x (ix2 p s) : EReal) * y (ix3 0 s q) := by
  pointwise [k0_pay1]

theorem reference_at (x : FVec Ideal S4096x2048 .f32) (w : FVec Ideal S2048x11264 .f32) (p : Fin 4096) (q : Fin 11264) :
    val_main_v0 (F := Ideal) x w (ix2 p q) = ∑ s : Fin 2048, (x (ix2 p s) : EReal) * w (ix2 s q) := by
  pointwise [val_main_v0]

/-- What a point leaves in its block. -/
theorem out_at (t : Fin cfg0.N) (j : S1024x1408.Idx) :
    (out0_2 (F := Ideal) (iblk m c 0 t) (iblk m c 1 t) j : EReal)
      = ∑ s : Fin 2048, (X m c (ix2 (row t (j 0)) s) : EReal) * W m c (ix2 s (col t (j 1))) := by
  obtain ⟨p, q, rfl⟩ : ∃ p q, j = ix2 p q := ⟨j 0, j 1, by funext b; fin_cases b <;> rfl⟩
  frame_open
  frame_out
  try simp only [read_unread_whole]
  rw [tile]
  exact Finset.sum_congr rfl fun s _ => by rw [blk0_at, blk1_at]; rfl

theorem final : (dats m 0 c).arrAt 2 (cfgs 0).N = val_main_v0 (F := Ideal) (X m c) (W m c) := by
  refine (dats m 0 c).arrAt_eq_of_covers 2 _ (by decide +kernel) fun t hf y => ?_
  blk_simp
  rw [after0_2]
  refine (out_at m c t _).trans ?_
  rw [← reference_at]
  blk_ext [idx t, row, col]

end Cert.UpFIdeal.Prod

namespace Cert.UpF

open Idealize.ShloMosaic Idealize.SL.Sem

theorem reference_frame : Cert.quiescent_UpFRefIdeal (hUpFRefIdeal := Cert.UpFRefIdeal.Gen.facts) :=
  fun m ρ _ => (θ_run _ _ _).mono (fun r h => ⟨fun c => (h c).2, sem_eq_zero_of_no_sems (by decide) r.2⟩)
    (Cert.UpFRefIdeal.Value.run (F := Ideal) m ρ)

/-- The kernel's product is the reference's. -/
theorem agree : Cert.algebraic_UpFIdeal_UpFRefIdeal (hUpFIdeal := Cert.UpFIdeal.Gen.facts)
    (hUpFRefIdeal := Cert.UpFRefIdeal.Gen.facts) := by
  intro m g m' g' _ hargs
  refine ⟨fun c => Cert.UpFRefIdeal.Read.val_main_v0 (F := Ideal) (Cert.UpFIdeal.Prod.X m c) (Cert.UpFIdeal.Prod.W m c),
    (θ_run _ _ _).mono (fun r h c => ⟨(h c).1.trans (Cert.UpFIdeal.Prod.final m c), (h c).2⟩)
      (Cert.UpFIdeal.Value.run_blocks (F := Ideal) m g),
    (θ_run _ _ _).mono (fun r h c => ⟨(h c).1.trans ?_, (h c).2⟩) (Cert.UpFRefIdeal.Value.run (F := Ideal) m' g')⟩
  rw [(hargs c).1, (hargs c).2]
  rfl

end Cert.UpF
-- ==== Proof.Prod.DownF.lean ====
/- The down projection, added to what enters the feed-forward block. -/
module

public import proofs.«01_k».proof.Defs
public import proofs.«01_k».proof.Proof.Gen.DownF.Frame
public import proofs.«01_k».proof.Proof.Gen.DownFIdeal.Value
public import proofs.«01_k».proof.Proof.Gen.DownFRefIdeal.Run
public import proofs.«01_k».proof.Proof.Gen.DownFRefIdeal.Read
public import proofs.«01_k».proof.Proof.Prod.Tiles
public import Idealize.ShloMosaic.Lib.Pipeline.ValueKit
public import Idealize.ShloMosaic.Lib.Pipeline.ReadBack
public import Idealize.ShloMosaic.Lib.Pointwise
public import Idealize.ShloMosaic.Lib.StableHlo.RunRead
public import Idealize.ShloMosaic.Lib.Tactic.WordOmega
public import Idealize.ShloMosaic.Adequacy
public import Idealize.ShloMosaic.Init

@[expose] public section

set_option maxRecDepth 16384

noncomputable section

namespace Cert.DownFIdeal.Prod

open Idealize.ShloMosaic Idealize.ShloMosaic.TcCoe Idealize.SL.Sem
open Idealize.ShloMosaic.Pipeline (Dat)
open Cert.DownFIdeal Cert.DownFIdeal.Gen

variable (m : (ℓ : Loc nD τ sig) → Buf (Elt Ideal) ℓ) (c : Dev nD)

open Cert.DownFRefIdeal.Read (val_main_v1)

/-- The activations. -/
abbrev X : FVec Ideal S4096x5632 .f32 := m ((c : Thread nD τ).loc main_arg0)
/-- The weights. -/
abbrev W : FVec Ideal S5632x2048 .f32 := m ((c : Thread nD τ).loc main_arg1)
/-- What the product is added to. -/
abbrev R : FVec Ideal S4096x2048 .f32 := m ((c : Thread nD τ).loc main_arg2)

theorem idx : ∀ t : Fin cfg0.N, win0_0.index t = ![t.val / 4, t.val % 2] ∧ win0_1.index t = ![t.val % 2, t.val / 2 % 2] ∧
    win0_2.index t = ![t.val / 4, t.val / 2 % 2] ∧ win0_3.index t = ![t.val / 4, t.val / 2 % 2] :=
  (by decide +kernel : ∀ t : Fin grid0.N, _)

theorem bound (t : Fin cfg0.N) : t.val < 16 := lt_of_lt_of_eq t.isLt N_0

/-- The row of a point's tile. -/
def row (t : Fin cfg0.N) (p : Fin 1024) : Fin 4096 := ⟨t.val / 4 * 1024 + p.val, by have := bound t; omega⟩
/-- The column of a point's tile. -/
def col (t : Fin cfg0.N) (q : Fin 1024) : Fin 2048 := ⟨t.val / 2 % 2 * 1024 + q.val, by omega⟩
/-- The feature of a point's tile. -/
def feat (k : Fin 2) (s : Fin 2816) : Fin 5632 := ⟨k.val * 2816 + s.val, by omega⟩

theorem V0 : V m c main_v0 = truncf .bf16 (X m c) bitsLt_bf16_f32 := by
  unfold V
  after_reads_simp

theorem V1 : V m c main_v1 = truncf .bf16 (W m c) bitsLt_bf16_f32 := by
  unfold V
  after_reads_simp

theorem V2 : V m c main_arg2 = R m c := by
  unfold V
  after_reads_simp

theorem blk0_at (t : Fin cfg0.N) (k : Fin 2) (hk : t.val % 2 = k.val) (p : Fin 1024) (s : Fin 2816) :
    (iblk m c 0 t : FVec Ideal S1024x2816 .bf16) (ix2 p s) = X m c (ix2 (row t p) (feat k s)) := by
  refine (?_ : _ = (V m c main_v0 : FVec Ideal S4096x5632 .bf16) (ix2 (row t p) (feat k s))).trans (by rw [V0]; rfl)
  blk_ext [iblk, idx t, feat, row, hk]

theorem blk1_at (t : Fin cfg0.N) (k : Fin 2) (hk : t.val % 2 = k.val) (s : Fin 2816) (q : Fin 1024) :
    (iblk m c 1 t : FVec Ideal S2816x1024 .bf16) (ix2 s q) = W m c (ix2 (feat k s) (col t q)) := by
  refine (?_ : _ = (V m c main_v1 : FVec Ideal S5632x2048 .bf16) (ix2 (feat k s) (col t q))).trans (by rw [V1]; rfl)
  blk_ext [iblk, idx t, feat, col, hk]

theorem blk2_at (t : Fin cfg0.N) (p : Fin 1024) (q : Fin 1024) :
    (iblk m c 2 t : FVec Ideal S1024x1024 .f32) (ix2 p q) = R m c (ix2 (row t p) (col t q)) := by
  refine (?_ : _ = (V m c main_arg2 : FVec Ideal S4096x2048 .f32) (ix2 (row t p) (col t q))).trans (by rw [V2])
  blk_ext [iblk, idx t, row, col]

theorem first (x : Vec Ideal S1024x2816 .bf16) (y : Vec Ideal S2816x1024 .bf16) (j : S1024x1024.Idx) :
    k0_pay2 (F := Ideal) x y j = (0 : EReal) + ∑ s : Fin 2816, (x (ix2 (j 0) s) : EReal) * y (ix2 s (j 1)) := by
  obtain ⟨p, q, rfl⟩ := Cert.Prod.cases2 j
  pointwise [k0_pay2, k0_pay1]

theorem next (x : Vec Ideal S1024x2816 .bf16) (y : Vec Ideal S2816x1024 .bf16) (a : Vec Ideal S1024x1024 .f32) (j : S1024x1024.Idx) :
    k0_pay3 (F := Ideal) x y a j = (a j : EReal) + ∑ s : Fin 2816, (x (ix2 (j 0) s) : EReal) * y (ix2 s (j 1)) := by
  obtain ⟨p, q, rfl⟩ := Cert.Prod.cases2 j
  pointwise [k0_pay3, k0_pay1]

theorem reference_at (x : FVec Ideal S4096x5632 .f32) (w : FVec Ideal S5632x2048 .f32) (r : FVec Ideal S4096x2048 .f32) (p : Fin 4096) (q : Fin 2048) :
    val_main_v1 (F := Ideal) x w r (ix2 p q) = (∑ s : Fin 5632, (x (ix2 p s) : EReal) * w (ix2 s q)) + r (ix2 p q) := by
  rw [add_comm]
  pointwise [val_main_v1, Cert.DownFRefIdeal.Read.val_main_v0]

/-- What the accumulator holds after a point. -/
abbrev acc (n : ℕ) (h : n < cfg0.N) : S1024x1024.Idx → EReal := (outsAt0 m c n h).2

/-- What a point adds. -/
abbrev term (t : Fin cfg0.N) (j : S1024x1024.Idx) : EReal :=
  ∑ s : Fin 2816, (show EReal from (iblk m c 0 t : FVec Ideal S1024x2816 .bf16) (ix2 (j 0) s)) * (iblk m c 1 t : FVec Ideal S2816x1024 .bf16) (ix2 s (j 1))

theorem acc_first (t : Fin cfg0.N) (h : t.val % 2 = 0) (j : S1024x1024.Idx) : acc m c t.val t.isLt j = 0 + term m c t j := by
  unfold acc
  rw [outsAt0_A m c t h (by omega) (by omega)]
  frame_open
  simp (disch := decide) only [↓ View.readCov_skip, ↓ View.readCov_cons_toLoadRect, ↓ View.readCov_fill]
  frame_out
  try simp only [read_unread_whole]
  rw [first]

theorem acc_next (t : Fin cfg0.N) (h : ¬t.val % 2 = 0) (j : S1024x1024.Idx) :
    acc m c t.val t.isLt j = acc m c (t.val - 1) (Nat.lt_of_le_of_lt (Nat.sub_le _ _) t.isLt) j + term m c t j := by
  unfold acc
  rw [outsAt0_B m c t h (by omega) (by omega)]
  frame_open
  simp (disch := decide) only [↓ View.readCov_skip, ↓ View.readCov_cons_toLoadRect, ↓ View.readCov_fill]
  frame_out
  try simp only [read_unread_whole]
  rw [next]

theorem out_last (t : Fin cfg0.N) (h : t.val % 2 = 1) (j : S1024x1024.Idx) :
    ((outsAt0 m c t.val t.isLt).1 j : EReal) = acc m c t.val t.isLt j + R m c (ix2 (row t (j 0)) (col t (j 1))) := by
  obtain ⟨p, q, rfl⟩ := Cert.Prod.cases2 j
  refine (?_ : _ = acc m c t.val t.isLt (ix2 p q) + (iblk m c 2 t : FVec Ideal S1024x1024 .f32) (ix2 p q)).trans (by rw [blk2_at]; rfl)
  unfold acc
  rw [outsAt0_B m c t (by omega) (by omega) (by omega)]
  frame_open
  simp (disch := decide) only [↓ View.readCov_skip, ↓ View.readCov_cons_toLoadRect, ↓ View.readCov_fill]
  frame_out
  try simp only [read_unread_whole]
  rfl

/-- The whole sum after a run of points. -/
theorem acc_last (t : Fin cfg0.N) (h : t.val % 2 = 1) (j : S1024x1024.Idx) :
    acc m c t.val t.isLt j = ∑ s : Fin 5632, (X m c (ix2 (row t (j 0)) s) : EReal) * W m c (ix2 s (col t (j 1))) := by
  refine Cert.Prod.whole (K := 2) (S := 2816) rfl (acc m c) (term m c) (fun t j s => (X m c (ix2 (row t (j 0)) s) : EReal) * W m c (ix2 s (col t (j 1))))
    (acc_first m c) (acc_next m c) (fun t u k h j => Finset.sum_congr rfl fun s _ => ?_) t h j
  have er : row u = row t := funext fun _ => Fin.ext (by simp only [row]; omega)
  have ec : col u = col t := funext fun _ => Fin.ext (by simp only [col]; omega)
  rw [← er, ← ec]
  exact congrArg₂ (fun x y : EReal => x * y) (blk0_at m c u k (by omega) _ _) (blk1_at m c u k (by omega) _ _)

theorem final : (dats m 0 c).arrAt 3 (cfgs 0).N = val_main_v1 (F := Ideal) (X m c) (W m c) (R m c) := by
  refine (dats m 0 c).arrAt_eq_of_covers 3 _ (by decide +kernel) fun t hf y => ?_
  blk_simp
  rw [after0_3]
  have hl := (flush0_3 t).mp hf
  refine (out_last m c t hl _).trans ?_
  rw [acc_last m c t hl, ← reference_at]
  blk_ext [idx t, row, col]

end Cert.DownFIdeal.Prod

namespace Cert.DownF

open Idealize.ShloMosaic Idealize.SL.Sem

theorem reference_frame : Cert.quiescent_DownFRefIdeal (hDownFRefIdeal := Cert.DownFRefIdeal.Gen.facts) :=
  fun m ρ _ => (θ_run _ _ _).mono (fun r h => ⟨fun c => (h c).2, sem_eq_zero_of_no_sems (by decide) r.2⟩)
    (Cert.DownFRefIdeal.Value.run (F := Ideal) m ρ)

/-- The kernel's product is the reference's. -/
theorem agree : Cert.algebraic_DownFIdeal_DownFRefIdeal (hDownFIdeal := Cert.DownFIdeal.Gen.facts)
    (hDownFRefIdeal := Cert.DownFRefIdeal.Gen.facts) := by
  intro m g m' g' _ hargs
  refine ⟨fun c => Cert.DownFRefIdeal.Read.val_main_v1 (F := Ideal) (Cert.DownFIdeal.Prod.X m c) (Cert.DownFIdeal.Prod.W m c) (Cert.DownFIdeal.Prod.R m c),
    (θ_run _ _ _).mono (fun r h c => ⟨(h c).1.trans (Cert.DownFIdeal.Prod.final m c), (h c).2⟩)
      (Cert.DownFIdeal.Value.run_blocks (F := Ideal) m g),
    (θ_run _ _ _).mono (fun r h c => ⟨(h c).1.trans ?_, (h c).2⟩) (Cert.DownFRefIdeal.Value.run (F := Ideal) m' g')⟩
  rw [(hargs c).1, (hargs c).2.1, (hargs c).2.2]
  rfl

end Cert.DownF
-- ==== Proof.Ssd.Forward.Block.lean ====
/- What one point of the forward pass's grid stores, entry by entry, in terms of the point's blocks. -/
module

public import proofs.«01_k».proof.Proof.Gen.SsdFIdeal.Value
public import proofs.«01_k».proof.Proof.Ssd.Block

@[expose] public section

set_option maxRecDepth 16384

noncomputable section

namespace Cert.SsdFIdeal.Ssd

open Idealize.ShloMosaic Idealize.ShloMosaic.TcCoe Idealize.SL.Sem
open Idealize.ShloMosaic.Pipeline (Dat)
open Cert.SsdFIdeal Cert.SsdFIdeal.Gen
open Cert.KernelIdeal.Ssd (col headOf headOf_col segL six six_eq)

variable (m : (ℓ : Loc nD τ sig) → Buf (Elt Ideal) ℓ)

section Terms

variable (x0 x5 x6 : FVec Ideal S256x384 .f32) (x1 x2 : FVec Ideal S256x128 .f32) (x3 : FVec Ideal S1x256x8 .f32)
  (x4 : FVec Ideal S8x256 .f32) (x7 : FVec Ideal S1x384 .f32) (D : FVec Ideal S128x384 .f32)

/-- What the places of the same chunk give to the output. -/
def yDiag (l : Fin 256) (q : Fin 384) : EReal :=
  ∑ s : Fin 256, ((∑ n : Fin 128, x2 (ix2 l n) * x1 (ix2 s n)) * segL x3 x4 (headOf q) l s) * (x0 (ix2 s q) * x5 (ix2 s q))

/-- What the state at the chunk's start gives to the output, and the input itself. -/
def yOff (l : Fin 256) (q : Fin 384) : EReal :=
  (∑ n : Fin 128, x2 (ix2 l n) * D (ix2 n q)) * Ideal.exp (x6 (ix2 l q)) + x7 (ix2 0 q) * x0 (ix2 l q)

/-- The state a point leaves for the next chunk. -/
def nextState (n : Fin 128) (q : Fin 384) : EReal :=
  Ideal.exp (x6 (ix2 255 q)) * D (ix2 n q)
    + ∑ s : Fin 256, x1 (ix2 s n) * ((x0 (ix2 s q) * x5 (ix2 s q)) * Ideal.exp (x6 (ix2 255 q) - x6 (ix2 s q)))

set_option maxHeartbeats 2000000 in
/-- The six tiles of the output, each the chunk's part of one head and what the state gives. -/
theorem y_tiles (l : Fin 256) (q : Fin 384) :
    View.canon (Val := Elt Ideal) (six
      (k0_pay19 k0_pay5 (k0_pay6 x3) (k0_pay7 x4) (k0_pay8 x6) (k0_pay9 x0) (k0_pay11 x5 x0) (k0_pay13 x2) (k0_pay14 x1 x2) (k0_pay17 D)
        (constant S256x384 .f32 0x00000000#32) x7)
      (k0_pay20 k0_pay5 (k0_pay6 x3) (k0_pay7 x4) (k0_pay8 x6) (k0_pay9 x0) (k0_pay11 x5 x0) (k0_pay13 x2) (k0_pay14 x1 x2) (k0_pay17 D)
        (constant S256x384 .f32 0x00000000#32) x7)
      (k0_pay23 k0_pay5 (k0_pay11 x5 x0) (k0_pay14 x1 x2)
        (k0_pay18 (k0_pay8 x6) (k0_pay9 x0) (k0_pay13 x2) (k0_pay17 D) (constant S256x384 .f32 0x00000000#32) x7) (k0_pay21 (k0_pay6 x3)) (k0_pay22 (k0_pay7 x4)))
      (k0_pay24 k0_pay5 (k0_pay6 x3) (k0_pay7 x4) (k0_pay11 x5 x0) (k0_pay14 x1 x2)
        (k0_pay18 (k0_pay8 x6) (k0_pay9 x0) (k0_pay13 x2) (k0_pay17 D) (constant S256x384 .f32 0x00000000#32) x7))
      (k0_pay1 (k0_pay25 k0_pay5 (k0_pay6 x3) (k0_pay7 x4) (k0_pay11 x5 x0) (k0_pay14 x1 x2))
        (k0_pay26 (k0_pay18 (k0_pay8 x6) (k0_pay9 x0) (k0_pay13 x2) (k0_pay17 D) (constant S256x384 .f32 0x00000000#32) x7)))
      (k0_pay2 k0_pay5 (k0_pay6 x3) (k0_pay7 x4) (k0_pay11 x5 x0) (k0_pay14 x1 x2)
        (k0_pay18 (k0_pay8 x6) (k0_pay9 x0) (k0_pay13 x2) (k0_pay17 D) (constant S256x384 .f32 0x00000000#32) x7))) (ix2 l q)
      = yDiag x0 x5 x1 x2 x3 x4 l q + yOff x0 x6 x2 x7 D l q := by
  refine six_eq _ _ _ _ _ _ (fun l q => yDiag x0 x5 x1 x2 x3 x4 l q + yOff x0 x6 x2 x7 D l q) ?_ ?_ ?_ ?_ ?_ ?_ (ix2 l q) <;> intro l p <;>
    simp only [yDiag, yOff, headOf_col] <;>
    pointwise [k0_pay1, k0_pay2, k0_pay5, k0_pay6, k0_pay7, k0_pay8, k0_pay9, k0_pay10, k0_pay11, k0_pay12, k0_pay13, k0_pay14, k0_pay17, k0_pay18,
      k0_pay19, k0_pay20, k0_pay21, k0_pay22, k0_pay23, k0_pay24, k0_pay25, k0_pay26, segL, col] <;> rfl

end Terms

/-- The state that the point finds, left by the chunk before: zero at the first chunk. -/
def carried (c : Dev nD) (t : Fin cfg0.N) : FVec Ideal S128x384 .f32 :=
  if t.val % 16 = 0 then k0_pay4 else (outsAt0 m c (t.val - 1) (by have := t.isLt; omega)).2.2

theorem carried_first (c : Dev nD) (t : Fin cfg0.N) (h : t.val % 16 = 0) : carried m c t = k0_pay4 := if_pos h

theorem carried_later (c : Dev nD) (t : Fin cfg0.N) (h : ¬t.val % 16 = 0) :
    carried m c t = (outsAt0 m c (t.val - 1) (by have := t.isLt; omega)).2.2 := if_neg h

set_option maxHeartbeats 2000000 in
theorem state_out (c : Dev nD) (t : Fin cfg0.N) (n : Fin 128) (q : Fin 384) :
    (outsAt0 m c t.val t.isLt).2.2 (ix2 n q) = nextState (X0_0 m c t) (iblk m c 5 t) (iblk m c 6 t) (iblk m c 1 t) (carried m c t) n q := by
  by_cases h : t.val % 16 = 0
  · rw [outsAt0_A m c t h, carried_first m c t h]
    frame_open
    simp (disch := decide) only [↓ View.readCov_skip, ↓ View.readCov_cons_toLoadRect, ↓ View.readCov_fill]
    frame_out
    try simp only [read_unread_whole]
    pointwise [nextState, k0_pay3, k0_pay8, k0_pay9, k0_pay10, k0_pay12, k0_pay15]
  · rw [outsAt0_B m c t h, carried_later m c t h]
    frame_open
    simp (disch := decide) only [↓ View.readCov_skip, ↓ View.readCov_cons_toLoadRect, ↓ View.readCov_fill]
    frame_out
    try simp only [read_unread_whole]
    pointwise [nextState, k0_pay3, k0_pay8, k0_pay9, k0_pay10, k0_pay12, k0_pay15]

set_option maxHeartbeats 2000000 in
/-- The state a point stores is the one it finds. -/
theorem sp_out (c : Dev nD) (t : Fin cfg0.N) (n : Fin 128) (q : Fin 384) :
    (outsAt0 m c t.val t.isLt).2.1 (ix4 0 0 n q) = carried m c t (ix2 n q) := by
  by_cases h : t.val % 16 = 0
  · rw [outsAt0_A m c t h, carried_first m c t h]
    frame_open
    simp (disch := decide) only [↓ View.readCov_skip, ↓ View.readCov_cons_toLoadRect, ↓ View.readCov_fill]
    frame_out
    try simp only [read_unread_whole]
    pointwise [k0_pay16]
  · rw [outsAt0_B m c t h, carried_later m c t h]
    frame_open
    simp (disch := decide) only [↓ View.readCov_skip, ↓ View.readCov_cons_toLoadRect, ↓ View.readCov_fill]
    frame_out
    try simp only [read_unread_whole]
    pointwise [k0_pay16]

set_option maxHeartbeats 2000000 in
theorem y_out (c : Dev nD) (t : Fin cfg0.N) (l : Fin 256) (q : Fin 384) :
    (outsAt0 m c t.val t.isLt).1 (ix2 l q)
      = yDiag (X0_0 m c t) (iblk m c 5 t) (iblk m c 1 t) (iblk m c 2 t) (iblk m c 3 t) (iblk m c 4 t) l q
        + yOff (X0_0 m c t) (iblk m c 6 t) (iblk m c 2 t) (iblk m c 7 t) (carried m c t) l q := by
  by_cases h : t.val % 16 = 0
  · rw [outsAt0_A m c t h, carried_first m c t h]
    frame_open
    simp (disch := decide) only [↓ View.readCov_skip, ↓ View.readCov_cons_toLoadRect, ↓ View.readCov_fill]
    frame_out
    try simp only [read_unread_whole]
    exact y_tiles _ _ _ _ _ _ _ _ _ l q
  · rw [outsAt0_B m c t h, carried_later m c t h]
    frame_open
    simp (disch := decide) only [↓ View.readCov_skip, ↓ View.readCov_cons_toLoadRect, ↓ View.readCov_fill]
    frame_out
    try simp only [read_unread_whole]
    exact y_tiles _ _ _ _ _ _ _ _ _ l q

end Cert.SsdFIdeal.Ssd
-- ==== Proof.Ssd.Forward.Reads.lean ====
/- Every block of a point of the forward pass's grid, entry by entry, as the stages of the reference or as the arguments. -/
module

public import proofs.«01_k».proof.Proof.Ssd.Forward.Block
public import proofs.«01_k».proof.Proof.Ssd.Host

@[expose] public section

set_option maxRecDepth 16384

noncomputable section

namespace Cert.SsdFIdeal.Ssd

open Idealize.ShloMosaic Idealize.ShloMosaic.TcCoe Idealize.SL.Sem
open Idealize.ShloMosaic.Pipeline (Dat)
open Cert.SsdFIdeal Cert.SsdFIdeal.Gen
open Cert.Ssd (row head wideCol stateCol)
open Cert.KernelIdeal.Ssd (col S45 S45_at S48p S48_at S51p S51_at spread spread_at spreadRow spreadRow_at sideBySide side_x side_b side_c)

variable (m : (ℓ : Loc nD τ sig) → Buf (Elt Ideal) ℓ) (c : Dev nD)

/-- The input. -/
abbrev X0 : FVec Ideal S4096x3072 .f32 := m ((c : Thread nD τ).loc main_arg0)
/-- B. -/
abbrev X1 : FVec Ideal S4096x1024 .f32 := m ((c : Thread nD τ).loc main_arg1)
/-- C. -/
abbrev X2 : FVec Ideal S4096x1024 .f32 := m ((c : Thread nD τ).loc main_arg2)
/-- The step. -/
abbrev X3 : FVec Ideal S4096x48 .f32 := m ((c : Thread nD τ).loc main_arg3)
/-- The logarithm of the decay rate. -/
abbrev X4 : FVec Ideal S48 .f32 := m ((c : Thread nD τ).loc main_arg4)
/-- D. -/
abbrev X5 : FVec Ideal S48 .f32 := m ((c : Thread nD τ).loc main_arg5)

/-- The running sums of the log decays, by the reference's stage. -/
abbrev S15 : FVec Ideal S8x6x16x256 .f32 := Cert.ReferenceIdeal.Read.val_main_v15 (F := Ideal) (X3 m c) (X4 m c)

set_option maxHeartbeats 2000000 in
theorem V0 : V m c main_v0 = sideBySide (X0 m c) (X1 m c) (X2 m c) := by
  unfold V
  simp only [List.flatten_cons, List.flatten_nil, List.append_nil]
  after_reads_simp
  rfl

set_option maxHeartbeats 2000000 in
theorem V2 : V m c main_v2 = spread (X3 m c) := by
  unfold V
  simp only [List.flatten_cons, List.flatten_nil, List.append_nil]
  after_reads_simp
  rfl

set_option maxHeartbeats 2000000 in
theorem V15 : V m c main_v15 = S48p (S15 m c) := by
  unfold V
  simp only [List.flatten_cons, List.flatten_nil, List.append_nil]
  after_reads_simp
  rfl

set_option maxHeartbeats 2000000 in
theorem V18 : V m c main_v18 = S51p (S15 m c) := by
  unfold V
  simp only [List.flatten_cons, List.flatten_nil, List.append_nil]
  after_reads_simp
  rfl

set_option maxHeartbeats 2000000 in
theorem V20 : V m c main_v20 = spread (S45 (S15 m c)) := by
  unfold V
  simp only [List.flatten_cons, List.flatten_nil, List.append_nil]
  after_reads_simp
  rfl

set_option maxHeartbeats 2000000 in
theorem V23 : V m c main_v23 = spreadRow (X5 m c) := by
  unfold V
  simp only [List.flatten_cons, List.flatten_nil, List.append_nil]
  after_reads_simp
  rfl

/-- The group of a point. -/
def grp (t : Fin cfg0.N) : Fin 8 := ⟨t.val / 16, by have := t.isLt; have := N_0; change t.val < grid0.N at *; omega⟩

/-- The chunk of a point. -/
def chk (t : Fin cfg0.N) : Fin 16 := ⟨t.val % 16, by omega⟩

theorem idx : ∀ t : Fin cfg0.N, win0_0.index t = ![t.val % 16, t.val / 16] ∧ win0_1.index t = ![t.val % 16, 24 + t.val / 16] ∧
    win0_2.index t = ![t.val % 16, 32 + t.val / 16] ∧ win0_3.index t = ![t.val / 16, t.val % 16, 0] ∧
    win0_4.index t = ![t.val / 16, t.val % 16] ∧ win0_5.index t = ![t.val % 16, t.val / 16] ∧
    win0_6.index t = ![t.val % 16, t.val / 16] ∧ win0_7.index t = ![0, t.val / 16] ∧
    win0_8.index t = ![t.val % 16, t.val / 16] ∧ win0_9.index t = ![t.val % 16, t.val / 16, 0, 0] :=
  (by decide +kernel : ∀ t : Fin grid0.N, _)

theorem blk0_at (t : Fin cfg0.N) (s : Fin 256) (h : Fin 6) (p : Fin 64) :
    X0_0 m c t (ix2 s (col h p)) = X0 m c (ix2 (row (chk t) s) (wideCol (grp t) h p)) := by
  rw [← side_x (X0 m c) (X1 m c) (X2 m c), ← V0]
  unfold X0_0 Pipeline.Window.fill
  rw [dif_pos (moved0_0 t _)]
  blk_ext [iblk, idx t, grp, chk, row, col, wideCol]

theorem blk1_at (t : Fin cfg0.N) (s : Fin 256) (n : Fin 128) :
    (iblk m c 1 t : FVec Ideal S256x128 .f32) (ix2 s n) = X1 m c (ix2 (row (chk t) s) (stateCol (grp t) n)) := by
  rw [← side_b (X0 m c) (X1 m c) (X2 m c), ← V0]
  blk_ext [iblk, idx t, grp, chk, row, stateCol]

theorem blk2_at (t : Fin cfg0.N) (s : Fin 256) (n : Fin 128) :
    (iblk m c 2 t : FVec Ideal S256x128 .f32) (ix2 s n) = X2 m c (ix2 (row (chk t) s) (stateCol (grp t) n)) := by
  rw [← side_c (X0 m c) (X1 m c) (X2 m c), ← V0]
  blk_ext [iblk, idx t, grp, chk, row, stateCol]

theorem blk3_at (t : Fin cfg0.N) (s : Fin 256) (h : Fin 6) :
    (iblk m c 3 t : FVec Ideal S1x256x8 .f32) (ix3 0 s (h.castLE (by decide))) = S15 m c (ix4 (grp t) h (chk t) s) := by
  refine Eq.trans ?_ (S48_at (S15 m c) _ _ _ _)
  rw [← V15]
  blk_ext [iblk, idx t, grp, chk, row, Fin.val_castLE]

theorem blk4_at (t : Fin cfg0.N) (s : Fin 256) (h : Fin 6) :
    (iblk m c 4 t : FVec Ideal S8x256 .f32) (ix2 (h.castLE (by decide)) s) = S15 m c (ix4 (grp t) h (chk t) s) := by
  refine Eq.trans ?_ (S51_at (S15 m c) _ _ _ _)
  rw [← V18]
  blk_ext [iblk, idx t, grp, chk, row]
  simp only [Fin.val_castLE]

theorem blk5_at (t : Fin cfg0.N) (s : Fin 256) (h : Fin 6) (p : Fin 64) :
    (iblk m c 5 t : FVec Ideal S256x384 .f32) (ix2 s (col h p)) = X3 m c (ix2 (row (chk t) s) (head (grp t) h)) := by
  refine Eq.trans ?_ (spread_at (X3 m c) _ _ _ p)
  rw [← V2]
  blk_ext [iblk, idx t, grp, chk, row, col, wideCol]

theorem blk6_at (t : Fin cfg0.N) (s : Fin 256) (h : Fin 6) (p : Fin 64) :
    (iblk m c 6 t : FVec Ideal S256x384 .f32) (ix2 s (col h p)) = S15 m c (ix4 (grp t) h (chk t) s) := by
  refine Eq.trans ?_ ((spread_at (S45 (S15 m c)) _ _ _ p).trans (S45_at (S15 m c) _ _ _ _))
  rw [← V20]
  blk_ext [iblk, idx t, grp, chk, row, col, wideCol]

theorem blk7_at (t : Fin cfg0.N) (h : Fin 6) (p : Fin 64) :
    (iblk m c 7 t : FVec Ideal S1x384 .f32) (ix2 0 (col h p)) = X5 m c (ix1 (head (grp t) h)) := by
  refine Eq.trans ?_ (spreadRow_at (X5 m c) _ _ p)
  rw [← V23]
  blk_ext [iblk, idx t, grp, chk, row, col, wideCol]

end Cert.SsdFIdeal.Ssd
-- ==== Proof.Ssd.Forward.Stages.lean ====
/- The stages of the reference's forward pass, entry by entry, and how its states follow one another. -/
module

public import proofs.«01_k».proof.Proof.Gen.SsdFRefIdeal.Read
public import proofs.«01_k».proof.Proof.Ssd.States

@[expose] public section

set_option maxRecDepth 16384

noncomputable section

namespace Cert.SsdF

open Idealize.ShloMosaic Idealize.ShloMosaic.TcCoe Idealize.SL.Sem
open Cert.SsdFRefIdeal Cert.SsdFRefIdeal.Gen Cert.SsdFRefIdeal.Read
open Cert.Ssd (row head wideCol stateCol)

variable (x0 : (⟨S4096x3072, .f32⟩ : BufTy).Contents (Elt Ideal)) (x1 x2 : (⟨S4096x1024, .f32⟩ : BufTy).Contents (Elt Ideal))
  (x3 : (⟨S4096x48, .f32⟩ : BufTy).Contents (Elt Ideal)) (x4 x5 : (⟨S48, .f32⟩ : BufTy).Contents (Elt Ideal))

/-- The running sums of the log decays, by the backward pass's stage. -/
abbrev sums : FVec Ideal S8x6x16x256 .f32 := Cert.ReferenceIdeal.Read.val_main_v15 (F := Ideal) x3 x4
/-- The input times the step, by the backward pass's stage. -/
abbrev scaled : FVec Ideal S16x256x8x6x64 .f32 := Cert.ReferenceIdeal.Read.val_main_v12 (F := Ideal) x0 x3
/-- The products of C and B, decayed, by the backward pass's stage. -/
abbrev decayed : FVec Ideal S8x6x16x256x256 .f32 := Cert.ReferenceIdeal.Read.val_main_v29 (F := Ideal) x1 x2 x3 x4
/-- The decays from chunk to chunk, by the backward pass's stage. -/
abbrev between : FVec Ideal S8x6x17x17 .f32 := Cert.ReferenceIdeal.Read.val_main_v57 (F := Ideal) x3 x4

theorem v38_at (k : Fin 16) (g : Fin 8) (h : Fin 6) (p : Fin 64) (n : Fin 128) :
    val_main_v38 (F := Ideal) x0 x1 x3 x4 (ix5 k g h p n)
      = ∑ s : Fin 256, ((scaled x0 x3 (ix5 k s g h p) : EReal) * Ideal.exp (sums x3 x4 (ix4 g h k 255) - sums x3 x4 (ix4 g h k s)))
          * x1 (ix2 (row k s) (stateCol g n)) := by
  have t : ∀ s : Fin 256, (scaled x0 x3 (ix5 k s g h p) : EReal) * Ideal.exp (sums x3 x4 (ix4 g h k 255) - sums x3 x4 (ix4 g h k s))
      = Cert.ReferenceIdeal.Read.val_main_v39 (F := Ideal) x0 x3 x4 (ix5 k s g h p) := fun s => by rw [Cert.Ssd.v39_at, Cert.Ssd.v35_at]
  simp only [t, ← Cert.Ssd.v13_at x1]
  have e : val_main_v38 (F := Ideal) x0 x1 x3 x4 = Cert.ReferenceIdeal.Read.val_main_v40 (F := Ideal) x0 x1 x3 x4 := rfl
  rw [e]
  unfold Cert.ReferenceIdeal.Read.val_main_v40
  generalize Cert.ReferenceIdeal.Read.val_main_v39 (F := Ideal) x0 x3 x4 = y
  generalize Cert.ReferenceIdeal.Read.val_main_v13 (F := Ideal) x1 = z
  pointwise

theorem v41_first (g : Fin 8) (h : Fin 6) (p : Fin 64) (n : Fin 128) : val_main_v41 (F := Ideal) x0 x1 x3 x4 (ix5 0 g h p n) = (0 : EReal) := by
  unfold val_main_v41
  generalize val_main_v38 (F := Ideal) x0 x1 x3 x4 = y
  pointwise [val_main_v40, val_main_cst_2]

theorem v41_later (k : Fin 16) (g : Fin 8) (h : Fin 6) (p : Fin 64) (n : Fin 128) :
    val_main_v41 (F := Ideal) x0 x1 x3 x4 (ix5 k.succ g h p n) = val_main_v38 (F := Ideal) x0 x1 x3 x4 (ix5 k g h p n) := by
  unfold val_main_v41
  generalize val_main_v38 (F := Ideal) x0 x1 x3 x4 = y
  pointwise [val_main_v40, val_main_cst_2, Fin.val_succ]
  exact dif_neg (by omega)

theorem v57_at (k : Fin 16) (g : Fin 8) (h : Fin 6) (p : Fin 64) (n : Fin 128) :
    val_main_v57 (F := Ideal) x0 x1 x3 x4 (ix5 k g h p n)
      = ∑ z : Fin 17, (val_main_v41 (F := Ideal) x0 x1 x3 x4 (ix5 z g h p n) : EReal) * between x3 x4 (ix4 g h k.castSucc z) := by
  have e : val_main_v54 (F := Ideal) x3 x4 = between x3 x4 := rfl
  unfold val_main_v57 val_main_v56 val_main_v55
  rw [e]
  generalize val_main_v41 (F := Ideal) x0 x1 x3 x4 = y
  generalize between x3 x4 = z
  pointwise
  rfl

/-- The states are computed a second time for the second result, in the same way. -/
theorem v103_at (k : Fin 16) (g : Fin 8) (n : Fin 128) (h : Fin 6) (p : Fin 64) :
    val_main_v103 (F := Ideal) x0 x1 x3 x4 (ix4 k g n ⟨h.val * 64 + p.val, by omega⟩) = val_main_v57 (F := Ideal) x0 x1 x3 x4 (ix5 k g h p n) := by
  have e : val_main_v101 (F := Ideal) x0 x1 x3 x4 = val_main_v57 (F := Ideal) x0 x1 x3 x4 := rfl
  unfold val_main_v103 val_main_v102
  rw [e]
  generalize val_main_v57 (F := Ideal) x0 x1 x3 x4 = y
  pointwise
  blk_ext

theorem v29_at (k : Fin 16) (l : Fin 256) (g : Fin 8) (h : Fin 6) (p : Fin 64) :
    val_main_v29 (F := Ideal) x0 x1 x2 x3 x4 (ix5 k l g h p)
      = ∑ s : Fin 256, (scaled x0 x3 (ix5 k s g h p) : EReal) * decayed x1 x2 x3 x4 (ix5 g h k l s) := by
  have e0 : val_main_v10 (F := Ideal) x0 x3 = scaled x0 x3 := rfl
  have e1 : val_main_v27 (F := Ideal) x1 x2 x3 x4 = decayed x1 x2 x3 x4 := rfl
  unfold val_main_v29 val_main_v28
  rw [e0, e1]
  generalize scaled x0 x3 = y
  generalize decayed x1 x2 x3 x4 = z
  pointwise

theorem v64_at (k : Fin 16) (l : Fin 256) (g : Fin 8) (h : Fin 6) (p : Fin 64) :
    val_main_v64 (F := Ideal) x0 x1 x2 x3 x4 (ix5 k l g h p)
      = (∑ n : Fin 128, (val_main_v57 (F := Ideal) x0 x1 x3 x4 (ix5 k g h p n) : EReal) * x2 (ix2 (row k l) (stateCol g n)))
        * Ideal.exp (sums x3 x4 (ix4 g h k l)) := by
  simp only [← Cert.Ssd.v14_at x2]
  have e0 : val_main_v12 (F := Ideal) x2 = Cert.ReferenceIdeal.Read.val_main_v14 (F := Ideal) x2 := rfl
  have e1 : val_main_v13 (F := Ideal) x3 x4 = sums x3 x4 := rfl
  unfold val_main_v64 val_main_v63 val_main_v62 val_main_v61 val_main_v60 val_main_v59 val_main_v58
  rw [e0, e1]
  generalize Cert.ReferenceIdeal.Read.val_main_v14 (F := Ideal) x2 = z
  generalize sums x3 x4 = w
  generalize val_main_v57 (F := Ideal) x0 x1 x3 x4 = y
  pointwise

theorem v66_at (k : Fin 16) (l : Fin 256) (g : Fin 8) (h : Fin 6) (p : Fin 64) :
    val_main_v66 (F := Ideal) x0 x1 x2 x3 x4 (ix2 (row k l) (wideCol g h p))
      = (val_main_v29 (F := Ideal) x0 x1 x2 x3 x4 (ix5 k l g h p) : EReal) + val_main_v64 (F := Ideal) x0 x1 x2 x3 x4 (ix5 k l g h p) := by
  show _ = val_main_v65 (F := Ideal) x0 x1 x2 x3 x4 _
  unfold val_main_v66
  generalize val_main_v65 (F := Ideal) x0 x1 x2 x3 x4 = y
  pointwise [row, wideCol]
  blk_ext

theorem v71_at (r : Fin 4096) (g : Fin 8) (h : Fin 6) (p : Fin 64) :
    val_main_v71 (F := Ideal) x0 x5 (ix2 r (wideCol g h p)) = (x5 (ix1 (head g h)) : EReal) * x0 (ix2 r (wideCol g h p)) := by
  have e : val_main_v68 (F := Ideal) x5 (ix1 (wideCol g h p)) = x5 (ix1 (head g h)) := by
    pointwise [val_main_v68, val_main_v67, head, wideCol]
    blk_ext
  rw [← e]
  unfold val_main_v71 val_main_v70 val_main_v69
  generalize val_main_v68 (F := Ideal) x5 = y
  pointwise

theorem v72_at (k : Fin 16) (l : Fin 256) (g : Fin 8) (h : Fin 6) (p : Fin 64) :
    val_main_v72 (F := Ideal) x0 x1 x2 x3 x4 x5 (ix2 (row k l) (wideCol g h p))
      = ((val_main_v29 (F := Ideal) x0 x1 x2 x3 x4 (ix5 k l g h p) : EReal) + val_main_v64 (F := Ideal) x0 x1 x2 x3 x4 (ix5 k l g h p))
        + (x5 (ix1 (head g h)) : EReal) * x0 (ix2 (row k l) (wideCol g h p)) := by
  rw [← v66_at, ← v71_at]
  rfl

variable (a : Fin 8 → Fin 6 → Fin 16 → Fin 256 → ℝ)
  (ha : ∀ g r c l, Cert.ReferenceIdeal.Read.val_main_v6 (F := Ideal) x3 x4 (ix4 g r c l) = (a g r c l : EReal))

include ha

/-- Nothing comes before the first chunk. -/
theorem v57_first (g : Fin 8) (h : Fin 6) (p : Fin 64) (n : Fin 128) (k : Fin 16) (hk : k.val = 0) :
    val_main_v57 (F := Ideal) x0 x1 x3 x4 (ix5 k g h p n) = (0 : EReal) := by
  rw [v57_at]
  refine Finset.sum_eq_zero fun z _ => ?_
  by_cases hz : z = 0
  · rw [hz, v41_first]
    exact zero_mul _
  · have hz' : z.val ≠ 0 := fun e => hz (Fin.ext e)
    rw [between, Cert.Ssd.v57_above a ha g h k.castSucc z (by rw [Fin.val_castSucc]; omega)]
    exact mul_zero _

/-- One chunk on. -/
theorem v57_step (g : Fin 8) (h : Fin 6) (p : Fin 64) (n : Fin 128) (k k' : Fin 16) (hk : k'.val = k.val + 1) :
    val_main_v57 (F := Ideal) x0 x1 x3 x4 (ix5 k' g h p n)
      = (val_main_v38 (F := Ideal) x0 x1 x3 x4 (ix5 k g h p n) : EReal)
        + Ideal.exp (sums x3 x4 (ix4 g h k 255)) * val_main_v57 (F := Ideal) x0 x1 x3 x4 (ix5 k g h p n) := by
  rw [v57_at, v57_at, ← v41_later]
  have e : k'.castSucc = k.succ := Fin.ext (by rw [Fin.val_succ, Fin.val_castSucc]; omega)
  rw [e]
  have hE : Ideal.exp (sums x3 x4 (ix4 g h k 255)) = ((Real.exp (Cert.Ssd.upTo (a g h k) 255) : ℝ) : EReal) := by
    rw [sums, Cert.Ssd.v15_real a ha]
    rfl
  refine Cert.Ssd.weighted_step (fun z => val_main_v41 (F := Ideal) x0 x1 x3 x4 (ix5 z g h p n)) (fun z => between x3 x4 (ix4 g h k.succ z))
    (fun z => between x3 x4 (ix4 g h k.castSucc z)) _ ?_ ?_ k.succ ?_ ?_ fun z hz => ?_
  · rw [hE]
    exact EReal.coe_nonneg.mpr (Real.exp_pos _).le
  · rw [hE]
    exact EReal.coe_ne_top _
  · exact Cert.Ssd.v57_self a ha g h _
  · exact Cert.Ssd.v57_above a ha g h _ _ (by rw [Fin.val_castSucc, Fin.val_succ]; omega)
  · by_cases hlt : z.val ≤ k.val
    · exact Cert.Ssd.v57_next a ha g h k z hlt
    · have hne : z.val ≠ k.val + 1 := fun e => hz (Fin.ext (by rw [Fin.val_succ]; exact e))
      refine (Cert.Ssd.v57_above a ha g h _ z (by rw [Fin.val_succ]; omega)).trans ?_
      rw [between, Cert.Ssd.v57_above a ha g h k.castSucc z (by rw [Fin.val_castSucc]; omega), mul_zero]

end Cert.SsdF
-- ==== Proof.Ssd.Forward.Agree.lean ====
/- The forward pass of the state space mixer: the arrays the kernel leaves are the reference's. -/
module

public import proofs.«01_k».proof.Defs
public import proofs.«01_k».proof.Pre_steps_decay_forward
public import proofs.«01_k».proof.Proof.Gen.SsdF.Frame
public import proofs.«01_k».proof.Proof.Gen.SsdFRefIdeal.Run
public import proofs.«01_k».proof.Proof.Ssd.Equal
public import proofs.«01_k».proof.Proof.Ssd.Final
public import proofs.«01_k».proof.Proof.Ssd.Steps
public import proofs.«01_k».proof.Proof.Ssd.Forward.Reads
public import proofs.«01_k».proof.Proof.Ssd.Forward.Stages

@[expose] public section

set_option maxRecDepth 16384

noncomputable section

namespace Cert.SsdFIdeal.Ssd

open Idealize.ShloMosaic Idealize.ShloMosaic.TcCoe Idealize.SL.Sem
open Idealize.ShloMosaic.Pipeline (Dat)
open Cert.SsdFIdeal Cert.SsdFIdeal.Gen
open Cert.Ssd (row head wideCol stateCol)
open Cert.KernelIdeal.Ssd (col headOf_col segL sge_places col_cases wide_cases)
open Cert.SsdFRefIdeal.Read (val_main_v57 val_main_v72 val_main_v103)

variable (m : (ℓ : Loc nD τ sig) → Buf (Elt Ideal) ℓ) (c : Dev nD)
  (a : Fin 8 → Fin 6 → Fin 16 → Fin 256 → ℝ)
  (ha : ∀ g r k l, Cert.ReferenceIdeal.Read.val_main_v6 (F := Ideal) (X3 m c) (X4 m c) (ix4 g r k l) = (a g r k l : EReal))
  (hn : ∀ g r k l, a g r k l ≤ 0)

include ha

/-- The state a point finds is the reference's at the start of the point's chunk. -/
theorem carried_eq (t : Fin cfg0.N) (n : Fin 128) (h : Fin 6) (p : Fin 64) :
    carried m c t (ix2 n (col h p)) = val_main_v57 (F := Ideal) (X0 m c) (X1 m c) (X3 m c) (X4 m c) (ix5 (chk t) (grp t) h p n) := by
  obtain ⟨t, ht⟩ := t
  induction t using Nat.strong_induction_on generalizing n h p with
  | _ t ih =>
    by_cases h0 : t % 16 = 0
    · rw [carried_first m c ⟨t, ht⟩ h0, Cert.SsdF.v57_first _ _ _ _ a ha _ _ _ _ _ (by simp only [chk]; omega)]
      pointwise [k0_pay4]
    · have ht' : t - 1 < cfg0.N := by omega
      rw [carried_later m c ⟨t, ht⟩ h0]
      refine (state_out m c ⟨t - 1, ht'⟩ n (col h p)).trans ?_
      have eg : grp ⟨t - 1, ht'⟩ = grp ⟨t, ht⟩ := Fin.ext (by simp only [grp]; omega)
      rw [Cert.SsdF.v57_step _ _ _ _ a ha _ _ _ _ (chk ⟨t - 1, ht'⟩) (chk ⟨t, ht⟩) (by simp only [chk]; omega), Cert.SsdF.v38_at, ← eg,
        ← ih (t - 1) (by omega) n h p ht']
      unfold nextState
      simp only [Cert.SsdF.scaled, Cert.Ssd.v12_at, blk0_at, blk1_at, blk5_at, blk6_at]
      rw [add_comm]
      refine congrArg (fun z : EReal => z + _) (Fin.sum_fin_congr fun s => ?_)
      exact mul_comm _ _

theorem states_final : (dats m 0 c).arrAt 9 (cfgs 0).N = val_main_v103 (F := Ideal) (X0 m c) (X1 m c) (X3 m c) (X4 m c) := by
  refine (dats m 0 c).arrAt_eq_of_covers 9 _ (by decide +kernel) fun t _ y => ?_
  blk_simp
  rw [after0_9]
  obtain ⟨n, q, rfl⟩ : ∃ (n : Fin 128) (q : Fin 384), y = ix4 0 0 n q := ⟨y 2, y 3, by
    funext b
    fin_cases b
    · exact Fin.ext (Nat.lt_one_iff.1 (y 0).isLt)
    · exact Fin.ext (Nat.lt_one_iff.1 (y 1).isLt)
    · rfl
    · rfl⟩
  obtain ⟨h, p, rfl⟩ := col_cases q
  refine (sp_out m c t n (col h p)).trans ((carried_eq m c a ha t n h p).trans ((Cert.SsdF.v103_at _ _ _ _ _ _ _ _ _).symm.trans ?_))
  blk_ext [idx t, col, grp, chk]

include hn

theorem segL_eq (t : Fin cfg0.N) (h : Fin 6) (l s : Fin 256) :
    segL (iblk m c 3 t) (iblk m c 4 t) h l s
      = Cert.ReferenceIdeal.Read.val_main_v25 (F := Ideal) (X3 m c) (X4 m c) (ix5 (grp t) h (chk t) l s) := by
  rw [Cert.Ssd.v25_at a ha hn, segL, sge_places, blk3_at, blk4_at]

theorem y_eq (t : Fin cfg0.N) (l : Fin 256) (h : Fin 6) (p : Fin 64) :
    yDiag (X0_0 m c t) (iblk m c 5 t) (iblk m c 1 t) (iblk m c 2 t) (iblk m c 3 t) (iblk m c 4 t) l (col h p)
        + yOff (X0_0 m c t) (iblk m c 6 t) (iblk m c 2 t) (iblk m c 7 t) (carried m c t) l (col h p)
      = val_main_v72 (F := Ideal) (X0 m c) (X1 m c) (X2 m c) (X3 m c) (X4 m c) (X5 m c) (ix2 (row (chk t) l) (wideCol (grp t) h p)) := by
  rw [Cert.SsdF.v72_at, Cert.SsdF.v29_at, Cert.SsdF.v64_at, yDiag, yOff]
  simp only [Cert.SsdF.scaled, Cert.SsdF.decayed, headOf_col, segL_eq m c a ha hn, carried_eq m c a ha, blk0_at, blk1_at, blk2_at, blk5_at, blk6_at,
    blk7_at, Cert.Ssd.v29_at, Cert.Ssd.v12_at]
  rw [@add_assoc EReal]
  refine congrArg₂ (fun y z : EReal => y + z) (Fin.sum_fin_congr fun s => mul_comm _ _)
    (congrArg (fun z : EReal => z * _ + _) (Fin.sum_fin_congr fun n => mul_comm _ _))

theorem y_final : (dats m 0 c).arrAt 8 (cfgs 0).N
    = val_main_v72 (F := Ideal) (X0 m c) (X1 m c) (X2 m c) (X3 m c) (X4 m c) (X5 m c) := by
  refine (dats m 0 c).arrAt_eq_of_covers 8 _ (by decide +kernel) fun t _ y => ?_
  blk_simp
  rw [after0_8]
  obtain ⟨l, q, rfl⟩ := wide_cases y
  obtain ⟨h, p, rfl⟩ := col_cases q
  refine (y_out m c t l (col h p)).trans ((y_eq m c a ha hn t l h p).trans ?_)
  blk_ext [idx t, row, wideCol, col, grp, chk]

end Cert.SsdFIdeal.Ssd

namespace Cert.Pre_steps_decay_forward

open Idealize.ShloMosaic

/-- The side conditions of the precondition. -/
theorem facts_hold : Facts where
  bcast_S_S4096x48 := by decide
  reducesTo_S4096x48_S_d0_1 := by decide
  h_S_ := by decide
  bcast_S_S48 := by decide
  reducesTo_S48_S_d0 := by decide

end Cert.Pre_steps_decay_forward

namespace Cert.SsdF

open Idealize.ShloMosaic Idealize.SL.Sem
open Cert.SsdFIdeal.Ssd (X0 X1 X2 X3 X4 X5)
open Cert.SsdFRefIdeal.Read (val_main_v72 val_main_v103 val_main_v72_eq val_main_v103_eq)

theorem reference_frame : Cert.quiescent_SsdFRefIdeal (hSsdFRefIdeal := Cert.SsdFRefIdeal.Gen.facts) :=
  fun m ρ _ => (θ_run _ _ _).mono (fun r h => ⟨fun c => (h c).2.2, sem_eq_zero_of_no_sems (by decide) r.2⟩)
    (Cert.SsdFRefIdeal.Value.run (F := Ideal) m ρ)

/-- The value claim: under the precondition the kernel's output and its states are the reference's. -/
theorem agree [hp : Cert.Pre_steps_decay_forward.Facts] :
    Cert.algebraic_SsdFIdeal_SsdFRefIdeal_pre_steps_decay_forward (hSsdFIdeal := Cert.SsdFIdeal.Gen.facts)
      (hSsdFRefIdeal := Cert.SsdFRefIdeal.Gen.facts) := by
  intro m g m' g' hpre hargs
  refine ⟨fun c => val_main_v72 (F := Ideal) (X0 m c) (X1 m c) (X2 m c) (X3 m c) (X4 m c) (X5 m c),
    fun c => val_main_v103 (F := Ideal) (X0 m c) (X1 m c) (X3 m c) (X4 m c),
    (θ_run _ _ _).mono (fun r h c => ?_) (Cert.SsdFIdeal.Value.run_blocks (F := Ideal) m g),
    (θ_run _ _ _).mono (fun r h c => ?_) (Cert.SsdFRefIdeal.Value.run (F := Ideal) m' g')⟩
  · haveI := Cert.Pre_steps_decay.facts_hold
    obtain ⟨b8, b9, rest⟩ := h c
    obtain ⟨h3, h4⟩ := Cert.Ssd.steps_hold (X0 m c) (X1 m c) (X2 m c) (X3 m c) (X4 m c) (X5 m c) (X0 m c) (hpre c)
    have ha := Cert.Ssd.exponent_real (X3 m c) (X4 m c) h3 h4
    have hn := Cert.Ssd.exponent_nonpos (X3 m c) (X4 m c) h3
    exact ⟨b8.trans (Cert.SsdFIdeal.Ssd.y_final m c _ ha hn), b9.trans (Cert.SsdFIdeal.Ssd.states_final m c _ ha), rest⟩
  · have e0 : StableHlo.launchContents m' c (Proc.devRef .tc Cert.SsdFRefIdeal.main_arg0) = X0 m c := (hargs c).1
    have e1 : StableHlo.launchContents m' c (Proc.devRef .tc Cert.SsdFRefIdeal.main_arg1) = X1 m c := (hargs c).2.1
    have e2 : StableHlo.launchContents m' c (Proc.devRef .tc Cert.SsdFRefIdeal.main_arg2) = X2 m c := (hargs c).2.2.1
    have e3 : StableHlo.launchContents m' c (Proc.devRef .tc Cert.SsdFRefIdeal.main_arg3) = X3 m c := (hargs c).2.2.2.1
    have e4 : StableHlo.launchContents m' c (Proc.devRef .tc Cert.SsdFRefIdeal.main_arg4) = X4 m c := (hargs c).2.2.2.2.1
    have e5 : StableHlo.launchContents m' c (Proc.devRef .tc Cert.SsdFRefIdeal.main_arg5) = X5 m c := (hargs c).2.2.2.2.2
    obtain ⟨r0, r1, rest⟩ := h c
    refine ⟨?_, ?_, rest⟩
    · rw [r0.trans (val_main_v72_eq (StableHlo.launchContents m' c)), e0, e1, e2, e3, e4, e5]
    · rw [r1.trans (val_main_v103_eq (StableHlo.launchContents m' c)), e0, e1, e3, e4]

end Cert.SsdF
-- ==== Proof.Merge.Back.lean ====
/- The backward pass of the merge of the two mixers. -/
module

public import proofs.«01_k».proof.Defs
public import proofs.«01_k».proof.Proof.Prod.Laid
public import proofs.«01_k».proof.Proof.Gen.MergeB.Frame
public import proofs.«01_k».proof.Proof.Gen.MergeBIdeal.Value
public import proofs.«01_k».proof.Proof.Gen.MergeBRefIdeal.Run
public import proofs.«01_k».proof.Proof.Gen.MergeBRefIdeal.Read
public import Idealize.ShloMosaic.Lib.Pipeline.ValueKit
public import Idealize.ShloMosaic.Lib.Pipeline.ReadBack
public import Idealize.ShloMosaic.Lib.Pointwise
public import Idealize.ShloMosaic.Lib.StableHlo.RunRead
public import Idealize.ShloMosaic.Lib.Tactic.WordOmega
public import Idealize.ShloMosaic.Adequacy
public import Idealize.ShloMosaic.Init

@[expose] public section

set_option maxRecDepth 16384

noncomputable section

namespace Cert.MergeBIdeal.Merge

open Idealize.ShloMosaic Idealize.ShloMosaic.TcCoe Idealize.SL.Sem
open Idealize.ShloMosaic.Pipeline (Dat)
open Cert.MergeBIdeal Cert.MergeBIdeal.Gen
open Cert.InARefIdeal.Columns (laid)

variable (m : (ℓ : Loc nD τ sig) → Buf (Elt Ideal) ℓ) (c : Dev nD)

/-- The input projection, in the reference's order of columns. -/
abbrev Z : FVec Ideal S4096x13360 .f32 := m ((c : Thread nD τ).loc main_arg0)
/-- What the state space mixer gives. -/
abbrev Y : FVec Ideal S4096x2048 .f32 := m ((c : Thread nD τ).loc main_arg1)
/-- What the second mixer's projection gives, values and gates. -/
abbrev G : FVec Ideal S4096x4096 .f32 := m ((c : Thread nD τ).loc main_arg2)
/-- The cotangent. -/
abbrev D : FVec Ideal S4096x2048 .f32 := m ((c : Thread nD τ).loc main_arg3)

theorem idx : ∀ t : Fin cfg0.N, win0_0.index t = ![t.val / 2, t.val % 2] ∧ win0_1.index t = ![t.val / 2, 9 + t.val % 2] ∧
    win0_2.index t = ![t.val / 2, 11 + t.val % 2] ∧ win0_3.index t = ![t.val / 2, t.val % 2] ∧ win0_4.index t = ![t.val / 2, t.val % 2] ∧
    win0_5.index t = ![t.val / 2, 2 + t.val % 2] ∧ win0_6.index t = ![t.val / 2, t.val % 2] ∧ win0_7.index t = ![t.val / 2, t.val % 2] ∧
    win0_8.index t = ![t.val / 2, t.val % 2] ∧ win0_9.index t = ![t.val / 2, t.val % 2] ∧ win0_10.index t = ![t.val / 2, t.val % 2] :=
  (by decide +kernel : ∀ t : Fin grid0.N, _)

theorem bound (t : Fin cfg0.N) : t.val < 32 := lt_of_lt_of_eq t.isLt N_0

/-- The row of a point's tile. -/
def row (t : Fin cfg0.N) (p : Fin 256) : Fin 4096 := ⟨t.val / 2 * 256 + p.val, by have := bound t; omega⟩
/-- The column of a point's tile. -/
def col (t : Fin cfg0.N) (q : Fin 1024) : Fin 2048 := ⟨t.val % 2 * 1024 + q.val, by omega⟩

set_option maxHeartbeats 2000000 in
theorem V9 : V m c main_v9 = laid (Z m c) := by
  unfold V
  simp only [List.flatten_cons, List.flatten_nil, List.append_nil]
  after_reads_simp
  rfl

theorem laid_ga (z : FVec Ideal S4096x13360 .f32) (p : Fin 4096) (q : Fin 2048) : laid z (ix2 p ⟨9216 + q.val, by omega⟩) = z (ix2 p ⟨9264 + q.val, by omega⟩) := by
  pointwise [laid]
  repeat first | rw [dif_neg (by omega)] | rw [dif_pos (by omega)]
  try exact congrArg z (congrArg (ix2 p) (Fin.ext (by simp only; omega)))

theorem laid_gb (z : FVec Ideal S4096x13360 .f32) (p : Fin 4096) (q : Fin 2048) : laid z (ix2 p ⟨11264 + q.val, by omega⟩) = z (ix2 p ⟨11312 + q.val, by omega⟩) := by
  pointwise [laid]
  repeat first | rw [dif_neg (by omega)] | rw [dif_pos (by omega)]
  try exact congrArg z (congrArg (ix2 p) (Fin.ext (by simp only; omega)))

theorem blk0_at (t : Fin cfg0.N) (p : Fin 256) (q : Fin 1024) :
    (iblk m c 0 t : FVec Ideal S256x1024 .f32) (ix2 p q) = D m c (ix2 (row t p) (col t q)) := by
  blk_ext [iblk, idx t, row, col]

theorem blk1_at (t : Fin cfg0.N) (p : Fin 256) (q : Fin 1024) :
    (X0_1 m c t : FVec Ideal S256x1024 .f32) (ix2 p q) = Z m c (ix2 (row t p) ⟨9264 + (col t q).val, by omega⟩) := by
  refine (?_ : _ = (V m c main_v9 : FVec Ideal S4096x13440 .f32) (ix2 (row t p) ⟨9216 + (col t q).val, by omega⟩)).trans (by rw [V9, laid_ga])
  unfold X0_1 Pipeline.Window.fill
  rw [dif_pos (moved0_1 t _)]
  blk_ext [iblk, idx t, row, col]

theorem blk2_at (t : Fin cfg0.N) (p : Fin 256) (q : Fin 1024) :
    (X0_2 m c t : FVec Ideal S256x1024 .f32) (ix2 p q) = Z m c (ix2 (row t p) ⟨11312 + (col t q).val, by omega⟩) := by
  refine (?_ : _ = (V m c main_v9 : FVec Ideal S4096x13440 .f32) (ix2 (row t p) ⟨11264 + (col t q).val, by omega⟩)).trans (by rw [V9, laid_gb])
  unfold X0_2 Pipeline.Window.fill
  rw [dif_pos (moved0_2 t _)]
  blk_ext [iblk, idx t, row, col]

theorem blk3_at (t : Fin cfg0.N) (p : Fin 256) (q : Fin 1024) :
    (iblk m c 3 t : FVec Ideal S256x1024 .f32) (ix2 p q) = Y m c (ix2 (row t p) (col t q)) := by
  blk_ext [iblk, idx t, row, col]

theorem blk4_at (t : Fin cfg0.N) (p : Fin 256) (q : Fin 1024) :
    (iblk m c 4 t : FVec Ideal S256x1024 .f32) (ix2 p q) = G m c (ix2 (row t p) ⟨(col t q).val, by omega⟩) := by
  blk_ext [iblk, idx t, row, col]

theorem blk5_at (t : Fin cfg0.N) (p : Fin 256) (q : Fin 1024) :
    (iblk m c 5 t : FVec Ideal S256x1024 .f32) (ix2 p q) = G m c (ix2 (row t p) ⟨2048 + (col t q).val, by omega⟩) := by
  blk_ext [iblk, idx t, row, col]

theorem tile_cases (j : S256x1024.Idx) : ∃ (p : Fin 256) (q : Fin 1024), j = ix2 p q := ⟨j 0, j 1, by funext b; fin_cases b <;> rfl⟩

open Cert.MergeBRefIdeal.Read

/-- The sigmoid of the first gate, as the reference computes it. -/
theorem sa_at (z : FVec Ideal S4096x13360 .f32) (p : Fin 4096) (q : Fin 2048) :
    (val_main_v23 (F := Ideal) z (ix2 p q) : EReal) = Ideal.logistic (z (ix2 p ⟨9264 + q.val, by omega⟩)) := by
  pointwise [val_main_v26, val_main_v25, val_main_v24, val_main_v23, val_main_v22, val_main_v21, val_main_v20, val_main_v19, val_main_v18, val_main_v4, val_main_cst_2, val_main_cst_3, val_main_cst_4]
  rfl

/-- The sigmoid of the second gate. -/
theorem sb_at (z : FVec Ideal S4096x13360 .f32) (p : Fin 4096) (q : Fin 2048) :
    (val_main_v33 (F := Ideal) z (ix2 p q) : EReal) = Ideal.logistic (z (ix2 p ⟨11312 + q.val, by omega⟩)) := by
  pointwise [val_main_v36, val_main_v35, val_main_v34, val_main_v33, val_main_v32, val_main_v31, val_main_v30, val_main_v29, val_main_v28, val_main_v5, val_main_cst_5, val_main_cst_6, val_main_cst_7]
  rfl

/-- The sigmoid of the second mixer's own gate. -/
theorem sg_at (g : FVec Ideal S4096x4096 .f32) (p : Fin 4096) (q : Fin 2048) :
    (val_main_v13 (F := Ideal) g (ix2 p q) : EReal) = Ideal.logistic (g (ix2 p ⟨2048 + q.val, by omega⟩)) := by
  pointwise [val_main_v16, val_main_v15, val_main_v14, val_main_v13, val_main_v12, val_main_v11, val_main_v10, val_main_v9, val_main_v8, val_main_v7, val_main_cst, val_main_cst_0, val_main_cst_1]
  rfl

section

variable (z : FVec Ideal S4096x13360 .f32) (y d : FVec Ideal S4096x2048 .f32) (g : FVec Ideal S4096x4096 .f32) (p : Fin 4096) (q : Fin 2048)

theorem dga_at : (val_main_v50 (F := Ideal) z y d (ix2 p q) : EReal)
    = d (ix2 p q) * y (ix2 p q) * (Ideal.logistic (z (ix2 p ⟨9264 + q.val, by omega⟩)) * (1 - Ideal.logistic (z (ix2 p ⟨9264 + q.val, by omega⟩)))) := by
  rw [← sa_at]
  pointwise [val_main_v50, val_main_v46, val_main_v45, val_main_v39, val_main_v26, val_main_v25, val_main_v24, val_main_cst_4]

theorem dgb_at : (val_main_v51 (F := Ideal) z g d (ix2 p q) : EReal)
    = d (ix2 p q) * (g (ix2 p ⟨q.val, by omega⟩) * Ideal.logistic (g (ix2 p ⟨2048 + q.val, by omega⟩)))
      * (Ideal.logistic (z (ix2 p ⟨11312 + q.val, by omega⟩)) * (1 - Ideal.logistic (z (ix2 p ⟨11312 + q.val, by omega⟩)))) := by
  rw [← sb_at, ← sg_at]
  pointwise [val_main_v51, val_main_v43, val_main_v42, val_main_v40, val_main_v17, val_main_v6, val_main_v36, val_main_v35, val_main_v34, val_main_cst_7]

theorem dya_at : (val_main_v52 (F := Ideal) z d (ix2 p q) : EReal) = Ideal.logistic (z (ix2 p ⟨9264 + q.val, by omega⟩)) * d (ix2 p q) := by
  rw [← sa_at]
  pointwise [val_main_v52, val_main_v44, val_main_v39]

theorem dval_at : (val_main_v53 (F := Ideal) z g d (ix2 p q) : EReal)
    = Ideal.logistic (z (ix2 p ⟨11312 + q.val, by omega⟩)) * d (ix2 p q) * Ideal.logistic (g (ix2 p ⟨2048 + q.val, by omega⟩)) := by
  rw [← sb_at, ← sg_at]
  pointwise [val_main_v53, val_main_v48, val_main_v41, val_main_v40]

theorem dgate_at : (val_main_v54 (F := Ideal) z g d (ix2 p q) : EReal)
    = g (ix2 p ⟨q.val, by omega⟩) * (Ideal.logistic (z (ix2 p ⟨11312 + q.val, by omega⟩)) * d (ix2 p q))
      * (Ideal.logistic (g (ix2 p ⟨2048 + q.val, by omega⟩)) * (1 - Ideal.logistic (g (ix2 p ⟨2048 + q.val, by omega⟩)))) := by
  rw [← sb_at, ← sg_at]
  pointwise [val_main_v54, val_main_v49, val_main_v47, val_main_v41, val_main_v40, val_main_v6, val_main_v16, val_main_v15, val_main_v14, val_main_cst_1]

end

theorem dga_final : (dats m 0 c).arrAt 6 (cfgs 0).N = val_main_v50 (F := Ideal) (Z m c) (Y m c) (D m c) := by
  refine (dats m 0 c).arrAt_eq_of_covers 6 _ (by decide +kernel) fun t hf y => ?_
  blk_simp
  rw [after0_6, outsAt0]
  obtain ⟨p, q, rfl⟩ := tile_cases y
  frame_open
  frame_out
  try simp only [read_unread_whole]
  pointwise [k0_pay5, k0_pay2]
  simp only [blk0_at, blk1_at, blk3_at]
  refine Eq.trans ?_ ((dga_at (Z m c) (Y m c) (D m c) (row t p) (col t q)).symm.trans ?_)
  · exact @mul_assoc EReal _ _ _ _
  · blk_ext [idx t, row, col]

theorem dgb_final : (dats m 0 c).arrAt 7 (cfgs 0).N = val_main_v51 (F := Ideal) (Z m c) (G m c) (D m c) := by
  refine (dats m 0 c).arrAt_eq_of_covers 7 _ (by decide +kernel) fun t hf y => ?_
  blk_simp
  rw [after0_7, outsAt0]
  obtain ⟨p, q, rfl⟩ := tile_cases y
  frame_open
  frame_out
  try simp only [read_unread_whole]
  pointwise [k0_pay6, k0_pay4, k0_pay3]
  simp only [blk0_at, blk2_at, blk4_at, blk5_at]
  refine Eq.trans ?_ ((dgb_at (Z m c) (D m c) (G m c) (row t p) (col t q)).symm.trans ?_)
  · exact @mul_assoc EReal _ _ _ _
  · blk_ext [idx t, row, col]

theorem dya_final : (dats m 0 c).arrAt 8 (cfgs 0).N = val_main_v52 (F := Ideal) (Z m c) (D m c) := by
  refine (dats m 0 c).arrAt_eq_of_covers 8 _ (by decide +kernel) fun t hf y => ?_
  blk_simp
  rw [after0_8, outsAt0]
  obtain ⟨p, q, rfl⟩ := tile_cases y
  frame_open
  frame_out
  try simp only [read_unread_whole]
  pointwise [k0_pay7, k0_pay2]
  simp only [blk0_at, blk1_at]
  refine Eq.trans ?_ ((dya_at (Z m c) (D m c) (row t p) (col t q)).symm.trans ?_)
  · exact @mul_comm EReal _ _ _
  · blk_ext [idx t, row, col]

theorem dval_final : (dats m 0 c).arrAt 9 (cfgs 0).N = val_main_v53 (F := Ideal) (Z m c) (G m c) (D m c) := by
  refine (dats m 0 c).arrAt_eq_of_covers 9 _ (by decide +kernel) fun t hf y => ?_
  blk_simp
  rw [after0_9, outsAt0]
  obtain ⟨p, q, rfl⟩ := tile_cases y
  frame_open
  frame_out
  try simp only [read_unread_whole]
  pointwise [k0_pay1, k0_pay2, k0_pay3, k0_pay4, k0_pay8, k0_pay9]
  simp only [blk0_at, blk2_at, blk5_at]
  refine Eq.trans ?_ ((dval_at (Z m c) (D m c) (G m c) (row t p) (col t q)).symm.trans ?_)
  · exact congrArg (fun x : EReal => x * _) (@mul_comm EReal _ _ _)
  · blk_ext [idx t, row, col]

theorem dgate_final : (dats m 0 c).arrAt 10 (cfgs 0).N = val_main_v54 (F := Ideal) (Z m c) (G m c) (D m c) := by
  refine (dats m 0 c).arrAt_eq_of_covers 10 _ (by decide +kernel) fun t hf y => ?_
  blk_simp
  rw [after0_10, outsAt0]
  obtain ⟨p, q, rfl⟩ := tile_cases y
  frame_open
  frame_out
  try simp only [read_unread_whole]
  pointwise [k0_pay1, k0_pay2, k0_pay3, k0_pay4, k0_pay8, k0_pay9]
  simp only [blk0_at, blk2_at, blk4_at, blk5_at]
  refine Eq.trans ?_ ((dgate_at (Z m c) (D m c) (G m c) (row t p) (col t q)).symm.trans ?_)
  · exact (@mul_assoc EReal _ _ _ _).trans
      (congrArg (fun x : EReal => x * _) ((@mul_comm EReal _ _ _).trans (congrArg (fun x : EReal => _ * x) (@mul_comm EReal _ _ _))))
  · blk_ext [idx t, row, col]

end Cert.MergeBIdeal.Merge

namespace Cert.MergeB

open Idealize.ShloMosaic Idealize.SL.Sem
open Cert.MergeBIdeal.Merge (Z Y G D)
open Cert.MergeBRefIdeal.Read

theorem reference_frame : Cert.quiescent_MergeBRefIdeal (hMergeBRefIdeal := Cert.MergeBRefIdeal.Gen.facts) :=
  fun m ρ _ => (θ_run _ _ _).mono (fun r h => ⟨fun c => (h c).2.2.2.2.2, sem_eq_zero_of_no_sems (by decide) r.2⟩)
    (Cert.MergeBRefIdeal.Value.run (F := Ideal) m ρ)

/-- The kernel's five gradients are the reference's. -/
theorem agree : Cert.algebraic_MergeBIdeal_MergeBRefIdeal (hMergeBIdeal := Cert.MergeBIdeal.Gen.facts)
    (hMergeBRefIdeal := Cert.MergeBRefIdeal.Gen.facts) := by
  intro m g m' g' _ hargs
  refine ⟨fun c => val_main_v50 (F := Ideal) (Z m c) (Y m c) (D m c), fun c => val_main_v51 (F := Ideal) (Z m c) (G m c) (D m c),
    fun c => val_main_v52 (F := Ideal) (Z m c) (D m c), fun c => val_main_v53 (F := Ideal) (Z m c) (G m c) (D m c),
    fun c => val_main_v54 (F := Ideal) (Z m c) (G m c) (D m c),
    (θ_run _ _ _).mono (fun r h c => ?_) (Cert.MergeBIdeal.Value.run_blocks (F := Ideal) m g),
    (θ_run _ _ _).mono (fun r h c => ?_) (Cert.MergeBRefIdeal.Value.run (F := Ideal) m' g')⟩
  · obtain ⟨h6, h7, h8, h9, h10, h⟩ := h c
    exact ⟨h6.trans (Cert.MergeBIdeal.Merge.dga_final m c), h7.trans (Cert.MergeBIdeal.Merge.dgb_final m c),
      h8.trans (Cert.MergeBIdeal.Merge.dya_final m c), h9.trans (Cert.MergeBIdeal.Merge.dval_final m c),
      h10.trans (Cert.MergeBIdeal.Merge.dgate_final m c), h⟩
  · obtain ⟨h6, h7, h8, h9, h10, h⟩ := h c
    obtain ⟨e0, e1, e2, e3⟩ := hargs c
    refine ⟨h6.trans ?_, h7.trans ?_, h8.trans ?_, h9.trans ?_, h10.trans ?_, h⟩
    · rw [val_main_v50_eq, e0, e1, e3]
    · rw [val_main_v51_eq, e0, e2, e3]
    · rw [val_main_v52_eq, e0, e3]
    · rw [val_main_v53_eq, e0, e2, e3]
    · rw [val_main_v54_eq, e0, e2, e3]

end Cert.MergeB
-- ==== Proof.Merge.Forward.lean ====
/- The merge of the two mixers. -/
module

public import proofs.«01_k».proof.Defs
public import proofs.«01_k».proof.Proof.Merge.Back
public import proofs.«01_k».proof.Proof.Gen.MergeF.Frame
public import proofs.«01_k».proof.Proof.Gen.MergeFIdeal.Value
public import proofs.«01_k».proof.Proof.Gen.MergeFRefIdeal.Run
public import proofs.«01_k».proof.Proof.Gen.MergeFRefIdeal.Read
public import Idealize.ShloMosaic.Lib.Pipeline.ValueKit
public import Idealize.ShloMosaic.Lib.Pipeline.ReadBack
public import Idealize.ShloMosaic.Lib.Pointwise
public import Idealize.ShloMosaic.Lib.StableHlo.RunRead
public import Idealize.ShloMosaic.Lib.Tactic.WordOmega
public import Idealize.ShloMosaic.Adequacy
public import Idealize.ShloMosaic.Init

@[expose] public section

set_option maxRecDepth 16384

noncomputable section

namespace Cert.MergeFIdeal.Merge

open Idealize.ShloMosaic Idealize.ShloMosaic.TcCoe Idealize.SL.Sem
open Idealize.ShloMosaic.Pipeline (Dat)
open Cert.MergeFIdeal Cert.MergeFIdeal.Gen
open Cert.InARefIdeal.Columns (laid)
open Cert.MergeBIdeal.Merge (laid_ga laid_gb tile_cases sa_at sb_at sg_at)
open Cert.MergeFRefIdeal.Read (val_main_v6 val_main_v13 val_main_v14 val_main_v20 val_main_v21 val_main_v27 val_main_v28 val_main_v29 val_main_v30)

variable (m : (ℓ : Loc nD τ sig) → Buf (Elt Ideal) ℓ) (c : Dev nD)

/-- The input projection, in the reference's order of columns. -/
abbrev Z : FVec Ideal S4096x13360 .f32 := m ((c : Thread nD τ).loc main_arg0)
/-- What the state space mixer gives. -/
abbrev Y : FVec Ideal S4096x2048 .f32 := m ((c : Thread nD τ).loc main_arg1)
/-- What the second mixer's projection gives, values and gates. -/
abbrev G : FVec Ideal S4096x4096 .f32 := m ((c : Thread nD τ).loc main_arg2)

theorem idx : ∀ t : Fin cfg0.N, win0_0.index t = ![t.val / 2, 9 + t.val % 2] ∧ win0_1.index t = ![t.val / 2, 11 + t.val % 2] ∧
    win0_2.index t = ![t.val / 2, t.val % 2] ∧ win0_3.index t = ![t.val / 2, t.val % 2] ∧ win0_4.index t = ![t.val / 2, 2 + t.val % 2] ∧
    win0_5.index t = ![t.val / 2, t.val % 2] :=
  (by decide +kernel : ∀ t : Fin grid0.N, _)

/-- The row of a point's tile. -/
def row (t : Fin cfg0.N) (p : Fin 256) : Fin 4096 := ⟨t.val / 2 * 256 + p.val, by have : t.val < 32 := lt_of_lt_of_eq t.isLt N_0; omega⟩
/-- The column of a point's tile. -/
def col (t : Fin cfg0.N) (q : Fin 1024) : Fin 2048 := ⟨t.val % 2 * 1024 + q.val, by omega⟩

set_option maxHeartbeats 2000000 in
theorem V9 : V m c main_v9 = laid (Z m c) := by
  unfold V
  simp only [List.flatten_cons, List.flatten_nil, List.append_nil]
  after_reads_simp
  rfl

theorem ga_at (t : Fin cfg0.N) (p : Fin 256) (q : Fin 1024) :
    (X0_0 m c t : FVec Ideal S256x1024 .f32) (ix2 p q) = Z m c (ix2 (row t p) ⟨9264 + (col t q).val, by omega⟩) := by
  refine (?_ : _ = (V m c main_v9 : FVec Ideal S4096x13440 .f32) (ix2 (row t p) ⟨9216 + (col t q).val, by omega⟩)).trans (by rw [V9, laid_ga])
  unfold X0_0 Pipeline.Window.fill
  rw [dif_pos (moved0_0 t _)]
  blk_ext [iblk, idx t, row, col]

theorem gb_at (t : Fin cfg0.N) (p : Fin 256) (q : Fin 1024) :
    (X0_1 m c t : FVec Ideal S256x1024 .f32) (ix2 p q) = Z m c (ix2 (row t p) ⟨11312 + (col t q).val, by omega⟩) := by
  refine (?_ : _ = (V m c main_v9 : FVec Ideal S4096x13440 .f32) (ix2 (row t p) ⟨11264 + (col t q).val, by omega⟩)).trans (by rw [V9, laid_gb])
  unfold X0_1 Pipeline.Window.fill
  rw [dif_pos (moved0_1 t _)]
  blk_ext [iblk, idx t, row, col]

theorem y_at (t : Fin cfg0.N) (p : Fin 256) (q : Fin 1024) :
    (iblk m c 2 t : FVec Ideal S256x1024 .f32) (ix2 p q) = Y m c (ix2 (row t p) (col t q)) := by
  blk_ext [iblk, idx t, row, col]

theorem val_at (t : Fin cfg0.N) (p : Fin 256) (q : Fin 1024) :
    (iblk m c 3 t : FVec Ideal S256x1024 .f32) (ix2 p q) = G m c (ix2 (row t p) ⟨(col t q).val, by omega⟩) := by
  blk_ext [iblk, idx t, row, col]

theorem gate_at (t : Fin cfg0.N) (p : Fin 256) (q : Fin 1024) :
    (iblk m c 4 t : FVec Ideal S256x1024 .f32) (ix2 p q) = G m c (ix2 (row t p) ⟨2048 + (col t q).val, by omega⟩) := by
  blk_ext [iblk, idx t, row, col]

theorem merged_at (z : FVec Ideal S4096x13360 .f32) (y : FVec Ideal S4096x2048 .f32) (g : FVec Ideal S4096x4096 .f32) (p : Fin 4096) (q : Fin 2048) :
    (val_main_v30 (F := Ideal) z y g (ix2 p q) : EReal) = Ideal.logistic (z (ix2 p ⟨9264 + q.val, by omega⟩)) * y (ix2 p q)
      + Ideal.logistic (z (ix2 p ⟨11312 + q.val, by omega⟩)) * (g (ix2 p ⟨q.val, by omega⟩) * Ideal.logistic (g (ix2 p ⟨2048 + q.val, by omega⟩))) := by
  rw [← sa_at, ← sb_at, ← sg_at]
  have ea : val_main_v20 (F := Ideal) z = Cert.MergeBRefIdeal.Read.val_main_v23 z := rfl
  have eb : val_main_v27 (F := Ideal) z = Cert.MergeBRefIdeal.Read.val_main_v33 z := rfl
  have eg : val_main_v13 (F := Ideal) g = Cert.MergeBRefIdeal.Read.val_main_v13 g := rfl
  pointwise [val_main_v30, val_main_v29, val_main_v28, val_main_v21, val_main_v14, val_main_v6, ea, eb, eg]

theorem final : (dats m 0 c).arrAt 5 (cfgs 0).N = val_main_v30 (F := Ideal) (Z m c) (Y m c) (G m c) := by
  refine (dats m 0 c).arrAt_eq_of_covers 5 _ (by decide +kernel) fun t hf y => ?_
  blk_simp
  rw [after0_5, outsAt0]
  obtain ⟨p, q, rfl⟩ := tile_cases y
  frame_open
  frame_out
  try simp only [read_unread_whole]
  pointwise [k0_pay1]
  simp only [ga_at, gb_at, y_at, val_at, gate_at]
  refine (merged_at (Z m c) (Y m c) (G m c) (row t p) (col t q)).symm.trans ?_
  blk_ext [idx t, row, col]

end Cert.MergeFIdeal.Merge

namespace Cert.MergeF

open Idealize.ShloMosaic Idealize.SL.Sem
open Cert.MergeFIdeal.Merge (Z Y G)

theorem reference_frame : Cert.quiescent_MergeFRefIdeal (hMergeFRefIdeal := Cert.MergeFRefIdeal.Gen.facts) :=
  fun m ρ _ => (θ_run _ _ _).mono (fun r h => ⟨fun c => (h c).2, sem_eq_zero_of_no_sems (by decide) r.2⟩)
    (Cert.MergeFRefIdeal.Value.run (F := Ideal) m ρ)

/-- The kernel's merge is the reference's. -/
theorem agree : Cert.algebraic_MergeFIdeal_MergeFRefIdeal (hMergeFIdeal := Cert.MergeFIdeal.Gen.facts)
    (hMergeFRefIdeal := Cert.MergeFRefIdeal.Gen.facts) := by
  intro m g m' g' _ hargs
  refine ⟨fun c => Cert.MergeFRefIdeal.Read.val_main_v30 (F := Ideal) (Z m c) (Y m c) (G m c),
    (θ_run _ _ _).mono (fun r h c => ⟨(h c).1.trans (Cert.MergeFIdeal.Merge.final m c), (h c).2⟩)
      (Cert.MergeFIdeal.Value.run_blocks (F := Ideal) m g),
    (θ_run _ _ _).mono (fun r h c => ⟨(h c).1.trans ?_, (h c).2⟩) (Cert.MergeFRefIdeal.Value.run (F := Ideal) m' g')⟩
  rw [Cert.MergeFRefIdeal.Read.val_main_v30_eq, (hargs c).1, (hargs c).2.1, (hargs c).2.2]

end Cert.MergeF
-- ==== Proof.Mixer.Blocks.lean ====
/- The S5 mixer works on eight channel groups at a time: the matrices of eight groups stand on the diagonal of a block of zeros.
   Here is what a block holds at an index, and that a sum over a block's row or column is the sum over the one group that is not zero. -/
module

public import proofs.«01_k».proof.Proof.Prod.Laid
public import proofs.«01_k».proof.Proof.Prod.Tiles
public import proofs.«01_k».proof.Proof.Gen.StInIdeal
public import proofs.«01_k».proof.Proof.Gen.StOutIdeal
public import Idealize.ShloMosaic.Lib.Pipeline.ValueKit
public import Idealize.ShloMosaic.Lib.Pointwise

@[expose] public section

set_option maxRecDepth 16384

noncomputable section

namespace Cert.Mixer

open Idealize.ShloMosaic
open Cert.InARefIdeal.Columns (laid)

/-- A group among the eight of a block. -/
def group (j g : Fin 8) : Fin 64 := ⟨j.val * 8 + g.val, by omega⟩
/-- A channel of a group, in the block of its eight groups. -/
def chan (g : Fin 8) (e : Fin 16) : Fin 128 := ⟨g.val * 16 + e.val, by omega⟩
/-- A state of a group, in the block of its eight groups. -/
def state (g : Fin 8) (p : Fin 64) : Fin 512 := ⟨g.val * 64 + p.val, by omega⟩
/-- A channel of a group, among all. -/
def chanAll (g : Fin 64) (e : Fin 16) : Fin 1024 := ⟨g.val * 16 + e.val, by omega⟩
/-- A state of a group, among all. -/
def stateAll (g : Fin 64) (p : Fin 64) : Fin 4096 := ⟨g.val * 64 + p.val, by omega⟩

theorem chan_cases (q : Fin 128) : ∃ g e, q = chan g e := ⟨⟨q.val / 16, by omega⟩, ⟨q.val % 16, by omega⟩, Fin.ext (by simp only [chan]; omega)⟩
theorem state_cases (q : Fin 512) : ∃ g p, q = state g p := ⟨⟨q.val / 64, by omega⟩, ⟨q.val % 64, by omega⟩, Fin.ext (by simp only [state]; omega)⟩

/-- A sum over a block's channels of what vanishes but for one group. -/
theorem sum_chan (f : Fin 128 → EReal) (h : Fin 8) (z : ∀ g, g ≠ h → ∀ e, f (chan g e) = 0) : ∑ s, f s = ∑ e, f (chan h e) := by
  rw [Fin.sum_univ_tiles 8 16 (by decide) f]
  refine (Finset.sum_eq_single h (fun g _ hg => Finset.sum_eq_zero fun e _ => z g hg e) (fun hn => absurd (Finset.mem_univ _) hn)).trans ?_
  rfl

/-- A sum over a block's states of what vanishes but for one group. -/
theorem sum_state (f : Fin 512 → EReal) (h : Fin 8) (z : ∀ g, g ≠ h → ∀ p, f (state g p) = 0) : ∑ s, f s = ∑ p, f (state h p) := by
  rw [Fin.sum_univ_tiles 8 64 (by decide) f]
  refine (Finset.sum_eq_single h (fun g _ hg => Finset.sum_eq_zero fun e _ => z g hg e) (fun hn => absurd (Finset.mem_univ _) hn)).trans ?_
  rfl

section
open Cert.StInIdeal Cert.StInIdeal.Gen

/-- The identity. -/
def eye : FVec Ideal S8x8 .f32 :=
  uitofp (F := Ideal) .f32 (cmpi .eq (addi (iotaInDim S8x8 32 0) (broadcastInDim S8x8 ![] bcast_S_S8x8 (constantI S_ 32 0#32))) (iotaInDim S8x8 32 1))

theorem eye_same (g : Fin 8) : (eye (ix2 g g) : EReal) = 1 := by
  pointwise [eye]
  rw [show IntOp.cmpi CmpIPredicate.eq (IntOp.addi (BitVec.ofNat 32 g.val) 0#32) (BitVec.ofNat 32 g.val) = 1#1 by revert g; decide]
  show (((1#1 : BitVec 1).toNat : ℝ) : EReal) = 1
  simp

theorem eye_other (g h : Fin 8) (n : g ≠ h) : (eye (ix2 g h) : EReal) = 0 := by
  pointwise [eye]
  rw [show IntOp.cmpi CmpIPredicate.eq (IntOp.addi (BitVec.ofNat 32 g.val) 0#32) (BitVec.ofNat 32 h.val) = 0#1 by revert g h; decide]
  show (((0#1 : BitVec 1).toNat : ℝ) : EReal) = 0
  simp

/-- The blocks that carry channels into states. -/
def inBlocks (b : FVec Ideal S64x64x16 .f32) : FVec Ideal S8x128x512 .f32 :=
  shapeCast S8x128x512 (mulf
    (broadcastInDim S8x8x16x8x64 ![0, 1, 2, 3, 4] bcast_S8x8x16x1x64_S8x8x16x8x64_0_1_2_3_4
      (broadcastInDim S8x8x16x1x64 ![0, 1, 2, 4] bcast_S8x8x16x64_S8x8x16x1x64_0_1_2_4
        (transpose S8x8x16x64 [0, 1, 3, 2] (shapeCast S8x8x64x16 b shapeCasts_S64x64x16_S8x8x64x16) transposes_S8x8x64x16_S8x8x16x64_0_1_3_2)))
    (broadcastInDim S8x8x16x8x64 ![0, 1, 2, 3, 4] bcast_S1x8x1x8x1_S8x8x16x8x64_0_1_2_3_4
      (broadcastInDim S1x8x1x8x1 ![1, 2, 3, 4] bcast_S8x1x8x1_S1x8x1x8x1_1_2_3_4 (broadcastInDim S8x1x8x1 ![0, 2] bcast_S8x8_S8x1x8x1_0_2 eye))))
    shapeCasts_S8x8x16x8x64_S8x128x512

theorem inBlocks_at (b : FVec Ideal S64x64x16 .f32) (j g h : Fin 8) (e : Fin 16) (p : Fin 64) :
    (inBlocks b (ix3 j (chan g e) (state h p)) : EReal) = b (ix3 (group j g) p e) * eye (ix2 g h) := by
  pointwise [inBlocks, chan, state, group]

theorem inBlocks_same (b : FVec Ideal S64x64x16 .f32) (j g : Fin 8) (e : Fin 16) (p : Fin 64) :
    (inBlocks b (ix3 j (chan g e) (state g p)) : EReal) = b (ix3 (group j g) p e) := by
  rw [inBlocks_at, eye_same, mul_one]

theorem inBlocks_other (b : FVec Ideal S64x64x16 .f32) (j g h : Fin 8) (n : g ≠ h) (e : Fin 16) (p : Fin 64) :
    (inBlocks b (ix3 j (chan g e) (state h p)) : EReal) = 0 := by
  rw [inBlocks_at, eye_other g h n, mul_zero]

/-- The S5 mixer's columns of the input projection, where the kernel keeps them. -/
theorem laid_u (z : FVec Ideal S4096x13360 .f32) (l : Fin 4096) (q : Fin 1024) :
    laid z (ix2 l ⟨8192 + q.val, by omega⟩) = z (ix2 l ⟨8240 + q.val, by omega⟩) := by
  pointwise [laid]
  repeat first | rw [dif_neg (by omega)] | rw [dif_pos (by omega)]
  try exact congrArg z (congrArg (ix2 l) (Fin.ext (by simp only; omega)))

end

section
open Cert.StOutIdeal Cert.StOutIdeal.Gen

/-- The blocks that carry states into channels. -/
def outBlocks (b : FVec Ideal S64x16x64 .f32) : FVec Ideal S8x512x128 .f32 :=
  shapeCast S8x512x128 (mulf
    (broadcastInDim S8x8x64x8x16 ![0, 1, 2, 3, 4] bcast_S8x8x64x1x16_S8x8x64x8x16_0_1_2_3_4
      (broadcastInDim S8x8x64x1x16 ![0, 1, 2, 4] bcast_S8x8x64x16_S8x8x64x1x16_0_1_2_4
        (transpose S8x8x64x16 [0, 1, 3, 2] (shapeCast S8x8x16x64 b shapeCasts_S64x16x64_S8x8x16x64) transposes_S8x8x16x64_S8x8x64x16_0_1_3_2)))
    (broadcastInDim S8x8x64x8x16 ![0, 1, 2, 3, 4] bcast_S1x8x1x8x1_S8x8x64x8x16_0_1_2_3_4
      (broadcastInDim S1x8x1x8x1 ![1, 2, 3, 4] bcast_S8x1x8x1_S1x8x1x8x1_1_2_3_4 (broadcastInDim S8x1x8x1 ![0, 2] bcast_S8x8_S8x1x8x1_0_2 eye))))
    shapeCasts_S8x8x64x8x16_S8x512x128

theorem outBlocks_at (b : FVec Ideal S64x16x64 .f32) (j g h : Fin 8) (p : Fin 64) (e : Fin 16) :
    (outBlocks b (ix3 j (state g p) (chan h e)) : EReal) = b (ix3 (group j g) e p) * eye (ix2 g h) := by
  pointwise [outBlocks, chan, state, group]

theorem outBlocks_same (b : FVec Ideal S64x16x64 .f32) (j g : Fin 8) (p : Fin 64) (e : Fin 16) :
    (outBlocks b (ix3 j (state g p) (chan g e)) : EReal) = b (ix3 (group j g) e p) := by
  rw [outBlocks_at, eye_same, mul_one]

theorem outBlocks_other (b : FVec Ideal S64x16x64 .f32) (j g h : Fin 8) (n : g ≠ h) (p : Fin 64) (e : Fin 16) :
    (outBlocks b (ix3 j (state g p) (chan h e)) : EReal) = 0 := by
  rw [outBlocks_at, eye_other g h n, mul_zero]

end

end Cert.Mixer
-- ==== Proof.Mixer.Into.lean ====
/- What the S5 mixer adds to its states: the channels of a group times its matrix. -/
module

public import proofs.«01_k».proof.Defs
public import proofs.«01_k».proof.Proof.Mixer.Blocks
public import proofs.«01_k».proof.Proof.Gen.StIn.Frame
public import proofs.«01_k».proof.Proof.Gen.StInIdeal.Value
public import proofs.«01_k».proof.Proof.Gen.StInRefIdeal.Run
public import proofs.«01_k».proof.Proof.Gen.StInRefIdeal.Read
public import Idealize.ShloMosaic.Lib.Pipeline.ReadBack
public import Idealize.ShloMosaic.Lib.StableHlo.RunRead
public import Idealize.ShloMosaic.Lib.Tactic.WordOmega
public import Idealize.ShloMosaic.Adequacy
public import Idealize.ShloMosaic.Init

@[expose] public section

set_option maxRecDepth 16384

noncomputable section

namespace Cert.StInIdeal.Mixer

open Idealize.ShloMosaic Idealize.ShloMosaic.TcCoe Idealize.SL.Sem
open Idealize.ShloMosaic.Pipeline (Dat)
open Cert.StInIdeal Cert.StInIdeal.Gen Cert.Mixer
open Cert.InARefIdeal.Columns (laid)
open Cert.StInRefIdeal.Read (val_main_v3 val_main_v6 val_main_v7 val_main_v8 val_main_v9 val_main_v12)

variable (m : (ℓ : Loc nD τ sig) → Buf (Elt Ideal) ℓ) (c : Dev nD)

/-- The input projection, in the reference's order of columns. -/
abbrev Z : FVec Ideal S4096x13360 .f32 := m ((c : Thread nD τ).loc main_arg0)
/-- The real and the imaginary parts of the groups' matrices. -/
abbrev Br : FVec Ideal S64x64x16 .f32 := m ((c : Thread nD τ).loc main_arg1)
@[inherit_doc Br] abbrev Bi : FVec Ideal S64x64x16 .f32 := m ((c : Thread nD τ).loc main_arg2)

theorem idx : ∀ t : Fin cfg0.N, win0_0.index t = ![t.val / 8, 64 + t.val % 8] ∧ win0_1.index t = ![t.val % 8, 0, 0] ∧
    win0_2.index t = ![t.val % 8, 0, 0] ∧ win0_3.index t = ![t.val / 8, t.val % 8] ∧ win0_4.index t = ![t.val / 8, t.val % 8] :=
  (by decide +kernel : ∀ t : Fin grid0.N, _)

/-- The row of a point's tile. -/
def row (t : Fin cfg0.N) (l : Fin 1024) : Fin 4096 := ⟨t.val / 8 * 1024 + l.val, by have : t.val < 32 := lt_of_lt_of_eq t.isLt N_0; omega⟩
/-- The block of eight groups of a point. -/
def eight (t : Fin cfg0.N) : Fin 8 := ⟨t.val % 8, by omega⟩

set_option maxHeartbeats 2000000 in
theorem V9 : V m c main_v9 = laid (Z m c) := by
  unfold V
  simp only [List.flatten_cons, List.flatten_nil, List.append_nil]
  after_reads_simp
  rfl

set_option maxHeartbeats 2000000 in
theorem V25 : V m c main_v25 = truncf .bf16 (inBlocks (Br m c)) bitsLt_bf16_f32 := by
  unfold V
  simp only [List.flatten_cons, List.flatten_nil, List.append_nil]
  after_reads_simp
  rfl

set_option maxHeartbeats 2000000 in
theorem V41 : V m c main_v41 = truncf .bf16 (inBlocks (Bi m c)) bitsLt_bf16_f32 := by
  unfold V
  simp only [List.flatten_cons, List.flatten_nil, List.append_nil]
  after_reads_simp
  rfl

theorem u_at (t : Fin cfg0.N) (l : Fin 1024) (g : Fin 8) (e : Fin 16) :
    (iblk m c 0 t : FVec Ideal S1024x128 .f32) (ix2 l (chan g e))
      = Z m c (ix2 (row t l) ⟨8240 + (chanAll (group (eight t) g) e).val, by have := (chanAll (group (eight t) g) e).isLt; omega⟩) := by
  refine (?_ : _ = (V m c main_v9 : FVec Ideal S4096x13440 .f32) (ix2 (row t l) ⟨8192 + (chanAll (group (eight t) g) e).val,
    by have := (chanAll (group (eight t) g) e).isLt; omega⟩)).trans (by rw [V9, laid_u])
  blk_ext [iblk, idx t, row, chan, chanAll, group, eight]

theorem br_at (t : Fin cfg0.N) (s : Fin 128) (q : Fin 512) :
    (iblk m c 1 t : FVec Ideal S1x128x512 .bf16) (ix3 0 s q) = inBlocks (Br m c) (ix3 (eight t) s q) := by
  refine (?_ : _ = (V m c main_v25 : FVec Ideal S8x128x512 .bf16) (ix3 (eight t) s q)).trans (by rw [V25]; rfl)
  blk_ext [iblk, idx t, eight]

theorem bi_at (t : Fin cfg0.N) (s : Fin 128) (q : Fin 512) :
    (iblk m c 2 t : FVec Ideal S1x128x512 .bf16) (ix3 0 s q) = inBlocks (Bi m c) (ix3 (eight t) s q) := by
  refine (?_ : _ = (V m c main_v41 : FVec Ideal S8x128x512 .bf16) (ix3 (eight t) s q)).trans (by rw [V41]; rfl)
  blk_ext [iblk, idx t, eight]

theorem tile (u : Vec Ideal S1024x128 .f32) (b : Vec Ideal S1x128x512 .bf16) (l : Fin 1024) (q : Fin 512) :
    k0_pay2 (F := Ideal) u b (ix2 l q) = ∑ s : Fin 128, (u (ix2 l s) : EReal) * b (ix3 0 s q) := by
  pointwise [k0_pay2, k0_pay1]

/-- The two results are the same product, of other matrices. -/
theorem pay3_eq (u : Vec Ideal S1024x128 .f32) (b : Vec Ideal S1x128x512 .bf16) : k0_pay3 (F := Ideal) u b = k0_pay2 u b := rfl

theorem reference_at (z : FVec Ideal S4096x13360 .f32) (b : FVec Ideal S64x64x16 .f32) (l : Fin 4096) (g p : Fin 64) :
    (val_main_v9 (F := Ideal) z b (ix2 l (stateAll g p)) : EReal)
      = ∑ e : Fin 16, (z (ix2 l ⟨8240 + (chanAll g e).val, by have := (chanAll g e).isLt; omega⟩) : EReal) * b (ix3 g p e) := by
  pointwise [val_main_v9, val_main_v8, val_main_v7, val_main_v6, val_main_v3, stateAll, chanAll]

/-- What a point computes is the reference's product in its tile. -/
theorem tile_eq (t : Fin cfg0.N) (b : FVec Ideal S64x64x16 .f32) (y : Vec Ideal S1x128x512 .bf16)
    (hy : ∀ s q, y (ix3 0 s q) = inBlocks b (ix3 (eight t) s q)) (l : Fin 1024) (h : Fin 8) (p : Fin 64) :
    (k0_pay2 (F := Ideal) (iblk m c 0 t) y (ix2 l (state h p)) : EReal)
      = val_main_v9 (F := Ideal) (Z m c) b (ix2 (row t l) (stateAll (group (eight t) h) p)) := by
  refine (tile _ _ _ _).trans ?_
  rw [sum_chan _ h fun g hg e => by rw [hy, inBlocks_other b _ g h hg, mul_zero]]
  refine (Finset.sum_congr rfl fun e _ => ?_).trans (reference_at (Z m c) b (row t l) (group (eight t) h) p).symm
  exact congrArg₂ (fun x y : EReal => x * y) (u_at m c t l h e) ((hy _ _).trans (inBlocks_same b _ h e p))

theorem re_final : (dats m 0 c).arrAt 3 (cfgs 0).N = val_main_v9 (F := Ideal) (Z m c) (Br m c) := by
  refine (dats m 0 c).arrAt_eq_of_covers 3 _ (by decide +kernel) fun t hf y => ?_
  blk_simp
  rw [after0_3]
  obtain ⟨l, q, rfl⟩ := Cert.Prod.cases2 y
  obtain ⟨h, p, rfl⟩ := state_cases q
  frame_open
  frame_out
  try simp only [read_unread_whole]
  refine (tile_eq m c t (Br m c) _ (br_at m c t) l h p).trans ?_
  blk_ext [idx t, row, eight, group, state, stateAll]

theorem im_final : (dats m 0 c).arrAt 4 (cfgs 0).N = val_main_v12 (F := Ideal) (Z m c) (Bi m c) := by
  refine (dats m 0 c).arrAt_eq_of_covers 4 _ (by decide +kernel) fun t hf y => ?_
  blk_simp
  rw [after0_4]
  obtain ⟨l, q, rfl⟩ := Cert.Prod.cases2 y
  obtain ⟨h, p, rfl⟩ := state_cases q
  frame_open
  frame_out
  try simp only [read_unread_whole]
  rw [pay3_eq]
  refine (tile_eq m c t (Bi m c) _ (bi_at m c t) l h p).trans ?_
  show val_main_v12 (F := Ideal) (Z m c) (Bi m c) _ = _
  blk_ext [idx t, row, eight, group, state, stateAll]

end Cert.StInIdeal.Mixer

namespace Cert.StIn

open Idealize.ShloMosaic Idealize.SL.Sem
open Cert.StInIdeal.Mixer (Z Br Bi)
open Cert.StInRefIdeal.Read

theorem reference_frame : Cert.quiescent_StInRefIdeal (hStInRefIdeal := Cert.StInRefIdeal.Gen.facts) :=
  fun m ρ _ => (θ_run _ _ _).mono (fun r h => ⟨fun c => (h c).2.2, sem_eq_zero_of_no_sems (by decide) r.2⟩)
    (Cert.StInRefIdeal.Value.run (F := Ideal) m ρ)

/-- What the kernel adds to the states is the reference's. -/
theorem agree : Cert.algebraic_StInIdeal_StInRefIdeal (hStInIdeal := Cert.StInIdeal.Gen.facts)
    (hStInRefIdeal := Cert.StInRefIdeal.Gen.facts) := by
  intro m g m' g' _ hargs
  refine ⟨fun c => val_main_v9 (F := Ideal) (Z m c) (Br m c), fun c => val_main_v12 (F := Ideal) (Z m c) (Bi m c),
    (θ_run _ _ _).mono (fun r h c => ?_) (Cert.StInIdeal.Value.run_blocks (F := Ideal) m g),
    (θ_run _ _ _).mono (fun r h c => ?_) (Cert.StInRefIdeal.Value.run (F := Ideal) m' g')⟩
  · obtain ⟨h3, h4, h⟩ := h c
    exact ⟨h3.trans (Cert.StInIdeal.Mixer.re_final m c), h4.trans (Cert.StInIdeal.Mixer.im_final m c), h⟩
  · obtain ⟨h3, h4, h⟩ := h c
    obtain ⟨e0, e1, e2⟩ := hargs c
    refine ⟨h3.trans ?_, h4.trans ?_, h⟩
    · rw [val_main_v9_eq, e0, e1]
    · rw [val_main_v12_eq, e0, e2]

end Cert.StIn
-- ==== Proof.Mixer.Out.lean ====
/- What the S5 mixer reads out of its states, before and after its nonlinearity. -/
module

public import proofs.«01_k».proof.Defs
public import proofs.«01_k».proof.Proof.Mixer.Blocks
public import proofs.«01_k».proof.Proof.Gen.StOut.Frame
public import proofs.«01_k».proof.Proof.Gen.StOutIdeal.Value
public import proofs.«01_k».proof.Proof.Gen.StOutRefIdeal.Run
public import proofs.«01_k».proof.Proof.Gen.StOutRefIdeal.Read
public import Idealize.ShloMosaic.Lib.Pipeline.ReadBack
public import Idealize.ShloMosaic.Lib.StableHlo.RunRead
public import Idealize.ShloMosaic.Lib.Tactic.WordOmega
public import Idealize.ShloMosaic.Adequacy
public import Idealize.ShloMosaic.Init

@[expose] public section

set_option maxRecDepth 16384

noncomputable section

namespace Cert.StOutIdeal.Mixer

open Idealize.ShloMosaic Idealize.ShloMosaic.TcCoe Idealize.SL.Sem
open Idealize.ShloMosaic.Pipeline (Dat)
open Cert.StOutIdeal Cert.StOutIdeal.Gen Cert.Mixer
open Cert.InARefIdeal.Columns (laid)
open Cert.StOutRefIdeal.Read

variable (m : (ℓ : Loc nD τ sig) → Buf (Elt Ideal) ℓ) (c : Dev nD)

/-- The input projection, in the reference's order of columns. -/
abbrev Z : FVec Ideal S4096x13360 .f32 := m ((c : Thread nD τ).loc main_arg0)
/-- The real and the imaginary parts of the states. -/
abbrev Xr : FVec Ideal S4096x4096 .f32 := m ((c : Thread nD τ).loc main_arg1)
@[inherit_doc Xr] abbrev Xi : FVec Ideal S4096x4096 .f32 := m ((c : Thread nD τ).loc main_arg2)
/-- The real and the imaginary parts of the groups' matrices. -/
abbrev Cr : FVec Ideal S64x16x64 .f32 := m ((c : Thread nD τ).loc main_arg3)
@[inherit_doc Cr] abbrev Ci : FVec Ideal S64x16x64 .f32 := m ((c : Thread nD τ).loc main_arg4)
/-- The skip connection's weights. -/
abbrev Dv : FVec Ideal S1024 .f32 := m ((c : Thread nD τ).loc main_arg5)

theorem idx : ∀ t : Fin cfg0.N, win0_0.index t = ![t.val / 8, t.val % 8] ∧ win0_1.index t = ![t.val / 8, t.val % 8] ∧
    win0_2.index t = ![t.val % 8, 0, 0] ∧ win0_3.index t = ![t.val % 8, 0, 0] ∧ win0_4.index t = ![t.val / 8, 64 + t.val % 8] ∧
    win0_5.index t = ![0, t.val % 8] ∧ win0_6.index t = ![t.val / 8, t.val % 8] ∧ win0_7.index t = ![t.val / 8, t.val % 8] :=
  (by decide +kernel : ∀ t : Fin grid0.N, _)

/-- The row of a point's tile. -/
def row (t : Fin cfg0.N) (l : Fin 1024) : Fin 4096 := ⟨t.val / 8 * 1024 + l.val, by have : t.val < 32 := lt_of_lt_of_eq t.isLt N_0; omega⟩
/-- The block of eight groups of a point. -/
def eight (t : Fin cfg0.N) : Fin 8 := ⟨t.val % 8, by omega⟩

set_option maxHeartbeats 2000000 in
theorem V9 : V m c main_v9 = laid (Z m c) := by
  unfold V
  simp only [List.flatten_cons, List.flatten_nil, List.append_nil]
  after_reads_simp
  rfl

set_option maxHeartbeats 2000000 in
theorem V25 : V m c main_v25 = truncf .bf16 (outBlocks (Cr m c)) bitsLt_bf16_f32 := by
  unfold V
  simp only [List.flatten_cons, List.flatten_nil, List.append_nil]
  after_reads_simp
  rfl

set_option maxHeartbeats 2000000 in
theorem V42 : V m c main_v42 = truncf .bf16 (outBlocks (val_main_v10 (F := Ideal) (Ci m c))) bitsLt_bf16_f32 := by
  unfold V
  simp only [List.flatten_cons, List.flatten_nil, List.append_nil]
  after_reads_simp
  rfl

set_option maxHeartbeats 2000000 in
theorem V43 : V m c main_v43 = shapeCast S1x1024 (Dv m c) shapeCasts_S1024_S1x1024 := by
  unfold V
  simp only [List.flatten_cons, List.flatten_nil, List.append_nil]
  after_reads_simp
  rfl

theorem xr_at (t : Fin cfg0.N) (l : Fin 1024) (g : Fin 8) (p : Fin 64) :
    (iblk m c 0 t : FVec Ideal S1024x512 .f32) (ix2 l (state g p)) = Xr m c (ix2 (row t l) (stateAll (group (eight t) g) p)) := by
  blk_ext [iblk, idx t, row, state, stateAll, group, eight]

theorem xi_at (t : Fin cfg0.N) (l : Fin 1024) (g : Fin 8) (p : Fin 64) :
    (iblk m c 1 t : FVec Ideal S1024x512 .f32) (ix2 l (state g p)) = Xi m c (ix2 (row t l) (stateAll (group (eight t) g) p)) := by
  blk_ext [iblk, idx t, row, state, stateAll, group, eight]

theorem cr_at (t : Fin cfg0.N) (s : Fin 512) (q : Fin 128) :
    (iblk m c 2 t : FVec Ideal S1x512x128 .bf16) (ix3 0 s q) = outBlocks (Cr m c) (ix3 (eight t) s q) := by
  refine (?_ : _ = (V m c main_v25 : FVec Ideal S8x512x128 .bf16) (ix3 (eight t) s q)).trans (by rw [V25]; rfl)
  blk_ext [iblk, idx t, eight]

theorem ci_at (t : Fin cfg0.N) (s : Fin 512) (q : Fin 128) :
    (iblk m c 3 t : FVec Ideal S1x512x128 .bf16) (ix3 0 s q) = outBlocks (val_main_v10 (F := Ideal) (Ci m c)) (ix3 (eight t) s q) := by
  refine (?_ : _ = (V m c main_v42 : FVec Ideal S8x512x128 .bf16) (ix3 (eight t) s q)).trans (by rw [V42]; rfl)
  blk_ext [iblk, idx t, eight]

theorem u_at (t : Fin cfg0.N) (l : Fin 1024) (g : Fin 8) (e : Fin 16) :
    (iblk m c 4 t : FVec Ideal S1024x128 .f32) (ix2 l (chan g e))
      = Z m c (ix2 (row t l) ⟨8240 + (chanAll (group (eight t) g) e).val, by have := (chanAll (group (eight t) g) e).isLt; omega⟩) := by
  refine (?_ : _ = (V m c main_v9 : FVec Ideal S4096x13440 .f32) (ix2 (row t l) ⟨8192 + (chanAll (group (eight t) g) e).val,
    by have := (chanAll (group (eight t) g) e).isLt; omega⟩)).trans (by rw [V9, laid_u])
  blk_ext [iblk, idx t, row, chan, chanAll, group, eight]

theorem d_at (t : Fin cfg0.N) (g : Fin 8) (e : Fin 16) :
    (iblk m c 5 t : FVec Ideal S1x128 .f32) (ix2 0 (chan g e)) = Dv m c (ix1 (chanAll (group (eight t) g) e)) := by
  refine (?_ : _ = (V m c main_v43 : FVec Ideal S1x1024 .f32) (ix2 0 (chanAll (group (eight t) g) e))).trans (by rw [V43]; pointwise)
  blk_ext [iblk, idx t, chan, chanAll, group, eight]

theorem tile (xr xi : Vec Ideal S1024x512 .f32) (cr ci : Vec Ideal S1x512x128 .bf16) (d : Vec Ideal S1x128 .f32) (u : Vec Ideal S1024x128 .f32)
    (l : Fin 1024) (q : Fin 128) :
    (k0_pay1 (F := Ideal) xr cr xi ci d u (ix2 l q) : EReal) = (∑ s : Fin 512, (xr (ix2 l s) : EReal) * cr (ix3 0 s q))
      + (∑ s : Fin 512, (xi (ix2 l s) : EReal) * ci (ix3 0 s q)) + d (ix2 0 q) * u (ix2 l q) := by
  pointwise [k0_pay1]

theorem reference_at (z : FVec Ideal S4096x13360 .f32) (xr xi : FVec Ideal S4096x4096 .f32) (cr ci : FVec Ideal S64x16x64 .f32)
    (d : FVec Ideal S1024 .f32) (l : Fin 4096) (g : Fin 64) (e : Fin 16) :
    (val_main_v20 (F := Ideal) z xr xi cr ci d (ix2 l (chanAll g e)) : EReal)
      = (∑ p : Fin 64, (xr (ix2 l (stateAll g p)) : EReal) * cr (ix3 g e p))
      + (∑ p : Fin 64, (xi (ix2 l (stateAll g p)) : EReal) * val_main_v10 (F := Ideal) ci (ix3 g e p))
      + d (ix1 (chanAll g e)) * z (ix2 l ⟨8240 + (chanAll g e).val, by have := (chanAll g e).isLt; omega⟩) := by
  pointwise [val_main_v20, val_main_v19, val_main_v18, val_main_v17, val_main_v16, val_main_v15, val_main_v14, val_main_v13, val_main_v12,
    val_main_v11, val_main_v9, val_main_v8, val_main_v7, val_main_v6, val_main_v3, stateAll, chanAll]

/-- A product with a block is the product with the one group's matrix. -/
theorem block_sum (x : Vec Ideal S1024x512 .f32) (y : Vec Ideal S1x512x128 .bf16) (X : FVec Ideal S4096x4096 .f32) (b : FVec Ideal S64x16x64 .f32)
    (t : Fin cfg0.N) (hx : ∀ l g p, x (ix2 l (state g p)) = X (ix2 (row t l) (stateAll (group (eight t) g) p)))
    (hy : ∀ s q, y (ix3 0 s q) = outBlocks b (ix3 (eight t) s q)) (l : Fin 1024) (h : Fin 8) (e : Fin 16) :
    ∑ s : Fin 512, (x (ix2 l s) : EReal) * y (ix3 0 s (chan h e))
      = ∑ p : Fin 64, (X (ix2 (row t l) (stateAll (group (eight t) h) p)) : EReal) * b (ix3 (group (eight t) h) e p) := by
  rw [sum_state _ h fun g hg p => by rw [hy, outBlocks_other b _ g h hg, mul_zero]]
  exact Finset.sum_congr rfl fun p _ => congrArg₂ (fun x y : EReal => x * y) (hx l h p) ((hy _ _).trans (outBlocks_same b _ h p e))

/-- What a point reads out is the reference's in its tile. -/
theorem tile_eq (t : Fin cfg0.N) (l : Fin 1024) (h : Fin 8) (e : Fin 16) :
    k0_pay1 (F := Ideal) (iblk m c 0 t) (iblk m c 2 t) (iblk m c 1 t) (iblk m c 3 t) (iblk m c 5 t) (iblk m c 4 t) (ix2 l (chan h e))
      = val_main_v20 (F := Ideal) (Z m c) (Xr m c) (Xi m c) (Cr m c) (Ci m c) (Dv m c) (ix2 (row t l) (chanAll (group (eight t) h) e)) := by
  refine (tile _ _ _ _ _ _ _ _).trans ?_
  rw [block_sum _ _ (Xr m c) (Cr m c) t (xr_at m c t) (cr_at m c t),
    block_sum _ _ (Xi m c) (val_main_v10 (F := Ideal) (Ci m c)) t (xi_at m c t) (ci_at m c t), d_at, u_at]
  exact (reference_at (Z m c) (Xr m c) (Xi m c) (Cr m c) (Ci m c) (Dv m c) (row t l) (group (eight t) h) e).symm

/-- The nonlinearity of what a point reads out. -/
theorem gelu_eq (xr xi : Vec Ideal S1024x512 .f32) (cr ci : Vec Ideal S1x512x128 .bf16) (d : Vec Ideal S1x128 .f32) (u : Vec Ideal S1024x128 .f32)
    (z : FVec Ideal S4096x13360 .f32) (Xr Xi : FVec Ideal S4096x4096 .f32) (Cr Ci : FVec Ideal S64x16x64 .f32)
    (D : FVec Ideal S1024 .f32) (i : S1024x128.Idx) (j : S4096x1024.Idx)
    (h : (k0_pay1 (F := Ideal) xr cr xi ci d u i : EReal) = val_main_v20 (F := Ideal) z Xr Xi Cr Ci D j) :
    (k0_pay2 (F := Ideal) xr cr xi ci d u i : EReal) = val_main_v34 (F := Ideal) z Xr Xi Cr Ci D j := by
  pointwise [k0_pay2, val_main_v34, val_main_v33, val_main_v32, val_main_v31, val_main_v30, val_main_v29, val_main_v28, val_main_v27, val_main_v26,
    val_main_v25, val_main_v24, val_main_v23, val_main_v22, val_main_v21, val_main_cst, val_main_cst_0, val_main_cst_1, val_main_cst_2]
  rw [h]
  generalize (val_main_v20 (F := Ideal) z Xr Xi Cr Ci D j : EReal) = y
  rw [show Ideal.ofBits FTy.f32 1027024659#32 * y * y * y = Ideal.ofBits FTy.f32 1027024659#32 * (y * y * y) by
    simp only [@mul_assoc EReal]]
  rw [@mul_comm EReal _ _ y, @mul_assoc EReal _ y]

theorem y_final : (dats m 0 c).arrAt 6 (cfgs 0).N
    = val_main_v20 (F := Ideal) (Z m c) (Xr m c) (Xi m c) (Cr m c) (Ci m c) (Dv m c) := by
  refine (dats m 0 c).arrAt_eq_of_covers 6 _ (by decide +kernel) fun t hf y => ?_
  blk_simp
  rw [after0_6]
  obtain ⟨l, q, rfl⟩ := Cert.Prod.cases2 y
  obtain ⟨h, e, rfl⟩ := chan_cases q
  frame_open
  frame_out
  try simp only [read_unread_whole]
  refine (tile_eq m c t l h e).trans ?_
  blk_ext [idx t, row, eight, group, chan, chanAll]

theorem g_final : (dats m 0 c).arrAt 7 (cfgs 0).N
    = val_main_v34 (F := Ideal) (Z m c) (Xr m c) (Xi m c) (Cr m c) (Ci m c) (Dv m c) := by
  refine (dats m 0 c).arrAt_eq_of_covers 7 _ (by decide +kernel) fun t hf y => ?_
  blk_simp
  rw [after0_7]
  obtain ⟨l, q, rfl⟩ := Cert.Prod.cases2 y
  obtain ⟨h, e, rfl⟩ := chan_cases q
  frame_open
  frame_out
  try simp only [read_unread_whole]
  refine (gelu_eq _ _ _ _ _ _ _ _ _ _ _ _ _ _ (tile_eq m c t l h e)).trans ?_
  blk_ext [idx t, row, eight, group, chan, chanAll]

end Cert.StOutIdeal.Mixer

namespace Cert.StOut

open Idealize.ShloMosaic Idealize.SL.Sem
open Cert.StOutIdeal.Mixer (Z Xr Xi Cr Ci Dv)
open Cert.StOutRefIdeal.Read

theorem reference_frame : Cert.quiescent_StOutRefIdeal (hStOutRefIdeal := Cert.StOutRefIdeal.Gen.facts) :=
  fun m ρ _ => (θ_run _ _ _).mono (fun r h => ⟨fun c => (h c).2.2, sem_eq_zero_of_no_sems (by decide) r.2⟩)
    (Cert.StOutRefIdeal.Value.run (F := Ideal) m ρ)

/-- What the kernel reads out of the states is what the reference reads. -/
theorem agree : Cert.algebraic_StOutIdeal_StOutRefIdeal (hStOutIdeal := Cert.StOutIdeal.Gen.facts)
    (hStOutRefIdeal := Cert.StOutRefIdeal.Gen.facts) := by
  intro m g m' g' _ hargs
  refine ⟨fun c => val_main_v20 (F := Ideal) (Z m c) (Xr m c) (Xi m c) (Cr m c) (Ci m c) (Dv m c),
    fun c => val_main_v34 (F := Ideal) (Z m c) (Xr m c) (Xi m c) (Cr m c) (Ci m c) (Dv m c),
    (θ_run _ _ _).mono (fun r h c => ?_) (Cert.StOutIdeal.Value.run_blocks (F := Ideal) m g),
    (θ_run _ _ _).mono (fun r h c => ?_) (Cert.StOutRefIdeal.Value.run (F := Ideal) m' g')⟩
  · obtain ⟨h6, h7, h⟩ := h c
    exact ⟨h6.trans (Cert.StOutIdeal.Mixer.y_final m c), h7.trans (Cert.StOutIdeal.Mixer.g_final m c), h⟩
  · obtain ⟨h6, h7, h⟩ := h c
    obtain ⟨e0, e1, e2, e3, e4, e5⟩ := hargs c
    refine ⟨h6.trans ?_, h7.trans ?_, h⟩
    · rw [val_main_v20_eq, e0, e1, e2, e3, e4, e5]
    · rw [val_main_v34_eq, e0, e1, e2, e3, e4, e5]

end Cert.StOut
-- ==== Proof.Mixer.Back.lean ====
/- The S5 mixer's states, back from their gradient: the gradient of the channels, and of the eigenvalues. -/
module

public import proofs.«01_k».proof.Defs
public import proofs.«01_k».proof.Proof.Mixer.Blocks
public import proofs.«01_k».proof.Proof.Gen.StBack.Frame
public import proofs.«01_k».proof.Proof.Gen.StBackIdeal.Value
public import proofs.«01_k».proof.Proof.Gen.StBackRefIdeal.Run
public import proofs.«01_k».proof.Proof.Gen.StBackRefIdeal.Read
public import Idealize.ShloMosaic.Lib.Pipeline.ReadBack
public import Idealize.ShloMosaic.Lib.StableHlo.RunRead
public import Idealize.ShloMosaic.Lib.Tactic.WordOmega
public import Idealize.ShloMosaic.Adequacy
public import Idealize.ShloMosaic.Init

@[expose] public section

set_option maxRecDepth 16384

noncomputable section

namespace Cert.StBackIdeal.Mixer

open Idealize.ShloMosaic Idealize.ShloMosaic.TcCoe Idealize.SL.Sem
open Idealize.ShloMosaic.Pipeline (Dat)
open Cert.StBackIdeal Cert.StBackIdeal.Gen Cert.Mixer
open Cert.StBackRefIdeal.Read

variable (m : (ℓ : Loc nD τ sig) → Buf (Elt Ideal) ℓ) (c : Dev nD)

/-- The real and the imaginary parts of the groups' matrices. -/
abbrev Br : FVec Ideal S64x64x16 .f32 := m ((c : Thread nD τ).loc main_arg3)
@[inherit_doc Br] abbrev Bi : FVec Ideal S64x64x16 .f32 := m ((c : Thread nD τ).loc main_arg4)
/-- The real and the imaginary parts of the states. -/
abbrev Xr : FVec Ideal S4096x4096 .f32 := m ((c : Thread nD τ).loc main_arg5)
@[inherit_doc Xr] abbrev Xi : FVec Ideal S4096x4096 .f32 := m ((c : Thread nD τ).loc main_arg6)
/-- The real and the imaginary parts of the states' gradient. -/
abbrev Ar : FVec Ideal S4096x4096 .f32 := m ((c : Thread nD τ).loc main_arg7)
@[inherit_doc Ar] abbrev Ai : FVec Ideal S4096x4096 .f32 := m ((c : Thread nD τ).loc main_arg8)
/-- The channels' gradient by the skip connection. -/
abbrev Sk : FVec Ideal S4096x1024 .f32 := m ((c : Thread nD τ).loc main_arg9)

theorem idx : ∀ t : Fin cfg0.N, win0_0.index t = ![t.val % 4, t.val / 4] ∧ win0_1.index t = ![t.val % 4, t.val / 4] ∧
    win0_2.index t = ![t.val / 4, 0, 0] ∧ win0_3.index t = ![t.val / 4, 0, 0] ∧ win0_5.index t = ![t.val % 4, t.val / 4] ∧
    win0_6.index t = ![t.val % 4, t.val / 4] ∧ win0_7.index t = ![t.val % 4, t.val / 4] ∧
    win0_8.index t = ![t.val % 4 * 128 - 1, t.val / 4] ∧ win0_9.index t = ![t.val % 4 * 128 - 1, t.val / 4] ∧
    win0_10.index t = ![t.val % 4, t.val / 4] ∧ win0_13.index t = ![0, t.val / 4] ∧ win0_14.index t = ![0, t.val / 4] :=
  (by decide +kernel : ∀ t : Fin grid0.N, _)

/-- The row of a point's tile. -/
def row (t : Fin cfg0.N) (l : Fin 1024) : Fin 4096 := ⟨t.val % 4 * 1024 + l.val, by omega⟩
/-- The block of eight groups of a point. -/
def eight (t : Fin cfg0.N) : Fin 8 := ⟨t.val / 4, by have : t.val < 32 := lt_of_lt_of_eq t.isLt N_0; omega⟩
/-- The column of a point's tile of the states. -/
def col (t : Fin cfg0.N) (q : Fin 512) : Fin 4096 := ⟨t.val / 4 * 512 + q.val, by have : t.val < 32 := lt_of_lt_of_eq t.isLt N_0; omega⟩

set_option maxHeartbeats 2000000 in
theorem V26 : V m c main_v26
    = truncf .bf16 (transpose S8x512x128 [0, 2, 1] (inBlocks (Br m c)) transposes_S8x128x512_S8x512x128_0_2_1) bitsLt_bf16_f32 := by
  unfold V
  simp only [List.flatten_cons, List.flatten_nil, List.append_nil]
  after_reads_simp
  rfl

set_option maxHeartbeats 2000000 in
theorem V43 : V m c main_v43
    = truncf .bf16 (transpose S8x512x128 [0, 2, 1] (inBlocks (Bi m c)) transposes_S8x128x512_S8x512x128_0_2_1) bitsLt_bf16_f32 := by
  unfold V
  simp only [List.flatten_cons, List.flatten_nil, List.append_nil]
  after_reads_simp
  rfl

theorem ar_at (t : Fin cfg0.N) (l : Fin 1024) (q : Fin 512) :
    (iblk m c 0 t : FVec Ideal S1024x512 .f32) (ix2 l q) = Ar m c (ix2 (row t l) (col t q)) := by
  blk_ext [iblk, idx t, row, col]

theorem ai_at (t : Fin cfg0.N) (l : Fin 1024) (q : Fin 512) :
    (iblk m c 1 t : FVec Ideal S1024x512 .f32) (ix2 l q) = Ai m c (ix2 (row t l) (col t q)) := by
  blk_ext [iblk, idx t, row, col]

theorem br_at (t : Fin cfg0.N) (s : Fin 512) (q : Fin 128) :
    (iblk m c 2 t : FVec Ideal S1x512x128 .bf16) (ix3 0 s q) = inBlocks (Br m c) (ix3 (eight t) q s) := by
  refine (?_ : _ = (V m c main_v26 : FVec Ideal S8x512x128 .bf16) (ix3 (eight t) s q)).trans (by rw [V26]; pointwise)
  blk_ext [iblk, idx t, eight]

theorem bi_at (t : Fin cfg0.N) (s : Fin 512) (q : Fin 128) :
    (iblk m c 3 t : FVec Ideal S1x512x128 .bf16) (ix3 0 s q) = inBlocks (Bi m c) (ix3 (eight t) q s) := by
  refine (?_ : _ = (V m c main_v43 : FVec Ideal S8x512x128 .bf16) (ix3 (eight t) s q)).trans (by rw [V43]; pointwise)
  blk_ext [iblk, idx t, eight]

theorem sk_at (t : Fin cfg0.N) (l : Fin 1024) (g : Fin 8) (e : Fin 16) :
    (iblk m c 5 t : FVec Ideal S1024x128 .f32) (ix2 l (chan g e)) = Sk m c (ix2 (row t l) (chanAll (group (eight t) g) e)) := by
  blk_ext [iblk, idx t, row, chan, chanAll, group, eight]

theorem xr_at (t : Fin cfg0.N) (l : Fin 1024) (q : Fin 512) :
    (iblk m c 6 t : FVec Ideal S1024x512 .f32) (ix2 l q) = Xr m c (ix2 (row t l) (col t q)) := by
  blk_ext [iblk, idx t, row, col]

theorem xi_at (t : Fin cfg0.N) (l : Fin 1024) (q : Fin 512) :
    (iblk m c 7 t : FVec Ideal S1024x512 .f32) (ix2 l q) = Xi m c (ix2 (row t l) (col t q)) := by
  blk_ext [iblk, idx t, row, col]

/-- The last of the eight rows before a point's tile. -/
theorem pr_at (t : Fin cfg0.N) (h : 0 < t.val % 4) (q : Fin 512) :
    (iblk m c 8 t : FVec Ideal S8x512 .f32) (ix2 7 q) = Xr m c (ix2 ⟨t.val % 4 * 1024 - 1, by omega⟩ (col t q)) := by
  blk_ext [iblk, idx t, col]

@[inherit_doc pr_at] theorem pi_at (t : Fin cfg0.N) (h : 0 < t.val % 4) (q : Fin 512) :
    (iblk m c 9 t : FVec Ideal S8x512 .f32) (ix2 7 q) = Xi m c (ix2 ⟨t.val % 4 * 1024 - 1, by omega⟩ (col t q)) := by
  blk_ext [iblk, idx t, col]

/-! ## The states one step before -/

theorem before_first (x : FVec Ideal S4096x4096 .f32) (l q : Fin 4096) (h : l.val = 0) : (val_main_v7 (F := Ideal) x (ix2 l q) : EReal) = 0 := by
  pointwise [val_main_v7, val_main_v6, val_main_call0_v0, val_main_c]
  rw [dif_neg (by omega)]
  exact Cert.InXIdeal.Columns.zero_word

theorem before_next (x : FVec Ideal S4096x4096 .f32) (l q : Fin 4096) (h : 0 < l.val) :
    val_main_v7 (F := Ideal) x (ix2 l q) = x (ix2 ⟨l.val - 1, by omega⟩ q) := by
  pointwise [val_main_v7, val_main_v6]
  rw [dif_pos (by omega)]

/-- The shifted tile: the row given at its start if the point has rows before it, the tile's rows after. -/
theorem shift_first (w : BitVec 32) (v : Vec Ideal S1x512 .f32) (x : Vec Ideal S1024x512 .f32) (l : Fin 1024) (q : Fin 512) (h : l.val = 0) :
    (k0_pay14 (F := Ideal) w v x (ix2 l q) : EReal)
      = Scalar.select (Scalar.cmpi CmpIPredicate.sgt w 0#32) (v (ix2 0 q) : EReal) 0 := by
  obtain rfl : l = 0 := Fin.ext h
  pointwise [k0_pay14, k0_pay13]

theorem shift_next (w : BitVec 32) (v : Vec Ideal S1x512 .f32) (x : Vec Ideal S1024x512 .f32) (l : Fin 1024) (q : Fin 512) (h : 0 < l.val) :
    k0_pay14 (F := Ideal) w v x (ix2 l q) = x (ix2 ⟨l.val - 1, by omega⟩ q) := by
  pointwise [k0_pay14, k0_pay13]
  have e : IntOp.cmpi CmpIPredicate.eq (BitVec.ofNat 32 l.val) 0#32 = 0#1 := by
    revert l; decide +kernel
  rw [e]
  refine congrArg (fun k : Fin 1024 => x (ix2 k q)) (Fin.ext ?_)
  show (l.val + 1024 - 1) % 1024 = l.val - 1
  omega

theorem later (t : Fin cfg0.N) : Scalar.cmpi CmpIPredicate.sgt (BitVec.ofNat 32 (grid0.coords t 1).val) 0#32 = if 0 < t.val % 4 then 1#1 else 0#1 := by
  revert t; decide +kernel

/-- A point's shifted tile is the states one step before. -/
theorem shift_eq (t : Fin cfg0.N) (v : Vec Ideal S1x512 .f32) (x : Vec Ideal S1024x512 .f32) (X : FVec Ideal S4096x4096 .f32)
    (hx : ∀ l q, x (ix2 l q) = X (ix2 (row t l) (col t q)))
    (hv : 0 < t.val % 4 → ∀ q, v (ix2 0 q) = X (ix2 ⟨t.val % 4 * 1024 - 1, by omega⟩ (col t q))) (l : Fin 1024) (q : Fin 512) :
    (k0_pay14 (F := Ideal) (BitVec.ofNat 32 (grid0.coords t 1).val) v x (ix2 l q) : EReal)
      = val_main_v7 (F := Ideal) X (ix2 (row t l) (col t q)) := by
  rcases Nat.eq_zero_or_pos l.val with h | h
  · rw [shift_first _ _ _ _ _ h, later]
    by_cases hp : 0 < t.val % 4
    · rw [if_pos hp, before_next _ _ _ (by show 0 < t.val % 4 * 1024 + l.val; omega)]
      refine (hv hp q).trans (congrArg (fun k : Fin 4096 => X (ix2 k (col t q))) (Fin.ext ?_))
      show t.val % 4 * 1024 - 1 = t.val % 4 * 1024 + l.val - 1
      omega
    · rw [if_neg hp, before_first _ _ _ (by show t.val % 4 * 1024 + l.val = 0; omega)]
      rfl
  · rw [shift_next _ _ _ _ _ h, before_next _ _ _ (by show 0 < t.val % 4 * 1024 + l.val; omega), hx]
    refine congrArg (fun k : Fin 4096 => X (ix2 k (col t q))) (Fin.ext ?_)
    show t.val % 4 * 1024 + (l.val - 1) = t.val % 4 * 1024 + l.val - 1
    omega

/-- The row given to a point. -/
abbrev lastRow (x : Vec Ideal S8x512 .f32) : Vec Ideal S1x512 .f32 := View.ld x (Rect.unit ![7, 0] ![1, 512] inb_S8x512_S1x512_7_0)

theorem lastRow_at (x : Vec Ideal S8x512 .f32) (q : Fin 512) : lastRow x (ix2 0 q) = x (ix2 7 q) := by
  refine congrArg x ?_
  funext a
  fin_cases a <;> refine Fin.ext ?_ <;> simp [Rect.unit]

/-! ## The gradients of the eigenvalues, summed over the tiles -/

theorem zero_re (q : Fin 512) : (k0_pay8 (F := Ideal) (ix2 0 q) : EReal) = 0 := by
  pointwise [k0_pay8]
theorem zero_im (q : Fin 512) : (k0_pay9 (F := Ideal) (ix2 0 q) : EReal) = 0 := by
  pointwise [k0_pay9]

theorem re_add (a : Vec Ideal S1x512 .f32) (w : BitVec 32) (ar ai xr xi : Vec Ideal S1024x512 .f32) (vr vi : Vec Ideal S1x512 .f32) (q : Fin 512) :
    (k0_pay1 (F := Ideal) (k0_pay16 a) (k0_pay17 w ar ai vr vi xr xi) (ix2 0 q) : EReal)
      = a (ix2 0 q) + ∑ l : Fin 1024, ((ar (ix2 l q) : EReal) * k0_pay14 (F := Ideal) w vr xr (ix2 l q)
          + ai (ix2 l q) * k0_pay14 (F := Ideal) w vi xi (ix2 l q)) := by
  pointwise [k0_pay1, k0_pay16, k0_pay17]
  rfl

theorem im_add (a : Vec Ideal S1x512 .f32) (w : BitVec 32) (ar ai xr xi : Vec Ideal S1024x512 .f32) (vr vi : Vec Ideal S1x512 .f32) (q : Fin 512) :
    (k0_pay2 (F := Ideal) ar ai (k0_pay14 w vr xr) (k0_pay15 w vi xi) a (ix2 0 q) : EReal)
      = a (ix2 0 q) + ∑ l : Fin 1024, ((ai (ix2 l q) : EReal) * k0_pay14 (F := Ideal) w vr xr (ix2 l q)
          - ar (ix2 l q) * k0_pay14 (F := Ideal) w vi xi (ix2 l q)) := by
  pointwise [k0_pay2]
  rfl

/-- What one row adds to the gradient of the eigenvalues' real part. -/
def reRow (l q : Fin 4096) : EReal := (Ar m c (ix2 l q) : EReal) * val_main_v7 (F := Ideal) (Xr m c) (ix2 l q)
  + Ai m c (ix2 l q) * val_main_v7 (F := Ideal) (Xi m c) (ix2 l q)
/-- What one row adds to the gradient of the eigenvalues' imaginary part. -/
def imRow (l q : Fin 4096) : EReal := (Ai m c (ix2 l q) : EReal) * val_main_v7 (F := Ideal) (Xr m c) (ix2 l q)
  - Ar m c (ix2 l q) * val_main_v7 (F := Ideal) (Xi m c) (ix2 l q)

theorem r_at (t : Fin cfg0.N) (l : Fin 1024) (q : Fin 512) :
    (k0_pay14 (F := Ideal) (BitVec.ofNat 32 (grid0.coords t 1).val) (lastRow (iblk m c 8 t)) (iblk m c 6 t) (ix2 l q) : EReal)
      = val_main_v7 (F := Ideal) (Xr m c) (ix2 (row t l) (col t q)) :=
  shift_eq t _ _ (Xr m c) (xr_at m c t) (fun h q => (lastRow_at _ q).trans (pr_at m c t h q)) l q

theorem i_at (t : Fin cfg0.N) (l : Fin 1024) (q : Fin 512) :
    (k0_pay14 (F := Ideal) (BitVec.ofNat 32 (grid0.coords t 1).val) (lastRow (iblk m c 9 t)) (iblk m c 7 t) (ix2 l q) : EReal)
      = val_main_v7 (F := Ideal) (Xi m c) (ix2 (row t l) (col t q)) :=
  shift_eq t _ _ (Xi m c) (xi_at m c t) (fun h q => (lastRow_at _ q).trans (pi_at m c t h q)) l q

theorem re_term (t : Fin cfg0.N) (a : Vec Ideal S1x512 .f32) (q : Fin 512) :
    (k0_pay1 (F := Ideal) (k0_pay16 a) (k0_pay17 (BitVec.ofNat 32 (grid0.coords t 1).val) (iblk m c 0 t) (iblk m c 1 t) (lastRow (iblk m c 8 t))
      (lastRow (iblk m c 9 t)) (iblk m c 6 t) (iblk m c 7 t)) (ix2 0 q) : EReal)
      = a (ix2 0 q) + ∑ l : Fin 1024, reRow m c (row t l) (col t q) := by
  refine (re_add _ _ _ _ _ _ _ _ q).trans (congrArg (fun x : EReal => a (ix2 0 q) + x) (Finset.sum_congr rfl fun l _ => ?_))
  rw [r_at, i_at, ar_at, ai_at]
  rfl

theorem im_term (t : Fin cfg0.N) (a : Vec Ideal S1x512 .f32) (q : Fin 512) :
    (k0_pay2 (F := Ideal) (iblk m c 0 t) (iblk m c 1 t) (k0_pay14 (BitVec.ofNat 32 (grid0.coords t 1).val) (lastRow (iblk m c 8 t)) (iblk m c 6 t))
      (k0_pay15 (BitVec.ofNat 32 (grid0.coords t 1).val) (lastRow (iblk m c 9 t)) (iblk m c 7 t)) a (ix2 0 q) : EReal)
      = a (ix2 0 q) + ∑ l : Fin 1024, imRow m c (row t l) (col t q) := by
  refine (im_add _ _ _ _ _ _ _ _ q).trans (congrArg (fun x : EReal => a (ix2 0 q) + x) (Finset.sum_congr rfl fun l _ => ?_))
  rw [r_at, i_at, ar_at, ai_at]
  rfl

theorem re_first (t : Fin cfg0.N) (h : t.val % 4 = 0) (q : Fin 512) :
    ((outsAt0 m c t.val t.isLt).2.2.2.1 (ix2 0 q) : EReal) = 0 + ∑ l : Fin 1024, reRow m c (row t l) (col t q) := by
  rw [outsAt0_A m c t h]
  frame_open
  simp (disch := decide) only [↓ View.readCov_skip, ↓ View.readCov_cons_toLoadRect, ↓ View.readCov_fill]
  frame_out
  try simp only [read_unread_whole]
  have e := re_term m c t (k0_pay8 (F := Ideal)) q
  rw [zero_re] at e
  exact e

theorem re_next (t : Fin cfg0.N) (h : ¬t.val % 4 = 0) (q : Fin 512) :
    ((outsAt0 m c t.val t.isLt).2.2.2.1 (ix2 0 q) : EReal)
      = (outsAt0 m c (t.val - 1) (Nat.lt_of_le_of_lt (Nat.sub_le _ _) t.isLt)).2.2.2.1 (ix2 0 q)
        + ∑ l : Fin 1024, reRow m c (row t l) (col t q) := by
  rw [outsAt0_B m c t h]
  frame_open
  simp (disch := decide) only [↓ View.readCov_skip, ↓ View.readCov_cons_toLoadRect, ↓ View.readCov_fill]
  frame_out
  try simp only [read_unread_whole]
  exact re_term m c t _ q

theorem im_first (t : Fin cfg0.N) (h : t.val % 4 = 0) (q : Fin 512) :
    ((outsAt0 m c t.val t.isLt).2.2.2.2 (ix2 0 q) : EReal) = 0 + ∑ l : Fin 1024, imRow m c (row t l) (col t q) := by
  rw [outsAt0_A m c t h]
  frame_open
  simp (disch := decide) only [↓ View.readCov_skip, ↓ View.readCov_cons_toLoadRect, ↓ View.readCov_fill]
  frame_out
  try simp only [read_unread_whole]
  have e := im_term m c t (k0_pay9 (F := Ideal)) q
  rw [zero_im] at e
  exact e

theorem im_next (t : Fin cfg0.N) (h : ¬t.val % 4 = 0) (q : Fin 512) :
    ((outsAt0 m c t.val t.isLt).2.2.2.2 (ix2 0 q) : EReal)
      = (outsAt0 m c (t.val - 1) (Nat.lt_of_le_of_lt (Nat.sub_le _ _) t.isLt)).2.2.2.2 (ix2 0 q)
        + ∑ l : Fin 1024, imRow m c (row t l) (col t q) := by
  rw [outsAt0_B m c t h]
  frame_open
  simp (disch := decide) only [↓ View.readCov_skip, ↓ View.readCov_cons_toLoadRect, ↓ View.readCov_fill]
  frame_out
  try simp only [read_unread_whole]
  exact im_term m c t _ q

/-- The tiles of the four points of a block of groups are all rows. -/
theorem rows (f : Fin 4096 → Fin 4096 → EReal) (t u : Fin cfg0.N) (k : Fin 4) (h : u.val = 4 * (t.val / 4) + k.val) (q : Fin 512) :
    ∑ l : Fin 1024, f (row u l) (col u q) = ∑ l : Fin 1024, f (Cert.Prod.place (T := 4096) rfl k l) (col t q) := by
  refine Finset.sum_congr rfl fun l _ => congrArg₂ f (Fin.ext ?_) (Fin.ext ?_)
  · show u.val % 4 * 1024 + l.val = k.val * 1024 + l.val
    omega
  · show u.val / 4 * 512 + q.val = t.val / 4 * 512 + q.val
    omega

theorem re_last (t : Fin cfg0.N) (h : t.val % 4 = 3) (q : Fin 512) :
    ((outsAt0 m c t.val t.isLt).2.2.2.1 (ix2 0 q) : EReal) = ∑ l : Fin 4096, reRow m c l (col t q) :=
  Cert.Prod.whole (K := 4) (S := 1024) (T := 4096) rfl (fun n h q => ((outsAt0 m c n h).2.2.2.1 (ix2 0 q) : EReal))
    (fun t q => ∑ l : Fin 1024, reRow m c (row t l) (col t q)) (fun t q l => reRow m c l (col t q))
    (re_first m c) (re_next m c) (fun t u k h q => rows (reRow m c) t u k h q) t h q

theorem im_last (t : Fin cfg0.N) (h : t.val % 4 = 3) (q : Fin 512) :
    ((outsAt0 m c t.val t.isLt).2.2.2.2 (ix2 0 q) : EReal) = ∑ l : Fin 4096, imRow m c l (col t q) :=
  Cert.Prod.whole (K := 4) (S := 1024) (T := 4096) rfl (fun n h q => ((outsAt0 m c n h).2.2.2.2 (ix2 0 q) : EReal))
    (fun t q => ∑ l : Fin 1024, imRow m c (row t l) (col t q)) (fun t q l => imRow m c l (col t q))
    (im_first m c) (im_next m c) (fun t u k h q => rows (imRow m c) t u k h q) t h q

theorem re_reference (q : Fin 4096) : (val_main_v47 (F := Ideal) (Xr m c) (Xi m c) (Ar m c) (Ai m c) (ix2 0 q) : EReal)
    = ∑ l : Fin 4096, reRow m c l q := by
  have e : (val_main_v47 (F := Ideal) (Xr m c) (Xi m c) (Ar m c) (Ai m c) (ix2 0 q) : EReal)
      = (∑ l : Fin 4096, (Ai m c (ix2 l q) : EReal) * val_main_v9 (F := Ideal) (Xi m c) (ix2 l q))
        + ∑ l : Fin 4096, (Ar m c (ix2 l q) : EReal) * val_main_v7 (F := Ideal) (Xr m c) (ix2 l q) := by
    pointwise [val_main_v47, val_main_v46, val_main_v45, val_main_v44, val_main_v36, val_main_v35, val_main_v34, val_main_v37, val_main_v29,
      val_main_cst_1, val_main_cst_3]
  rw [e, @add_comm EReal, ← Finset.sum_add_distrib]
  rfl

theorem im_reference (q : Fin 4096) : (val_main_v43 (F := Ideal) (Xr m c) (Xi m c) (Ar m c) (Ai m c) (ix2 0 q) : EReal)
    = ∑ l : Fin 4096, imRow m c l q := by
  have e : (val_main_v43 (F := Ideal) (Xr m c) (Xi m c) (Ar m c) (Ai m c) (ix2 0 q) : EReal)
      = (∑ l : Fin 4096, (Ai m c (ix2 l q) : EReal) * val_main_v7 (F := Ideal) (Xr m c) (ix2 l q))
        + ∑ l : Fin 4096, (-(Ar m c (ix2 l q) : EReal)) * val_main_v9 (F := Ideal) (Xi m c) (ix2 l q) := by
    pointwise [val_main_v43, val_main_v42, val_main_v41, val_main_v40, val_main_v39, val_main_v33, val_main_v32, val_main_v31, val_main_v37,
      val_main_v29, val_main_cst, val_main_cst_2]
  rw [e, ← Finset.sum_add_distrib]
  refine Finset.sum_congr rfl fun l _ => ?_
  rw [EReal.neg_mul, ← sub_eq_add_neg]
  rfl

theorem re_final : (dats m 0 c).arrAt 13 (cfgs 0).N = val_main_v47 (F := Ideal) (Xr m c) (Xi m c) (Ar m c) (Ai m c) := by
  refine (dats m 0 c).arrAt_eq_of_covers 13 _ (by decide +kernel) fun t hf y => ?_
  blk_simp
  rw [after0_13]
  obtain ⟨z, q, rfl⟩ := Cert.Prod.cases2 y
  obtain rfl : z = 0 := Fin.ext (by omega)
  refine (re_last m c t ((flush0_13 t).mp hf) q).trans ((re_reference m c (col t q)).symm.trans ?_)
  blk_ext [idx t, col]

theorem im_final : (dats m 0 c).arrAt 14 (cfgs 0).N = val_main_v43 (F := Ideal) (Xr m c) (Xi m c) (Ar m c) (Ai m c) := by
  refine (dats m 0 c).arrAt_eq_of_covers 14 _ (by decide +kernel) fun t hf y => ?_
  blk_simp
  rw [after0_14]
  obtain ⟨z, q, rfl⟩ := Cert.Prod.cases2 y
  obtain rfl : z = 0 := Fin.ext (by omega)
  refine (im_last m c t ((flush0_14 t).mp hf) q).trans ((im_reference m c (col t q)).symm.trans ?_)
  blk_ext [idx t, col]

/-! ## The gradient of the channels -/

theorem tile (ar ai : Vec Ideal S1024x512 .f32) (br bi : Vec Ideal S1x512x128 .bf16) (s : Vec Ideal S1024x128 .f32) (l : Fin 1024) (q : Fin 128) :
    (k0_pay5 (F := Ideal) ar ai br bi s (ix2 l q) : EReal) = (∑ p : Fin 512, (ar (ix2 l p) : EReal) * br (ix3 0 p q))
      + (∑ p : Fin 512, (ai (ix2 l p) : EReal) * bi (ix3 0 p q)) + s (ix2 l q) := by
  pointwise [k0_pay5]
  rfl

theorem reference_at (br bi : FVec Ideal S64x64x16 .f32) (ar ai : FVec Ideal S4096x4096 .f32) (s : FVec Ideal S4096x1024 .f32)
    (l : Fin 4096) (g : Fin 64) (e : Fin 16) :
    (val_main_v59 (F := Ideal) br bi ar ai s (ix2 l (chanAll g e)) : EReal)
      = (∑ p : Fin 64, (ai (ix2 l (stateAll g p)) : EReal) * bi (ix3 g p e))
      + (∑ p : Fin 64, (ar (ix2 l (stateAll g p)) : EReal) * br (ix3 g p e)) + s (ix2 l (chanAll g e)) := by
  pointwise [val_main_v59, val_main_v58, val_main_v57, val_main_v56, val_main_v55, val_main_v54, val_main_v53, val_main_v52, val_main_v51,
    val_main_v50, val_main_v49, val_main_v48, val_main_v38, val_main_v30, stateAll, chanAll]

/-- A product with a block is the product with the one group's matrix. -/
theorem block_sum (x : Vec Ideal S1024x512 .f32) (y : Vec Ideal S1x512x128 .bf16) (X : FVec Ideal S4096x4096 .f32) (b : FVec Ideal S64x64x16 .f32)
    (t : Fin cfg0.N) (hx : ∀ l q, x (ix2 l q) = X (ix2 (row t l) (col t q)))
    (hy : ∀ s q, y (ix3 0 s q) = inBlocks b (ix3 (eight t) q s)) (l : Fin 1024) (h : Fin 8) (e : Fin 16) :
    ∑ s : Fin 512, (x (ix2 l s) : EReal) * y (ix3 0 s (chan h e))
      = ∑ p : Fin 64, (X (ix2 (row t l) (stateAll (group (eight t) h) p)) : EReal) * b (ix3 (group (eight t) h) p e) := by
  rw [sum_state _ h fun g hg p => by rw [hy, inBlocks_other b _ h g (Ne.symm hg), mul_zero]]
  refine Finset.sum_congr rfl fun p _ => congrArg₂ (fun x y : EReal => x * y) ((hx l _).trans ?_) ((hy _ _).trans (inBlocks_same b _ h e p))
  refine congrArg (fun k : Fin 4096 => X (ix2 (row t l) k)) (Fin.ext ?_)
  show t.val / 4 * 512 + (h.val * 64 + p.val) = (t.val / 4 * 8 + h.val) * 64 + p.val
  omega

theorem u_final : (dats m 0 c).arrAt 10 (cfgs 0).N = val_main_v59 (F := Ideal) (Br m c) (Bi m c) (Ar m c) (Ai m c) (Sk m c) := by
  refine (dats m 0 c).arrAt_eq_of_covers 10 _ (by decide +kernel) fun t hf y => ?_
  blk_simp
  rw [after0_10]
  obtain ⟨l, q, rfl⟩ := Cert.Prod.cases2 y
  obtain ⟨h, e, rfl⟩ := chan_cases q
  have hd : (outsAt0 m c t.val t.isLt).1 = k0_pay5 (F := Ideal) (iblk m c 0 t) (iblk m c 1 t) (iblk m c 2 t) (iblk m c 3 t) (iblk m c 5 t) := by
    by_cases h0 : t.val % 4 = 0
    · rw [outsAt0_A m c t h0]
      frame_open
      frame_out
      try simp only [read_unread_whole]
    · rw [outsAt0_B m c t h0]
      frame_open
      frame_out
      try simp only [read_unread_whole]
  rw [hd]
  refine (tile _ _ _ _ _ _ _).trans ?_
  rw [block_sum _ _ (Ar m c) (Br m c) t (ar_at m c t) (br_at m c t), block_sum _ _ (Ai m c) (Bi m c) t (ai_at m c t) (bi_at m c t),
    sk_at, @add_comm EReal _ (∑ _, _)]
  refine (reference_at (Br m c) (Bi m c) (Ar m c) (Ai m c) (Sk m c) (row t l) (group (eight t) h) e).symm.trans ?_
  blk_ext [idx t, row, eight, group, chan, chanAll]

end Cert.StBackIdeal.Mixer

namespace Cert.StBack

open Idealize.ShloMosaic Idealize.SL.Sem
open Cert.StBackIdeal.Mixer (Br Bi Xr Xi Ar Ai Sk)
open Cert.StBackRefIdeal.Read

theorem reference_frame : Cert.quiescent_StBackRefIdeal (hStBackRefIdeal := Cert.StBackRefIdeal.Gen.facts) :=
  fun m ρ _ => (θ_run _ _ _).mono (fun r h => ⟨fun c => (h c).2.2.2, sem_eq_zero_of_no_sems (by decide) r.2⟩)
    (Cert.StBackRefIdeal.Value.run (F := Ideal) m ρ)

/-- The gradients the kernel computes of the channels and of the eigenvalues are the reference's. -/
theorem agree : Cert.algebraic_StBackIdeal_StBackRefIdeal (hStBackIdeal := Cert.StBackIdeal.Gen.facts)
    (hStBackRefIdeal := Cert.StBackRefIdeal.Gen.facts) := by
  intro m g m' g' _ hargs
  refine ⟨fun c => val_main_v59 (F := Ideal) (Br m c) (Bi m c) (Ar m c) (Ai m c) (Sk m c),
    fun c => val_main_v47 (F := Ideal) (Xr m c) (Xi m c) (Ar m c) (Ai m c),
    fun c => val_main_v43 (F := Ideal) (Xr m c) (Xi m c) (Ar m c) (Ai m c),
    (θ_run _ _ _).mono (fun r h c => ?_) (Cert.StBackIdeal.Value.run_blocks (F := Ideal) m g),
    (θ_run _ _ _).mono (fun r h c => ?_) (Cert.StBackRefIdeal.Value.run (F := Ideal) m' g')⟩
  · obtain ⟨h10, -, -, h13, h14, h⟩ := h c
    exact ⟨h10.trans (Cert.StBackIdeal.Mixer.u_final m c), h13.trans (Cert.StBackIdeal.Mixer.re_final m c),
      h14.trans (Cert.StBackIdeal.Mixer.im_final m c), h⟩
  · obtain ⟨h0, h1, h2, h⟩ := h c
    obtain ⟨e0, e1, e2, e3, e4, e5, e6, e7, e8, e9⟩ := hargs c
    refine ⟨h0.trans ?_, h1.trans ?_, h2.trans ?_, h⟩
    · rw [val_main_v59_eq, e3, e4, e7, e8, e9]
    · rw [val_main_v47_eq, e5, e6, e7, e8]
    · rw [val_main_v43_eq, e5, e6, e7, e8]

end Cert.StBack
-- ==== Proof.Norm.Rows.lean ====
/- The gradient of a row's root mean square norm, over the extended reals: the scale is a real number, so it moves across sums. -/
module

public import Idealize.ShloMosaic.PureOps.Ideal
public import Idealize.ShloMosaic.Lib.IdealHost

@[expose] public section

noncomputable section

namespace Cert.Norm

open Idealize.ShloMosaic
open scoped BigOperators

/-- The number of columns, the small number under the root, and minus one half, as the programs spell them. -/
theorem width : Ideal.ofBits FTy.f32 1157627904#32 = ((2048 : ℝ) : EReal) := by
  simp [Ideal.ofBits, Ideal.ieee, -EReal.coe_mul]; norm_num
@[inherit_doc width] theorem group_width : Ideal.ofBits FTy.f32 1136656384#32 = ((384 : ℝ) : EReal) := by
  simp [Ideal.ofBits, Ideal.ieee, -EReal.coe_mul]; norm_num
@[inherit_doc width] theorem small : ∃ e : ℝ, 0 < e ∧ Ideal.ofBits FTy.f32 897988541#32 = (e : EReal) := by
  refine ⟨_, ?_, by simp [Ideal.ofBits, Ideal.ieee, -EReal.coe_mul]; rfl⟩
  norm_num
@[inherit_doc width] theorem minus_half : Ideal.ofBits FTy.f32 3204448256#32 = ((-(1 / 2) : ℝ) : EReal) := by
  simp [Ideal.ofBits, Ideal.ieee, -EReal.coe_mul, -EReal.coe_neg]; norm_num

theorem square_nonneg (x : EReal) : 0 ≤ x * x := by
  rw [EReal.mul_nonneg_iff]
  rcases le_total 0 x with h | h
  · exact .inl ⟨h, h⟩
  · exact .inr ⟨h, h⟩

/-- A nonnegative real factor moves out of a sum. -/
theorem sum_scale {n : ℕ} (f : Fin n → EReal) (a : ℝ) (ha : 0 ≤ a) : ∑ k, f k * (a : EReal) = (∑ k, f k) * (a : EReal) := by
  induction n with
  | zero => simp
  | succ n ih =>
    rw [Fin.sum_univ_succ, Fin.sum_univ_succ, ih, EReal.right_distrib_of_nonneg_of_ne_top (EReal.coe_nonneg.mpr ha) (EReal.coe_ne_top a)]

theorem twice (a : EReal) : a + a = a * ((2 : ℝ) : EReal) := by
  have h : ((2 : ℝ) : EReal) = 1 + 1 := by norm_cast
  rw [h, EReal.left_distrib_of_nonneg zero_le_one zero_le_one, mul_one]

/-- The mean square of a row, with the small number added, is positive. -/
theorem mean_pos {n : ℕ} (x : Fin n → EReal) (N e : ℝ) (hN : 0 < N) (he : 0 < e) :
    0 < Ideal.div (∑ k, x k * x k) (N : EReal) + (e : EReal) := by
  rw [Ideal.div_coe hN.ne']
  refine lt_of_lt_of_le (EReal.coe_pos.mpr he) (le_add_of_nonneg_left ?_)
  exact EReal.mul_nonneg (Finset.sum_nonneg fun k _ => square_nonneg _) (EReal.coe_nonneg.mpr (by positivity))

/-- The gradient of one entry: as the kernel computes it, and by the chain rule through the mean square. -/
theorem entry_eq {n : ℕ} (x g : Fin n → EReal) (v d : EReal) (hv : 0 < v) (N : ℝ) (hN : 0 < N) (j : Fin n) :
    d + Ideal.rsqrt v * (g j - x j * Ideal.rsqrt v * Ideal.div (∑ k, g k * (x k * Ideal.rsqrt v)) (N : EReal))
      = g j * Ideal.rsqrt v
        + x j * Ideal.div ((∑ k, x k * g k) * (((-(1 / 2) : ℝ) : EReal) * Ideal.div (Ideal.rsqrt v) v)) (N : EReal)
        + Ideal.div ((∑ k, x k * g k) * (((-(1 / 2) : ℝ) : EReal) * Ideal.div (Ideal.rsqrt v) v)) (N : EReal) * x j
        + d := by
  induction v with
  | bot => exact absurd hv (by simp)
  | top =>
    have h : Ideal.div 0 ⊤ = 0 := by simp [Ideal.div]
    simp [h, Ideal.div_coe hN.ne']
  | coe a =>
    have ha : 0 < a := EReal.coe_pos.mp hv
    have hs : 0 < Real.sqrt a := Real.sqrt_pos.mpr ha
    rw [Ideal.rsqrt_coe, if_neg (not_lt.mpr ha.le), if_neg ha.ne']
    generalize hr : (Real.sqrt a)⁻¹ = r
    have hr0 : 0 < r := by rw [← hr]; positivity
    have ea : 1 / a = r * r := by
      rw [← hr, ← mul_inv, Real.mul_self_sqrt ha.le, one_div]
    have es : ∑ k, g k * (x k * (r : EReal)) = (∑ k, x k * g k) * (r : EReal) := by
      rw [← sum_scale _ r hr0.le]
      exact Finset.sum_congr rfl fun k _ => by rw [← mul_assoc, @mul_comm EReal _ (g k)]
    rw [es, Ideal.div_coe ha.ne', Ideal.div_coe hN.ne', Ideal.div_coe hN.ne', ea]
    generalize (∑ k, x k * g k) = S
    generalize x j = X
    generalize g j = G
    have el : X * (r : EReal) * (S * (r : EReal) * ((1 / N : ℝ) : EReal)) = X * S * ((r * r * (1 / N) : ℝ) : EReal) := by
      push_cast
      ac_rfl
    have eq : X * (S * (((-(1 / 2) : ℝ) : EReal) * ((r : EReal) * ((r * r : ℝ) : EReal))) * ((1 / N : ℝ) : EReal))
        = X * S * ((-(1 / 2) * (r * (r * r)) * (1 / N) : ℝ) : EReal) := by
      push_cast
      ac_rfl
    rw [el, @mul_comm EReal _ _ X, eq, sub_eq_add_neg,
      EReal.left_distrib_of_nonneg_of_ne_top (EReal.coe_nonneg.mpr hr0.le) (EReal.coe_ne_top r), add_assoc _ (_ * _) (_ * _), twice, mul_assoc (X * S),
      ← EReal.coe_mul, mul_comm (r : EReal) G, mul_neg, mul_comm (r : EReal) (X * S * _), mul_assoc (X * S), ← EReal.coe_mul, ← mul_neg,
      ← EReal.coe_neg, @add_comm EReal _ d]
    refine congrArg (fun z : ℝ => G * (r : EReal) + X * S * (z : EReal) + d) ?_
    ring

end Cert.Norm
-- ==== Proof.Norm.Back.lean ====
/- The rows' norm, back: the gradients of the rows and of the weights. -/
module

public import proofs.«01_k».proof.Defs
public import proofs.«01_k».proof.Proof.Prod.Tiles
public import proofs.«01_k».proof.Proof.Norm.Rows
public import proofs.«01_k».proof.Proof.Gen.RmsB.Frame
public import proofs.«01_k».proof.Proof.Gen.RmsBIdeal.Value
public import proofs.«01_k».proof.Proof.Gen.RmsBRefIdeal.Run
public import proofs.«01_k».proof.Proof.Gen.RmsBRefIdeal.Read
public import Idealize.ShloMosaic.Lib.Pipeline.ReadBack
public import Idealize.ShloMosaic.Lib.StableHlo.RunRead
public import Idealize.ShloMosaic.Lib.Tactic.WordOmega
public import Idealize.ShloMosaic.Adequacy
public import Idealize.ShloMosaic.Init

@[expose] public section

set_option maxRecDepth 16384

noncomputable section

namespace Cert.RmsBIdeal.Norm

open Idealize.ShloMosaic Idealize.ShloMosaic.TcCoe Idealize.SL.Sem
open Idealize.ShloMosaic.Pipeline (Dat)
open Cert.RmsBIdeal Cert.RmsBIdeal.Gen Cert.Norm
open Cert.RmsBRefIdeal.Read

variable (m : (ℓ : Loc nD τ sig) → Buf (Elt Ideal) ℓ) (c : Dev nD)

/-- The rows. -/
abbrev X : FVec Ideal S4096x2048 .f32 := m ((c : Thread nD τ).loc main_arg0)
/-- The weights. -/
abbrev W : FVec Ideal S2048 .f32 := m ((c : Thread nD τ).loc main_arg1)
/-- The gradient of the norm, and the gradient that passes by it. -/
abbrev G : FVec Ideal S4096x2048 .f32 := m ((c : Thread nD τ).loc main_arg2)
@[inherit_doc G] abbrev P : FVec Ideal S4096x2048 .f32 := m ((c : Thread nD τ).loc main_arg3)

theorem idx : ∀ t : Fin cfg0.N, win0_0.index t = ![t.val, 0] ∧ win0_1.index t = ![t.val, 0] ∧ win0_2.index t = ![0, 0] ∧
    win0_3.index t = ![t.val, 0] ∧ win0_4.index t = ![t.val, 0] ∧ win0_5.index t = ![t.val, 0] ∧ win0_6.index t = ![0, 0] :=
  (by decide +kernel : ∀ t : Fin grid0.N, _)

/-- The row of a point's tile. -/
def row (t : Fin cfg0.N) (l : Fin 256) : Fin 4096 :=
  ⟨t.val * 256 + l.val, by have : t.val < 16 := lt_of_lt_of_eq t.isLt N_0; omega⟩

theorem V0 : V m c main_v0 = shapeCast _ (W m c) shapeCasts_S2048_S1x2048 := by
  unfold V
  after_reads_simp
  rfl

theorem g_at (t : Fin cfg0.N) (l : Fin 256) (q : Fin 2048) :
    (iblk m c 0 t : FVec Ideal S256x2048 .f32) (ix2 l q) = G m c (ix2 (row t l) q) := by
  blk_ext [iblk, idx t, row]

theorem x_at (t : Fin cfg0.N) (l : Fin 256) (q : Fin 2048) :
    (iblk m c 1 t : FVec Ideal S256x2048 .f32) (ix2 l q) = X m c (ix2 (row t l) q) := by
  blk_ext [iblk, idx t, row]

theorem w_at (t : Fin cfg0.N) (q : Fin 2048) : (iblk m c 2 t : FVec Ideal S1x2048 .f32) (ix2 0 q) = W m c (ix1 q) := by
  refine (?_ : _ = (V m c main_v0 : FVec Ideal S1x2048 .f32) (ix2 0 q)).trans (by rw [V0]; pointwise)
  blk_ext [iblk, idx t]

theorem p_at (t : Fin cfg0.N) (l : Fin 256) (q : Fin 2048) :
    (iblk m c 3 t : FVec Ideal S256x2048 .f32) (ix2 l q) = P m c (ix2 (row t l) q) := by
  blk_ext [iblk, idx t, row]

/-- What is under the root. -/
def under (x : FVec Ideal S4096x2048 .f32) (l : Fin 4096) : EReal :=
  Ideal.div (∑ k : Fin 2048, (x (ix2 l k) : EReal) * x (ix2 l k)) (Ideal.ofBits FTy.f32 1157627904#32) + Ideal.ofBits FTy.f32 897988541#32

theorem under_pos (x : FVec Ideal S4096x2048 .f32) (l : Fin 4096) : 0 < under x l := by
  obtain ⟨e, he, h⟩ := small
  rw [under, width, h]
  exact mean_pos _ _ _ (by norm_num) he

theorem scale_eq (t : Fin cfg0.N) (l : Fin 256) :
    (k0_pay2 (F := Ideal) (iblk m c 1 t) (ix2 l 0) : EReal) = Ideal.rsqrt (under (X m c) (row t l)) := by
  pointwise [k0_pay2]
  simp only [x_at]
  rfl

theorem unit_eq (t : Fin cfg0.N) (l : Fin 256) (q : Fin 2048) :
    (k0_pay3 (F := Ideal) (iblk m c 1 t) (ix2 l q) : EReal) = X m c (ix2 (row t l) q) * Ideal.rsqrt (under (X m c) (row t l)) := by
  pointwise [k0_pay3]
  rw [x_at, scale_eq]

theorem tile_eq (t : Fin cfg0.N) (l : Fin 256) (q : Fin 2048) :
    (k0_pay4 (F := Ideal) (iblk m c 1 t) (iblk m c 0 t) (iblk m c 2 t) (iblk m c 3 t) (ix2 l q) : EReal)
      = P m c (ix2 (row t l) q) + Ideal.rsqrt (under (X m c) (row t l)) * ((G m c (ix2 (row t l) q) : EReal) * W m c (ix1 q)
        - X m c (ix2 (row t l) q) * Ideal.rsqrt (under (X m c) (row t l))
          * Ideal.div (∑ k : Fin 2048, (G m c (ix2 (row t l) k) : EReal) * W m c (ix1 k)
            * (X m c (ix2 (row t l) k) * Ideal.rsqrt (under (X m c) (row t l)))) (Ideal.ofBits FTy.f32 1157627904#32)) := by
  pointwise [k0_pay4]
  simp only [g_at, w_at, p_at, unit_eq, scale_eq]

theorem reference_at (x : FVec Ideal S4096x2048 .f32) (w : FVec Ideal S2048 .f32) (g p : FVec Ideal S4096x2048 .f32) (l : Fin 4096) (q : Fin 2048) :
    (val_main_v36 (F := Ideal) x w g p (ix2 l q) : EReal)
      = (g (ix2 l q) : EReal) * w (ix1 q) * Ideal.rsqrt (under x l)
        + x (ix2 l q) * Ideal.div ((∑ k : Fin 2048, (x (ix2 l k) : EReal) * (g (ix2 l k) * w (ix1 k)))
          * (Ideal.ofBits FTy.f32 3204448256#32 * Ideal.div (Ideal.rsqrt (under x l)) (under x l))) (Ideal.ofBits FTy.f32 1157627904#32)
        + Ideal.div ((∑ k : Fin 2048, (x (ix2 l k) : EReal) * (g (ix2 l k) * w (ix1 k)))
          * (Ideal.ofBits FTy.f32 3204448256#32 * Ideal.div (Ideal.rsqrt (under x l)) (under x l))) (Ideal.ofBits FTy.f32 1157627904#32)
          * x (ix2 l q)
        + p (ix2 l q) := by
  pointwise [val_main_v36, val_main_v35, val_main_v34, val_main_v33, val_main_v32, val_main_v31, val_main_v30, val_main_v29, val_main_v28,
    val_main_v27, val_main_v26, val_main_v25, val_main_v24, val_main_v23, val_main_v22, val_main_v20, val_main_v19, val_main_v13, val_main_v10,
    val_main_v9, val_main_v8, val_main_v7, val_main_v6, val_main_v5, val_main_v4, val_main_v3, val_main_v2, val_main_v1, val_main_v0,
    val_main_cst, val_main_cst_0, val_main_cst_1, val_main_cst_2, val_main_cst_5, val_main_cst_6, val_main_cst_7, under]
  simp only [Fin.sum_univ_one]

theorem dx_eq (t : Fin cfg0.N) (l : Fin 256) (q : Fin 2048) :
    k0_pay4 (F := Ideal) (iblk m c 1 t) (iblk m c 0 t) (iblk m c 2 t) (iblk m c 3 t) (ix2 l q)
      = val_main_v36 (F := Ideal) (X m c) (W m c) (G m c) (P m c) (ix2 (row t l) q) := by
  refine (tile_eq m c t l q).trans (Eq.trans ?_ (reference_at _ _ _ _ _ _).symm)
  rw [width, minus_half]
  exact entry_eq (fun k => X m c (ix2 (row t l) k)) (fun k => (G m c (ix2 (row t l) k) : EReal) * W m c (ix1 k)) _ _ (under_pos _ _) _
    (by norm_num) q

/-! ## The gradient of the weights, summed over the tiles -/

theorem w_add (a : Vec Ideal S1x2048 .f32) (t : Fin cfg0.N) (q : Fin 2048) :
    (k0_pay1 (F := Ideal) (k0_pay3 (iblk m c 1 t)) (iblk m c 0 t) a (ix2 0 q) : EReal)
      = a (ix2 0 q) + ∑ l : Fin 256, (X m c (ix2 (row t l) q) * Ideal.rsqrt (under (X m c) (row t l)) : EReal) * G m c (ix2 (row t l) q) := by
  pointwise [k0_pay1]
  refine congrArg (fun z : EReal => a (ix2 0 q) + z) (Finset.sum_congr rfl fun l _ => ?_)
  rw [unit_eq, g_at, @mul_comm EReal]

theorem w_first (t : Fin cfg0.N) (h : t.val % 16 = 0) (q : Fin 2048) :
    ((outsAt0 m c t.val t.isLt).2.2 (ix2 0 q) : EReal)
      = 0 + ∑ l : Fin 256, (X m c (ix2 (row t l) q) * Ideal.rsqrt (under (X m c) (row t l)) : EReal) * G m c (ix2 (row t l) q) := by
  rw [outsAt0_A m c t h]
  frame_open
  simp (disch := decide) only [↓ View.readCov_skip, ↓ View.readCov_cons_toLoadRect, ↓ View.readCov_fill]
  frame_out
  try simp only [read_unread_whole]
  have z : (k0_pay6 (F := Ideal) (ix2 0 q) : EReal) = 0 := by
    pointwise [k0_pay6]
  have e := w_add m c (k0_pay6 (F := Ideal)) t q
  rw [z] at e
  exact e

theorem w_next (t : Fin cfg0.N) (h : ¬t.val % 16 = 0) (q : Fin 2048) :
    ((outsAt0 m c t.val t.isLt).2.2 (ix2 0 q) : EReal)
      = (outsAt0 m c (t.val - 1) (Nat.lt_of_le_of_lt (Nat.sub_le _ _) t.isLt)).2.2 (ix2 0 q)
        + ∑ l : Fin 256, (X m c (ix2 (row t l) q) * Ideal.rsqrt (under (X m c) (row t l)) : EReal) * G m c (ix2 (row t l) q) := by
  rw [outsAt0_B m c t h]
  frame_open
  simp (disch := decide) only [↓ View.readCov_skip, ↓ View.readCov_cons_toLoadRect, ↓ View.readCov_fill]
  frame_out
  try simp only [read_unread_whole]
  exact w_add m c _ t q

theorem w_last (t : Fin cfg0.N) (h : t.val % 16 = 15) (q : Fin 2048) :
    ((outsAt0 m c t.val t.isLt).2.2 (ix2 0 q) : EReal)
      = ∑ l : Fin 4096, (X m c (ix2 l q) * Ideal.rsqrt (under (X m c) l) : EReal) * G m c (ix2 l q) := by
  refine Cert.Prod.whole (K := 16) (S := 256) (T := 4096) rfl (fun n h q => ((outsAt0 m c n h).2.2 (ix2 0 q) : EReal))
    (fun t q => ∑ l : Fin 256, (X m c (ix2 (row t l) q) * Ideal.rsqrt (under (X m c) (row t l)) : EReal) * G m c (ix2 (row t l) q))
    (fun t q l => (X m c (ix2 l q) * Ideal.rsqrt (under (X m c) l) : EReal) * G m c (ix2 l q))
    (w_first m c) (w_next m c) (fun t u k h q => Finset.sum_congr rfl fun l _ => ?_) t h q
  have e : row u l = Cert.Prod.place (T := 4096) rfl k l := by
    refine Fin.ext ?_
    show u.val * 256 + l.val = k.val * 256 + l.val
    have : t.val < 16 := lt_of_lt_of_eq t.isLt N_0
    omega
  rw [e]

theorem w_reference (x g : FVec Ideal S4096x2048 .f32) (q : Fin 2048) : (val_main_v39 (F := Ideal) x g (ix2 0 q) : EReal)
    = ∑ l : Fin 4096, (x (ix2 l q) * Ideal.rsqrt (under x l) : EReal) * g (ix2 l q) := by
  pointwise [val_main_v39, val_main_v21, val_main_v18, val_main_v17, val_main_v16, val_main_v12, val_main_v11, val_main_v7, val_main_v6,
    val_main_v5, val_main_v4, val_main_v3, val_main_v2, val_main_v1, val_main_v0, val_main_cst, val_main_cst_0, val_main_cst_1,
    val_main_cst_3, val_main_cst_4, under]
  simp only [Fin.sum_univ_one]

theorem tiles (t : Fin cfg0.N) : (outsAt0 m c t.val t.isLt).1 = k0_pay4 (F := Ideal) (iblk m c 1 t) (iblk m c 0 t) (iblk m c 2 t) (iblk m c 3 t)
    ∧ (outsAt0 m c t.val t.isLt).2.1 = k0_pay5 (F := Ideal) (iblk m c 1 t) (iblk m c 0 t) (iblk m c 2 t) (iblk m c 3 t) := by
  by_cases h0 : t.val % 16 = 0
  · rw [outsAt0_A m c t h0]
    constructor
    all_goals
      frame_open
      frame_out
      try simp only [read_unread_whole]
  · rw [outsAt0_B m c t h0]
    constructor
    all_goals
      frame_open
      frame_out
      try simp only [read_unread_whole]

theorem x_final : (dats m 0 c).arrAt 4 (cfgs 0).N = val_main_v36 (F := Ideal) (X m c) (W m c) (G m c) (P m c) := by
  refine (dats m 0 c).arrAt_eq_of_covers 4 _ (by decide +kernel) fun t hf y => ?_
  blk_simp
  rw [after0_4, (tiles m c t).1]
  obtain ⟨l, q, rfl⟩ := Cert.Prod.cases2 y
  refine (dx_eq m c t l q).trans ?_
  blk_ext [idx t, row]

theorem xb_final : (dats m 0 c).arrAt 5 (cfgs 0).N = val_main_v38 (F := Ideal) (X m c) (W m c) (G m c) (P m c) := by
  refine (dats m 0 c).arrAt_eq_of_covers 5 _ (by decide +kernel) fun t hf y => ?_
  blk_simp
  rw [after0_5, (tiles m c t).2]
  obtain ⟨l, q, rfl⟩ := Cert.Prod.cases2 y
  refine Eq.trans (b := val_main_v38 (F := Ideal) (X m c) (W m c) (G m c) (P m c) (ix2 (row t l) q)) (dx_eq m c t l q) ?_
  blk_ext [idx t, row]

theorem w_final : (dats m 0 c).arrAt 6 (cfgs 0).N = val_main_v39 (F := Ideal) (X m c) (G m c) := by
  refine (dats m 0 c).arrAt_eq_of_covers 6 _ (by decide +kernel) fun t hf y => ?_
  blk_simp
  rw [after0_6]
  obtain ⟨z, q, rfl⟩ := Cert.Prod.cases2 y
  obtain rfl : z = 0 := Fin.ext (by omega)
  refine (w_last m c t ((flush0_6 t).mp hf) q).trans ((w_reference _ _ q).symm.trans ?_)
  blk_ext [idx t]

end Cert.RmsBIdeal.Norm

namespace Cert.RmsB

open Idealize.ShloMosaic Idealize.SL.Sem
open Cert.RmsBIdeal.Norm (X W G P)
open Cert.RmsBRefIdeal.Read

theorem reference_frame : Cert.quiescent_RmsBRefIdeal (hRmsBRefIdeal := Cert.RmsBRefIdeal.Gen.facts) :=
  fun m ρ _ => (θ_run _ _ _).mono (fun r h => ⟨fun c => (h c).2.2.2, sem_eq_zero_of_no_sems (by decide) r.2⟩)
    (Cert.RmsBRefIdeal.Value.run (F := Ideal) m ρ)

/-- The gradients the kernel computes of the rows and of the weights are the reference's. -/
theorem agree : Cert.algebraic_RmsBIdeal_RmsBRefIdeal (hRmsBIdeal := Cert.RmsBIdeal.Gen.facts)
    (hRmsBRefIdeal := Cert.RmsBRefIdeal.Gen.facts) := by
  intro m g m' g' _ hargs
  refine ⟨fun c => val_main_v36 (F := Ideal) (X m c) (W m c) (G m c) (P m c), fun c => val_main_v38 (F := Ideal) (X m c) (W m c) (G m c) (P m c),
    fun c => val_main_v39 (F := Ideal) (X m c) (G m c),
    (θ_run _ _ _).mono (fun r h c => ?_) (Cert.RmsBIdeal.Value.run_blocks (F := Ideal) m g),
    (θ_run _ _ _).mono (fun r h c => ?_) (Cert.RmsBRefIdeal.Value.run (F := Ideal) m' g')⟩
  · obtain ⟨h4, h5, h6, h⟩ := h c
    exact ⟨h4.trans (Cert.RmsBIdeal.Norm.x_final m c), h5.trans (Cert.RmsBIdeal.Norm.xb_final m c),
      h6.trans (Cert.RmsBIdeal.Norm.w_final m c), h⟩
  · obtain ⟨h4, h5, h6, h⟩ := h c
    obtain ⟨e0, e1, e2, e3⟩ := hargs c
    refine ⟨h4.trans ?_, h5.trans ?_, h6.trans ?_, h⟩
    · rw [val_main_v36_eq, e0, e1, e2, e3]
    · rw [val_main_v38_eq, e0, e1, e2, e3]
    · rw [val_main_v39_eq, e0, e2]

end Cert.RmsB
-- ==== Proof.Norm.Forward.lean ====
/- The rows' norm. -/
module

public import proofs.«01_k».proof.Defs
public import proofs.«01_k».proof.Proof.Prod.Tiles
public import proofs.«01_k».proof.Proof.Gen.RmsF.Frame
public import proofs.«01_k».proof.Proof.Gen.RmsFIdeal.Value
public import proofs.«01_k».proof.Proof.Gen.RmsFRefIdeal.Run
public import proofs.«01_k».proof.Proof.Gen.RmsFRefIdeal.Read
public import Idealize.ShloMosaic.Lib.Pipeline.ReadBack
public import Idealize.ShloMosaic.Lib.StableHlo.RunRead
public import Idealize.ShloMosaic.Lib.Tactic.WordOmega
public import Idealize.ShloMosaic.Adequacy
public import Idealize.ShloMosaic.Init

@[expose] public section

set_option maxRecDepth 16384

noncomputable section

namespace Cert.RmsFIdeal.Norm

open Idealize.ShloMosaic Idealize.ShloMosaic.TcCoe Idealize.SL.Sem
open Idealize.ShloMosaic.Pipeline (Dat)
open Cert.RmsFIdeal Cert.RmsFIdeal.Gen
open Cert.RmsFRefIdeal.Read

variable (m : (ℓ : Loc nD τ sig) → Buf (Elt Ideal) ℓ) (c : Dev nD)

/-- The rows. -/
abbrev X : FVec Ideal S4096x2048 .f32 := m ((c : Thread nD τ).loc main_arg0)
/-- The weights. -/
abbrev W : FVec Ideal S2048 .f32 := m ((c : Thread nD τ).loc main_arg1)

theorem idx : ∀ t : Fin cfg0.N, win0_0.index t = ![t.val, 0] ∧ win0_1.index t = ![0, 0] ∧ win0_2.index t = ![t.val, 0] :=
  (by decide +kernel : ∀ t : Fin grid0.N, _)

/-- The row of a point's tile. -/
def row (t : Fin cfg0.N) (l : Fin 256) : Fin 4096 :=
  ⟨t.val * 256 + l.val, by have : t.val < 16 := lt_of_lt_of_eq t.isLt N_0; omega⟩

theorem V0 : V m c main_v0 = shapeCast _ (W m c) shapeCasts_S2048_S1x2048 := by
  unfold V
  after_reads_simp
  rfl

theorem x_at (t : Fin cfg0.N) (l : Fin 256) (q : Fin 2048) :
    (iblk m c 0 t : FVec Ideal S256x2048 .f32) (ix2 l q) = X m c (ix2 (row t l) q) := by
  blk_ext [iblk, idx t, row]

theorem w_at (t : Fin cfg0.N) (q : Fin 2048) : (iblk m c 1 t : FVec Ideal S1x2048 .f32) (ix2 0 q) = W m c (ix1 q) := by
  refine (?_ : _ = (V m c main_v0 : FVec Ideal S1x2048 .f32) (ix2 0 q)).trans (by rw [V0]; pointwise)
  blk_ext [iblk, idx t]

theorem tile_eq (t : Fin cfg0.N) (l : Fin 256) (q : Fin 2048) :
    (k0_pay1 (F := Ideal) (iblk m c 0 t) (iblk m c 1 t) (ix2 l q) : EReal)
      = val_main_v13 (F := Ideal) (X m c) (W m c) (ix2 (row t l) q) := by
  pointwise [k0_pay1, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  simp only [x_at, w_at]

theorem final : (dats m 0 c).arrAt 2 (cfgs 0).N = val_main_v13 (F := Ideal) (X m c) (W m c) := by
  refine (dats m 0 c).arrAt_eq_of_covers 2 _ (by decide +kernel) fun t hf y => ?_
  blk_simp
  rw [after0_2]
  obtain ⟨l, q, rfl⟩ := Cert.Prod.cases2 y
  frame_open
  frame_out
  try simp only [read_unread_whole]
  refine (tile_eq m c t l q).trans ?_
  blk_ext [idx t, row]

end Cert.RmsFIdeal.Norm

namespace Cert.RmsF

open Idealize.ShloMosaic Idealize.SL.Sem
open Cert.RmsFIdeal.Norm (X W)
open Cert.RmsFRefIdeal.Read

theorem reference_frame : Cert.quiescent_RmsFRefIdeal (hRmsFRefIdeal := Cert.RmsFRefIdeal.Gen.facts) :=
  fun m ρ _ => (θ_run _ _ _).mono (fun r h => ⟨fun c => (h c).2, sem_eq_zero_of_no_sems (by decide) r.2⟩)
    (Cert.RmsFRefIdeal.Value.run (F := Ideal) m ρ)

/-- The kernel's norm is the reference's. -/
theorem agree : Cert.algebraic_RmsFIdeal_RmsFRefIdeal (hRmsFIdeal := Cert.RmsFIdeal.Gen.facts)
    (hRmsFRefIdeal := Cert.RmsFRefIdeal.Gen.facts) := by
  intro m g m' g' _ hargs
  refine ⟨fun c => val_main_v13 (F := Ideal) (X m c) (W m c),
    (θ_run _ _ _).mono (fun r h c => ?_) (Cert.RmsFIdeal.Value.run_blocks (F := Ideal) m g),
    (θ_run _ _ _).mono (fun r h c => ?_) (Cert.RmsFRefIdeal.Value.run (F := Ideal) m' g')⟩
  · obtain ⟨h2, h⟩ := h c
    exact ⟨h2.trans (Cert.RmsFIdeal.Norm.final m c), h⟩
  · obtain ⟨h2, h⟩ := h c
    obtain ⟨e0, e1⟩ := hargs c
    refine ⟨h2.trans ?_, h⟩
    rw [val_main_v13_eq, e0, e1]

end Cert.RmsF
-- ==== Proof.Norm.GatedForward.lean ====
/- The gated norm of the groups of channels. -/
module

public import proofs.«01_k».proof.Defs
public import proofs.«01_k».proof.Proof.Prod.Tiles
public import proofs.«01_k».proof.Proof.Prod.Laid
public import proofs.«01_k».proof.Proof.Gen.GnormF.Frame
public import proofs.«01_k».proof.Proof.Gen.GnormFIdeal.Value
public import proofs.«01_k».proof.Proof.Gen.GnormFRefIdeal.Run
public import proofs.«01_k».proof.Proof.Gen.GnormFRefIdeal.Read
public import Idealize.ShloMosaic.Lib.Pipeline.ValueKit
public import Idealize.ShloMosaic.Lib.Pipeline.ReadBack
public import Idealize.ShloMosaic.Lib.Pointwise
public import Idealize.ShloMosaic.Lib.StableHlo.RunRead
public import Idealize.ShloMosaic.Lib.Tactic.WordOmega
public import Idealize.ShloMosaic.Adequacy
public import Idealize.ShloMosaic.Init

@[expose] public section

set_option maxRecDepth 16384

noncomputable section

namespace Cert.GnormFIdeal.Norm

open Idealize.ShloMosaic Idealize.ShloMosaic.TcCoe Idealize.SL.Sem
open Idealize.ShloMosaic.Pipeline (Dat)
open Cert.GnormFIdeal Cert.GnormFIdeal.Gen
open Cert.InARefIdeal.Columns (laid)
open Cert.GnormFRefIdeal.Read

/-- The channel of a group. -/
def chan (g : Fin 8) (q : Fin 384) : Fin 3072 := ⟨g.val * 384 + q.val, by omega⟩

theorem coord_at (l : Fin 256) (g : Fin 8) (q : Fin 384) : ((ix2 l (chan g q) : S256x3072.Idx) 1).val = g.val * 384 + q.val := rfl

theorem chan_zero (q : Fin 384) : chan 0 q = ⟨q.val, by omega⟩ := Fin.ext (Nat.zero_add _)

theorem chan_cases (k : Fin 3072) : ∃ g q, k = chan g q :=
  ⟨⟨k.val / 384, by omega⟩, ⟨k.val % 384, by omega⟩, Fin.ext (by simp only [chan]; omega)⟩

/-- What the mixer gives, gated. -/
def gated (y : FVec Ideal S4096x3072 .f32) (z : FVec Ideal S4096x13360 .f32) (l : Fin 4096) (k : Fin 3072) : EReal :=
  y (ix2 l k) * (z (ix2 l ⟨k.val, by omega⟩) * Ideal.logistic (z (ix2 l ⟨k.val, by omega⟩)))

/-- What is under the root: the mean square of the group, with a small number added. -/
def under (y : FVec Ideal S4096x3072 .f32) (z : FVec Ideal S4096x13360 .f32) (l : Fin 4096) (g : Fin 8) : EReal :=
  Ideal.div (∑ q : Fin 384, gated y z l (chan g q) * gated y z l (chan g q)) (Ideal.ofBits FTy.f32 1136656384#32) + Ideal.ofBits FTy.f32 897988541#32

section

variable (y : FVec Ideal S4096x3072 .f32) (z : FVec Ideal S4096x13360 .f32) (w : FVec Ideal S3072 .f32) (l : Fin 4096)

theorem gated_at (k : Fin 3072) : (val_main_v7 (F := Ideal) y z (ix2 l k) : EReal) = gated y z l k := by
  pointwise [val_main_v7, val_main_v6, val_main_call0_v5, val_main_call0_v4, val_main_call0_v3, val_main_call0_v2, val_main_call0_v1,
    val_main_call0_v0, val_main_call0_cst, val_main_call0_cst_0, val_main_v0, gated]
  rfl

theorem group_at (g : Fin 8) (q : Fin 384) : (val_main_v8 (F := Ideal) y z (ix3 l g q) : EReal) = gated y z l (chan g q) := by
  rw [← gated_at]
  pointwise [val_main_v8]
  rfl

theorem scale_at (g : Fin 8) : (val_main_v16 (F := Ideal) y z (ix3 l g 0) : EReal) = Ideal.rsqrt (under y z l g) := by
  pointwise [val_main_v16, val_main_v15, val_main_v14, val_main_v13, val_main_v12, val_main_v11, val_main_v10, val_main_v9, val_main_cst,
    val_main_cst_0, val_main_cst_1, under]
  simp only [group_at]

theorem reference_at (g : Fin 8) (q : Fin 384) : (val_main_v23 (F := Ideal) y z w (ix2 l (chan g q)) : EReal)
    = gated y z l (chan g q) * Ideal.rsqrt (under y z l g) * w (ix1 (chan g q)) := by
  rw [← scale_at, ← group_at]
  pointwise [val_main_v23, val_main_v22, val_main_v21, val_main_v20, val_main_v19, val_main_v18, val_main_v17, chan]

end

variable (m : (ℓ : Loc nD τ sig) → Buf (Elt Ideal) ℓ) (c : Dev nD)

/-- What the state space mixer gives. -/
abbrev Y : FVec Ideal S4096x3072 .f32 := m ((c : Thread nD τ).loc main_arg0)
/-- The input projection, in the reference's order of columns. -/
abbrev Z : FVec Ideal S4096x13360 .f32 := m ((c : Thread nD τ).loc main_arg1)
/-- The weights. -/
abbrev W : FVec Ideal S3072 .f32 := m ((c : Thread nD τ).loc main_arg2)

theorem idx : ∀ t : Fin cfg0.N, win0_0.index t = ![t.val, 0] ∧ win0_1.index t = ![t.val, 0] ∧ win0_2.index t = ![0, 0] ∧
    win0_3.index t = ![t.val, 0] :=
  (by decide +kernel : ∀ t : Fin grid0.N, _)

/-- The row of a point's tile. -/
def row (t : Fin cfg0.N) (l : Fin 256) : Fin 4096 :=
  ⟨t.val * 256 + l.val, by have : t.val < 16 := lt_of_lt_of_eq t.isLt N_0; omega⟩

set_option maxHeartbeats 2000000 in
theorem V9 : V m c main_v9 = laid (Z m c) := by
  unfold V
  simp only [List.flatten_cons, List.flatten_nil, List.append_nil]
  after_reads_simp
  rfl

set_option maxHeartbeats 2000000 in
theorem V10 : V m c main_v10 = shapeCast _ (W m c) shapeCasts_S3072_S1x3072 := by
  unfold V
  simp only [List.flatten_cons, List.flatten_nil, List.append_nil]
  after_reads_simp
  rfl

theorem laid_z (z : FVec Ideal S4096x13360 .f32) (p : Fin 4096) (q : Fin 3072) : laid z (ix2 p ⟨q.val, by omega⟩) = z (ix2 p ⟨q.val, by omega⟩) := by
  pointwise [laid]
  repeat first | rw [dif_neg (by omega)] | rw [dif_pos (by omega)]
  try exact congrArg z (congrArg (ix2 p) (Fin.ext (by simp only; omega)))

theorem y_at (t : Fin cfg0.N) (l : Fin 256) (q : Fin 3072) :
    (iblk m c 0 t : FVec Ideal S256x3072 .f32) (ix2 l q) = Y m c (ix2 (row t l) q) := by
  blk_ext [iblk, idx t, row]

theorem z_at (t : Fin cfg0.N) (l : Fin 256) (q : Fin 3072) :
    (X0_1 m c t : FVec Ideal S256x3072 .f32) (ix2 l q) = Z m c (ix2 (row t l) ⟨q.val, by omega⟩) := by
  refine (?_ : _ = (V m c main_v9 : FVec Ideal S4096x13440 .f32) (ix2 (row t l) ⟨q.val, by omega⟩)).trans (by rw [V9, laid_z])
  unfold X0_1 Pipeline.Window.fill
  rw [dif_pos (moved0_1 t _)]
  blk_ext [iblk, idx t, row]

theorem w_at (t : Fin cfg0.N) (q : Fin 3072) : (iblk m c 2 t : FVec Ideal S1x3072 .f32) (ix2 0 q) = W m c (ix1 q) := by
  refine (?_ : _ = (V m c main_v10 : FVec Ideal S1x3072 .f32) (ix2 0 q)).trans (by rw [V10]; pointwise)
  blk_ext [iblk, idx t]

set_option maxHeartbeats 2000000 in
theorem tile_eq (t : Fin cfg0.N) (l : Fin 256) (g : Fin 8) (q : Fin 384) : (outsAt0 m c t (ix2 l (chan g q)) : EReal)
    = gated (Y m c) (Z m c) (row t l) (chan g q) * Ideal.rsqrt (under (Y m c) (Z m c) (row t l) g) * W m c (ix1 (chan g q)) := by
  rw [outsAt0]
  frame_open
  frame_out
  try simp only [read_unread_whole]
  canon_tiles x h
  all_goals
    obtain ⟨l', q', rfl⟩ := Cert.Prod.cases2 x
    replace h0 : l.val = l'.val := h0
    obtain rfl : l' = l := Fin.ext h0.symm
    have e1 : ((ix2 l' q' : S256x384.Idx) 1).val = q'.val := rfl
    rw [coord_at, e1] at h1
    obtain ⟨n, hn⟩ := g
    interval_cases n <;> try (exfalso; simp only at h1; omega)
    obtain rfl : q' = q := Fin.ext (by simp only at h1; omega)
    pointwise [k0_pay1, k0_pay2, k0_pay3, k0_pay4, k0_pay5, k0_pay6, k0_pay7, k0_pay8, k0_pay9, k0_pay10, k0_pay11, k0_pay12]
    simp only [y_at, z_at, w_at, under, gated, Fin.mk_zero, Fin.zero_eta, chan_zero]
    try rfl

theorem final : (dats m 0 c).arrAt 3 (cfgs 0).N = val_main_v23 (F := Ideal) (Y m c) (Z m c) (W m c) := by
  refine (dats m 0 c).arrAt_eq_of_covers 3 _ (by decide +kernel) fun t hf y => ?_
  blk_simp
  rw [after0_3]
  obtain ⟨l, k, rfl⟩ := Cert.Prod.cases2 y
  obtain ⟨g, q, rfl⟩ := chan_cases k
  refine (tile_eq m c t l g q).trans ((reference_at _ _ _ _ g q).symm.trans ?_)
  blk_ext [idx t, row]

end Cert.GnormFIdeal.Norm

namespace Cert.GnormF

open Idealize.ShloMosaic Idealize.SL.Sem
open Cert.GnormFIdeal.Norm (Y Z W)
open Cert.GnormFRefIdeal.Read

theorem reference_frame : Cert.quiescent_GnormFRefIdeal (hGnormFRefIdeal := Cert.GnormFRefIdeal.Gen.facts) :=
  fun m ρ _ => (θ_run _ _ _).mono (fun r h => ⟨fun c => (h c).2, sem_eq_zero_of_no_sems (by decide) r.2⟩)
    (Cert.GnormFRefIdeal.Value.run (F := Ideal) m ρ)

/-- The kernel's gated norm is the reference's. -/
theorem agree : Cert.algebraic_GnormFIdeal_GnormFRefIdeal (hGnormFIdeal := Cert.GnormFIdeal.Gen.facts)
    (hGnormFRefIdeal := Cert.GnormFRefIdeal.Gen.facts) := by
  intro m g m' g' _ hargs
  refine ⟨fun c => val_main_v23 (F := Ideal) (Y m c) (Z m c) (W m c),
    (θ_run _ _ _).mono (fun r h c => ?_) (Cert.GnormFIdeal.Value.run_blocks (F := Ideal) m g),
    (θ_run _ _ _).mono (fun r h c => ?_) (Cert.GnormFRefIdeal.Value.run (F := Ideal) m' g')⟩
  · obtain ⟨h2, h⟩ := h c
    exact ⟨h2.trans (Cert.GnormFIdeal.Norm.final m c), h⟩
  · obtain ⟨h2, h⟩ := h c
    obtain ⟨e0, e1, e2⟩ := hargs c
    refine ⟨h2.trans ?_, h⟩
    rw [val_main_v23_eq, e0, e1, e2]

end Cert.GnormF
-- ==== Proof.Norm.GatedBack.lean ====
/- The gated norm, back: the gradients of the mixer's result and of the weights. -/
module

public import proofs.«01_k».proof.Defs
public import proofs.«01_k».proof.Proof.Prod.Tiles
public import proofs.«01_k».proof.Proof.Norm.Rows
public import proofs.«01_k».proof.Proof.Norm.GatedForward
public import proofs.«01_k».proof.Proof.Gen.GnormB.Frame
public import proofs.«01_k».proof.Proof.Gen.GnormBIdeal.Value
public import proofs.«01_k».proof.Proof.Gen.GnormBRefIdeal.Run
public import proofs.«01_k».proof.Proof.Gen.GnormBRefIdeal.Read
public import Idealize.ShloMosaic.Lib.Pipeline.ValueKit
public import Idealize.ShloMosaic.Lib.Pipeline.ReadBack
public import Idealize.ShloMosaic.Lib.Pointwise
public import Idealize.ShloMosaic.Lib.StableHlo.RunRead
public import Idealize.ShloMosaic.Lib.Tactic.WordOmega
public import Idealize.ShloMosaic.Adequacy
public import Idealize.ShloMosaic.Init

@[expose] public section

set_option maxRecDepth 16384

noncomputable section

namespace Cert.GnormBIdeal.Norm

open Idealize.ShloMosaic Idealize.ShloMosaic.TcCoe Idealize.SL.Sem
open Idealize.ShloMosaic.Pipeline (Dat)
open Cert.GnormBIdeal Cert.GnormBIdeal.Gen Cert.Norm
open Cert.InARefIdeal.Columns (laid)
open Cert.GnormFIdeal.Norm (chan chan_cases chan_zero coord_at gated under laid_z)
open Cert.GnormBRefIdeal.Read

section

variable (y : FVec Ideal S4096x3072 .f32) (z : FVec Ideal S4096x13360 .f32) (w : FVec Ideal S3072 .f32) (d : FVec Ideal S4096x3072 .f32)
  (l : Fin 4096)

/-- The gate of a channel. -/
def gate (k : Fin 3072) : EReal := z (ix2 l ⟨k.val, by omega⟩) * Ideal.logistic (z (ix2 l ⟨k.val, by omega⟩))

/-- The gradient of what the norm is taken of, as the kernel computes it. -/
def slope (g : Fin 8) (q : Fin 384) : EReal :=
  Ideal.rsqrt (under y z l g) * ((d (ix2 l (chan g q)) : EReal) * w (ix1 (chan g q)) - gated y z l (chan g q) * Ideal.rsqrt (under y z l g)
    * Ideal.div (∑ k : Fin 384, (d (ix2 l (chan g k)) : EReal) * w (ix1 (chan g k)) * (gated y z l (chan g k) * Ideal.rsqrt (under y z l g)))
      (Ideal.ofBits FTy.f32 1136656384#32))

theorem under_pos (g : Fin 8) : 0 < under y z l g := by
  obtain ⟨e, he, h⟩ := small
  rw [under, group_width, h]
  exact mean_pos (fun q => gated y z l (chan g q)) _ _ (by norm_num) he

theorem gate_at (k : Fin 3072) : (val_main_v6 (F := Ideal) z (ix2 l k) : EReal) = gate z l k := by
  pointwise [val_main_v6, val_main_call0_v5, val_main_call0_v4, val_main_call0_v3, val_main_call0_v2, val_main_call0_v1,
    val_main_call0_v0, val_main_call0_cst, val_main_call0_cst_0, val_main_v0, gate]
  rfl

theorem group_at (g : Fin 8) (q : Fin 384) : (val_main_v8 (F := Ideal) y z (ix3 l g q) : EReal) = gated y z l (chan g q) := by
  refine Eq.trans (b := (y (ix2 l (chan g q)) : EReal) * val_main_v6 (F := Ideal) z (ix2 l (chan g q))) ?_ (by rw [gate_at]; rfl)
  pointwise [val_main_v8, val_main_v7]
  rfl

theorem under_at (g : Fin 8) : (val_main_v15 (F := Ideal) y z (ix3 l g 0) : EReal) = under y z l g := by
  pointwise [val_main_v15, val_main_v14, val_main_v13, val_main_v12, val_main_v11, val_main_v10, val_main_v9, val_main_cst,
    val_main_cst_0, val_main_cst_1, under]
  simp only [group_at]

theorem weighted_at (g : Fin 8) (q : Fin 384) : (val_main_v32 (F := Ideal) w d (ix3 l g q) : EReal) = (d (ix2 l (chan g q)) : EReal) * w (ix1 (chan g q)) := by
  pointwise [val_main_v32, val_main_v30, val_main_v29, val_main_v23]
  rfl

theorem slope_at (g : Fin 8) (q : Fin 384) : (val_main_v46 (F := Ideal) y z w d (ix3 l g q) : EReal) = slope y z w d l g q := by
  have e := entry_eq (fun k => gated y z l (chan g k)) (fun k => (d (ix2 l (chan g k)) : EReal) * w (ix1 (chan g k))) _ 0 (under_pos y z l g) 384
    (by norm_num) q
  rw [zero_add, add_zero, ← group_width, ← minus_half] at e
  refine Eq.trans ?_ e.symm
  pointwise [val_main_v46, val_main_v45, val_main_v44, val_main_v43, val_main_v42, val_main_v41, val_main_v40, val_main_v39, val_main_v38,
    val_main_v37, val_main_v36, val_main_v35, val_main_v34, val_main_v33, val_main_v19, val_main_v18, val_main_v17, val_main_v16,
    val_main_cst_2, val_main_cst_5, val_main_cst_6, val_main_cst_7]
  simp only [Fin.sum_univ_one, group_at, under_at, weighted_at]

theorem y_reference (g : Fin 8) (q : Fin 384) : (val_main_v48 (F := Ideal) y z w d (ix2 l (chan g q)) : EReal)
    = slope y z w d l g q * gate z l (chan g q) := by
  rw [← slope_at, ← gate_at]
  pointwise [val_main_v48, val_main_v47, chan]

theorem w_reference (g : Fin 8) (q : Fin 384) : (val_main_v49 (F := Ideal) y z d (ix2 0 (chan g q)) : EReal)
    = ∑ l : Fin 4096, (d (ix2 l (chan g q)) : EReal) * (gated y z l (chan g q) * Ideal.rsqrt (under y z l g)) := by
  have e (l : Fin 4096) : (val_main_v22 (F := Ideal) y z (ix2 l (chan g q)) : EReal) = gated y z l (chan g q) * Ideal.rsqrt (under y z l g) := by
    rw [← under_at, ← group_at]
    pointwise [val_main_v22, val_main_v21, val_main_v20, val_main_v16, chan]
  simp only [← e]
  refine Eq.trans ?_ (Finset.sum_congr rfl fun _ _ => @mul_comm EReal _ _ _)
  pointwise [val_main_v49, val_main_v31, val_main_v28, val_main_v27, val_main_v26, val_main_cst_3, val_main_cst_4]
  simp only [Fin.sum_univ_one]

end

variable (m : (ℓ : Loc nD τ sig) → Buf (Elt Ideal) ℓ) (c : Dev nD)

/-- What the state space mixer gives. -/
abbrev Y : FVec Ideal S4096x3072 .f32 := m ((c : Thread nD τ).loc main_arg0)
/-- The input projection, in the reference's order of columns. -/
abbrev Z : FVec Ideal S4096x13360 .f32 := m ((c : Thread nD τ).loc main_arg1)
/-- The weights. -/
abbrev W : FVec Ideal S3072 .f32 := m ((c : Thread nD τ).loc main_arg2)
/-- The gradient of the norm. -/
abbrev D : FVec Ideal S4096x3072 .f32 := m ((c : Thread nD τ).loc main_arg3)

/-- A store before others that cover an index does not matter there. -/
theorem canon_first {S : Shape} {e : EltTy} (p : View.Piece (Elt Ideal) S e) : ∀ (L : List (View.Piece (Elt Ideal) S e)) (y : S.Idx),
    (∃ q ∈ L, y ∈ q.1.set) → View.canon (L ++ [p]) y = View.canon L y
  | [], _, h => by obtain ⟨q, hq, _⟩ := h; exact absurd hq List.not_mem_nil
  | r :: L, y, h => by
    by_cases hm : y ∈ r.1.set
    · obtain ⟨x, rfl⟩ := r.1.exists_idx_of_mem hm
      rw [List.cons_append, show r.1.idx x = r.1.emb x from rfl, View.canon_cons_emb, View.canon_cons_emb]
    · rw [List.cons_append, View.canon_cons_of_not_mem _ _ hm, View.canon_cons_of_not_mem _ _ hm]
      refine canon_first p L y ?_
      obtain ⟨q, hq, hyq⟩ := h
      rcases List.mem_cons.mp hq with rfl | hq
      · exact absurd hyq hm
      · exact ⟨q, hq, hyq⟩

theorem idx : ∀ t : Fin cfg0.N, win0_0.index t = ![t.val, 0] ∧ win0_1.index t = ![t.val, 0] ∧ win0_2.index t = ![t.val, 0] ∧
    win0_3.index t = ![0, 0] ∧ win0_4.index t = ![t.val, 0] ∧ win0_6.index t = ![0, 0] :=
  (by decide +kernel : ∀ t : Fin grid0.N, _)

/-- The row of a point's tile. -/
def row (t : Fin cfg0.N) (l : Fin 256) : Fin 4096 :=
  ⟨t.val * 256 + l.val, by have : t.val < 16 := lt_of_lt_of_eq t.isLt N_0; omega⟩

set_option maxHeartbeats 2000000 in
theorem V9 : V m c main_v9 = laid (Z m c) := by
  unfold V
  simp only [List.flatten_cons, List.flatten_nil, List.append_nil]
  after_reads_simp
  rfl

set_option maxHeartbeats 2000000 in
theorem V10 : V m c main_v10 = shapeCast _ (W m c) shapeCasts_S3072_S1x3072 := by
  unfold V
  simp only [List.flatten_cons, List.flatten_nil, List.append_nil]
  after_reads_simp
  rfl

theorem d_at (t : Fin cfg0.N) (l : Fin 256) (q : Fin 3072) :
    (iblk m c 0 t : FVec Ideal S256x3072 .f32) (ix2 l q) = D m c (ix2 (row t l) q) := by
  blk_ext [iblk, idx t, row]

theorem y_at (t : Fin cfg0.N) (l : Fin 256) (q : Fin 3072) :
    (iblk m c 1 t : FVec Ideal S256x3072 .f32) (ix2 l q) = Y m c (ix2 (row t l) q) := by
  blk_ext [iblk, idx t, row]

theorem z_at (t : Fin cfg0.N) (l : Fin 256) (q : Fin 3072) :
    (X0_2 m c t : FVec Ideal S256x3072 .f32) (ix2 l q) = Z m c (ix2 (row t l) ⟨q.val, by omega⟩) := by
  refine (?_ : _ = (V m c main_v9 : FVec Ideal S4096x13440 .f32) (ix2 (row t l) ⟨q.val, by omega⟩)).trans (by rw [V9, laid_z])
  unfold X0_2 Pipeline.Window.fill
  rw [dif_pos (moved0_2 t _)]
  blk_ext [iblk, idx t, row]

theorem w_at (t : Fin cfg0.N) (q : Fin 3072) : (iblk m c 3 t : FVec Ideal S1x3072 .f32) (ix2 0 q) = W m c (ix1 q) := by
  refine (?_ : _ = (V m c main_v10 : FVec Ideal S1x3072 .f32) (ix2 0 q)).trans (by rw [V10]; pointwise)
  blk_ext [iblk, idx t]

set_option maxHeartbeats 4000000 in
theorem y_A (t : Fin cfg0.N) (h : t.val % 16 = 0) (l : Fin 256) (g : Fin 8) (q : Fin 384) : ((outsAt0 m c t.val t.isLt).1 (ix2 l (chan g q)) : EReal)
    = slope (Y m c) (Z m c) (W m c) (D m c) (row t l) g q * gate (Z m c) (row t l) (chan g q) := by
  rw [outsAt0_A m c t h]
  frame_open
  simp (disch := decide) only [↓ View.readCov_skip, ↓ View.readCov_cons_toLoadRect, ↓ View.readCov_fill]
  frame_out
  try simp only [read_unread_whole]
  canon_tiles x hx
  all_goals
    obtain ⟨l', q', rfl⟩ := Cert.Prod.cases2 x
    replace hx0 : l.val = l'.val := hx0
    obtain rfl : l' = l := Fin.ext hx0.symm
    have e1 : ((ix2 l' q' : S256x384.Idx) 1).val = q'.val := rfl
    rw [coord_at, e1] at hx1
    obtain ⟨n, hn⟩ := g
    interval_cases n <;> try (exfalso; simp only at hx1; omega)
    obtain rfl : q' = q := Fin.ext (by simp only at hx1; omega)
    pointwise [k0_pay1, k0_pay2, k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23, k0_pay24, k0_pay25, k0_pay26,
      k0_pay27, k0_pay28, k0_pay29, k0_pay30, k0_pay31, k0_pay32, k0_pay33, k0_pay34, k0_pay35, k0_pay36, k0_pay37, k0_pay38, k0_pay39,
      k0_pay40, k0_pay41, k0_pay42, k0_pay43, k0_pay44, k0_pay45, k0_pay46, k0_pay47, k0_pay48, k0_pay49, k0_pay50, k0_pay51, k0_pay52,
      k0_pay53, k0_pay54, k0_pay55, k0_pay56, k0_pay57, k0_pay58, k0_pay59, k0_pay60, k0_pay61, k0_pay62, k0_pay63, k0_pay64, k0_pay65,
      k0_pay66, k0_pay67, k0_pay68, k0_pay69, k0_pay70, k0_pay71, k0_pay72, k0_pay73, k0_pay74, k0_pay75, k0_pay76, k0_pay77, k0_pay78,
      k0_pay79, k0_pay80, k0_pay81]
    simp only [d_at, y_at, z_at, w_at, slope, gate, under, gated, Fin.mk_zero, Fin.zero_eta, chan_zero]
    try rfl

set_option maxHeartbeats 4000000 in
theorem y_B (t : Fin cfg0.N) (h : ¬t.val % 16 = 0) (l : Fin 256) (g : Fin 8) (q : Fin 384) : ((outsAt0 m c t.val t.isLt).1 (ix2 l (chan g q)) : EReal)
    = slope (Y m c) (Z m c) (W m c) (D m c) (row t l) g q * gate (Z m c) (row t l) (chan g q) := by
  rw [outsAt0_B m c t h]
  frame_open
  simp (disch := decide) only [↓ View.readCov_skip, ↓ View.readCov_cons_toLoadRect, ↓ View.readCov_fill]
  frame_out
  try simp only [read_unread_whole]
  canon_tiles x hx
  all_goals
    obtain ⟨l', q', rfl⟩ := Cert.Prod.cases2 x
    replace hx0 : l.val = l'.val := hx0
    obtain rfl : l' = l := Fin.ext hx0.symm
    have e1 : ((ix2 l' q' : S256x384.Idx) 1).val = q'.val := rfl
    rw [coord_at, e1] at hx1
    obtain ⟨n, hn⟩ := g
    interval_cases n <;> try (exfalso; simp only at hx1; omega)
    obtain rfl : q' = q := Fin.ext (by simp only at hx1; omega)
    pointwise [k0_pay1, k0_pay2, k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23, k0_pay24, k0_pay25, k0_pay26,
      k0_pay27, k0_pay28, k0_pay29, k0_pay30, k0_pay31, k0_pay32, k0_pay33, k0_pay34, k0_pay35, k0_pay36, k0_pay37, k0_pay38, k0_pay39,
      k0_pay40, k0_pay41, k0_pay42, k0_pay43, k0_pay44, k0_pay45, k0_pay46, k0_pay47, k0_pay48, k0_pay49, k0_pay50, k0_pay51, k0_pay52,
      k0_pay53, k0_pay54, k0_pay55, k0_pay56, k0_pay57, k0_pay58, k0_pay59, k0_pay60, k0_pay61, k0_pay62, k0_pay63, k0_pay64, k0_pay65,
      k0_pay66, k0_pay67, k0_pay68, k0_pay69, k0_pay70, k0_pay71, k0_pay72, k0_pay73, k0_pay74, k0_pay75, k0_pay76, k0_pay77, k0_pay78,
      k0_pay79, k0_pay80, k0_pay81]
    simp only [d_at, y_at, z_at, w_at, slope, gate, under, gated, Fin.mk_zero, Fin.zero_eta, chan_zero]
    try rfl

set_option maxHeartbeats 4000000 in
theorem w_first (t : Fin cfg0.N) (h : t.val % 16 = 0) (g : Fin 8) (q : Fin 384) : ((outsAt0 m c t.val t.isLt).2.2 (ix2 0 (chan g q)) : EReal)
    = 0 + ∑ l : Fin 256, (D m c (ix2 (row t l) (chan g q)) : EReal) * (gated (Y m c) (Z m c) (row t l) (chan g q) * Ideal.rsqrt (under (Y m c) (Z m c) (row t l) g)) := by
  rw [outsAt0_A m c t h]
  frame_open
  simp (disch := decide) only [↓ View.readCov_skip, ↓ View.readCov_cons_toLoadRect, ↓ View.readCov_fill]
  frame_out
  try simp only [read_unread_whole]
  refine (canon_first _ [_, _, _, _, _, _, _, _] _ (View.cover_of_tiled_head _ _ _ rfl _)).trans ?_
  canon_tiles x hx
  all_goals
    obtain ⟨l', q', rfl⟩ := Cert.Prod.cases2 x
    obtain rfl : l' = 0 := Fin.eq_zero l'
    have e1 : ((ix2 0 q' : S1x384.Idx) 1).val = q'.val := rfl
    have e2 : ((ix2 0 (chan g q) : S1x3072.Idx) 1).val = g.val * 384 + q.val := rfl
    rw [e2, e1] at hx1
    obtain ⟨n, hn⟩ := g
    interval_cases n <;> try (exfalso; simp only at hx1; omega)
    obtain rfl : q' = q := Fin.ext (by simp only at hx1; omega)
    pointwise [k0_pay1, k0_pay2, k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23, k0_pay24, k0_pay25, k0_pay26,
      k0_pay27, k0_pay28, k0_pay29, k0_pay30, k0_pay31, k0_pay32, k0_pay33, k0_pay34, k0_pay35, k0_pay36, k0_pay37, k0_pay38, k0_pay39,
      k0_pay40, k0_pay41, k0_pay42, k0_pay43, k0_pay44, k0_pay45, k0_pay46, k0_pay47, k0_pay48, k0_pay49, k0_pay50, k0_pay51, k0_pay52,
      k0_pay53, k0_pay54, k0_pay55, k0_pay56, k0_pay57, k0_pay58, k0_pay59, k0_pay60, k0_pay61, k0_pay62, k0_pay63, k0_pay64, k0_pay65,
      k0_pay66, k0_pay67, k0_pay68, k0_pay69, k0_pay70, k0_pay71, k0_pay72, k0_pay73, k0_pay74, k0_pay75, k0_pay76, k0_pay77, k0_pay78,
      k0_pay79, k0_pay80, k0_pay81]
    simp only [d_at, y_at, z_at, w_at, under, gated, Fin.mk_zero, Fin.zero_eta, chan_zero]
    try rfl

set_option maxHeartbeats 4000000 in
theorem w_next (t : Fin cfg0.N) (h : ¬t.val % 16 = 0) (g : Fin 8) (q : Fin 384) : ((outsAt0 m c t.val t.isLt).2.2 (ix2 0 (chan g q)) : EReal)
    = (outsAt0 m c (t.val - 1) (Nat.lt_of_le_of_lt (Nat.sub_le _ _) t.isLt)).2.2 (ix2 0 (chan g q))
      + ∑ l : Fin 256, (D m c (ix2 (row t l) (chan g q)) : EReal) * (gated (Y m c) (Z m c) (row t l) (chan g q) * Ideal.rsqrt (under (Y m c) (Z m c) (row t l) g)) := by
  rw [outsAt0_B m c t h]
  frame_open
  simp (disch := decide) only [↓ View.readCov_skip, ↓ View.readCov_cons_toLoadRect, ↓ View.readCov_fill]
  frame_out
  try simp only [read_unread_whole]
  canon_tiles x hx
  all_goals
    obtain ⟨l', q', rfl⟩ := Cert.Prod.cases2 x
    obtain rfl : l' = 0 := Fin.eq_zero l'
    have e1 : ((ix2 0 q' : S1x384.Idx) 1).val = q'.val := rfl
    have e2 : ((ix2 0 (chan g q) : S1x3072.Idx) 1).val = g.val * 384 + q.val := rfl
    rw [e2, e1] at hx1
    obtain ⟨n, hn⟩ := g
    interval_cases n <;> try (exfalso; simp only at hx1; omega)
    obtain rfl : q' = q := Fin.ext (by simp only at hx1; omega)
    pointwise [k0_pay1, k0_pay2, k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23, k0_pay24, k0_pay25, k0_pay26,
      k0_pay27, k0_pay28, k0_pay29, k0_pay30, k0_pay31, k0_pay32, k0_pay33, k0_pay34, k0_pay35, k0_pay36, k0_pay37, k0_pay38, k0_pay39,
      k0_pay40, k0_pay41, k0_pay42, k0_pay43, k0_pay44, k0_pay45, k0_pay46, k0_pay47, k0_pay48, k0_pay49, k0_pay50, k0_pay51, k0_pay52,
      k0_pay53, k0_pay54, k0_pay55, k0_pay56, k0_pay57, k0_pay58, k0_pay59, k0_pay60, k0_pay61, k0_pay62, k0_pay63, k0_pay64, k0_pay65,
      k0_pay66, k0_pay67, k0_pay68, k0_pay69, k0_pay70, k0_pay71, k0_pay72, k0_pay73, k0_pay74, k0_pay75, k0_pay76, k0_pay77, k0_pay78,
      k0_pay79, k0_pay80, k0_pay81]
    simp only [d_at, y_at, z_at, w_at, under, gated, Fin.mk_zero, Fin.zero_eta, chan_zero]
    try rfl

theorem w_last (t : Fin cfg0.N) (h : t.val % 16 = 15) (g : Fin 8) (q : Fin 384) : ((outsAt0 m c t.val t.isLt).2.2 (ix2 0 (chan g q)) : EReal)
    = ∑ l : Fin 4096, (D m c (ix2 l (chan g q)) : EReal) * (gated (Y m c) (Z m c) l (chan g q) * Ideal.rsqrt (under (Y m c) (Z m c) l g)) := by
  refine Cert.Prod.whole (K := 16) (S := 256) (T := 4096) rfl (fun n h q => ((outsAt0 m c n h).2.2 (ix2 0 (chan g q)) : EReal))
    (fun t q => ∑ l : Fin 256, (D m c (ix2 (row t l) (chan g q)) : EReal)
      * (gated (Y m c) (Z m c) (row t l) (chan g q) * Ideal.rsqrt (under (Y m c) (Z m c) (row t l) g)))
    (fun t q l => (D m c (ix2 l (chan g q)) : EReal) * (gated (Y m c) (Z m c) l (chan g q) * Ideal.rsqrt (under (Y m c) (Z m c) l g)))
    (fun t h q => w_first m c t h g q) (fun t h q => w_next m c t h g q) (fun t u k h q => Finset.sum_congr rfl fun l _ => ?_) t h q
  have e : row u l = Cert.Prod.place (T := 4096) rfl k l := by
    refine Fin.ext ?_
    show u.val * 256 + l.val = k.val * 256 + l.val
    have : t.val < 16 := lt_of_lt_of_eq t.isLt N_0
    omega
  rw [e]

theorem y_final : (dats m 0 c).arrAt 4 (cfgs 0).N = val_main_v48 (F := Ideal) (Y m c) (Z m c) (W m c) (D m c) := by
  refine (dats m 0 c).arrAt_eq_of_covers 4 _ (by decide +kernel) fun t hf y => ?_
  blk_simp
  rw [after0_4]
  obtain ⟨l, k, rfl⟩ := Cert.Prod.cases2 y
  obtain ⟨g, q, rfl⟩ := chan_cases k
  refine Eq.trans (b := slope (Y m c) (Z m c) (W m c) (D m c) (row t l) g q * gate (Z m c) (row t l) (chan g q)) ?_
    ((y_reference _ _ _ _ _ g q).symm.trans ?_)
  · by_cases h : t.val % 16 = 0
    · exact y_A m c t h l g q
    · exact y_B m c t h l g q
  · blk_ext [idx t, row]

theorem w_final : (dats m 0 c).arrAt 6 (cfgs 0).N = val_main_v49 (F := Ideal) (Y m c) (Z m c) (D m c) := by
  refine (dats m 0 c).arrAt_eq_of_covers 6 _ (by decide +kernel) fun t hf y => ?_
  blk_simp
  rw [after0_6]
  obtain ⟨z, k, rfl⟩ := Cert.Prod.cases2 y
  obtain rfl : z = 0 := Fin.ext (by omega)
  obtain ⟨g, q, rfl⟩ := chan_cases k
  refine (w_last m c t ((flush0_6 t).mp hf) g q).trans ((w_reference _ _ _ g q).symm.trans ?_)
  blk_ext [idx t]

end Cert.GnormBIdeal.Norm

namespace Cert.GnormB

open Idealize.ShloMosaic Idealize.SL.Sem
open Cert.GnormBIdeal.Norm (Y Z W D)
open Cert.GnormBRefIdeal.Read

theorem reference_frame : Cert.quiescent_GnormBRefIdeal (hGnormBRefIdeal := Cert.GnormBRefIdeal.Gen.facts) :=
  fun m ρ _ => (θ_run _ _ _).mono (fun r h => ⟨fun c => (h c).2.2, sem_eq_zero_of_no_sems (by decide) r.2⟩)
    (Cert.GnormBRefIdeal.Value.run (F := Ideal) m ρ)

/-- The gradients the kernel computes of the mixer's result and of the weights are the reference's. -/
theorem agree : Cert.algebraic_GnormBIdeal_GnormBRefIdeal (hGnormBIdeal := Cert.GnormBIdeal.Gen.facts)
    (hGnormBRefIdeal := Cert.GnormBRefIdeal.Gen.facts) := by
  intro m g m' g' _ hargs
  refine ⟨fun c => val_main_v48 (F := Ideal) (Y m c) (Z m c) (W m c) (D m c), fun c => val_main_v49 (F := Ideal) (Y m c) (Z m c) (D m c),
    (θ_run _ _ _).mono (fun r h c => ?_) (Cert.GnormBIdeal.Value.run_blocks (F := Ideal) m g),
    (θ_run _ _ _).mono (fun r h c => ?_) (Cert.GnormBRefIdeal.Value.run (F := Ideal) m' g')⟩
  · obtain ⟨h4, _, h6, h⟩ := h c
    exact ⟨h4.trans (Cert.GnormBIdeal.Norm.y_final m c), h6.trans (Cert.GnormBIdeal.Norm.w_final m c), h⟩
  · obtain ⟨h4, h6, h⟩ := h c
    obtain ⟨e0, e1, e2, e3⟩ := hargs c
    refine ⟨h4.trans ?_, h6.trans ?_, h⟩
    · rw [val_main_v48_eq, e0, e1, e2, e3]
    · rw [val_main_v49_eq, e0, e1, e3]

end Cert.GnormB
-- ==== Proof.lean ====
/- The assembly: of every program the frames of the kernel, of its ideal form and of the reference, that the ideal form rewrites nothing,
   and the value claim. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Ssd.Agree
public import proofs.«01_k».proof.Proof.Prod.DownW
public import proofs.«01_k».proof.Proof.Prod.DownX
public import proofs.«01_k».proof.Proof.Prod.UpW
public import proofs.«01_k».proof.Proof.Prod.UpX
public import proofs.«01_k».proof.Proof.Prod.InW
public import proofs.«01_k».proof.Proof.Prod.InX
public import proofs.«01_k».proof.Proof.Prod.ProjW
public import proofs.«01_k».proof.Proof.Prod.ProjX
public import proofs.«01_k».proof.Proof.Prod.OutW
public import proofs.«01_k».proof.Proof.Prod.OutX
public import proofs.«01_k».proof.Proof.Prod.GluW
public import proofs.«01_k».proof.Proof.Prod.GluX
public import proofs.«01_k».proof.Proof.Prod.InA
public import proofs.«01_k».proof.Proof.Prod.InB
public import proofs.«01_k».proof.Proof.Prod.ProjF
public import proofs.«01_k».proof.Proof.Prod.GluF
public import proofs.«01_k».proof.Proof.Prod.OutF
public import proofs.«01_k».proof.Proof.Prod.UpF
public import proofs.«01_k».proof.Proof.Prod.DownF
public import proofs.«01_k».proof.Proof.Ssd.Forward.Agree
public import proofs.«01_k».proof.Proof.Merge.Back
public import proofs.«01_k».proof.Proof.Merge.Forward
public import proofs.«01_k».proof.Proof.Mixer.Into
public import proofs.«01_k».proof.Proof.Mixer.Out
public import proofs.«01_k».proof.Proof.Mixer.Back
public import proofs.«01_k».proof.Proof.Norm.Back
public import proofs.«01_k».proof.Proof.Norm.Forward
public import proofs.«01_k».proof.Proof.Norm.GatedForward
public import proofs.«01_k».proof.Proof.Norm.GatedBack
public import Idealize.ShloMosaic.Adequacy
public import Idealize.ShloMosaic.Init

@[expose] public section

noncomputable section

namespace Cert.Proof

open Idealize.ShloMosaic Idealize.SL.Sem Cert.Kernel

/-- The reference runs, keeps its arguments and leaves every semaphore at zero. -/
theorem reference_frame : Cert.quiescent_ReferenceIdeal (hReferenceIdeal := Cert.ReferenceIdeal.Gen.facts) :=
  fun m ρ _ => (θ_run _ _ _).mono
    (fun r h => ⟨fun c => (h c).2.2.2.2.2, sem_eq_zero_of_no_sems (by decide) r.2⟩)
    (Cert.ReferenceIdeal.Value.run (F := Ideal) m ρ)

theorem claim : Cert.Claim :=
  ⟨Cert.Kernel.Gen.facts, Cert.KernelIdeal.Gen.facts, Cert.ReferenceIdeal.Gen.facts,
    Cert.DownW.Gen.facts, Cert.DownWIdeal.Gen.facts, Cert.DownWRefIdeal.Gen.facts,
    Cert.DownX.Gen.facts, Cert.DownXIdeal.Gen.facts, Cert.DownXRefIdeal.Gen.facts,
    Cert.UpW.Gen.facts, Cert.UpWIdeal.Gen.facts, Cert.UpWRefIdeal.Gen.facts,
    Cert.UpX.Gen.facts, Cert.UpXIdeal.Gen.facts, Cert.UpXRefIdeal.Gen.facts,
    Cert.InW.Gen.facts, Cert.InWIdeal.Gen.facts, Cert.InWRefIdeal.Gen.facts,
    Cert.InX.Gen.facts, Cert.InXIdeal.Gen.facts, Cert.InXRefIdeal.Gen.facts,
    Cert.ProjW.Gen.facts, Cert.ProjWIdeal.Gen.facts, Cert.ProjWRefIdeal.Gen.facts,
    Cert.ProjX.Gen.facts, Cert.ProjXIdeal.Gen.facts, Cert.ProjXRefIdeal.Gen.facts,
    Cert.OutW.Gen.facts, Cert.OutWIdeal.Gen.facts, Cert.OutWRefIdeal.Gen.facts,
    Cert.OutX.Gen.facts, Cert.OutXIdeal.Gen.facts, Cert.OutXRefIdeal.Gen.facts,
    Cert.GluW.Gen.facts, Cert.GluWIdeal.Gen.facts, Cert.GluWRefIdeal.Gen.facts,
    Cert.GluX.Gen.facts, Cert.GluXIdeal.Gen.facts, Cert.GluXRefIdeal.Gen.facts,
    Cert.InA.Gen.facts, Cert.InAIdeal.Gen.facts, Cert.InARefIdeal.Gen.facts,
    Cert.InB.Gen.facts, Cert.InBIdeal.Gen.facts, Cert.InBRefIdeal.Gen.facts,
    Cert.ProjF.Gen.facts, Cert.ProjFIdeal.Gen.facts, Cert.ProjFRefIdeal.Gen.facts,
    Cert.GluF.Gen.facts, Cert.GluFIdeal.Gen.facts, Cert.GluFRefIdeal.Gen.facts,
    Cert.OutF.Gen.facts, Cert.OutFIdeal.Gen.facts, Cert.OutFRefIdeal.Gen.facts,
    Cert.UpF.Gen.facts, Cert.UpFIdeal.Gen.facts, Cert.UpFRefIdeal.Gen.facts,
    Cert.DownF.Gen.facts, Cert.DownFIdeal.Gen.facts, Cert.DownFRefIdeal.Gen.facts,
    Cert.SsdF.Gen.facts, Cert.SsdFIdeal.Gen.facts, Cert.SsdFRefIdeal.Gen.facts,
    Cert.MergeB.Gen.facts, Cert.MergeBIdeal.Gen.facts, Cert.MergeBRefIdeal.Gen.facts,
    Cert.MergeF.Gen.facts, Cert.MergeFIdeal.Gen.facts, Cert.MergeFRefIdeal.Gen.facts,
    Cert.StIn.Gen.facts, Cert.StInIdeal.Gen.facts, Cert.StInRefIdeal.Gen.facts,
    Cert.StOut.Gen.facts, Cert.StOutIdeal.Gen.facts, Cert.StOutRefIdeal.Gen.facts,
    Cert.StBack.Gen.facts, Cert.StBackIdeal.Gen.facts, Cert.StBackRefIdeal.Gen.facts,
    Cert.RmsB.Gen.facts, Cert.RmsBIdeal.Gen.facts, Cert.RmsBRefIdeal.Gen.facts,
    Cert.GnormB.Gen.facts, Cert.GnormBIdeal.Gen.facts, Cert.GnormBRefIdeal.Gen.facts,
    Cert.RmsF.Gen.facts, Cert.RmsFIdeal.Gen.facts, Cert.RmsFRefIdeal.Gen.facts,
    Cert.GnormF.Gen.facts, Cert.GnormFIdeal.Gen.facts, Cert.GnormFRefIdeal.Gen.facts,
    Cert.Pre_steps_decay.facts_hold, Cert.Pre_steps_decay_forward.facts_hold,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial,
    fun m ρ _ => Cert.DownW.Gen.frame m ρ, fun m ρ _ => Cert.DownWIdeal.Gen.frame m ρ, Cert.DownW.reference_frame,
    fun m ρ _ => Cert.DownX.Gen.frame m ρ, fun m ρ _ => Cert.DownXIdeal.Gen.frame m ρ, Cert.DownX.reference_frame,
    fun m ρ _ => Cert.UpW.Gen.frame m ρ, fun m ρ _ => Cert.UpWIdeal.Gen.frame m ρ, Cert.UpW.reference_frame,
    fun m ρ _ => Cert.UpX.Gen.frame m ρ, fun m ρ _ => Cert.UpXIdeal.Gen.frame m ρ, Cert.UpX.reference_frame,
    fun m ρ _ => Cert.InW.Gen.frame m ρ, fun m ρ _ => Cert.InWIdeal.Gen.frame m ρ, Cert.InW.reference_frame,
    fun m ρ _ => Cert.InX.Gen.frame m ρ, fun m ρ _ => Cert.InXIdeal.Gen.frame m ρ, Cert.InX.reference_frame,
    fun m ρ _ => Cert.ProjW.Gen.frame m ρ, fun m ρ _ => Cert.ProjWIdeal.Gen.frame m ρ, Cert.ProjW.reference_frame,
    fun m ρ _ => Cert.ProjX.Gen.frame m ρ, fun m ρ _ => Cert.ProjXIdeal.Gen.frame m ρ, Cert.ProjX.reference_frame,
    fun m ρ _ => Cert.OutW.Gen.frame m ρ, fun m ρ _ => Cert.OutWIdeal.Gen.frame m ρ, Cert.OutW.reference_frame,
    fun m ρ _ => Cert.OutX.Gen.frame m ρ, fun m ρ _ => Cert.OutXIdeal.Gen.frame m ρ, Cert.OutX.reference_frame,
    fun m ρ _ => Cert.GluW.Gen.frame m ρ, fun m ρ _ => Cert.GluWIdeal.Gen.frame m ρ, Cert.GluW.reference_frame,
    fun m ρ _ => Cert.GluX.Gen.frame m ρ, fun m ρ _ => Cert.GluXIdeal.Gen.frame m ρ, Cert.GluX.reference_frame,
    fun m ρ _ => Cert.InA.Gen.frame m ρ, fun m ρ _ => Cert.InAIdeal.Gen.frame m ρ, Cert.InA.reference_frame,
    fun m ρ _ => Cert.InB.Gen.frame m ρ, fun m ρ _ => Cert.InBIdeal.Gen.frame m ρ, Cert.InB.reference_frame,
    fun m ρ _ => Cert.ProjF.Gen.frame m ρ, fun m ρ _ => Cert.ProjFIdeal.Gen.frame m ρ, Cert.ProjF.reference_frame,
    fun m ρ _ => Cert.GluF.Gen.frame m ρ, fun m ρ _ => Cert.GluFIdeal.Gen.frame m ρ, Cert.GluF.reference_frame,
    fun m ρ _ => Cert.OutF.Gen.frame m ρ, fun m ρ _ => Cert.OutFIdeal.Gen.frame m ρ, Cert.OutF.reference_frame,
    fun m ρ _ => Cert.UpF.Gen.frame m ρ, fun m ρ _ => Cert.UpFIdeal.Gen.frame m ρ, Cert.UpF.reference_frame,
    fun m ρ _ => Cert.DownF.Gen.frame m ρ, fun m ρ _ => Cert.DownFIdeal.Gen.frame m ρ, Cert.DownF.reference_frame,
    fun m ρ _ => Cert.SsdF.Gen.frame m ρ, fun m ρ _ => Cert.SsdFIdeal.Gen.frame m ρ,
    fun m ρ _ => Cert.SsdFIdeal.Gen.frame m ρ, Cert.SsdF.reference_frame, fun m ρ _ => Cert.SsdF.reference_frame m ρ trivial,
    fun m ρ _ => Cert.MergeB.Gen.frame m ρ, fun m ρ _ => Cert.MergeBIdeal.Gen.frame m ρ, Cert.MergeB.reference_frame,
    fun m ρ _ => Cert.MergeF.Gen.frame m ρ, fun m ρ _ => Cert.MergeFIdeal.Gen.frame m ρ, Cert.MergeF.reference_frame,
    fun m ρ _ => Cert.StIn.Gen.frame m ρ, fun m ρ _ => Cert.StInIdeal.Gen.frame m ρ, Cert.StIn.reference_frame,
    fun m ρ _ => Cert.StOut.Gen.frame m ρ, fun m ρ _ => Cert.StOutIdeal.Gen.frame m ρ, Cert.StOut.reference_frame,
    fun m ρ _ => Cert.StBack.Gen.frame m ρ, fun m ρ _ => Cert.StBackIdeal.Gen.frame m ρ, Cert.StBack.reference_frame,
    fun m ρ _ => Cert.RmsB.Gen.frame m ρ, fun m ρ _ => Cert.RmsBIdeal.Gen.frame m ρ, Cert.RmsB.reference_frame,
    fun m ρ _ => Cert.GnormB.Gen.frame m ρ, fun m ρ _ => Cert.GnormBIdeal.Gen.frame m ρ, Cert.GnormB.reference_frame,
    fun m ρ _ => Cert.RmsF.Gen.frame m ρ, fun m ρ _ => Cert.RmsFIdeal.Gen.frame m ρ, Cert.RmsF.reference_frame,
    fun m ρ _ => Cert.GnormF.Gen.frame m ρ, fun m ρ _ => Cert.GnormFIdeal.Gen.frame m ρ, Cert.GnormF.reference_frame,
    trivial, agree (hp := Cert.Pre_steps_decay.facts_hold),
    trivial, Cert.DownW.agree,
    trivial, Cert.DownX.agree,
    trivial, Cert.UpW.agree,
    trivial, Cert.UpX.agree,
    trivial, Cert.InW.agree,
    trivial, Cert.InX.agree,
    trivial, Cert.ProjW.agree,
    trivial, Cert.ProjX.agree,
    trivial, Cert.OutW.agree,
    trivial, Cert.OutX.agree,
    trivial, Cert.GluW.agree,
    trivial, Cert.GluX.agree,
    trivial, Cert.InA.agree,
    trivial, Cert.InB.agree,
    trivial, Cert.ProjF.agree,
    trivial, Cert.GluF.agree,
    trivial, Cert.OutF.agree,
    trivial, Cert.UpF.agree,
    trivial, Cert.DownF.agree,
    trivial, Cert.SsdF.agree (hp := Cert.Pre_steps_decay_forward.facts_hold),
    trivial, Cert.MergeB.agree,
    trivial, Cert.MergeF.agree,
    trivial, Cert.StIn.agree,
    trivial, Cert.StOut.agree,
    trivial, Cert.StBack.agree,
    trivial, Cert.RmsB.agree,
    trivial, Cert.GnormB.agree,
    trivial, Cert.RmsF.agree,
    trivial, Cert.GnormF.agree⟩

end Cert.Proof

end
